-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed_triu [hPre_packed_triu : Cert.Pre_packed_triu.Facts] (m : (ℓ : Loc Cert.KernelIdeal.nD Cert.KernelIdeal.τ Cert.KernelIdeal.sig) → Buf (Elt Ideal) ℓ) : Prop :=
  ∀ c : Dev Cert.KernelIdeal.nD,
    (Cert.Pre_packed_triu.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed_triu [hPre_packed_triu : Cert.Pre_packed_triu.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed_triu.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_packed_triu [hKernelIdeal : Cert.KernelIdeal.Facts] [hPre_packed_triu : Cert.Pre_packed_triu.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed_triu m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_packed_triu [hReferenceIdeal : Cert.ReferenceIdeal.Facts] [hPre_packed_triu : Cert.Pre_packed_triu.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed_triu m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_packed_triu [hKernelIdeal : Cert.KernelIdeal.Facts] [hReferenceIdeal : Cert.ReferenceIdeal.Facts] [hPre_packed_triu : Cert.Pre_packed_triu.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed_triu m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_packed_triu : Cert.Pre_packed_triu.Facts),
    quiescent_Kernel (hKernel := hKernel)
    ∧ quiescent_KernelIdeal (hKernelIdeal := hKernelIdeal)
    ∧ quiescent_KernelIdeal_pre_packed_triu (hKernelIdeal := hKernelIdeal) (hPre_packed_triu := hPre_packed_triu)
    ∧ quiescent_ReferenceIdeal (hReferenceIdeal := hReferenceIdeal)
    ∧ quiescent_ReferenceIdeal_pre_packed_triu (hReferenceIdeal := hReferenceIdeal) (hPre_packed_triu := hPre_packed_triu)
    ∧ preserves_Kernel_KernelIdeal
    ∧ algebraic_KernelIdeal_ReferenceIdeal_pre_packed_triu (hKernelIdeal := hKernelIdeal) (hReferenceIdeal := hReferenceIdeal) (hPre_packed_triu := hPre_packed_triu)
-- ==== Pre_packed_triu.lean ====
abbrev S2096128 : Shape := ⟨1, ![2096128]⟩
abbrev S2x2096128 : Shape := ⟨2, ![2, 2096128]⟩
abbrev S1x2096128 : Shape := ⟨2, ![1, 2096128]⟩
abbrev S_ : Shape := ⟨0, ![]⟩

class Facts : Prop where
  slices_S2x2096128_S1x2096128_0_0 : S2x2096128.Slices ![0, 0] S1x2096128
  shapeCasts_S1x2096128_S2096128 : S1x2096128.ShapeCasts S2096128
  slices_S2x2096128_S1x2096128_1_0 : S2x2096128.Slices ![1, 0] S1x2096128
  bcast_S_S2096128 : S_.BroadcastsInDim S2096128 (![] : Fin 0 → Fin S2096128.rank)
  reducesTo_S2096128_S_d0 : S2096128.ReducesTo [0] S_
  h_S_ : 0 < S_.numel

variable [Facts]

def fn_where {F : FTy → Type} [FloatOps F] (arg0 : IVec S2096128 1) (arg1 : IVec S2096128 32) (arg2 : IVec S2096128 32) : IVec S2096128 32 :=
  let v0 : IVec S2096128 32 := select arg0 arg1 arg2
  v0

def fn_floor_divide {F : FTy → Type} [FloatOps F] (arg0 : IVec S2096128 32) (arg1 : IVec S_ 32) : IVec S2096128 32 :=
  let v0 : IVec S_ 32 := id arg1
  let v1 : IVec S2096128 32 := broadcastInDim S2096128 ![] bcast_S_S2096128 v0
  let v2 : IVec S2096128 32 := Host.divsi arg0 v1
  let v3 : IVec S2096128 32 := signi arg0
  let v4 : IVec S_ 32 := signi v0
  let v5 : IVec S2096128 32 := broadcastInDim S2096128 ![] bcast_S_S2096128 v4
  let v6 : IVec S2096128 1 := cmpi .ne v3 v5
  let v7 : IVec S2096128 32 := broadcastInDim S2096128 ![] bcast_S_S2096128 v0
  let v8 : IVec S2096128 32 := Host.remsi arg0 v7
  let c : IVec S_ 32 := constantI S_ 32 0#32
  let v9 : IVec S2096128 32 := broadcastInDim S2096128 ![] bcast_S_S2096128 c
  let v10 : IVec S2096128 1 := cmpi .ne v8 v9
  let v11 : IVec S2096128 1 := andi v6 v10
  let c_0 : IVec S_ 32 := constantI S_ 32 1#32
  let v12 : IVec S2096128 32 := broadcastInDim S2096128 ![] bcast_S_S2096128 c_0
  let v13 : IVec S2096128 32 := subi v2 v12
  let v14 : IVec S2096128 32 := fn_where (F := F) v11 v13 v2
  v14

def fn_part1 {F : FTy → Type} [FloatOps F] (main_v4 : IVec S2096128 32) (main_v11 : IVec S2096128 1) (main_v15 : IVec S2096128 32) (main_v18 : IVec S2096128 32) : IVec S_ 1 :=
  let main_v19 : IVec S2096128 32 := addi main_v15 main_v18
  let main_v20 : IVec S2096128 1 := cmpi .eq main_v19 main_v4
  let main_v21 : IVec S2096128 1 := andi main_v11 main_v20
  let main_c_4 : IVec S_ 1 := constantI S_ 1 1#1
  let main_v22 : IVec S_ 1 := (fun x v => Host.reduce IntOp.andi x v reducesTo_S2096128_S_d0 h_S_) main_v21 main_c_4
  main_v22

def fn {F : FTy → Type} [FloatOps F] (main_arg0 : FVec F S2096128 .f32) (main_arg1 : IVec S2x2096128 32) : IVec S_ 1 :=
  let main_v0 : IVec S1x2096128 32 := (extractStridedSlice S1x2096128 ![0, 0] · slices_S2x2096128_S1x2096128_0_0) main_arg1
  let main_v1 : IVec S2096128 32 := shapeCast S2096128 main_v0 shapeCasts_S1x2096128_S2096128
  let main_v2 : IVec S1x2096128 32 := (extractStridedSlice S1x2096128 ![1, 0] · slices_S2x2096128_S1x2096128_1_0) main_arg1
  let main_v3 : IVec S2096128 32 := shapeCast S2096128 main_v2 shapeCasts_S1x2096128_S2096128
  let main_v4 : IVec S2096128 32 := iotaInDim S2096128 32 0
  let main_c : IVec S_ 32 := constantI S_ 32 0#32
  let main_v5 : IVec S2096128 32 := broadcastInDim S2096128 ![] bcast_S_S2096128 main_c
  let main_v6 : IVec S2096128 1 := cmpi .sge main_v1 main_v5
  let main_v7 : IVec S2096128 1 := cmpi .slt main_v1 main_v3
  let main_v8 : IVec S2096128 1 := andi main_v6 main_v7
  let main_c_0 : IVec S_ 32 := constantI S_ 32 2048#32
  let main_v9 : IVec S2096128 32 := broadcastInDim S2096128 ![] bcast_S_S2096128 main_c_0
  let main_v10 : IVec S2096128 1 := cmpi .slt main_v3 main_v9
  let main_v11 : IVec S2096128 1 := andi main_v8 main_v10
  let main_c_1 : IVec S_ 32 := constantI S_ 32 4095#32
  let main_v12 : IVec S2096128 32 := broadcastInDim S2096128 ![] bcast_S_S2096128 main_c_1
  let main_v13 : IVec S2096128 32 := subi main_v12 main_v1
  let main_v14 : IVec S2096128 32 := muli main_v1 main_v13
  let main_c_2 : IVec S_ 32 := constantI S_ 32 2#32
  let main_v15 : IVec S2096128 32 := fn_floor_divide (F := F) main_v14 main_c_2
  let main_v16 : IVec S2096128 32 := subi main_v3 main_v1
  let main_c_3 : IVec S_ 32 := constantI S_ 32 1#32
  let main_v17 : IVec S2096128 32 := broadcastInDim S2096128 ![] bcast_S_S2096128 main_c_3
  let main_v18 : IVec S2096128 32 := subi main_v16 main_v17
  fn_part1 (F := F) main_v4 main_v11 main_v15 main_v18
-- ==== Kernel.lean ====
abbrev S2096128 : Shape := ⟨1, ![2096128]⟩
abbrev S2x2096128 : Shape := ⟨2, ![2, 2096128]⟩
abbrev S10 : Shape := ⟨1, ![10]⟩
abbrev S2048x2048 : Shape := ⟨2, ![2048, 2048]⟩
abbrev S2056 : Shape := ⟨1, ![2056]⟩
abbrev S2048 : Shape := ⟨1, ![2048]⟩
abbrev S5 : Shape := ⟨1, ![5]⟩
abbrev S4 : Shape := ⟨1, ![4]⟩
abbrev S1 : Shape := ⟨1, ![1]⟩
abbrev S_ : Shape := ⟨0, ![]⟩
abbrev S1544 : Shape := ⟨1, ![1544]⟩
abbrev S1032 : Shape := ⟨1, ![1032]⟩
abbrev S520 : Shape := ⟨1, ![520]⟩
abbrev S1x2048 : Shape := ⟨2, ![1, 2048]⟩
abbrev S1536 : Shape := ⟨1, ![1536]⟩
abbrev S1x1536 : Shape := ⟨2, ![1, 1536]⟩
abbrev S1024 : Shape := ⟨1, ![1024]⟩
abbrev S1x1024 : Shape := ⟨2, ![1, 1024]⟩
abbrev S512 : Shape := ⟨1, ![512]⟩
abbrev S1x512 : Shape := ⟨2, ![1, 512]⟩
abbrev S16 : Shape := ⟨1, ![16]⟩
abbrev S512x512 : Shape := ⟨2, ![512, 512]⟩

abbrev nBuf : Table → Nat
  | .hbm => 14
  | .local .tc .vmem => 4
  | .local .tc .smem => 2
  | .local .scVector .vmem => 8
  | _ => 0

abbrev bufTy : (tb : Table) → Fin (nBuf tb) → BufTy
  | .hbm, ⟨0, _⟩ => ⟨S2096128, .f32⟩
  | .hbm, ⟨1, _⟩ => ⟨S2x2096128, .i32⟩
  | .hbm, ⟨2, _⟩ => ⟨S2048x2048, .f32⟩
  | .hbm, ⟨3, _⟩ => ⟨S2048x2048, .i32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S2048x2048, .i32⟩
  | .hbm, ⟨8, _⟩ => ⟨S_, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S2048x2048, .f32⟩
  | .hbm, ⟨13, _⟩ => ⟨S2048x2048, .f32⟩
  | .local .tc .vmem, ⟨0, _⟩ => ⟨S512x512, .f32⟩
  | .local .tc .vmem, ⟨1, _⟩ => ⟨S512x512, .f32⟩
  | .local .tc .vmem, ⟨2, _⟩ => ⟨S512x512, .f32⟩
  | .local .tc .vmem, ⟨3, _⟩ => ⟨S512x512, .f32⟩
  | .local .tc .smem, ⟨0, _⟩ => ⟨S10, .i32⟩
  | .local .tc .smem, ⟨1, _⟩ => ⟨S10, .i32⟩
  | .local .scVector .vmem, ⟨0, _⟩ => ⟨S2056, .f32⟩
  | .local .scVector .vmem, ⟨1, _⟩ => ⟨S2056, .f32⟩
  | .local .scVector .vmem, ⟨2, _⟩ => ⟨S2056, .f32⟩
  | .local .scVector .vmem, ⟨3, _⟩ => ⟨S2056, .f32⟩
  | .local .scVector .vmem, ⟨4, _⟩ => ⟨S2048, .f32⟩
  | .local .scVector .vmem, ⟨5, _⟩ => ⟨S2048, .f32⟩
  | .local .scVector .vmem, ⟨6, _⟩ => ⟨S2048, .f32⟩
  | .local .scVector .vmem, ⟨7, _⟩ => ⟨S2048, .f32⟩
  | _, _ => ⟨S2096128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.smem, 0, rfl⟩
abbrev main_c_0 : Ref sig .tc := ⟨.smem, 1, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 36
abbrev cc1_sem0_1 : DmaSem sig := 37
abbrev cc1_sem1_0 : DmaSem sig := 38
abbrev cc1_sem1_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c2094072_i32 : BitVec 32 := 2094072#32
  let c0_i32_15 : BitVec 32 := 0#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c2047_i32 : BitVec 32 := 2047#32
  let v3 : BitVec 32 := Scalar.muli v2 c2047_i32
  let c1_i32 : BitVec 32 := 1#32
  let v4 : BitVec 32 := Scalar.subi v2 c1_i32
  let v5 : BitVec 32 := Scalar.muli v2 v4
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c2_i32_0 : BitVec 32 := 2#32
  let c0_i32_3 : BitVec 32 := 0#32
  let v12 : BitVec 1 := Scalar.cmpi .sgt c2_i32_0 c0_i32_3
  let v13 : BitVec 32 := Scalar.extui v12
  let c0_i32_4 : BitVec 32 := 0#32
  let v14 : BitVec 1 := Scalar.cmpi .slt c2_i32_0 c0_i32_4
  let v15 : BitVec 32 := Scalar.extui v14
  let v16 : BitVec 32 := Scalar.subi v13 v15
  let v17 : BitVec 1 := Scalar.cmpi .ne v11 v16
  let v18 : BitVec 32 := Scalar.remsi v5 c2_i32_0
  let c0_i32_5 : BitVec 32 := 0#32
  let v19 : BitVec 1 := Scalar.cmpi .ne v18 c0_i32_5
  let v20 : BitVec 1 := Scalar.andi v17 v19
  let v6 : BitVec 32 := Scalar.divsi v5 c2_i32_0
  let c1_i32_6 : BitVec 32 := 1#32
  let v21 : BitVec 32 := Scalar.subi v6 c1_i32_6
  let v22 : BitVec 32 := Scalar.select v20 v21 v6
  let v23 : BitVec 32 := Scalar.subi v3 v22
  let v24 : BitVec 32 := Scalar.subi v23 v2
  let c1_i32_7 : BitVec 32 := 1#32
  let v25 : BitVec 32 := Scalar.subi v24 c1_i32_7
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c8_i32 : BitVec 32 := 8#32
  let c0_i32_10 : BitVec 32 := 0#32
  let v32 : BitVec 1 := Scalar.cmpi .sgt c8_i32 c0_i32_10
  let v33 : BitVec 32 := Scalar.extui v32
  let c0_i32_11 : BitVec 32 := 0#32
  let v34 : BitVec 1 := Scalar.cmpi .slt c8_i32 c0_i32_11
  let v35 : BitVec 32 := Scalar.extui v34
  let v36 : BitVec 32 := Scalar.subi v33 v35
  let v37 : BitVec 1 := Scalar.cmpi .ne v31 v36
  let v38 : BitVec 32 := Scalar.remsi v25 c8_i32
  let c0_i32_12 : BitVec 32 := 0#32
  let v39 : BitVec 1 := Scalar.cmpi .ne v38 c0_i32_12
  let v40 : BitVec 1 := Scalar.andi v37 v39
  let v26 : BitVec 32 := Scalar.divsi v25 c8_i32
  let c1_i32_13 : BitVec 32 := 1#32
  let v41 : BitVec 32 := Scalar.subi v26 c1_i32_13
  let v42 : BitVec 32 := Scalar.select v40 v41 v26
  let c8_i32_14 : BitVec 32 := 8#32
  let v43 : BitVec 32 := Scalar.muli v42 c8_i32_14
  let v44 : BitVec 32 := Scalar.maxsi c0_i32_15 v43
  let v45 : BitVec 32 := Scalar.minsi c2094072_i32 v44
  v45
def k0_cond1 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_17 : BitVec 32 := 0#32
  let v51 : BitVec 1 := Scalar.cmpi .sgt v2 c0_i32_17
  let v52 : BitVec 32 := Scalar.extui v51
  let c0_i32_18 : BitVec 32 := 0#32
  let v53 : BitVec 1 := Scalar.cmpi .slt v2 c0_i32_18
  let v54 : BitVec 32 := Scalar.extui v53
  let v55 : BitVec 32 := Scalar.subi v52 v54
  let c512_i32 : BitVec 32 := 512#32
  let c0_i32_19 : BitVec 32 := 0#32
  let v56 : BitVec 1 := Scalar.cmpi .sgt c512_i32 c0_i32_19
  let v57 : BitVec 32 := Scalar.extui v56
  let c0_i32_20 : BitVec 32 := 0#32
  let v58 : BitVec 1 := Scalar.cmpi .slt c512_i32 c0_i32_20
  let v59 : BitVec 32 := Scalar.extui v58
  let v60 : BitVec 32 := Scalar.subi v57 v59
  let v61 : BitVec 1 := Scalar.cmpi .ne v55 v60
  let v62 : BitVec 32 := Scalar.remsi v2 c512_i32
  let c0_i32_21 : BitVec 32 := 0#32
  let v63 : BitVec 1 := Scalar.cmpi .ne v62 c0_i32_21
  let v64 : BitVec 1 := Scalar.andi v61 v63
  let v50 : BitVec 32 := Scalar.divsi v2 c512_i32
  let c1_i32_22 : BitVec 32 := 1#32
  let v65 : BitVec 32 := Scalar.subi v50 c1_i32_22
  let v66 : BitVec 32 := Scalar.select v64 v65 v50
  let c0_i32_23 : BitVec 32 := 0#32
  let v67 : BitVec 1 := Scalar.cmpi .eq v66 c0_i32_23
  let c0_i32_24 : BitVec 32 := 0#32
  let v68 : BitVec 1 := Scalar.cmpi .sgt v2 c0_i32_24
  let v69 : BitVec 1 := Scalar.andi v67 v68
  let v70 : BitVec 32 := Scalar.extui v69
  let c0_i32_25 : BitVec 32 := 0#32
  let v71 : BitVec 1 := Scalar.cmpi .ne v70 c0_i32_25
  v71

def k0_mult2 (i : grid0.Coords) : BitVec 32 :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off1 (i : grid0.Coords) : Fin 1 → Nat :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c0_i32_288 : BitVec 32 := 0#32
  let v605 : BitVec 32 := Scalar.addi v601 c0_i32_288
  ![v605.toNat]
def k0_cond2 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_17 : BitVec 32 := 0#32
  let v51 : BitVec 1 := Scalar.cmpi .sgt v2 c0_i32_17
  let v52 : BitVec 32 := Scalar.extui v51
  let c0_i32_18 : BitVec 32 := 0#32
  let v53 : BitVec 1 := Scalar.cmpi .slt v2 c0_i32_18
  let v54 : BitVec 32 := Scalar.extui v53
  let v55 : BitVec 32 := Scalar.subi v52 v54
  let c512_i32 : BitVec 32 := 512#32
  let c0_i32_19 : BitVec 32 := 0#32
  let v56 : BitVec 1 := Scalar.cmpi .sgt c512_i32 c0_i32_19
  let v57 : BitVec 32 := Scalar.extui v56
  let c0_i32_20 : BitVec 32 := 0#32
  let v58 : BitVec 1 := Scalar.cmpi .slt c512_i32 c0_i32_20
  let v59 : BitVec 32 := Scalar.extui v58
  let v60 : BitVec 32 := Scalar.subi v57 v59
  let v61 : BitVec 1 := Scalar.cmpi .ne v55 v60
  let v62 : BitVec 32 := Scalar.remsi v2 c512_i32
  let c0_i32_21 : BitVec 32 := 0#32
  let v63 : BitVec 1 := Scalar.cmpi .ne v62 c0_i32_21
  let v64 : BitVec 1 := Scalar.andi v61 v63
  let v50 : BitVec 32 := Scalar.divsi v2 c512_i32
  let c1_i32_22 : BitVec 32 := 1#32
  let v65 : BitVec 32 := Scalar.subi v50 c1_i32_22
  let v66 : BitVec 32 := Scalar.select v64 v65 v50
  let c1_i32_26 : BitVec 32 := 1#32
  let v72 : BitVec 1 := Scalar.cmpi .eq v66 c1_i32_26
  let v73 : BitVec 32 := Scalar.extui v72
  let c0_i32_27 : BitVec 32 := 0#32
  let v74 : BitVec 1 := Scalar.cmpi .ne v73 c0_i32_27
  v74

def k0_mult3 (i : grid0.Coords) : BitVec 32 :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off2 (i : grid0.Coords) : Fin 1 → Nat :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c512_i32_288 : BitVec 32 := 512#32
  let v605 : BitVec 32 := Scalar.addi v601 c512_i32_288
  ![v605.toNat]
def k0_cond3 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_17 : BitVec 32 := 0#32
  let v51 : BitVec 1 := Scalar.cmpi .sgt v2 c0_i32_17
  let v52 : BitVec 32 := Scalar.extui v51
  let c0_i32_18 : BitVec 32 := 0#32
  let v53 : BitVec 1 := Scalar.cmpi .slt v2 c0_i32_18
  let v54 : BitVec 32 := Scalar.extui v53
  let v55 : BitVec 32 := Scalar.subi v52 v54
  let c512_i32 : BitVec 32 := 512#32
  let c0_i32_19 : BitVec 32 := 0#32
  let v56 : BitVec 1 := Scalar.cmpi .sgt c512_i32 c0_i32_19
  let v57 : BitVec 32 := Scalar.extui v56
  let c0_i32_20 : BitVec 32 := 0#32
  let v58 : BitVec 1 := Scalar.cmpi .slt c512_i32 c0_i32_20
  let v59 : BitVec 32 := Scalar.extui v58
  let v60 : BitVec 32 := Scalar.subi v57 v59
  let v61 : BitVec 1 := Scalar.cmpi .ne v55 v60
  let v62 : BitVec 32 := Scalar.remsi v2 c512_i32
  let c0_i32_21 : BitVec 32 := 0#32
  let v63 : BitVec 1 := Scalar.cmpi .ne v62 c0_i32_21
  let v64 : BitVec 1 := Scalar.andi v61 v63
  let v50 : BitVec 32 := Scalar.divsi v2 c512_i32
  let c1_i32_22 : BitVec 32 := 1#32
  let v65 : BitVec 32 := Scalar.subi v50 c1_i32_22
  let v66 : BitVec 32 := Scalar.select v64 v65 v50
  let c2_i32_28 : BitVec 32 := 2#32
  let v75 : BitVec 1 := Scalar.cmpi .eq v66 c2_i32_28
  let v76 : BitVec 32 := Scalar.extui v75
  let c0_i32_29 : BitVec 32 := 0#32
  let v77 : BitVec 1 := Scalar.cmpi .ne v76 c0_i32_29
  v77

def k0_mult4 (i : grid0.Coords) : BitVec 32 :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off3 (i : grid0.Coords) : Fin 1 → Nat :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c1024_i32 : BitVec 32 := 1024#32
  let v605 : BitVec 32 := Scalar.addi v601 c1024_i32
  ![v605.toNat]
def k0_cond4 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_17 : BitVec 32 := 0#32
  let v51 : BitVec 1 := Scalar.cmpi .sgt v2 c0_i32_17
  let v52 : BitVec 32 := Scalar.extui v51
  let c0_i32_18 : BitVec 32 := 0#32
  let v53 : BitVec 1 := Scalar.cmpi .slt v2 c0_i32_18
  let v54 : BitVec 32 := Scalar.extui v53
  let v55 : BitVec 32 := Scalar.subi v52 v54
  let c512_i32 : BitVec 32 := 512#32
  let c0_i32_19 : BitVec 32 := 0#32
  let v56 : BitVec 1 := Scalar.cmpi .sgt c512_i32 c0_i32_19
  let v57 : BitVec 32 := Scalar.extui v56
  let c0_i32_20 : BitVec 32 := 0#32
  let v58 : BitVec 1 := Scalar.cmpi .slt c512_i32 c0_i32_20
  let v59 : BitVec 32 := Scalar.extui v58
  let v60 : BitVec 32 := Scalar.subi v57 v59
  let v61 : BitVec 1 := Scalar.cmpi .ne v55 v60
  let v62 : BitVec 32 := Scalar.remsi v2 c512_i32
  let c0_i32_21 : BitVec 32 := 0#32
  let v63 : BitVec 1 := Scalar.cmpi .ne v62 c0_i32_21
  let v64 : BitVec 1 := Scalar.andi v61 v63
  let v50 : BitVec 32 := Scalar.divsi v2 c512_i32
  let c1_i32_22 : BitVec 32 := 1#32
  let v65 : BitVec 32 := Scalar.subi v50 c1_i32_22
  let v66 : BitVec 32 := Scalar.select v64 v65 v50
  let c3_i32 : BitVec 32 := 3#32
  let v78 : BitVec 1 := Scalar.cmpi .eq v66 c3_i32
  let v79 : BitVec 32 := Scalar.extui v78
  let c0_i32_30 : BitVec 32 := 0#32
  let v80 : BitVec 1 := Scalar.cmpi .ne v79 c0_i32_30
  v80

def k0_mult5 (i : grid0.Coords) : BitVec 32 :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off4 (i : grid0.Coords) : Fin 1 → Nat :=
  let c2094072_i32_285 : BitVec 32 := 2094072#32
  let c0_i32_284 : BitVec 32 := 0#32
  let c0_i32_265 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c0_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c1536_i32 : BitVec 32 := 1536#32
  let v605 : BitVec 32 := Scalar.addi v601 c1536_i32
  ![v605.toNat]
def k0_mult6 (i : grid0.Coords) : BitVec 32 :=
  let c2094072_i32_52 : BitVec 32 := 2094072#32
  let c0_i32_51 : BitVec 32 := 0#32
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v84 : BitVec 32 := Scalar.addi c32_i32 v1
  let c2047_i32_33 : BitVec 32 := 2047#32
  let v85 : BitVec 32 := Scalar.muli v84 c2047_i32_33
  let c1_i32_34 : BitVec 32 := 1#32
  let v86 : BitVec 32 := Scalar.subi v84 c1_i32_34
  let v87 : BitVec 32 := Scalar.muli v84 v86
  let c0_i32_36 : BitVec 32 := 0#32
  let v89 : BitVec 1 := Scalar.cmpi .sgt v87 c0_i32_36
  let v90 : BitVec 32 := Scalar.extui v89
  let c0_i32_37 : BitVec 32 := 0#32
  let v91 : BitVec 1 := Scalar.cmpi .slt v87 c0_i32_37
  let v92 : BitVec 32 := Scalar.extui v91
  let v93 : BitVec 32 := Scalar.subi v90 v92
  let c2_i32_35 : BitVec 32 := 2#32
  let c0_i32_38 : BitVec 32 := 0#32
  let v94 : BitVec 1 := Scalar.cmpi .sgt c2_i32_35 c0_i32_38
  let v95 : BitVec 32 := Scalar.extui v94
  let c0_i32_39 : BitVec 32 := 0#32
  let v96 : BitVec 1 := Scalar.cmpi .slt c2_i32_35 c0_i32_39
  let v97 : BitVec 32 := Scalar.extui v96
  let v98 : BitVec 32 := Scalar.subi v95 v97
  let v99 : BitVec 1 := Scalar.cmpi .ne v93 v98
  let v100 : BitVec 32 := Scalar.remsi v87 c2_i32_35
  let c0_i32_40 : BitVec 32 := 0#32
  let v101 : BitVec 1 := Scalar.cmpi .ne v100 c0_i32_40
  let v102 : BitVec 1 := Scalar.andi v99 v101
  let v88 : BitVec 32 := Scalar.divsi v87 c2_i32_35
  let c1_i32_41 : BitVec 32 := 1#32
  let v103 : BitVec 32 := Scalar.subi v88 c1_i32_41
  let v104 : BitVec 32 := Scalar.select v102 v103 v88
  let v105 : BitVec 32 := Scalar.subi v85 v104
  let v106 : BitVec 32 := Scalar.subi v105 v84
  let c1_i32_42 : BitVec 32 := 1#32
  let v107 : BitVec 32 := Scalar.subi v106 c1_i32_42
  let c0_i32_44 : BitVec 32 := 0#32
  let v109 : BitVec 1 := Scalar.cmpi .sgt v107 c0_i32_44
  let v110 : BitVec 32 := Scalar.extui v109
  let c0_i32_45 : BitVec 32 := 0#32
  let v111 : BitVec 1 := Scalar.cmpi .slt v107 c0_i32_45
  let v112 : BitVec 32 := Scalar.extui v111
  let v113 : BitVec 32 := Scalar.subi v110 v112
  let c8_i32_43 : BitVec 32 := 8#32
  let c0_i32_46 : BitVec 32 := 0#32
  let v114 : BitVec 1 := Scalar.cmpi .sgt c8_i32_43 c0_i32_46
  let v115 : BitVec 32 := Scalar.extui v114
  let c0_i32_47 : BitVec 32 := 0#32
  let v116 : BitVec 1 := Scalar.cmpi .slt c8_i32_43 c0_i32_47
  let v117 : BitVec 32 := Scalar.extui v116
  let v118 : BitVec 32 := Scalar.subi v115 v117
  let v119 : BitVec 1 := Scalar.cmpi .ne v113 v118
  let v120 : BitVec 32 := Scalar.remsi v107 c8_i32_43
  let c0_i32_48 : BitVec 32 := 0#32
  let v121 : BitVec 1 := Scalar.cmpi .ne v120 c0_i32_48
  let v122 : BitVec 1 := Scalar.andi v119 v121
  let v108 : BitVec 32 := Scalar.divsi v107 c8_i32_43
  let c1_i32_49 : BitVec 32 := 1#32
  let v123 : BitVec 32 := Scalar.subi v108 c1_i32_49
  let v124 : BitVec 32 := Scalar.select v122 v123 v108
  let c8_i32_50 : BitVec 32 := 8#32
  let v125 : BitVec 32 := Scalar.muli v124 c8_i32_50
  let v126 : BitVec 32 := Scalar.maxsi c0_i32_51 v125
  let v127 : BitVec 32 := Scalar.minsi c2094072_i32_52 v126
  v127
def k0_cond6 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v84 : BitVec 32 := Scalar.addi c32_i32 v1
  let c0_i32_56 : BitVec 32 := 0#32
  let v133 : BitVec 1 := Scalar.cmpi .sgt v84 c0_i32_56
  let v134 : BitVec 32 := Scalar.extui v133
  let c0_i32_57 : BitVec 32 := 0#32
  let v135 : BitVec 1 := Scalar.cmpi .slt v84 c0_i32_57
  let v136 : BitVec 32 := Scalar.extui v135
  let v137 : BitVec 32 := Scalar.subi v134 v136
  let c512_i32_55 : BitVec 32 := 512#32
  let c0_i32_58 : BitVec 32 := 0#32
  let v138 : BitVec 1 := Scalar.cmpi .sgt c512_i32_55 c0_i32_58
  let v139 : BitVec 32 := Scalar.extui v138
  let c0_i32_59 : BitVec 32 := 0#32
  let v140 : BitVec 1 := Scalar.cmpi .slt c512_i32_55 c0_i32_59
  let v141 : BitVec 32 := Scalar.extui v140
  let v142 : BitVec 32 := Scalar.subi v139 v141
  let v143 : BitVec 1 := Scalar.cmpi .ne v137 v142
  let v144 : BitVec 32 := Scalar.remsi v84 c512_i32_55
  let c0_i32_60 : BitVec 32 := 0#32
  let v145 : BitVec 1 := Scalar.cmpi .ne v144 c0_i32_60
  let v146 : BitVec 1 := Scalar.andi v143 v145
  let v132 : BitVec 32 := Scalar.divsi v84 c512_i32_55
  let c1_i32_61 : BitVec 32 := 1#32
  let v147 : BitVec 32 := Scalar.subi v132 c1_i32_61
  let v148 : BitVec 32 := Scalar.select v146 v147 v132
  let c0_i32_62 : BitVec 32 := 0#32
  let v149 : BitVec 1 := Scalar.cmpi .eq v148 c0_i32_62
  let c0_i32_63 : BitVec 32 := 0#32
  let v150 : BitVec 1 := Scalar.cmpi .sgt v84 c0_i32_63
  let v151 : BitVec 1 := Scalar.andi v149 v150
  let v152 : BitVec 32 := Scalar.extui v151
  let c0_i32_64 : BitVec 32 := 0#32
  let v153 : BitVec 1 := Scalar.cmpi .ne v152 c0_i32_64
  v153

def k0_mult7 (i : grid0.Coords) : BitVec 32 :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off5 (i : grid0.Coords) : Fin 1 → Nat :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c0_i32_288 : BitVec 32 := 0#32
  let v605 : BitVec 32 := Scalar.addi v601 c0_i32_288
  ![v605.toNat]
def k0_cond7 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v84 : BitVec 32 := Scalar.addi c32_i32 v1
  let c0_i32_56 : BitVec 32 := 0#32
  let v133 : BitVec 1 := Scalar.cmpi .sgt v84 c0_i32_56
  let v134 : BitVec 32 := Scalar.extui v133
  let c0_i32_57 : BitVec 32 := 0#32
  let v135 : BitVec 1 := Scalar.cmpi .slt v84 c0_i32_57
  let v136 : BitVec 32 := Scalar.extui v135
  let v137 : BitVec 32 := Scalar.subi v134 v136
  let c512_i32_55 : BitVec 32 := 512#32
  let c0_i32_58 : BitVec 32 := 0#32
  let v138 : BitVec 1 := Scalar.cmpi .sgt c512_i32_55 c0_i32_58
  let v139 : BitVec 32 := Scalar.extui v138
  let c0_i32_59 : BitVec 32 := 0#32
  let v140 : BitVec 1 := Scalar.cmpi .slt c512_i32_55 c0_i32_59
  let v141 : BitVec 32 := Scalar.extui v140
  let v142 : BitVec 32 := Scalar.subi v139 v141
  let v143 : BitVec 1 := Scalar.cmpi .ne v137 v142
  let v144 : BitVec 32 := Scalar.remsi v84 c512_i32_55
  let c0_i32_60 : BitVec 32 := 0#32
  let v145 : BitVec 1 := Scalar.cmpi .ne v144 c0_i32_60
  let v146 : BitVec 1 := Scalar.andi v143 v145
  let v132 : BitVec 32 := Scalar.divsi v84 c512_i32_55
  let c1_i32_61 : BitVec 32 := 1#32
  let v147 : BitVec 32 := Scalar.subi v132 c1_i32_61
  let v148 : BitVec 32 := Scalar.select v146 v147 v132
  let c1_i32_65 : BitVec 32 := 1#32
  let v154 : BitVec 1 := Scalar.cmpi .eq v148 c1_i32_65
  let v155 : BitVec 32 := Scalar.extui v154
  let c0_i32_66 : BitVec 32 := 0#32
  let v156 : BitVec 1 := Scalar.cmpi .ne v155 c0_i32_66
  v156

def k0_mult8 (i : grid0.Coords) : BitVec 32 :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off6 (i : grid0.Coords) : Fin 1 → Nat :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c512_i32_288 : BitVec 32 := 512#32
  let v605 : BitVec 32 := Scalar.addi v601 c512_i32_288
  ![v605.toNat]
def k0_cond8 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v84 : BitVec 32 := Scalar.addi c32_i32 v1
  let c0_i32_56 : BitVec 32 := 0#32
  let v133 : BitVec 1 := Scalar.cmpi .sgt v84 c0_i32_56
  let v134 : BitVec 32 := Scalar.extui v133
  let c0_i32_57 : BitVec 32 := 0#32
  let v135 : BitVec 1 := Scalar.cmpi .slt v84 c0_i32_57
  let v136 : BitVec 32 := Scalar.extui v135
  let v137 : BitVec 32 := Scalar.subi v134 v136
  let c512_i32_55 : BitVec 32 := 512#32
  let c0_i32_58 : BitVec 32 := 0#32
  let v138 : BitVec 1 := Scalar.cmpi .sgt c512_i32_55 c0_i32_58
  let v139 : BitVec 32 := Scalar.extui v138
  let c0_i32_59 : BitVec 32 := 0#32
  let v140 : BitVec 1 := Scalar.cmpi .slt c512_i32_55 c0_i32_59
  let v141 : BitVec 32 := Scalar.extui v140
  let v142 : BitVec 32 := Scalar.subi v139 v141
  let v143 : BitVec 1 := Scalar.cmpi .ne v137 v142
  let v144 : BitVec 32 := Scalar.remsi v84 c512_i32_55
  let c0_i32_60 : BitVec 32 := 0#32
  let v145 : BitVec 1 := Scalar.cmpi .ne v144 c0_i32_60
  let v146 : BitVec 1 := Scalar.andi v143 v145
  let v132 : BitVec 32 := Scalar.divsi v84 c512_i32_55
  let c1_i32_61 : BitVec 32 := 1#32
  let v147 : BitVec 32 := Scalar.subi v132 c1_i32_61
  let v148 : BitVec 32 := Scalar.select v146 v147 v132
  let c2_i32_67 : BitVec 32 := 2#32
  let v157 : BitVec 1 := Scalar.cmpi .eq v148 c2_i32_67
  let v158 : BitVec 32 := Scalar.extui v157
  let c0_i32_68 : BitVec 32 := 0#32
  let v159 : BitVec 1 := Scalar.cmpi .ne v158 c0_i32_68
  v159

def k0_mult9 (i : grid0.Coords) : BitVec 32 :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off7 (i : grid0.Coords) : Fin 1 → Nat :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c1024_i32 : BitVec 32 := 1024#32
  let v605 : BitVec 32 := Scalar.addi v601 c1024_i32
  ![v605.toNat]
def k0_cond9 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v84 : BitVec 32 := Scalar.addi c32_i32 v1
  let c0_i32_56 : BitVec 32 := 0#32
  let v133 : BitVec 1 := Scalar.cmpi .sgt v84 c0_i32_56
  let v134 : BitVec 32 := Scalar.extui v133
  let c0_i32_57 : BitVec 32 := 0#32
  let v135 : BitVec 1 := Scalar.cmpi .slt v84 c0_i32_57
  let v136 : BitVec 32 := Scalar.extui v135
  let v137 : BitVec 32 := Scalar.subi v134 v136
  let c512_i32_55 : BitVec 32 := 512#32
  let c0_i32_58 : BitVec 32 := 0#32
  let v138 : BitVec 1 := Scalar.cmpi .sgt c512_i32_55 c0_i32_58
  let v139 : BitVec 32 := Scalar.extui v138
  let c0_i32_59 : BitVec 32 := 0#32
  let v140 : BitVec 1 := Scalar.cmpi .slt c512_i32_55 c0_i32_59
  let v141 : BitVec 32 := Scalar.extui v140
  let v142 : BitVec 32 := Scalar.subi v139 v141
  let v143 : BitVec 1 := Scalar.cmpi .ne v137 v142
  let v144 : BitVec 32 := Scalar.remsi v84 c512_i32_55
  let c0_i32_60 : BitVec 32 := 0#32
  let v145 : BitVec 1 := Scalar.cmpi .ne v144 c0_i32_60
  let v146 : BitVec 1 := Scalar.andi v143 v145
  let v132 : BitVec 32 := Scalar.divsi v84 c512_i32_55
  let c1_i32_61 : BitVec 32 := 1#32
  let v147 : BitVec 32 := Scalar.subi v132 c1_i32_61
  let v148 : BitVec 32 := Scalar.select v146 v147 v132
  let c3_i32_69 : BitVec 32 := 3#32
  let v160 : BitVec 1 := Scalar.cmpi .eq v148 c3_i32_69
  let v161 : BitVec 32 := Scalar.extui v160
  let c0_i32_70 : BitVec 32 := 0#32
  let v162 : BitVec 1 := Scalar.cmpi .ne v161 c0_i32_70
  v162

def k0_mult10 (i : grid0.Coords) : BitVec 32 :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off8 (i : grid0.Coords) : Fin 1 → Nat :=
  let c2094072_i32_285 : BitVec 32 := 2094072#32
  let c0_i32_284 : BitVec 32 := 0#32
  let c32_i32_265 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c32_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c1536_i32 : BitVec 32 := 1536#32
  let v605 : BitVec 32 := Scalar.addi v601 c1536_i32
  ![v605.toNat]
def k0_mult11 (i : grid0.Coords) : BitVec 32 :=
  let c2094072_i32_92 : BitVec 32 := 2094072#32
  let c0_i32_91 : BitVec 32 := 0#32
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v166 : BitVec 32 := Scalar.addi c64_i32 v1
  let c2047_i32_73 : BitVec 32 := 2047#32
  let v167 : BitVec 32 := Scalar.muli v166 c2047_i32_73
  let c1_i32_74 : BitVec 32 := 1#32
  let v168 : BitVec 32 := Scalar.subi v166 c1_i32_74
  let v169 : BitVec 32 := Scalar.muli v166 v168
  let c0_i32_76 : BitVec 32 := 0#32
  let v171 : BitVec 1 := Scalar.cmpi .sgt v169 c0_i32_76
  let v172 : BitVec 32 := Scalar.extui v171
  let c0_i32_77 : BitVec 32 := 0#32
  let v173 : BitVec 1 := Scalar.cmpi .slt v169 c0_i32_77
  let v174 : BitVec 32 := Scalar.extui v173
  let v175 : BitVec 32 := Scalar.subi v172 v174
  let c2_i32_75 : BitVec 32 := 2#32
  let c0_i32_78 : BitVec 32 := 0#32
  let v176 : BitVec 1 := Scalar.cmpi .sgt c2_i32_75 c0_i32_78
  let v177 : BitVec 32 := Scalar.extui v176
  let c0_i32_79 : BitVec 32 := 0#32
  let v178 : BitVec 1 := Scalar.cmpi .slt c2_i32_75 c0_i32_79
  let v179 : BitVec 32 := Scalar.extui v178
  let v180 : BitVec 32 := Scalar.subi v177 v179
  let v181 : BitVec 1 := Scalar.cmpi .ne v175 v180
  let v182 : BitVec 32 := Scalar.remsi v169 c2_i32_75
  let c0_i32_80 : BitVec 32 := 0#32
  let v183 : BitVec 1 := Scalar.cmpi .ne v182 c0_i32_80
  let v184 : BitVec 1 := Scalar.andi v181 v183
  let v170 : BitVec 32 := Scalar.divsi v169 c2_i32_75
  let c1_i32_81 : BitVec 32 := 1#32
  let v185 : BitVec 32 := Scalar.subi v170 c1_i32_81
  let v186 : BitVec 32 := Scalar.select v184 v185 v170
  let v187 : BitVec 32 := Scalar.subi v167 v186
  let v188 : BitVec 32 := Scalar.subi v187 v166
  let c1_i32_82 : BitVec 32 := 1#32
  let v189 : BitVec 32 := Scalar.subi v188 c1_i32_82
  let c0_i32_84 : BitVec 32 := 0#32
  let v191 : BitVec 1 := Scalar.cmpi .sgt v189 c0_i32_84
  let v192 : BitVec 32 := Scalar.extui v191
  let c0_i32_85 : BitVec 32 := 0#32
  let v193 : BitVec 1 := Scalar.cmpi .slt v189 c0_i32_85
  let v194 : BitVec 32 := Scalar.extui v193
  let v195 : BitVec 32 := Scalar.subi v192 v194
  let c8_i32_83 : BitVec 32 := 8#32
  let c0_i32_86 : BitVec 32 := 0#32
  let v196 : BitVec 1 := Scalar.cmpi .sgt c8_i32_83 c0_i32_86
  let v197 : BitVec 32 := Scalar.extui v196
  let c0_i32_87 : BitVec 32 := 0#32
  let v198 : BitVec 1 := Scalar.cmpi .slt c8_i32_83 c0_i32_87
  let v199 : BitVec 32 := Scalar.extui v198
  let v200 : BitVec 32 := Scalar.subi v197 v199
  let v201 : BitVec 1 := Scalar.cmpi .ne v195 v200
  let v202 : BitVec 32 := Scalar.remsi v189 c8_i32_83
  let c0_i32_88 : BitVec 32 := 0#32
  let v203 : BitVec 1 := Scalar.cmpi .ne v202 c0_i32_88
  let v204 : BitVec 1 := Scalar.andi v201 v203
  let v190 : BitVec 32 := Scalar.divsi v189 c8_i32_83
  let c1_i32_89 : BitVec 32 := 1#32
  let v205 : BitVec 32 := Scalar.subi v190 c1_i32_89
  let v206 : BitVec 32 := Scalar.select v204 v205 v190
  let c8_i32_90 : BitVec 32 := 8#32
  let v207 : BitVec 32 := Scalar.muli v206 c8_i32_90
  let v208 : BitVec 32 := Scalar.maxsi c0_i32_91 v207
  let v209 : BitVec 32 := Scalar.minsi c2094072_i32_92 v208
  v209
def k0_cond11 (i : grid0.Coords) : BitVec 1 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v166 : BitVec 32 := Scalar.addi c64_i32 v1
  let c0_i32_96 : BitVec 32 := 0#32
  let v215 : BitVec 1 := Scalar.cmpi .sgt v166 c0_i32_96
  let v216 : BitVec 32 := Scalar.extui v215
  let c0_i32_97 : BitVec 32 := 0#32
  let v217 : BitVec 1 := Scalar.cmpi .slt v166 c0_i32_97
  let v218 : BitVec 32 := Scalar.extui v217
  let v219 : BitVec 32 := Scalar.subi v216 v218
  let c512_i32_95 : BitVec 32 := 512#32
  let c0_i32_98 : BitVec 32 := 0#32
  let v220 : BitVec 1 := Scalar.cmpi .sgt c512_i32_95 c0_i32_98
  let v221 : BitVec 32 := Scalar.extui v220
  let c0_i32_99 : BitVec 32 := 0#32
  let v222 : BitVec 1 := Scalar.cmpi .slt c512_i32_95 c0_i32_99
  let v223 : BitVec 32 := Scalar.extui v222
  let v224 : BitVec 32 := Scalar.subi v221 v223
  let v225 : BitVec 1 := Scalar.cmpi .ne v219 v224
  let v226 : BitVec 32 := Scalar.remsi v166 c512_i32_95
  let c0_i32_100 : BitVec 32 := 0#32
  let v227 : BitVec 1 := Scalar.cmpi .ne v226 c0_i32_100
  let v228 : BitVec 1 := Scalar.andi v225 v227
  let v214 : BitVec 32 := Scalar.divsi v166 c512_i32_95
  let c1_i32_101 : BitVec 32 := 1#32
  let v229 : BitVec 32 := Scalar.subi v214 c1_i32_101
  let v230 : BitVec 32 := Scalar.select v228 v229 v214
  let c0_i32_102 : BitVec 32 := 0#32
  let v231 : BitVec 1 := Scalar.cmpi .eq v230 c0_i32_102
  let c0_i32_103 : BitVec 32 := 0#32
  let v232 : BitVec 1 := Scalar.cmpi .sgt v166 c0_i32_103
  let v233 : BitVec 1 := Scalar.andi v231 v232
  let v234 : BitVec 32 := Scalar.extui v233
  let c0_i32_104 : BitVec 32 := 0#32
  let v235 : BitVec 1 := Scalar.cmpi .ne v234 c0_i32_104
  v235

def k0_mult12 (i : grid0.Coords) : BitVec 32 :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off9 (i : grid0.Coords) : Fin 1 → Nat :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c0_i32_288 : BitVec 32 := 0#32
  let v605 : BitVec 32 := Scalar.addi v601 c0_i32_288
  ![v605.toNat]
def k0_cond12 (i : grid0.Coords) : BitVec 1 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v166 : BitVec 32 := Scalar.addi c64_i32 v1
  let c0_i32_96 : BitVec 32 := 0#32
  let v215 : BitVec 1 := Scalar.cmpi .sgt v166 c0_i32_96
  let v216 : BitVec 32 := Scalar.extui v215
  let c0_i32_97 : BitVec 32 := 0#32
  let v217 : BitVec 1 := Scalar.cmpi .slt v166 c0_i32_97
  let v218 : BitVec 32 := Scalar.extui v217
  let v219 : BitVec 32 := Scalar.subi v216 v218
  let c512_i32_95 : BitVec 32 := 512#32
  let c0_i32_98 : BitVec 32 := 0#32
  let v220 : BitVec 1 := Scalar.cmpi .sgt c512_i32_95 c0_i32_98
  let v221 : BitVec 32 := Scalar.extui v220
  let c0_i32_99 : BitVec 32 := 0#32
  let v222 : BitVec 1 := Scalar.cmpi .slt c512_i32_95 c0_i32_99
  let v223 : BitVec 32 := Scalar.extui v222
  let v224 : BitVec 32 := Scalar.subi v221 v223
  let v225 : BitVec 1 := Scalar.cmpi .ne v219 v224
  let v226 : BitVec 32 := Scalar.remsi v166 c512_i32_95
  let c0_i32_100 : BitVec 32 := 0#32
  let v227 : BitVec 1 := Scalar.cmpi .ne v226 c0_i32_100
  let v228 : BitVec 1 := Scalar.andi v225 v227
  let v214 : BitVec 32 := Scalar.divsi v166 c512_i32_95
  let c1_i32_101 : BitVec 32 := 1#32
  let v229 : BitVec 32 := Scalar.subi v214 c1_i32_101
  let v230 : BitVec 32 := Scalar.select v228 v229 v214
  let c1_i32_105 : BitVec 32 := 1#32
  let v236 : BitVec 1 := Scalar.cmpi .eq v230 c1_i32_105
  let v237 : BitVec 32 := Scalar.extui v236
  let c0_i32_106 : BitVec 32 := 0#32
  let v238 : BitVec 1 := Scalar.cmpi .ne v237 c0_i32_106
  v238

def k0_mult13 (i : grid0.Coords) : BitVec 32 :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off10 (i : grid0.Coords) : Fin 1 → Nat :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c512_i32_288 : BitVec 32 := 512#32
  let v605 : BitVec 32 := Scalar.addi v601 c512_i32_288
  ![v605.toNat]
def k0_cond13 (i : grid0.Coords) : BitVec 1 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v166 : BitVec 32 := Scalar.addi c64_i32 v1
  let c0_i32_96 : BitVec 32 := 0#32
  let v215 : BitVec 1 := Scalar.cmpi .sgt v166 c0_i32_96
  let v216 : BitVec 32 := Scalar.extui v215
  let c0_i32_97 : BitVec 32 := 0#32
  let v217 : BitVec 1 := Scalar.cmpi .slt v166 c0_i32_97
  let v218 : BitVec 32 := Scalar.extui v217
  let v219 : BitVec 32 := Scalar.subi v216 v218
  let c512_i32_95 : BitVec 32 := 512#32
  let c0_i32_98 : BitVec 32 := 0#32
  let v220 : BitVec 1 := Scalar.cmpi .sgt c512_i32_95 c0_i32_98
  let v221 : BitVec 32 := Scalar.extui v220
  let c0_i32_99 : BitVec 32 := 0#32
  let v222 : BitVec 1 := Scalar.cmpi .slt c512_i32_95 c0_i32_99
  let v223 : BitVec 32 := Scalar.extui v222
  let v224 : BitVec 32 := Scalar.subi v221 v223
  let v225 : BitVec 1 := Scalar.cmpi .ne v219 v224
  let v226 : BitVec 32 := Scalar.remsi v166 c512_i32_95
  let c0_i32_100 : BitVec 32 := 0#32
  let v227 : BitVec 1 := Scalar.cmpi .ne v226 c0_i32_100
  let v228 : BitVec 1 := Scalar.andi v225 v227
  let v214 : BitVec 32 := Scalar.divsi v166 c512_i32_95
  let c1_i32_101 : BitVec 32 := 1#32
  let v229 : BitVec 32 := Scalar.subi v214 c1_i32_101
  let v230 : BitVec 32 := Scalar.select v228 v229 v214
  let c2_i32_107 : BitVec 32 := 2#32
  let v239 : BitVec 1 := Scalar.cmpi .eq v230 c2_i32_107
  let v240 : BitVec 32 := Scalar.extui v239
  let c0_i32_108 : BitVec 32 := 0#32
  let v241 : BitVec 1 := Scalar.cmpi .ne v240 c0_i32_108
  v241

def k0_mult14 (i : grid0.Coords) : BitVec 32 :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off11 (i : grid0.Coords) : Fin 1 → Nat :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c1024_i32 : BitVec 32 := 1024#32
  let v605 : BitVec 32 := Scalar.addi v601 c1024_i32
  ![v605.toNat]
def k0_cond14 (i : grid0.Coords) : BitVec 1 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v166 : BitVec 32 := Scalar.addi c64_i32 v1
  let c0_i32_96 : BitVec 32 := 0#32
  let v215 : BitVec 1 := Scalar.cmpi .sgt v166 c0_i32_96
  let v216 : BitVec 32 := Scalar.extui v215
  let c0_i32_97 : BitVec 32 := 0#32
  let v217 : BitVec 1 := Scalar.cmpi .slt v166 c0_i32_97
  let v218 : BitVec 32 := Scalar.extui v217
  let v219 : BitVec 32 := Scalar.subi v216 v218
  let c512_i32_95 : BitVec 32 := 512#32
  let c0_i32_98 : BitVec 32 := 0#32
  let v220 : BitVec 1 := Scalar.cmpi .sgt c512_i32_95 c0_i32_98
  let v221 : BitVec 32 := Scalar.extui v220
  let c0_i32_99 : BitVec 32 := 0#32
  let v222 : BitVec 1 := Scalar.cmpi .slt c512_i32_95 c0_i32_99
  let v223 : BitVec 32 := Scalar.extui v222
  let v224 : BitVec 32 := Scalar.subi v221 v223
  let v225 : BitVec 1 := Scalar.cmpi .ne v219 v224
  let v226 : BitVec 32 := Scalar.remsi v166 c512_i32_95
  let c0_i32_100 : BitVec 32 := 0#32
  let v227 : BitVec 1 := Scalar.cmpi .ne v226 c0_i32_100
  let v228 : BitVec 1 := Scalar.andi v225 v227
  let v214 : BitVec 32 := Scalar.divsi v166 c512_i32_95
  let c1_i32_101 : BitVec 32 := 1#32
  let v229 : BitVec 32 := Scalar.subi v214 c1_i32_101
  let v230 : BitVec 32 := Scalar.select v228 v229 v214
  let c3_i32_109 : BitVec 32 := 3#32
  let v242 : BitVec 1 := Scalar.cmpi .eq v230 c3_i32_109
  let v243 : BitVec 32 := Scalar.extui v242
  let c0_i32_110 : BitVec 32 := 0#32
  let v244 : BitVec 1 := Scalar.cmpi .ne v243 c0_i32_110
  v244

def k0_mult15 (i : grid0.Coords) : BitVec 32 :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off12 (i : grid0.Coords) : Fin 1 → Nat :=
  let c2094072_i32_285 : BitVec 32 := 2094072#32
  let c0_i32_284 : BitVec 32 := 0#32
  let c64_i32_265 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c64_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  let v601 : BitVec 32 := v600
  let c1536_i32 : BitVec 32 := 1536#32
  let v605 : BitVec 32 := Scalar.addi v601 c1536_i32
  ![v605.toNat]
@[reducible] def k0_t1_loop : Scf.Loop 32 :=
  let c0_i32_114 : BitVec 32 := 0#32
  let c16_i32 : BitVec 32 := 16#32
  let v248 : BitVec 32 := Scalar.addi c0_i32_114 c16_i32
  let c1_i32_115 : BitVec 32 := 1#32
  ⟨c0_i32_114, v248, c1_i32_115⟩
def k0_cond16 (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_266 : BitVec 32 := 4#32
  let v559 : BitVec 32 := Scalar.addi v558 c4_i32_266
  let c1_i32_267 : BitVec 32 := 1#32
  let v560 : BitVec 32 := Scalar.subi v559 c1_i32_267
  let c64_i32_268 : BitVec 32 := 64#32
  let v561 : BitVec 1 := Scalar.cmpi .slt v560 c64_i32_268
  let v562 : BitVec 32 := Scalar.extui v561
  let c0_i32_269 : BitVec 32 := 0#32
  let v563 : BitVec 1 := Scalar.cmpi .ne v562 c0_i32_269
  v563

def k0_mult16 (i : grid0.Coords) (k0_t1 : Fin k0_t1_loop.trips) : BitVec 32 :=
  let c2094072_i32_777 : BitVec 32 := 2094072#32
  let c0_i32_776 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c2047_i32_758 : BitVec 32 := 2047#32
  let v1533 : BitVec 32 := Scalar.muli v1532 c2047_i32_758
  let c1_i32_759 : BitVec 32 := 1#32
  let v1534 : BitVec 32 := Scalar.subi v1532 c1_i32_759
  let v1535 : BitVec 32 := Scalar.muli v1532 v1534
  let c0_i32_761 : BitVec 32 := 0#32
  let v1537 : BitVec 1 := Scalar.cmpi .sgt v1535 c0_i32_761
  let v1538 : BitVec 32 := Scalar.extui v1537
  let c0_i32_762 : BitVec 32 := 0#32
  let v1539 : BitVec 1 := Scalar.cmpi .slt v1535 c0_i32_762
  let v1540 : BitVec 32 := Scalar.extui v1539
  let v1541 : BitVec 32 := Scalar.subi v1538 v1540
  let c2_i32_760 : BitVec 32 := 2#32
  let c0_i32_763 : BitVec 32 := 0#32
  let v1542 : BitVec 1 := Scalar.cmpi .sgt c2_i32_760 c0_i32_763
  let v1543 : BitVec 32 := Scalar.extui v1542
  let c0_i32_764 : BitVec 32 := 0#32
  let v1544 : BitVec 1 := Scalar.cmpi .slt c2_i32_760 c0_i32_764
  let v1545 : BitVec 32 := Scalar.extui v1544
  let v1546 : BitVec 32 := Scalar.subi v1543 v1545
  let v1547 : BitVec 1 := Scalar.cmpi .ne v1541 v1546
  let v1548 : BitVec 32 := Scalar.remsi v1535 c2_i32_760
  let c0_i32_765 : BitVec 32 := 0#32
  let v1549 : BitVec 1 := Scalar.cmpi .ne v1548 c0_i32_765
  let v1550 : BitVec 1 := Scalar.andi v1547 v1549
  let v1536 : BitVec 32 := Scalar.divsi v1535 c2_i32_760
  let c1_i32_766 : BitVec 32 := 1#32
  let v1551 : BitVec 32 := Scalar.subi v1536 c1_i32_766
  let v1552 : BitVec 32 := Scalar.select v1550 v1551 v1536
  let v1553 : BitVec 32 := Scalar.subi v1533 v1552
  let v1554 : BitVec 32 := Scalar.subi v1553 v1532
  let c1_i32_767 : BitVec 32 := 1#32
  let v1555 : BitVec 32 := Scalar.subi v1554 c1_i32_767
  let c0_i32_769 : BitVec 32 := 0#32
  let v1557 : BitVec 1 := Scalar.cmpi .sgt v1555 c0_i32_769
  let v1558 : BitVec 32 := Scalar.extui v1557
  let c0_i32_770 : BitVec 32 := 0#32
  let v1559 : BitVec 1 := Scalar.cmpi .slt v1555 c0_i32_770
  let v1560 : BitVec 32 := Scalar.extui v1559
  let v1561 : BitVec 32 := Scalar.subi v1558 v1560
  let c8_i32_768 : BitVec 32 := 8#32
  let c0_i32_771 : BitVec 32 := 0#32
  let v1562 : BitVec 1 := Scalar.cmpi .sgt c8_i32_768 c0_i32_771
  let v1563 : BitVec 32 := Scalar.extui v1562
  let c0_i32_772 : BitVec 32 := 0#32
  let v1564 : BitVec 1 := Scalar.cmpi .slt c8_i32_768 c0_i32_772
  let v1565 : BitVec 32 := Scalar.extui v1564
  let v1566 : BitVec 32 := Scalar.subi v1563 v1565
  let v1567 : BitVec 1 := Scalar.cmpi .ne v1561 v1566
  let v1568 : BitVec 32 := Scalar.remsi v1555 c8_i32_768
  let c0_i32_773 : BitVec 32 := 0#32
  let v1569 : BitVec 1 := Scalar.cmpi .ne v1568 c0_i32_773
  let v1570 : BitVec 1 := Scalar.andi v1567 v1569
  let v1556 : BitVec 32 := Scalar.divsi v1555 c8_i32_768
  let c1_i32_774 : BitVec 32 := 1#32
  let v1571 : BitVec 32 := Scalar.subi v1556 c1_i32_774
  let v1572 : BitVec 32 := Scalar.select v1570 v1571 v1556
  let c8_i32_775 : BitVec 32 := 8#32
  let v1573 : BitVec 32 := Scalar.muli v1572 c8_i32_775
  let v1574 : BitVec 32 := Scalar.maxsi c0_i32_776 v1573
  let v1575 : BitVec 32 := Scalar.minsi c2094072_i32_777 v1574
  v1575
def k0_cond17 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c0_i32_787 : BitVec 32 := 0#32
  let v1597 : BitVec 1 := Scalar.cmpi .eq v1596 c0_i32_787
  let c0_i32_788 : BitVec 32 := 0#32
  let v1598 : BitVec 1 := Scalar.cmpi .sgt v1532 c0_i32_788
  let v1599 : BitVec 1 := Scalar.andi v1597 v1598
  let v1600 : BitVec 32 := Scalar.extui v1599
  let c0_i32_789 : BitVec 32 := 0#32
  let v1601 : BitVec 1 := Scalar.cmpi .ne v1600 c0_i32_789
  v1601

def k0_mult17 (i : grid0.Coords) (k0_t1 : Fin k0_t1_loop.trips) : BitVec 32 :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off13 (i : grid0.Coords) (k0_t1 : Fin k0_t1_loop.trips) : Fin 1 → Nat :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c0_i32_821 : BitVec 32 := 0#32
  let v1663 : BitVec 32 := Scalar.addi v1659 c0_i32_821
  ![v1663.toNat]
def k0_cond18 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c1_i32_790 : BitVec 32 := 1#32
  let v1602 : BitVec 1 := Scalar.cmpi .eq v1596 c1_i32_790
  let v1603 : BitVec 32 := Scalar.extui v1602
  let c0_i32_791 : BitVec 32 := 0#32
  let v1604 : BitVec 1 := Scalar.cmpi .ne v1603 c0_i32_791
  v1604

def k0_mult18 (i : grid0.Coords) (k0_t1 : Fin k0_t1_loop.trips) : BitVec 32 :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off14 (i : grid0.Coords) (k0_t1 : Fin k0_t1_loop.trips) : Fin 1 → Nat :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c512_i32_821 : BitVec 32 := 512#32
  let v1663 : BitVec 32 := Scalar.addi v1659 c512_i32_821
  ![v1663.toNat]
def k0_cond19 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c2_i32_792 : BitVec 32 := 2#32
  let v1605 : BitVec 1 := Scalar.cmpi .eq v1596 c2_i32_792
  let v1606 : BitVec 32 := Scalar.extui v1605
  let c0_i32_793 : BitVec 32 := 0#32
  let v1607 : BitVec 1 := Scalar.cmpi .ne v1606 c0_i32_793
  v1607

def k0_mult19 (i : grid0.Coords) (k0_t1 : Fin k0_t1_loop.trips) : BitVec 32 :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off15 (i : grid0.Coords) (k0_t1 : Fin k0_t1_loop.trips) : Fin 1 → Nat :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1024_i32 : BitVec 32 := 1024#32
  let v1663 : BitVec 32 := Scalar.addi v1659 c1024_i32
  ![v1663.toNat]
def k0_cond20 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c3_i32_794 : BitVec 32 := 3#32
  let v1608 : BitVec 1 := Scalar.cmpi .eq v1596 c3_i32_794
  let v1609 : BitVec 32 := Scalar.extui v1608
  let c0_i32_795 : BitVec 32 := 0#32
  let v1610 : BitVec 1 := Scalar.cmpi .ne v1609 c0_i32_795
  v1610

def k0_mult20 (i : grid0.Coords) (k0_t1 : Fin k0_t1_loop.trips) : BitVec 32 :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off16 (i : grid0.Coords) (k0_t1 : Fin k0_t1_loop.trips) : Fin 1 → Nat :=
  let c2094072_i32_818 : BitVec 32 := 2094072#32
  let c0_i32_817 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.addi v558 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1536_i32 : BitVec 32 := 1536#32
  let v1663 : BitVec 32 := Scalar.addi v1659 c1536_i32
  ![v1663.toNat]
def k0_mult21 (i : grid0.Coords) (k0_t1 : Fin k0_t1_loop.trips) : BitVec 32 :=
  let c2094072_i32_290 : BitVec 32 := 2094072#32
  let c0_i32_289 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_270 : BitVec 32 := 32#32
  let v564 : BitVec 32 := Scalar.muli v558 c32_i32_270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v565 : BitVec 32 := Scalar.addi v564 v1
  let c2047_i32_271 : BitVec 32 := 2047#32
  let v566 : BitVec 32 := Scalar.muli v565 c2047_i32_271
  let c1_i32_272 : BitVec 32 := 1#32
  let v567 : BitVec 32 := Scalar.subi v565 c1_i32_272
  let v568 : BitVec 32 := Scalar.muli v565 v567
  let c0_i32_274 : BitVec 32 := 0#32
  let v570 : BitVec 1 := Scalar.cmpi .sgt v568 c0_i32_274
  let v571 : BitVec 32 := Scalar.extui v570
  let c0_i32_275 : BitVec 32 := 0#32
  let v572 : BitVec 1 := Scalar.cmpi .slt v568 c0_i32_275
  let v573 : BitVec 32 := Scalar.extui v572
  let v574 : BitVec 32 := Scalar.subi v571 v573
  let c2_i32_273 : BitVec 32 := 2#32
  let c0_i32_276 : BitVec 32 := 0#32
  let v575 : BitVec 1 := Scalar.cmpi .sgt c2_i32_273 c0_i32_276
  let v576 : BitVec 32 := Scalar.extui v575
  let c0_i32_277 : BitVec 32 := 0#32
  let v577 : BitVec 1 := Scalar.cmpi .slt c2_i32_273 c0_i32_277
  let v578 : BitVec 32 := Scalar.extui v577
  let v579 : BitVec 32 := Scalar.subi v576 v578
  let v580 : BitVec 1 := Scalar.cmpi .ne v574 v579
  let v581 : BitVec 32 := Scalar.remsi v568 c2_i32_273
  let c0_i32_278 : BitVec 32 := 0#32
  let v582 : BitVec 1 := Scalar.cmpi .ne v581 c0_i32_278
  let v583 : BitVec 1 := Scalar.andi v580 v582
  let v569 : BitVec 32 := Scalar.divsi v568 c2_i32_273
  let c1_i32_279 : BitVec 32 := 1#32
  let v584 : BitVec 32 := Scalar.subi v569 c1_i32_279
  let v585 : BitVec 32 := Scalar.select v583 v584 v569
  let v586 : BitVec 32 := Scalar.subi v566 v585
  let v587 : BitVec 32 := Scalar.subi v586 v565
  let c1_i32_280 : BitVec 32 := 1#32
  let v588 : BitVec 32 := Scalar.subi v587 c1_i32_280
  let c0_i32_282 : BitVec 32 := 0#32
  let v590 : BitVec 1 := Scalar.cmpi .sgt v588 c0_i32_282
  let v591 : BitVec 32 := Scalar.extui v590
  let c0_i32_283 : BitVec 32 := 0#32
  let v592 : BitVec 1 := Scalar.cmpi .slt v588 c0_i32_283
  let v593 : BitVec 32 := Scalar.extui v592
  let v594 : BitVec 32 := Scalar.subi v591 v593
  let c8_i32_281 : BitVec 32 := 8#32
  let c0_i32_284 : BitVec 32 := 0#32
  let v595 : BitVec 1 := Scalar.cmpi .sgt c8_i32_281 c0_i32_284
  let v596 : BitVec 32 := Scalar.extui v595
  let c0_i32_285 : BitVec 32 := 0#32
  let v597 : BitVec 1 := Scalar.cmpi .slt c8_i32_281 c0_i32_285
  let v598 : BitVec 32 := Scalar.extui v597
  let v599 : BitVec 32 := Scalar.subi v596 v598
  let v600 : BitVec 1 := Scalar.cmpi .ne v594 v599
  let v601 : BitVec 32 := Scalar.remsi v588 c8_i32_281
  let c0_i32_286 : BitVec 32 := 0#32
  let v602 : BitVec 1 := Scalar.cmpi .ne v601 c0_i32_286
  let v603 : BitVec 1 := Scalar.andi v600 v602
  let v589 : BitVec 32 := Scalar.divsi v588 c8_i32_281
  let c1_i32_287 : BitVec 32 := 1#32
  let v604 : BitVec 32 := Scalar.subi v589 c1_i32_287
  let v605 : BitVec 32 := Scalar.select v603 v604 v589
  let c8_i32_288 : BitVec 32 := 8#32
  let v606 : BitVec 32 := Scalar.muli v605 c8_i32_288
  let v607 : BitVec 32 := Scalar.maxsi c0_i32_289 v606
  let v608 : BitVec 32 := Scalar.minsi c2094072_i32_290 v607
  v608
def k0_cond22 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_270 : BitVec 32 := 32#32
  let v564 : BitVec 32 := Scalar.muli v558 c32_i32_270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v565 : BitVec 32 := Scalar.addi v564 v1
  let c0_i32_294 : BitVec 32 := 0#32
  let v614 : BitVec 1 := Scalar.cmpi .sgt v565 c0_i32_294
  let v615 : BitVec 32 := Scalar.extui v614
  let c0_i32_295 : BitVec 32 := 0#32
  let v616 : BitVec 1 := Scalar.cmpi .slt v565 c0_i32_295
  let v617 : BitVec 32 := Scalar.extui v616
  let v618 : BitVec 32 := Scalar.subi v615 v617
  let c512_i32_293 : BitVec 32 := 512#32
  let c0_i32_296 : BitVec 32 := 0#32
  let v619 : BitVec 1 := Scalar.cmpi .sgt c512_i32_293 c0_i32_296
  let v620 : BitVec 32 := Scalar.extui v619
  let c0_i32_297 : BitVec 32 := 0#32
  let v621 : BitVec 1 := Scalar.cmpi .slt c512_i32_293 c0_i32_297
  let v622 : BitVec 32 := Scalar.extui v621
  let v623 : BitVec 32 := Scalar.subi v620 v622
  let v624 : BitVec 1 := Scalar.cmpi .ne v618 v623
  let v625 : BitVec 32 := Scalar.remsi v565 c512_i32_293
  let c0_i32_298 : BitVec 32 := 0#32
  let v626 : BitVec 1 := Scalar.cmpi .ne v625 c0_i32_298
  let v627 : BitVec 1 := Scalar.andi v624 v626
  let v613 : BitVec 32 := Scalar.divsi v565 c512_i32_293
  let c1_i32_299 : BitVec 32 := 1#32
  let v628 : BitVec 32 := Scalar.subi v613 c1_i32_299
  let v629 : BitVec 32 := Scalar.select v627 v628 v613
  let c0_i32_300 : BitVec 32 := 0#32
  let v630 : BitVec 1 := Scalar.cmpi .eq v629 c0_i32_300
  let c0_i32_301 : BitVec 32 := 0#32
  let v631 : BitVec 1 := Scalar.cmpi .sgt v565 c0_i32_301
  let v632 : BitVec 1 := Scalar.andi v630 v631
  let v633 : BitVec 32 := Scalar.extui v632
  let c0_i32_302 : BitVec 32 := 0#32
  let v634 : BitVec 1 := Scalar.cmpi .ne v633 c0_i32_302
  v634

def k0_mult22 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off17 (i : grid0.Coords) (k0_t1 : Fin k0_t1_loop.trips) : Fin 1 → Nat :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c0_i32_778 : BitVec 32 := 0#32
  let v1578 : BitVec 32 := Scalar.addi v1574 c0_i32_778
  ![v1578.toNat]
def k0_cond23 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_270 : BitVec 32 := 32#32
  let v564 : BitVec 32 := Scalar.muli v558 c32_i32_270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v565 : BitVec 32 := Scalar.addi v564 v1
  let c0_i32_294 : BitVec 32 := 0#32
  let v614 : BitVec 1 := Scalar.cmpi .sgt v565 c0_i32_294
  let v615 : BitVec 32 := Scalar.extui v614
  let c0_i32_295 : BitVec 32 := 0#32
  let v616 : BitVec 1 := Scalar.cmpi .slt v565 c0_i32_295
  let v617 : BitVec 32 := Scalar.extui v616
  let v618 : BitVec 32 := Scalar.subi v615 v617
  let c512_i32_293 : BitVec 32 := 512#32
  let c0_i32_296 : BitVec 32 := 0#32
  let v619 : BitVec 1 := Scalar.cmpi .sgt c512_i32_293 c0_i32_296
  let v620 : BitVec 32 := Scalar.extui v619
  let c0_i32_297 : BitVec 32 := 0#32
  let v621 : BitVec 1 := Scalar.cmpi .slt c512_i32_293 c0_i32_297
  let v622 : BitVec 32 := Scalar.extui v621
  let v623 : BitVec 32 := Scalar.subi v620 v622
  let v624 : BitVec 1 := Scalar.cmpi .ne v618 v623
  let v625 : BitVec 32 := Scalar.remsi v565 c512_i32_293
  let c0_i32_298 : BitVec 32 := 0#32
  let v626 : BitVec 1 := Scalar.cmpi .ne v625 c0_i32_298
  let v627 : BitVec 1 := Scalar.andi v624 v626
  let v613 : BitVec 32 := Scalar.divsi v565 c512_i32_293
  let c1_i32_299 : BitVec 32 := 1#32
  let v628 : BitVec 32 := Scalar.subi v613 c1_i32_299
  let v629 : BitVec 32 := Scalar.select v627 v628 v613
  let c1_i32_303 : BitVec 32 := 1#32
  let v635 : BitVec 1 := Scalar.cmpi .eq v629 c1_i32_303
  let v636 : BitVec 32 := Scalar.extui v635
  let c0_i32_304 : BitVec 32 := 0#32
  let v637 : BitVec 1 := Scalar.cmpi .ne v636 c0_i32_304
  v637

def k0_mult23 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off18 (i : grid0.Coords) (k0_t1 : Fin k0_t1_loop.trips) : Fin 1 → Nat :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c512_i32_778 : BitVec 32 := 512#32
  let v1578 : BitVec 32 := Scalar.addi v1574 c512_i32_778
  ![v1578.toNat]
def k0_cond24 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_270 : BitVec 32 := 32#32
  let v564 : BitVec 32 := Scalar.muli v558 c32_i32_270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v565 : BitVec 32 := Scalar.addi v564 v1
  let c0_i32_294 : BitVec 32 := 0#32
  let v614 : BitVec 1 := Scalar.cmpi .sgt v565 c0_i32_294
  let v615 : BitVec 32 := Scalar.extui v614
  let c0_i32_295 : BitVec 32 := 0#32
  let v616 : BitVec 1 := Scalar.cmpi .slt v565 c0_i32_295
  let v617 : BitVec 32 := Scalar.extui v616
  let v618 : BitVec 32 := Scalar.subi v615 v617
  let c512_i32_293 : BitVec 32 := 512#32
  let c0_i32_296 : BitVec 32 := 0#32
  let v619 : BitVec 1 := Scalar.cmpi .sgt c512_i32_293 c0_i32_296
  let v620 : BitVec 32 := Scalar.extui v619
  let c0_i32_297 : BitVec 32 := 0#32
  let v621 : BitVec 1 := Scalar.cmpi .slt c512_i32_293 c0_i32_297
  let v622 : BitVec 32 := Scalar.extui v621
  let v623 : BitVec 32 := Scalar.subi v620 v622
  let v624 : BitVec 1 := Scalar.cmpi .ne v618 v623
  let v625 : BitVec 32 := Scalar.remsi v565 c512_i32_293
  let c0_i32_298 : BitVec 32 := 0#32
  let v626 : BitVec 1 := Scalar.cmpi .ne v625 c0_i32_298
  let v627 : BitVec 1 := Scalar.andi v624 v626
  let v613 : BitVec 32 := Scalar.divsi v565 c512_i32_293
  let c1_i32_299 : BitVec 32 := 1#32
  let v628 : BitVec 32 := Scalar.subi v613 c1_i32_299
  let v629 : BitVec 32 := Scalar.select v627 v628 v613
  let c2_i32_305 : BitVec 32 := 2#32
  let v638 : BitVec 1 := Scalar.cmpi .eq v629 c2_i32_305
  let v639 : BitVec 32 := Scalar.extui v638
  let c0_i32_306 : BitVec 32 := 0#32
  let v640 : BitVec 1 := Scalar.cmpi .ne v639 c0_i32_306
  v640

def k0_mult24 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off19 (i : grid0.Coords) (k0_t1 : Fin k0_t1_loop.trips) : Fin 1 → Nat :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1024_i32 : BitVec 32 := 1024#32
  let v1578 : BitVec 32 := Scalar.addi v1574 c1024_i32
  ![v1578.toNat]
def k0_cond25 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_270 : BitVec 32 := 32#32
  let v564 : BitVec 32 := Scalar.muli v558 c32_i32_270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v565 : BitVec 32 := Scalar.addi v564 v1
  let c0_i32_294 : BitVec 32 := 0#32
  let v614 : BitVec 1 := Scalar.cmpi .sgt v565 c0_i32_294
  let v615 : BitVec 32 := Scalar.extui v614
  let c0_i32_295 : BitVec 32 := 0#32
  let v616 : BitVec 1 := Scalar.cmpi .slt v565 c0_i32_295
  let v617 : BitVec 32 := Scalar.extui v616
  let v618 : BitVec 32 := Scalar.subi v615 v617
  let c512_i32_293 : BitVec 32 := 512#32
  let c0_i32_296 : BitVec 32 := 0#32
  let v619 : BitVec 1 := Scalar.cmpi .sgt c512_i32_293 c0_i32_296
  let v620 : BitVec 32 := Scalar.extui v619
  let c0_i32_297 : BitVec 32 := 0#32
  let v621 : BitVec 1 := Scalar.cmpi .slt c512_i32_293 c0_i32_297
  let v622 : BitVec 32 := Scalar.extui v621
  let v623 : BitVec 32 := Scalar.subi v620 v622
  let v624 : BitVec 1 := Scalar.cmpi .ne v618 v623
  let v625 : BitVec 32 := Scalar.remsi v565 c512_i32_293
  let c0_i32_298 : BitVec 32 := 0#32
  let v626 : BitVec 1 := Scalar.cmpi .ne v625 c0_i32_298
  let v627 : BitVec 1 := Scalar.andi v624 v626
  let v613 : BitVec 32 := Scalar.divsi v565 c512_i32_293
  let c1_i32_299 : BitVec 32 := 1#32
  let v628 : BitVec 32 := Scalar.subi v613 c1_i32_299
  let v629 : BitVec 32 := Scalar.select v627 v628 v613
  let c3_i32_307 : BitVec 32 := 3#32
  let v641 : BitVec 1 := Scalar.cmpi .eq v629 c3_i32_307
  let v642 : BitVec 32 := Scalar.extui v641
  let c0_i32_308 : BitVec 32 := 0#32
  let v643 : BitVec 1 := Scalar.cmpi .ne v642 c0_i32_308
  v643

def k0_mult25 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off20 (i : grid0.Coords) (k0_t1 : Fin k0_t1_loop.trips) : Fin 1 → Nat :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1536_i32 : BitVec 32 := 1536#32
  let v1578 : BitVec 32 := Scalar.addi v1574 c1536_i32
  ![v1578.toNat]
def k0_cond27 (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_311 : BitVec 32 := 4#32
  let v647 : BitVec 1 := Scalar.cmpi .sge v558 c4_i32_311
  let v648 : BitVec 32 := Scalar.extui v647
  let c0_i32_312 : BitVec 32 := 0#32
  let v649 : BitVec 1 := Scalar.cmpi .ne v648 c0_i32_312
  v649

def k0_mult26 (i : grid0.Coords) (k0_t1 : Fin k0_t1_loop.trips) : BitVec 32 :=
  let c2094072_i32_776 : BitVec 32 := 2094072#32
  let c0_i32_775 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c2047_i32_757 : BitVec 32 := 2047#32
  let v1532 : BitVec 32 := Scalar.muli v1531 c2047_i32_757
  let c1_i32_758 : BitVec 32 := 1#32
  let v1533 : BitVec 32 := Scalar.subi v1531 c1_i32_758
  let v1534 : BitVec 32 := Scalar.muli v1531 v1533
  let c0_i32_760 : BitVec 32 := 0#32
  let v1536 : BitVec 1 := Scalar.cmpi .sgt v1534 c0_i32_760
  let v1537 : BitVec 32 := Scalar.extui v1536
  let c0_i32_761 : BitVec 32 := 0#32
  let v1538 : BitVec 1 := Scalar.cmpi .slt v1534 c0_i32_761
  let v1539 : BitVec 32 := Scalar.extui v1538
  let v1540 : BitVec 32 := Scalar.subi v1537 v1539
  let c2_i32_759 : BitVec 32 := 2#32
  let c0_i32_762 : BitVec 32 := 0#32
  let v1541 : BitVec 1 := Scalar.cmpi .sgt c2_i32_759 c0_i32_762
  let v1542 : BitVec 32 := Scalar.extui v1541
  let c0_i32_763 : BitVec 32 := 0#32
  let v1543 : BitVec 1 := Scalar.cmpi .slt c2_i32_759 c0_i32_763
  let v1544 : BitVec 32 := Scalar.extui v1543
  let v1545 : BitVec 32 := Scalar.subi v1542 v1544
  let v1546 : BitVec 1 := Scalar.cmpi .ne v1540 v1545
  let v1547 : BitVec 32 := Scalar.remsi v1534 c2_i32_759
  let c0_i32_764 : BitVec 32 := 0#32
  let v1548 : BitVec 1 := Scalar.cmpi .ne v1547 c0_i32_764
  let v1549 : BitVec 1 := Scalar.andi v1546 v1548
  let v1535 : BitVec 32 := Scalar.divsi v1534 c2_i32_759
  let c1_i32_765 : BitVec 32 := 1#32
  let v1550 : BitVec 32 := Scalar.subi v1535 c1_i32_765
  let v1551 : BitVec 32 := Scalar.select v1549 v1550 v1535
  let v1552 : BitVec 32 := Scalar.subi v1532 v1551
  let v1553 : BitVec 32 := Scalar.subi v1552 v1531
  let c1_i32_766 : BitVec 32 := 1#32
  let v1554 : BitVec 32 := Scalar.subi v1553 c1_i32_766
  let c0_i32_768 : BitVec 32 := 0#32
  let v1556 : BitVec 1 := Scalar.cmpi .sgt v1554 c0_i32_768
  let v1557 : BitVec 32 := Scalar.extui v1556
  let c0_i32_769 : BitVec 32 := 0#32
  let v1558 : BitVec 1 := Scalar.cmpi .slt v1554 c0_i32_769
  let v1559 : BitVec 32 := Scalar.extui v1558
  let v1560 : BitVec 32 := Scalar.subi v1557 v1559
  let c8_i32_767 : BitVec 32 := 8#32
  let c0_i32_770 : BitVec 32 := 0#32
  let v1561 : BitVec 1 := Scalar.cmpi .sgt c8_i32_767 c0_i32_770
  let v1562 : BitVec 32 := Scalar.extui v1561
  let c0_i32_771 : BitVec 32 := 0#32
  let v1563 : BitVec 1 := Scalar.cmpi .slt c8_i32_767 c0_i32_771
  let v1564 : BitVec 32 := Scalar.extui v1563
  let v1565 : BitVec 32 := Scalar.subi v1562 v1564
  let v1566 : BitVec 1 := Scalar.cmpi .ne v1560 v1565
  let v1567 : BitVec 32 := Scalar.remsi v1554 c8_i32_767
  let c0_i32_772 : BitVec 32 := 0#32
  let v1568 : BitVec 1 := Scalar.cmpi .ne v1567 c0_i32_772
  let v1569 : BitVec 1 := Scalar.andi v1566 v1568
  let v1555 : BitVec 32 := Scalar.divsi v1554 c8_i32_767
  let c1_i32_773 : BitVec 32 := 1#32
  let v1570 : BitVec 32 := Scalar.subi v1555 c1_i32_773
  let v1571 : BitVec 32 := Scalar.select v1569 v1570 v1555
  let c8_i32_774 : BitVec 32 := 8#32
  let v1572 : BitVec 32 := Scalar.muli v1571 c8_i32_774
  let v1573 : BitVec 32 := Scalar.maxsi c0_i32_775 v1572
  let v1574 : BitVec 32 := Scalar.minsi c2094072_i32_776 v1573
  v1574
def k0_cond28 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c0_i32_786 : BitVec 32 := 0#32
  let v1596 : BitVec 1 := Scalar.cmpi .eq v1595 c0_i32_786
  let v1597 : BitVec 32 := Scalar.extui v1596
  let c0_i32_787 : BitVec 32 := 0#32
  let v1598 : BitVec 1 := Scalar.cmpi .ne v1597 c0_i32_787
  v1598

def k0_mult27 (i : grid0.Coords) (k0_t1 : Fin k0_t1_loop.trips) : BitVec 32 :=
  let c2094072_i32_814 : BitVec 32 := 2094072#32
  let c0_i32_813 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off21 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c0_i32_819 : BitVec 32 := 0#32
  ![v1609.toNat, 0]
def k0_cond29 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c1_i32_788 : BitVec 32 := 1#32
  let v1599 : BitVec 1 := Scalar.cmpi .eq v1595 c1_i32_788
  let v1600 : BitVec 32 := Scalar.extui v1599
  let c0_i32_789 : BitVec 32 := 0#32
  let v1601 : BitVec 1 := Scalar.cmpi .ne v1600 c0_i32_789
  v1601

def k0_mult28 (i : grid0.Coords) (k0_t1 : Fin k0_t1_loop.trips) : BitVec 32 :=
  let c2094072_i32_814 : BitVec 32 := 2094072#32
  let c0_i32_813 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off22 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c512_i32_819 : BitVec 32 := 512#32
  ![v1609.toNat, 512]
def k0_cond30 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c2_i32_790 : BitVec 32 := 2#32
  let v1602 : BitVec 1 := Scalar.cmpi .eq v1595 c2_i32_790
  let v1603 : BitVec 32 := Scalar.extui v1602
  let c0_i32_791 : BitVec 32 := 0#32
  let v1604 : BitVec 1 := Scalar.cmpi .ne v1603 c0_i32_791
  v1604

def k0_mult29 (i : grid0.Coords) (k0_t1 : Fin k0_t1_loop.trips) : BitVec 32 :=
  let c2094072_i32_814 : BitVec 32 := 2094072#32
  let c0_i32_813 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off23 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1024_i32_818 : BitVec 32 := 1024#32
  ![v1609.toNat, 1024]
def k0_cond31 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c3_i32_792 : BitVec 32 := 3#32
  let v1605 : BitVec 1 := Scalar.cmpi .eq v1595 c3_i32_792
  let v1606 : BitVec 32 := Scalar.extui v1605
  let c0_i32_793 : BitVec 32 := 0#32
  let v1607 : BitVec 1 := Scalar.cmpi .ne v1606 c0_i32_793
  v1607

def k0_mult30 (i : grid0.Coords) (k0_t1 : Fin k0_t1_loop.trips) : BitVec 32 :=
  let c2094072_i32_814 : BitVec 32 := 2094072#32
  let c0_i32_813 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off24 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c4_i32_755 : BitVec 32 := 4#32
  let v1529 : BitVec 32 := Scalar.subi v558 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1536_i32_818 : BitVec 32 := 1536#32
  ![v1609.toNat, 1536]
def k0_mult31 (i : grid0.Coords) (k0_t1 : Fin k0_t1_loop.trips) : BitVec 32 :=
  let c2094072_i32_333 : BitVec 32 := 2094072#32
  let c0_i32_332 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c2047_i32_314 : BitVec 32 := 2047#32
  let v652 : BitVec 32 := Scalar.muli v651 c2047_i32_314
  let c1_i32_315 : BitVec 32 := 1#32
  let v653 : BitVec 32 := Scalar.subi v651 c1_i32_315
  let v654 : BitVec 32 := Scalar.muli v651 v653
  let c0_i32_317 : BitVec 32 := 0#32
  let v656 : BitVec 1 := Scalar.cmpi .sgt v654 c0_i32_317
  let v657 : BitVec 32 := Scalar.extui v656
  let c0_i32_318 : BitVec 32 := 0#32
  let v658 : BitVec 1 := Scalar.cmpi .slt v654 c0_i32_318
  let v659 : BitVec 32 := Scalar.extui v658
  let v660 : BitVec 32 := Scalar.subi v657 v659
  let c2_i32_316 : BitVec 32 := 2#32
  let c0_i32_319 : BitVec 32 := 0#32
  let v661 : BitVec 1 := Scalar.cmpi .sgt c2_i32_316 c0_i32_319
  let v662 : BitVec 32 := Scalar.extui v661
  let c0_i32_320 : BitVec 32 := 0#32
  let v663 : BitVec 1 := Scalar.cmpi .slt c2_i32_316 c0_i32_320
  let v664 : BitVec 32 := Scalar.extui v663
  let v665 : BitVec 32 := Scalar.subi v662 v664
  let v666 : BitVec 1 := Scalar.cmpi .ne v660 v665
  let v667 : BitVec 32 := Scalar.remsi v654 c2_i32_316
  let c0_i32_321 : BitVec 32 := 0#32
  let v668 : BitVec 1 := Scalar.cmpi .ne v667 c0_i32_321
  let v669 : BitVec 1 := Scalar.andi v666 v668
  let v655 : BitVec 32 := Scalar.divsi v654 c2_i32_316
  let c1_i32_322 : BitVec 32 := 1#32
  let v670 : BitVec 32 := Scalar.subi v655 c1_i32_322
  let v671 : BitVec 32 := Scalar.select v669 v670 v655
  let v672 : BitVec 32 := Scalar.subi v652 v671
  let v673 : BitVec 32 := Scalar.subi v672 v651
  let c1_i32_323 : BitVec 32 := 1#32
  let v674 : BitVec 32 := Scalar.subi v673 c1_i32_323
  let c0_i32_325 : BitVec 32 := 0#32
  let v676 : BitVec 1 := Scalar.cmpi .sgt v674 c0_i32_325
  let v677 : BitVec 32 := Scalar.extui v676
  let c0_i32_326 : BitVec 32 := 0#32
  let v678 : BitVec 1 := Scalar.cmpi .slt v674 c0_i32_326
  let v679 : BitVec 32 := Scalar.extui v678
  let v680 : BitVec 32 := Scalar.subi v677 v679
  let c8_i32_324 : BitVec 32 := 8#32
  let c0_i32_327 : BitVec 32 := 0#32
  let v681 : BitVec 1 := Scalar.cmpi .sgt c8_i32_324 c0_i32_327
  let v682 : BitVec 32 := Scalar.extui v681
  let c0_i32_328 : BitVec 32 := 0#32
  let v683 : BitVec 1 := Scalar.cmpi .slt c8_i32_324 c0_i32_328
  let v684 : BitVec 32 := Scalar.extui v683
  let v685 : BitVec 32 := Scalar.subi v682 v684
  let v686 : BitVec 1 := Scalar.cmpi .ne v680 v685
  let v687 : BitVec 32 := Scalar.remsi v674 c8_i32_324
  let c0_i32_329 : BitVec 32 := 0#32
  let v688 : BitVec 1 := Scalar.cmpi .ne v687 c0_i32_329
  let v689 : BitVec 1 := Scalar.andi v686 v688
  let v675 : BitVec 32 := Scalar.divsi v674 c8_i32_324
  let c1_i32_330 : BitVec 32 := 1#32
  let v690 : BitVec 32 := Scalar.subi v675 c1_i32_330
  let v691 : BitVec 32 := Scalar.select v689 v690 v675
  let c8_i32_331 : BitVec 32 := 8#32
  let v692 : BitVec 32 := Scalar.muli v691 c8_i32_331
  let v693 : BitVec 32 := Scalar.maxsi c0_i32_332 v692
  let v694 : BitVec 32 := Scalar.minsi c2094072_i32_333 v693
  v694
@[reducible] def k0_t2_loop (i : grid0.Coords) (k0_t1 : Fin k0_t1_loop.trips) : Scf.Loop 32 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c1_i32_336 : BitVec 32 := 1#32
  let v699 : BitVec 32 := Scalar.addi v651 c1_i32_336
  let c0_i32_337 : BitVec 32 := 0#32
  let v701 : BitVec 1 := Scalar.cmpi .sgt v699 c0_i32_337
  let v702 : BitVec 32 := Scalar.extui v701
  let c0_i32_338 : BitVec 32 := 0#32
  let v703 : BitVec 1 := Scalar.cmpi .slt v699 c0_i32_338
  let v704 : BitVec 32 := Scalar.extui v703
  let v705 : BitVec 32 := Scalar.subi v702 v704
  let c256_i32 : BitVec 32 := 256#32
  let c0_i32_339 : BitVec 32 := 0#32
  let v706 : BitVec 1 := Scalar.cmpi .sgt c256_i32 c0_i32_339
  let v707 : BitVec 32 := Scalar.extui v706
  let c0_i32_340 : BitVec 32 := 0#32
  let v708 : BitVec 1 := Scalar.cmpi .slt c256_i32 c0_i32_340
  let v709 : BitVec 32 := Scalar.extui v708
  let v710 : BitVec 32 := Scalar.subi v707 v709
  let v711 : BitVec 1 := Scalar.cmpi .ne v705 v710
  let v712 : BitVec 32 := Scalar.remsi v699 c256_i32
  let c0_i32_341 : BitVec 32 := 0#32
  let v713 : BitVec 1 := Scalar.cmpi .ne v712 c0_i32_341
  let v714 : BitVec 1 := Scalar.andi v711 v713
  let v700 : BitVec 32 := Scalar.divsi v699 c256_i32
  let c1_i32_342 : BitVec 32 := 1#32
  let v715 : BitVec 32 := Scalar.subi v700 c1_i32_342
  let v716 : BitVec 32 := Scalar.select v714 v715 v700
  let c8_i32_344 : BitVec 32 := 8#32
  let v717 : BitVec 32 := Scalar.subi c8_i32_344 v716
  let c1_i32_345 : BitVec 32 := 1#32
  let v719 : BitVec 32 := Scalar.divsi v717 c1_i32_345
  let v720 : BitVec 32 := Scalar.muli v719 c1_i32_345
  let v721 : BitVec 32 := Scalar.addi v716 v720
  let c1_i32_346 : BitVec 32 := 1#32
  ⟨v716, v721, c1_i32_346⟩
def k0_off25 (i : grid0.Coords) (k0_t1 : Fin k0_t1_loop.trips) (k0_t2 : Fin (k0_t2_loop i k0_t1).trips) (c0_i32_756 : BitVec 32) : Fin 1 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c0_i32_334 : BitVec 32 := 0#32
  let v696 : BitVec 1 := Scalar.cmpi .eq v651 c0_i32_334
  let c7_i32_335 : BitVec 32 := 7#32
  let c2047_i32_314 : BitVec 32 := 2047#32
  let v652 : BitVec 32 := Scalar.muli v651 c2047_i32_314
  let c1_i32_315 : BitVec 32 := 1#32
  let v653 : BitVec 32 := Scalar.subi v651 c1_i32_315
  let v654 : BitVec 32 := Scalar.muli v651 v653
  let c0_i32_317 : BitVec 32 := 0#32
  let v656 : BitVec 1 := Scalar.cmpi .sgt v654 c0_i32_317
  let v657 : BitVec 32 := Scalar.extui v656
  let c0_i32_318 : BitVec 32 := 0#32
  let v658 : BitVec 1 := Scalar.cmpi .slt v654 c0_i32_318
  let v659 : BitVec 32 := Scalar.extui v658
  let v660 : BitVec 32 := Scalar.subi v657 v659
  let c2_i32_316 : BitVec 32 := 2#32
  let c0_i32_319 : BitVec 32 := 0#32
  let v661 : BitVec 1 := Scalar.cmpi .sgt c2_i32_316 c0_i32_319
  let v662 : BitVec 32 := Scalar.extui v661
  let c0_i32_320 : BitVec 32 := 0#32
  let v663 : BitVec 1 := Scalar.cmpi .slt c2_i32_316 c0_i32_320
  let v664 : BitVec 32 := Scalar.extui v663
  let v665 : BitVec 32 := Scalar.subi v662 v664
  let v666 : BitVec 1 := Scalar.cmpi .ne v660 v665
  let v667 : BitVec 32 := Scalar.remsi v654 c2_i32_316
  let c0_i32_321 : BitVec 32 := 0#32
  let v668 : BitVec 1 := Scalar.cmpi .ne v667 c0_i32_321
  let v669 : BitVec 1 := Scalar.andi v666 v668
  let v655 : BitVec 32 := Scalar.divsi v654 c2_i32_316
  let c1_i32_322 : BitVec 32 := 1#32
  let v670 : BitVec 32 := Scalar.subi v655 c1_i32_322
  let v671 : BitVec 32 := Scalar.select v669 v670 v655
  let v672 : BitVec 32 := Scalar.subi v652 v671
  let v673 : BitVec 32 := Scalar.subi v672 v651
  let c1_i32_323 : BitVec 32 := 1#32
  let v674 : BitVec 32 := Scalar.subi v673 c1_i32_323
  let c2094072_i32_333 : BitVec 32 := 2094072#32
  let c0_i32_332 : BitVec 32 := 0#32
  let c0_i32_325 : BitVec 32 := 0#32
  let v676 : BitVec 1 := Scalar.cmpi .sgt v674 c0_i32_325
  let v677 : BitVec 32 := Scalar.extui v676
  let c0_i32_326 : BitVec 32 := 0#32
  let v678 : BitVec 1 := Scalar.cmpi .slt v674 c0_i32_326
  let v679 : BitVec 32 := Scalar.extui v678
  let v680 : BitVec 32 := Scalar.subi v677 v679
  let c8_i32_324 : BitVec 32 := 8#32
  let c0_i32_327 : BitVec 32 := 0#32
  let v681 : BitVec 1 := Scalar.cmpi .sgt c8_i32_324 c0_i32_327
  let v682 : BitVec 32 := Scalar.extui v681
  let c0_i32_328 : BitVec 32 := 0#32
  let v683 : BitVec 1 := Scalar.cmpi .slt c8_i32_324 c0_i32_328
  let v684 : BitVec 32 := Scalar.extui v683
  let v685 : BitVec 32 := Scalar.subi v682 v684
  let v686 : BitVec 1 := Scalar.cmpi .ne v680 v685
  let v687 : BitVec 32 := Scalar.remsi v674 c8_i32_324
  let c0_i32_329 : BitVec 32 := 0#32
  let v688 : BitVec 1 := Scalar.cmpi .ne v687 c0_i32_329
  let v689 : BitVec 1 := Scalar.andi v686 v688
  let v675 : BitVec 32 := Scalar.divsi v674 c8_i32_324
  let c1_i32_330 : BitVec 32 := 1#32
  let v690 : BitVec 32 := Scalar.subi v675 c1_i32_330
  let v691 : BitVec 32 := Scalar.select v689 v690 v675
  let c8_i32_331 : BitVec 32 := 8#32
  let v692 : BitVec 32 := Scalar.muli v691 c8_i32_331
  let v693 : BitVec 32 := Scalar.maxsi c0_i32_332 v692
  let v694 : BitVec 32 := Scalar.minsi c2094072_i32_333 v693
  let v695 : BitVec 32 := v694
  let v697 : BitVec 32 := Scalar.subi v674 v695
  let v698 : BitVec 32 := Scalar.select v696 c7_i32_335 v697
  let c1_i32_336 : BitVec 32 := 1#32
  let v699 : BitVec 32 := Scalar.addi v651 c1_i32_336
  let c0_i32_337 : BitVec 32 := 0#32
  let v701 : BitVec 1 := Scalar.cmpi .sgt v699 c0_i32_337
  let v702 : BitVec 32 := Scalar.extui v701
  let c0_i32_338 : BitVec 32 := 0#32
  let v703 : BitVec 1 := Scalar.cmpi .slt v699 c0_i32_338
  let v704 : BitVec 32 := Scalar.extui v703
  let v705 : BitVec 32 := Scalar.subi v702 v704
  let c256_i32 : BitVec 32 := 256#32
  let c0_i32_339 : BitVec 32 := 0#32
  let v706 : BitVec 1 := Scalar.cmpi .sgt c256_i32 c0_i32_339
  let v707 : BitVec 32 := Scalar.extui v706
  let c0_i32_340 : BitVec 32 := 0#32
  let v708 : BitVec 1 := Scalar.cmpi .slt c256_i32 c0_i32_340
  let v709 : BitVec 32 := Scalar.extui v708
  let v710 : BitVec 32 := Scalar.subi v707 v709
  let v711 : BitVec 1 := Scalar.cmpi .ne v705 v710
  let v712 : BitVec 32 := Scalar.remsi v699 c256_i32
  let c0_i32_341 : BitVec 32 := 0#32
  let v713 : BitVec 1 := Scalar.cmpi .ne v712 c0_i32_341
  let v714 : BitVec 1 := Scalar.andi v711 v713
  let v700 : BitVec 32 := Scalar.divsi v699 c256_i32
  let c1_i32_342 : BitVec 32 := 1#32
  let v715 : BitVec 32 := Scalar.subi v700 c1_i32_342
  let v716 : BitVec 32 := Scalar.select v714 v715 v700
  let c1_i32_346 : BitVec 32 := 1#32
  let arg21 : BitVec 32 := Scf.iv v716 c1_i32_346 k0_t2
  let c256_i32_755 : BitVec 32 := 256#32
  let v1529 : BitVec 32 := Scalar.muli arg21 c256_i32_755
  let v1530 : BitVec 32 := Scalar.addi v698 v1529
  let v1531 : BitVec 32 := Scalar.addi v1530 c0_i32_756
  let v1532 : Index := Scalar.indexCast v1531
  ![v1532.toNat]
def k0_off26 (i : grid0.Coords) (k0_t1 : Fin k0_t1_loop.trips) (k0_t2 : Fin (k0_t2_loop i k0_t1).trips) (c0_i32_760 : BitVec 32) : Fin 1 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c1_i32_336 : BitVec 32 := 1#32
  let v699 : BitVec 32 := Scalar.addi v651 c1_i32_336
  let c0_i32_337 : BitVec 32 := 0#32
  let v701 : BitVec 1 := Scalar.cmpi .sgt v699 c0_i32_337
  let v702 : BitVec 32 := Scalar.extui v701
  let c0_i32_338 : BitVec 32 := 0#32
  let v703 : BitVec 1 := Scalar.cmpi .slt v699 c0_i32_338
  let v704 : BitVec 32 := Scalar.extui v703
  let v705 : BitVec 32 := Scalar.subi v702 v704
  let c256_i32 : BitVec 32 := 256#32
  let c0_i32_339 : BitVec 32 := 0#32
  let v706 : BitVec 1 := Scalar.cmpi .sgt c256_i32 c0_i32_339
  let v707 : BitVec 32 := Scalar.extui v706
  let c0_i32_340 : BitVec 32 := 0#32
  let v708 : BitVec 1 := Scalar.cmpi .slt c256_i32 c0_i32_340
  let v709 : BitVec 32 := Scalar.extui v708
  let v710 : BitVec 32 := Scalar.subi v707 v709
  let v711 : BitVec 1 := Scalar.cmpi .ne v705 v710
  let v712 : BitVec 32 := Scalar.remsi v699 c256_i32
  let c0_i32_341 : BitVec 32 := 0#32
  let v713 : BitVec 1 := Scalar.cmpi .ne v712 c0_i32_341
  let v714 : BitVec 1 := Scalar.andi v711 v713
  let v700 : BitVec 32 := Scalar.divsi v699 c256_i32
  let c1_i32_342 : BitVec 32 := 1#32
  let v715 : BitVec 32 := Scalar.subi v700 c1_i32_342
  let v716 : BitVec 32 := Scalar.select v714 v715 v700
  let c1_i32_346 : BitVec 32 := 1#32
  let arg21 : BitVec 32 := Scf.iv v716 c1_i32_346 k0_t2
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
@[reducible] def k0_t3_loop (i : grid0.Coords) (k0_t1 : Fin k0_t1_loop.trips) : Scf.Loop 32 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c1_i32_336 : BitVec 32 := 1#32
  let v699 : BitVec 32 := Scalar.addi v651 c1_i32_336
  let c0_i32_337 : BitVec 32 := 0#32
  let v701 : BitVec 1 := Scalar.cmpi .sgt v699 c0_i32_337
  let v702 : BitVec 32 := Scalar.extui v701
  let c0_i32_338 : BitVec 32 := 0#32
  let v703 : BitVec 1 := Scalar.cmpi .slt v699 c0_i32_338
  let v704 : BitVec 32 := Scalar.extui v703
  let v705 : BitVec 32 := Scalar.subi v702 v704
  let c256_i32 : BitVec 32 := 256#32
  let c0_i32_339 : BitVec 32 := 0#32
  let v706 : BitVec 1 := Scalar.cmpi .sgt c256_i32 c0_i32_339
  let v707 : BitVec 32 := Scalar.extui v706
  let c0_i32_340 : BitVec 32 := 0#32
  let v708 : BitVec 1 := Scalar.cmpi .slt c256_i32 c0_i32_340
  let v709 : BitVec 32 := Scalar.extui v708
  let v710 : BitVec 32 := Scalar.subi v707 v709
  let v711 : BitVec 1 := Scalar.cmpi .ne v705 v710
  let v712 : BitVec 32 := Scalar.remsi v699 c256_i32
  let c0_i32_341 : BitVec 32 := 0#32
  let v713 : BitVec 1 := Scalar.cmpi .ne v712 c0_i32_341
  let v714 : BitVec 1 := Scalar.andi v711 v713
  let v700 : BitVec 32 := Scalar.divsi v699 c256_i32
  let c1_i32_342 : BitVec 32 := 1#32
  let v715 : BitVec 32 := Scalar.subi v700 c1_i32_342
  let v716 : BitVec 32 := Scalar.select v714 v715 v700
  let c8_i32_344 : BitVec 32 := 8#32
  let v717 : BitVec 32 := Scalar.subi c8_i32_344 v716
  let c1_i32_345 : BitVec 32 := 1#32
  let v719 : BitVec 32 := Scalar.divsi v717 c1_i32_345
  let v720 : BitVec 32 := Scalar.muli v719 c1_i32_345
  let v721 : BitVec 32 := Scalar.addi v716 v720
  let v718 : BitVec 32 := Scalar.addi v716 v717
  let c1_i32_347 : BitVec 32 := 1#32
  ⟨v721, v718, c1_i32_347⟩
def k0_off27 (i : grid0.Coords) (k0_t1 : Fin k0_t1_loop.trips) (k0_t3 : Fin (k0_t3_loop i k0_t1).trips) (c0_i32_756 : BitVec 32) : Fin 1 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c0_i32_334 : BitVec 32 := 0#32
  let v696 : BitVec 1 := Scalar.cmpi .eq v651 c0_i32_334
  let c7_i32_335 : BitVec 32 := 7#32
  let c2047_i32_314 : BitVec 32 := 2047#32
  let v652 : BitVec 32 := Scalar.muli v651 c2047_i32_314
  let c1_i32_315 : BitVec 32 := 1#32
  let v653 : BitVec 32 := Scalar.subi v651 c1_i32_315
  let v654 : BitVec 32 := Scalar.muli v651 v653
  let c0_i32_317 : BitVec 32 := 0#32
  let v656 : BitVec 1 := Scalar.cmpi .sgt v654 c0_i32_317
  let v657 : BitVec 32 := Scalar.extui v656
  let c0_i32_318 : BitVec 32 := 0#32
  let v658 : BitVec 1 := Scalar.cmpi .slt v654 c0_i32_318
  let v659 : BitVec 32 := Scalar.extui v658
  let v660 : BitVec 32 := Scalar.subi v657 v659
  let c2_i32_316 : BitVec 32 := 2#32
  let c0_i32_319 : BitVec 32 := 0#32
  let v661 : BitVec 1 := Scalar.cmpi .sgt c2_i32_316 c0_i32_319
  let v662 : BitVec 32 := Scalar.extui v661
  let c0_i32_320 : BitVec 32 := 0#32
  let v663 : BitVec 1 := Scalar.cmpi .slt c2_i32_316 c0_i32_320
  let v664 : BitVec 32 := Scalar.extui v663
  let v665 : BitVec 32 := Scalar.subi v662 v664
  let v666 : BitVec 1 := Scalar.cmpi .ne v660 v665
  let v667 : BitVec 32 := Scalar.remsi v654 c2_i32_316
  let c0_i32_321 : BitVec 32 := 0#32
  let v668 : BitVec 1 := Scalar.cmpi .ne v667 c0_i32_321
  let v669 : BitVec 1 := Scalar.andi v666 v668
  let v655 : BitVec 32 := Scalar.divsi v654 c2_i32_316
  let c1_i32_322 : BitVec 32 := 1#32
  let v670 : BitVec 32 := Scalar.subi v655 c1_i32_322
  let v671 : BitVec 32 := Scalar.select v669 v670 v655
  let v672 : BitVec 32 := Scalar.subi v652 v671
  let v673 : BitVec 32 := Scalar.subi v672 v651
  let c1_i32_323 : BitVec 32 := 1#32
  let v674 : BitVec 32 := Scalar.subi v673 c1_i32_323
  let c2094072_i32_333 : BitVec 32 := 2094072#32
  let c0_i32_332 : BitVec 32 := 0#32
  let c0_i32_325 : BitVec 32 := 0#32
  let v676 : BitVec 1 := Scalar.cmpi .sgt v674 c0_i32_325
  let v677 : BitVec 32 := Scalar.extui v676
  let c0_i32_326 : BitVec 32 := 0#32
  let v678 : BitVec 1 := Scalar.cmpi .slt v674 c0_i32_326
  let v679 : BitVec 32 := Scalar.extui v678
  let v680 : BitVec 32 := Scalar.subi v677 v679
  let c8_i32_324 : BitVec 32 := 8#32
  let c0_i32_327 : BitVec 32 := 0#32
  let v681 : BitVec 1 := Scalar.cmpi .sgt c8_i32_324 c0_i32_327
  let v682 : BitVec 32 := Scalar.extui v681
  let c0_i32_328 : BitVec 32 := 0#32
  let v683 : BitVec 1 := Scalar.cmpi .slt c8_i32_324 c0_i32_328
  let v684 : BitVec 32 := Scalar.extui v683
  let v685 : BitVec 32 := Scalar.subi v682 v684
  let v686 : BitVec 1 := Scalar.cmpi .ne v680 v685
  let v687 : BitVec 32 := Scalar.remsi v674 c8_i32_324
  let c0_i32_329 : BitVec 32 := 0#32
  let v688 : BitVec 1 := Scalar.cmpi .ne v687 c0_i32_329
  let v689 : BitVec 1 := Scalar.andi v686 v688
  let v675 : BitVec 32 := Scalar.divsi v674 c8_i32_324
  let c1_i32_330 : BitVec 32 := 1#32
  let v690 : BitVec 32 := Scalar.subi v675 c1_i32_330
  let v691 : BitVec 32 := Scalar.select v689 v690 v675
  let c8_i32_331 : BitVec 32 := 8#32
  let v692 : BitVec 32 := Scalar.muli v691 c8_i32_331
  let v693 : BitVec 32 := Scalar.maxsi c0_i32_332 v692
  let v694 : BitVec 32 := Scalar.minsi c2094072_i32_333 v693
  let v695 : BitVec 32 := v694
  let v697 : BitVec 32 := Scalar.subi v674 v695
  let v698 : BitVec 32 := Scalar.select v696 c7_i32_335 v697
  let c1_i32_336 : BitVec 32 := 1#32
  let v699 : BitVec 32 := Scalar.addi v651 c1_i32_336
  let c0_i32_337 : BitVec 32 := 0#32
  let v701 : BitVec 1 := Scalar.cmpi .sgt v699 c0_i32_337
  let v702 : BitVec 32 := Scalar.extui v701
  let c0_i32_338 : BitVec 32 := 0#32
  let v703 : BitVec 1 := Scalar.cmpi .slt v699 c0_i32_338
  let v704 : BitVec 32 := Scalar.extui v703
  let v705 : BitVec 32 := Scalar.subi v702 v704
  let c256_i32 : BitVec 32 := 256#32
  let c0_i32_339 : BitVec 32 := 0#32
  let v706 : BitVec 1 := Scalar.cmpi .sgt c256_i32 c0_i32_339
  let v707 : BitVec 32 := Scalar.extui v706
  let c0_i32_340 : BitVec 32 := 0#32
  let v708 : BitVec 1 := Scalar.cmpi .slt c256_i32 c0_i32_340
  let v709 : BitVec 32 := Scalar.extui v708
  let v710 : BitVec 32 := Scalar.subi v707 v709
  let v711 : BitVec 1 := Scalar.cmpi .ne v705 v710
  let v712 : BitVec 32 := Scalar.remsi v699 c256_i32
  let c0_i32_341 : BitVec 32 := 0#32
  let v713 : BitVec 1 := Scalar.cmpi .ne v712 c0_i32_341
  let v714 : BitVec 1 := Scalar.andi v711 v713
  let v700 : BitVec 32 := Scalar.divsi v699 c256_i32
  let c1_i32_342 : BitVec 32 := 1#32
  let v715 : BitVec 32 := Scalar.subi v700 c1_i32_342
  let v716 : BitVec 32 := Scalar.select v714 v715 v700
  let c8_i32_344 : BitVec 32 := 8#32
  let v717 : BitVec 32 := Scalar.subi c8_i32_344 v716
  let c1_i32_345 : BitVec 32 := 1#32
  let v719 : BitVec 32 := Scalar.divsi v717 c1_i32_345
  let v720 : BitVec 32 := Scalar.muli v719 c1_i32_345
  let v721 : BitVec 32 := Scalar.addi v716 v720
  let c1_i32_347 : BitVec 32 := 1#32
  let arg21 : BitVec 32 := Scf.iv v721 c1_i32_347 k0_t3
  let c256_i32_755 : BitVec 32 := 256#32
  let v1529 : BitVec 32 := Scalar.muli arg21 c256_i32_755
  let v1530 : BitVec 32 := Scalar.addi v698 v1529
  let v1531 : BitVec 32 := Scalar.addi v1530 c0_i32_756
  let v1532 : Index := Scalar.indexCast v1531
  ![v1532.toNat]
def k0_off28 (i : grid0.Coords) (k0_t1 : Fin k0_t1_loop.trips) (k0_t3 : Fin (k0_t3_loop i k0_t1).trips) (c0_i32_760 : BitVec 32) : Fin 1 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_313 : BitVec 32 := 32#32
  let v650 : BitVec 32 := Scalar.muli v558 c32_i32_313
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v651 : BitVec 32 := Scalar.addi v650 v1
  let c1_i32_336 : BitVec 32 := 1#32
  let v699 : BitVec 32 := Scalar.addi v651 c1_i32_336
  let c0_i32_337 : BitVec 32 := 0#32
  let v701 : BitVec 1 := Scalar.cmpi .sgt v699 c0_i32_337
  let v702 : BitVec 32 := Scalar.extui v701
  let c0_i32_338 : BitVec 32 := 0#32
  let v703 : BitVec 1 := Scalar.cmpi .slt v699 c0_i32_338
  let v704 : BitVec 32 := Scalar.extui v703
  let v705 : BitVec 32 := Scalar.subi v702 v704
  let c256_i32 : BitVec 32 := 256#32
  let c0_i32_339 : BitVec 32 := 0#32
  let v706 : BitVec 1 := Scalar.cmpi .sgt c256_i32 c0_i32_339
  let v707 : BitVec 32 := Scalar.extui v706
  let c0_i32_340 : BitVec 32 := 0#32
  let v708 : BitVec 1 := Scalar.cmpi .slt c256_i32 c0_i32_340
  let v709 : BitVec 32 := Scalar.extui v708
  let v710 : BitVec 32 := Scalar.subi v707 v709
  let v711 : BitVec 1 := Scalar.cmpi .ne v705 v710
  let v712 : BitVec 32 := Scalar.remsi v699 c256_i32
  let c0_i32_341 : BitVec 32 := 0#32
  let v713 : BitVec 1 := Scalar.cmpi .ne v712 c0_i32_341
  let v714 : BitVec 1 := Scalar.andi v711 v713
  let v700 : BitVec 32 := Scalar.divsi v699 c256_i32
  let c1_i32_342 : BitVec 32 := 1#32
  let v715 : BitVec 32 := Scalar.subi v700 c1_i32_342
  let v716 : BitVec 32 := Scalar.select v714 v715 v700
  let c8_i32_344 : BitVec 32 := 8#32
  let v717 : BitVec 32 := Scalar.subi c8_i32_344 v716
  let c1_i32_345 : BitVec 32 := 1#32
  let v719 : BitVec 32 := Scalar.divsi v717 c1_i32_345
  let v720 : BitVec 32 := Scalar.muli v719 c1_i32_345
  let v721 : BitVec 32 := Scalar.addi v716 v720
  let c1_i32_347 : BitVec 32 := 1#32
  let arg21 : BitVec 32 := Scf.iv v721 c1_i32_347 k0_t3
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
def k0_mult32 (i : grid0.Coords) (k0_t1 : Fin k0_t1_loop.trips) : BitVec 32 :=
  let c2094072_i32_368 : BitVec 32 := 2094072#32
  let c0_i32_367 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_348 : BitVec 32 := 32#32
  let v722 : BitVec 32 := Scalar.muli v558 c32_i32_348
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v723 : BitVec 32 := Scalar.addi v722 v1
  let c2047_i32_349 : BitVec 32 := 2047#32
  let v724 : BitVec 32 := Scalar.muli v723 c2047_i32_349
  let c1_i32_350 : BitVec 32 := 1#32
  let v725 : BitVec 32 := Scalar.subi v723 c1_i32_350
  let v726 : BitVec 32 := Scalar.muli v723 v725
  let c0_i32_352 : BitVec 32 := 0#32
  let v728 : BitVec 1 := Scalar.cmpi .sgt v726 c0_i32_352
  let v729 : BitVec 32 := Scalar.extui v728
  let c0_i32_353 : BitVec 32 := 0#32
  let v730 : BitVec 1 := Scalar.cmpi .slt v726 c0_i32_353
  let v731 : BitVec 32 := Scalar.extui v730
  let v732 : BitVec 32 := Scalar.subi v729 v731
  let c2_i32_351 : BitVec 32 := 2#32
  let c0_i32_354 : BitVec 32 := 0#32
  let v733 : BitVec 1 := Scalar.cmpi .sgt c2_i32_351 c0_i32_354
  let v734 : BitVec 32 := Scalar.extui v733
  let c0_i32_355 : BitVec 32 := 0#32
  let v735 : BitVec 1 := Scalar.cmpi .slt c2_i32_351 c0_i32_355
  let v736 : BitVec 32 := Scalar.extui v735
  let v737 : BitVec 32 := Scalar.subi v734 v736
  let v738 : BitVec 1 := Scalar.cmpi .ne v732 v737
  let v739 : BitVec 32 := Scalar.remsi v726 c2_i32_351
  let c0_i32_356 : BitVec 32 := 0#32
  let v740 : BitVec 1 := Scalar.cmpi .ne v739 c0_i32_356
  let v741 : BitVec 1 := Scalar.andi v738 v740
  let v727 : BitVec 32 := Scalar.divsi v726 c2_i32_351
  let c1_i32_357 : BitVec 32 := 1#32
  let v742 : BitVec 32 := Scalar.subi v727 c1_i32_357
  let v743 : BitVec 32 := Scalar.select v741 v742 v727
  let v744 : BitVec 32 := Scalar.subi v724 v743
  let v745 : BitVec 32 := Scalar.subi v744 v723
  let c1_i32_358 : BitVec 32 := 1#32
  let v746 : BitVec 32 := Scalar.subi v745 c1_i32_358
  let c0_i32_360 : BitVec 32 := 0#32
  let v748 : BitVec 1 := Scalar.cmpi .sgt v746 c0_i32_360
  let v749 : BitVec 32 := Scalar.extui v748
  let c0_i32_361 : BitVec 32 := 0#32
  let v750 : BitVec 1 := Scalar.cmpi .slt v746 c0_i32_361
  let v751 : BitVec 32 := Scalar.extui v750
  let v752 : BitVec 32 := Scalar.subi v749 v751
  let c8_i32_359 : BitVec 32 := 8#32
  let c0_i32_362 : BitVec 32 := 0#32
  let v753 : BitVec 1 := Scalar.cmpi .sgt c8_i32_359 c0_i32_362
  let v754 : BitVec 32 := Scalar.extui v753
  let c0_i32_363 : BitVec 32 := 0#32
  let v755 : BitVec 1 := Scalar.cmpi .slt c8_i32_359 c0_i32_363
  let v756 : BitVec 32 := Scalar.extui v755
  let v757 : BitVec 32 := Scalar.subi v754 v756
  let v758 : BitVec 1 := Scalar.cmpi .ne v752 v757
  let v759 : BitVec 32 := Scalar.remsi v746 c8_i32_359
  let c0_i32_364 : BitVec 32 := 0#32
  let v760 : BitVec 1 := Scalar.cmpi .ne v759 c0_i32_364
  let v761 : BitVec 1 := Scalar.andi v758 v760
  let v747 : BitVec 32 := Scalar.divsi v746 c8_i32_359
  let c1_i32_365 : BitVec 32 := 1#32
  let v762 : BitVec 32 := Scalar.subi v747 c1_i32_365
  let v763 : BitVec 32 := Scalar.select v761 v762 v747
  let c8_i32_366 : BitVec 32 := 8#32
  let v764 : BitVec 32 := Scalar.muli v763 c8_i32_366
  let v765 : BitVec 32 := Scalar.maxsi c0_i32_367 v764
  let v766 : BitVec 32 := Scalar.minsi c2094072_i32_368 v765
  v766
def k0_cond32 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_348 : BitVec 32 := 32#32
  let v722 : BitVec 32 := Scalar.muli v558 c32_i32_348
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v723 : BitVec 32 := Scalar.addi v722 v1
  let c0_i32_372 : BitVec 32 := 0#32
  let v772 : BitVec 1 := Scalar.cmpi .sgt v723 c0_i32_372
  let v773 : BitVec 32 := Scalar.extui v772
  let c0_i32_373 : BitVec 32 := 0#32
  let v774 : BitVec 1 := Scalar.cmpi .slt v723 c0_i32_373
  let v775 : BitVec 32 := Scalar.extui v774
  let v776 : BitVec 32 := Scalar.subi v773 v775
  let c512_i32_371 : BitVec 32 := 512#32
  let c0_i32_374 : BitVec 32 := 0#32
  let v777 : BitVec 1 := Scalar.cmpi .sgt c512_i32_371 c0_i32_374
  let v778 : BitVec 32 := Scalar.extui v777
  let c0_i32_375 : BitVec 32 := 0#32
  let v779 : BitVec 1 := Scalar.cmpi .slt c512_i32_371 c0_i32_375
  let v780 : BitVec 32 := Scalar.extui v779
  let v781 : BitVec 32 := Scalar.subi v778 v780
  let v782 : BitVec 1 := Scalar.cmpi .ne v776 v781
  let v783 : BitVec 32 := Scalar.remsi v723 c512_i32_371
  let c0_i32_376 : BitVec 32 := 0#32
  let v784 : BitVec 1 := Scalar.cmpi .ne v783 c0_i32_376
  let v785 : BitVec 1 := Scalar.andi v782 v784
  let v771 : BitVec 32 := Scalar.divsi v723 c512_i32_371
  let c1_i32_377 : BitVec 32 := 1#32
  let v786 : BitVec 32 := Scalar.subi v771 c1_i32_377
  let v787 : BitVec 32 := Scalar.select v785 v786 v771
  let c0_i32_378 : BitVec 32 := 0#32
  let v788 : BitVec 1 := Scalar.cmpi .eq v787 c0_i32_378
  let v789 : BitVec 32 := Scalar.extui v788
  let c0_i32_379 : BitVec 32 := 0#32
  let v790 : BitVec 1 := Scalar.cmpi .ne v789 c0_i32_379
  v790

def k0_mult33 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off29 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c0_i32_780 : BitVec 32 := 0#32
  ![v1530.toNat, 0]
def k0_cond33 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_348 : BitVec 32 := 32#32
  let v722 : BitVec 32 := Scalar.muli v558 c32_i32_348
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v723 : BitVec 32 := Scalar.addi v722 v1
  let c0_i32_372 : BitVec 32 := 0#32
  let v772 : BitVec 1 := Scalar.cmpi .sgt v723 c0_i32_372
  let v773 : BitVec 32 := Scalar.extui v772
  let c0_i32_373 : BitVec 32 := 0#32
  let v774 : BitVec 1 := Scalar.cmpi .slt v723 c0_i32_373
  let v775 : BitVec 32 := Scalar.extui v774
  let v776 : BitVec 32 := Scalar.subi v773 v775
  let c512_i32_371 : BitVec 32 := 512#32
  let c0_i32_374 : BitVec 32 := 0#32
  let v777 : BitVec 1 := Scalar.cmpi .sgt c512_i32_371 c0_i32_374
  let v778 : BitVec 32 := Scalar.extui v777
  let c0_i32_375 : BitVec 32 := 0#32
  let v779 : BitVec 1 := Scalar.cmpi .slt c512_i32_371 c0_i32_375
  let v780 : BitVec 32 := Scalar.extui v779
  let v781 : BitVec 32 := Scalar.subi v778 v780
  let v782 : BitVec 1 := Scalar.cmpi .ne v776 v781
  let v783 : BitVec 32 := Scalar.remsi v723 c512_i32_371
  let c0_i32_376 : BitVec 32 := 0#32
  let v784 : BitVec 1 := Scalar.cmpi .ne v783 c0_i32_376
  let v785 : BitVec 1 := Scalar.andi v782 v784
  let v771 : BitVec 32 := Scalar.divsi v723 c512_i32_371
  let c1_i32_377 : BitVec 32 := 1#32
  let v786 : BitVec 32 := Scalar.subi v771 c1_i32_377
  let v787 : BitVec 32 := Scalar.select v785 v786 v771
  let c1_i32_380 : BitVec 32 := 1#32
  let v791 : BitVec 1 := Scalar.cmpi .eq v787 c1_i32_380
  let v792 : BitVec 32 := Scalar.extui v791
  let c0_i32_381 : BitVec 32 := 0#32
  let v793 : BitVec 1 := Scalar.cmpi .ne v792 c0_i32_381
  v793

def k0_mult34 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off30 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c512_i32_780 : BitVec 32 := 512#32
  ![v1530.toNat, 512]
def k0_cond34 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_348 : BitVec 32 := 32#32
  let v722 : BitVec 32 := Scalar.muli v558 c32_i32_348
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v723 : BitVec 32 := Scalar.addi v722 v1
  let c0_i32_372 : BitVec 32 := 0#32
  let v772 : BitVec 1 := Scalar.cmpi .sgt v723 c0_i32_372
  let v773 : BitVec 32 := Scalar.extui v772
  let c0_i32_373 : BitVec 32 := 0#32
  let v774 : BitVec 1 := Scalar.cmpi .slt v723 c0_i32_373
  let v775 : BitVec 32 := Scalar.extui v774
  let v776 : BitVec 32 := Scalar.subi v773 v775
  let c512_i32_371 : BitVec 32 := 512#32
  let c0_i32_374 : BitVec 32 := 0#32
  let v777 : BitVec 1 := Scalar.cmpi .sgt c512_i32_371 c0_i32_374
  let v778 : BitVec 32 := Scalar.extui v777
  let c0_i32_375 : BitVec 32 := 0#32
  let v779 : BitVec 1 := Scalar.cmpi .slt c512_i32_371 c0_i32_375
  let v780 : BitVec 32 := Scalar.extui v779
  let v781 : BitVec 32 := Scalar.subi v778 v780
  let v782 : BitVec 1 := Scalar.cmpi .ne v776 v781
  let v783 : BitVec 32 := Scalar.remsi v723 c512_i32_371
  let c0_i32_376 : BitVec 32 := 0#32
  let v784 : BitVec 1 := Scalar.cmpi .ne v783 c0_i32_376
  let v785 : BitVec 1 := Scalar.andi v782 v784
  let v771 : BitVec 32 := Scalar.divsi v723 c512_i32_371
  let c1_i32_377 : BitVec 32 := 1#32
  let v786 : BitVec 32 := Scalar.subi v771 c1_i32_377
  let v787 : BitVec 32 := Scalar.select v785 v786 v771
  let c2_i32_382 : BitVec 32 := 2#32
  let v794 : BitVec 1 := Scalar.cmpi .eq v787 c2_i32_382
  let v795 : BitVec 32 := Scalar.extui v794
  let c0_i32_383 : BitVec 32 := 0#32
  let v796 : BitVec 1 := Scalar.cmpi .ne v795 c0_i32_383
  v796

def k0_mult35 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off31 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1024_i32_779 : BitVec 32 := 1024#32
  ![v1530.toNat, 1024]
def k0_cond35 (i : grid0.Coords) (k0_t1 : Fin k0_t1_loop.trips) : BitVec 1 :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_348 : BitVec 32 := 32#32
  let v722 : BitVec 32 := Scalar.muli v558 c32_i32_348
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v723 : BitVec 32 := Scalar.addi v722 v1
  let c0_i32_372 : BitVec 32 := 0#32
  let v772 : BitVec 1 := Scalar.cmpi .sgt v723 c0_i32_372
  let v773 : BitVec 32 := Scalar.extui v772
  let c0_i32_373 : BitVec 32 := 0#32
  let v774 : BitVec 1 := Scalar.cmpi .slt v723 c0_i32_373
  let v775 : BitVec 32 := Scalar.extui v774
  let v776 : BitVec 32 := Scalar.subi v773 v775
  let c512_i32_371 : BitVec 32 := 512#32
  let c0_i32_374 : BitVec 32 := 0#32
  let v777 : BitVec 1 := Scalar.cmpi .sgt c512_i32_371 c0_i32_374
  let v778 : BitVec 32 := Scalar.extui v777
  let c0_i32_375 : BitVec 32 := 0#32
  let v779 : BitVec 1 := Scalar.cmpi .slt c512_i32_371 c0_i32_375
  let v780 : BitVec 32 := Scalar.extui v779
  let v781 : BitVec 32 := Scalar.subi v778 v780
  let v782 : BitVec 1 := Scalar.cmpi .ne v776 v781
  let v783 : BitVec 32 := Scalar.remsi v723 c512_i32_371
  let c0_i32_376 : BitVec 32 := 0#32
  let v784 : BitVec 1 := Scalar.cmpi .ne v783 c0_i32_376
  let v785 : BitVec 1 := Scalar.andi v782 v784
  let v771 : BitVec 32 := Scalar.divsi v723 c512_i32_371
  let c1_i32_377 : BitVec 32 := 1#32
  let v786 : BitVec 32 := Scalar.subi v771 c1_i32_377
  let v787 : BitVec 32 := Scalar.select v785 v786 v771
  let c3_i32_384 : BitVec 32 := 3#32
  let v797 : BitVec 1 := Scalar.cmpi .eq v787 c3_i32_384
  let v798 : BitVec 32 := Scalar.extui v797
  let c0_i32_385 : BitVec 32 := 0#32
  let v799 : BitVec 1 := Scalar.cmpi .ne v798 c0_i32_385
  v799

def k0_mult36 (i : grid0.Coords) (k0_t1 : Fin k0_t1_loop.trips) : BitVec 32 :=
  let c2094072_i32_775 : BitVec 32 := 2094072#32
  let c0_i32_774 : BitVec 32 := 0#32
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off32 (i : grid0.Coords) (k0_t1 : Fin k0_t1_loop.trips) : Fin 2 → Nat :=
  let c4_i32 : BitVec 32 := 4#32
  let c0_i32_114 : BitVec 32 := 0#32
  let c1_i32_115 : BitVec 32 := 1#32
  let arg20 : BitVec 32 := Scf.iv c0_i32_114 c1_i32_115 k0_t1
  let v557 : BitVec 32 := Scalar.muli c4_i32 arg20
  let c0_i32_265 : BitVec 32 := 0#32
  let v558 : BitVec 32 := Scalar.addi v557 c0_i32_265
  let c32_i32_755 : BitVec 32 := 32#32
  let v1529 : BitVec 32 := Scalar.muli v558 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1536_i32_779 : BitVec 32 := 1536#32
  ![v1530.toNat, 1536]
def k0_cond36 (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_388 : BitVec 32 := 4#32
  let v802 : BitVec 32 := Scalar.addi v801 c4_i32_388
  let c1_i32_389 : BitVec 32 := 1#32
  let v803 : BitVec 32 := Scalar.subi v802 c1_i32_389
  let c64_i32_390 : BitVec 32 := 64#32
  let v804 : BitVec 1 := Scalar.cmpi .slt v803 c64_i32_390
  let v805 : BitVec 32 := Scalar.extui v804
  let c0_i32_391 : BitVec 32 := 0#32
  let v806 : BitVec 1 := Scalar.cmpi .ne v805 c0_i32_391
  v806

def k0_mult37 (i : grid0.Coords) (k0_t1 : Fin k0_t1_loop.trips) : BitVec 32 :=
  let c2094072_i32_777 : BitVec 32 := 2094072#32
  let c0_i32_776 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c2047_i32_758 : BitVec 32 := 2047#32
  let v1533 : BitVec 32 := Scalar.muli v1532 c2047_i32_758
  let c1_i32_759 : BitVec 32 := 1#32
  let v1534 : BitVec 32 := Scalar.subi v1532 c1_i32_759
  let v1535 : BitVec 32 := Scalar.muli v1532 v1534
  let c0_i32_761 : BitVec 32 := 0#32
  let v1537 : BitVec 1 := Scalar.cmpi .sgt v1535 c0_i32_761
  let v1538 : BitVec 32 := Scalar.extui v1537
  let c0_i32_762 : BitVec 32 := 0#32
  let v1539 : BitVec 1 := Scalar.cmpi .slt v1535 c0_i32_762
  let v1540 : BitVec 32 := Scalar.extui v1539
  let v1541 : BitVec 32 := Scalar.subi v1538 v1540
  let c2_i32_760 : BitVec 32 := 2#32
  let c0_i32_763 : BitVec 32 := 0#32
  let v1542 : BitVec 1 := Scalar.cmpi .sgt c2_i32_760 c0_i32_763
  let v1543 : BitVec 32 := Scalar.extui v1542
  let c0_i32_764 : BitVec 32 := 0#32
  let v1544 : BitVec 1 := Scalar.cmpi .slt c2_i32_760 c0_i32_764
  let v1545 : BitVec 32 := Scalar.extui v1544
  let v1546 : BitVec 32 := Scalar.subi v1543 v1545
  let v1547 : BitVec 1 := Scalar.cmpi .ne v1541 v1546
  let v1548 : BitVec 32 := Scalar.remsi v1535 c2_i32_760
  let c0_i32_765 : BitVec 32 := 0#32
  let v1549 : BitVec 1 := Scalar.cmpi .ne v1548 c0_i32_765
  let v1550 : BitVec 1 := Scalar.andi v1547 v1549
  let v1536 : BitVec 32 := Scalar.divsi v1535 c2_i32_760
  let c1_i32_766 : BitVec 32 := 1#32
  let v1551 : BitVec 32 := Scalar.subi v1536 c1_i32_766
  let v1552 : BitVec 32 := Scalar.select v1550 v1551 v1536
  let v1553 : BitVec 32 := Scalar.subi v1533 v1552
  let v1554 : BitVec 32 := Scalar.subi v1553 v1532
  let c1_i32_767 : BitVec 32 := 1#32
  let v1555 : BitVec 32 := Scalar.subi v1554 c1_i32_767
  let c0_i32_769 : BitVec 32 := 0#32
  let v1557 : BitVec 1 := Scalar.cmpi .sgt v1555 c0_i32_769
  let v1558 : BitVec 32 := Scalar.extui v1557
  let c0_i32_770 : BitVec 32 := 0#32
  let v1559 : BitVec 1 := Scalar.cmpi .slt v1555 c0_i32_770
  let v1560 : BitVec 32 := Scalar.extui v1559
  let v1561 : BitVec 32 := Scalar.subi v1558 v1560
  let c8_i32_768 : BitVec 32 := 8#32
  let c0_i32_771 : BitVec 32 := 0#32
  let v1562 : BitVec 1 := Scalar.cmpi .sgt c8_i32_768 c0_i32_771
  let v1563 : BitVec 32 := Scalar.extui v1562
  let c0_i32_772 : BitVec 32 := 0#32
  let v1564 : BitVec 1 := Scalar.cmpi .slt c8_i32_768 c0_i32_772
  let v1565 : BitVec 32 := Scalar.extui v1564
  let v1566 : BitVec 32 := Scalar.subi v1563 v1565
  let v1567 : BitVec 1 := Scalar.cmpi .ne v1561 v1566
  let v1568 : BitVec 32 := Scalar.remsi v1555 c8_i32_768
  let c0_i32_773 : BitVec 32 := 0#32
  let v1569 : BitVec 1 := Scalar.cmpi .ne v1568 c0_i32_773
  let v1570 : BitVec 1 := Scalar.andi v1567 v1569
  let v1556 : BitVec 32 := Scalar.divsi v1555 c8_i32_768
  let c1_i32_774 : BitVec 32 := 1#32
  let v1571 : BitVec 32 := Scalar.subi v1556 c1_i32_774
  let v1572 : BitVec 32 := Scalar.select v1570 v1571 v1556
  let c8_i32_775 : BitVec 32 := 8#32
  let v1573 : BitVec 32 := Scalar.muli v1572 c8_i32_775
  let v1574 : BitVec 32 := Scalar.maxsi c0_i32_776 v1573
  let v1575 : BitVec 32 := Scalar.minsi c2094072_i32_777 v1574
  v1575
def k0_cond37 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c0_i32_787 : BitVec 32 := 0#32
  let v1597 : BitVec 1 := Scalar.cmpi .eq v1596 c0_i32_787
  let c0_i32_788 : BitVec 32 := 0#32
  let v1598 : BitVec 1 := Scalar.cmpi .sgt v1532 c0_i32_788
  let v1599 : BitVec 1 := Scalar.andi v1597 v1598
  let v1600 : BitVec 32 := Scalar.extui v1599
  let c0_i32_789 : BitVec 32 := 0#32
  let v1601 : BitVec 1 := Scalar.cmpi .ne v1600 c0_i32_789
  v1601

def k0_mult38 (i : grid0.Coords) (k0_t1 : Fin k0_t1_loop.trips) : BitVec 32 :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off33 (i : grid0.Coords) (k0_t1 : Fin k0_t1_loop.trips) : Fin 1 → Nat :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c0_i32_821 : BitVec 32 := 0#32
  let v1663 : BitVec 32 := Scalar.addi v1659 c0_i32_821
  ![v1663.toNat]
def k0_cond38 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c1_i32_790 : BitVec 32 := 1#32
  let v1602 : BitVec 1 := Scalar.cmpi .eq v1596 c1_i32_790
  let v1603 : BitVec 32 := Scalar.extui v1602
  let c0_i32_791 : BitVec 32 := 0#32
  let v1604 : BitVec 1 := Scalar.cmpi .ne v1603 c0_i32_791
  v1604

def k0_mult39 (i : grid0.Coords) (k0_t1 : Fin k0_t1_loop.trips) : BitVec 32 :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off34 (i : grid0.Coords) (k0_t1 : Fin k0_t1_loop.trips) : Fin 1 → Nat :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c512_i32_821 : BitVec 32 := 512#32
  let v1663 : BitVec 32 := Scalar.addi v1659 c512_i32_821
  ![v1663.toNat]
def k0_cond39 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c2_i32_792 : BitVec 32 := 2#32
  let v1605 : BitVec 1 := Scalar.cmpi .eq v1596 c2_i32_792
  let v1606 : BitVec 32 := Scalar.extui v1605
  let c0_i32_793 : BitVec 32 := 0#32
  let v1607 : BitVec 1 := Scalar.cmpi .ne v1606 c0_i32_793
  v1607

def k0_mult40 (i : grid0.Coords) (k0_t1 : Fin k0_t1_loop.trips) : BitVec 32 :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off35 (i : grid0.Coords) (k0_t1 : Fin k0_t1_loop.trips) : Fin 1 → Nat :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1024_i32 : BitVec 32 := 1024#32
  let v1663 : BitVec 32 := Scalar.addi v1659 c1024_i32
  ![v1663.toNat]
def k0_cond40 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c3_i32_794 : BitVec 32 := 3#32
  let v1608 : BitVec 1 := Scalar.cmpi .eq v1596 c3_i32_794
  let v1609 : BitVec 32 := Scalar.extui v1608
  let c0_i32_795 : BitVec 32 := 0#32
  let v1610 : BitVec 1 := Scalar.cmpi .ne v1609 c0_i32_795
  v1610

def k0_mult41 (i : grid0.Coords) (k0_t1 : Fin k0_t1_loop.trips) : BitVec 32 :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off36 (i : grid0.Coords) (k0_t1 : Fin k0_t1_loop.trips) : Fin 1 → Nat :=
  let c2094072_i32_818 : BitVec 32 := 2094072#32
  let c0_i32_817 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.addi v801 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1536_i32 : BitVec 32 := 1536#32
  let v1663 : BitVec 32 := Scalar.addi v1659 c1536_i32
  ![v1663.toNat]
def k0_mult42 (i : grid0.Coords) (k0_t1 : Fin k0_t1_loop.trips) : BitVec 32 :=
  let c2094072_i32_412 : BitVec 32 := 2094072#32
  let c0_i32_411 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_392 : BitVec 32 := 32#32
  let v807 : BitVec 32 := Scalar.muli v801 c32_i32_392
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v808 : BitVec 32 := Scalar.addi v807 v1
  let c2047_i32_393 : BitVec 32 := 2047#32
  let v809 : BitVec 32 := Scalar.muli v808 c2047_i32_393
  let c1_i32_394 : BitVec 32 := 1#32
  let v810 : BitVec 32 := Scalar.subi v808 c1_i32_394
  let v811 : BitVec 32 := Scalar.muli v808 v810
  let c0_i32_396 : BitVec 32 := 0#32
  let v813 : BitVec 1 := Scalar.cmpi .sgt v811 c0_i32_396
  let v814 : BitVec 32 := Scalar.extui v813
  let c0_i32_397 : BitVec 32 := 0#32
  let v815 : BitVec 1 := Scalar.cmpi .slt v811 c0_i32_397
  let v816 : BitVec 32 := Scalar.extui v815
  let v817 : BitVec 32 := Scalar.subi v814 v816
  let c2_i32_395 : BitVec 32 := 2#32
  let c0_i32_398 : BitVec 32 := 0#32
  let v818 : BitVec 1 := Scalar.cmpi .sgt c2_i32_395 c0_i32_398
  let v819 : BitVec 32 := Scalar.extui v818
  let c0_i32_399 : BitVec 32 := 0#32
  let v820 : BitVec 1 := Scalar.cmpi .slt c2_i32_395 c0_i32_399
  let v821 : BitVec 32 := Scalar.extui v820
  let v822 : BitVec 32 := Scalar.subi v819 v821
  let v823 : BitVec 1 := Scalar.cmpi .ne v817 v822
  let v824 : BitVec 32 := Scalar.remsi v811 c2_i32_395
  let c0_i32_400 : BitVec 32 := 0#32
  let v825 : BitVec 1 := Scalar.cmpi .ne v824 c0_i32_400
  let v826 : BitVec 1 := Scalar.andi v823 v825
  let v812 : BitVec 32 := Scalar.divsi v811 c2_i32_395
  let c1_i32_401 : BitVec 32 := 1#32
  let v827 : BitVec 32 := Scalar.subi v812 c1_i32_401
  let v828 : BitVec 32 := Scalar.select v826 v827 v812
  let v829 : BitVec 32 := Scalar.subi v809 v828
  let v830 : BitVec 32 := Scalar.subi v829 v808
  let c1_i32_402 : BitVec 32 := 1#32
  let v831 : BitVec 32 := Scalar.subi v830 c1_i32_402
  let c0_i32_404 : BitVec 32 := 0#32
  let v833 : BitVec 1 := Scalar.cmpi .sgt v831 c0_i32_404
  let v834 : BitVec 32 := Scalar.extui v833
  let c0_i32_405 : BitVec 32 := 0#32
  let v835 : BitVec 1 := Scalar.cmpi .slt v831 c0_i32_405
  let v836 : BitVec 32 := Scalar.extui v835
  let v837 : BitVec 32 := Scalar.subi v834 v836
  let c8_i32_403 : BitVec 32 := 8#32
  let c0_i32_406 : BitVec 32 := 0#32
  let v838 : BitVec 1 := Scalar.cmpi .sgt c8_i32_403 c0_i32_406
  let v839 : BitVec 32 := Scalar.extui v838
  let c0_i32_407 : BitVec 32 := 0#32
  let v840 : BitVec 1 := Scalar.cmpi .slt c8_i32_403 c0_i32_407
  let v841 : BitVec 32 := Scalar.extui v840
  let v842 : BitVec 32 := Scalar.subi v839 v841
  let v843 : BitVec 1 := Scalar.cmpi .ne v837 v842
  let v844 : BitVec 32 := Scalar.remsi v831 c8_i32_403
  let c0_i32_408 : BitVec 32 := 0#32
  let v845 : BitVec 1 := Scalar.cmpi .ne v844 c0_i32_408
  let v846 : BitVec 1 := Scalar.andi v843 v845
  let v832 : BitVec 32 := Scalar.divsi v831 c8_i32_403
  let c1_i32_409 : BitVec 32 := 1#32
  let v847 : BitVec 32 := Scalar.subi v832 c1_i32_409
  let v848 : BitVec 32 := Scalar.select v846 v847 v832
  let c8_i32_410 : BitVec 32 := 8#32
  let v849 : BitVec 32 := Scalar.muli v848 c8_i32_410
  let v850 : BitVec 32 := Scalar.maxsi c0_i32_411 v849
  let v851 : BitVec 32 := Scalar.minsi c2094072_i32_412 v850
  v851
def k0_cond42 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_392 : BitVec 32 := 32#32
  let v807 : BitVec 32 := Scalar.muli v801 c32_i32_392
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v808 : BitVec 32 := Scalar.addi v807 v1
  let c0_i32_416 : BitVec 32 := 0#32
  let v857 : BitVec 1 := Scalar.cmpi .sgt v808 c0_i32_416
  let v858 : BitVec 32 := Scalar.extui v857
  let c0_i32_417 : BitVec 32 := 0#32
  let v859 : BitVec 1 := Scalar.cmpi .slt v808 c0_i32_417
  let v860 : BitVec 32 := Scalar.extui v859
  let v861 : BitVec 32 := Scalar.subi v858 v860
  let c512_i32_415 : BitVec 32 := 512#32
  let c0_i32_418 : BitVec 32 := 0#32
  let v862 : BitVec 1 := Scalar.cmpi .sgt c512_i32_415 c0_i32_418
  let v863 : BitVec 32 := Scalar.extui v862
  let c0_i32_419 : BitVec 32 := 0#32
  let v864 : BitVec 1 := Scalar.cmpi .slt c512_i32_415 c0_i32_419
  let v865 : BitVec 32 := Scalar.extui v864
  let v866 : BitVec 32 := Scalar.subi v863 v865
  let v867 : BitVec 1 := Scalar.cmpi .ne v861 v866
  let v868 : BitVec 32 := Scalar.remsi v808 c512_i32_415
  let c0_i32_420 : BitVec 32 := 0#32
  let v869 : BitVec 1 := Scalar.cmpi .ne v868 c0_i32_420
  let v870 : BitVec 1 := Scalar.andi v867 v869
  let v856 : BitVec 32 := Scalar.divsi v808 c512_i32_415
  let c1_i32_421 : BitVec 32 := 1#32
  let v871 : BitVec 32 := Scalar.subi v856 c1_i32_421
  let v872 : BitVec 32 := Scalar.select v870 v871 v856
  let c0_i32_422 : BitVec 32 := 0#32
  let v873 : BitVec 1 := Scalar.cmpi .eq v872 c0_i32_422
  let c0_i32_423 : BitVec 32 := 0#32
  let v874 : BitVec 1 := Scalar.cmpi .sgt v808 c0_i32_423
  let v875 : BitVec 1 := Scalar.andi v873 v874
  let v876 : BitVec 32 := Scalar.extui v875
  let c0_i32_424 : BitVec 32 := 0#32
  let v877 : BitVec 1 := Scalar.cmpi .ne v876 c0_i32_424
  v877

def k0_mult43 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off37 (i : grid0.Coords) (k0_t1 : Fin k0_t1_loop.trips) : Fin 1 → Nat :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c0_i32_778 : BitVec 32 := 0#32
  let v1578 : BitVec 32 := Scalar.addi v1574 c0_i32_778
  ![v1578.toNat]
def k0_cond43 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_392 : BitVec 32 := 32#32
  let v807 : BitVec 32 := Scalar.muli v801 c32_i32_392
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v808 : BitVec 32 := Scalar.addi v807 v1
  let c0_i32_416 : BitVec 32 := 0#32
  let v857 : BitVec 1 := Scalar.cmpi .sgt v808 c0_i32_416
  let v858 : BitVec 32 := Scalar.extui v857
  let c0_i32_417 : BitVec 32 := 0#32
  let v859 : BitVec 1 := Scalar.cmpi .slt v808 c0_i32_417
  let v860 : BitVec 32 := Scalar.extui v859
  let v861 : BitVec 32 := Scalar.subi v858 v860
  let c512_i32_415 : BitVec 32 := 512#32
  let c0_i32_418 : BitVec 32 := 0#32
  let v862 : BitVec 1 := Scalar.cmpi .sgt c512_i32_415 c0_i32_418
  let v863 : BitVec 32 := Scalar.extui v862
  let c0_i32_419 : BitVec 32 := 0#32
  let v864 : BitVec 1 := Scalar.cmpi .slt c512_i32_415 c0_i32_419
  let v865 : BitVec 32 := Scalar.extui v864
  let v866 : BitVec 32 := Scalar.subi v863 v865
  let v867 : BitVec 1 := Scalar.cmpi .ne v861 v866
  let v868 : BitVec 32 := Scalar.remsi v808 c512_i32_415
  let c0_i32_420 : BitVec 32 := 0#32
  let v869 : BitVec 1 := Scalar.cmpi .ne v868 c0_i32_420
  let v870 : BitVec 1 := Scalar.andi v867 v869
  let v856 : BitVec 32 := Scalar.divsi v808 c512_i32_415
  let c1_i32_421 : BitVec 32 := 1#32
  let v871 : BitVec 32 := Scalar.subi v856 c1_i32_421
  let v872 : BitVec 32 := Scalar.select v870 v871 v856
  let c1_i32_425 : BitVec 32 := 1#32
  let v878 : BitVec 1 := Scalar.cmpi .eq v872 c1_i32_425
  let v879 : BitVec 32 := Scalar.extui v878
  let c0_i32_426 : BitVec 32 := 0#32
  let v880 : BitVec 1 := Scalar.cmpi .ne v879 c0_i32_426
  v880

def k0_mult44 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off38 (i : grid0.Coords) (k0_t1 : Fin k0_t1_loop.trips) : Fin 1 → Nat :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c512_i32_778 : BitVec 32 := 512#32
  let v1578 : BitVec 32 := Scalar.addi v1574 c512_i32_778
  ![v1578.toNat]
def k0_cond44 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_392 : BitVec 32 := 32#32
  let v807 : BitVec 32 := Scalar.muli v801 c32_i32_392
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v808 : BitVec 32 := Scalar.addi v807 v1
  let c0_i32_416 : BitVec 32 := 0#32
  let v857 : BitVec 1 := Scalar.cmpi .sgt v808 c0_i32_416
  let v858 : BitVec 32 := Scalar.extui v857
  let c0_i32_417 : BitVec 32 := 0#32
  let v859 : BitVec 1 := Scalar.cmpi .slt v808 c0_i32_417
  let v860 : BitVec 32 := Scalar.extui v859
  let v861 : BitVec 32 := Scalar.subi v858 v860
  let c512_i32_415 : BitVec 32 := 512#32
  let c0_i32_418 : BitVec 32 := 0#32
  let v862 : BitVec 1 := Scalar.cmpi .sgt c512_i32_415 c0_i32_418
  let v863 : BitVec 32 := Scalar.extui v862
  let c0_i32_419 : BitVec 32 := 0#32
  let v864 : BitVec 1 := Scalar.cmpi .slt c512_i32_415 c0_i32_419
  let v865 : BitVec 32 := Scalar.extui v864
  let v866 : BitVec 32 := Scalar.subi v863 v865
  let v867 : BitVec 1 := Scalar.cmpi .ne v861 v866
  let v868 : BitVec 32 := Scalar.remsi v808 c512_i32_415
  let c0_i32_420 : BitVec 32 := 0#32
  let v869 : BitVec 1 := Scalar.cmpi .ne v868 c0_i32_420
  let v870 : BitVec 1 := Scalar.andi v867 v869
  let v856 : BitVec 32 := Scalar.divsi v808 c512_i32_415
  let c1_i32_421 : BitVec 32 := 1#32
  let v871 : BitVec 32 := Scalar.subi v856 c1_i32_421
  let v872 : BitVec 32 := Scalar.select v870 v871 v856
  let c2_i32_427 : BitVec 32 := 2#32
  let v881 : BitVec 1 := Scalar.cmpi .eq v872 c2_i32_427
  let v882 : BitVec 32 := Scalar.extui v881
  let c0_i32_428 : BitVec 32 := 0#32
  let v883 : BitVec 1 := Scalar.cmpi .ne v882 c0_i32_428
  v883

def k0_mult45 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off39 (i : grid0.Coords) (k0_t1 : Fin k0_t1_loop.trips) : Fin 1 → Nat :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1024_i32 : BitVec 32 := 1024#32
  let v1578 : BitVec 32 := Scalar.addi v1574 c1024_i32
  ![v1578.toNat]
def k0_cond45 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_392 : BitVec 32 := 32#32
  let v807 : BitVec 32 := Scalar.muli v801 c32_i32_392
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v808 : BitVec 32 := Scalar.addi v807 v1
  let c0_i32_416 : BitVec 32 := 0#32
  let v857 : BitVec 1 := Scalar.cmpi .sgt v808 c0_i32_416
  let v858 : BitVec 32 := Scalar.extui v857
  let c0_i32_417 : BitVec 32 := 0#32
  let v859 : BitVec 1 := Scalar.cmpi .slt v808 c0_i32_417
  let v860 : BitVec 32 := Scalar.extui v859
  let v861 : BitVec 32 := Scalar.subi v858 v860
  let c512_i32_415 : BitVec 32 := 512#32
  let c0_i32_418 : BitVec 32 := 0#32
  let v862 : BitVec 1 := Scalar.cmpi .sgt c512_i32_415 c0_i32_418
  let v863 : BitVec 32 := Scalar.extui v862
  let c0_i32_419 : BitVec 32 := 0#32
  let v864 : BitVec 1 := Scalar.cmpi .slt c512_i32_415 c0_i32_419
  let v865 : BitVec 32 := Scalar.extui v864
  let v866 : BitVec 32 := Scalar.subi v863 v865
  let v867 : BitVec 1 := Scalar.cmpi .ne v861 v866
  let v868 : BitVec 32 := Scalar.remsi v808 c512_i32_415
  let c0_i32_420 : BitVec 32 := 0#32
  let v869 : BitVec 1 := Scalar.cmpi .ne v868 c0_i32_420
  let v870 : BitVec 1 := Scalar.andi v867 v869
  let v856 : BitVec 32 := Scalar.divsi v808 c512_i32_415
  let c1_i32_421 : BitVec 32 := 1#32
  let v871 : BitVec 32 := Scalar.subi v856 c1_i32_421
  let v872 : BitVec 32 := Scalar.select v870 v871 v856
  let c3_i32_429 : BitVec 32 := 3#32
  let v884 : BitVec 1 := Scalar.cmpi .eq v872 c3_i32_429
  let v885 : BitVec 32 := Scalar.extui v884
  let c0_i32_430 : BitVec 32 := 0#32
  let v886 : BitVec 1 := Scalar.cmpi .ne v885 c0_i32_430
  v886

def k0_mult46 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off40 (i : grid0.Coords) (k0_t1 : Fin k0_t1_loop.trips) : Fin 1 → Nat :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1536_i32 : BitVec 32 := 1536#32
  let v1578 : BitVec 32 := Scalar.addi v1574 c1536_i32
  ![v1578.toNat]
def k0_cond47 (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_433 : BitVec 32 := 4#32
  let v890 : BitVec 1 := Scalar.cmpi .sge v801 c4_i32_433
  let v891 : BitVec 32 := Scalar.extui v890
  let c0_i32_434 : BitVec 32 := 0#32
  let v892 : BitVec 1 := Scalar.cmpi .ne v891 c0_i32_434
  v892

def k0_mult47 (i : grid0.Coords) (k0_t1 : Fin k0_t1_loop.trips) : BitVec 32 :=
  let c2094072_i32_776 : BitVec 32 := 2094072#32
  let c0_i32_775 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c2047_i32_757 : BitVec 32 := 2047#32
  let v1532 : BitVec 32 := Scalar.muli v1531 c2047_i32_757
  let c1_i32_758 : BitVec 32 := 1#32
  let v1533 : BitVec 32 := Scalar.subi v1531 c1_i32_758
  let v1534 : BitVec 32 := Scalar.muli v1531 v1533
  let c0_i32_760 : BitVec 32 := 0#32
  let v1536 : BitVec 1 := Scalar.cmpi .sgt v1534 c0_i32_760
  let v1537 : BitVec 32 := Scalar.extui v1536
  let c0_i32_761 : BitVec 32 := 0#32
  let v1538 : BitVec 1 := Scalar.cmpi .slt v1534 c0_i32_761
  let v1539 : BitVec 32 := Scalar.extui v1538
  let v1540 : BitVec 32 := Scalar.subi v1537 v1539
  let c2_i32_759 : BitVec 32 := 2#32
  let c0_i32_762 : BitVec 32 := 0#32
  let v1541 : BitVec 1 := Scalar.cmpi .sgt c2_i32_759 c0_i32_762
  let v1542 : BitVec 32 := Scalar.extui v1541
  let c0_i32_763 : BitVec 32 := 0#32
  let v1543 : BitVec 1 := Scalar.cmpi .slt c2_i32_759 c0_i32_763
  let v1544 : BitVec 32 := Scalar.extui v1543
  let v1545 : BitVec 32 := Scalar.subi v1542 v1544
  let v1546 : BitVec 1 := Scalar.cmpi .ne v1540 v1545
  let v1547 : BitVec 32 := Scalar.remsi v1534 c2_i32_759
  let c0_i32_764 : BitVec 32 := 0#32
  let v1548 : BitVec 1 := Scalar.cmpi .ne v1547 c0_i32_764
  let v1549 : BitVec 1 := Scalar.andi v1546 v1548
  let v1535 : BitVec 32 := Scalar.divsi v1534 c2_i32_759
  let c1_i32_765 : BitVec 32 := 1#32
  let v1550 : BitVec 32 := Scalar.subi v1535 c1_i32_765
  let v1551 : BitVec 32 := Scalar.select v1549 v1550 v1535
  let v1552 : BitVec 32 := Scalar.subi v1532 v1551
  let v1553 : BitVec 32 := Scalar.subi v1552 v1531
  let c1_i32_766 : BitVec 32 := 1#32
  let v1554 : BitVec 32 := Scalar.subi v1553 c1_i32_766
  let c0_i32_768 : BitVec 32 := 0#32
  let v1556 : BitVec 1 := Scalar.cmpi .sgt v1554 c0_i32_768
  let v1557 : BitVec 32 := Scalar.extui v1556
  let c0_i32_769 : BitVec 32 := 0#32
  let v1558 : BitVec 1 := Scalar.cmpi .slt v1554 c0_i32_769
  let v1559 : BitVec 32 := Scalar.extui v1558
  let v1560 : BitVec 32 := Scalar.subi v1557 v1559
  let c8_i32_767 : BitVec 32 := 8#32
  let c0_i32_770 : BitVec 32 := 0#32
  let v1561 : BitVec 1 := Scalar.cmpi .sgt c8_i32_767 c0_i32_770
  let v1562 : BitVec 32 := Scalar.extui v1561
  let c0_i32_771 : BitVec 32 := 0#32
  let v1563 : BitVec 1 := Scalar.cmpi .slt c8_i32_767 c0_i32_771
  let v1564 : BitVec 32 := Scalar.extui v1563
  let v1565 : BitVec 32 := Scalar.subi v1562 v1564
  let v1566 : BitVec 1 := Scalar.cmpi .ne v1560 v1565
  let v1567 : BitVec 32 := Scalar.remsi v1554 c8_i32_767
  let c0_i32_772 : BitVec 32 := 0#32
  let v1568 : BitVec 1 := Scalar.cmpi .ne v1567 c0_i32_772
  let v1569 : BitVec 1 := Scalar.andi v1566 v1568
  let v1555 : BitVec 32 := Scalar.divsi v1554 c8_i32_767
  let c1_i32_773 : BitVec 32 := 1#32
  let v1570 : BitVec 32 := Scalar.subi v1555 c1_i32_773
  let v1571 : BitVec 32 := Scalar.select v1569 v1570 v1555
  let c8_i32_774 : BitVec 32 := 8#32
  let v1572 : BitVec 32 := Scalar.muli v1571 c8_i32_774
  let v1573 : BitVec 32 := Scalar.maxsi c0_i32_775 v1572
  let v1574 : BitVec 32 := Scalar.minsi c2094072_i32_776 v1573
  v1574
def k0_cond48 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c0_i32_786 : BitVec 32 := 0#32
  let v1596 : BitVec 1 := Scalar.cmpi .eq v1595 c0_i32_786
  let v1597 : BitVec 32 := Scalar.extui v1596
  let c0_i32_787 : BitVec 32 := 0#32
  let v1598 : BitVec 1 := Scalar.cmpi .ne v1597 c0_i32_787
  v1598

def k0_mult48 (i : grid0.Coords) (k0_t1 : Fin k0_t1_loop.trips) : BitVec 32 :=
  let c2094072_i32_814 : BitVec 32 := 2094072#32
  let c0_i32_813 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off41 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c0_i32_819 : BitVec 32 := 0#32
  ![v1609.toNat, 0]
def k0_cond49 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c1_i32_788 : BitVec 32 := 1#32
  let v1599 : BitVec 1 := Scalar.cmpi .eq v1595 c1_i32_788
  let v1600 : BitVec 32 := Scalar.extui v1599
  let c0_i32_789 : BitVec 32 := 0#32
  let v1601 : BitVec 1 := Scalar.cmpi .ne v1600 c0_i32_789
  v1601

def k0_mult49 (i : grid0.Coords) (k0_t1 : Fin k0_t1_loop.trips) : BitVec 32 :=
  let c2094072_i32_814 : BitVec 32 := 2094072#32
  let c0_i32_813 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off42 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c512_i32_819 : BitVec 32 := 512#32
  ![v1609.toNat, 512]
def k0_cond50 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c2_i32_790 : BitVec 32 := 2#32
  let v1602 : BitVec 1 := Scalar.cmpi .eq v1595 c2_i32_790
  let v1603 : BitVec 32 := Scalar.extui v1602
  let c0_i32_791 : BitVec 32 := 0#32
  let v1604 : BitVec 1 := Scalar.cmpi .ne v1603 c0_i32_791
  v1604

def k0_mult50 (i : grid0.Coords) (k0_t1 : Fin k0_t1_loop.trips) : BitVec 32 :=
  let c2094072_i32_814 : BitVec 32 := 2094072#32
  let c0_i32_813 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off43 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1024_i32_818 : BitVec 32 := 1024#32
  ![v1609.toNat, 1024]
def k0_cond51 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c3_i32_792 : BitVec 32 := 3#32
  let v1605 : BitVec 1 := Scalar.cmpi .eq v1595 c3_i32_792
  let v1606 : BitVec 32 := Scalar.extui v1605
  let c0_i32_793 : BitVec 32 := 0#32
  let v1607 : BitVec 1 := Scalar.cmpi .ne v1606 c0_i32_793
  v1607

def k0_mult51 (i : grid0.Coords) (k0_t1 : Fin k0_t1_loop.trips) : BitVec 32 :=
  let c2094072_i32_814 : BitVec 32 := 2094072#32
  let c0_i32_813 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off44 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c4_i32_755 : BitVec 32 := 4#32
  let v1529 : BitVec 32 := Scalar.subi v801 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1536_i32_818 : BitVec 32 := 1536#32
  ![v1609.toNat, 1536]
def k0_mult52 (i : grid0.Coords) (k0_t1 : Fin k0_t1_loop.trips) : BitVec 32 :=
  let c2094072_i32_455 : BitVec 32 := 2094072#32
  let c0_i32_454 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c2047_i32_436 : BitVec 32 := 2047#32
  let v895 : BitVec 32 := Scalar.muli v894 c2047_i32_436
  let c1_i32_437 : BitVec 32 := 1#32
  let v896 : BitVec 32 := Scalar.subi v894 c1_i32_437
  let v897 : BitVec 32 := Scalar.muli v894 v896
  let c0_i32_439 : BitVec 32 := 0#32
  let v899 : BitVec 1 := Scalar.cmpi .sgt v897 c0_i32_439
  let v900 : BitVec 32 := Scalar.extui v899
  let c0_i32_440 : BitVec 32 := 0#32
  let v901 : BitVec 1 := Scalar.cmpi .slt v897 c0_i32_440
  let v902 : BitVec 32 := Scalar.extui v901
  let v903 : BitVec 32 := Scalar.subi v900 v902
  let c2_i32_438 : BitVec 32 := 2#32
  let c0_i32_441 : BitVec 32 := 0#32
  let v904 : BitVec 1 := Scalar.cmpi .sgt c2_i32_438 c0_i32_441
  let v905 : BitVec 32 := Scalar.extui v904
  let c0_i32_442 : BitVec 32 := 0#32
  let v906 : BitVec 1 := Scalar.cmpi .slt c2_i32_438 c0_i32_442
  let v907 : BitVec 32 := Scalar.extui v906
  let v908 : BitVec 32 := Scalar.subi v905 v907
  let v909 : BitVec 1 := Scalar.cmpi .ne v903 v908
  let v910 : BitVec 32 := Scalar.remsi v897 c2_i32_438
  let c0_i32_443 : BitVec 32 := 0#32
  let v911 : BitVec 1 := Scalar.cmpi .ne v910 c0_i32_443
  let v912 : BitVec 1 := Scalar.andi v909 v911
  let v898 : BitVec 32 := Scalar.divsi v897 c2_i32_438
  let c1_i32_444 : BitVec 32 := 1#32
  let v913 : BitVec 32 := Scalar.subi v898 c1_i32_444
  let v914 : BitVec 32 := Scalar.select v912 v913 v898
  let v915 : BitVec 32 := Scalar.subi v895 v914
  let v916 : BitVec 32 := Scalar.subi v915 v894
  let c1_i32_445 : BitVec 32 := 1#32
  let v917 : BitVec 32 := Scalar.subi v916 c1_i32_445
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c8_i32_446 : BitVec 32 := 8#32
  let c0_i32_449 : BitVec 32 := 0#32
  let v924 : BitVec 1 := Scalar.cmpi .sgt c8_i32_446 c0_i32_449
  let v925 : BitVec 32 := Scalar.extui v924
  let c0_i32_450 : BitVec 32 := 0#32
  let v926 : BitVec 1 := Scalar.cmpi .slt c8_i32_446 c0_i32_450
  let v927 : BitVec 32 := Scalar.extui v926
  let v928 : BitVec 32 := Scalar.subi v925 v927
  let v929 : BitVec 1 := Scalar.cmpi .ne v923 v928
  let v930 : BitVec 32 := Scalar.remsi v917 c8_i32_446
  let c0_i32_451 : BitVec 32 := 0#32
  let v931 : BitVec 1 := Scalar.cmpi .ne v930 c0_i32_451
  let v932 : BitVec 1 := Scalar.andi v929 v931
  let v918 : BitVec 32 := Scalar.divsi v917 c8_i32_446
  let c1_i32_452 : BitVec 32 := 1#32
  let v933 : BitVec 32 := Scalar.subi v918 c1_i32_452
  let v934 : BitVec 32 := Scalar.select v932 v933 v918
  let c8_i32_453 : BitVec 32 := 8#32
  let v935 : BitVec 32 := Scalar.muli v934 c8_i32_453
  let v936 : BitVec 32 := Scalar.maxsi c0_i32_454 v935
  let v937 : BitVec 32 := Scalar.minsi c2094072_i32_455 v936
  v937
@[reducible] def k0_t4_loop (i : grid0.Coords) (k0_t1 : Fin k0_t1_loop.trips) : Scf.Loop 32 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c1_i32_458 : BitVec 32 := 1#32
  let v942 : BitVec 32 := Scalar.addi v894 c1_i32_458
  let c0_i32_460 : BitVec 32 := 0#32
  let v944 : BitVec 1 := Scalar.cmpi .sgt v942 c0_i32_460
  let v945 : BitVec 32 := Scalar.extui v944
  let c0_i32_461 : BitVec 32 := 0#32
  let v946 : BitVec 1 := Scalar.cmpi .slt v942 c0_i32_461
  let v947 : BitVec 32 := Scalar.extui v946
  let v948 : BitVec 32 := Scalar.subi v945 v947
  let c256_i32_459 : BitVec 32 := 256#32
  let c0_i32_462 : BitVec 32 := 0#32
  let v949 : BitVec 1 := Scalar.cmpi .sgt c256_i32_459 c0_i32_462
  let v950 : BitVec 32 := Scalar.extui v949
  let c0_i32_463 : BitVec 32 := 0#32
  let v951 : BitVec 1 := Scalar.cmpi .slt c256_i32_459 c0_i32_463
  let v952 : BitVec 32 := Scalar.extui v951
  let v953 : BitVec 32 := Scalar.subi v950 v952
  let v954 : BitVec 1 := Scalar.cmpi .ne v948 v953
  let v955 : BitVec 32 := Scalar.remsi v942 c256_i32_459
  let c0_i32_464 : BitVec 32 := 0#32
  let v956 : BitVec 1 := Scalar.cmpi .ne v955 c0_i32_464
  let v957 : BitVec 1 := Scalar.andi v954 v956
  let v943 : BitVec 32 := Scalar.divsi v942 c256_i32_459
  let c1_i32_465 : BitVec 32 := 1#32
  let v958 : BitVec 32 := Scalar.subi v943 c1_i32_465
  let v959 : BitVec 32 := Scalar.select v957 v958 v943
  let c8_i32_467 : BitVec 32 := 8#32
  let v960 : BitVec 32 := Scalar.subi c8_i32_467 v959
  let c1_i32_468 : BitVec 32 := 1#32
  let v962 : BitVec 32 := Scalar.divsi v960 c1_i32_468
  let v963 : BitVec 32 := Scalar.muli v962 c1_i32_468
  let v964 : BitVec 32 := Scalar.addi v959 v963
  let c1_i32_469 : BitVec 32 := 1#32
  ⟨v959, v964, c1_i32_469⟩
def k0_off45 (i : grid0.Coords) (k0_t1 : Fin k0_t1_loop.trips) (k0_t4 : Fin (k0_t4_loop i k0_t1).trips) (c0_i32_756 : BitVec 32) : Fin 1 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c0_i32_456 : BitVec 32 := 0#32
  let v939 : BitVec 1 := Scalar.cmpi .eq v894 c0_i32_456
  let c7_i32_457 : BitVec 32 := 7#32
  let c2047_i32_436 : BitVec 32 := 2047#32
  let v895 : BitVec 32 := Scalar.muli v894 c2047_i32_436
  let c1_i32_437 : BitVec 32 := 1#32
  let v896 : BitVec 32 := Scalar.subi v894 c1_i32_437
  let v897 : BitVec 32 := Scalar.muli v894 v896
  let c0_i32_439 : BitVec 32 := 0#32
  let v899 : BitVec 1 := Scalar.cmpi .sgt v897 c0_i32_439
  let v900 : BitVec 32 := Scalar.extui v899
  let c0_i32_440 : BitVec 32 := 0#32
  let v901 : BitVec 1 := Scalar.cmpi .slt v897 c0_i32_440
  let v902 : BitVec 32 := Scalar.extui v901
  let v903 : BitVec 32 := Scalar.subi v900 v902
  let c2_i32_438 : BitVec 32 := 2#32
  let c0_i32_441 : BitVec 32 := 0#32
  let v904 : BitVec 1 := Scalar.cmpi .sgt c2_i32_438 c0_i32_441
  let v905 : BitVec 32 := Scalar.extui v904
  let c0_i32_442 : BitVec 32 := 0#32
  let v906 : BitVec 1 := Scalar.cmpi .slt c2_i32_438 c0_i32_442
  let v907 : BitVec 32 := Scalar.extui v906
  let v908 : BitVec 32 := Scalar.subi v905 v907
  let v909 : BitVec 1 := Scalar.cmpi .ne v903 v908
  let v910 : BitVec 32 := Scalar.remsi v897 c2_i32_438
  let c0_i32_443 : BitVec 32 := 0#32
  let v911 : BitVec 1 := Scalar.cmpi .ne v910 c0_i32_443
  let v912 : BitVec 1 := Scalar.andi v909 v911
  let v898 : BitVec 32 := Scalar.divsi v897 c2_i32_438
  let c1_i32_444 : BitVec 32 := 1#32
  let v913 : BitVec 32 := Scalar.subi v898 c1_i32_444
  let v914 : BitVec 32 := Scalar.select v912 v913 v898
  let v915 : BitVec 32 := Scalar.subi v895 v914
  let v916 : BitVec 32 := Scalar.subi v915 v894
  let c1_i32_445 : BitVec 32 := 1#32
  let v917 : BitVec 32 := Scalar.subi v916 c1_i32_445
  let c2094072_i32_455 : BitVec 32 := 2094072#32
  let c0_i32_454 : BitVec 32 := 0#32
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c8_i32_446 : BitVec 32 := 8#32
  let c0_i32_449 : BitVec 32 := 0#32
  let v924 : BitVec 1 := Scalar.cmpi .sgt c8_i32_446 c0_i32_449
  let v925 : BitVec 32 := Scalar.extui v924
  let c0_i32_450 : BitVec 32 := 0#32
  let v926 : BitVec 1 := Scalar.cmpi .slt c8_i32_446 c0_i32_450
  let v927 : BitVec 32 := Scalar.extui v926
  let v928 : BitVec 32 := Scalar.subi v925 v927
  let v929 : BitVec 1 := Scalar.cmpi .ne v923 v928
  let v930 : BitVec 32 := Scalar.remsi v917 c8_i32_446
  let c0_i32_451 : BitVec 32 := 0#32
  let v931 : BitVec 1 := Scalar.cmpi .ne v930 c0_i32_451
  let v932 : BitVec 1 := Scalar.andi v929 v931
  let v918 : BitVec 32 := Scalar.divsi v917 c8_i32_446
  let c1_i32_452 : BitVec 32 := 1#32
  let v933 : BitVec 32 := Scalar.subi v918 c1_i32_452
  let v934 : BitVec 32 := Scalar.select v932 v933 v918
  let c8_i32_453 : BitVec 32 := 8#32
  let v935 : BitVec 32 := Scalar.muli v934 c8_i32_453
  let v936 : BitVec 32 := Scalar.maxsi c0_i32_454 v935
  let v937 : BitVec 32 := Scalar.minsi c2094072_i32_455 v936
  let v938 : BitVec 32 := v937
  let v940 : BitVec 32 := Scalar.subi v917 v938
  let v941 : BitVec 32 := Scalar.select v939 c7_i32_457 v940
  let c1_i32_458 : BitVec 32 := 1#32
  let v942 : BitVec 32 := Scalar.addi v894 c1_i32_458
  let c0_i32_460 : BitVec 32 := 0#32
  let v944 : BitVec 1 := Scalar.cmpi .sgt v942 c0_i32_460
  let v945 : BitVec 32 := Scalar.extui v944
  let c0_i32_461 : BitVec 32 := 0#32
  let v946 : BitVec 1 := Scalar.cmpi .slt v942 c0_i32_461
  let v947 : BitVec 32 := Scalar.extui v946
  let v948 : BitVec 32 := Scalar.subi v945 v947
  let c256_i32_459 : BitVec 32 := 256#32
  let c0_i32_462 : BitVec 32 := 0#32
  let v949 : BitVec 1 := Scalar.cmpi .sgt c256_i32_459 c0_i32_462
  let v950 : BitVec 32 := Scalar.extui v949
  let c0_i32_463 : BitVec 32 := 0#32
  let v951 : BitVec 1 := Scalar.cmpi .slt c256_i32_459 c0_i32_463
  let v952 : BitVec 32 := Scalar.extui v951
  let v953 : BitVec 32 := Scalar.subi v950 v952
  let v954 : BitVec 1 := Scalar.cmpi .ne v948 v953
  let v955 : BitVec 32 := Scalar.remsi v942 c256_i32_459
  let c0_i32_464 : BitVec 32 := 0#32
  let v956 : BitVec 1 := Scalar.cmpi .ne v955 c0_i32_464
  let v957 : BitVec 1 := Scalar.andi v954 v956
  let v943 : BitVec 32 := Scalar.divsi v942 c256_i32_459
  let c1_i32_465 : BitVec 32 := 1#32
  let v958 : BitVec 32 := Scalar.subi v943 c1_i32_465
  let v959 : BitVec 32 := Scalar.select v957 v958 v943
  let c1_i32_469 : BitVec 32 := 1#32
  let arg21 : BitVec 32 := Scf.iv v959 c1_i32_469 k0_t4
  let c256_i32_755 : BitVec 32 := 256#32
  let v1529 : BitVec 32 := Scalar.muli arg21 c256_i32_755
  let v1530 : BitVec 32 := Scalar.addi v941 v1529
  let v1531 : BitVec 32 := Scalar.addi v1530 c0_i32_756
  let v1532 : Index := Scalar.indexCast v1531
  ![v1532.toNat]
def k0_off46 (i : grid0.Coords) (k0_t1 : Fin k0_t1_loop.trips) (k0_t4 : Fin (k0_t4_loop i k0_t1).trips) (c0_i32_760 : BitVec 32) : Fin 1 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c1_i32_458 : BitVec 32 := 1#32
  let v942 : BitVec 32 := Scalar.addi v894 c1_i32_458
  let c0_i32_460 : BitVec 32 := 0#32
  let v944 : BitVec 1 := Scalar.cmpi .sgt v942 c0_i32_460
  let v945 : BitVec 32 := Scalar.extui v944
  let c0_i32_461 : BitVec 32 := 0#32
  let v946 : BitVec 1 := Scalar.cmpi .slt v942 c0_i32_461
  let v947 : BitVec 32 := Scalar.extui v946
  let v948 : BitVec 32 := Scalar.subi v945 v947
  let c256_i32_459 : BitVec 32 := 256#32
  let c0_i32_462 : BitVec 32 := 0#32
  let v949 : BitVec 1 := Scalar.cmpi .sgt c256_i32_459 c0_i32_462
  let v950 : BitVec 32 := Scalar.extui v949
  let c0_i32_463 : BitVec 32 := 0#32
  let v951 : BitVec 1 := Scalar.cmpi .slt c256_i32_459 c0_i32_463
  let v952 : BitVec 32 := Scalar.extui v951
  let v953 : BitVec 32 := Scalar.subi v950 v952
  let v954 : BitVec 1 := Scalar.cmpi .ne v948 v953
  let v955 : BitVec 32 := Scalar.remsi v942 c256_i32_459
  let c0_i32_464 : BitVec 32 := 0#32
  let v956 : BitVec 1 := Scalar.cmpi .ne v955 c0_i32_464
  let v957 : BitVec 1 := Scalar.andi v954 v956
  let v943 : BitVec 32 := Scalar.divsi v942 c256_i32_459
  let c1_i32_465 : BitVec 32 := 1#32
  let v958 : BitVec 32 := Scalar.subi v943 c1_i32_465
  let v959 : BitVec 32 := Scalar.select v957 v958 v943
  let c1_i32_469 : BitVec 32 := 1#32
  let arg21 : BitVec 32 := Scf.iv v959 c1_i32_469 k0_t4
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
@[reducible] def k0_t5_loop (i : grid0.Coords) (k0_t1 : Fin k0_t1_loop.trips) : Scf.Loop 32 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c1_i32_458 : BitVec 32 := 1#32
  let v942 : BitVec 32 := Scalar.addi v894 c1_i32_458
  let c0_i32_460 : BitVec 32 := 0#32
  let v944 : BitVec 1 := Scalar.cmpi .sgt v942 c0_i32_460
  let v945 : BitVec 32 := Scalar.extui v944
  let c0_i32_461 : BitVec 32 := 0#32
  let v946 : BitVec 1 := Scalar.cmpi .slt v942 c0_i32_461
  let v947 : BitVec 32 := Scalar.extui v946
  let v948 : BitVec 32 := Scalar.subi v945 v947
  let c256_i32_459 : BitVec 32 := 256#32
  let c0_i32_462 : BitVec 32 := 0#32
  let v949 : BitVec 1 := Scalar.cmpi .sgt c256_i32_459 c0_i32_462
  let v950 : BitVec 32 := Scalar.extui v949
  let c0_i32_463 : BitVec 32 := 0#32
  let v951 : BitVec 1 := Scalar.cmpi .slt c256_i32_459 c0_i32_463
  let v952 : BitVec 32 := Scalar.extui v951
  let v953 : BitVec 32 := Scalar.subi v950 v952
  let v954 : BitVec 1 := Scalar.cmpi .ne v948 v953
  let v955 : BitVec 32 := Scalar.remsi v942 c256_i32_459
  let c0_i32_464 : BitVec 32 := 0#32
  let v956 : BitVec 1 := Scalar.cmpi .ne v955 c0_i32_464
  let v957 : BitVec 1 := Scalar.andi v954 v956
  let v943 : BitVec 32 := Scalar.divsi v942 c256_i32_459
  let c1_i32_465 : BitVec 32 := 1#32
  let v958 : BitVec 32 := Scalar.subi v943 c1_i32_465
  let v959 : BitVec 32 := Scalar.select v957 v958 v943
  let c8_i32_467 : BitVec 32 := 8#32
  let v960 : BitVec 32 := Scalar.subi c8_i32_467 v959
  let c1_i32_468 : BitVec 32 := 1#32
  let v962 : BitVec 32 := Scalar.divsi v960 c1_i32_468
  let v963 : BitVec 32 := Scalar.muli v962 c1_i32_468
  let v964 : BitVec 32 := Scalar.addi v959 v963
  let v961 : BitVec 32 := Scalar.addi v959 v960
  let c1_i32_470 : BitVec 32 := 1#32
  ⟨v964, v961, c1_i32_470⟩
def k0_off47 (i : grid0.Coords) (k0_t1 : Fin k0_t1_loop.trips) (k0_t5 : Fin (k0_t5_loop i k0_t1).trips) (c0_i32_756 : BitVec 32) : Fin 1 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c0_i32_456 : BitVec 32 := 0#32
  let v939 : BitVec 1 := Scalar.cmpi .eq v894 c0_i32_456
  let c7_i32_457 : BitVec 32 := 7#32
  let c2047_i32_436 : BitVec 32 := 2047#32
  let v895 : BitVec 32 := Scalar.muli v894 c2047_i32_436
  let c1_i32_437 : BitVec 32 := 1#32
  let v896 : BitVec 32 := Scalar.subi v894 c1_i32_437
  let v897 : BitVec 32 := Scalar.muli v894 v896
  let c0_i32_439 : BitVec 32 := 0#32
  let v899 : BitVec 1 := Scalar.cmpi .sgt v897 c0_i32_439
  let v900 : BitVec 32 := Scalar.extui v899
  let c0_i32_440 : BitVec 32 := 0#32
  let v901 : BitVec 1 := Scalar.cmpi .slt v897 c0_i32_440
  let v902 : BitVec 32 := Scalar.extui v901
  let v903 : BitVec 32 := Scalar.subi v900 v902
  let c2_i32_438 : BitVec 32 := 2#32
  let c0_i32_441 : BitVec 32 := 0#32
  let v904 : BitVec 1 := Scalar.cmpi .sgt c2_i32_438 c0_i32_441
  let v905 : BitVec 32 := Scalar.extui v904
  let c0_i32_442 : BitVec 32 := 0#32
  let v906 : BitVec 1 := Scalar.cmpi .slt c2_i32_438 c0_i32_442
  let v907 : BitVec 32 := Scalar.extui v906
  let v908 : BitVec 32 := Scalar.subi v905 v907
  let v909 : BitVec 1 := Scalar.cmpi .ne v903 v908
  let v910 : BitVec 32 := Scalar.remsi v897 c2_i32_438
  let c0_i32_443 : BitVec 32 := 0#32
  let v911 : BitVec 1 := Scalar.cmpi .ne v910 c0_i32_443
  let v912 : BitVec 1 := Scalar.andi v909 v911
  let v898 : BitVec 32 := Scalar.divsi v897 c2_i32_438
  let c1_i32_444 : BitVec 32 := 1#32
  let v913 : BitVec 32 := Scalar.subi v898 c1_i32_444
  let v914 : BitVec 32 := Scalar.select v912 v913 v898
  let v915 : BitVec 32 := Scalar.subi v895 v914
  let v916 : BitVec 32 := Scalar.subi v915 v894
  let c1_i32_445 : BitVec 32 := 1#32
  let v917 : BitVec 32 := Scalar.subi v916 c1_i32_445
  let c2094072_i32_455 : BitVec 32 := 2094072#32
  let c0_i32_454 : BitVec 32 := 0#32
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c8_i32_446 : BitVec 32 := 8#32
  let c0_i32_449 : BitVec 32 := 0#32
  let v924 : BitVec 1 := Scalar.cmpi .sgt c8_i32_446 c0_i32_449
  let v925 : BitVec 32 := Scalar.extui v924
  let c0_i32_450 : BitVec 32 := 0#32
  let v926 : BitVec 1 := Scalar.cmpi .slt c8_i32_446 c0_i32_450
  let v927 : BitVec 32 := Scalar.extui v926
  let v928 : BitVec 32 := Scalar.subi v925 v927
  let v929 : BitVec 1 := Scalar.cmpi .ne v923 v928
  let v930 : BitVec 32 := Scalar.remsi v917 c8_i32_446
  let c0_i32_451 : BitVec 32 := 0#32
  let v931 : BitVec 1 := Scalar.cmpi .ne v930 c0_i32_451
  let v932 : BitVec 1 := Scalar.andi v929 v931
  let v918 : BitVec 32 := Scalar.divsi v917 c8_i32_446
  let c1_i32_452 : BitVec 32 := 1#32
  let v933 : BitVec 32 := Scalar.subi v918 c1_i32_452
  let v934 : BitVec 32 := Scalar.select v932 v933 v918
  let c8_i32_453 : BitVec 32 := 8#32
  let v935 : BitVec 32 := Scalar.muli v934 c8_i32_453
  let v936 : BitVec 32 := Scalar.maxsi c0_i32_454 v935
  let v937 : BitVec 32 := Scalar.minsi c2094072_i32_455 v936
  let v938 : BitVec 32 := v937
  let v940 : BitVec 32 := Scalar.subi v917 v938
  let v941 : BitVec 32 := Scalar.select v939 c7_i32_457 v940
  let c1_i32_458 : BitVec 32 := 1#32
  let v942 : BitVec 32 := Scalar.addi v894 c1_i32_458
  let c0_i32_460 : BitVec 32 := 0#32
  let v944 : BitVec 1 := Scalar.cmpi .sgt v942 c0_i32_460
  let v945 : BitVec 32 := Scalar.extui v944
  let c0_i32_461 : BitVec 32 := 0#32
  let v946 : BitVec 1 := Scalar.cmpi .slt v942 c0_i32_461
  let v947 : BitVec 32 := Scalar.extui v946
  let v948 : BitVec 32 := Scalar.subi v945 v947
  let c256_i32_459 : BitVec 32 := 256#32
  let c0_i32_462 : BitVec 32 := 0#32
  let v949 : BitVec 1 := Scalar.cmpi .sgt c256_i32_459 c0_i32_462
  let v950 : BitVec 32 := Scalar.extui v949
  let c0_i32_463 : BitVec 32 := 0#32
  let v951 : BitVec 1 := Scalar.cmpi .slt c256_i32_459 c0_i32_463
  let v952 : BitVec 32 := Scalar.extui v951
  let v953 : BitVec 32 := Scalar.subi v950 v952
  let v954 : BitVec 1 := Scalar.cmpi .ne v948 v953
  let v955 : BitVec 32 := Scalar.remsi v942 c256_i32_459
  let c0_i32_464 : BitVec 32 := 0#32
  let v956 : BitVec 1 := Scalar.cmpi .ne v955 c0_i32_464
  let v957 : BitVec 1 := Scalar.andi v954 v956
  let v943 : BitVec 32 := Scalar.divsi v942 c256_i32_459
  let c1_i32_465 : BitVec 32 := 1#32
  let v958 : BitVec 32 := Scalar.subi v943 c1_i32_465
  let v959 : BitVec 32 := Scalar.select v957 v958 v943
  let c8_i32_467 : BitVec 32 := 8#32
  let v960 : BitVec 32 := Scalar.subi c8_i32_467 v959
  let c1_i32_468 : BitVec 32 := 1#32
  let v962 : BitVec 32 := Scalar.divsi v960 c1_i32_468
  let v963 : BitVec 32 := Scalar.muli v962 c1_i32_468
  let v964 : BitVec 32 := Scalar.addi v959 v963
  let c1_i32_470 : BitVec 32 := 1#32
  let arg21 : BitVec 32 := Scf.iv v964 c1_i32_470 k0_t5
  let c256_i32_755 : BitVec 32 := 256#32
  let v1529 : BitVec 32 := Scalar.muli arg21 c256_i32_755
  let v1530 : BitVec 32 := Scalar.addi v941 v1529
  let v1531 : BitVec 32 := Scalar.addi v1530 c0_i32_756
  let v1532 : Index := Scalar.indexCast v1531
  ![v1532.toNat]
def k0_off48 (i : grid0.Coords) (k0_t1 : Fin k0_t1_loop.trips) (k0_t5 : Fin (k0_t5_loop i k0_t1).trips) (c0_i32_760 : BitVec 32) : Fin 1 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_435 : BitVec 32 := 32#32
  let v893 : BitVec 32 := Scalar.muli v801 c32_i32_435
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v894 : BitVec 32 := Scalar.addi v893 v1
  let c1_i32_458 : BitVec 32 := 1#32
  let v942 : BitVec 32 := Scalar.addi v894 c1_i32_458
  let c0_i32_460 : BitVec 32 := 0#32
  let v944 : BitVec 1 := Scalar.cmpi .sgt v942 c0_i32_460
  let v945 : BitVec 32 := Scalar.extui v944
  let c0_i32_461 : BitVec 32 := 0#32
  let v946 : BitVec 1 := Scalar.cmpi .slt v942 c0_i32_461
  let v947 : BitVec 32 := Scalar.extui v946
  let v948 : BitVec 32 := Scalar.subi v945 v947
  let c256_i32_459 : BitVec 32 := 256#32
  let c0_i32_462 : BitVec 32 := 0#32
  let v949 : BitVec 1 := Scalar.cmpi .sgt c256_i32_459 c0_i32_462
  let v950 : BitVec 32 := Scalar.extui v949
  let c0_i32_463 : BitVec 32 := 0#32
  let v951 : BitVec 1 := Scalar.cmpi .slt c256_i32_459 c0_i32_463
  let v952 : BitVec 32 := Scalar.extui v951
  let v953 : BitVec 32 := Scalar.subi v950 v952
  let v954 : BitVec 1 := Scalar.cmpi .ne v948 v953
  let v955 : BitVec 32 := Scalar.remsi v942 c256_i32_459
  let c0_i32_464 : BitVec 32 := 0#32
  let v956 : BitVec 1 := Scalar.cmpi .ne v955 c0_i32_464
  let v957 : BitVec 1 := Scalar.andi v954 v956
  let v943 : BitVec 32 := Scalar.divsi v942 c256_i32_459
  let c1_i32_465 : BitVec 32 := 1#32
  let v958 : BitVec 32 := Scalar.subi v943 c1_i32_465
  let v959 : BitVec 32 := Scalar.select v957 v958 v943
  let c8_i32_467 : BitVec 32 := 8#32
  let v960 : BitVec 32 := Scalar.subi c8_i32_467 v959
  let c1_i32_468 : BitVec 32 := 1#32
  let v962 : BitVec 32 := Scalar.divsi v960 c1_i32_468
  let v963 : BitVec 32 := Scalar.muli v962 c1_i32_468
  let v964 : BitVec 32 := Scalar.addi v959 v963
  let c1_i32_470 : BitVec 32 := 1#32
  let arg21 : BitVec 32 := Scf.iv v964 c1_i32_470 k0_t5
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
def k0_mult53 (i : grid0.Coords) (k0_t1 : Fin k0_t1_loop.trips) : BitVec 32 :=
  let c2094072_i32_491 : BitVec 32 := 2094072#32
  let c0_i32_490 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_471 : BitVec 32 := 32#32
  let v965 : BitVec 32 := Scalar.muli v801 c32_i32_471
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v966 : BitVec 32 := Scalar.addi v965 v1
  let c2047_i32_472 : BitVec 32 := 2047#32
  let v967 : BitVec 32 := Scalar.muli v966 c2047_i32_472
  let c1_i32_473 : BitVec 32 := 1#32
  let v968 : BitVec 32 := Scalar.subi v966 c1_i32_473
  let v969 : BitVec 32 := Scalar.muli v966 v968
  let c0_i32_475 : BitVec 32 := 0#32
  let v971 : BitVec 1 := Scalar.cmpi .sgt v969 c0_i32_475
  let v972 : BitVec 32 := Scalar.extui v971
  let c0_i32_476 : BitVec 32 := 0#32
  let v973 : BitVec 1 := Scalar.cmpi .slt v969 c0_i32_476
  let v974 : BitVec 32 := Scalar.extui v973
  let v975 : BitVec 32 := Scalar.subi v972 v974
  let c2_i32_474 : BitVec 32 := 2#32
  let c0_i32_477 : BitVec 32 := 0#32
  let v976 : BitVec 1 := Scalar.cmpi .sgt c2_i32_474 c0_i32_477
  let v977 : BitVec 32 := Scalar.extui v976
  let c0_i32_478 : BitVec 32 := 0#32
  let v978 : BitVec 1 := Scalar.cmpi .slt c2_i32_474 c0_i32_478
  let v979 : BitVec 32 := Scalar.extui v978
  let v980 : BitVec 32 := Scalar.subi v977 v979
  let v981 : BitVec 1 := Scalar.cmpi .ne v975 v980
  let v982 : BitVec 32 := Scalar.remsi v969 c2_i32_474
  let c0_i32_479 : BitVec 32 := 0#32
  let v983 : BitVec 1 := Scalar.cmpi .ne v982 c0_i32_479
  let v984 : BitVec 1 := Scalar.andi v981 v983
  let v970 : BitVec 32 := Scalar.divsi v969 c2_i32_474
  let c1_i32_480 : BitVec 32 := 1#32
  let v985 : BitVec 32 := Scalar.subi v970 c1_i32_480
  let v986 : BitVec 32 := Scalar.select v984 v985 v970
  let v987 : BitVec 32 := Scalar.subi v967 v986
  let v988 : BitVec 32 := Scalar.subi v987 v966
  let c1_i32_481 : BitVec 32 := 1#32
  let v989 : BitVec 32 := Scalar.subi v988 c1_i32_481
  let c0_i32_483 : BitVec 32 := 0#32
  let v991 : BitVec 1 := Scalar.cmpi .sgt v989 c0_i32_483
  let v992 : BitVec 32 := Scalar.extui v991
  let c0_i32_484 : BitVec 32 := 0#32
  let v993 : BitVec 1 := Scalar.cmpi .slt v989 c0_i32_484
  let v994 : BitVec 32 := Scalar.extui v993
  let v995 : BitVec 32 := Scalar.subi v992 v994
  let c8_i32_482 : BitVec 32 := 8#32
  let c0_i32_485 : BitVec 32 := 0#32
  let v996 : BitVec 1 := Scalar.cmpi .sgt c8_i32_482 c0_i32_485
  let v997 : BitVec 32 := Scalar.extui v996
  let c0_i32_486 : BitVec 32 := 0#32
  let v998 : BitVec 1 := Scalar.cmpi .slt c8_i32_482 c0_i32_486
  let v999 : BitVec 32 := Scalar.extui v998
  let v1000 : BitVec 32 := Scalar.subi v997 v999
  let v1001 : BitVec 1 := Scalar.cmpi .ne v995 v1000
  let v1002 : BitVec 32 := Scalar.remsi v989 c8_i32_482
  let c0_i32_487 : BitVec 32 := 0#32
  let v1003 : BitVec 1 := Scalar.cmpi .ne v1002 c0_i32_487
  let v1004 : BitVec 1 := Scalar.andi v1001 v1003
  let v990 : BitVec 32 := Scalar.divsi v989 c8_i32_482
  let c1_i32_488 : BitVec 32 := 1#32
  let v1005 : BitVec 32 := Scalar.subi v990 c1_i32_488
  let v1006 : BitVec 32 := Scalar.select v1004 v1005 v990
  let c8_i32_489 : BitVec 32 := 8#32
  let v1007 : BitVec 32 := Scalar.muli v1006 c8_i32_489
  let v1008 : BitVec 32 := Scalar.maxsi c0_i32_490 v1007
  let v1009 : BitVec 32 := Scalar.minsi c2094072_i32_491 v1008
  v1009
def k0_cond52 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_471 : BitVec 32 := 32#32
  let v965 : BitVec 32 := Scalar.muli v801 c32_i32_471
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v966 : BitVec 32 := Scalar.addi v965 v1
  let c0_i32_495 : BitVec 32 := 0#32
  let v1015 : BitVec 1 := Scalar.cmpi .sgt v966 c0_i32_495
  let v1016 : BitVec 32 := Scalar.extui v1015
  let c0_i32_496 : BitVec 32 := 0#32
  let v1017 : BitVec 1 := Scalar.cmpi .slt v966 c0_i32_496
  let v1018 : BitVec 32 := Scalar.extui v1017
  let v1019 : BitVec 32 := Scalar.subi v1016 v1018
  let c512_i32_494 : BitVec 32 := 512#32
  let c0_i32_497 : BitVec 32 := 0#32
  let v1020 : BitVec 1 := Scalar.cmpi .sgt c512_i32_494 c0_i32_497
  let v1021 : BitVec 32 := Scalar.extui v1020
  let c0_i32_498 : BitVec 32 := 0#32
  let v1022 : BitVec 1 := Scalar.cmpi .slt c512_i32_494 c0_i32_498
  let v1023 : BitVec 32 := Scalar.extui v1022
  let v1024 : BitVec 32 := Scalar.subi v1021 v1023
  let v1025 : BitVec 1 := Scalar.cmpi .ne v1019 v1024
  let v1026 : BitVec 32 := Scalar.remsi v966 c512_i32_494
  let c0_i32_499 : BitVec 32 := 0#32
  let v1027 : BitVec 1 := Scalar.cmpi .ne v1026 c0_i32_499
  let v1028 : BitVec 1 := Scalar.andi v1025 v1027
  let v1014 : BitVec 32 := Scalar.divsi v966 c512_i32_494
  let c1_i32_500 : BitVec 32 := 1#32
  let v1029 : BitVec 32 := Scalar.subi v1014 c1_i32_500
  let v1030 : BitVec 32 := Scalar.select v1028 v1029 v1014
  let c0_i32_501 : BitVec 32 := 0#32
  let v1031 : BitVec 1 := Scalar.cmpi .eq v1030 c0_i32_501
  let v1032 : BitVec 32 := Scalar.extui v1031
  let c0_i32_502 : BitVec 32 := 0#32
  let v1033 : BitVec 1 := Scalar.cmpi .ne v1032 c0_i32_502
  v1033

def k0_mult54 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off49 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c0_i32_780 : BitVec 32 := 0#32
  ![v1530.toNat, 0]
def k0_cond53 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_471 : BitVec 32 := 32#32
  let v965 : BitVec 32 := Scalar.muli v801 c32_i32_471
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v966 : BitVec 32 := Scalar.addi v965 v1
  let c0_i32_495 : BitVec 32 := 0#32
  let v1015 : BitVec 1 := Scalar.cmpi .sgt v966 c0_i32_495
  let v1016 : BitVec 32 := Scalar.extui v1015
  let c0_i32_496 : BitVec 32 := 0#32
  let v1017 : BitVec 1 := Scalar.cmpi .slt v966 c0_i32_496
  let v1018 : BitVec 32 := Scalar.extui v1017
  let v1019 : BitVec 32 := Scalar.subi v1016 v1018
  let c512_i32_494 : BitVec 32 := 512#32
  let c0_i32_497 : BitVec 32 := 0#32
  let v1020 : BitVec 1 := Scalar.cmpi .sgt c512_i32_494 c0_i32_497
  let v1021 : BitVec 32 := Scalar.extui v1020
  let c0_i32_498 : BitVec 32 := 0#32
  let v1022 : BitVec 1 := Scalar.cmpi .slt c512_i32_494 c0_i32_498
  let v1023 : BitVec 32 := Scalar.extui v1022
  let v1024 : BitVec 32 := Scalar.subi v1021 v1023
  let v1025 : BitVec 1 := Scalar.cmpi .ne v1019 v1024
  let v1026 : BitVec 32 := Scalar.remsi v966 c512_i32_494
  let c0_i32_499 : BitVec 32 := 0#32
  let v1027 : BitVec 1 := Scalar.cmpi .ne v1026 c0_i32_499
  let v1028 : BitVec 1 := Scalar.andi v1025 v1027
  let v1014 : BitVec 32 := Scalar.divsi v966 c512_i32_494
  let c1_i32_500 : BitVec 32 := 1#32
  let v1029 : BitVec 32 := Scalar.subi v1014 c1_i32_500
  let v1030 : BitVec 32 := Scalar.select v1028 v1029 v1014
  let c1_i32_503 : BitVec 32 := 1#32
  let v1034 : BitVec 1 := Scalar.cmpi .eq v1030 c1_i32_503
  let v1035 : BitVec 32 := Scalar.extui v1034
  let c0_i32_504 : BitVec 32 := 0#32
  let v1036 : BitVec 1 := Scalar.cmpi .ne v1035 c0_i32_504
  v1036

def k0_mult55 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off50 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c512_i32_780 : BitVec 32 := 512#32
  ![v1530.toNat, 512]
def k0_cond54 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_471 : BitVec 32 := 32#32
  let v965 : BitVec 32 := Scalar.muli v801 c32_i32_471
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v966 : BitVec 32 := Scalar.addi v965 v1
  let c0_i32_495 : BitVec 32 := 0#32
  let v1015 : BitVec 1 := Scalar.cmpi .sgt v966 c0_i32_495
  let v1016 : BitVec 32 := Scalar.extui v1015
  let c0_i32_496 : BitVec 32 := 0#32
  let v1017 : BitVec 1 := Scalar.cmpi .slt v966 c0_i32_496
  let v1018 : BitVec 32 := Scalar.extui v1017
  let v1019 : BitVec 32 := Scalar.subi v1016 v1018
  let c512_i32_494 : BitVec 32 := 512#32
  let c0_i32_497 : BitVec 32 := 0#32
  let v1020 : BitVec 1 := Scalar.cmpi .sgt c512_i32_494 c0_i32_497
  let v1021 : BitVec 32 := Scalar.extui v1020
  let c0_i32_498 : BitVec 32 := 0#32
  let v1022 : BitVec 1 := Scalar.cmpi .slt c512_i32_494 c0_i32_498
  let v1023 : BitVec 32 := Scalar.extui v1022
  let v1024 : BitVec 32 := Scalar.subi v1021 v1023
  let v1025 : BitVec 1 := Scalar.cmpi .ne v1019 v1024
  let v1026 : BitVec 32 := Scalar.remsi v966 c512_i32_494
  let c0_i32_499 : BitVec 32 := 0#32
  let v1027 : BitVec 1 := Scalar.cmpi .ne v1026 c0_i32_499
  let v1028 : BitVec 1 := Scalar.andi v1025 v1027
  let v1014 : BitVec 32 := Scalar.divsi v966 c512_i32_494
  let c1_i32_500 : BitVec 32 := 1#32
  let v1029 : BitVec 32 := Scalar.subi v1014 c1_i32_500
  let v1030 : BitVec 32 := Scalar.select v1028 v1029 v1014
  let c2_i32_505 : BitVec 32 := 2#32
  let v1037 : BitVec 1 := Scalar.cmpi .eq v1030 c2_i32_505
  let v1038 : BitVec 32 := Scalar.extui v1037
  let c0_i32_506 : BitVec 32 := 0#32
  let v1039 : BitVec 1 := Scalar.cmpi .ne v1038 c0_i32_506
  v1039

def k0_mult56 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off51 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1024_i32_779 : BitVec 32 := 1024#32
  ![v1530.toNat, 1024]
def k0_cond55 (i : grid0.Coords) (k0_t1 : Fin k0_t1_loop.trips) : BitVec 1 :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_471 : BitVec 32 := 32#32
  let v965 : BitVec 32 := Scalar.muli v801 c32_i32_471
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v966 : BitVec 32 := Scalar.addi v965 v1
  let c0_i32_495 : BitVec 32 := 0#32
  let v1015 : BitVec 1 := Scalar.cmpi .sgt v966 c0_i32_495
  let v1016 : BitVec 32 := Scalar.extui v1015
  let c0_i32_496 : BitVec 32 := 0#32
  let v1017 : BitVec 1 := Scalar.cmpi .slt v966 c0_i32_496
  let v1018 : BitVec 32 := Scalar.extui v1017
  let v1019 : BitVec 32 := Scalar.subi v1016 v1018
  let c512_i32_494 : BitVec 32 := 512#32
  let c0_i32_497 : BitVec 32 := 0#32
  let v1020 : BitVec 1 := Scalar.cmpi .sgt c512_i32_494 c0_i32_497
  let v1021 : BitVec 32 := Scalar.extui v1020
  let c0_i32_498 : BitVec 32 := 0#32
  let v1022 : BitVec 1 := Scalar.cmpi .slt c512_i32_494 c0_i32_498
  let v1023 : BitVec 32 := Scalar.extui v1022
  let v1024 : BitVec 32 := Scalar.subi v1021 v1023
  let v1025 : BitVec 1 := Scalar.cmpi .ne v1019 v1024
  let v1026 : BitVec 32 := Scalar.remsi v966 c512_i32_494
  let c0_i32_499 : BitVec 32 := 0#32
  let v1027 : BitVec 1 := Scalar.cmpi .ne v1026 c0_i32_499
  let v1028 : BitVec 1 := Scalar.andi v1025 v1027
  let v1014 : BitVec 32 := Scalar.divsi v966 c512_i32_494
  let c1_i32_500 : BitVec 32 := 1#32
  let v1029 : BitVec 32 := Scalar.subi v1014 c1_i32_500
  let v1030 : BitVec 32 := Scalar.select v1028 v1029 v1014
  let c3_i32_507 : BitVec 32 := 3#32
  let v1040 : BitVec 1 := Scalar.cmpi .eq v1030 c3_i32_507
  let v1041 : BitVec 32 := Scalar.extui v1040
  let c0_i32_508 : BitVec 32 := 0#32
  let v1042 : BitVec 1 := Scalar.cmpi .ne v1041 c0_i32_508
  v1042

def k0_mult57 (i : grid0.Coords) (k0_t1 : Fin k0_t1_loop.trips) : BitVec 32 :=
  let c2094072_i32_775 : BitVec 32 := 2094072#32
  let c0_i32_774 : BitVec 32 := 0#32
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off52 (i : grid0.Coords) (k0_t1 : Fin k0_t1_loop.trips) : Fin 2 → Nat :=
  let c4_i32_386 : BitVec 32 := 4#32
  let c0_i32_114 : BitVec 32 := 0#32
  let c1_i32_115 : BitVec 32 := 1#32
  let arg20 : BitVec 32 := Scf.iv c0_i32_114 c1_i32_115 k0_t1
  let v800 : BitVec 32 := Scalar.muli c4_i32_386 arg20
  let c1_i32_387 : BitVec 32 := 1#32
  let v801 : BitVec 32 := Scalar.addi v800 c1_i32_387
  let c32_i32_755 : BitVec 32 := 32#32
  let v1529 : BitVec 32 := Scalar.muli v801 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1536_i32_779 : BitVec 32 := 1536#32
  ![v1530.toNat, 1536]
def k0_cond56 (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_511 : BitVec 32 := 4#32
  let v1045 : BitVec 32 := Scalar.addi v1044 c4_i32_511
  let c1_i32_512 : BitVec 32 := 1#32
  let v1046 : BitVec 32 := Scalar.subi v1045 c1_i32_512
  let c64_i32_513 : BitVec 32 := 64#32
  let v1047 : BitVec 1 := Scalar.cmpi .slt v1046 c64_i32_513
  let v1048 : BitVec 32 := Scalar.extui v1047
  let c0_i32_514 : BitVec 32 := 0#32
  let v1049 : BitVec 1 := Scalar.cmpi .ne v1048 c0_i32_514
  v1049

def k0_mult58 (i : grid0.Coords) (k0_t1 : Fin k0_t1_loop.trips) : BitVec 32 :=
  let c2094072_i32_777 : BitVec 32 := 2094072#32
  let c0_i32_776 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c2047_i32_758 : BitVec 32 := 2047#32
  let v1533 : BitVec 32 := Scalar.muli v1532 c2047_i32_758
  let c1_i32_759 : BitVec 32 := 1#32
  let v1534 : BitVec 32 := Scalar.subi v1532 c1_i32_759
  let v1535 : BitVec 32 := Scalar.muli v1532 v1534
  let c0_i32_761 : BitVec 32 := 0#32
  let v1537 : BitVec 1 := Scalar.cmpi .sgt v1535 c0_i32_761
  let v1538 : BitVec 32 := Scalar.extui v1537
  let c0_i32_762 : BitVec 32 := 0#32
  let v1539 : BitVec 1 := Scalar.cmpi .slt v1535 c0_i32_762
  let v1540 : BitVec 32 := Scalar.extui v1539
  let v1541 : BitVec 32 := Scalar.subi v1538 v1540
  let c2_i32_760 : BitVec 32 := 2#32
  let c0_i32_763 : BitVec 32 := 0#32
  let v1542 : BitVec 1 := Scalar.cmpi .sgt c2_i32_760 c0_i32_763
  let v1543 : BitVec 32 := Scalar.extui v1542
  let c0_i32_764 : BitVec 32 := 0#32
  let v1544 : BitVec 1 := Scalar.cmpi .slt c2_i32_760 c0_i32_764
  let v1545 : BitVec 32 := Scalar.extui v1544
  let v1546 : BitVec 32 := Scalar.subi v1543 v1545
  let v1547 : BitVec 1 := Scalar.cmpi .ne v1541 v1546
  let v1548 : BitVec 32 := Scalar.remsi v1535 c2_i32_760
  let c0_i32_765 : BitVec 32 := 0#32
  let v1549 : BitVec 1 := Scalar.cmpi .ne v1548 c0_i32_765
  let v1550 : BitVec 1 := Scalar.andi v1547 v1549
  let v1536 : BitVec 32 := Scalar.divsi v1535 c2_i32_760
  let c1_i32_766 : BitVec 32 := 1#32
  let v1551 : BitVec 32 := Scalar.subi v1536 c1_i32_766
  let v1552 : BitVec 32 := Scalar.select v1550 v1551 v1536
  let v1553 : BitVec 32 := Scalar.subi v1533 v1552
  let v1554 : BitVec 32 := Scalar.subi v1553 v1532
  let c1_i32_767 : BitVec 32 := 1#32
  let v1555 : BitVec 32 := Scalar.subi v1554 c1_i32_767
  let c0_i32_769 : BitVec 32 := 0#32
  let v1557 : BitVec 1 := Scalar.cmpi .sgt v1555 c0_i32_769
  let v1558 : BitVec 32 := Scalar.extui v1557
  let c0_i32_770 : BitVec 32 := 0#32
  let v1559 : BitVec 1 := Scalar.cmpi .slt v1555 c0_i32_770
  let v1560 : BitVec 32 := Scalar.extui v1559
  let v1561 : BitVec 32 := Scalar.subi v1558 v1560
  let c8_i32_768 : BitVec 32 := 8#32
  let c0_i32_771 : BitVec 32 := 0#32
  let v1562 : BitVec 1 := Scalar.cmpi .sgt c8_i32_768 c0_i32_771
  let v1563 : BitVec 32 := Scalar.extui v1562
  let c0_i32_772 : BitVec 32 := 0#32
  let v1564 : BitVec 1 := Scalar.cmpi .slt c8_i32_768 c0_i32_772
  let v1565 : BitVec 32 := Scalar.extui v1564
  let v1566 : BitVec 32 := Scalar.subi v1563 v1565
  let v1567 : BitVec 1 := Scalar.cmpi .ne v1561 v1566
  let v1568 : BitVec 32 := Scalar.remsi v1555 c8_i32_768
  let c0_i32_773 : BitVec 32 := 0#32
  let v1569 : BitVec 1 := Scalar.cmpi .ne v1568 c0_i32_773
  let v1570 : BitVec 1 := Scalar.andi v1567 v1569
  let v1556 : BitVec 32 := Scalar.divsi v1555 c8_i32_768
  let c1_i32_774 : BitVec 32 := 1#32
  let v1571 : BitVec 32 := Scalar.subi v1556 c1_i32_774
  let v1572 : BitVec 32 := Scalar.select v1570 v1571 v1556
  let c8_i32_775 : BitVec 32 := 8#32
  let v1573 : BitVec 32 := Scalar.muli v1572 c8_i32_775
  let v1574 : BitVec 32 := Scalar.maxsi c0_i32_776 v1573
  let v1575 : BitVec 32 := Scalar.minsi c2094072_i32_777 v1574
  v1575
def k0_cond57 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c0_i32_787 : BitVec 32 := 0#32
  let v1597 : BitVec 1 := Scalar.cmpi .eq v1596 c0_i32_787
  let c0_i32_788 : BitVec 32 := 0#32
  let v1598 : BitVec 1 := Scalar.cmpi .sgt v1532 c0_i32_788
  let v1599 : BitVec 1 := Scalar.andi v1597 v1598
  let v1600 : BitVec 32 := Scalar.extui v1599
  let c0_i32_789 : BitVec 32 := 0#32
  let v1601 : BitVec 1 := Scalar.cmpi .ne v1600 c0_i32_789
  v1601

def k0_mult59 (i : grid0.Coords) (k0_t1 : Fin k0_t1_loop.trips) : BitVec 32 :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off53 (i : grid0.Coords) (k0_t1 : Fin k0_t1_loop.trips) : Fin 1 → Nat :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c0_i32_821 : BitVec 32 := 0#32
  let v1663 : BitVec 32 := Scalar.addi v1659 c0_i32_821
  ![v1663.toNat]
def k0_cond58 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c1_i32_790 : BitVec 32 := 1#32
  let v1602 : BitVec 1 := Scalar.cmpi .eq v1596 c1_i32_790
  let v1603 : BitVec 32 := Scalar.extui v1602
  let c0_i32_791 : BitVec 32 := 0#32
  let v1604 : BitVec 1 := Scalar.cmpi .ne v1603 c0_i32_791
  v1604

def k0_mult60 (i : grid0.Coords) (k0_t1 : Fin k0_t1_loop.trips) : BitVec 32 :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off54 (i : grid0.Coords) (k0_t1 : Fin k0_t1_loop.trips) : Fin 1 → Nat :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c512_i32_821 : BitVec 32 := 512#32
  let v1663 : BitVec 32 := Scalar.addi v1659 c512_i32_821
  ![v1663.toNat]
def k0_cond59 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c2_i32_792 : BitVec 32 := 2#32
  let v1605 : BitVec 1 := Scalar.cmpi .eq v1596 c2_i32_792
  let v1606 : BitVec 32 := Scalar.extui v1605
  let c0_i32_793 : BitVec 32 := 0#32
  let v1607 : BitVec 1 := Scalar.cmpi .ne v1606 c0_i32_793
  v1607

def k0_mult61 (i : grid0.Coords) (k0_t1 : Fin k0_t1_loop.trips) : BitVec 32 :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off55 (i : grid0.Coords) (k0_t1 : Fin k0_t1_loop.trips) : Fin 1 → Nat :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1024_i32 : BitVec 32 := 1024#32
  let v1663 : BitVec 32 := Scalar.addi v1659 c1024_i32
  ![v1663.toNat]
def k0_cond60 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c3_i32_794 : BitVec 32 := 3#32
  let v1608 : BitVec 1 := Scalar.cmpi .eq v1596 c3_i32_794
  let v1609 : BitVec 32 := Scalar.extui v1608
  let c0_i32_795 : BitVec 32 := 0#32
  let v1610 : BitVec 1 := Scalar.cmpi .ne v1609 c0_i32_795
  v1610

def k0_mult62 (i : grid0.Coords) (k0_t1 : Fin k0_t1_loop.trips) : BitVec 32 :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off56 (i : grid0.Coords) (k0_t1 : Fin k0_t1_loop.trips) : Fin 1 → Nat :=
  let c2094072_i32_818 : BitVec 32 := 2094072#32
  let c0_i32_817 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.addi v1044 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1536_i32 : BitVec 32 := 1536#32
  let v1663 : BitVec 32 := Scalar.addi v1659 c1536_i32
  ![v1663.toNat]
def k0_mult63 (i : grid0.Coords) (k0_t1 : Fin k0_t1_loop.trips) : BitVec 32 :=
  let c2094072_i32_535 : BitVec 32 := 2094072#32
  let c0_i32_534 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_515 : BitVec 32 := 32#32
  let v1050 : BitVec 32 := Scalar.muli v1044 c32_i32_515
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1051 : BitVec 32 := Scalar.addi v1050 v1
  let c2047_i32_516 : BitVec 32 := 2047#32
  let v1052 : BitVec 32 := Scalar.muli v1051 c2047_i32_516
  let c1_i32_517 : BitVec 32 := 1#32
  let v1053 : BitVec 32 := Scalar.subi v1051 c1_i32_517
  let v1054 : BitVec 32 := Scalar.muli v1051 v1053
  let c0_i32_519 : BitVec 32 := 0#32
  let v1056 : BitVec 1 := Scalar.cmpi .sgt v1054 c0_i32_519
  let v1057 : BitVec 32 := Scalar.extui v1056
  let c0_i32_520 : BitVec 32 := 0#32
  let v1058 : BitVec 1 := Scalar.cmpi .slt v1054 c0_i32_520
  let v1059 : BitVec 32 := Scalar.extui v1058
  let v1060 : BitVec 32 := Scalar.subi v1057 v1059
  let c2_i32_518 : BitVec 32 := 2#32
  let c0_i32_521 : BitVec 32 := 0#32
  let v1061 : BitVec 1 := Scalar.cmpi .sgt c2_i32_518 c0_i32_521
  let v1062 : BitVec 32 := Scalar.extui v1061
  let c0_i32_522 : BitVec 32 := 0#32
  let v1063 : BitVec 1 := Scalar.cmpi .slt c2_i32_518 c0_i32_522
  let v1064 : BitVec 32 := Scalar.extui v1063
  let v1065 : BitVec 32 := Scalar.subi v1062 v1064
  let v1066 : BitVec 1 := Scalar.cmpi .ne v1060 v1065
  let v1067 : BitVec 32 := Scalar.remsi v1054 c2_i32_518
  let c0_i32_523 : BitVec 32 := 0#32
  let v1068 : BitVec 1 := Scalar.cmpi .ne v1067 c0_i32_523
  let v1069 : BitVec 1 := Scalar.andi v1066 v1068
  let v1055 : BitVec 32 := Scalar.divsi v1054 c2_i32_518
  let c1_i32_524 : BitVec 32 := 1#32
  let v1070 : BitVec 32 := Scalar.subi v1055 c1_i32_524
  let v1071 : BitVec 32 := Scalar.select v1069 v1070 v1055
  let v1072 : BitVec 32 := Scalar.subi v1052 v1071
  let v1073 : BitVec 32 := Scalar.subi v1072 v1051
  let c1_i32_525 : BitVec 32 := 1#32
  let v1074 : BitVec 32 := Scalar.subi v1073 c1_i32_525
  let c0_i32_527 : BitVec 32 := 0#32
  let v1076 : BitVec 1 := Scalar.cmpi .sgt v1074 c0_i32_527
  let v1077 : BitVec 32 := Scalar.extui v1076
  let c0_i32_528 : BitVec 32 := 0#32
  let v1078 : BitVec 1 := Scalar.cmpi .slt v1074 c0_i32_528
  let v1079 : BitVec 32 := Scalar.extui v1078
  let v1080 : BitVec 32 := Scalar.subi v1077 v1079
  let c8_i32_526 : BitVec 32 := 8#32
  let c0_i32_529 : BitVec 32 := 0#32
  let v1081 : BitVec 1 := Scalar.cmpi .sgt c8_i32_526 c0_i32_529
  let v1082 : BitVec 32 := Scalar.extui v1081
  let c0_i32_530 : BitVec 32 := 0#32
  let v1083 : BitVec 1 := Scalar.cmpi .slt c8_i32_526 c0_i32_530
  let v1084 : BitVec 32 := Scalar.extui v1083
  let v1085 : BitVec 32 := Scalar.subi v1082 v1084
  let v1086 : BitVec 1 := Scalar.cmpi .ne v1080 v1085
  let v1087 : BitVec 32 := Scalar.remsi v1074 c8_i32_526
  let c0_i32_531 : BitVec 32 := 0#32
  let v1088 : BitVec 1 := Scalar.cmpi .ne v1087 c0_i32_531
  let v1089 : BitVec 1 := Scalar.andi v1086 v1088
  let v1075 : BitVec 32 := Scalar.divsi v1074 c8_i32_526
  let c1_i32_532 : BitVec 32 := 1#32
  let v1090 : BitVec 32 := Scalar.subi v1075 c1_i32_532
  let v1091 : BitVec 32 := Scalar.select v1089 v1090 v1075
  let c8_i32_533 : BitVec 32 := 8#32
  let v1092 : BitVec 32 := Scalar.muli v1091 c8_i32_533
  let v1093 : BitVec 32 := Scalar.maxsi c0_i32_534 v1092
  let v1094 : BitVec 32 := Scalar.minsi c2094072_i32_535 v1093
  v1094
def k0_cond62 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_515 : BitVec 32 := 32#32
  let v1050 : BitVec 32 := Scalar.muli v1044 c32_i32_515
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1051 : BitVec 32 := Scalar.addi v1050 v1
  let c0_i32_539 : BitVec 32 := 0#32
  let v1100 : BitVec 1 := Scalar.cmpi .sgt v1051 c0_i32_539
  let v1101 : BitVec 32 := Scalar.extui v1100
  let c0_i32_540 : BitVec 32 := 0#32
  let v1102 : BitVec 1 := Scalar.cmpi .slt v1051 c0_i32_540
  let v1103 : BitVec 32 := Scalar.extui v1102
  let v1104 : BitVec 32 := Scalar.subi v1101 v1103
  let c512_i32_538 : BitVec 32 := 512#32
  let c0_i32_541 : BitVec 32 := 0#32
  let v1105 : BitVec 1 := Scalar.cmpi .sgt c512_i32_538 c0_i32_541
  let v1106 : BitVec 32 := Scalar.extui v1105
  let c0_i32_542 : BitVec 32 := 0#32
  let v1107 : BitVec 1 := Scalar.cmpi .slt c512_i32_538 c0_i32_542
  let v1108 : BitVec 32 := Scalar.extui v1107
  let v1109 : BitVec 32 := Scalar.subi v1106 v1108
  let v1110 : BitVec 1 := Scalar.cmpi .ne v1104 v1109
  let v1111 : BitVec 32 := Scalar.remsi v1051 c512_i32_538
  let c0_i32_543 : BitVec 32 := 0#32
  let v1112 : BitVec 1 := Scalar.cmpi .ne v1111 c0_i32_543
  let v1113 : BitVec 1 := Scalar.andi v1110 v1112
  let v1099 : BitVec 32 := Scalar.divsi v1051 c512_i32_538
  let c1_i32_544 : BitVec 32 := 1#32
  let v1114 : BitVec 32 := Scalar.subi v1099 c1_i32_544
  let v1115 : BitVec 32 := Scalar.select v1113 v1114 v1099
  let c0_i32_545 : BitVec 32 := 0#32
  let v1116 : BitVec 1 := Scalar.cmpi .eq v1115 c0_i32_545
  let c0_i32_546 : BitVec 32 := 0#32
  let v1117 : BitVec 1 := Scalar.cmpi .sgt v1051 c0_i32_546
  let v1118 : BitVec 1 := Scalar.andi v1116 v1117
  let v1119 : BitVec 32 := Scalar.extui v1118
  let c0_i32_547 : BitVec 32 := 0#32
  let v1120 : BitVec 1 := Scalar.cmpi .ne v1119 c0_i32_547
  v1120

def k0_mult64 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off57 (i : grid0.Coords) (k0_t1 : Fin k0_t1_loop.trips) : Fin 1 → Nat :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c0_i32_778 : BitVec 32 := 0#32
  let v1578 : BitVec 32 := Scalar.addi v1574 c0_i32_778
  ![v1578.toNat]
def k0_cond63 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_515 : BitVec 32 := 32#32
  let v1050 : BitVec 32 := Scalar.muli v1044 c32_i32_515
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1051 : BitVec 32 := Scalar.addi v1050 v1
  let c0_i32_539 : BitVec 32 := 0#32
  let v1100 : BitVec 1 := Scalar.cmpi .sgt v1051 c0_i32_539
  let v1101 : BitVec 32 := Scalar.extui v1100
  let c0_i32_540 : BitVec 32 := 0#32
  let v1102 : BitVec 1 := Scalar.cmpi .slt v1051 c0_i32_540
  let v1103 : BitVec 32 := Scalar.extui v1102
  let v1104 : BitVec 32 := Scalar.subi v1101 v1103
  let c512_i32_538 : BitVec 32 := 512#32
  let c0_i32_541 : BitVec 32 := 0#32
  let v1105 : BitVec 1 := Scalar.cmpi .sgt c512_i32_538 c0_i32_541
  let v1106 : BitVec 32 := Scalar.extui v1105
  let c0_i32_542 : BitVec 32 := 0#32
  let v1107 : BitVec 1 := Scalar.cmpi .slt c512_i32_538 c0_i32_542
  let v1108 : BitVec 32 := Scalar.extui v1107
  let v1109 : BitVec 32 := Scalar.subi v1106 v1108
  let v1110 : BitVec 1 := Scalar.cmpi .ne v1104 v1109
  let v1111 : BitVec 32 := Scalar.remsi v1051 c512_i32_538
  let c0_i32_543 : BitVec 32 := 0#32
  let v1112 : BitVec 1 := Scalar.cmpi .ne v1111 c0_i32_543
  let v1113 : BitVec 1 := Scalar.andi v1110 v1112
  let v1099 : BitVec 32 := Scalar.divsi v1051 c512_i32_538
  let c1_i32_544 : BitVec 32 := 1#32
  let v1114 : BitVec 32 := Scalar.subi v1099 c1_i32_544
  let v1115 : BitVec 32 := Scalar.select v1113 v1114 v1099
  let c1_i32_548 : BitVec 32 := 1#32
  let v1121 : BitVec 1 := Scalar.cmpi .eq v1115 c1_i32_548
  let v1122 : BitVec 32 := Scalar.extui v1121
  let c0_i32_549 : BitVec 32 := 0#32
  let v1123 : BitVec 1 := Scalar.cmpi .ne v1122 c0_i32_549
  v1123

def k0_mult65 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off58 (i : grid0.Coords) (k0_t1 : Fin k0_t1_loop.trips) : Fin 1 → Nat :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c512_i32_778 : BitVec 32 := 512#32
  let v1578 : BitVec 32 := Scalar.addi v1574 c512_i32_778
  ![v1578.toNat]
def k0_cond64 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_515 : BitVec 32 := 32#32
  let v1050 : BitVec 32 := Scalar.muli v1044 c32_i32_515
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1051 : BitVec 32 := Scalar.addi v1050 v1
  let c0_i32_539 : BitVec 32 := 0#32
  let v1100 : BitVec 1 := Scalar.cmpi .sgt v1051 c0_i32_539
  let v1101 : BitVec 32 := Scalar.extui v1100
  let c0_i32_540 : BitVec 32 := 0#32
  let v1102 : BitVec 1 := Scalar.cmpi .slt v1051 c0_i32_540
  let v1103 : BitVec 32 := Scalar.extui v1102
  let v1104 : BitVec 32 := Scalar.subi v1101 v1103
  let c512_i32_538 : BitVec 32 := 512#32
  let c0_i32_541 : BitVec 32 := 0#32
  let v1105 : BitVec 1 := Scalar.cmpi .sgt c512_i32_538 c0_i32_541
  let v1106 : BitVec 32 := Scalar.extui v1105
  let c0_i32_542 : BitVec 32 := 0#32
  let v1107 : BitVec 1 := Scalar.cmpi .slt c512_i32_538 c0_i32_542
  let v1108 : BitVec 32 := Scalar.extui v1107
  let v1109 : BitVec 32 := Scalar.subi v1106 v1108
  let v1110 : BitVec 1 := Scalar.cmpi .ne v1104 v1109
  let v1111 : BitVec 32 := Scalar.remsi v1051 c512_i32_538
  let c0_i32_543 : BitVec 32 := 0#32
  let v1112 : BitVec 1 := Scalar.cmpi .ne v1111 c0_i32_543
  let v1113 : BitVec 1 := Scalar.andi v1110 v1112
  let v1099 : BitVec 32 := Scalar.divsi v1051 c512_i32_538
  let c1_i32_544 : BitVec 32 := 1#32
  let v1114 : BitVec 32 := Scalar.subi v1099 c1_i32_544
  let v1115 : BitVec 32 := Scalar.select v1113 v1114 v1099
  let c2_i32_550 : BitVec 32 := 2#32
  let v1124 : BitVec 1 := Scalar.cmpi .eq v1115 c2_i32_550
  let v1125 : BitVec 32 := Scalar.extui v1124
  let c0_i32_551 : BitVec 32 := 0#32
  let v1126 : BitVec 1 := Scalar.cmpi .ne v1125 c0_i32_551
  v1126

def k0_mult66 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off59 (i : grid0.Coords) (k0_t1 : Fin k0_t1_loop.trips) : Fin 1 → Nat :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1024_i32 : BitVec 32 := 1024#32
  let v1578 : BitVec 32 := Scalar.addi v1574 c1024_i32
  ![v1578.toNat]
def k0_cond65 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_515 : BitVec 32 := 32#32
  let v1050 : BitVec 32 := Scalar.muli v1044 c32_i32_515
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1051 : BitVec 32 := Scalar.addi v1050 v1
  let c0_i32_539 : BitVec 32 := 0#32
  let v1100 : BitVec 1 := Scalar.cmpi .sgt v1051 c0_i32_539
  let v1101 : BitVec 32 := Scalar.extui v1100
  let c0_i32_540 : BitVec 32 := 0#32
  let v1102 : BitVec 1 := Scalar.cmpi .slt v1051 c0_i32_540
  let v1103 : BitVec 32 := Scalar.extui v1102
  let v1104 : BitVec 32 := Scalar.subi v1101 v1103
  let c512_i32_538 : BitVec 32 := 512#32
  let c0_i32_541 : BitVec 32 := 0#32
  let v1105 : BitVec 1 := Scalar.cmpi .sgt c512_i32_538 c0_i32_541
  let v1106 : BitVec 32 := Scalar.extui v1105
  let c0_i32_542 : BitVec 32 := 0#32
  let v1107 : BitVec 1 := Scalar.cmpi .slt c512_i32_538 c0_i32_542
  let v1108 : BitVec 32 := Scalar.extui v1107
  let v1109 : BitVec 32 := Scalar.subi v1106 v1108
  let v1110 : BitVec 1 := Scalar.cmpi .ne v1104 v1109
  let v1111 : BitVec 32 := Scalar.remsi v1051 c512_i32_538
  let c0_i32_543 : BitVec 32 := 0#32
  let v1112 : BitVec 1 := Scalar.cmpi .ne v1111 c0_i32_543
  let v1113 : BitVec 1 := Scalar.andi v1110 v1112
  let v1099 : BitVec 32 := Scalar.divsi v1051 c512_i32_538
  let c1_i32_544 : BitVec 32 := 1#32
  let v1114 : BitVec 32 := Scalar.subi v1099 c1_i32_544
  let v1115 : BitVec 32 := Scalar.select v1113 v1114 v1099
  let c3_i32_552 : BitVec 32 := 3#32
  let v1127 : BitVec 1 := Scalar.cmpi .eq v1115 c3_i32_552
  let v1128 : BitVec 32 := Scalar.extui v1127
  let c0_i32_553 : BitVec 32 := 0#32
  let v1129 : BitVec 1 := Scalar.cmpi .ne v1128 c0_i32_553
  v1129

def k0_mult67 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off60 (i : grid0.Coords) (k0_t1 : Fin k0_t1_loop.trips) : Fin 1 → Nat :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1536_i32 : BitVec 32 := 1536#32
  let v1578 : BitVec 32 := Scalar.addi v1574 c1536_i32
  ![v1578.toNat]
def k0_cond67 (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_556 : BitVec 32 := 4#32
  let v1133 : BitVec 1 := Scalar.cmpi .sge v1044 c4_i32_556
  let v1134 : BitVec 32 := Scalar.extui v1133
  let c0_i32_557 : BitVec 32 := 0#32
  let v1135 : BitVec 1 := Scalar.cmpi .ne v1134 c0_i32_557
  v1135

def k0_mult68 (i : grid0.Coords) (k0_t1 : Fin k0_t1_loop.trips) : BitVec 32 :=
  let c2094072_i32_776 : BitVec 32 := 2094072#32
  let c0_i32_775 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c2047_i32_757 : BitVec 32 := 2047#32
  let v1532 : BitVec 32 := Scalar.muli v1531 c2047_i32_757
  let c1_i32_758 : BitVec 32 := 1#32
  let v1533 : BitVec 32 := Scalar.subi v1531 c1_i32_758
  let v1534 : BitVec 32 := Scalar.muli v1531 v1533
  let c0_i32_760 : BitVec 32 := 0#32
  let v1536 : BitVec 1 := Scalar.cmpi .sgt v1534 c0_i32_760
  let v1537 : BitVec 32 := Scalar.extui v1536
  let c0_i32_761 : BitVec 32 := 0#32
  let v1538 : BitVec 1 := Scalar.cmpi .slt v1534 c0_i32_761
  let v1539 : BitVec 32 := Scalar.extui v1538
  let v1540 : BitVec 32 := Scalar.subi v1537 v1539
  let c2_i32_759 : BitVec 32 := 2#32
  let c0_i32_762 : BitVec 32 := 0#32
  let v1541 : BitVec 1 := Scalar.cmpi .sgt c2_i32_759 c0_i32_762
  let v1542 : BitVec 32 := Scalar.extui v1541
  let c0_i32_763 : BitVec 32 := 0#32
  let v1543 : BitVec 1 := Scalar.cmpi .slt c2_i32_759 c0_i32_763
  let v1544 : BitVec 32 := Scalar.extui v1543
  let v1545 : BitVec 32 := Scalar.subi v1542 v1544
  let v1546 : BitVec 1 := Scalar.cmpi .ne v1540 v1545
  let v1547 : BitVec 32 := Scalar.remsi v1534 c2_i32_759
  let c0_i32_764 : BitVec 32 := 0#32
  let v1548 : BitVec 1 := Scalar.cmpi .ne v1547 c0_i32_764
  let v1549 : BitVec 1 := Scalar.andi v1546 v1548
  let v1535 : BitVec 32 := Scalar.divsi v1534 c2_i32_759
  let c1_i32_765 : BitVec 32 := 1#32
  let v1550 : BitVec 32 := Scalar.subi v1535 c1_i32_765
  let v1551 : BitVec 32 := Scalar.select v1549 v1550 v1535
  let v1552 : BitVec 32 := Scalar.subi v1532 v1551
  let v1553 : BitVec 32 := Scalar.subi v1552 v1531
  let c1_i32_766 : BitVec 32 := 1#32
  let v1554 : BitVec 32 := Scalar.subi v1553 c1_i32_766
  let c0_i32_768 : BitVec 32 := 0#32
  let v1556 : BitVec 1 := Scalar.cmpi .sgt v1554 c0_i32_768
  let v1557 : BitVec 32 := Scalar.extui v1556
  let c0_i32_769 : BitVec 32 := 0#32
  let v1558 : BitVec 1 := Scalar.cmpi .slt v1554 c0_i32_769
  let v1559 : BitVec 32 := Scalar.extui v1558
  let v1560 : BitVec 32 := Scalar.subi v1557 v1559
  let c8_i32_767 : BitVec 32 := 8#32
  let c0_i32_770 : BitVec 32 := 0#32
  let v1561 : BitVec 1 := Scalar.cmpi .sgt c8_i32_767 c0_i32_770
  let v1562 : BitVec 32 := Scalar.extui v1561
  let c0_i32_771 : BitVec 32 := 0#32
  let v1563 : BitVec 1 := Scalar.cmpi .slt c8_i32_767 c0_i32_771
  let v1564 : BitVec 32 := Scalar.extui v1563
  let v1565 : BitVec 32 := Scalar.subi v1562 v1564
  let v1566 : BitVec 1 := Scalar.cmpi .ne v1560 v1565
  let v1567 : BitVec 32 := Scalar.remsi v1554 c8_i32_767
  let c0_i32_772 : BitVec 32 := 0#32
  let v1568 : BitVec 1 := Scalar.cmpi .ne v1567 c0_i32_772
  let v1569 : BitVec 1 := Scalar.andi v1566 v1568
  let v1555 : BitVec 32 := Scalar.divsi v1554 c8_i32_767
  let c1_i32_773 : BitVec 32 := 1#32
  let v1570 : BitVec 32 := Scalar.subi v1555 c1_i32_773
  let v1571 : BitVec 32 := Scalar.select v1569 v1570 v1555
  let c8_i32_774 : BitVec 32 := 8#32
  let v1572 : BitVec 32 := Scalar.muli v1571 c8_i32_774
  let v1573 : BitVec 32 := Scalar.maxsi c0_i32_775 v1572
  let v1574 : BitVec 32 := Scalar.minsi c2094072_i32_776 v1573
  v1574
def k0_cond68 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c0_i32_786 : BitVec 32 := 0#32
  let v1596 : BitVec 1 := Scalar.cmpi .eq v1595 c0_i32_786
  let v1597 : BitVec 32 := Scalar.extui v1596
  let c0_i32_787 : BitVec 32 := 0#32
  let v1598 : BitVec 1 := Scalar.cmpi .ne v1597 c0_i32_787
  v1598

def k0_mult69 (i : grid0.Coords) (k0_t1 : Fin k0_t1_loop.trips) : BitVec 32 :=
  let c2094072_i32_814 : BitVec 32 := 2094072#32
  let c0_i32_813 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off61 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c0_i32_819 : BitVec 32 := 0#32
  ![v1609.toNat, 0]
def k0_cond69 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c1_i32_788 : BitVec 32 := 1#32
  let v1599 : BitVec 1 := Scalar.cmpi .eq v1595 c1_i32_788
  let v1600 : BitVec 32 := Scalar.extui v1599
  let c0_i32_789 : BitVec 32 := 0#32
  let v1601 : BitVec 1 := Scalar.cmpi .ne v1600 c0_i32_789
  v1601

def k0_mult70 (i : grid0.Coords) (k0_t1 : Fin k0_t1_loop.trips) : BitVec 32 :=
  let c2094072_i32_814 : BitVec 32 := 2094072#32
  let c0_i32_813 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off62 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c512_i32_819 : BitVec 32 := 512#32
  ![v1609.toNat, 512]
def k0_cond70 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c2_i32_790 : BitVec 32 := 2#32
  let v1602 : BitVec 1 := Scalar.cmpi .eq v1595 c2_i32_790
  let v1603 : BitVec 32 := Scalar.extui v1602
  let c0_i32_791 : BitVec 32 := 0#32
  let v1604 : BitVec 1 := Scalar.cmpi .ne v1603 c0_i32_791
  v1604

def k0_mult71 (i : grid0.Coords) (k0_t1 : Fin k0_t1_loop.trips) : BitVec 32 :=
  let c2094072_i32_814 : BitVec 32 := 2094072#32
  let c0_i32_813 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off63 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1024_i32_818 : BitVec 32 := 1024#32
  ![v1609.toNat, 1024]
def k0_cond71 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c3_i32_792 : BitVec 32 := 3#32
  let v1605 : BitVec 1 := Scalar.cmpi .eq v1595 c3_i32_792
  let v1606 : BitVec 32 := Scalar.extui v1605
  let c0_i32_793 : BitVec 32 := 0#32
  let v1607 : BitVec 1 := Scalar.cmpi .ne v1606 c0_i32_793
  v1607

def k0_mult72 (i : grid0.Coords) (k0_t1 : Fin k0_t1_loop.trips) : BitVec 32 :=
  let c2094072_i32_814 : BitVec 32 := 2094072#32
  let c0_i32_813 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off64 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c4_i32_755 : BitVec 32 := 4#32
  let v1529 : BitVec 32 := Scalar.subi v1044 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1536_i32_818 : BitVec 32 := 1536#32
  ![v1609.toNat, 1536]
def k0_mult73 (i : grid0.Coords) (k0_t1 : Fin k0_t1_loop.trips) : BitVec 32 :=
  let c2094072_i32_578 : BitVec 32 := 2094072#32
  let c0_i32_577 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c2047_i32_559 : BitVec 32 := 2047#32
  let v1138 : BitVec 32 := Scalar.muli v1137 c2047_i32_559
  let c1_i32_560 : BitVec 32 := 1#32
  let v1139 : BitVec 32 := Scalar.subi v1137 c1_i32_560
  let v1140 : BitVec 32 := Scalar.muli v1137 v1139
  let c0_i32_562 : BitVec 32 := 0#32
  let v1142 : BitVec 1 := Scalar.cmpi .sgt v1140 c0_i32_562
  let v1143 : BitVec 32 := Scalar.extui v1142
  let c0_i32_563 : BitVec 32 := 0#32
  let v1144 : BitVec 1 := Scalar.cmpi .slt v1140 c0_i32_563
  let v1145 : BitVec 32 := Scalar.extui v1144
  let v1146 : BitVec 32 := Scalar.subi v1143 v1145
  let c2_i32_561 : BitVec 32 := 2#32
  let c0_i32_564 : BitVec 32 := 0#32
  let v1147 : BitVec 1 := Scalar.cmpi .sgt c2_i32_561 c0_i32_564
  let v1148 : BitVec 32 := Scalar.extui v1147
  let c0_i32_565 : BitVec 32 := 0#32
  let v1149 : BitVec 1 := Scalar.cmpi .slt c2_i32_561 c0_i32_565
  let v1150 : BitVec 32 := Scalar.extui v1149
  let v1151 : BitVec 32 := Scalar.subi v1148 v1150
  let v1152 : BitVec 1 := Scalar.cmpi .ne v1146 v1151
  let v1153 : BitVec 32 := Scalar.remsi v1140 c2_i32_561
  let c0_i32_566 : BitVec 32 := 0#32
  let v1154 : BitVec 1 := Scalar.cmpi .ne v1153 c0_i32_566
  let v1155 : BitVec 1 := Scalar.andi v1152 v1154
  let v1141 : BitVec 32 := Scalar.divsi v1140 c2_i32_561
  let c1_i32_567 : BitVec 32 := 1#32
  let v1156 : BitVec 32 := Scalar.subi v1141 c1_i32_567
  let v1157 : BitVec 32 := Scalar.select v1155 v1156 v1141
  let v1158 : BitVec 32 := Scalar.subi v1138 v1157
  let v1159 : BitVec 32 := Scalar.subi v1158 v1137
  let c1_i32_568 : BitVec 32 := 1#32
  let v1160 : BitVec 32 := Scalar.subi v1159 c1_i32_568
  let c0_i32_570 : BitVec 32 := 0#32
  let v1162 : BitVec 1 := Scalar.cmpi .sgt v1160 c0_i32_570
  let v1163 : BitVec 32 := Scalar.extui v1162
  let c0_i32_571 : BitVec 32 := 0#32
  let v1164 : BitVec 1 := Scalar.cmpi .slt v1160 c0_i32_571
  let v1165 : BitVec 32 := Scalar.extui v1164
  let v1166 : BitVec 32 := Scalar.subi v1163 v1165
  let c8_i32_569 : BitVec 32 := 8#32
  let c0_i32_572 : BitVec 32 := 0#32
  let v1167 : BitVec 1 := Scalar.cmpi .sgt c8_i32_569 c0_i32_572
  let v1168 : BitVec 32 := Scalar.extui v1167
  let c0_i32_573 : BitVec 32 := 0#32
  let v1169 : BitVec 1 := Scalar.cmpi .slt c8_i32_569 c0_i32_573
  let v1170 : BitVec 32 := Scalar.extui v1169
  let v1171 : BitVec 32 := Scalar.subi v1168 v1170
  let v1172 : BitVec 1 := Scalar.cmpi .ne v1166 v1171
  let v1173 : BitVec 32 := Scalar.remsi v1160 c8_i32_569
  let c0_i32_574 : BitVec 32 := 0#32
  let v1174 : BitVec 1 := Scalar.cmpi .ne v1173 c0_i32_574
  let v1175 : BitVec 1 := Scalar.andi v1172 v1174
  let v1161 : BitVec 32 := Scalar.divsi v1160 c8_i32_569
  let c1_i32_575 : BitVec 32 := 1#32
  let v1176 : BitVec 32 := Scalar.subi v1161 c1_i32_575
  let v1177 : BitVec 32 := Scalar.select v1175 v1176 v1161
  let c8_i32_576 : BitVec 32 := 8#32
  let v1178 : BitVec 32 := Scalar.muli v1177 c8_i32_576
  let v1179 : BitVec 32 := Scalar.maxsi c0_i32_577 v1178
  let v1180 : BitVec 32 := Scalar.minsi c2094072_i32_578 v1179
  v1180
@[reducible] def k0_t6_loop (i : grid0.Coords) (k0_t1 : Fin k0_t1_loop.trips) : Scf.Loop 32 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c1_i32_581 : BitVec 32 := 1#32
  let v1185 : BitVec 32 := Scalar.addi v1137 c1_i32_581
  let c0_i32_583 : BitVec 32 := 0#32
  let v1187 : BitVec 1 := Scalar.cmpi .sgt v1185 c0_i32_583
  let v1188 : BitVec 32 := Scalar.extui v1187
  let c0_i32_584 : BitVec 32 := 0#32
  let v1189 : BitVec 1 := Scalar.cmpi .slt v1185 c0_i32_584
  let v1190 : BitVec 32 := Scalar.extui v1189
  let v1191 : BitVec 32 := Scalar.subi v1188 v1190
  let c256_i32_582 : BitVec 32 := 256#32
  let c0_i32_585 : BitVec 32 := 0#32
  let v1192 : BitVec 1 := Scalar.cmpi .sgt c256_i32_582 c0_i32_585
  let v1193 : BitVec 32 := Scalar.extui v1192
  let c0_i32_586 : BitVec 32 := 0#32
  let v1194 : BitVec 1 := Scalar.cmpi .slt c256_i32_582 c0_i32_586
  let v1195 : BitVec 32 := Scalar.extui v1194
  let v1196 : BitVec 32 := Scalar.subi v1193 v1195
  let v1197 : BitVec 1 := Scalar.cmpi .ne v1191 v1196
  let v1198 : BitVec 32 := Scalar.remsi v1185 c256_i32_582
  let c0_i32_587 : BitVec 32 := 0#32
  let v1199 : BitVec 1 := Scalar.cmpi .ne v1198 c0_i32_587
  let v1200 : BitVec 1 := Scalar.andi v1197 v1199
  let v1186 : BitVec 32 := Scalar.divsi v1185 c256_i32_582
  let c1_i32_588 : BitVec 32 := 1#32
  let v1201 : BitVec 32 := Scalar.subi v1186 c1_i32_588
  let v1202 : BitVec 32 := Scalar.select v1200 v1201 v1186
  let c8_i32_590 : BitVec 32 := 8#32
  let v1203 : BitVec 32 := Scalar.subi c8_i32_590 v1202
  let c1_i32_591 : BitVec 32 := 1#32
  let v1205 : BitVec 32 := Scalar.divsi v1203 c1_i32_591
  let v1206 : BitVec 32 := Scalar.muli v1205 c1_i32_591
  let v1207 : BitVec 32 := Scalar.addi v1202 v1206
  let c1_i32_592 : BitVec 32 := 1#32
  ⟨v1202, v1207, c1_i32_592⟩
def k0_off65 (i : grid0.Coords) (k0_t1 : Fin k0_t1_loop.trips) (k0_t6 : Fin (k0_t6_loop i k0_t1).trips) (c0_i32_756 : BitVec 32) : Fin 1 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c0_i32_579 : BitVec 32 := 0#32
  let v1182 : BitVec 1 := Scalar.cmpi .eq v1137 c0_i32_579
  let c7_i32_580 : BitVec 32 := 7#32
  let c2047_i32_559 : BitVec 32 := 2047#32
  let v1138 : BitVec 32 := Scalar.muli v1137 c2047_i32_559
  let c1_i32_560 : BitVec 32 := 1#32
  let v1139 : BitVec 32 := Scalar.subi v1137 c1_i32_560
  let v1140 : BitVec 32 := Scalar.muli v1137 v1139
  let c0_i32_562 : BitVec 32 := 0#32
  let v1142 : BitVec 1 := Scalar.cmpi .sgt v1140 c0_i32_562
  let v1143 : BitVec 32 := Scalar.extui v1142
  let c0_i32_563 : BitVec 32 := 0#32
  let v1144 : BitVec 1 := Scalar.cmpi .slt v1140 c0_i32_563
  let v1145 : BitVec 32 := Scalar.extui v1144
  let v1146 : BitVec 32 := Scalar.subi v1143 v1145
  let c2_i32_561 : BitVec 32 := 2#32
  let c0_i32_564 : BitVec 32 := 0#32
  let v1147 : BitVec 1 := Scalar.cmpi .sgt c2_i32_561 c0_i32_564
  let v1148 : BitVec 32 := Scalar.extui v1147
  let c0_i32_565 : BitVec 32 := 0#32
  let v1149 : BitVec 1 := Scalar.cmpi .slt c2_i32_561 c0_i32_565
  let v1150 : BitVec 32 := Scalar.extui v1149
  let v1151 : BitVec 32 := Scalar.subi v1148 v1150
  let v1152 : BitVec 1 := Scalar.cmpi .ne v1146 v1151
  let v1153 : BitVec 32 := Scalar.remsi v1140 c2_i32_561
  let c0_i32_566 : BitVec 32 := 0#32
  let v1154 : BitVec 1 := Scalar.cmpi .ne v1153 c0_i32_566
  let v1155 : BitVec 1 := Scalar.andi v1152 v1154
  let v1141 : BitVec 32 := Scalar.divsi v1140 c2_i32_561
  let c1_i32_567 : BitVec 32 := 1#32
  let v1156 : BitVec 32 := Scalar.subi v1141 c1_i32_567
  let v1157 : BitVec 32 := Scalar.select v1155 v1156 v1141
  let v1158 : BitVec 32 := Scalar.subi v1138 v1157
  let v1159 : BitVec 32 := Scalar.subi v1158 v1137
  let c1_i32_568 : BitVec 32 := 1#32
  let v1160 : BitVec 32 := Scalar.subi v1159 c1_i32_568
  let c2094072_i32_578 : BitVec 32 := 2094072#32
  let c0_i32_577 : BitVec 32 := 0#32
  let c0_i32_570 : BitVec 32 := 0#32
  let v1162 : BitVec 1 := Scalar.cmpi .sgt v1160 c0_i32_570
  let v1163 : BitVec 32 := Scalar.extui v1162
  let c0_i32_571 : BitVec 32 := 0#32
  let v1164 : BitVec 1 := Scalar.cmpi .slt v1160 c0_i32_571
  let v1165 : BitVec 32 := Scalar.extui v1164
  let v1166 : BitVec 32 := Scalar.subi v1163 v1165
  let c8_i32_569 : BitVec 32 := 8#32
  let c0_i32_572 : BitVec 32 := 0#32
  let v1167 : BitVec 1 := Scalar.cmpi .sgt c8_i32_569 c0_i32_572
  let v1168 : BitVec 32 := Scalar.extui v1167
  let c0_i32_573 : BitVec 32 := 0#32
  let v1169 : BitVec 1 := Scalar.cmpi .slt c8_i32_569 c0_i32_573
  let v1170 : BitVec 32 := Scalar.extui v1169
  let v1171 : BitVec 32 := Scalar.subi v1168 v1170
  let v1172 : BitVec 1 := Scalar.cmpi .ne v1166 v1171
  let v1173 : BitVec 32 := Scalar.remsi v1160 c8_i32_569
  let c0_i32_574 : BitVec 32 := 0#32
  let v1174 : BitVec 1 := Scalar.cmpi .ne v1173 c0_i32_574
  let v1175 : BitVec 1 := Scalar.andi v1172 v1174
  let v1161 : BitVec 32 := Scalar.divsi v1160 c8_i32_569
  let c1_i32_575 : BitVec 32 := 1#32
  let v1176 : BitVec 32 := Scalar.subi v1161 c1_i32_575
  let v1177 : BitVec 32 := Scalar.select v1175 v1176 v1161
  let c8_i32_576 : BitVec 32 := 8#32
  let v1178 : BitVec 32 := Scalar.muli v1177 c8_i32_576
  let v1179 : BitVec 32 := Scalar.maxsi c0_i32_577 v1178
  let v1180 : BitVec 32 := Scalar.minsi c2094072_i32_578 v1179
  let v1181 : BitVec 32 := v1180
  let v1183 : BitVec 32 := Scalar.subi v1160 v1181
  let v1184 : BitVec 32 := Scalar.select v1182 c7_i32_580 v1183
  let c1_i32_581 : BitVec 32 := 1#32
  let v1185 : BitVec 32 := Scalar.addi v1137 c1_i32_581
  let c0_i32_583 : BitVec 32 := 0#32
  let v1187 : BitVec 1 := Scalar.cmpi .sgt v1185 c0_i32_583
  let v1188 : BitVec 32 := Scalar.extui v1187
  let c0_i32_584 : BitVec 32 := 0#32
  let v1189 : BitVec 1 := Scalar.cmpi .slt v1185 c0_i32_584
  let v1190 : BitVec 32 := Scalar.extui v1189
  let v1191 : BitVec 32 := Scalar.subi v1188 v1190
  let c256_i32_582 : BitVec 32 := 256#32
  let c0_i32_585 : BitVec 32 := 0#32
  let v1192 : BitVec 1 := Scalar.cmpi .sgt c256_i32_582 c0_i32_585
  let v1193 : BitVec 32 := Scalar.extui v1192
  let c0_i32_586 : BitVec 32 := 0#32
  let v1194 : BitVec 1 := Scalar.cmpi .slt c256_i32_582 c0_i32_586
  let v1195 : BitVec 32 := Scalar.extui v1194
  let v1196 : BitVec 32 := Scalar.subi v1193 v1195
  let v1197 : BitVec 1 := Scalar.cmpi .ne v1191 v1196
  let v1198 : BitVec 32 := Scalar.remsi v1185 c256_i32_582
  let c0_i32_587 : BitVec 32 := 0#32
  let v1199 : BitVec 1 := Scalar.cmpi .ne v1198 c0_i32_587
  let v1200 : BitVec 1 := Scalar.andi v1197 v1199
  let v1186 : BitVec 32 := Scalar.divsi v1185 c256_i32_582
  let c1_i32_588 : BitVec 32 := 1#32
  let v1201 : BitVec 32 := Scalar.subi v1186 c1_i32_588
  let v1202 : BitVec 32 := Scalar.select v1200 v1201 v1186
  let c1_i32_592 : BitVec 32 := 1#32
  let arg21 : BitVec 32 := Scf.iv v1202 c1_i32_592 k0_t6
  let c256_i32_755 : BitVec 32 := 256#32
  let v1529 : BitVec 32 := Scalar.muli arg21 c256_i32_755
  let v1530 : BitVec 32 := Scalar.addi v1184 v1529
  let v1531 : BitVec 32 := Scalar.addi v1530 c0_i32_756
  let v1532 : Index := Scalar.indexCast v1531
  ![v1532.toNat]
def k0_off66 (i : grid0.Coords) (k0_t1 : Fin k0_t1_loop.trips) (k0_t6 : Fin (k0_t6_loop i k0_t1).trips) (c0_i32_760 : BitVec 32) : Fin 1 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c1_i32_581 : BitVec 32 := 1#32
  let v1185 : BitVec 32 := Scalar.addi v1137 c1_i32_581
  let c0_i32_583 : BitVec 32 := 0#32
  let v1187 : BitVec 1 := Scalar.cmpi .sgt v1185 c0_i32_583
  let v1188 : BitVec 32 := Scalar.extui v1187
  let c0_i32_584 : BitVec 32 := 0#32
  let v1189 : BitVec 1 := Scalar.cmpi .slt v1185 c0_i32_584
  let v1190 : BitVec 32 := Scalar.extui v1189
  let v1191 : BitVec 32 := Scalar.subi v1188 v1190
  let c256_i32_582 : BitVec 32 := 256#32
  let c0_i32_585 : BitVec 32 := 0#32
  let v1192 : BitVec 1 := Scalar.cmpi .sgt c256_i32_582 c0_i32_585
  let v1193 : BitVec 32 := Scalar.extui v1192
  let c0_i32_586 : BitVec 32 := 0#32
  let v1194 : BitVec 1 := Scalar.cmpi .slt c256_i32_582 c0_i32_586
  let v1195 : BitVec 32 := Scalar.extui v1194
  let v1196 : BitVec 32 := Scalar.subi v1193 v1195
  let v1197 : BitVec 1 := Scalar.cmpi .ne v1191 v1196
  let v1198 : BitVec 32 := Scalar.remsi v1185 c256_i32_582
  let c0_i32_587 : BitVec 32 := 0#32
  let v1199 : BitVec 1 := Scalar.cmpi .ne v1198 c0_i32_587
  let v1200 : BitVec 1 := Scalar.andi v1197 v1199
  let v1186 : BitVec 32 := Scalar.divsi v1185 c256_i32_582
  let c1_i32_588 : BitVec 32 := 1#32
  let v1201 : BitVec 32 := Scalar.subi v1186 c1_i32_588
  let v1202 : BitVec 32 := Scalar.select v1200 v1201 v1186
  let c1_i32_592 : BitVec 32 := 1#32
  let arg21 : BitVec 32 := Scf.iv v1202 c1_i32_592 k0_t6
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
@[reducible] def k0_t7_loop (i : grid0.Coords) (k0_t1 : Fin k0_t1_loop.trips) : Scf.Loop 32 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c1_i32_581 : BitVec 32 := 1#32
  let v1185 : BitVec 32 := Scalar.addi v1137 c1_i32_581
  let c0_i32_583 : BitVec 32 := 0#32
  let v1187 : BitVec 1 := Scalar.cmpi .sgt v1185 c0_i32_583
  let v1188 : BitVec 32 := Scalar.extui v1187
  let c0_i32_584 : BitVec 32 := 0#32
  let v1189 : BitVec 1 := Scalar.cmpi .slt v1185 c0_i32_584
  let v1190 : BitVec 32 := Scalar.extui v1189
  let v1191 : BitVec 32 := Scalar.subi v1188 v1190
  let c256_i32_582 : BitVec 32 := 256#32
  let c0_i32_585 : BitVec 32 := 0#32
  let v1192 : BitVec 1 := Scalar.cmpi .sgt c256_i32_582 c0_i32_585
  let v1193 : BitVec 32 := Scalar.extui v1192
  let c0_i32_586 : BitVec 32 := 0#32
  let v1194 : BitVec 1 := Scalar.cmpi .slt c256_i32_582 c0_i32_586
  let v1195 : BitVec 32 := Scalar.extui v1194
  let v1196 : BitVec 32 := Scalar.subi v1193 v1195
  let v1197 : BitVec 1 := Scalar.cmpi .ne v1191 v1196
  let v1198 : BitVec 32 := Scalar.remsi v1185 c256_i32_582
  let c0_i32_587 : BitVec 32 := 0#32
  let v1199 : BitVec 1 := Scalar.cmpi .ne v1198 c0_i32_587
  let v1200 : BitVec 1 := Scalar.andi v1197 v1199
  let v1186 : BitVec 32 := Scalar.divsi v1185 c256_i32_582
  let c1_i32_588 : BitVec 32 := 1#32
  let v1201 : BitVec 32 := Scalar.subi v1186 c1_i32_588
  let v1202 : BitVec 32 := Scalar.select v1200 v1201 v1186
  let c8_i32_590 : BitVec 32 := 8#32
  let v1203 : BitVec 32 := Scalar.subi c8_i32_590 v1202
  let c1_i32_591 : BitVec 32 := 1#32
  let v1205 : BitVec 32 := Scalar.divsi v1203 c1_i32_591
  let v1206 : BitVec 32 := Scalar.muli v1205 c1_i32_591
  let v1207 : BitVec 32 := Scalar.addi v1202 v1206
  let v1204 : BitVec 32 := Scalar.addi v1202 v1203
  let c1_i32_593 : BitVec 32 := 1#32
  ⟨v1207, v1204, c1_i32_593⟩
def k0_off67 (i : grid0.Coords) (k0_t1 : Fin k0_t1_loop.trips) (k0_t7 : Fin (k0_t7_loop i k0_t1).trips) (c0_i32_756 : BitVec 32) : Fin 1 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c0_i32_579 : BitVec 32 := 0#32
  let v1182 : BitVec 1 := Scalar.cmpi .eq v1137 c0_i32_579
  let c7_i32_580 : BitVec 32 := 7#32
  let c2047_i32_559 : BitVec 32 := 2047#32
  let v1138 : BitVec 32 := Scalar.muli v1137 c2047_i32_559
  let c1_i32_560 : BitVec 32 := 1#32
  let v1139 : BitVec 32 := Scalar.subi v1137 c1_i32_560
  let v1140 : BitVec 32 := Scalar.muli v1137 v1139
  let c0_i32_562 : BitVec 32 := 0#32
  let v1142 : BitVec 1 := Scalar.cmpi .sgt v1140 c0_i32_562
  let v1143 : BitVec 32 := Scalar.extui v1142
  let c0_i32_563 : BitVec 32 := 0#32
  let v1144 : BitVec 1 := Scalar.cmpi .slt v1140 c0_i32_563
  let v1145 : BitVec 32 := Scalar.extui v1144
  let v1146 : BitVec 32 := Scalar.subi v1143 v1145
  let c2_i32_561 : BitVec 32 := 2#32
  let c0_i32_564 : BitVec 32 := 0#32
  let v1147 : BitVec 1 := Scalar.cmpi .sgt c2_i32_561 c0_i32_564
  let v1148 : BitVec 32 := Scalar.extui v1147
  let c0_i32_565 : BitVec 32 := 0#32
  let v1149 : BitVec 1 := Scalar.cmpi .slt c2_i32_561 c0_i32_565
  let v1150 : BitVec 32 := Scalar.extui v1149
  let v1151 : BitVec 32 := Scalar.subi v1148 v1150
  let v1152 : BitVec 1 := Scalar.cmpi .ne v1146 v1151
  let v1153 : BitVec 32 := Scalar.remsi v1140 c2_i32_561
  let c0_i32_566 : BitVec 32 := 0#32
  let v1154 : BitVec 1 := Scalar.cmpi .ne v1153 c0_i32_566
  let v1155 : BitVec 1 := Scalar.andi v1152 v1154
  let v1141 : BitVec 32 := Scalar.divsi v1140 c2_i32_561
  let c1_i32_567 : BitVec 32 := 1#32
  let v1156 : BitVec 32 := Scalar.subi v1141 c1_i32_567
  let v1157 : BitVec 32 := Scalar.select v1155 v1156 v1141
  let v1158 : BitVec 32 := Scalar.subi v1138 v1157
  let v1159 : BitVec 32 := Scalar.subi v1158 v1137
  let c1_i32_568 : BitVec 32 := 1#32
  let v1160 : BitVec 32 := Scalar.subi v1159 c1_i32_568
  let c2094072_i32_578 : BitVec 32 := 2094072#32
  let c0_i32_577 : BitVec 32 := 0#32
  let c0_i32_570 : BitVec 32 := 0#32
  let v1162 : BitVec 1 := Scalar.cmpi .sgt v1160 c0_i32_570
  let v1163 : BitVec 32 := Scalar.extui v1162
  let c0_i32_571 : BitVec 32 := 0#32
  let v1164 : BitVec 1 := Scalar.cmpi .slt v1160 c0_i32_571
  let v1165 : BitVec 32 := Scalar.extui v1164
  let v1166 : BitVec 32 := Scalar.subi v1163 v1165
  let c8_i32_569 : BitVec 32 := 8#32
  let c0_i32_572 : BitVec 32 := 0#32
  let v1167 : BitVec 1 := Scalar.cmpi .sgt c8_i32_569 c0_i32_572
  let v1168 : BitVec 32 := Scalar.extui v1167
  let c0_i32_573 : BitVec 32 := 0#32
  let v1169 : BitVec 1 := Scalar.cmpi .slt c8_i32_569 c0_i32_573
  let v1170 : BitVec 32 := Scalar.extui v1169
  let v1171 : BitVec 32 := Scalar.subi v1168 v1170
  let v1172 : BitVec 1 := Scalar.cmpi .ne v1166 v1171
  let v1173 : BitVec 32 := Scalar.remsi v1160 c8_i32_569
  let c0_i32_574 : BitVec 32 := 0#32
  let v1174 : BitVec 1 := Scalar.cmpi .ne v1173 c0_i32_574
  let v1175 : BitVec 1 := Scalar.andi v1172 v1174
  let v1161 : BitVec 32 := Scalar.divsi v1160 c8_i32_569
  let c1_i32_575 : BitVec 32 := 1#32
  let v1176 : BitVec 32 := Scalar.subi v1161 c1_i32_575
  let v1177 : BitVec 32 := Scalar.select v1175 v1176 v1161
  let c8_i32_576 : BitVec 32 := 8#32
  let v1178 : BitVec 32 := Scalar.muli v1177 c8_i32_576
  let v1179 : BitVec 32 := Scalar.maxsi c0_i32_577 v1178
  let v1180 : BitVec 32 := Scalar.minsi c2094072_i32_578 v1179
  let v1181 : BitVec 32 := v1180
  let v1183 : BitVec 32 := Scalar.subi v1160 v1181
  let v1184 : BitVec 32 := Scalar.select v1182 c7_i32_580 v1183
  let c1_i32_581 : BitVec 32 := 1#32
  let v1185 : BitVec 32 := Scalar.addi v1137 c1_i32_581
  let c0_i32_583 : BitVec 32 := 0#32
  let v1187 : BitVec 1 := Scalar.cmpi .sgt v1185 c0_i32_583
  let v1188 : BitVec 32 := Scalar.extui v1187
  let c0_i32_584 : BitVec 32 := 0#32
  let v1189 : BitVec 1 := Scalar.cmpi .slt v1185 c0_i32_584
  let v1190 : BitVec 32 := Scalar.extui v1189
  let v1191 : BitVec 32 := Scalar.subi v1188 v1190
  let c256_i32_582 : BitVec 32 := 256#32
  let c0_i32_585 : BitVec 32 := 0#32
  let v1192 : BitVec 1 := Scalar.cmpi .sgt c256_i32_582 c0_i32_585
  let v1193 : BitVec 32 := Scalar.extui v1192
  let c0_i32_586 : BitVec 32 := 0#32
  let v1194 : BitVec 1 := Scalar.cmpi .slt c256_i32_582 c0_i32_586
  let v1195 : BitVec 32 := Scalar.extui v1194
  let v1196 : BitVec 32 := Scalar.subi v1193 v1195
  let v1197 : BitVec 1 := Scalar.cmpi .ne v1191 v1196
  let v1198 : BitVec 32 := Scalar.remsi v1185 c256_i32_582
  let c0_i32_587 : BitVec 32 := 0#32
  let v1199 : BitVec 1 := Scalar.cmpi .ne v1198 c0_i32_587
  let v1200 : BitVec 1 := Scalar.andi v1197 v1199
  let v1186 : BitVec 32 := Scalar.divsi v1185 c256_i32_582
  let c1_i32_588 : BitVec 32 := 1#32
  let v1201 : BitVec 32 := Scalar.subi v1186 c1_i32_588
  let v1202 : BitVec 32 := Scalar.select v1200 v1201 v1186
  let c8_i32_590 : BitVec 32 := 8#32
  let v1203 : BitVec 32 := Scalar.subi c8_i32_590 v1202
  let c1_i32_591 : BitVec 32 := 1#32
  let v1205 : BitVec 32 := Scalar.divsi v1203 c1_i32_591
  let v1206 : BitVec 32 := Scalar.muli v1205 c1_i32_591
  let v1207 : BitVec 32 := Scalar.addi v1202 v1206
  let c1_i32_593 : BitVec 32 := 1#32
  let arg21 : BitVec 32 := Scf.iv v1207 c1_i32_593 k0_t7
  let c256_i32_755 : BitVec 32 := 256#32
  let v1529 : BitVec 32 := Scalar.muli arg21 c256_i32_755
  let v1530 : BitVec 32 := Scalar.addi v1184 v1529
  let v1531 : BitVec 32 := Scalar.addi v1530 c0_i32_756
  let v1532 : Index := Scalar.indexCast v1531
  ![v1532.toNat]
def k0_off68 (i : grid0.Coords) (k0_t1 : Fin k0_t1_loop.trips) (k0_t7 : Fin (k0_t7_loop i k0_t1).trips) (c0_i32_760 : BitVec 32) : Fin 1 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_558 : BitVec 32 := 32#32
  let v1136 : BitVec 32 := Scalar.muli v1044 c32_i32_558
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1137 : BitVec 32 := Scalar.addi v1136 v1
  let c1_i32_581 : BitVec 32 := 1#32
  let v1185 : BitVec 32 := Scalar.addi v1137 c1_i32_581
  let c0_i32_583 : BitVec 32 := 0#32
  let v1187 : BitVec 1 := Scalar.cmpi .sgt v1185 c0_i32_583
  let v1188 : BitVec 32 := Scalar.extui v1187
  let c0_i32_584 : BitVec 32 := 0#32
  let v1189 : BitVec 1 := Scalar.cmpi .slt v1185 c0_i32_584
  let v1190 : BitVec 32 := Scalar.extui v1189
  let v1191 : BitVec 32 := Scalar.subi v1188 v1190
  let c256_i32_582 : BitVec 32 := 256#32
  let c0_i32_585 : BitVec 32 := 0#32
  let v1192 : BitVec 1 := Scalar.cmpi .sgt c256_i32_582 c0_i32_585
  let v1193 : BitVec 32 := Scalar.extui v1192
  let c0_i32_586 : BitVec 32 := 0#32
  let v1194 : BitVec 1 := Scalar.cmpi .slt c256_i32_582 c0_i32_586
  let v1195 : BitVec 32 := Scalar.extui v1194
  let v1196 : BitVec 32 := Scalar.subi v1193 v1195
  let v1197 : BitVec 1 := Scalar.cmpi .ne v1191 v1196
  let v1198 : BitVec 32 := Scalar.remsi v1185 c256_i32_582
  let c0_i32_587 : BitVec 32 := 0#32
  let v1199 : BitVec 1 := Scalar.cmpi .ne v1198 c0_i32_587
  let v1200 : BitVec 1 := Scalar.andi v1197 v1199
  let v1186 : BitVec 32 := Scalar.divsi v1185 c256_i32_582
  let c1_i32_588 : BitVec 32 := 1#32
  let v1201 : BitVec 32 := Scalar.subi v1186 c1_i32_588
  let v1202 : BitVec 32 := Scalar.select v1200 v1201 v1186
  let c8_i32_590 : BitVec 32 := 8#32
  let v1203 : BitVec 32 := Scalar.subi c8_i32_590 v1202
  let c1_i32_591 : BitVec 32 := 1#32
  let v1205 : BitVec 32 := Scalar.divsi v1203 c1_i32_591
  let v1206 : BitVec 32 := Scalar.muli v1205 c1_i32_591
  let v1207 : BitVec 32 := Scalar.addi v1202 v1206
  let c1_i32_593 : BitVec 32 := 1#32
  let arg21 : BitVec 32 := Scf.iv v1207 c1_i32_593 k0_t7
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
def k0_mult74 (i : grid0.Coords) (k0_t1 : Fin k0_t1_loop.trips) : BitVec 32 :=
  let c2094072_i32_614 : BitVec 32 := 2094072#32
  let c0_i32_613 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_594 : BitVec 32 := 32#32
  let v1208 : BitVec 32 := Scalar.muli v1044 c32_i32_594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1209 : BitVec 32 := Scalar.addi v1208 v1
  let c2047_i32_595 : BitVec 32 := 2047#32
  let v1210 : BitVec 32 := Scalar.muli v1209 c2047_i32_595
  let c1_i32_596 : BitVec 32 := 1#32
  let v1211 : BitVec 32 := Scalar.subi v1209 c1_i32_596
  let v1212 : BitVec 32 := Scalar.muli v1209 v1211
  let c0_i32_598 : BitVec 32 := 0#32
  let v1214 : BitVec 1 := Scalar.cmpi .sgt v1212 c0_i32_598
  let v1215 : BitVec 32 := Scalar.extui v1214
  let c0_i32_599 : BitVec 32 := 0#32
  let v1216 : BitVec 1 := Scalar.cmpi .slt v1212 c0_i32_599
  let v1217 : BitVec 32 := Scalar.extui v1216
  let v1218 : BitVec 32 := Scalar.subi v1215 v1217
  let c2_i32_597 : BitVec 32 := 2#32
  let c0_i32_600 : BitVec 32 := 0#32
  let v1219 : BitVec 1 := Scalar.cmpi .sgt c2_i32_597 c0_i32_600
  let v1220 : BitVec 32 := Scalar.extui v1219
  let c0_i32_601 : BitVec 32 := 0#32
  let v1221 : BitVec 1 := Scalar.cmpi .slt c2_i32_597 c0_i32_601
  let v1222 : BitVec 32 := Scalar.extui v1221
  let v1223 : BitVec 32 := Scalar.subi v1220 v1222
  let v1224 : BitVec 1 := Scalar.cmpi .ne v1218 v1223
  let v1225 : BitVec 32 := Scalar.remsi v1212 c2_i32_597
  let c0_i32_602 : BitVec 32 := 0#32
  let v1226 : BitVec 1 := Scalar.cmpi .ne v1225 c0_i32_602
  let v1227 : BitVec 1 := Scalar.andi v1224 v1226
  let v1213 : BitVec 32 := Scalar.divsi v1212 c2_i32_597
  let c1_i32_603 : BitVec 32 := 1#32
  let v1228 : BitVec 32 := Scalar.subi v1213 c1_i32_603
  let v1229 : BitVec 32 := Scalar.select v1227 v1228 v1213
  let v1230 : BitVec 32 := Scalar.subi v1210 v1229
  let v1231 : BitVec 32 := Scalar.subi v1230 v1209
  let c1_i32_604 : BitVec 32 := 1#32
  let v1232 : BitVec 32 := Scalar.subi v1231 c1_i32_604
  let c0_i32_606 : BitVec 32 := 0#32
  let v1234 : BitVec 1 := Scalar.cmpi .sgt v1232 c0_i32_606
  let v1235 : BitVec 32 := Scalar.extui v1234
  let c0_i32_607 : BitVec 32 := 0#32
  let v1236 : BitVec 1 := Scalar.cmpi .slt v1232 c0_i32_607
  let v1237 : BitVec 32 := Scalar.extui v1236
  let v1238 : BitVec 32 := Scalar.subi v1235 v1237
  let c8_i32_605 : BitVec 32 := 8#32
  let c0_i32_608 : BitVec 32 := 0#32
  let v1239 : BitVec 1 := Scalar.cmpi .sgt c8_i32_605 c0_i32_608
  let v1240 : BitVec 32 := Scalar.extui v1239
  let c0_i32_609 : BitVec 32 := 0#32
  let v1241 : BitVec 1 := Scalar.cmpi .slt c8_i32_605 c0_i32_609
  let v1242 : BitVec 32 := Scalar.extui v1241
  let v1243 : BitVec 32 := Scalar.subi v1240 v1242
  let v1244 : BitVec 1 := Scalar.cmpi .ne v1238 v1243
  let v1245 : BitVec 32 := Scalar.remsi v1232 c8_i32_605
  let c0_i32_610 : BitVec 32 := 0#32
  let v1246 : BitVec 1 := Scalar.cmpi .ne v1245 c0_i32_610
  let v1247 : BitVec 1 := Scalar.andi v1244 v1246
  let v1233 : BitVec 32 := Scalar.divsi v1232 c8_i32_605
  let c1_i32_611 : BitVec 32 := 1#32
  let v1248 : BitVec 32 := Scalar.subi v1233 c1_i32_611
  let v1249 : BitVec 32 := Scalar.select v1247 v1248 v1233
  let c8_i32_612 : BitVec 32 := 8#32
  let v1250 : BitVec 32 := Scalar.muli v1249 c8_i32_612
  let v1251 : BitVec 32 := Scalar.maxsi c0_i32_613 v1250
  let v1252 : BitVec 32 := Scalar.minsi c2094072_i32_614 v1251
  v1252
def k0_cond72 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_594 : BitVec 32 := 32#32
  let v1208 : BitVec 32 := Scalar.muli v1044 c32_i32_594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1209 : BitVec 32 := Scalar.addi v1208 v1
  let c0_i32_618 : BitVec 32 := 0#32
  let v1258 : BitVec 1 := Scalar.cmpi .sgt v1209 c0_i32_618
  let v1259 : BitVec 32 := Scalar.extui v1258
  let c0_i32_619 : BitVec 32 := 0#32
  let v1260 : BitVec 1 := Scalar.cmpi .slt v1209 c0_i32_619
  let v1261 : BitVec 32 := Scalar.extui v1260
  let v1262 : BitVec 32 := Scalar.subi v1259 v1261
  let c512_i32_617 : BitVec 32 := 512#32
  let c0_i32_620 : BitVec 32 := 0#32
  let v1263 : BitVec 1 := Scalar.cmpi .sgt c512_i32_617 c0_i32_620
  let v1264 : BitVec 32 := Scalar.extui v1263
  let c0_i32_621 : BitVec 32 := 0#32
  let v1265 : BitVec 1 := Scalar.cmpi .slt c512_i32_617 c0_i32_621
  let v1266 : BitVec 32 := Scalar.extui v1265
  let v1267 : BitVec 32 := Scalar.subi v1264 v1266
  let v1268 : BitVec 1 := Scalar.cmpi .ne v1262 v1267
  let v1269 : BitVec 32 := Scalar.remsi v1209 c512_i32_617
  let c0_i32_622 : BitVec 32 := 0#32
  let v1270 : BitVec 1 := Scalar.cmpi .ne v1269 c0_i32_622
  let v1271 : BitVec 1 := Scalar.andi v1268 v1270
  let v1257 : BitVec 32 := Scalar.divsi v1209 c512_i32_617
  let c1_i32_623 : BitVec 32 := 1#32
  let v1272 : BitVec 32 := Scalar.subi v1257 c1_i32_623
  let v1273 : BitVec 32 := Scalar.select v1271 v1272 v1257
  let c0_i32_624 : BitVec 32 := 0#32
  let v1274 : BitVec 1 := Scalar.cmpi .eq v1273 c0_i32_624
  let v1275 : BitVec 32 := Scalar.extui v1274
  let c0_i32_625 : BitVec 32 := 0#32
  let v1276 : BitVec 1 := Scalar.cmpi .ne v1275 c0_i32_625
  v1276

def k0_mult75 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off69 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c0_i32_780 : BitVec 32 := 0#32
  ![v1530.toNat, 0]
def k0_cond73 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_594 : BitVec 32 := 32#32
  let v1208 : BitVec 32 := Scalar.muli v1044 c32_i32_594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1209 : BitVec 32 := Scalar.addi v1208 v1
  let c0_i32_618 : BitVec 32 := 0#32
  let v1258 : BitVec 1 := Scalar.cmpi .sgt v1209 c0_i32_618
  let v1259 : BitVec 32 := Scalar.extui v1258
  let c0_i32_619 : BitVec 32 := 0#32
  let v1260 : BitVec 1 := Scalar.cmpi .slt v1209 c0_i32_619
  let v1261 : BitVec 32 := Scalar.extui v1260
  let v1262 : BitVec 32 := Scalar.subi v1259 v1261
  let c512_i32_617 : BitVec 32 := 512#32
  let c0_i32_620 : BitVec 32 := 0#32
  let v1263 : BitVec 1 := Scalar.cmpi .sgt c512_i32_617 c0_i32_620
  let v1264 : BitVec 32 := Scalar.extui v1263
  let c0_i32_621 : BitVec 32 := 0#32
  let v1265 : BitVec 1 := Scalar.cmpi .slt c512_i32_617 c0_i32_621
  let v1266 : BitVec 32 := Scalar.extui v1265
  let v1267 : BitVec 32 := Scalar.subi v1264 v1266
  let v1268 : BitVec 1 := Scalar.cmpi .ne v1262 v1267
  let v1269 : BitVec 32 := Scalar.remsi v1209 c512_i32_617
  let c0_i32_622 : BitVec 32 := 0#32
  let v1270 : BitVec 1 := Scalar.cmpi .ne v1269 c0_i32_622
  let v1271 : BitVec 1 := Scalar.andi v1268 v1270
  let v1257 : BitVec 32 := Scalar.divsi v1209 c512_i32_617
  let c1_i32_623 : BitVec 32 := 1#32
  let v1272 : BitVec 32 := Scalar.subi v1257 c1_i32_623
  let v1273 : BitVec 32 := Scalar.select v1271 v1272 v1257
  let c1_i32_626 : BitVec 32 := 1#32
  let v1277 : BitVec 1 := Scalar.cmpi .eq v1273 c1_i32_626
  let v1278 : BitVec 32 := Scalar.extui v1277
  let c0_i32_627 : BitVec 32 := 0#32
  let v1279 : BitVec 1 := Scalar.cmpi .ne v1278 c0_i32_627
  v1279

def k0_mult76 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off70 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c512_i32_780 : BitVec 32 := 512#32
  ![v1530.toNat, 512]
def k0_cond74 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_594 : BitVec 32 := 32#32
  let v1208 : BitVec 32 := Scalar.muli v1044 c32_i32_594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1209 : BitVec 32 := Scalar.addi v1208 v1
  let c0_i32_618 : BitVec 32 := 0#32
  let v1258 : BitVec 1 := Scalar.cmpi .sgt v1209 c0_i32_618
  let v1259 : BitVec 32 := Scalar.extui v1258
  let c0_i32_619 : BitVec 32 := 0#32
  let v1260 : BitVec 1 := Scalar.cmpi .slt v1209 c0_i32_619
  let v1261 : BitVec 32 := Scalar.extui v1260
  let v1262 : BitVec 32 := Scalar.subi v1259 v1261
  let c512_i32_617 : BitVec 32 := 512#32
  let c0_i32_620 : BitVec 32 := 0#32
  let v1263 : BitVec 1 := Scalar.cmpi .sgt c512_i32_617 c0_i32_620
  let v1264 : BitVec 32 := Scalar.extui v1263
  let c0_i32_621 : BitVec 32 := 0#32
  let v1265 : BitVec 1 := Scalar.cmpi .slt c512_i32_617 c0_i32_621
  let v1266 : BitVec 32 := Scalar.extui v1265
  let v1267 : BitVec 32 := Scalar.subi v1264 v1266
  let v1268 : BitVec 1 := Scalar.cmpi .ne v1262 v1267
  let v1269 : BitVec 32 := Scalar.remsi v1209 c512_i32_617
  let c0_i32_622 : BitVec 32 := 0#32
  let v1270 : BitVec 1 := Scalar.cmpi .ne v1269 c0_i32_622
  let v1271 : BitVec 1 := Scalar.andi v1268 v1270
  let v1257 : BitVec 32 := Scalar.divsi v1209 c512_i32_617
  let c1_i32_623 : BitVec 32 := 1#32
  let v1272 : BitVec 32 := Scalar.subi v1257 c1_i32_623
  let v1273 : BitVec 32 := Scalar.select v1271 v1272 v1257
  let c2_i32_628 : BitVec 32 := 2#32
  let v1280 : BitVec 1 := Scalar.cmpi .eq v1273 c2_i32_628
  let v1281 : BitVec 32 := Scalar.extui v1280
  let c0_i32_629 : BitVec 32 := 0#32
  let v1282 : BitVec 1 := Scalar.cmpi .ne v1281 c0_i32_629
  v1282

def k0_mult77 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off71 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1024_i32_779 : BitVec 32 := 1024#32
  ![v1530.toNat, 1024]
def k0_cond75 (i : grid0.Coords) (k0_t1 : Fin k0_t1_loop.trips) : BitVec 1 :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_594 : BitVec 32 := 32#32
  let v1208 : BitVec 32 := Scalar.muli v1044 c32_i32_594
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1209 : BitVec 32 := Scalar.addi v1208 v1
  let c0_i32_618 : BitVec 32 := 0#32
  let v1258 : BitVec 1 := Scalar.cmpi .sgt v1209 c0_i32_618
  let v1259 : BitVec 32 := Scalar.extui v1258
  let c0_i32_619 : BitVec 32 := 0#32
  let v1260 : BitVec 1 := Scalar.cmpi .slt v1209 c0_i32_619
  let v1261 : BitVec 32 := Scalar.extui v1260
  let v1262 : BitVec 32 := Scalar.subi v1259 v1261
  let c512_i32_617 : BitVec 32 := 512#32
  let c0_i32_620 : BitVec 32 := 0#32
  let v1263 : BitVec 1 := Scalar.cmpi .sgt c512_i32_617 c0_i32_620
  let v1264 : BitVec 32 := Scalar.extui v1263
  let c0_i32_621 : BitVec 32 := 0#32
  let v1265 : BitVec 1 := Scalar.cmpi .slt c512_i32_617 c0_i32_621
  let v1266 : BitVec 32 := Scalar.extui v1265
  let v1267 : BitVec 32 := Scalar.subi v1264 v1266
  let v1268 : BitVec 1 := Scalar.cmpi .ne v1262 v1267
  let v1269 : BitVec 32 := Scalar.remsi v1209 c512_i32_617
  let c0_i32_622 : BitVec 32 := 0#32
  let v1270 : BitVec 1 := Scalar.cmpi .ne v1269 c0_i32_622
  let v1271 : BitVec 1 := Scalar.andi v1268 v1270
  let v1257 : BitVec 32 := Scalar.divsi v1209 c512_i32_617
  let c1_i32_623 : BitVec 32 := 1#32
  let v1272 : BitVec 32 := Scalar.subi v1257 c1_i32_623
  let v1273 : BitVec 32 := Scalar.select v1271 v1272 v1257
  let c3_i32_630 : BitVec 32 := 3#32
  let v1283 : BitVec 1 := Scalar.cmpi .eq v1273 c3_i32_630
  let v1284 : BitVec 32 := Scalar.extui v1283
  let c0_i32_631 : BitVec 32 := 0#32
  let v1285 : BitVec 1 := Scalar.cmpi .ne v1284 c0_i32_631
  v1285

def k0_mult78 (i : grid0.Coords) (k0_t1 : Fin k0_t1_loop.trips) : BitVec 32 :=
  let c2094072_i32_775 : BitVec 32 := 2094072#32
  let c0_i32_774 : BitVec 32 := 0#32
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off72 (i : grid0.Coords) (k0_t1 : Fin k0_t1_loop.trips) : Fin 2 → Nat :=
  let c4_i32_509 : BitVec 32 := 4#32
  let c0_i32_114 : BitVec 32 := 0#32
  let c1_i32_115 : BitVec 32 := 1#32
  let arg20 : BitVec 32 := Scf.iv c0_i32_114 c1_i32_115 k0_t1
  let v1043 : BitVec 32 := Scalar.muli c4_i32_509 arg20
  let c2_i32_510 : BitVec 32 := 2#32
  let v1044 : BitVec 32 := Scalar.addi v1043 c2_i32_510
  let c32_i32_755 : BitVec 32 := 32#32
  let v1529 : BitVec 32 := Scalar.muli v1044 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1536_i32_779 : BitVec 32 := 1536#32
  ![v1530.toNat, 1536]
def k0_cond76 (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_634 : BitVec 32 := 4#32
  let v1288 : BitVec 32 := Scalar.addi v1287 c4_i32_634
  let c1_i32_635 : BitVec 32 := 1#32
  let v1289 : BitVec 32 := Scalar.subi v1288 c1_i32_635
  let c64_i32_636 : BitVec 32 := 64#32
  let v1290 : BitVec 1 := Scalar.cmpi .slt v1289 c64_i32_636
  let v1291 : BitVec 32 := Scalar.extui v1290
  let c0_i32_637 : BitVec 32 := 0#32
  let v1292 : BitVec 1 := Scalar.cmpi .ne v1291 c0_i32_637
  v1292

def k0_mult79 (i : grid0.Coords) (k0_t1 : Fin k0_t1_loop.trips) : BitVec 32 :=
  let c2094072_i32_777 : BitVec 32 := 2094072#32
  let c0_i32_776 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c2047_i32_758 : BitVec 32 := 2047#32
  let v1533 : BitVec 32 := Scalar.muli v1532 c2047_i32_758
  let c1_i32_759 : BitVec 32 := 1#32
  let v1534 : BitVec 32 := Scalar.subi v1532 c1_i32_759
  let v1535 : BitVec 32 := Scalar.muli v1532 v1534
  let c0_i32_761 : BitVec 32 := 0#32
  let v1537 : BitVec 1 := Scalar.cmpi .sgt v1535 c0_i32_761
  let v1538 : BitVec 32 := Scalar.extui v1537
  let c0_i32_762 : BitVec 32 := 0#32
  let v1539 : BitVec 1 := Scalar.cmpi .slt v1535 c0_i32_762
  let v1540 : BitVec 32 := Scalar.extui v1539
  let v1541 : BitVec 32 := Scalar.subi v1538 v1540
  let c2_i32_760 : BitVec 32 := 2#32
  let c0_i32_763 : BitVec 32 := 0#32
  let v1542 : BitVec 1 := Scalar.cmpi .sgt c2_i32_760 c0_i32_763
  let v1543 : BitVec 32 := Scalar.extui v1542
  let c0_i32_764 : BitVec 32 := 0#32
  let v1544 : BitVec 1 := Scalar.cmpi .slt c2_i32_760 c0_i32_764
  let v1545 : BitVec 32 := Scalar.extui v1544
  let v1546 : BitVec 32 := Scalar.subi v1543 v1545
  let v1547 : BitVec 1 := Scalar.cmpi .ne v1541 v1546
  let v1548 : BitVec 32 := Scalar.remsi v1535 c2_i32_760
  let c0_i32_765 : BitVec 32 := 0#32
  let v1549 : BitVec 1 := Scalar.cmpi .ne v1548 c0_i32_765
  let v1550 : BitVec 1 := Scalar.andi v1547 v1549
  let v1536 : BitVec 32 := Scalar.divsi v1535 c2_i32_760
  let c1_i32_766 : BitVec 32 := 1#32
  let v1551 : BitVec 32 := Scalar.subi v1536 c1_i32_766
  let v1552 : BitVec 32 := Scalar.select v1550 v1551 v1536
  let v1553 : BitVec 32 := Scalar.subi v1533 v1552
  let v1554 : BitVec 32 := Scalar.subi v1553 v1532
  let c1_i32_767 : BitVec 32 := 1#32
  let v1555 : BitVec 32 := Scalar.subi v1554 c1_i32_767
  let c0_i32_769 : BitVec 32 := 0#32
  let v1557 : BitVec 1 := Scalar.cmpi .sgt v1555 c0_i32_769
  let v1558 : BitVec 32 := Scalar.extui v1557
  let c0_i32_770 : BitVec 32 := 0#32
  let v1559 : BitVec 1 := Scalar.cmpi .slt v1555 c0_i32_770
  let v1560 : BitVec 32 := Scalar.extui v1559
  let v1561 : BitVec 32 := Scalar.subi v1558 v1560
  let c8_i32_768 : BitVec 32 := 8#32
  let c0_i32_771 : BitVec 32 := 0#32
  let v1562 : BitVec 1 := Scalar.cmpi .sgt c8_i32_768 c0_i32_771
  let v1563 : BitVec 32 := Scalar.extui v1562
  let c0_i32_772 : BitVec 32 := 0#32
  let v1564 : BitVec 1 := Scalar.cmpi .slt c8_i32_768 c0_i32_772
  let v1565 : BitVec 32 := Scalar.extui v1564
  let v1566 : BitVec 32 := Scalar.subi v1563 v1565
  let v1567 : BitVec 1 := Scalar.cmpi .ne v1561 v1566
  let v1568 : BitVec 32 := Scalar.remsi v1555 c8_i32_768
  let c0_i32_773 : BitVec 32 := 0#32
  let v1569 : BitVec 1 := Scalar.cmpi .ne v1568 c0_i32_773
  let v1570 : BitVec 1 := Scalar.andi v1567 v1569
  let v1556 : BitVec 32 := Scalar.divsi v1555 c8_i32_768
  let c1_i32_774 : BitVec 32 := 1#32
  let v1571 : BitVec 32 := Scalar.subi v1556 c1_i32_774
  let v1572 : BitVec 32 := Scalar.select v1570 v1571 v1556
  let c8_i32_775 : BitVec 32 := 8#32
  let v1573 : BitVec 32 := Scalar.muli v1572 c8_i32_775
  let v1574 : BitVec 32 := Scalar.maxsi c0_i32_776 v1573
  let v1575 : BitVec 32 := Scalar.minsi c2094072_i32_777 v1574
  v1575
def k0_cond77 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c0_i32_787 : BitVec 32 := 0#32
  let v1597 : BitVec 1 := Scalar.cmpi .eq v1596 c0_i32_787
  let c0_i32_788 : BitVec 32 := 0#32
  let v1598 : BitVec 1 := Scalar.cmpi .sgt v1532 c0_i32_788
  let v1599 : BitVec 1 := Scalar.andi v1597 v1598
  let v1600 : BitVec 32 := Scalar.extui v1599
  let c0_i32_789 : BitVec 32 := 0#32
  let v1601 : BitVec 1 := Scalar.cmpi .ne v1600 c0_i32_789
  v1601

def k0_mult80 (i : grid0.Coords) (k0_t1 : Fin k0_t1_loop.trips) : BitVec 32 :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off73 (i : grid0.Coords) (k0_t1 : Fin k0_t1_loop.trips) : Fin 1 → Nat :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c0_i32_821 : BitVec 32 := 0#32
  let v1663 : BitVec 32 := Scalar.addi v1659 c0_i32_821
  ![v1663.toNat]
def k0_cond78 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c1_i32_790 : BitVec 32 := 1#32
  let v1602 : BitVec 1 := Scalar.cmpi .eq v1596 c1_i32_790
  let v1603 : BitVec 32 := Scalar.extui v1602
  let c0_i32_791 : BitVec 32 := 0#32
  let v1604 : BitVec 1 := Scalar.cmpi .ne v1603 c0_i32_791
  v1604

def k0_mult81 (i : grid0.Coords) (k0_t1 : Fin k0_t1_loop.trips) : BitVec 32 :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off74 (i : grid0.Coords) (k0_t1 : Fin k0_t1_loop.trips) : Fin 1 → Nat :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c512_i32_821 : BitVec 32 := 512#32
  let v1663 : BitVec 32 := Scalar.addi v1659 c512_i32_821
  ![v1663.toNat]
def k0_cond79 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c2_i32_792 : BitVec 32 := 2#32
  let v1605 : BitVec 1 := Scalar.cmpi .eq v1596 c2_i32_792
  let v1606 : BitVec 32 := Scalar.extui v1605
  let c0_i32_793 : BitVec 32 := 0#32
  let v1607 : BitVec 1 := Scalar.cmpi .ne v1606 c0_i32_793
  v1607

def k0_mult82 (i : grid0.Coords) (k0_t1 : Fin k0_t1_loop.trips) : BitVec 32 :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off75 (i : grid0.Coords) (k0_t1 : Fin k0_t1_loop.trips) : Fin 1 → Nat :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1024_i32 : BitVec 32 := 1024#32
  let v1663 : BitVec 32 := Scalar.addi v1659 c1024_i32
  ![v1663.toNat]
def k0_cond80 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_757 : BitVec 32 := 32#32
  let v1531 : BitVec 32 := Scalar.muli v1530 c32_i32_757
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1532 : BitVec 32 := Scalar.addi v1531 v1
  let c0_i32_781 : BitVec 32 := 0#32
  let v1581 : BitVec 1 := Scalar.cmpi .sgt v1532 c0_i32_781
  let v1582 : BitVec 32 := Scalar.extui v1581
  let c0_i32_782 : BitVec 32 := 0#32
  let v1583 : BitVec 1 := Scalar.cmpi .slt v1532 c0_i32_782
  let v1584 : BitVec 32 := Scalar.extui v1583
  let v1585 : BitVec 32 := Scalar.subi v1582 v1584
  let c512_i32_780 : BitVec 32 := 512#32
  let c0_i32_783 : BitVec 32 := 0#32
  let v1586 : BitVec 1 := Scalar.cmpi .sgt c512_i32_780 c0_i32_783
  let v1587 : BitVec 32 := Scalar.extui v1586
  let c0_i32_784 : BitVec 32 := 0#32
  let v1588 : BitVec 1 := Scalar.cmpi .slt c512_i32_780 c0_i32_784
  let v1589 : BitVec 32 := Scalar.extui v1588
  let v1590 : BitVec 32 := Scalar.subi v1587 v1589
  let v1591 : BitVec 1 := Scalar.cmpi .ne v1585 v1590
  let v1592 : BitVec 32 := Scalar.remsi v1532 c512_i32_780
  let c0_i32_785 : BitVec 32 := 0#32
  let v1593 : BitVec 1 := Scalar.cmpi .ne v1592 c0_i32_785
  let v1594 : BitVec 1 := Scalar.andi v1591 v1593
  let v1580 : BitVec 32 := Scalar.divsi v1532 c512_i32_780
  let c1_i32_786 : BitVec 32 := 1#32
  let v1595 : BitVec 32 := Scalar.subi v1580 c1_i32_786
  let v1596 : BitVec 32 := Scalar.select v1594 v1595 v1580
  let c3_i32_794 : BitVec 32 := 3#32
  let v1608 : BitVec 1 := Scalar.cmpi .eq v1596 c3_i32_794
  let v1609 : BitVec 32 := Scalar.extui v1608
  let c0_i32_795 : BitVec 32 := 0#32
  let v1610 : BitVec 1 := Scalar.cmpi .ne v1609 c0_i32_795
  v1610

def k0_mult83 (i : grid0.Coords) (k0_t1 : Fin k0_t1_loop.trips) : BitVec 32 :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  v1658
def k0_off76 (i : grid0.Coords) (k0_t1 : Fin k0_t1_loop.trips) : Fin 1 → Nat :=
  let c2094072_i32_818 : BitVec 32 := 2094072#32
  let c0_i32_817 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.addi v1287 c4_i32_755
  let c1_i32_756 : BitVec 32 := 1#32
  let v1530 : BitVec 32 := Scalar.subi v1529 c1_i32_756
  let c32_i32_798 : BitVec 32 := 32#32
  let v1614 : BitVec 32 := Scalar.muli v1530 c32_i32_798
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1615 : BitVec 32 := Scalar.addi v1614 v1
  let c2047_i32_799 : BitVec 32 := 2047#32
  let v1616 : BitVec 32 := Scalar.muli v1615 c2047_i32_799
  let c1_i32_800 : BitVec 32 := 1#32
  let v1617 : BitVec 32 := Scalar.subi v1615 c1_i32_800
  let v1618 : BitVec 32 := Scalar.muli v1615 v1617
  let c0_i32_802 : BitVec 32 := 0#32
  let v1620 : BitVec 1 := Scalar.cmpi .sgt v1618 c0_i32_802
  let v1621 : BitVec 32 := Scalar.extui v1620
  let c0_i32_803 : BitVec 32 := 0#32
  let v1622 : BitVec 1 := Scalar.cmpi .slt v1618 c0_i32_803
  let v1623 : BitVec 32 := Scalar.extui v1622
  let v1624 : BitVec 32 := Scalar.subi v1621 v1623
  let c2_i32_801 : BitVec 32 := 2#32
  let c0_i32_804 : BitVec 32 := 0#32
  let v1625 : BitVec 1 := Scalar.cmpi .sgt c2_i32_801 c0_i32_804
  let v1626 : BitVec 32 := Scalar.extui v1625
  let c0_i32_805 : BitVec 32 := 0#32
  let v1627 : BitVec 1 := Scalar.cmpi .slt c2_i32_801 c0_i32_805
  let v1628 : BitVec 32 := Scalar.extui v1627
  let v1629 : BitVec 32 := Scalar.subi v1626 v1628
  let v1630 : BitVec 1 := Scalar.cmpi .ne v1624 v1629
  let v1631 : BitVec 32 := Scalar.remsi v1618 c2_i32_801
  let c0_i32_806 : BitVec 32 := 0#32
  let v1632 : BitVec 1 := Scalar.cmpi .ne v1631 c0_i32_806
  let v1633 : BitVec 1 := Scalar.andi v1630 v1632
  let v1619 : BitVec 32 := Scalar.divsi v1618 c2_i32_801
  let c1_i32_807 : BitVec 32 := 1#32
  let v1634 : BitVec 32 := Scalar.subi v1619 c1_i32_807
  let v1635 : BitVec 32 := Scalar.select v1633 v1634 v1619
  let v1636 : BitVec 32 := Scalar.subi v1616 v1635
  let v1637 : BitVec 32 := Scalar.subi v1636 v1615
  let c1_i32_808 : BitVec 32 := 1#32
  let v1638 : BitVec 32 := Scalar.subi v1637 c1_i32_808
  let c0_i32_810 : BitVec 32 := 0#32
  let v1640 : BitVec 1 := Scalar.cmpi .sgt v1638 c0_i32_810
  let v1641 : BitVec 32 := Scalar.extui v1640
  let c0_i32_811 : BitVec 32 := 0#32
  let v1642 : BitVec 1 := Scalar.cmpi .slt v1638 c0_i32_811
  let v1643 : BitVec 32 := Scalar.extui v1642
  let v1644 : BitVec 32 := Scalar.subi v1641 v1643
  let c8_i32_809 : BitVec 32 := 8#32
  let c0_i32_812 : BitVec 32 := 0#32
  let v1645 : BitVec 1 := Scalar.cmpi .sgt c8_i32_809 c0_i32_812
  let v1646 : BitVec 32 := Scalar.extui v1645
  let c0_i32_813 : BitVec 32 := 0#32
  let v1647 : BitVec 1 := Scalar.cmpi .slt c8_i32_809 c0_i32_813
  let v1648 : BitVec 32 := Scalar.extui v1647
  let v1649 : BitVec 32 := Scalar.subi v1646 v1648
  let v1650 : BitVec 1 := Scalar.cmpi .ne v1644 v1649
  let v1651 : BitVec 32 := Scalar.remsi v1638 c8_i32_809
  let c0_i32_814 : BitVec 32 := 0#32
  let v1652 : BitVec 1 := Scalar.cmpi .ne v1651 c0_i32_814
  let v1653 : BitVec 1 := Scalar.andi v1650 v1652
  let v1639 : BitVec 32 := Scalar.divsi v1638 c8_i32_809
  let c1_i32_815 : BitVec 32 := 1#32
  let v1654 : BitVec 32 := Scalar.subi v1639 c1_i32_815
  let v1655 : BitVec 32 := Scalar.select v1653 v1654 v1639
  let c8_i32_816 : BitVec 32 := 8#32
  let v1656 : BitVec 32 := Scalar.muli v1655 c8_i32_816
  let v1657 : BitVec 32 := Scalar.maxsi c0_i32_817 v1656
  let v1658 : BitVec 32 := Scalar.minsi c2094072_i32_818 v1657
  let v1659 : BitVec 32 := v1658
  let c1536_i32 : BitVec 32 := 1536#32
  let v1663 : BitVec 32 := Scalar.addi v1659 c1536_i32
  ![v1663.toNat]
def k0_mult84 (i : grid0.Coords) (k0_t1 : Fin k0_t1_loop.trips) : BitVec 32 :=
  let c2094072_i32_658 : BitVec 32 := 2094072#32
  let c0_i32_657 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_638 : BitVec 32 := 32#32
  let v1293 : BitVec 32 := Scalar.muli v1287 c32_i32_638
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1294 : BitVec 32 := Scalar.addi v1293 v1
  let c2047_i32_639 : BitVec 32 := 2047#32
  let v1295 : BitVec 32 := Scalar.muli v1294 c2047_i32_639
  let c1_i32_640 : BitVec 32 := 1#32
  let v1296 : BitVec 32 := Scalar.subi v1294 c1_i32_640
  let v1297 : BitVec 32 := Scalar.muli v1294 v1296
  let c0_i32_642 : BitVec 32 := 0#32
  let v1299 : BitVec 1 := Scalar.cmpi .sgt v1297 c0_i32_642
  let v1300 : BitVec 32 := Scalar.extui v1299
  let c0_i32_643 : BitVec 32 := 0#32
  let v1301 : BitVec 1 := Scalar.cmpi .slt v1297 c0_i32_643
  let v1302 : BitVec 32 := Scalar.extui v1301
  let v1303 : BitVec 32 := Scalar.subi v1300 v1302
  let c2_i32_641 : BitVec 32 := 2#32
  let c0_i32_644 : BitVec 32 := 0#32
  let v1304 : BitVec 1 := Scalar.cmpi .sgt c2_i32_641 c0_i32_644
  let v1305 : BitVec 32 := Scalar.extui v1304
  let c0_i32_645 : BitVec 32 := 0#32
  let v1306 : BitVec 1 := Scalar.cmpi .slt c2_i32_641 c0_i32_645
  let v1307 : BitVec 32 := Scalar.extui v1306
  let v1308 : BitVec 32 := Scalar.subi v1305 v1307
  let v1309 : BitVec 1 := Scalar.cmpi .ne v1303 v1308
  let v1310 : BitVec 32 := Scalar.remsi v1297 c2_i32_641
  let c0_i32_646 : BitVec 32 := 0#32
  let v1311 : BitVec 1 := Scalar.cmpi .ne v1310 c0_i32_646
  let v1312 : BitVec 1 := Scalar.andi v1309 v1311
  let v1298 : BitVec 32 := Scalar.divsi v1297 c2_i32_641
  let c1_i32_647 : BitVec 32 := 1#32
  let v1313 : BitVec 32 := Scalar.subi v1298 c1_i32_647
  let v1314 : BitVec 32 := Scalar.select v1312 v1313 v1298
  let v1315 : BitVec 32 := Scalar.subi v1295 v1314
  let v1316 : BitVec 32 := Scalar.subi v1315 v1294
  let c1_i32_648 : BitVec 32 := 1#32
  let v1317 : BitVec 32 := Scalar.subi v1316 c1_i32_648
  let c0_i32_650 : BitVec 32 := 0#32
  let v1319 : BitVec 1 := Scalar.cmpi .sgt v1317 c0_i32_650
  let v1320 : BitVec 32 := Scalar.extui v1319
  let c0_i32_651 : BitVec 32 := 0#32
  let v1321 : BitVec 1 := Scalar.cmpi .slt v1317 c0_i32_651
  let v1322 : BitVec 32 := Scalar.extui v1321
  let v1323 : BitVec 32 := Scalar.subi v1320 v1322
  let c8_i32_649 : BitVec 32 := 8#32
  let c0_i32_652 : BitVec 32 := 0#32
  let v1324 : BitVec 1 := Scalar.cmpi .sgt c8_i32_649 c0_i32_652
  let v1325 : BitVec 32 := Scalar.extui v1324
  let c0_i32_653 : BitVec 32 := 0#32
  let v1326 : BitVec 1 := Scalar.cmpi .slt c8_i32_649 c0_i32_653
  let v1327 : BitVec 32 := Scalar.extui v1326
  let v1328 : BitVec 32 := Scalar.subi v1325 v1327
  let v1329 : BitVec 1 := Scalar.cmpi .ne v1323 v1328
  let v1330 : BitVec 32 := Scalar.remsi v1317 c8_i32_649
  let c0_i32_654 : BitVec 32 := 0#32
  let v1331 : BitVec 1 := Scalar.cmpi .ne v1330 c0_i32_654
  let v1332 : BitVec 1 := Scalar.andi v1329 v1331
  let v1318 : BitVec 32 := Scalar.divsi v1317 c8_i32_649
  let c1_i32_655 : BitVec 32 := 1#32
  let v1333 : BitVec 32 := Scalar.subi v1318 c1_i32_655
  let v1334 : BitVec 32 := Scalar.select v1332 v1333 v1318
  let c8_i32_656 : BitVec 32 := 8#32
  let v1335 : BitVec 32 := Scalar.muli v1334 c8_i32_656
  let v1336 : BitVec 32 := Scalar.maxsi c0_i32_657 v1335
  let v1337 : BitVec 32 := Scalar.minsi c2094072_i32_658 v1336
  v1337
def k0_cond82 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_638 : BitVec 32 := 32#32
  let v1293 : BitVec 32 := Scalar.muli v1287 c32_i32_638
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1294 : BitVec 32 := Scalar.addi v1293 v1
  let c0_i32_662 : BitVec 32 := 0#32
  let v1343 : BitVec 1 := Scalar.cmpi .sgt v1294 c0_i32_662
  let v1344 : BitVec 32 := Scalar.extui v1343
  let c0_i32_663 : BitVec 32 := 0#32
  let v1345 : BitVec 1 := Scalar.cmpi .slt v1294 c0_i32_663
  let v1346 : BitVec 32 := Scalar.extui v1345
  let v1347 : BitVec 32 := Scalar.subi v1344 v1346
  let c512_i32_661 : BitVec 32 := 512#32
  let c0_i32_664 : BitVec 32 := 0#32
  let v1348 : BitVec 1 := Scalar.cmpi .sgt c512_i32_661 c0_i32_664
  let v1349 : BitVec 32 := Scalar.extui v1348
  let c0_i32_665 : BitVec 32 := 0#32
  let v1350 : BitVec 1 := Scalar.cmpi .slt c512_i32_661 c0_i32_665
  let v1351 : BitVec 32 := Scalar.extui v1350
  let v1352 : BitVec 32 := Scalar.subi v1349 v1351
  let v1353 : BitVec 1 := Scalar.cmpi .ne v1347 v1352
  let v1354 : BitVec 32 := Scalar.remsi v1294 c512_i32_661
  let c0_i32_666 : BitVec 32 := 0#32
  let v1355 : BitVec 1 := Scalar.cmpi .ne v1354 c0_i32_666
  let v1356 : BitVec 1 := Scalar.andi v1353 v1355
  let v1342 : BitVec 32 := Scalar.divsi v1294 c512_i32_661
  let c1_i32_667 : BitVec 32 := 1#32
  let v1357 : BitVec 32 := Scalar.subi v1342 c1_i32_667
  let v1358 : BitVec 32 := Scalar.select v1356 v1357 v1342
  let c0_i32_668 : BitVec 32 := 0#32
  let v1359 : BitVec 1 := Scalar.cmpi .eq v1358 c0_i32_668
  let c0_i32_669 : BitVec 32 := 0#32
  let v1360 : BitVec 1 := Scalar.cmpi .sgt v1294 c0_i32_669
  let v1361 : BitVec 1 := Scalar.andi v1359 v1360
  let v1362 : BitVec 32 := Scalar.extui v1361
  let c0_i32_670 : BitVec 32 := 0#32
  let v1363 : BitVec 1 := Scalar.cmpi .ne v1362 c0_i32_670
  v1363

def k0_mult85 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off77 (i : grid0.Coords) (k0_t1 : Fin k0_t1_loop.trips) : Fin 1 → Nat :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c0_i32_778 : BitVec 32 := 0#32
  let v1578 : BitVec 32 := Scalar.addi v1574 c0_i32_778
  ![v1578.toNat]
def k0_cond83 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_638 : BitVec 32 := 32#32
  let v1293 : BitVec 32 := Scalar.muli v1287 c32_i32_638
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1294 : BitVec 32 := Scalar.addi v1293 v1
  let c0_i32_662 : BitVec 32 := 0#32
  let v1343 : BitVec 1 := Scalar.cmpi .sgt v1294 c0_i32_662
  let v1344 : BitVec 32 := Scalar.extui v1343
  let c0_i32_663 : BitVec 32 := 0#32
  let v1345 : BitVec 1 := Scalar.cmpi .slt v1294 c0_i32_663
  let v1346 : BitVec 32 := Scalar.extui v1345
  let v1347 : BitVec 32 := Scalar.subi v1344 v1346
  let c512_i32_661 : BitVec 32 := 512#32
  let c0_i32_664 : BitVec 32 := 0#32
  let v1348 : BitVec 1 := Scalar.cmpi .sgt c512_i32_661 c0_i32_664
  let v1349 : BitVec 32 := Scalar.extui v1348
  let c0_i32_665 : BitVec 32 := 0#32
  let v1350 : BitVec 1 := Scalar.cmpi .slt c512_i32_661 c0_i32_665
  let v1351 : BitVec 32 := Scalar.extui v1350
  let v1352 : BitVec 32 := Scalar.subi v1349 v1351
  let v1353 : BitVec 1 := Scalar.cmpi .ne v1347 v1352
  let v1354 : BitVec 32 := Scalar.remsi v1294 c512_i32_661
  let c0_i32_666 : BitVec 32 := 0#32
  let v1355 : BitVec 1 := Scalar.cmpi .ne v1354 c0_i32_666
  let v1356 : BitVec 1 := Scalar.andi v1353 v1355
  let v1342 : BitVec 32 := Scalar.divsi v1294 c512_i32_661
  let c1_i32_667 : BitVec 32 := 1#32
  let v1357 : BitVec 32 := Scalar.subi v1342 c1_i32_667
  let v1358 : BitVec 32 := Scalar.select v1356 v1357 v1342
  let c1_i32_671 : BitVec 32 := 1#32
  let v1364 : BitVec 1 := Scalar.cmpi .eq v1358 c1_i32_671
  let v1365 : BitVec 32 := Scalar.extui v1364
  let c0_i32_672 : BitVec 32 := 0#32
  let v1366 : BitVec 1 := Scalar.cmpi .ne v1365 c0_i32_672
  v1366

def k0_mult86 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off78 (i : grid0.Coords) (k0_t1 : Fin k0_t1_loop.trips) : Fin 1 → Nat :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c512_i32_778 : BitVec 32 := 512#32
  let v1578 : BitVec 32 := Scalar.addi v1574 c512_i32_778
  ![v1578.toNat]
def k0_cond84 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_638 : BitVec 32 := 32#32
  let v1293 : BitVec 32 := Scalar.muli v1287 c32_i32_638
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1294 : BitVec 32 := Scalar.addi v1293 v1
  let c0_i32_662 : BitVec 32 := 0#32
  let v1343 : BitVec 1 := Scalar.cmpi .sgt v1294 c0_i32_662
  let v1344 : BitVec 32 := Scalar.extui v1343
  let c0_i32_663 : BitVec 32 := 0#32
  let v1345 : BitVec 1 := Scalar.cmpi .slt v1294 c0_i32_663
  let v1346 : BitVec 32 := Scalar.extui v1345
  let v1347 : BitVec 32 := Scalar.subi v1344 v1346
  let c512_i32_661 : BitVec 32 := 512#32
  let c0_i32_664 : BitVec 32 := 0#32
  let v1348 : BitVec 1 := Scalar.cmpi .sgt c512_i32_661 c0_i32_664
  let v1349 : BitVec 32 := Scalar.extui v1348
  let c0_i32_665 : BitVec 32 := 0#32
  let v1350 : BitVec 1 := Scalar.cmpi .slt c512_i32_661 c0_i32_665
  let v1351 : BitVec 32 := Scalar.extui v1350
  let v1352 : BitVec 32 := Scalar.subi v1349 v1351
  let v1353 : BitVec 1 := Scalar.cmpi .ne v1347 v1352
  let v1354 : BitVec 32 := Scalar.remsi v1294 c512_i32_661
  let c0_i32_666 : BitVec 32 := 0#32
  let v1355 : BitVec 1 := Scalar.cmpi .ne v1354 c0_i32_666
  let v1356 : BitVec 1 := Scalar.andi v1353 v1355
  let v1342 : BitVec 32 := Scalar.divsi v1294 c512_i32_661
  let c1_i32_667 : BitVec 32 := 1#32
  let v1357 : BitVec 32 := Scalar.subi v1342 c1_i32_667
  let v1358 : BitVec 32 := Scalar.select v1356 v1357 v1342
  let c2_i32_673 : BitVec 32 := 2#32
  let v1367 : BitVec 1 := Scalar.cmpi .eq v1358 c2_i32_673
  let v1368 : BitVec 32 := Scalar.extui v1367
  let c0_i32_674 : BitVec 32 := 0#32
  let v1369 : BitVec 1 := Scalar.cmpi .ne v1368 c0_i32_674
  v1369

def k0_mult87 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off79 (i : grid0.Coords) (k0_t1 : Fin k0_t1_loop.trips) : Fin 1 → Nat :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1024_i32 : BitVec 32 := 1024#32
  let v1578 : BitVec 32 := Scalar.addi v1574 c1024_i32
  ![v1578.toNat]
def k0_cond85 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_638 : BitVec 32 := 32#32
  let v1293 : BitVec 32 := Scalar.muli v1287 c32_i32_638
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1294 : BitVec 32 := Scalar.addi v1293 v1
  let c0_i32_662 : BitVec 32 := 0#32
  let v1343 : BitVec 1 := Scalar.cmpi .sgt v1294 c0_i32_662
  let v1344 : BitVec 32 := Scalar.extui v1343
  let c0_i32_663 : BitVec 32 := 0#32
  let v1345 : BitVec 1 := Scalar.cmpi .slt v1294 c0_i32_663
  let v1346 : BitVec 32 := Scalar.extui v1345
  let v1347 : BitVec 32 := Scalar.subi v1344 v1346
  let c512_i32_661 : BitVec 32 := 512#32
  let c0_i32_664 : BitVec 32 := 0#32
  let v1348 : BitVec 1 := Scalar.cmpi .sgt c512_i32_661 c0_i32_664
  let v1349 : BitVec 32 := Scalar.extui v1348
  let c0_i32_665 : BitVec 32 := 0#32
  let v1350 : BitVec 1 := Scalar.cmpi .slt c512_i32_661 c0_i32_665
  let v1351 : BitVec 32 := Scalar.extui v1350
  let v1352 : BitVec 32 := Scalar.subi v1349 v1351
  let v1353 : BitVec 1 := Scalar.cmpi .ne v1347 v1352
  let v1354 : BitVec 32 := Scalar.remsi v1294 c512_i32_661
  let c0_i32_666 : BitVec 32 := 0#32
  let v1355 : BitVec 1 := Scalar.cmpi .ne v1354 c0_i32_666
  let v1356 : BitVec 1 := Scalar.andi v1353 v1355
  let v1342 : BitVec 32 := Scalar.divsi v1294 c512_i32_661
  let c1_i32_667 : BitVec 32 := 1#32
  let v1357 : BitVec 32 := Scalar.subi v1342 c1_i32_667
  let v1358 : BitVec 32 := Scalar.select v1356 v1357 v1342
  let c3_i32_675 : BitVec 32 := 3#32
  let v1370 : BitVec 1 := Scalar.cmpi .eq v1358 c3_i32_675
  let v1371 : BitVec 32 := Scalar.extui v1370
  let c0_i32_676 : BitVec 32 := 0#32
  let v1372 : BitVec 1 := Scalar.cmpi .ne v1371 c0_i32_676
  v1372

def k0_mult88 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off80 (i : grid0.Coords) (k0_t1 : Fin k0_t1_loop.trips) : Fin 1 → Nat :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  let v1574 : BitVec 32 := v1573
  let c1536_i32 : BitVec 32 := 1536#32
  let v1578 : BitVec 32 := Scalar.addi v1574 c1536_i32
  ![v1578.toNat]
def k0_cond87 (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_679 : BitVec 32 := 4#32
  let v1376 : BitVec 1 := Scalar.cmpi .sge v1287 c4_i32_679
  let v1377 : BitVec 32 := Scalar.extui v1376
  let c0_i32_680 : BitVec 32 := 0#32
  let v1378 : BitVec 1 := Scalar.cmpi .ne v1377 c0_i32_680
  v1378

def k0_mult89 (i : grid0.Coords) (k0_t1 : Fin k0_t1_loop.trips) : BitVec 32 :=
  let c2094072_i32_776 : BitVec 32 := 2094072#32
  let c0_i32_775 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c2047_i32_757 : BitVec 32 := 2047#32
  let v1532 : BitVec 32 := Scalar.muli v1531 c2047_i32_757
  let c1_i32_758 : BitVec 32 := 1#32
  let v1533 : BitVec 32 := Scalar.subi v1531 c1_i32_758
  let v1534 : BitVec 32 := Scalar.muli v1531 v1533
  let c0_i32_760 : BitVec 32 := 0#32
  let v1536 : BitVec 1 := Scalar.cmpi .sgt v1534 c0_i32_760
  let v1537 : BitVec 32 := Scalar.extui v1536
  let c0_i32_761 : BitVec 32 := 0#32
  let v1538 : BitVec 1 := Scalar.cmpi .slt v1534 c0_i32_761
  let v1539 : BitVec 32 := Scalar.extui v1538
  let v1540 : BitVec 32 := Scalar.subi v1537 v1539
  let c2_i32_759 : BitVec 32 := 2#32
  let c0_i32_762 : BitVec 32 := 0#32
  let v1541 : BitVec 1 := Scalar.cmpi .sgt c2_i32_759 c0_i32_762
  let v1542 : BitVec 32 := Scalar.extui v1541
  let c0_i32_763 : BitVec 32 := 0#32
  let v1543 : BitVec 1 := Scalar.cmpi .slt c2_i32_759 c0_i32_763
  let v1544 : BitVec 32 := Scalar.extui v1543
  let v1545 : BitVec 32 := Scalar.subi v1542 v1544
  let v1546 : BitVec 1 := Scalar.cmpi .ne v1540 v1545
  let v1547 : BitVec 32 := Scalar.remsi v1534 c2_i32_759
  let c0_i32_764 : BitVec 32 := 0#32
  let v1548 : BitVec 1 := Scalar.cmpi .ne v1547 c0_i32_764
  let v1549 : BitVec 1 := Scalar.andi v1546 v1548
  let v1535 : BitVec 32 := Scalar.divsi v1534 c2_i32_759
  let c1_i32_765 : BitVec 32 := 1#32
  let v1550 : BitVec 32 := Scalar.subi v1535 c1_i32_765
  let v1551 : BitVec 32 := Scalar.select v1549 v1550 v1535
  let v1552 : BitVec 32 := Scalar.subi v1532 v1551
  let v1553 : BitVec 32 := Scalar.subi v1552 v1531
  let c1_i32_766 : BitVec 32 := 1#32
  let v1554 : BitVec 32 := Scalar.subi v1553 c1_i32_766
  let c0_i32_768 : BitVec 32 := 0#32
  let v1556 : BitVec 1 := Scalar.cmpi .sgt v1554 c0_i32_768
  let v1557 : BitVec 32 := Scalar.extui v1556
  let c0_i32_769 : BitVec 32 := 0#32
  let v1558 : BitVec 1 := Scalar.cmpi .slt v1554 c0_i32_769
  let v1559 : BitVec 32 := Scalar.extui v1558
  let v1560 : BitVec 32 := Scalar.subi v1557 v1559
  let c8_i32_767 : BitVec 32 := 8#32
  let c0_i32_770 : BitVec 32 := 0#32
  let v1561 : BitVec 1 := Scalar.cmpi .sgt c8_i32_767 c0_i32_770
  let v1562 : BitVec 32 := Scalar.extui v1561
  let c0_i32_771 : BitVec 32 := 0#32
  let v1563 : BitVec 1 := Scalar.cmpi .slt c8_i32_767 c0_i32_771
  let v1564 : BitVec 32 := Scalar.extui v1563
  let v1565 : BitVec 32 := Scalar.subi v1562 v1564
  let v1566 : BitVec 1 := Scalar.cmpi .ne v1560 v1565
  let v1567 : BitVec 32 := Scalar.remsi v1554 c8_i32_767
  let c0_i32_772 : BitVec 32 := 0#32
  let v1568 : BitVec 1 := Scalar.cmpi .ne v1567 c0_i32_772
  let v1569 : BitVec 1 := Scalar.andi v1566 v1568
  let v1555 : BitVec 32 := Scalar.divsi v1554 c8_i32_767
  let c1_i32_773 : BitVec 32 := 1#32
  let v1570 : BitVec 32 := Scalar.subi v1555 c1_i32_773
  let v1571 : BitVec 32 := Scalar.select v1569 v1570 v1555
  let c8_i32_774 : BitVec 32 := 8#32
  let v1572 : BitVec 32 := Scalar.muli v1571 c8_i32_774
  let v1573 : BitVec 32 := Scalar.maxsi c0_i32_775 v1572
  let v1574 : BitVec 32 := Scalar.minsi c2094072_i32_776 v1573
  v1574
def k0_cond88 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c0_i32_786 : BitVec 32 := 0#32
  let v1596 : BitVec 1 := Scalar.cmpi .eq v1595 c0_i32_786
  let v1597 : BitVec 32 := Scalar.extui v1596
  let c0_i32_787 : BitVec 32 := 0#32
  let v1598 : BitVec 1 := Scalar.cmpi .ne v1597 c0_i32_787
  v1598

def k0_mult90 (i : grid0.Coords) (k0_t1 : Fin k0_t1_loop.trips) : BitVec 32 :=
  let c2094072_i32_814 : BitVec 32 := 2094072#32
  let c0_i32_813 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off81 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c0_i32_819 : BitVec 32 := 0#32
  ![v1609.toNat, 0]
def k0_cond89 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c1_i32_788 : BitVec 32 := 1#32
  let v1599 : BitVec 1 := Scalar.cmpi .eq v1595 c1_i32_788
  let v1600 : BitVec 32 := Scalar.extui v1599
  let c0_i32_789 : BitVec 32 := 0#32
  let v1601 : BitVec 1 := Scalar.cmpi .ne v1600 c0_i32_789
  v1601

def k0_mult91 (i : grid0.Coords) (k0_t1 : Fin k0_t1_loop.trips) : BitVec 32 :=
  let c2094072_i32_814 : BitVec 32 := 2094072#32
  let c0_i32_813 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off82 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c512_i32_819 : BitVec 32 := 512#32
  ![v1609.toNat, 512]
def k0_cond90 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c2_i32_790 : BitVec 32 := 2#32
  let v1602 : BitVec 1 := Scalar.cmpi .eq v1595 c2_i32_790
  let v1603 : BitVec 32 := Scalar.extui v1602
  let c0_i32_791 : BitVec 32 := 0#32
  let v1604 : BitVec 1 := Scalar.cmpi .ne v1603 c0_i32_791
  v1604

def k0_mult92 (i : grid0.Coords) (k0_t1 : Fin k0_t1_loop.trips) : BitVec 32 :=
  let c2094072_i32_814 : BitVec 32 := 2094072#32
  let c0_i32_813 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off83 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1024_i32_818 : BitVec 32 := 1024#32
  ![v1609.toNat, 1024]
def k0_cond91 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_756 : BitVec 32 := 32#32
  let v1530 : BitVec 32 := Scalar.muli v1529 c32_i32_756
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1531 : BitVec 32 := Scalar.addi v1530 v1
  let c0_i32_780 : BitVec 32 := 0#32
  let v1580 : BitVec 1 := Scalar.cmpi .sgt v1531 c0_i32_780
  let v1581 : BitVec 32 := Scalar.extui v1580
  let c0_i32_781 : BitVec 32 := 0#32
  let v1582 : BitVec 1 := Scalar.cmpi .slt v1531 c0_i32_781
  let v1583 : BitVec 32 := Scalar.extui v1582
  let v1584 : BitVec 32 := Scalar.subi v1581 v1583
  let c512_i32_779 : BitVec 32 := 512#32
  let c0_i32_782 : BitVec 32 := 0#32
  let v1585 : BitVec 1 := Scalar.cmpi .sgt c512_i32_779 c0_i32_782
  let v1586 : BitVec 32 := Scalar.extui v1585
  let c0_i32_783 : BitVec 32 := 0#32
  let v1587 : BitVec 1 := Scalar.cmpi .slt c512_i32_779 c0_i32_783
  let v1588 : BitVec 32 := Scalar.extui v1587
  let v1589 : BitVec 32 := Scalar.subi v1586 v1588
  let v1590 : BitVec 1 := Scalar.cmpi .ne v1584 v1589
  let v1591 : BitVec 32 := Scalar.remsi v1531 c512_i32_779
  let c0_i32_784 : BitVec 32 := 0#32
  let v1592 : BitVec 1 := Scalar.cmpi .ne v1591 c0_i32_784
  let v1593 : BitVec 1 := Scalar.andi v1590 v1592
  let v1579 : BitVec 32 := Scalar.divsi v1531 c512_i32_779
  let c1_i32_785 : BitVec 32 := 1#32
  let v1594 : BitVec 32 := Scalar.subi v1579 c1_i32_785
  let v1595 : BitVec 32 := Scalar.select v1593 v1594 v1579
  let c3_i32_792 : BitVec 32 := 3#32
  let v1605 : BitVec 1 := Scalar.cmpi .eq v1595 c3_i32_792
  let v1606 : BitVec 32 := Scalar.extui v1605
  let c0_i32_793 : BitVec 32 := 0#32
  let v1607 : BitVec 1 := Scalar.cmpi .ne v1606 c0_i32_793
  v1607

def k0_mult93 (i : grid0.Coords) (k0_t1 : Fin k0_t1_loop.trips) : BitVec 32 :=
  let c2094072_i32_814 : BitVec 32 := 2094072#32
  let c0_i32_813 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c2047_i32_795 : BitVec 32 := 2047#32
  let v1610 : BitVec 32 := Scalar.muli v1609 c2047_i32_795
  let c1_i32_796 : BitVec 32 := 1#32
  let v1611 : BitVec 32 := Scalar.subi v1609 c1_i32_796
  let v1612 : BitVec 32 := Scalar.muli v1609 v1611
  let c0_i32_798 : BitVec 32 := 0#32
  let v1614 : BitVec 1 := Scalar.cmpi .sgt v1612 c0_i32_798
  let v1615 : BitVec 32 := Scalar.extui v1614
  let c0_i32_799 : BitVec 32 := 0#32
  let v1616 : BitVec 1 := Scalar.cmpi .slt v1612 c0_i32_799
  let v1617 : BitVec 32 := Scalar.extui v1616
  let v1618 : BitVec 32 := Scalar.subi v1615 v1617
  let c2_i32_797 : BitVec 32 := 2#32
  let c0_i32_800 : BitVec 32 := 0#32
  let v1619 : BitVec 1 := Scalar.cmpi .sgt c2_i32_797 c0_i32_800
  let v1620 : BitVec 32 := Scalar.extui v1619
  let c0_i32_801 : BitVec 32 := 0#32
  let v1621 : BitVec 1 := Scalar.cmpi .slt c2_i32_797 c0_i32_801
  let v1622 : BitVec 32 := Scalar.extui v1621
  let v1623 : BitVec 32 := Scalar.subi v1620 v1622
  let v1624 : BitVec 1 := Scalar.cmpi .ne v1618 v1623
  let v1625 : BitVec 32 := Scalar.remsi v1612 c2_i32_797
  let c0_i32_802 : BitVec 32 := 0#32
  let v1626 : BitVec 1 := Scalar.cmpi .ne v1625 c0_i32_802
  let v1627 : BitVec 1 := Scalar.andi v1624 v1626
  let v1613 : BitVec 32 := Scalar.divsi v1612 c2_i32_797
  let c1_i32_803 : BitVec 32 := 1#32
  let v1628 : BitVec 32 := Scalar.subi v1613 c1_i32_803
  let v1629 : BitVec 32 := Scalar.select v1627 v1628 v1613
  let v1630 : BitVec 32 := Scalar.subi v1610 v1629
  let v1631 : BitVec 32 := Scalar.subi v1630 v1609
  let c1_i32_804 : BitVec 32 := 1#32
  let v1632 : BitVec 32 := Scalar.subi v1631 c1_i32_804
  let c0_i32_806 : BitVec 32 := 0#32
  let v1634 : BitVec 1 := Scalar.cmpi .sgt v1632 c0_i32_806
  let v1635 : BitVec 32 := Scalar.extui v1634
  let c0_i32_807 : BitVec 32 := 0#32
  let v1636 : BitVec 1 := Scalar.cmpi .slt v1632 c0_i32_807
  let v1637 : BitVec 32 := Scalar.extui v1636
  let v1638 : BitVec 32 := Scalar.subi v1635 v1637
  let c8_i32_805 : BitVec 32 := 8#32
  let c0_i32_808 : BitVec 32 := 0#32
  let v1639 : BitVec 1 := Scalar.cmpi .sgt c8_i32_805 c0_i32_808
  let v1640 : BitVec 32 := Scalar.extui v1639
  let c0_i32_809 : BitVec 32 := 0#32
  let v1641 : BitVec 1 := Scalar.cmpi .slt c8_i32_805 c0_i32_809
  let v1642 : BitVec 32 := Scalar.extui v1641
  let v1643 : BitVec 32 := Scalar.subi v1640 v1642
  let v1644 : BitVec 1 := Scalar.cmpi .ne v1638 v1643
  let v1645 : BitVec 32 := Scalar.remsi v1632 c8_i32_805
  let c0_i32_810 : BitVec 32 := 0#32
  let v1646 : BitVec 1 := Scalar.cmpi .ne v1645 c0_i32_810
  let v1647 : BitVec 1 := Scalar.andi v1644 v1646
  let v1633 : BitVec 32 := Scalar.divsi v1632 c8_i32_805
  let c1_i32_811 : BitVec 32 := 1#32
  let v1648 : BitVec 32 := Scalar.subi v1633 c1_i32_811
  let v1649 : BitVec 32 := Scalar.select v1647 v1648 v1633
  let c8_i32_812 : BitVec 32 := 8#32
  let v1650 : BitVec 32 := Scalar.muli v1649 c8_i32_812
  let v1651 : BitVec 32 := Scalar.maxsi c0_i32_813 v1650
  let v1652 : BitVec 32 := Scalar.minsi c2094072_i32_814 v1651
  v1652
def k0_off84 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c4_i32_755 : BitVec 32 := 4#32
  let v1529 : BitVec 32 := Scalar.subi v1287 c4_i32_755
  let c32_i32_794 : BitVec 32 := 32#32
  let v1608 : BitVec 32 := Scalar.muli v1529 c32_i32_794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1609 : BitVec 32 := Scalar.addi v1608 v1
  let c1536_i32_818 : BitVec 32 := 1536#32
  ![v1609.toNat, 1536]
def k0_mult94 (i : grid0.Coords) (k0_t1 : Fin k0_t1_loop.trips) : BitVec 32 :=
  let c2094072_i32_701 : BitVec 32 := 2094072#32
  let c0_i32_700 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c2047_i32_682 : BitVec 32 := 2047#32
  let v1381 : BitVec 32 := Scalar.muli v1380 c2047_i32_682
  let c1_i32_683 : BitVec 32 := 1#32
  let v1382 : BitVec 32 := Scalar.subi v1380 c1_i32_683
  let v1383 : BitVec 32 := Scalar.muli v1380 v1382
  let c0_i32_685 : BitVec 32 := 0#32
  let v1385 : BitVec 1 := Scalar.cmpi .sgt v1383 c0_i32_685
  let v1386 : BitVec 32 := Scalar.extui v1385
  let c0_i32_686 : BitVec 32 := 0#32
  let v1387 : BitVec 1 := Scalar.cmpi .slt v1383 c0_i32_686
  let v1388 : BitVec 32 := Scalar.extui v1387
  let v1389 : BitVec 32 := Scalar.subi v1386 v1388
  let c2_i32_684 : BitVec 32 := 2#32
  let c0_i32_687 : BitVec 32 := 0#32
  let v1390 : BitVec 1 := Scalar.cmpi .sgt c2_i32_684 c0_i32_687
  let v1391 : BitVec 32 := Scalar.extui v1390
  let c0_i32_688 : BitVec 32 := 0#32
  let v1392 : BitVec 1 := Scalar.cmpi .slt c2_i32_684 c0_i32_688
  let v1393 : BitVec 32 := Scalar.extui v1392
  let v1394 : BitVec 32 := Scalar.subi v1391 v1393
  let v1395 : BitVec 1 := Scalar.cmpi .ne v1389 v1394
  let v1396 : BitVec 32 := Scalar.remsi v1383 c2_i32_684
  let c0_i32_689 : BitVec 32 := 0#32
  let v1397 : BitVec 1 := Scalar.cmpi .ne v1396 c0_i32_689
  let v1398 : BitVec 1 := Scalar.andi v1395 v1397
  let v1384 : BitVec 32 := Scalar.divsi v1383 c2_i32_684
  let c1_i32_690 : BitVec 32 := 1#32
  let v1399 : BitVec 32 := Scalar.subi v1384 c1_i32_690
  let v1400 : BitVec 32 := Scalar.select v1398 v1399 v1384
  let v1401 : BitVec 32 := Scalar.subi v1381 v1400
  let v1402 : BitVec 32 := Scalar.subi v1401 v1380
  let c1_i32_691 : BitVec 32 := 1#32
  let v1403 : BitVec 32 := Scalar.subi v1402 c1_i32_691
  let c0_i32_693 : BitVec 32 := 0#32
  let v1405 : BitVec 1 := Scalar.cmpi .sgt v1403 c0_i32_693
  let v1406 : BitVec 32 := Scalar.extui v1405
  let c0_i32_694 : BitVec 32 := 0#32
  let v1407 : BitVec 1 := Scalar.cmpi .slt v1403 c0_i32_694
  let v1408 : BitVec 32 := Scalar.extui v1407
  let v1409 : BitVec 32 := Scalar.subi v1406 v1408
  let c8_i32_692 : BitVec 32 := 8#32
  let c0_i32_695 : BitVec 32 := 0#32
  let v1410 : BitVec 1 := Scalar.cmpi .sgt c8_i32_692 c0_i32_695
  let v1411 : BitVec 32 := Scalar.extui v1410
  let c0_i32_696 : BitVec 32 := 0#32
  let v1412 : BitVec 1 := Scalar.cmpi .slt c8_i32_692 c0_i32_696
  let v1413 : BitVec 32 := Scalar.extui v1412
  let v1414 : BitVec 32 := Scalar.subi v1411 v1413
  let v1415 : BitVec 1 := Scalar.cmpi .ne v1409 v1414
  let v1416 : BitVec 32 := Scalar.remsi v1403 c8_i32_692
  let c0_i32_697 : BitVec 32 := 0#32
  let v1417 : BitVec 1 := Scalar.cmpi .ne v1416 c0_i32_697
  let v1418 : BitVec 1 := Scalar.andi v1415 v1417
  let v1404 : BitVec 32 := Scalar.divsi v1403 c8_i32_692
  let c1_i32_698 : BitVec 32 := 1#32
  let v1419 : BitVec 32 := Scalar.subi v1404 c1_i32_698
  let v1420 : BitVec 32 := Scalar.select v1418 v1419 v1404
  let c8_i32_699 : BitVec 32 := 8#32
  let v1421 : BitVec 32 := Scalar.muli v1420 c8_i32_699
  let v1422 : BitVec 32 := Scalar.maxsi c0_i32_700 v1421
  let v1423 : BitVec 32 := Scalar.minsi c2094072_i32_701 v1422
  v1423
@[reducible] def k0_t8_loop (i : grid0.Coords) (k0_t1 : Fin k0_t1_loop.trips) : Scf.Loop 32 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c1_i32_704 : BitVec 32 := 1#32
  let v1428 : BitVec 32 := Scalar.addi v1380 c1_i32_704
  let c0_i32_706 : BitVec 32 := 0#32
  let v1430 : BitVec 1 := Scalar.cmpi .sgt v1428 c0_i32_706
  let v1431 : BitVec 32 := Scalar.extui v1430
  let c0_i32_707 : BitVec 32 := 0#32
  let v1432 : BitVec 1 := Scalar.cmpi .slt v1428 c0_i32_707
  let v1433 : BitVec 32 := Scalar.extui v1432
  let v1434 : BitVec 32 := Scalar.subi v1431 v1433
  let c256_i32_705 : BitVec 32 := 256#32
  let c0_i32_708 : BitVec 32 := 0#32
  let v1435 : BitVec 1 := Scalar.cmpi .sgt c256_i32_705 c0_i32_708
  let v1436 : BitVec 32 := Scalar.extui v1435
  let c0_i32_709 : BitVec 32 := 0#32
  let v1437 : BitVec 1 := Scalar.cmpi .slt c256_i32_705 c0_i32_709
  let v1438 : BitVec 32 := Scalar.extui v1437
  let v1439 : BitVec 32 := Scalar.subi v1436 v1438
  let v1440 : BitVec 1 := Scalar.cmpi .ne v1434 v1439
  let v1441 : BitVec 32 := Scalar.remsi v1428 c256_i32_705
  let c0_i32_710 : BitVec 32 := 0#32
  let v1442 : BitVec 1 := Scalar.cmpi .ne v1441 c0_i32_710
  let v1443 : BitVec 1 := Scalar.andi v1440 v1442
  let v1429 : BitVec 32 := Scalar.divsi v1428 c256_i32_705
  let c1_i32_711 : BitVec 32 := 1#32
  let v1444 : BitVec 32 := Scalar.subi v1429 c1_i32_711
  let v1445 : BitVec 32 := Scalar.select v1443 v1444 v1429
  let c8_i32_713 : BitVec 32 := 8#32
  let v1446 : BitVec 32 := Scalar.subi c8_i32_713 v1445
  let c1_i32_714 : BitVec 32 := 1#32
  let v1448 : BitVec 32 := Scalar.divsi v1446 c1_i32_714
  let v1449 : BitVec 32 := Scalar.muli v1448 c1_i32_714
  let v1450 : BitVec 32 := Scalar.addi v1445 v1449
  let c1_i32_715 : BitVec 32 := 1#32
  ⟨v1445, v1450, c1_i32_715⟩
def k0_off85 (i : grid0.Coords) (k0_t1 : Fin k0_t1_loop.trips) (k0_t8 : Fin (k0_t8_loop i k0_t1).trips) (c0_i32_756 : BitVec 32) : Fin 1 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c0_i32_702 : BitVec 32 := 0#32
  let v1425 : BitVec 1 := Scalar.cmpi .eq v1380 c0_i32_702
  let c7_i32_703 : BitVec 32 := 7#32
  let c2047_i32_682 : BitVec 32 := 2047#32
  let v1381 : BitVec 32 := Scalar.muli v1380 c2047_i32_682
  let c1_i32_683 : BitVec 32 := 1#32
  let v1382 : BitVec 32 := Scalar.subi v1380 c1_i32_683
  let v1383 : BitVec 32 := Scalar.muli v1380 v1382
  let c0_i32_685 : BitVec 32 := 0#32
  let v1385 : BitVec 1 := Scalar.cmpi .sgt v1383 c0_i32_685
  let v1386 : BitVec 32 := Scalar.extui v1385
  let c0_i32_686 : BitVec 32 := 0#32
  let v1387 : BitVec 1 := Scalar.cmpi .slt v1383 c0_i32_686
  let v1388 : BitVec 32 := Scalar.extui v1387
  let v1389 : BitVec 32 := Scalar.subi v1386 v1388
  let c2_i32_684 : BitVec 32 := 2#32
  let c0_i32_687 : BitVec 32 := 0#32
  let v1390 : BitVec 1 := Scalar.cmpi .sgt c2_i32_684 c0_i32_687
  let v1391 : BitVec 32 := Scalar.extui v1390
  let c0_i32_688 : BitVec 32 := 0#32
  let v1392 : BitVec 1 := Scalar.cmpi .slt c2_i32_684 c0_i32_688
  let v1393 : BitVec 32 := Scalar.extui v1392
  let v1394 : BitVec 32 := Scalar.subi v1391 v1393
  let v1395 : BitVec 1 := Scalar.cmpi .ne v1389 v1394
  let v1396 : BitVec 32 := Scalar.remsi v1383 c2_i32_684
  let c0_i32_689 : BitVec 32 := 0#32
  let v1397 : BitVec 1 := Scalar.cmpi .ne v1396 c0_i32_689
  let v1398 : BitVec 1 := Scalar.andi v1395 v1397
  let v1384 : BitVec 32 := Scalar.divsi v1383 c2_i32_684
  let c1_i32_690 : BitVec 32 := 1#32
  let v1399 : BitVec 32 := Scalar.subi v1384 c1_i32_690
  let v1400 : BitVec 32 := Scalar.select v1398 v1399 v1384
  let v1401 : BitVec 32 := Scalar.subi v1381 v1400
  let v1402 : BitVec 32 := Scalar.subi v1401 v1380
  let c1_i32_691 : BitVec 32 := 1#32
  let v1403 : BitVec 32 := Scalar.subi v1402 c1_i32_691
  let c2094072_i32_701 : BitVec 32 := 2094072#32
  let c0_i32_700 : BitVec 32 := 0#32
  let c0_i32_693 : BitVec 32 := 0#32
  let v1405 : BitVec 1 := Scalar.cmpi .sgt v1403 c0_i32_693
  let v1406 : BitVec 32 := Scalar.extui v1405
  let c0_i32_694 : BitVec 32 := 0#32
  let v1407 : BitVec 1 := Scalar.cmpi .slt v1403 c0_i32_694
  let v1408 : BitVec 32 := Scalar.extui v1407
  let v1409 : BitVec 32 := Scalar.subi v1406 v1408
  let c8_i32_692 : BitVec 32 := 8#32
  let c0_i32_695 : BitVec 32 := 0#32
  let v1410 : BitVec 1 := Scalar.cmpi .sgt c8_i32_692 c0_i32_695
  let v1411 : BitVec 32 := Scalar.extui v1410
  let c0_i32_696 : BitVec 32 := 0#32
  let v1412 : BitVec 1 := Scalar.cmpi .slt c8_i32_692 c0_i32_696
  let v1413 : BitVec 32 := Scalar.extui v1412
  let v1414 : BitVec 32 := Scalar.subi v1411 v1413
  let v1415 : BitVec 1 := Scalar.cmpi .ne v1409 v1414
  let v1416 : BitVec 32 := Scalar.remsi v1403 c8_i32_692
  let c0_i32_697 : BitVec 32 := 0#32
  let v1417 : BitVec 1 := Scalar.cmpi .ne v1416 c0_i32_697
  let v1418 : BitVec 1 := Scalar.andi v1415 v1417
  let v1404 : BitVec 32 := Scalar.divsi v1403 c8_i32_692
  let c1_i32_698 : BitVec 32 := 1#32
  let v1419 : BitVec 32 := Scalar.subi v1404 c1_i32_698
  let v1420 : BitVec 32 := Scalar.select v1418 v1419 v1404
  let c8_i32_699 : BitVec 32 := 8#32
  let v1421 : BitVec 32 := Scalar.muli v1420 c8_i32_699
  let v1422 : BitVec 32 := Scalar.maxsi c0_i32_700 v1421
  let v1423 : BitVec 32 := Scalar.minsi c2094072_i32_701 v1422
  let v1424 : BitVec 32 := v1423
  let v1426 : BitVec 32 := Scalar.subi v1403 v1424
  let v1427 : BitVec 32 := Scalar.select v1425 c7_i32_703 v1426
  let c1_i32_704 : BitVec 32 := 1#32
  let v1428 : BitVec 32 := Scalar.addi v1380 c1_i32_704
  let c0_i32_706 : BitVec 32 := 0#32
  let v1430 : BitVec 1 := Scalar.cmpi .sgt v1428 c0_i32_706
  let v1431 : BitVec 32 := Scalar.extui v1430
  let c0_i32_707 : BitVec 32 := 0#32
  let v1432 : BitVec 1 := Scalar.cmpi .slt v1428 c0_i32_707
  let v1433 : BitVec 32 := Scalar.extui v1432
  let v1434 : BitVec 32 := Scalar.subi v1431 v1433
  let c256_i32_705 : BitVec 32 := 256#32
  let c0_i32_708 : BitVec 32 := 0#32
  let v1435 : BitVec 1 := Scalar.cmpi .sgt c256_i32_705 c0_i32_708
  let v1436 : BitVec 32 := Scalar.extui v1435
  let c0_i32_709 : BitVec 32 := 0#32
  let v1437 : BitVec 1 := Scalar.cmpi .slt c256_i32_705 c0_i32_709
  let v1438 : BitVec 32 := Scalar.extui v1437
  let v1439 : BitVec 32 := Scalar.subi v1436 v1438
  let v1440 : BitVec 1 := Scalar.cmpi .ne v1434 v1439
  let v1441 : BitVec 32 := Scalar.remsi v1428 c256_i32_705
  let c0_i32_710 : BitVec 32 := 0#32
  let v1442 : BitVec 1 := Scalar.cmpi .ne v1441 c0_i32_710
  let v1443 : BitVec 1 := Scalar.andi v1440 v1442
  let v1429 : BitVec 32 := Scalar.divsi v1428 c256_i32_705
  let c1_i32_711 : BitVec 32 := 1#32
  let v1444 : BitVec 32 := Scalar.subi v1429 c1_i32_711
  let v1445 : BitVec 32 := Scalar.select v1443 v1444 v1429
  let c1_i32_715 : BitVec 32 := 1#32
  let arg21 : BitVec 32 := Scf.iv v1445 c1_i32_715 k0_t8
  let c256_i32_755 : BitVec 32 := 256#32
  let v1529 : BitVec 32 := Scalar.muli arg21 c256_i32_755
  let v1530 : BitVec 32 := Scalar.addi v1427 v1529
  let v1531 : BitVec 32 := Scalar.addi v1530 c0_i32_756
  let v1532 : Index := Scalar.indexCast v1531
  ![v1532.toNat]
def k0_off86 (i : grid0.Coords) (k0_t1 : Fin k0_t1_loop.trips) (k0_t8 : Fin (k0_t8_loop i k0_t1).trips) (c0_i32_760 : BitVec 32) : Fin 1 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c1_i32_704 : BitVec 32 := 1#32
  let v1428 : BitVec 32 := Scalar.addi v1380 c1_i32_704
  let c0_i32_706 : BitVec 32 := 0#32
  let v1430 : BitVec 1 := Scalar.cmpi .sgt v1428 c0_i32_706
  let v1431 : BitVec 32 := Scalar.extui v1430
  let c0_i32_707 : BitVec 32 := 0#32
  let v1432 : BitVec 1 := Scalar.cmpi .slt v1428 c0_i32_707
  let v1433 : BitVec 32 := Scalar.extui v1432
  let v1434 : BitVec 32 := Scalar.subi v1431 v1433
  let c256_i32_705 : BitVec 32 := 256#32
  let c0_i32_708 : BitVec 32 := 0#32
  let v1435 : BitVec 1 := Scalar.cmpi .sgt c256_i32_705 c0_i32_708
  let v1436 : BitVec 32 := Scalar.extui v1435
  let c0_i32_709 : BitVec 32 := 0#32
  let v1437 : BitVec 1 := Scalar.cmpi .slt c256_i32_705 c0_i32_709
  let v1438 : BitVec 32 := Scalar.extui v1437
  let v1439 : BitVec 32 := Scalar.subi v1436 v1438
  let v1440 : BitVec 1 := Scalar.cmpi .ne v1434 v1439
  let v1441 : BitVec 32 := Scalar.remsi v1428 c256_i32_705
  let c0_i32_710 : BitVec 32 := 0#32
  let v1442 : BitVec 1 := Scalar.cmpi .ne v1441 c0_i32_710
  let v1443 : BitVec 1 := Scalar.andi v1440 v1442
  let v1429 : BitVec 32 := Scalar.divsi v1428 c256_i32_705
  let c1_i32_711 : BitVec 32 := 1#32
  let v1444 : BitVec 32 := Scalar.subi v1429 c1_i32_711
  let v1445 : BitVec 32 := Scalar.select v1443 v1444 v1429
  let c1_i32_715 : BitVec 32 := 1#32
  let arg21 : BitVec 32 := Scf.iv v1445 c1_i32_715 k0_t8
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
@[reducible] def k0_t9_loop (i : grid0.Coords) (k0_t1 : Fin k0_t1_loop.trips) : Scf.Loop 32 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c1_i32_704 : BitVec 32 := 1#32
  let v1428 : BitVec 32 := Scalar.addi v1380 c1_i32_704
  let c0_i32_706 : BitVec 32 := 0#32
  let v1430 : BitVec 1 := Scalar.cmpi .sgt v1428 c0_i32_706
  let v1431 : BitVec 32 := Scalar.extui v1430
  let c0_i32_707 : BitVec 32 := 0#32
  let v1432 : BitVec 1 := Scalar.cmpi .slt v1428 c0_i32_707
  let v1433 : BitVec 32 := Scalar.extui v1432
  let v1434 : BitVec 32 := Scalar.subi v1431 v1433
  let c256_i32_705 : BitVec 32 := 256#32
  let c0_i32_708 : BitVec 32 := 0#32
  let v1435 : BitVec 1 := Scalar.cmpi .sgt c256_i32_705 c0_i32_708
  let v1436 : BitVec 32 := Scalar.extui v1435
  let c0_i32_709 : BitVec 32 := 0#32
  let v1437 : BitVec 1 := Scalar.cmpi .slt c256_i32_705 c0_i32_709
  let v1438 : BitVec 32 := Scalar.extui v1437
  let v1439 : BitVec 32 := Scalar.subi v1436 v1438
  let v1440 : BitVec 1 := Scalar.cmpi .ne v1434 v1439
  let v1441 : BitVec 32 := Scalar.remsi v1428 c256_i32_705
  let c0_i32_710 : BitVec 32 := 0#32
  let v1442 : BitVec 1 := Scalar.cmpi .ne v1441 c0_i32_710
  let v1443 : BitVec 1 := Scalar.andi v1440 v1442
  let v1429 : BitVec 32 := Scalar.divsi v1428 c256_i32_705
  let c1_i32_711 : BitVec 32 := 1#32
  let v1444 : BitVec 32 := Scalar.subi v1429 c1_i32_711
  let v1445 : BitVec 32 := Scalar.select v1443 v1444 v1429
  let c8_i32_713 : BitVec 32 := 8#32
  let v1446 : BitVec 32 := Scalar.subi c8_i32_713 v1445
  let c1_i32_714 : BitVec 32 := 1#32
  let v1448 : BitVec 32 := Scalar.divsi v1446 c1_i32_714
  let v1449 : BitVec 32 := Scalar.muli v1448 c1_i32_714
  let v1450 : BitVec 32 := Scalar.addi v1445 v1449
  let v1447 : BitVec 32 := Scalar.addi v1445 v1446
  let c1_i32_716 : BitVec 32 := 1#32
  ⟨v1450, v1447, c1_i32_716⟩
def k0_off87 (i : grid0.Coords) (k0_t1 : Fin k0_t1_loop.trips) (k0_t9 : Fin (k0_t9_loop i k0_t1).trips) (c0_i32_756 : BitVec 32) : Fin 1 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c0_i32_702 : BitVec 32 := 0#32
  let v1425 : BitVec 1 := Scalar.cmpi .eq v1380 c0_i32_702
  let c7_i32_703 : BitVec 32 := 7#32
  let c2047_i32_682 : BitVec 32 := 2047#32
  let v1381 : BitVec 32 := Scalar.muli v1380 c2047_i32_682
  let c1_i32_683 : BitVec 32 := 1#32
  let v1382 : BitVec 32 := Scalar.subi v1380 c1_i32_683
  let v1383 : BitVec 32 := Scalar.muli v1380 v1382
  let c0_i32_685 : BitVec 32 := 0#32
  let v1385 : BitVec 1 := Scalar.cmpi .sgt v1383 c0_i32_685
  let v1386 : BitVec 32 := Scalar.extui v1385
  let c0_i32_686 : BitVec 32 := 0#32
  let v1387 : BitVec 1 := Scalar.cmpi .slt v1383 c0_i32_686
  let v1388 : BitVec 32 := Scalar.extui v1387
  let v1389 : BitVec 32 := Scalar.subi v1386 v1388
  let c2_i32_684 : BitVec 32 := 2#32
  let c0_i32_687 : BitVec 32 := 0#32
  let v1390 : BitVec 1 := Scalar.cmpi .sgt c2_i32_684 c0_i32_687
  let v1391 : BitVec 32 := Scalar.extui v1390
  let c0_i32_688 : BitVec 32 := 0#32
  let v1392 : BitVec 1 := Scalar.cmpi .slt c2_i32_684 c0_i32_688
  let v1393 : BitVec 32 := Scalar.extui v1392
  let v1394 : BitVec 32 := Scalar.subi v1391 v1393
  let v1395 : BitVec 1 := Scalar.cmpi .ne v1389 v1394
  let v1396 : BitVec 32 := Scalar.remsi v1383 c2_i32_684
  let c0_i32_689 : BitVec 32 := 0#32
  let v1397 : BitVec 1 := Scalar.cmpi .ne v1396 c0_i32_689
  let v1398 : BitVec 1 := Scalar.andi v1395 v1397
  let v1384 : BitVec 32 := Scalar.divsi v1383 c2_i32_684
  let c1_i32_690 : BitVec 32 := 1#32
  let v1399 : BitVec 32 := Scalar.subi v1384 c1_i32_690
  let v1400 : BitVec 32 := Scalar.select v1398 v1399 v1384
  let v1401 : BitVec 32 := Scalar.subi v1381 v1400
  let v1402 : BitVec 32 := Scalar.subi v1401 v1380
  let c1_i32_691 : BitVec 32 := 1#32
  let v1403 : BitVec 32 := Scalar.subi v1402 c1_i32_691
  let c2094072_i32_701 : BitVec 32 := 2094072#32
  let c0_i32_700 : BitVec 32 := 0#32
  let c0_i32_693 : BitVec 32 := 0#32
  let v1405 : BitVec 1 := Scalar.cmpi .sgt v1403 c0_i32_693
  let v1406 : BitVec 32 := Scalar.extui v1405
  let c0_i32_694 : BitVec 32 := 0#32
  let v1407 : BitVec 1 := Scalar.cmpi .slt v1403 c0_i32_694
  let v1408 : BitVec 32 := Scalar.extui v1407
  let v1409 : BitVec 32 := Scalar.subi v1406 v1408
  let c8_i32_692 : BitVec 32 := 8#32
  let c0_i32_695 : BitVec 32 := 0#32
  let v1410 : BitVec 1 := Scalar.cmpi .sgt c8_i32_692 c0_i32_695
  let v1411 : BitVec 32 := Scalar.extui v1410
  let c0_i32_696 : BitVec 32 := 0#32
  let v1412 : BitVec 1 := Scalar.cmpi .slt c8_i32_692 c0_i32_696
  let v1413 : BitVec 32 := Scalar.extui v1412
  let v1414 : BitVec 32 := Scalar.subi v1411 v1413
  let v1415 : BitVec 1 := Scalar.cmpi .ne v1409 v1414
  let v1416 : BitVec 32 := Scalar.remsi v1403 c8_i32_692
  let c0_i32_697 : BitVec 32 := 0#32
  let v1417 : BitVec 1 := Scalar.cmpi .ne v1416 c0_i32_697
  let v1418 : BitVec 1 := Scalar.andi v1415 v1417
  let v1404 : BitVec 32 := Scalar.divsi v1403 c8_i32_692
  let c1_i32_698 : BitVec 32 := 1#32
  let v1419 : BitVec 32 := Scalar.subi v1404 c1_i32_698
  let v1420 : BitVec 32 := Scalar.select v1418 v1419 v1404
  let c8_i32_699 : BitVec 32 := 8#32
  let v1421 : BitVec 32 := Scalar.muli v1420 c8_i32_699
  let v1422 : BitVec 32 := Scalar.maxsi c0_i32_700 v1421
  let v1423 : BitVec 32 := Scalar.minsi c2094072_i32_701 v1422
  let v1424 : BitVec 32 := v1423
  let v1426 : BitVec 32 := Scalar.subi v1403 v1424
  let v1427 : BitVec 32 := Scalar.select v1425 c7_i32_703 v1426
  let c1_i32_704 : BitVec 32 := 1#32
  let v1428 : BitVec 32 := Scalar.addi v1380 c1_i32_704
  let c0_i32_706 : BitVec 32 := 0#32
  let v1430 : BitVec 1 := Scalar.cmpi .sgt v1428 c0_i32_706
  let v1431 : BitVec 32 := Scalar.extui v1430
  let c0_i32_707 : BitVec 32 := 0#32
  let v1432 : BitVec 1 := Scalar.cmpi .slt v1428 c0_i32_707
  let v1433 : BitVec 32 := Scalar.extui v1432
  let v1434 : BitVec 32 := Scalar.subi v1431 v1433
  let c256_i32_705 : BitVec 32 := 256#32
  let c0_i32_708 : BitVec 32 := 0#32
  let v1435 : BitVec 1 := Scalar.cmpi .sgt c256_i32_705 c0_i32_708
  let v1436 : BitVec 32 := Scalar.extui v1435
  let c0_i32_709 : BitVec 32 := 0#32
  let v1437 : BitVec 1 := Scalar.cmpi .slt c256_i32_705 c0_i32_709
  let v1438 : BitVec 32 := Scalar.extui v1437
  let v1439 : BitVec 32 := Scalar.subi v1436 v1438
  let v1440 : BitVec 1 := Scalar.cmpi .ne v1434 v1439
  let v1441 : BitVec 32 := Scalar.remsi v1428 c256_i32_705
  let c0_i32_710 : BitVec 32 := 0#32
  let v1442 : BitVec 1 := Scalar.cmpi .ne v1441 c0_i32_710
  let v1443 : BitVec 1 := Scalar.andi v1440 v1442
  let v1429 : BitVec 32 := Scalar.divsi v1428 c256_i32_705
  let c1_i32_711 : BitVec 32 := 1#32
  let v1444 : BitVec 32 := Scalar.subi v1429 c1_i32_711
  let v1445 : BitVec 32 := Scalar.select v1443 v1444 v1429
  let c8_i32_713 : BitVec 32 := 8#32
  let v1446 : BitVec 32 := Scalar.subi c8_i32_713 v1445
  let c1_i32_714 : BitVec 32 := 1#32
  let v1448 : BitVec 32 := Scalar.divsi v1446 c1_i32_714
  let v1449 : BitVec 32 := Scalar.muli v1448 c1_i32_714
  let v1450 : BitVec 32 := Scalar.addi v1445 v1449
  let c1_i32_716 : BitVec 32 := 1#32
  let arg21 : BitVec 32 := Scf.iv v1450 c1_i32_716 k0_t9
  let c256_i32_755 : BitVec 32 := 256#32
  let v1529 : BitVec 32 := Scalar.muli arg21 c256_i32_755
  let v1530 : BitVec 32 := Scalar.addi v1427 v1529
  let v1531 : BitVec 32 := Scalar.addi v1530 c0_i32_756
  let v1532 : Index := Scalar.indexCast v1531
  ![v1532.toNat]
def k0_off88 (i : grid0.Coords) (k0_t1 : Fin k0_t1_loop.trips) (k0_t9 : Fin (k0_t9_loop i k0_t1).trips) (c0_i32_760 : BitVec 32) : Fin 1 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_681 : BitVec 32 := 32#32
  let v1379 : BitVec 32 := Scalar.muli v1287 c32_i32_681
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1380 : BitVec 32 := Scalar.addi v1379 v1
  let c1_i32_704 : BitVec 32 := 1#32
  let v1428 : BitVec 32 := Scalar.addi v1380 c1_i32_704
  let c0_i32_706 : BitVec 32 := 0#32
  let v1430 : BitVec 1 := Scalar.cmpi .sgt v1428 c0_i32_706
  let v1431 : BitVec 32 := Scalar.extui v1430
  let c0_i32_707 : BitVec 32 := 0#32
  let v1432 : BitVec 1 := Scalar.cmpi .slt v1428 c0_i32_707
  let v1433 : BitVec 32 := Scalar.extui v1432
  let v1434 : BitVec 32 := Scalar.subi v1431 v1433
  let c256_i32_705 : BitVec 32 := 256#32
  let c0_i32_708 : BitVec 32 := 0#32
  let v1435 : BitVec 1 := Scalar.cmpi .sgt c256_i32_705 c0_i32_708
  let v1436 : BitVec 32 := Scalar.extui v1435
  let c0_i32_709 : BitVec 32 := 0#32
  let v1437 : BitVec 1 := Scalar.cmpi .slt c256_i32_705 c0_i32_709
  let v1438 : BitVec 32 := Scalar.extui v1437
  let v1439 : BitVec 32 := Scalar.subi v1436 v1438
  let v1440 : BitVec 1 := Scalar.cmpi .ne v1434 v1439
  let v1441 : BitVec 32 := Scalar.remsi v1428 c256_i32_705
  let c0_i32_710 : BitVec 32 := 0#32
  let v1442 : BitVec 1 := Scalar.cmpi .ne v1441 c0_i32_710
  let v1443 : BitVec 1 := Scalar.andi v1440 v1442
  let v1429 : BitVec 32 := Scalar.divsi v1428 c256_i32_705
  let c1_i32_711 : BitVec 32 := 1#32
  let v1444 : BitVec 32 := Scalar.subi v1429 c1_i32_711
  let v1445 : BitVec 32 := Scalar.select v1443 v1444 v1429
  let c8_i32_713 : BitVec 32 := 8#32
  let v1446 : BitVec 32 := Scalar.subi c8_i32_713 v1445
  let c1_i32_714 : BitVec 32 := 1#32
  let v1448 : BitVec 32 := Scalar.divsi v1446 c1_i32_714
  let v1449 : BitVec 32 := Scalar.muli v1448 c1_i32_714
  let v1450 : BitVec 32 := Scalar.addi v1445 v1449
  let c1_i32_716 : BitVec 32 := 1#32
  let arg21 : BitVec 32 := Scf.iv v1450 c1_i32_716 k0_t9
  let c256_i32_755 : BitVec 32 := 256#32
  let v1529 : BitVec 32 := Scalar.muli arg21 c256_i32_755
  let v1610 : BitVec 32 := Scalar.addi v1529 c0_i32_760
  let v1611 : Index := Scalar.indexCast v1610
  ![v1611.toNat]
def k0_mult95 (i : grid0.Coords) (k0_t1 : Fin k0_t1_loop.trips) : BitVec 32 :=
  let c2094072_i32_737 : BitVec 32 := 2094072#32
  let c0_i32_736 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_717 : BitVec 32 := 32#32
  let v1451 : BitVec 32 := Scalar.muli v1287 c32_i32_717
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1452 : BitVec 32 := Scalar.addi v1451 v1
  let c2047_i32_718 : BitVec 32 := 2047#32
  let v1453 : BitVec 32 := Scalar.muli v1452 c2047_i32_718
  let c1_i32_719 : BitVec 32 := 1#32
  let v1454 : BitVec 32 := Scalar.subi v1452 c1_i32_719
  let v1455 : BitVec 32 := Scalar.muli v1452 v1454
  let c0_i32_721 : BitVec 32 := 0#32
  let v1457 : BitVec 1 := Scalar.cmpi .sgt v1455 c0_i32_721
  let v1458 : BitVec 32 := Scalar.extui v1457
  let c0_i32_722 : BitVec 32 := 0#32
  let v1459 : BitVec 1 := Scalar.cmpi .slt v1455 c0_i32_722
  let v1460 : BitVec 32 := Scalar.extui v1459
  let v1461 : BitVec 32 := Scalar.subi v1458 v1460
  let c2_i32_720 : BitVec 32 := 2#32
  let c0_i32_723 : BitVec 32 := 0#32
  let v1462 : BitVec 1 := Scalar.cmpi .sgt c2_i32_720 c0_i32_723
  let v1463 : BitVec 32 := Scalar.extui v1462
  let c0_i32_724 : BitVec 32 := 0#32
  let v1464 : BitVec 1 := Scalar.cmpi .slt c2_i32_720 c0_i32_724
  let v1465 : BitVec 32 := Scalar.extui v1464
  let v1466 : BitVec 32 := Scalar.subi v1463 v1465
  let v1467 : BitVec 1 := Scalar.cmpi .ne v1461 v1466
  let v1468 : BitVec 32 := Scalar.remsi v1455 c2_i32_720
  let c0_i32_725 : BitVec 32 := 0#32
  let v1469 : BitVec 1 := Scalar.cmpi .ne v1468 c0_i32_725
  let v1470 : BitVec 1 := Scalar.andi v1467 v1469
  let v1456 : BitVec 32 := Scalar.divsi v1455 c2_i32_720
  let c1_i32_726 : BitVec 32 := 1#32
  let v1471 : BitVec 32 := Scalar.subi v1456 c1_i32_726
  let v1472 : BitVec 32 := Scalar.select v1470 v1471 v1456
  let v1473 : BitVec 32 := Scalar.subi v1453 v1472
  let v1474 : BitVec 32 := Scalar.subi v1473 v1452
  let c1_i32_727 : BitVec 32 := 1#32
  let v1475 : BitVec 32 := Scalar.subi v1474 c1_i32_727
  let c0_i32_729 : BitVec 32 := 0#32
  let v1477 : BitVec 1 := Scalar.cmpi .sgt v1475 c0_i32_729
  let v1478 : BitVec 32 := Scalar.extui v1477
  let c0_i32_730 : BitVec 32 := 0#32
  let v1479 : BitVec 1 := Scalar.cmpi .slt v1475 c0_i32_730
  let v1480 : BitVec 32 := Scalar.extui v1479
  let v1481 : BitVec 32 := Scalar.subi v1478 v1480
  let c8_i32_728 : BitVec 32 := 8#32
  let c0_i32_731 : BitVec 32 := 0#32
  let v1482 : BitVec 1 := Scalar.cmpi .sgt c8_i32_728 c0_i32_731
  let v1483 : BitVec 32 := Scalar.extui v1482
  let c0_i32_732 : BitVec 32 := 0#32
  let v1484 : BitVec 1 := Scalar.cmpi .slt c8_i32_728 c0_i32_732
  let v1485 : BitVec 32 := Scalar.extui v1484
  let v1486 : BitVec 32 := Scalar.subi v1483 v1485
  let v1487 : BitVec 1 := Scalar.cmpi .ne v1481 v1486
  let v1488 : BitVec 32 := Scalar.remsi v1475 c8_i32_728
  let c0_i32_733 : BitVec 32 := 0#32
  let v1489 : BitVec 1 := Scalar.cmpi .ne v1488 c0_i32_733
  let v1490 : BitVec 1 := Scalar.andi v1487 v1489
  let v1476 : BitVec 32 := Scalar.divsi v1475 c8_i32_728
  let c1_i32_734 : BitVec 32 := 1#32
  let v1491 : BitVec 32 := Scalar.subi v1476 c1_i32_734
  let v1492 : BitVec 32 := Scalar.select v1490 v1491 v1476
  let c8_i32_735 : BitVec 32 := 8#32
  let v1493 : BitVec 32 := Scalar.muli v1492 c8_i32_735
  let v1494 : BitVec 32 := Scalar.maxsi c0_i32_736 v1493
  let v1495 : BitVec 32 := Scalar.minsi c2094072_i32_737 v1494
  v1495
def k0_cond92 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_717 : BitVec 32 := 32#32
  let v1451 : BitVec 32 := Scalar.muli v1287 c32_i32_717
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1452 : BitVec 32 := Scalar.addi v1451 v1
  let c0_i32_741 : BitVec 32 := 0#32
  let v1501 : BitVec 1 := Scalar.cmpi .sgt v1452 c0_i32_741
  let v1502 : BitVec 32 := Scalar.extui v1501
  let c0_i32_742 : BitVec 32 := 0#32
  let v1503 : BitVec 1 := Scalar.cmpi .slt v1452 c0_i32_742
  let v1504 : BitVec 32 := Scalar.extui v1503
  let v1505 : BitVec 32 := Scalar.subi v1502 v1504
  let c512_i32_740 : BitVec 32 := 512#32
  let c0_i32_743 : BitVec 32 := 0#32
  let v1506 : BitVec 1 := Scalar.cmpi .sgt c512_i32_740 c0_i32_743
  let v1507 : BitVec 32 := Scalar.extui v1506
  let c0_i32_744 : BitVec 32 := 0#32
  let v1508 : BitVec 1 := Scalar.cmpi .slt c512_i32_740 c0_i32_744
  let v1509 : BitVec 32 := Scalar.extui v1508
  let v1510 : BitVec 32 := Scalar.subi v1507 v1509
  let v1511 : BitVec 1 := Scalar.cmpi .ne v1505 v1510
  let v1512 : BitVec 32 := Scalar.remsi v1452 c512_i32_740
  let c0_i32_745 : BitVec 32 := 0#32
  let v1513 : BitVec 1 := Scalar.cmpi .ne v1512 c0_i32_745
  let v1514 : BitVec 1 := Scalar.andi v1511 v1513
  let v1500 : BitVec 32 := Scalar.divsi v1452 c512_i32_740
  let c1_i32_746 : BitVec 32 := 1#32
  let v1515 : BitVec 32 := Scalar.subi v1500 c1_i32_746
  let v1516 : BitVec 32 := Scalar.select v1514 v1515 v1500
  let c0_i32_747 : BitVec 32 := 0#32
  let v1517 : BitVec 1 := Scalar.cmpi .eq v1516 c0_i32_747
  let v1518 : BitVec 32 := Scalar.extui v1517
  let c0_i32_748 : BitVec 32 := 0#32
  let v1519 : BitVec 1 := Scalar.cmpi .ne v1518 c0_i32_748
  v1519

def k0_mult96 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off89 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c0_i32_780 : BitVec 32 := 0#32
  ![v1530.toNat, 0]
def k0_cond93 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_717 : BitVec 32 := 32#32
  let v1451 : BitVec 32 := Scalar.muli v1287 c32_i32_717
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1452 : BitVec 32 := Scalar.addi v1451 v1
  let c0_i32_741 : BitVec 32 := 0#32
  let v1501 : BitVec 1 := Scalar.cmpi .sgt v1452 c0_i32_741
  let v1502 : BitVec 32 := Scalar.extui v1501
  let c0_i32_742 : BitVec 32 := 0#32
  let v1503 : BitVec 1 := Scalar.cmpi .slt v1452 c0_i32_742
  let v1504 : BitVec 32 := Scalar.extui v1503
  let v1505 : BitVec 32 := Scalar.subi v1502 v1504
  let c512_i32_740 : BitVec 32 := 512#32
  let c0_i32_743 : BitVec 32 := 0#32
  let v1506 : BitVec 1 := Scalar.cmpi .sgt c512_i32_740 c0_i32_743
  let v1507 : BitVec 32 := Scalar.extui v1506
  let c0_i32_744 : BitVec 32 := 0#32
  let v1508 : BitVec 1 := Scalar.cmpi .slt c512_i32_740 c0_i32_744
  let v1509 : BitVec 32 := Scalar.extui v1508
  let v1510 : BitVec 32 := Scalar.subi v1507 v1509
  let v1511 : BitVec 1 := Scalar.cmpi .ne v1505 v1510
  let v1512 : BitVec 32 := Scalar.remsi v1452 c512_i32_740
  let c0_i32_745 : BitVec 32 := 0#32
  let v1513 : BitVec 1 := Scalar.cmpi .ne v1512 c0_i32_745
  let v1514 : BitVec 1 := Scalar.andi v1511 v1513
  let v1500 : BitVec 32 := Scalar.divsi v1452 c512_i32_740
  let c1_i32_746 : BitVec 32 := 1#32
  let v1515 : BitVec 32 := Scalar.subi v1500 c1_i32_746
  let v1516 : BitVec 32 := Scalar.select v1514 v1515 v1500
  let c1_i32_749 : BitVec 32 := 1#32
  let v1520 : BitVec 1 := Scalar.cmpi .eq v1516 c1_i32_749
  let v1521 : BitVec 32 := Scalar.extui v1520
  let c0_i32_750 : BitVec 32 := 0#32
  let v1522 : BitVec 1 := Scalar.cmpi .ne v1521 c0_i32_750
  v1522

def k0_mult97 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off90 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c512_i32_780 : BitVec 32 := 512#32
  ![v1530.toNat, 512]
def k0_cond94 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_717 : BitVec 32 := 32#32
  let v1451 : BitVec 32 := Scalar.muli v1287 c32_i32_717
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1452 : BitVec 32 := Scalar.addi v1451 v1
  let c0_i32_741 : BitVec 32 := 0#32
  let v1501 : BitVec 1 := Scalar.cmpi .sgt v1452 c0_i32_741
  let v1502 : BitVec 32 := Scalar.extui v1501
  let c0_i32_742 : BitVec 32 := 0#32
  let v1503 : BitVec 1 := Scalar.cmpi .slt v1452 c0_i32_742
  let v1504 : BitVec 32 := Scalar.extui v1503
  let v1505 : BitVec 32 := Scalar.subi v1502 v1504
  let c512_i32_740 : BitVec 32 := 512#32
  let c0_i32_743 : BitVec 32 := 0#32
  let v1506 : BitVec 1 := Scalar.cmpi .sgt c512_i32_740 c0_i32_743
  let v1507 : BitVec 32 := Scalar.extui v1506
  let c0_i32_744 : BitVec 32 := 0#32
  let v1508 : BitVec 1 := Scalar.cmpi .slt c512_i32_740 c0_i32_744
  let v1509 : BitVec 32 := Scalar.extui v1508
  let v1510 : BitVec 32 := Scalar.subi v1507 v1509
  let v1511 : BitVec 1 := Scalar.cmpi .ne v1505 v1510
  let v1512 : BitVec 32 := Scalar.remsi v1452 c512_i32_740
  let c0_i32_745 : BitVec 32 := 0#32
  let v1513 : BitVec 1 := Scalar.cmpi .ne v1512 c0_i32_745
  let v1514 : BitVec 1 := Scalar.andi v1511 v1513
  let v1500 : BitVec 32 := Scalar.divsi v1452 c512_i32_740
  let c1_i32_746 : BitVec 32 := 1#32
  let v1515 : BitVec 32 := Scalar.subi v1500 c1_i32_746
  let v1516 : BitVec 32 := Scalar.select v1514 v1515 v1500
  let c2_i32_751 : BitVec 32 := 2#32
  let v1523 : BitVec 1 := Scalar.cmpi .eq v1516 c2_i32_751
  let v1524 : BitVec 32 := Scalar.extui v1523
  let c0_i32_752 : BitVec 32 := 0#32
  let v1525 : BitVec 1 := Scalar.cmpi .ne v1524 c0_i32_752
  v1525

def k0_mult98 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off91 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1024_i32_779 : BitVec 32 := 1024#32
  ![v1530.toNat, 1024]
def k0_cond95 (i : grid0.Coords) (k0_t1 : Fin k0_t1_loop.trips) : BitVec 1 :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_717 : BitVec 32 := 32#32
  let v1451 : BitVec 32 := Scalar.muli v1287 c32_i32_717
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1452 : BitVec 32 := Scalar.addi v1451 v1
  let c0_i32_741 : BitVec 32 := 0#32
  let v1501 : BitVec 1 := Scalar.cmpi .sgt v1452 c0_i32_741
  let v1502 : BitVec 32 := Scalar.extui v1501
  let c0_i32_742 : BitVec 32 := 0#32
  let v1503 : BitVec 1 := Scalar.cmpi .slt v1452 c0_i32_742
  let v1504 : BitVec 32 := Scalar.extui v1503
  let v1505 : BitVec 32 := Scalar.subi v1502 v1504
  let c512_i32_740 : BitVec 32 := 512#32
  let c0_i32_743 : BitVec 32 := 0#32
  let v1506 : BitVec 1 := Scalar.cmpi .sgt c512_i32_740 c0_i32_743
  let v1507 : BitVec 32 := Scalar.extui v1506
  let c0_i32_744 : BitVec 32 := 0#32
  let v1508 : BitVec 1 := Scalar.cmpi .slt c512_i32_740 c0_i32_744
  let v1509 : BitVec 32 := Scalar.extui v1508
  let v1510 : BitVec 32 := Scalar.subi v1507 v1509
  let v1511 : BitVec 1 := Scalar.cmpi .ne v1505 v1510
  let v1512 : BitVec 32 := Scalar.remsi v1452 c512_i32_740
  let c0_i32_745 : BitVec 32 := 0#32
  let v1513 : BitVec 1 := Scalar.cmpi .ne v1512 c0_i32_745
  let v1514 : BitVec 1 := Scalar.andi v1511 v1513
  let v1500 : BitVec 32 := Scalar.divsi v1452 c512_i32_740
  let c1_i32_746 : BitVec 32 := 1#32
  let v1515 : BitVec 32 := Scalar.subi v1500 c1_i32_746
  let v1516 : BitVec 32 := Scalar.select v1514 v1515 v1500
  let c3_i32_753 : BitVec 32 := 3#32
  let v1526 : BitVec 1 := Scalar.cmpi .eq v1516 c3_i32_753
  let v1527 : BitVec 32 := Scalar.extui v1526
  let c0_i32_754 : BitVec 32 := 0#32
  let v1528 : BitVec 1 := Scalar.cmpi .ne v1527 c0_i32_754
  v1528

def k0_mult99 (i : grid0.Coords) (k0_t1 : Fin k0_t1_loop.trips) : BitVec 32 :=
  let c2094072_i32_775 : BitVec 32 := 2094072#32
  let c0_i32_774 : BitVec 32 := 0#32
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c2047_i32_756 : BitVec 32 := 2047#32
  let v1531 : BitVec 32 := Scalar.muli v1530 c2047_i32_756
  let c1_i32_757 : BitVec 32 := 1#32
  let v1532 : BitVec 32 := Scalar.subi v1530 c1_i32_757
  let v1533 : BitVec 32 := Scalar.muli v1530 v1532
  let c0_i32_759 : BitVec 32 := 0#32
  let v1535 : BitVec 1 := Scalar.cmpi .sgt v1533 c0_i32_759
  let v1536 : BitVec 32 := Scalar.extui v1535
  let c0_i32_760 : BitVec 32 := 0#32
  let v1537 : BitVec 1 := Scalar.cmpi .slt v1533 c0_i32_760
  let v1538 : BitVec 32 := Scalar.extui v1537
  let v1539 : BitVec 32 := Scalar.subi v1536 v1538
  let c2_i32_758 : BitVec 32 := 2#32
  let c0_i32_761 : BitVec 32 := 0#32
  let v1540 : BitVec 1 := Scalar.cmpi .sgt c2_i32_758 c0_i32_761
  let v1541 : BitVec 32 := Scalar.extui v1540
  let c0_i32_762 : BitVec 32 := 0#32
  let v1542 : BitVec 1 := Scalar.cmpi .slt c2_i32_758 c0_i32_762
  let v1543 : BitVec 32 := Scalar.extui v1542
  let v1544 : BitVec 32 := Scalar.subi v1541 v1543
  let v1545 : BitVec 1 := Scalar.cmpi .ne v1539 v1544
  let v1546 : BitVec 32 := Scalar.remsi v1533 c2_i32_758
  let c0_i32_763 : BitVec 32 := 0#32
  let v1547 : BitVec 1 := Scalar.cmpi .ne v1546 c0_i32_763
  let v1548 : BitVec 1 := Scalar.andi v1545 v1547
  let v1534 : BitVec 32 := Scalar.divsi v1533 c2_i32_758
  let c1_i32_764 : BitVec 32 := 1#32
  let v1549 : BitVec 32 := Scalar.subi v1534 c1_i32_764
  let v1550 : BitVec 32 := Scalar.select v1548 v1549 v1534
  let v1551 : BitVec 32 := Scalar.subi v1531 v1550
  let v1552 : BitVec 32 := Scalar.subi v1551 v1530
  let c1_i32_765 : BitVec 32 := 1#32
  let v1553 : BitVec 32 := Scalar.subi v1552 c1_i32_765
  let c0_i32_767 : BitVec 32 := 0#32
  let v1555 : BitVec 1 := Scalar.cmpi .sgt v1553 c0_i32_767
  let v1556 : BitVec 32 := Scalar.extui v1555
  let c0_i32_768 : BitVec 32 := 0#32
  let v1557 : BitVec 1 := Scalar.cmpi .slt v1553 c0_i32_768
  let v1558 : BitVec 32 := Scalar.extui v1557
  let v1559 : BitVec 32 := Scalar.subi v1556 v1558
  let c8_i32_766 : BitVec 32 := 8#32
  let c0_i32_769 : BitVec 32 := 0#32
  let v1560 : BitVec 1 := Scalar.cmpi .sgt c8_i32_766 c0_i32_769
  let v1561 : BitVec 32 := Scalar.extui v1560
  let c0_i32_770 : BitVec 32 := 0#32
  let v1562 : BitVec 1 := Scalar.cmpi .slt c8_i32_766 c0_i32_770
  let v1563 : BitVec 32 := Scalar.extui v1562
  let v1564 : BitVec 32 := Scalar.subi v1561 v1563
  let v1565 : BitVec 1 := Scalar.cmpi .ne v1559 v1564
  let v1566 : BitVec 32 := Scalar.remsi v1553 c8_i32_766
  let c0_i32_771 : BitVec 32 := 0#32
  let v1567 : BitVec 1 := Scalar.cmpi .ne v1566 c0_i32_771
  let v1568 : BitVec 1 := Scalar.andi v1565 v1567
  let v1554 : BitVec 32 := Scalar.divsi v1553 c8_i32_766
  let c1_i32_772 : BitVec 32 := 1#32
  let v1569 : BitVec 32 := Scalar.subi v1554 c1_i32_772
  let v1570 : BitVec 32 := Scalar.select v1568 v1569 v1554
  let c8_i32_773 : BitVec 32 := 8#32
  let v1571 : BitVec 32 := Scalar.muli v1570 c8_i32_773
  let v1572 : BitVec 32 := Scalar.maxsi c0_i32_774 v1571
  let v1573 : BitVec 32 := Scalar.minsi c2094072_i32_775 v1572
  v1573
def k0_off92 (i : grid0.Coords) (k0_t1 : Fin k0_t1_loop.trips) : Fin 2 → Nat :=
  let c4_i32_632 : BitVec 32 := 4#32
  let c0_i32_114 : BitVec 32 := 0#32
  let c1_i32_115 : BitVec 32 := 1#32
  let arg20 : BitVec 32 := Scf.iv c0_i32_114 c1_i32_115 k0_t1
  let v1286 : BitVec 32 := Scalar.muli c4_i32_632 arg20
  let c3_i32_633 : BitVec 32 := 3#32
  let v1287 : BitVec 32 := Scalar.addi v1286 c3_i32_633
  let c32_i32_755 : BitVec 32 := 32#32
  let v1529 : BitVec 32 := Scalar.muli v1287 c32_i32_755
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v1530 : BitVec 32 := Scalar.addi v1529 v1
  let c1536_i32_779 : BitVec 32 := 1536#32
  ![v1530.toNat, 1536]
def k0_mult100 (i : grid0.Coords) : BitVec 32 :=
  let c2094072_i32_136 : BitVec 32 := 2094072#32
  let c0_i32_135 : BitVec 32 := 0#32
  let c1920_i32 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v249 : BitVec 32 := Scalar.addi c1920_i32 v1
  let c2047_i32_117 : BitVec 32 := 2047#32
  let v250 : BitVec 32 := Scalar.muli v249 c2047_i32_117
  let c1_i32_118 : BitVec 32 := 1#32
  let v251 : BitVec 32 := Scalar.subi v249 c1_i32_118
  let v252 : BitVec 32 := Scalar.muli v249 v251
  let c0_i32_120 : BitVec 32 := 0#32
  let v254 : BitVec 1 := Scalar.cmpi .sgt v252 c0_i32_120
  let v255 : BitVec 32 := Scalar.extui v254
  let c0_i32_121 : BitVec 32 := 0#32
  let v256 : BitVec 1 := Scalar.cmpi .slt v252 c0_i32_121
  let v257 : BitVec 32 := Scalar.extui v256
  let v258 : BitVec 32 := Scalar.subi v255 v257
  let c2_i32_119 : BitVec 32 := 2#32
  let c0_i32_122 : BitVec 32 := 0#32
  let v259 : BitVec 1 := Scalar.cmpi .sgt c2_i32_119 c0_i32_122
  let v260 : BitVec 32 := Scalar.extui v259
  let c0_i32_123 : BitVec 32 := 0#32
  let v261 : BitVec 1 := Scalar.cmpi .slt c2_i32_119 c0_i32_123
  let v262 : BitVec 32 := Scalar.extui v261
  let v263 : BitVec 32 := Scalar.subi v260 v262
  let v264 : BitVec 1 := Scalar.cmpi .ne v258 v263
  let v265 : BitVec 32 := Scalar.remsi v252 c2_i32_119
  let c0_i32_124 : BitVec 32 := 0#32
  let v266 : BitVec 1 := Scalar.cmpi .ne v265 c0_i32_124
  let v267 : BitVec 1 := Scalar.andi v264 v266
  let v253 : BitVec 32 := Scalar.divsi v252 c2_i32_119
  let c1_i32_125 : BitVec 32 := 1#32
  let v268 : BitVec 32 := Scalar.subi v253 c1_i32_125
  let v269 : BitVec 32 := Scalar.select v267 v268 v253
  let v270 : BitVec 32 := Scalar.subi v250 v269
  let v271 : BitVec 32 := Scalar.subi v270 v249
  let c1_i32_126 : BitVec 32 := 1#32
  let v272 : BitVec 32 := Scalar.subi v271 c1_i32_126
  let c0_i32_128 : BitVec 32 := 0#32
  let v274 : BitVec 1 := Scalar.cmpi .sgt v272 c0_i32_128
  let v275 : BitVec 32 := Scalar.extui v274
  let c0_i32_129 : BitVec 32 := 0#32
  let v276 : BitVec 1 := Scalar.cmpi .slt v272 c0_i32_129
  let v277 : BitVec 32 := Scalar.extui v276
  let v278 : BitVec 32 := Scalar.subi v275 v277
  let c8_i32_127 : BitVec 32 := 8#32
  let c0_i32_130 : BitVec 32 := 0#32
  let v279 : BitVec 1 := Scalar.cmpi .sgt c8_i32_127 c0_i32_130
  let v280 : BitVec 32 := Scalar.extui v279
  let c0_i32_131 : BitVec 32 := 0#32
  let v281 : BitVec 1 := Scalar.cmpi .slt c8_i32_127 c0_i32_131
  let v282 : BitVec 32 := Scalar.extui v281
  let v283 : BitVec 32 := Scalar.subi v280 v282
  let v284 : BitVec 1 := Scalar.cmpi .ne v278 v283
  let v285 : BitVec 32 := Scalar.remsi v272 c8_i32_127
  let c0_i32_132 : BitVec 32 := 0#32
  let v286 : BitVec 1 := Scalar.cmpi .ne v285 c0_i32_132
  let v287 : BitVec 1 := Scalar.andi v284 v286
  let v273 : BitVec 32 := Scalar.divsi v272 c8_i32_127
  let c1_i32_133 : BitVec 32 := 1#32
  let v288 : BitVec 32 := Scalar.subi v273 c1_i32_133
  let v289 : BitVec 32 := Scalar.select v287 v288 v273
  let c8_i32_134 : BitVec 32 := 8#32
  let v290 : BitVec 32 := Scalar.muli v289 c8_i32_134
  let v291 : BitVec 32 := Scalar.maxsi c0_i32_135 v290
  let v292 : BitVec 32 := Scalar.minsi c2094072_i32_136 v291
  v292
def k0_cond96 (i : grid0.Coords) : BitVec 1 :=
  let c1920_i32 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v249 : BitVec 32 := Scalar.addi c1920_i32 v1
  let c0_i32_140 : BitVec 32 := 0#32
  let v298 : BitVec 1 := Scalar.cmpi .sgt v249 c0_i32_140
  let v299 : BitVec 32 := Scalar.extui v298
  let c0_i32_141 : BitVec 32 := 0#32
  let v300 : BitVec 1 := Scalar.cmpi .slt v249 c0_i32_141
  let v301 : BitVec 32 := Scalar.extui v300
  let v302 : BitVec 32 := Scalar.subi v299 v301
  let c512_i32_139 : BitVec 32 := 512#32
  let c0_i32_142 : BitVec 32 := 0#32
  let v303 : BitVec 1 := Scalar.cmpi .sgt c512_i32_139 c0_i32_142
  let v304 : BitVec 32 := Scalar.extui v303
  let c0_i32_143 : BitVec 32 := 0#32
  let v305 : BitVec 1 := Scalar.cmpi .slt c512_i32_139 c0_i32_143
  let v306 : BitVec 32 := Scalar.extui v305
  let v307 : BitVec 32 := Scalar.subi v304 v306
  let v308 : BitVec 1 := Scalar.cmpi .ne v302 v307
  let v309 : BitVec 32 := Scalar.remsi v249 c512_i32_139
  let c0_i32_144 : BitVec 32 := 0#32
  let v310 : BitVec 1 := Scalar.cmpi .ne v309 c0_i32_144
  let v311 : BitVec 1 := Scalar.andi v308 v310
  let v297 : BitVec 32 := Scalar.divsi v249 c512_i32_139
  let c1_i32_145 : BitVec 32 := 1#32
  let v312 : BitVec 32 := Scalar.subi v297 c1_i32_145
  let v313 : BitVec 32 := Scalar.select v311 v312 v297
  let c0_i32_146 : BitVec 32 := 0#32
  let v314 : BitVec 1 := Scalar.cmpi .eq v313 c0_i32_146
  let v315 : BitVec 32 := Scalar.extui v314
  let c0_i32_147 : BitVec 32 := 0#32
  let v316 : BitVec 1 := Scalar.cmpi .ne v315 c0_i32_147
  v316

def k0_mult101 (i : grid0.Coords) : BitVec 32 :=
  let c2094072_i32_285 : BitVec 32 := 2094072#32
  let c0_i32_284 : BitVec 32 := 0#32
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off93 (i : grid0.Coords) : Fin 2 → Nat :=
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c0_i32_290 : BitVec 32 := 0#32
  ![v557.toNat, 0]
def k0_cond97 (i : grid0.Coords) : BitVec 1 :=
  let c1920_i32 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v249 : BitVec 32 := Scalar.addi c1920_i32 v1
  let c0_i32_140 : BitVec 32 := 0#32
  let v298 : BitVec 1 := Scalar.cmpi .sgt v249 c0_i32_140
  let v299 : BitVec 32 := Scalar.extui v298
  let c0_i32_141 : BitVec 32 := 0#32
  let v300 : BitVec 1 := Scalar.cmpi .slt v249 c0_i32_141
  let v301 : BitVec 32 := Scalar.extui v300
  let v302 : BitVec 32 := Scalar.subi v299 v301
  let c512_i32_139 : BitVec 32 := 512#32
  let c0_i32_142 : BitVec 32 := 0#32
  let v303 : BitVec 1 := Scalar.cmpi .sgt c512_i32_139 c0_i32_142
  let v304 : BitVec 32 := Scalar.extui v303
  let c0_i32_143 : BitVec 32 := 0#32
  let v305 : BitVec 1 := Scalar.cmpi .slt c512_i32_139 c0_i32_143
  let v306 : BitVec 32 := Scalar.extui v305
  let v307 : BitVec 32 := Scalar.subi v304 v306
  let v308 : BitVec 1 := Scalar.cmpi .ne v302 v307
  let v309 : BitVec 32 := Scalar.remsi v249 c512_i32_139
  let c0_i32_144 : BitVec 32 := 0#32
  let v310 : BitVec 1 := Scalar.cmpi .ne v309 c0_i32_144
  let v311 : BitVec 1 := Scalar.andi v308 v310
  let v297 : BitVec 32 := Scalar.divsi v249 c512_i32_139
  let c1_i32_145 : BitVec 32 := 1#32
  let v312 : BitVec 32 := Scalar.subi v297 c1_i32_145
  let v313 : BitVec 32 := Scalar.select v311 v312 v297
  let c1_i32_148 : BitVec 32 := 1#32
  let v317 : BitVec 1 := Scalar.cmpi .eq v313 c1_i32_148
  let v318 : BitVec 32 := Scalar.extui v317
  let c0_i32_149 : BitVec 32 := 0#32
  let v319 : BitVec 1 := Scalar.cmpi .ne v318 c0_i32_149
  v319

def k0_mult102 (i : grid0.Coords) : BitVec 32 :=
  let c2094072_i32_285 : BitVec 32 := 2094072#32
  let c0_i32_284 : BitVec 32 := 0#32
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off94 (i : grid0.Coords) : Fin 2 → Nat :=
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c512_i32_290 : BitVec 32 := 512#32
  ![v557.toNat, 512]
def k0_cond98 (i : grid0.Coords) : BitVec 1 :=
  let c1920_i32 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v249 : BitVec 32 := Scalar.addi c1920_i32 v1
  let c0_i32_140 : BitVec 32 := 0#32
  let v298 : BitVec 1 := Scalar.cmpi .sgt v249 c0_i32_140
  let v299 : BitVec 32 := Scalar.extui v298
  let c0_i32_141 : BitVec 32 := 0#32
  let v300 : BitVec 1 := Scalar.cmpi .slt v249 c0_i32_141
  let v301 : BitVec 32 := Scalar.extui v300
  let v302 : BitVec 32 := Scalar.subi v299 v301
  let c512_i32_139 : BitVec 32 := 512#32
  let c0_i32_142 : BitVec 32 := 0#32
  let v303 : BitVec 1 := Scalar.cmpi .sgt c512_i32_139 c0_i32_142
  let v304 : BitVec 32 := Scalar.extui v303
  let c0_i32_143 : BitVec 32 := 0#32
  let v305 : BitVec 1 := Scalar.cmpi .slt c512_i32_139 c0_i32_143
  let v306 : BitVec 32 := Scalar.extui v305
  let v307 : BitVec 32 := Scalar.subi v304 v306
  let v308 : BitVec 1 := Scalar.cmpi .ne v302 v307
  let v309 : BitVec 32 := Scalar.remsi v249 c512_i32_139
  let c0_i32_144 : BitVec 32 := 0#32
  let v310 : BitVec 1 := Scalar.cmpi .ne v309 c0_i32_144
  let v311 : BitVec 1 := Scalar.andi v308 v310
  let v297 : BitVec 32 := Scalar.divsi v249 c512_i32_139
  let c1_i32_145 : BitVec 32 := 1#32
  let v312 : BitVec 32 := Scalar.subi v297 c1_i32_145
  let v313 : BitVec 32 := Scalar.select v311 v312 v297
  let c2_i32_150 : BitVec 32 := 2#32
  let v320 : BitVec 1 := Scalar.cmpi .eq v313 c2_i32_150
  let v321 : BitVec 32 := Scalar.extui v320
  let c0_i32_151 : BitVec 32 := 0#32
  let v322 : BitVec 1 := Scalar.cmpi .ne v321 c0_i32_151
  v322

def k0_mult103 (i : grid0.Coords) : BitVec 32 :=
  let c2094072_i32_285 : BitVec 32 := 2094072#32
  let c0_i32_284 : BitVec 32 := 0#32
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off95 (i : grid0.Coords) : Fin 2 → Nat :=
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c1024_i32_289 : BitVec 32 := 1024#32
  ![v557.toNat, 1024]
def k0_cond99 (i : grid0.Coords) : BitVec 1 :=
  let c1920_i32 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v249 : BitVec 32 := Scalar.addi c1920_i32 v1
  let c0_i32_140 : BitVec 32 := 0#32
  let v298 : BitVec 1 := Scalar.cmpi .sgt v249 c0_i32_140
  let v299 : BitVec 32 := Scalar.extui v298
  let c0_i32_141 : BitVec 32 := 0#32
  let v300 : BitVec 1 := Scalar.cmpi .slt v249 c0_i32_141
  let v301 : BitVec 32 := Scalar.extui v300
  let v302 : BitVec 32 := Scalar.subi v299 v301
  let c512_i32_139 : BitVec 32 := 512#32
  let c0_i32_142 : BitVec 32 := 0#32
  let v303 : BitVec 1 := Scalar.cmpi .sgt c512_i32_139 c0_i32_142
  let v304 : BitVec 32 := Scalar.extui v303
  let c0_i32_143 : BitVec 32 := 0#32
  let v305 : BitVec 1 := Scalar.cmpi .slt c512_i32_139 c0_i32_143
  let v306 : BitVec 32 := Scalar.extui v305
  let v307 : BitVec 32 := Scalar.subi v304 v306
  let v308 : BitVec 1 := Scalar.cmpi .ne v302 v307
  let v309 : BitVec 32 := Scalar.remsi v249 c512_i32_139
  let c0_i32_144 : BitVec 32 := 0#32
  let v310 : BitVec 1 := Scalar.cmpi .ne v309 c0_i32_144
  let v311 : BitVec 1 := Scalar.andi v308 v310
  let v297 : BitVec 32 := Scalar.divsi v249 c512_i32_139
  let c1_i32_145 : BitVec 32 := 1#32
  let v312 : BitVec 32 := Scalar.subi v297 c1_i32_145
  let v313 : BitVec 32 := Scalar.select v311 v312 v297
  let c3_i32_152 : BitVec 32 := 3#32
  let v323 : BitVec 1 := Scalar.cmpi .eq v313 c3_i32_152
  let v324 : BitVec 32 := Scalar.extui v323
  let c0_i32_153 : BitVec 32 := 0#32
  let v325 : BitVec 1 := Scalar.cmpi .ne v324 c0_i32_153
  v325

def k0_mult104 (i : grid0.Coords) : BitVec 32 :=
  let c2094072_i32_285 : BitVec 32 := 2094072#32
  let c0_i32_284 : BitVec 32 := 0#32
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off96 (i : grid0.Coords) : Fin 2 → Nat :=
  let c1920_i32_265 : BitVec 32 := 1920#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1920_i32_265 v1
  let c1536_i32_289 : BitVec 32 := 1536#32
  ![v557.toNat, 1536]
def k0_mult105 (i : grid0.Coords) : BitVec 32 :=
  let c2094072_i32_173 : BitVec 32 := 2094072#32
  let c0_i32_172 : BitVec 32 := 0#32
  let c1952_i32 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v326 : BitVec 32 := Scalar.addi c1952_i32 v1
  let c2047_i32_154 : BitVec 32 := 2047#32
  let v327 : BitVec 32 := Scalar.muli v326 c2047_i32_154
  let c1_i32_155 : BitVec 32 := 1#32
  let v328 : BitVec 32 := Scalar.subi v326 c1_i32_155
  let v329 : BitVec 32 := Scalar.muli v326 v328
  let c0_i32_157 : BitVec 32 := 0#32
  let v331 : BitVec 1 := Scalar.cmpi .sgt v329 c0_i32_157
  let v332 : BitVec 32 := Scalar.extui v331
  let c0_i32_158 : BitVec 32 := 0#32
  let v333 : BitVec 1 := Scalar.cmpi .slt v329 c0_i32_158
  let v334 : BitVec 32 := Scalar.extui v333
  let v335 : BitVec 32 := Scalar.subi v332 v334
  let c2_i32_156 : BitVec 32 := 2#32
  let c0_i32_159 : BitVec 32 := 0#32
  let v336 : BitVec 1 := Scalar.cmpi .sgt c2_i32_156 c0_i32_159
  let v337 : BitVec 32 := Scalar.extui v336
  let c0_i32_160 : BitVec 32 := 0#32
  let v338 : BitVec 1 := Scalar.cmpi .slt c2_i32_156 c0_i32_160
  let v339 : BitVec 32 := Scalar.extui v338
  let v340 : BitVec 32 := Scalar.subi v337 v339
  let v341 : BitVec 1 := Scalar.cmpi .ne v335 v340
  let v342 : BitVec 32 := Scalar.remsi v329 c2_i32_156
  let c0_i32_161 : BitVec 32 := 0#32
  let v343 : BitVec 1 := Scalar.cmpi .ne v342 c0_i32_161
  let v344 : BitVec 1 := Scalar.andi v341 v343
  let v330 : BitVec 32 := Scalar.divsi v329 c2_i32_156
  let c1_i32_162 : BitVec 32 := 1#32
  let v345 : BitVec 32 := Scalar.subi v330 c1_i32_162
  let v346 : BitVec 32 := Scalar.select v344 v345 v330
  let v347 : BitVec 32 := Scalar.subi v327 v346
  let v348 : BitVec 32 := Scalar.subi v347 v326
  let c1_i32_163 : BitVec 32 := 1#32
  let v349 : BitVec 32 := Scalar.subi v348 c1_i32_163
  let c0_i32_165 : BitVec 32 := 0#32
  let v351 : BitVec 1 := Scalar.cmpi .sgt v349 c0_i32_165
  let v352 : BitVec 32 := Scalar.extui v351
  let c0_i32_166 : BitVec 32 := 0#32
  let v353 : BitVec 1 := Scalar.cmpi .slt v349 c0_i32_166
  let v354 : BitVec 32 := Scalar.extui v353
  let v355 : BitVec 32 := Scalar.subi v352 v354
  let c8_i32_164 : BitVec 32 := 8#32
  let c0_i32_167 : BitVec 32 := 0#32
  let v356 : BitVec 1 := Scalar.cmpi .sgt c8_i32_164 c0_i32_167
  let v357 : BitVec 32 := Scalar.extui v356
  let c0_i32_168 : BitVec 32 := 0#32
  let v358 : BitVec 1 := Scalar.cmpi .slt c8_i32_164 c0_i32_168
  let v359 : BitVec 32 := Scalar.extui v358
  let v360 : BitVec 32 := Scalar.subi v357 v359
  let v361 : BitVec 1 := Scalar.cmpi .ne v355 v360
  let v362 : BitVec 32 := Scalar.remsi v349 c8_i32_164
  let c0_i32_169 : BitVec 32 := 0#32
  let v363 : BitVec 1 := Scalar.cmpi .ne v362 c0_i32_169
  let v364 : BitVec 1 := Scalar.andi v361 v363
  let v350 : BitVec 32 := Scalar.divsi v349 c8_i32_164
  let c1_i32_170 : BitVec 32 := 1#32
  let v365 : BitVec 32 := Scalar.subi v350 c1_i32_170
  let v366 : BitVec 32 := Scalar.select v364 v365 v350
  let c8_i32_171 : BitVec 32 := 8#32
  let v367 : BitVec 32 := Scalar.muli v366 c8_i32_171
  let v368 : BitVec 32 := Scalar.maxsi c0_i32_172 v367
  let v369 : BitVec 32 := Scalar.minsi c2094072_i32_173 v368
  v369
def k0_cond100 (i : grid0.Coords) : BitVec 1 :=
  let c1952_i32 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v326 : BitVec 32 := Scalar.addi c1952_i32 v1
  let c0_i32_177 : BitVec 32 := 0#32
  let v375 : BitVec 1 := Scalar.cmpi .sgt v326 c0_i32_177
  let v376 : BitVec 32 := Scalar.extui v375
  let c0_i32_178 : BitVec 32 := 0#32
  let v377 : BitVec 1 := Scalar.cmpi .slt v326 c0_i32_178
  let v378 : BitVec 32 := Scalar.extui v377
  let v379 : BitVec 32 := Scalar.subi v376 v378
  let c512_i32_176 : BitVec 32 := 512#32
  let c0_i32_179 : BitVec 32 := 0#32
  let v380 : BitVec 1 := Scalar.cmpi .sgt c512_i32_176 c0_i32_179
  let v381 : BitVec 32 := Scalar.extui v380
  let c0_i32_180 : BitVec 32 := 0#32
  let v382 : BitVec 1 := Scalar.cmpi .slt c512_i32_176 c0_i32_180
  let v383 : BitVec 32 := Scalar.extui v382
  let v384 : BitVec 32 := Scalar.subi v381 v383
  let v385 : BitVec 1 := Scalar.cmpi .ne v379 v384
  let v386 : BitVec 32 := Scalar.remsi v326 c512_i32_176
  let c0_i32_181 : BitVec 32 := 0#32
  let v387 : BitVec 1 := Scalar.cmpi .ne v386 c0_i32_181
  let v388 : BitVec 1 := Scalar.andi v385 v387
  let v374 : BitVec 32 := Scalar.divsi v326 c512_i32_176
  let c1_i32_182 : BitVec 32 := 1#32
  let v389 : BitVec 32 := Scalar.subi v374 c1_i32_182
  let v390 : BitVec 32 := Scalar.select v388 v389 v374
  let c0_i32_183 : BitVec 32 := 0#32
  let v391 : BitVec 1 := Scalar.cmpi .eq v390 c0_i32_183
  let v392 : BitVec 32 := Scalar.extui v391
  let c0_i32_184 : BitVec 32 := 0#32
  let v393 : BitVec 1 := Scalar.cmpi .ne v392 c0_i32_184
  v393

def k0_mult106 (i : grid0.Coords) : BitVec 32 :=
  let c2094072_i32_285 : BitVec 32 := 2094072#32
  let c0_i32_284 : BitVec 32 := 0#32
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off97 (i : grid0.Coords) : Fin 2 → Nat :=
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c0_i32_290 : BitVec 32 := 0#32
  ![v557.toNat, 0]
def k0_cond101 (i : grid0.Coords) : BitVec 1 :=
  let c1952_i32 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v326 : BitVec 32 := Scalar.addi c1952_i32 v1
  let c0_i32_177 : BitVec 32 := 0#32
  let v375 : BitVec 1 := Scalar.cmpi .sgt v326 c0_i32_177
  let v376 : BitVec 32 := Scalar.extui v375
  let c0_i32_178 : BitVec 32 := 0#32
  let v377 : BitVec 1 := Scalar.cmpi .slt v326 c0_i32_178
  let v378 : BitVec 32 := Scalar.extui v377
  let v379 : BitVec 32 := Scalar.subi v376 v378
  let c512_i32_176 : BitVec 32 := 512#32
  let c0_i32_179 : BitVec 32 := 0#32
  let v380 : BitVec 1 := Scalar.cmpi .sgt c512_i32_176 c0_i32_179
  let v381 : BitVec 32 := Scalar.extui v380
  let c0_i32_180 : BitVec 32 := 0#32
  let v382 : BitVec 1 := Scalar.cmpi .slt c512_i32_176 c0_i32_180
  let v383 : BitVec 32 := Scalar.extui v382
  let v384 : BitVec 32 := Scalar.subi v381 v383
  let v385 : BitVec 1 := Scalar.cmpi .ne v379 v384
  let v386 : BitVec 32 := Scalar.remsi v326 c512_i32_176
  let c0_i32_181 : BitVec 32 := 0#32
  let v387 : BitVec 1 := Scalar.cmpi .ne v386 c0_i32_181
  let v388 : BitVec 1 := Scalar.andi v385 v387
  let v374 : BitVec 32 := Scalar.divsi v326 c512_i32_176
  let c1_i32_182 : BitVec 32 := 1#32
  let v389 : BitVec 32 := Scalar.subi v374 c1_i32_182
  let v390 : BitVec 32 := Scalar.select v388 v389 v374
  let c1_i32_185 : BitVec 32 := 1#32
  let v394 : BitVec 1 := Scalar.cmpi .eq v390 c1_i32_185
  let v395 : BitVec 32 := Scalar.extui v394
  let c0_i32_186 : BitVec 32 := 0#32
  let v396 : BitVec 1 := Scalar.cmpi .ne v395 c0_i32_186
  v396

def k0_mult107 (i : grid0.Coords) : BitVec 32 :=
  let c2094072_i32_285 : BitVec 32 := 2094072#32
  let c0_i32_284 : BitVec 32 := 0#32
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off98 (i : grid0.Coords) : Fin 2 → Nat :=
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c512_i32_290 : BitVec 32 := 512#32
  ![v557.toNat, 512]
def k0_cond102 (i : grid0.Coords) : BitVec 1 :=
  let c1952_i32 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v326 : BitVec 32 := Scalar.addi c1952_i32 v1
  let c0_i32_177 : BitVec 32 := 0#32
  let v375 : BitVec 1 := Scalar.cmpi .sgt v326 c0_i32_177
  let v376 : BitVec 32 := Scalar.extui v375
  let c0_i32_178 : BitVec 32 := 0#32
  let v377 : BitVec 1 := Scalar.cmpi .slt v326 c0_i32_178
  let v378 : BitVec 32 := Scalar.extui v377
  let v379 : BitVec 32 := Scalar.subi v376 v378
  let c512_i32_176 : BitVec 32 := 512#32
  let c0_i32_179 : BitVec 32 := 0#32
  let v380 : BitVec 1 := Scalar.cmpi .sgt c512_i32_176 c0_i32_179
  let v381 : BitVec 32 := Scalar.extui v380
  let c0_i32_180 : BitVec 32 := 0#32
  let v382 : BitVec 1 := Scalar.cmpi .slt c512_i32_176 c0_i32_180
  let v383 : BitVec 32 := Scalar.extui v382
  let v384 : BitVec 32 := Scalar.subi v381 v383
  let v385 : BitVec 1 := Scalar.cmpi .ne v379 v384
  let v386 : BitVec 32 := Scalar.remsi v326 c512_i32_176
  let c0_i32_181 : BitVec 32 := 0#32
  let v387 : BitVec 1 := Scalar.cmpi .ne v386 c0_i32_181
  let v388 : BitVec 1 := Scalar.andi v385 v387
  let v374 : BitVec 32 := Scalar.divsi v326 c512_i32_176
  let c1_i32_182 : BitVec 32 := 1#32
  let v389 : BitVec 32 := Scalar.subi v374 c1_i32_182
  let v390 : BitVec 32 := Scalar.select v388 v389 v374
  let c2_i32_187 : BitVec 32 := 2#32
  let v397 : BitVec 1 := Scalar.cmpi .eq v390 c2_i32_187
  let v398 : BitVec 32 := Scalar.extui v397
  let c0_i32_188 : BitVec 32 := 0#32
  let v399 : BitVec 1 := Scalar.cmpi .ne v398 c0_i32_188
  v399

def k0_mult108 (i : grid0.Coords) : BitVec 32 :=
  let c2094072_i32_285 : BitVec 32 := 2094072#32
  let c0_i32_284 : BitVec 32 := 0#32
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off99 (i : grid0.Coords) : Fin 2 → Nat :=
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c1024_i32_289 : BitVec 32 := 1024#32
  ![v557.toNat, 1024]
def k0_cond103 (i : grid0.Coords) : BitVec 1 :=
  let c1952_i32 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v326 : BitVec 32 := Scalar.addi c1952_i32 v1
  let c0_i32_177 : BitVec 32 := 0#32
  let v375 : BitVec 1 := Scalar.cmpi .sgt v326 c0_i32_177
  let v376 : BitVec 32 := Scalar.extui v375
  let c0_i32_178 : BitVec 32 := 0#32
  let v377 : BitVec 1 := Scalar.cmpi .slt v326 c0_i32_178
  let v378 : BitVec 32 := Scalar.extui v377
  let v379 : BitVec 32 := Scalar.subi v376 v378
  let c512_i32_176 : BitVec 32 := 512#32
  let c0_i32_179 : BitVec 32 := 0#32
  let v380 : BitVec 1 := Scalar.cmpi .sgt c512_i32_176 c0_i32_179
  let v381 : BitVec 32 := Scalar.extui v380
  let c0_i32_180 : BitVec 32 := 0#32
  let v382 : BitVec 1 := Scalar.cmpi .slt c512_i32_176 c0_i32_180
  let v383 : BitVec 32 := Scalar.extui v382
  let v384 : BitVec 32 := Scalar.subi v381 v383
  let v385 : BitVec 1 := Scalar.cmpi .ne v379 v384
  let v386 : BitVec 32 := Scalar.remsi v326 c512_i32_176
  let c0_i32_181 : BitVec 32 := 0#32
  let v387 : BitVec 1 := Scalar.cmpi .ne v386 c0_i32_181
  let v388 : BitVec 1 := Scalar.andi v385 v387
  let v374 : BitVec 32 := Scalar.divsi v326 c512_i32_176
  let c1_i32_182 : BitVec 32 := 1#32
  let v389 : BitVec 32 := Scalar.subi v374 c1_i32_182
  let v390 : BitVec 32 := Scalar.select v388 v389 v374
  let c3_i32_189 : BitVec 32 := 3#32
  let v400 : BitVec 1 := Scalar.cmpi .eq v390 c3_i32_189
  let v401 : BitVec 32 := Scalar.extui v400
  let c0_i32_190 : BitVec 32 := 0#32
  let v402 : BitVec 1 := Scalar.cmpi .ne v401 c0_i32_190
  v402

def k0_mult109 (i : grid0.Coords) : BitVec 32 :=
  let c2094072_i32_285 : BitVec 32 := 2094072#32
  let c0_i32_284 : BitVec 32 := 0#32
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off100 (i : grid0.Coords) : Fin 2 → Nat :=
  let c1952_i32_265 : BitVec 32 := 1952#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1952_i32_265 v1
  let c1536_i32_289 : BitVec 32 := 1536#32
  ![v557.toNat, 1536]
def k0_mult110 (i : grid0.Coords) : BitVec 32 :=
  let c2094072_i32_210 : BitVec 32 := 2094072#32
  let c0_i32_209 : BitVec 32 := 0#32
  let c1984_i32 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v403 : BitVec 32 := Scalar.addi c1984_i32 v1
  let c2047_i32_191 : BitVec 32 := 2047#32
  let v404 : BitVec 32 := Scalar.muli v403 c2047_i32_191
  let c1_i32_192 : BitVec 32 := 1#32
  let v405 : BitVec 32 := Scalar.subi v403 c1_i32_192
  let v406 : BitVec 32 := Scalar.muli v403 v405
  let c0_i32_194 : BitVec 32 := 0#32
  let v408 : BitVec 1 := Scalar.cmpi .sgt v406 c0_i32_194
  let v409 : BitVec 32 := Scalar.extui v408
  let c0_i32_195 : BitVec 32 := 0#32
  let v410 : BitVec 1 := Scalar.cmpi .slt v406 c0_i32_195
  let v411 : BitVec 32 := Scalar.extui v410
  let v412 : BitVec 32 := Scalar.subi v409 v411
  let c2_i32_193 : BitVec 32 := 2#32
  let c0_i32_196 : BitVec 32 := 0#32
  let v413 : BitVec 1 := Scalar.cmpi .sgt c2_i32_193 c0_i32_196
  let v414 : BitVec 32 := Scalar.extui v413
  let c0_i32_197 : BitVec 32 := 0#32
  let v415 : BitVec 1 := Scalar.cmpi .slt c2_i32_193 c0_i32_197
  let v416 : BitVec 32 := Scalar.extui v415
  let v417 : BitVec 32 := Scalar.subi v414 v416
  let v418 : BitVec 1 := Scalar.cmpi .ne v412 v417
  let v419 : BitVec 32 := Scalar.remsi v406 c2_i32_193
  let c0_i32_198 : BitVec 32 := 0#32
  let v420 : BitVec 1 := Scalar.cmpi .ne v419 c0_i32_198
  let v421 : BitVec 1 := Scalar.andi v418 v420
  let v407 : BitVec 32 := Scalar.divsi v406 c2_i32_193
  let c1_i32_199 : BitVec 32 := 1#32
  let v422 : BitVec 32 := Scalar.subi v407 c1_i32_199
  let v423 : BitVec 32 := Scalar.select v421 v422 v407
  let v424 : BitVec 32 := Scalar.subi v404 v423
  let v425 : BitVec 32 := Scalar.subi v424 v403
  let c1_i32_200 : BitVec 32 := 1#32
  let v426 : BitVec 32 := Scalar.subi v425 c1_i32_200
  let c0_i32_202 : BitVec 32 := 0#32
  let v428 : BitVec 1 := Scalar.cmpi .sgt v426 c0_i32_202
  let v429 : BitVec 32 := Scalar.extui v428
  let c0_i32_203 : BitVec 32 := 0#32
  let v430 : BitVec 1 := Scalar.cmpi .slt v426 c0_i32_203
  let v431 : BitVec 32 := Scalar.extui v430
  let v432 : BitVec 32 := Scalar.subi v429 v431
  let c8_i32_201 : BitVec 32 := 8#32
  let c0_i32_204 : BitVec 32 := 0#32
  let v433 : BitVec 1 := Scalar.cmpi .sgt c8_i32_201 c0_i32_204
  let v434 : BitVec 32 := Scalar.extui v433
  let c0_i32_205 : BitVec 32 := 0#32
  let v435 : BitVec 1 := Scalar.cmpi .slt c8_i32_201 c0_i32_205
  let v436 : BitVec 32 := Scalar.extui v435
  let v437 : BitVec 32 := Scalar.subi v434 v436
  let v438 : BitVec 1 := Scalar.cmpi .ne v432 v437
  let v439 : BitVec 32 := Scalar.remsi v426 c8_i32_201
  let c0_i32_206 : BitVec 32 := 0#32
  let v440 : BitVec 1 := Scalar.cmpi .ne v439 c0_i32_206
  let v441 : BitVec 1 := Scalar.andi v438 v440
  let v427 : BitVec 32 := Scalar.divsi v426 c8_i32_201
  let c1_i32_207 : BitVec 32 := 1#32
  let v442 : BitVec 32 := Scalar.subi v427 c1_i32_207
  let v443 : BitVec 32 := Scalar.select v441 v442 v427
  let c8_i32_208 : BitVec 32 := 8#32
  let v444 : BitVec 32 := Scalar.muli v443 c8_i32_208
  let v445 : BitVec 32 := Scalar.maxsi c0_i32_209 v444
  let v446 : BitVec 32 := Scalar.minsi c2094072_i32_210 v445
  v446
def k0_cond104 (i : grid0.Coords) : BitVec 1 :=
  let c1984_i32 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v403 : BitVec 32 := Scalar.addi c1984_i32 v1
  let c0_i32_214 : BitVec 32 := 0#32
  let v452 : BitVec 1 := Scalar.cmpi .sgt v403 c0_i32_214
  let v453 : BitVec 32 := Scalar.extui v452
  let c0_i32_215 : BitVec 32 := 0#32
  let v454 : BitVec 1 := Scalar.cmpi .slt v403 c0_i32_215
  let v455 : BitVec 32 := Scalar.extui v454
  let v456 : BitVec 32 := Scalar.subi v453 v455
  let c512_i32_213 : BitVec 32 := 512#32
  let c0_i32_216 : BitVec 32 := 0#32
  let v457 : BitVec 1 := Scalar.cmpi .sgt c512_i32_213 c0_i32_216
  let v458 : BitVec 32 := Scalar.extui v457
  let c0_i32_217 : BitVec 32 := 0#32
  let v459 : BitVec 1 := Scalar.cmpi .slt c512_i32_213 c0_i32_217
  let v460 : BitVec 32 := Scalar.extui v459
  let v461 : BitVec 32 := Scalar.subi v458 v460
  let v462 : BitVec 1 := Scalar.cmpi .ne v456 v461
  let v463 : BitVec 32 := Scalar.remsi v403 c512_i32_213
  let c0_i32_218 : BitVec 32 := 0#32
  let v464 : BitVec 1 := Scalar.cmpi .ne v463 c0_i32_218
  let v465 : BitVec 1 := Scalar.andi v462 v464
  let v451 : BitVec 32 := Scalar.divsi v403 c512_i32_213
  let c1_i32_219 : BitVec 32 := 1#32
  let v466 : BitVec 32 := Scalar.subi v451 c1_i32_219
  let v467 : BitVec 32 := Scalar.select v465 v466 v451
  let c0_i32_220 : BitVec 32 := 0#32
  let v468 : BitVec 1 := Scalar.cmpi .eq v467 c0_i32_220
  let v469 : BitVec 32 := Scalar.extui v468
  let c0_i32_221 : BitVec 32 := 0#32
  let v470 : BitVec 1 := Scalar.cmpi .ne v469 c0_i32_221
  v470

def k0_mult111 (i : grid0.Coords) : BitVec 32 :=
  let c2094072_i32_285 : BitVec 32 := 2094072#32
  let c0_i32_284 : BitVec 32 := 0#32
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off101 (i : grid0.Coords) : Fin 2 → Nat :=
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c0_i32_290 : BitVec 32 := 0#32
  ![v557.toNat, 0]
def k0_cond105 (i : grid0.Coords) : BitVec 1 :=
  let c1984_i32 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v403 : BitVec 32 := Scalar.addi c1984_i32 v1
  let c0_i32_214 : BitVec 32 := 0#32
  let v452 : BitVec 1 := Scalar.cmpi .sgt v403 c0_i32_214
  let v453 : BitVec 32 := Scalar.extui v452
  let c0_i32_215 : BitVec 32 := 0#32
  let v454 : BitVec 1 := Scalar.cmpi .slt v403 c0_i32_215
  let v455 : BitVec 32 := Scalar.extui v454
  let v456 : BitVec 32 := Scalar.subi v453 v455
  let c512_i32_213 : BitVec 32 := 512#32
  let c0_i32_216 : BitVec 32 := 0#32
  let v457 : BitVec 1 := Scalar.cmpi .sgt c512_i32_213 c0_i32_216
  let v458 : BitVec 32 := Scalar.extui v457
  let c0_i32_217 : BitVec 32 := 0#32
  let v459 : BitVec 1 := Scalar.cmpi .slt c512_i32_213 c0_i32_217
  let v460 : BitVec 32 := Scalar.extui v459
  let v461 : BitVec 32 := Scalar.subi v458 v460
  let v462 : BitVec 1 := Scalar.cmpi .ne v456 v461
  let v463 : BitVec 32 := Scalar.remsi v403 c512_i32_213
  let c0_i32_218 : BitVec 32 := 0#32
  let v464 : BitVec 1 := Scalar.cmpi .ne v463 c0_i32_218
  let v465 : BitVec 1 := Scalar.andi v462 v464
  let v451 : BitVec 32 := Scalar.divsi v403 c512_i32_213
  let c1_i32_219 : BitVec 32 := 1#32
  let v466 : BitVec 32 := Scalar.subi v451 c1_i32_219
  let v467 : BitVec 32 := Scalar.select v465 v466 v451
  let c1_i32_222 : BitVec 32 := 1#32
  let v471 : BitVec 1 := Scalar.cmpi .eq v467 c1_i32_222
  let v472 : BitVec 32 := Scalar.extui v471
  let c0_i32_223 : BitVec 32 := 0#32
  let v473 : BitVec 1 := Scalar.cmpi .ne v472 c0_i32_223
  v473

def k0_mult112 (i : grid0.Coords) : BitVec 32 :=
  let c2094072_i32_285 : BitVec 32 := 2094072#32
  let c0_i32_284 : BitVec 32 := 0#32
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off102 (i : grid0.Coords) : Fin 2 → Nat :=
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c512_i32_290 : BitVec 32 := 512#32
  ![v557.toNat, 512]
def k0_cond106 (i : grid0.Coords) : BitVec 1 :=
  let c1984_i32 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v403 : BitVec 32 := Scalar.addi c1984_i32 v1
  let c0_i32_214 : BitVec 32 := 0#32
  let v452 : BitVec 1 := Scalar.cmpi .sgt v403 c0_i32_214
  let v453 : BitVec 32 := Scalar.extui v452
  let c0_i32_215 : BitVec 32 := 0#32
  let v454 : BitVec 1 := Scalar.cmpi .slt v403 c0_i32_215
  let v455 : BitVec 32 := Scalar.extui v454
  let v456 : BitVec 32 := Scalar.subi v453 v455
  let c512_i32_213 : BitVec 32 := 512#32
  let c0_i32_216 : BitVec 32 := 0#32
  let v457 : BitVec 1 := Scalar.cmpi .sgt c512_i32_213 c0_i32_216
  let v458 : BitVec 32 := Scalar.extui v457
  let c0_i32_217 : BitVec 32 := 0#32
  let v459 : BitVec 1 := Scalar.cmpi .slt c512_i32_213 c0_i32_217
  let v460 : BitVec 32 := Scalar.extui v459
  let v461 : BitVec 32 := Scalar.subi v458 v460
  let v462 : BitVec 1 := Scalar.cmpi .ne v456 v461
  let v463 : BitVec 32 := Scalar.remsi v403 c512_i32_213
  let c0_i32_218 : BitVec 32 := 0#32
  let v464 : BitVec 1 := Scalar.cmpi .ne v463 c0_i32_218
  let v465 : BitVec 1 := Scalar.andi v462 v464
  let v451 : BitVec 32 := Scalar.divsi v403 c512_i32_213
  let c1_i32_219 : BitVec 32 := 1#32
  let v466 : BitVec 32 := Scalar.subi v451 c1_i32_219
  let v467 : BitVec 32 := Scalar.select v465 v466 v451
  let c2_i32_224 : BitVec 32 := 2#32
  let v474 : BitVec 1 := Scalar.cmpi .eq v467 c2_i32_224
  let v475 : BitVec 32 := Scalar.extui v474
  let c0_i32_225 : BitVec 32 := 0#32
  let v476 : BitVec 1 := Scalar.cmpi .ne v475 c0_i32_225
  v476

def k0_mult113 (i : grid0.Coords) : BitVec 32 :=
  let c2094072_i32_285 : BitVec 32 := 2094072#32
  let c0_i32_284 : BitVec 32 := 0#32
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off103 (i : grid0.Coords) : Fin 2 → Nat :=
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c1024_i32_289 : BitVec 32 := 1024#32
  ![v557.toNat, 1024]
def k0_cond107 (i : grid0.Coords) : BitVec 1 :=
  let c1984_i32 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v403 : BitVec 32 := Scalar.addi c1984_i32 v1
  let c0_i32_214 : BitVec 32 := 0#32
  let v452 : BitVec 1 := Scalar.cmpi .sgt v403 c0_i32_214
  let v453 : BitVec 32 := Scalar.extui v452
  let c0_i32_215 : BitVec 32 := 0#32
  let v454 : BitVec 1 := Scalar.cmpi .slt v403 c0_i32_215
  let v455 : BitVec 32 := Scalar.extui v454
  let v456 : BitVec 32 := Scalar.subi v453 v455
  let c512_i32_213 : BitVec 32 := 512#32
  let c0_i32_216 : BitVec 32 := 0#32
  let v457 : BitVec 1 := Scalar.cmpi .sgt c512_i32_213 c0_i32_216
  let v458 : BitVec 32 := Scalar.extui v457
  let c0_i32_217 : BitVec 32 := 0#32
  let v459 : BitVec 1 := Scalar.cmpi .slt c512_i32_213 c0_i32_217
  let v460 : BitVec 32 := Scalar.extui v459
  let v461 : BitVec 32 := Scalar.subi v458 v460
  let v462 : BitVec 1 := Scalar.cmpi .ne v456 v461
  let v463 : BitVec 32 := Scalar.remsi v403 c512_i32_213
  let c0_i32_218 : BitVec 32 := 0#32
  let v464 : BitVec 1 := Scalar.cmpi .ne v463 c0_i32_218
  let v465 : BitVec 1 := Scalar.andi v462 v464
  let v451 : BitVec 32 := Scalar.divsi v403 c512_i32_213
  let c1_i32_219 : BitVec 32 := 1#32
  let v466 : BitVec 32 := Scalar.subi v451 c1_i32_219
  let v467 : BitVec 32 := Scalar.select v465 v466 v451
  let c3_i32_226 : BitVec 32 := 3#32
  let v477 : BitVec 1 := Scalar.cmpi .eq v467 c3_i32_226
  let v478 : BitVec 32 := Scalar.extui v477
  let c0_i32_227 : BitVec 32 := 0#32
  let v479 : BitVec 1 := Scalar.cmpi .ne v478 c0_i32_227
  v479

def k0_mult114 (i : grid0.Coords) : BitVec 32 :=
  let c2094072_i32_285 : BitVec 32 := 2094072#32
  let c0_i32_284 : BitVec 32 := 0#32
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off104 (i : grid0.Coords) : Fin 2 → Nat :=
  let c1984_i32_265 : BitVec 32 := 1984#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c1984_i32_265 v1
  let c1536_i32_289 : BitVec 32 := 1536#32
  ![v557.toNat, 1536]
def k0_mult115 (i : grid0.Coords) : BitVec 32 :=
  let c2094072_i32_247 : BitVec 32 := 2094072#32
  let c0_i32_246 : BitVec 32 := 0#32
  let c2016_i32 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v480 : BitVec 32 := Scalar.addi c2016_i32 v1
  let c2047_i32_228 : BitVec 32 := 2047#32
  let v481 : BitVec 32 := Scalar.muli v480 c2047_i32_228
  let c1_i32_229 : BitVec 32 := 1#32
  let v482 : BitVec 32 := Scalar.subi v480 c1_i32_229
  let v483 : BitVec 32 := Scalar.muli v480 v482
  let c0_i32_231 : BitVec 32 := 0#32
  let v485 : BitVec 1 := Scalar.cmpi .sgt v483 c0_i32_231
  let v486 : BitVec 32 := Scalar.extui v485
  let c0_i32_232 : BitVec 32 := 0#32
  let v487 : BitVec 1 := Scalar.cmpi .slt v483 c0_i32_232
  let v488 : BitVec 32 := Scalar.extui v487
  let v489 : BitVec 32 := Scalar.subi v486 v488
  let c2_i32_230 : BitVec 32 := 2#32
  let c0_i32_233 : BitVec 32 := 0#32
  let v490 : BitVec 1 := Scalar.cmpi .sgt c2_i32_230 c0_i32_233
  let v491 : BitVec 32 := Scalar.extui v490
  let c0_i32_234 : BitVec 32 := 0#32
  let v492 : BitVec 1 := Scalar.cmpi .slt c2_i32_230 c0_i32_234
  let v493 : BitVec 32 := Scalar.extui v492
  let v494 : BitVec 32 := Scalar.subi v491 v493
  let v495 : BitVec 1 := Scalar.cmpi .ne v489 v494
  let v496 : BitVec 32 := Scalar.remsi v483 c2_i32_230
  let c0_i32_235 : BitVec 32 := 0#32
  let v497 : BitVec 1 := Scalar.cmpi .ne v496 c0_i32_235
  let v498 : BitVec 1 := Scalar.andi v495 v497
  let v484 : BitVec 32 := Scalar.divsi v483 c2_i32_230
  let c1_i32_236 : BitVec 32 := 1#32
  let v499 : BitVec 32 := Scalar.subi v484 c1_i32_236
  let v500 : BitVec 32 := Scalar.select v498 v499 v484
  let v501 : BitVec 32 := Scalar.subi v481 v500
  let v502 : BitVec 32 := Scalar.subi v501 v480
  let c1_i32_237 : BitVec 32 := 1#32
  let v503 : BitVec 32 := Scalar.subi v502 c1_i32_237
  let c0_i32_239 : BitVec 32 := 0#32
  let v505 : BitVec 1 := Scalar.cmpi .sgt v503 c0_i32_239
  let v506 : BitVec 32 := Scalar.extui v505
  let c0_i32_240 : BitVec 32 := 0#32
  let v507 : BitVec 1 := Scalar.cmpi .slt v503 c0_i32_240
  let v508 : BitVec 32 := Scalar.extui v507
  let v509 : BitVec 32 := Scalar.subi v506 v508
  let c8_i32_238 : BitVec 32 := 8#32
  let c0_i32_241 : BitVec 32 := 0#32
  let v510 : BitVec 1 := Scalar.cmpi .sgt c8_i32_238 c0_i32_241
  let v511 : BitVec 32 := Scalar.extui v510
  let c0_i32_242 : BitVec 32 := 0#32
  let v512 : BitVec 1 := Scalar.cmpi .slt c8_i32_238 c0_i32_242
  let v513 : BitVec 32 := Scalar.extui v512
  let v514 : BitVec 32 := Scalar.subi v511 v513
  let v515 : BitVec 1 := Scalar.cmpi .ne v509 v514
  let v516 : BitVec 32 := Scalar.remsi v503 c8_i32_238
  let c0_i32_243 : BitVec 32 := 0#32
  let v517 : BitVec 1 := Scalar.cmpi .ne v516 c0_i32_243
  let v518 : BitVec 1 := Scalar.andi v515 v517
  let v504 : BitVec 32 := Scalar.divsi v503 c8_i32_238
  let c1_i32_244 : BitVec 32 := 1#32
  let v519 : BitVec 32 := Scalar.subi v504 c1_i32_244
  let v520 : BitVec 32 := Scalar.select v518 v519 v504
  let c8_i32_245 : BitVec 32 := 8#32
  let v521 : BitVec 32 := Scalar.muli v520 c8_i32_245
  let v522 : BitVec 32 := Scalar.maxsi c0_i32_246 v521
  let v523 : BitVec 32 := Scalar.minsi c2094072_i32_247 v522
  v523
def k0_cond108 (i : grid0.Coords) : BitVec 1 :=
  let c2016_i32 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v480 : BitVec 32 := Scalar.addi c2016_i32 v1
  let c0_i32_251 : BitVec 32 := 0#32
  let v529 : BitVec 1 := Scalar.cmpi .sgt v480 c0_i32_251
  let v530 : BitVec 32 := Scalar.extui v529
  let c0_i32_252 : BitVec 32 := 0#32
  let v531 : BitVec 1 := Scalar.cmpi .slt v480 c0_i32_252
  let v532 : BitVec 32 := Scalar.extui v531
  let v533 : BitVec 32 := Scalar.subi v530 v532
  let c512_i32_250 : BitVec 32 := 512#32
  let c0_i32_253 : BitVec 32 := 0#32
  let v534 : BitVec 1 := Scalar.cmpi .sgt c512_i32_250 c0_i32_253
  let v535 : BitVec 32 := Scalar.extui v534
  let c0_i32_254 : BitVec 32 := 0#32
  let v536 : BitVec 1 := Scalar.cmpi .slt c512_i32_250 c0_i32_254
  let v537 : BitVec 32 := Scalar.extui v536
  let v538 : BitVec 32 := Scalar.subi v535 v537
  let v539 : BitVec 1 := Scalar.cmpi .ne v533 v538
  let v540 : BitVec 32 := Scalar.remsi v480 c512_i32_250
  let c0_i32_255 : BitVec 32 := 0#32
  let v541 : BitVec 1 := Scalar.cmpi .ne v540 c0_i32_255
  let v542 : BitVec 1 := Scalar.andi v539 v541
  let v528 : BitVec 32 := Scalar.divsi v480 c512_i32_250
  let c1_i32_256 : BitVec 32 := 1#32
  let v543 : BitVec 32 := Scalar.subi v528 c1_i32_256
  let v544 : BitVec 32 := Scalar.select v542 v543 v528
  let c0_i32_257 : BitVec 32 := 0#32
  let v545 : BitVec 1 := Scalar.cmpi .eq v544 c0_i32_257
  let v546 : BitVec 32 := Scalar.extui v545
  let c0_i32_258 : BitVec 32 := 0#32
  let v547 : BitVec 1 := Scalar.cmpi .ne v546 c0_i32_258
  v547

def k0_mult116 (i : grid0.Coords) : BitVec 32 :=
  let c2094072_i32_285 : BitVec 32 := 2094072#32
  let c0_i32_284 : BitVec 32 := 0#32
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off105 (i : grid0.Coords) : Fin 2 → Nat :=
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c0_i32_290 : BitVec 32 := 0#32
  ![v557.toNat, 0]
def k0_cond109 (i : grid0.Coords) : BitVec 1 :=
  let c2016_i32 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v480 : BitVec 32 := Scalar.addi c2016_i32 v1
  let c0_i32_251 : BitVec 32 := 0#32
  let v529 : BitVec 1 := Scalar.cmpi .sgt v480 c0_i32_251
  let v530 : BitVec 32 := Scalar.extui v529
  let c0_i32_252 : BitVec 32 := 0#32
  let v531 : BitVec 1 := Scalar.cmpi .slt v480 c0_i32_252
  let v532 : BitVec 32 := Scalar.extui v531
  let v533 : BitVec 32 := Scalar.subi v530 v532
  let c512_i32_250 : BitVec 32 := 512#32
  let c0_i32_253 : BitVec 32 := 0#32
  let v534 : BitVec 1 := Scalar.cmpi .sgt c512_i32_250 c0_i32_253
  let v535 : BitVec 32 := Scalar.extui v534
  let c0_i32_254 : BitVec 32 := 0#32
  let v536 : BitVec 1 := Scalar.cmpi .slt c512_i32_250 c0_i32_254
  let v537 : BitVec 32 := Scalar.extui v536
  let v538 : BitVec 32 := Scalar.subi v535 v537
  let v539 : BitVec 1 := Scalar.cmpi .ne v533 v538
  let v540 : BitVec 32 := Scalar.remsi v480 c512_i32_250
  let c0_i32_255 : BitVec 32 := 0#32
  let v541 : BitVec 1 := Scalar.cmpi .ne v540 c0_i32_255
  let v542 : BitVec 1 := Scalar.andi v539 v541
  let v528 : BitVec 32 := Scalar.divsi v480 c512_i32_250
  let c1_i32_256 : BitVec 32 := 1#32
  let v543 : BitVec 32 := Scalar.subi v528 c1_i32_256
  let v544 : BitVec 32 := Scalar.select v542 v543 v528
  let c1_i32_259 : BitVec 32 := 1#32
  let v548 : BitVec 1 := Scalar.cmpi .eq v544 c1_i32_259
  let v549 : BitVec 32 := Scalar.extui v548
  let c0_i32_260 : BitVec 32 := 0#32
  let v550 : BitVec 1 := Scalar.cmpi .ne v549 c0_i32_260
  v550

def k0_mult117 (i : grid0.Coords) : BitVec 32 :=
  let c2094072_i32_285 : BitVec 32 := 2094072#32
  let c0_i32_284 : BitVec 32 := 0#32
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off106 (i : grid0.Coords) : Fin 2 → Nat :=
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c512_i32_290 : BitVec 32 := 512#32
  ![v557.toNat, 512]
def k0_cond110 (i : grid0.Coords) : BitVec 1 :=
  let c2016_i32 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v480 : BitVec 32 := Scalar.addi c2016_i32 v1
  let c0_i32_251 : BitVec 32 := 0#32
  let v529 : BitVec 1 := Scalar.cmpi .sgt v480 c0_i32_251
  let v530 : BitVec 32 := Scalar.extui v529
  let c0_i32_252 : BitVec 32 := 0#32
  let v531 : BitVec 1 := Scalar.cmpi .slt v480 c0_i32_252
  let v532 : BitVec 32 := Scalar.extui v531
  let v533 : BitVec 32 := Scalar.subi v530 v532
  let c512_i32_250 : BitVec 32 := 512#32
  let c0_i32_253 : BitVec 32 := 0#32
  let v534 : BitVec 1 := Scalar.cmpi .sgt c512_i32_250 c0_i32_253
  let v535 : BitVec 32 := Scalar.extui v534
  let c0_i32_254 : BitVec 32 := 0#32
  let v536 : BitVec 1 := Scalar.cmpi .slt c512_i32_250 c0_i32_254
  let v537 : BitVec 32 := Scalar.extui v536
  let v538 : BitVec 32 := Scalar.subi v535 v537
  let v539 : BitVec 1 := Scalar.cmpi .ne v533 v538
  let v540 : BitVec 32 := Scalar.remsi v480 c512_i32_250
  let c0_i32_255 : BitVec 32 := 0#32
  let v541 : BitVec 1 := Scalar.cmpi .ne v540 c0_i32_255
  let v542 : BitVec 1 := Scalar.andi v539 v541
  let v528 : BitVec 32 := Scalar.divsi v480 c512_i32_250
  let c1_i32_256 : BitVec 32 := 1#32
  let v543 : BitVec 32 := Scalar.subi v528 c1_i32_256
  let v544 : BitVec 32 := Scalar.select v542 v543 v528
  let c2_i32_261 : BitVec 32 := 2#32
  let v551 : BitVec 1 := Scalar.cmpi .eq v544 c2_i32_261
  let v552 : BitVec 32 := Scalar.extui v551
  let c0_i32_262 : BitVec 32 := 0#32
  let v553 : BitVec 1 := Scalar.cmpi .ne v552 c0_i32_262
  v553

def k0_mult118 (i : grid0.Coords) : BitVec 32 :=
  let c2094072_i32_285 : BitVec 32 := 2094072#32
  let c0_i32_284 : BitVec 32 := 0#32
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off107 (i : grid0.Coords) : Fin 2 → Nat :=
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c1024_i32_289 : BitVec 32 := 1024#32
  ![v557.toNat, 1024]
def k0_cond111 (i : grid0.Coords) : BitVec 1 :=
  let c2016_i32 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v480 : BitVec 32 := Scalar.addi c2016_i32 v1
  let c0_i32_251 : BitVec 32 := 0#32
  let v529 : BitVec 1 := Scalar.cmpi .sgt v480 c0_i32_251
  let v530 : BitVec 32 := Scalar.extui v529
  let c0_i32_252 : BitVec 32 := 0#32
  let v531 : BitVec 1 := Scalar.cmpi .slt v480 c0_i32_252
  let v532 : BitVec 32 := Scalar.extui v531
  let v533 : BitVec 32 := Scalar.subi v530 v532
  let c512_i32_250 : BitVec 32 := 512#32
  let c0_i32_253 : BitVec 32 := 0#32
  let v534 : BitVec 1 := Scalar.cmpi .sgt c512_i32_250 c0_i32_253
  let v535 : BitVec 32 := Scalar.extui v534
  let c0_i32_254 : BitVec 32 := 0#32
  let v536 : BitVec 1 := Scalar.cmpi .slt c512_i32_250 c0_i32_254
  let v537 : BitVec 32 := Scalar.extui v536
  let v538 : BitVec 32 := Scalar.subi v535 v537
  let v539 : BitVec 1 := Scalar.cmpi .ne v533 v538
  let v540 : BitVec 32 := Scalar.remsi v480 c512_i32_250
  let c0_i32_255 : BitVec 32 := 0#32
  let v541 : BitVec 1 := Scalar.cmpi .ne v540 c0_i32_255
  let v542 : BitVec 1 := Scalar.andi v539 v541
  let v528 : BitVec 32 := Scalar.divsi v480 c512_i32_250
  let c1_i32_256 : BitVec 32 := 1#32
  let v543 : BitVec 32 := Scalar.subi v528 c1_i32_256
  let v544 : BitVec 32 := Scalar.select v542 v543 v528
  let c3_i32_263 : BitVec 32 := 3#32
  let v554 : BitVec 1 := Scalar.cmpi .eq v544 c3_i32_263
  let v555 : BitVec 32 := Scalar.extui v554
  let c0_i32_264 : BitVec 32 := 0#32
  let v556 : BitVec 1 := Scalar.cmpi .ne v555 c0_i32_264
  v556

def k0_mult119 (i : grid0.Coords) : BitVec 32 :=
  let c2094072_i32_285 : BitVec 32 := 2094072#32
  let c0_i32_284 : BitVec 32 := 0#32
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c2047_i32_266 : BitVec 32 := 2047#32
  let v558 : BitVec 32 := Scalar.muli v557 c2047_i32_266
  let c1_i32_267 : BitVec 32 := 1#32
  let v559 : BitVec 32 := Scalar.subi v557 c1_i32_267
  let v560 : BitVec 32 := Scalar.muli v557 v559
  let c0_i32_269 : BitVec 32 := 0#32
  let v562 : BitVec 1 := Scalar.cmpi .sgt v560 c0_i32_269
  let v563 : BitVec 32 := Scalar.extui v562
  let c0_i32_270 : BitVec 32 := 0#32
  let v564 : BitVec 1 := Scalar.cmpi .slt v560 c0_i32_270
  let v565 : BitVec 32 := Scalar.extui v564
  let v566 : BitVec 32 := Scalar.subi v563 v565
  let c2_i32_268 : BitVec 32 := 2#32
  let c0_i32_271 : BitVec 32 := 0#32
  let v567 : BitVec 1 := Scalar.cmpi .sgt c2_i32_268 c0_i32_271
  let v568 : BitVec 32 := Scalar.extui v567
  let c0_i32_272 : BitVec 32 := 0#32
  let v569 : BitVec 1 := Scalar.cmpi .slt c2_i32_268 c0_i32_272
  let v570 : BitVec 32 := Scalar.extui v569
  let v571 : BitVec 32 := Scalar.subi v568 v570
  let v572 : BitVec 1 := Scalar.cmpi .ne v566 v571
  let v573 : BitVec 32 := Scalar.remsi v560 c2_i32_268
  let c0_i32_273 : BitVec 32 := 0#32
  let v574 : BitVec 1 := Scalar.cmpi .ne v573 c0_i32_273
  let v575 : BitVec 1 := Scalar.andi v572 v574
  let v561 : BitVec 32 := Scalar.divsi v560 c2_i32_268
  let c1_i32_274 : BitVec 32 := 1#32
  let v576 : BitVec 32 := Scalar.subi v561 c1_i32_274
  let v577 : BitVec 32 := Scalar.select v575 v576 v561
  let v578 : BitVec 32 := Scalar.subi v558 v577
  let v579 : BitVec 32 := Scalar.subi v578 v557
  let c1_i32_275 : BitVec 32 := 1#32
  let v580 : BitVec 32 := Scalar.subi v579 c1_i32_275
  let c0_i32_277 : BitVec 32 := 0#32
  let v582 : BitVec 1 := Scalar.cmpi .sgt v580 c0_i32_277
  let v583 : BitVec 32 := Scalar.extui v582
  let c0_i32_278 : BitVec 32 := 0#32
  let v584 : BitVec 1 := Scalar.cmpi .slt v580 c0_i32_278
  let v585 : BitVec 32 := Scalar.extui v584
  let v586 : BitVec 32 := Scalar.subi v583 v585
  let c8_i32_276 : BitVec 32 := 8#32
  let c0_i32_279 : BitVec 32 := 0#32
  let v587 : BitVec 1 := Scalar.cmpi .sgt c8_i32_276 c0_i32_279
  let v588 : BitVec 32 := Scalar.extui v587
  let c0_i32_280 : BitVec 32 := 0#32
  let v589 : BitVec 1 := Scalar.cmpi .slt c8_i32_276 c0_i32_280
  let v590 : BitVec 32 := Scalar.extui v589
  let v591 : BitVec 32 := Scalar.subi v588 v590
  let v592 : BitVec 1 := Scalar.cmpi .ne v586 v591
  let v593 : BitVec 32 := Scalar.remsi v580 c8_i32_276
  let c0_i32_281 : BitVec 32 := 0#32
  let v594 : BitVec 1 := Scalar.cmpi .ne v593 c0_i32_281
  let v595 : BitVec 1 := Scalar.andi v592 v594
  let v581 : BitVec 32 := Scalar.divsi v580 c8_i32_276
  let c1_i32_282 : BitVec 32 := 1#32
  let v596 : BitVec 32 := Scalar.subi v581 c1_i32_282
  let v597 : BitVec 32 := Scalar.select v595 v596 v581
  let c8_i32_283 : BitVec 32 := 8#32
  let v598 : BitVec 32 := Scalar.muli v597 c8_i32_283
  let v599 : BitVec 32 := Scalar.maxsi c0_i32_284 v598
  let v600 : BitVec 32 := Scalar.minsi c2094072_i32_285 v599
  v600
def k0_off108 (i : grid0.Coords) : Fin 2 → Nat :=
  let c2016_i32_265 : BitVec 32 := 2016#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v557 : BitVec 32 := Scalar.addi c2016_i32_265 v1
  let c1536_i32_289 : BitVec 32 := 1536#32
  ![v557.toNat, 1536]
abbrev grid1 : Pipeline.Grid := ⟨1, ![10], ![false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S10.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S10) ![v0.toNat] S1.size (k1_off1_inb i)) numel1_S1
  let v2 : Index := Scalar.indexCast arg0
  let v3 : BitVec 32 := pf.at 1 (Rect.unit (s := S10) ![v2.toNat] S1.size (k1_off1_inb i)) numel1_S1
  let c0_i32 : BitVec 32 := 0#32
  ![v1.toNat, v3.toNat]

def cc1_transform_1 (k1_off1_inb : ∀ i : grid1.Coords, ∀ a, (k1_off1 i) a + S1.size a ≤ S10.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S10) ![v0.toNat] S1.size (k1_off1_inb i)) numel1_S1
  let v2 : Index := Scalar.indexCast arg0
  let v3 : BitVec 32 := pf.at 0 (Rect.unit (s := S10) ![v2.toNat] S1.size (k1_off1_inb i)) numel1_S1
  let c0_i32 : BitVec 32 := 0#32
  ![v1.toNat, v3.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2096128 : Shape := ⟨1, ![2096128]⟩
abbrev S2x2096128 : Shape := ⟨2, ![2, 2096128]⟩
abbrev S_ : Shape := ⟨0, ![]⟩
abbrev S2048x2048 : Shape := ⟨2, ![2048, 2048]⟩
abbrev S1x2096128 : Shape := ⟨2, ![1, 2096128]⟩
abbrev S2096128x1 : Shape := ⟨2, ![2096128, 1]⟩
abbrev S2096128x2 : Shape := ⟨2, ![2096128, 2]⟩

abbrev nBuf : Space → Nat
  | .hbm => 49
  | .vmem => 0
  | .smem => 0
  | _ => 0

abbrev bufTy : (tb : Table) → Fin (tcTables nBuf tb) → BufTy
  | .hbm, ⟨0, _⟩ => ⟨S2096128, .f32⟩
  | .hbm, ⟨1, _⟩ => ⟨S2x2096128, .i32⟩
  | .hbm, ⟨2, _⟩ => ⟨S_, .f32⟩
  | .hbm, ⟨3, _⟩ => ⟨S2048x2048, .f32⟩
  | .hbm, ⟨4, _⟩ => ⟨S1x2096128, .i32⟩
  | .hbm, ⟨5, _⟩ => ⟨S2096128, .i32⟩
  | .hbm, ⟨6, _⟩ => ⟨S1x2096128, .i32⟩
  | .hbm, ⟨7, _⟩ => ⟨S2096128, .i32⟩
  | .hbm, ⟨8, _⟩ => ⟨S_, .i32⟩
  | .hbm, ⟨9, _⟩ => ⟨S2096128, .i32⟩
  | .hbm, ⟨10, _⟩ => ⟨S2096128, .i1⟩
  | .hbm, ⟨11, _⟩ => ⟨S_, .i32⟩
  | .hbm, ⟨12, _⟩ => ⟨S2096128, .i32⟩
  | .hbm, ⟨13, _⟩ => ⟨S2096128, .i32⟩
  | .hbm, ⟨14, _⟩ => ⟨S2096128, .i32⟩
  | .hbm, ⟨15, _⟩ => ⟨S_, .i32⟩
  | .hbm, ⟨16, _⟩ => ⟨S2096128, .i32⟩
  | .hbm, ⟨17, _⟩ => ⟨S2096128, .i1⟩
  | .hbm, ⟨18, _⟩ => ⟨S_, .i32⟩
  | .hbm, ⟨19, _⟩ => ⟨S2096128, .i32⟩
  | .hbm, ⟨20, _⟩ => ⟨S2096128, .i32⟩
  | .hbm, ⟨21, _⟩ => ⟨S2096128, .i32⟩
  | .hbm, ⟨22, _⟩ => ⟨S2096128x1, .i32⟩
  | .hbm, ⟨23, _⟩ => ⟨S2096128x1, .i32⟩
  | .hbm, ⟨24, _⟩ => ⟨S2096128x2, .i32⟩
  | .hbm, ⟨25, _⟩ => ⟨S2048x2048, .f32⟩
  | .hbm, ⟨26, _⟩ => ⟨S1x2096128, .i32⟩
  | .hbm, ⟨27, _⟩ => ⟨S2096128, .i32⟩
  | .hbm, ⟨28, _⟩ => ⟨S1x2096128, .i32⟩
  | .hbm, ⟨29, _⟩ => ⟨S2096128, .i32⟩
  | .hbm, ⟨30, _⟩ => ⟨S2096128, .f32⟩
  | .hbm, ⟨31, _⟩ => ⟨S_, .i32⟩
  | .hbm, ⟨32, _⟩ => ⟨S2096128, .i32⟩
  | .hbm, ⟨33, _⟩ => ⟨S2096128, .i1⟩
  | .hbm, ⟨34, _⟩ => ⟨S_, .i32⟩
  | .hbm, ⟨35, _⟩ => ⟨S2096128, .i32⟩
  | .hbm, ⟨36, _⟩ => ⟨S2096128, .i32⟩
  | .hbm, ⟨37, _⟩ => ⟨S2096128, .i32⟩
  | .hbm, ⟨38, _⟩ => ⟨S_, .i32⟩
  | .hbm, ⟨39, _⟩ => ⟨S2096128, .i32⟩
  | .hbm, ⟨40, _⟩ => ⟨S2096128, .i1⟩
  | .hbm, ⟨41, _⟩ => ⟨S_, .i32⟩
  | .hbm, ⟨42, _⟩ => ⟨S2096128, .i32⟩
  | .hbm, ⟨43, _⟩ => ⟨S2096128, .i32⟩
  | .hbm, ⟨44, _⟩ => ⟨S2096128, .i32⟩
  | .hbm, ⟨45, _⟩ => ⟨S2096128x1, .i32⟩
  | .hbm, ⟨46, _⟩ => ⟨S2096128x1, .i32⟩
  | .hbm, ⟨47, _⟩ => ⟨S2096128x2, .i32⟩
  | .hbm, ⟨48, _⟩ => ⟨S2048x2048, .f32⟩
  | _, _ => ⟨S2096128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Setup.lean ====
module
public import proofs.«01_k».proof.KernelIdeal
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.Tactic

/-!
# The setting of the SparseCore proof

The algebra the separation logic is taken over, the thread a tile runs on, and the plain arithmetic of the packed
layout: which of the copy kinds a row uses, where its window starts, and how far it is shifted.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open Idealize.ShloMosaic.Rounds

/-- The handshakes' rounds library. -/
abbrev UH : Type := URounds (GSem nD τ sig) ℕ
/-- Beside it, the rounds library of the TensorCore call's pipeline. -/
abbrev UP : Type := URounds (GSem nD τ sig) Unit
/-- The two, with the transfers' counters. -/
abbrev UU : Type := UH × (UP × Counters)

/-- The model the assertions are over. -/
abbrev MM (F : FTy → Type) : Type := MT nD τ sig (HIx 1) (Elt F) ℕ UU ℕ

/-- The pipeline's variants: none. -/
abbrev 𝒱₀ : Variants := Variants.none

/-! ## The packed layout -/

/-- The number of a task. -/
def widN (i : grid0.Coords) : ℕ := 2 * (i 1).val + (i 0).val

theorem widN_lt (i : grid0.Coords) : widN i < 32 := by
  have h0 : (i 0).val < 2 := (i 0).isLt
  have h1 : (i 1).val < 16 := (i 1).isLt
  unfold widN; omega

/-- Eight more than the packed place of row `ρ`'s column 0, were it stored. -/
def sb (ρ : ℕ) : ℕ := ρ * (4095 - ρ) / 2 + 7 - ρ

/-- Eight more than the packed place that the window's element 0 stands for. -/
def baseP (ρ : ℕ) : ℕ := if ρ = 0 then 0 else min 2094072 (8 * ((sb ρ - 8) / 8)) + 8

/-- Which of its semaphores a row's window copy uses: 4 for row 0, else the row's quarter. -/
def kindIn (ρ : ℕ) : Fin 5 := if ρ = 0 then 4 else ⟨ρ / 512 % 4, by omega⟩
/-- Which of its semaphores a row's write-back uses: the row's quarter. -/
def kindOut (ρ : ℕ) : Fin 4 := ⟨ρ / 512 % 4, by omega⟩

/-- The first window element copied, and how many are, by kind. -/
def lo : Fin 5 → ℕ := ![0, 512, 1024, 1536, 8]
def cnt : Fin 5 → ℕ := ![2056, 1544, 1032, 520, 2048]
/-- The first column written back, and how many are, by kind. -/
def loO : Fin 4 → ℕ := ![0, 512, 1024, 1536]
def cntO : Fin 4 → ℕ := ![2048, 1536, 1024, 512]

theorem lo_cnt (k : Fin 5) : lo k + cnt k = 2056 := by revert k; decide
theorem loO_cntO (k : Fin 4) : loO k + cntO k = 2048 := by revert k; decide
theorem cnt_pos (k : Fin 5) : 0 < cnt k := by revert k; decide
theorem cntO_pos (k : Fin 4) : 0 < cntO k := by revert k; decide
theorem loO_kindOut (ρ : ℕ) (h : ρ < 2048) : loO (kindOut ρ) = 512 * (ρ / 512) := by
  have h4 : ρ / 512 < 4 := by omega
  have : kindOut ρ = ⟨ρ / 512, h4⟩ := Fin.ext (by simp [kindOut]; omega)
  rw [this]
  generalize ρ / 512 = q at h4
  match q, h4 with
  | 0, _ => rfl
  | 1, _ => rfl
  | 2, _ => rfl
  | 3, _ => rfl

theorem lo_castSucc (k : Fin 4) : lo k.castSucc = 512 * k.val := by revert k; decide

theorem lo_kindIn (ρ : ℕ) (h : ρ < 2048) (h0 : ρ ≠ 0) : lo (kindIn ρ) = 512 * (ρ / 512) := by
  have h4 : ρ / 512 < 4 := by omega
  have : kindIn ρ = (⟨ρ / 512, h4⟩ : Fin 4).castSucc := by rw [kindIn, if_neg h0]; exact Fin.ext (by simp; omega)
  rw [this, lo_castSucc]

/-- A vector's shape, and a row's. -/
abbrev Sz (n : ℕ) : Shape := ⟨1, ![n]⟩
abbrev Sz1 (n : ℕ) : Shape := ⟨2, ![1, n]⟩

variable {α : Type}

/-- The window of row `ρ` holds the parameters from place `baseP ρ - 8` on, where it was copied. -/
def InOK (prm : S2096128.Idx → α) (ρ : ℕ) (g : S2056.Idx → α) : Prop :=
  ∀ x : S2056.Idx, lo (kindIn ρ) ≤ (x 0).val → ∀ y : S2096128.Idx, (y 0).val + 8 = baseP ρ + (x 0).val → g x = prm y

/-- The row buffer holds row `ρ` right of the diagonal, up to column `b`. -/
def ObUpTo (prm : S2096128.Idx → α) (ρ b : ℕ) (g : S2048.Idx → α) : Prop :=
  ∀ j : S2048.Idx, ρ < (j 0).val → (j 0).val < b → ∀ y : S2096128.Idx, (y 0).val + 8 = sb ρ + (j 0).val → g j = prm y

/-- The row buffer holds row `ρ` right of the diagonal. -/
def ObOK (prm : S2096128.Idx → α) (ρ : ℕ) (g : S2048.Idx → α) : Prop := ObUpTo prm ρ 2048 g

/-- The matrix holds row `ρ` right of the diagonal. -/
def RowOK (prm : S2096128.Idx → α) (ρ : ℕ) (g : S2048x2048.Idx → α) : Prop :=
  ∀ z : S2048x2048.Idx, (z 0).val = ρ → ρ < (z 1).val → ∀ y : S2096128.Idx, (y 0).val + 8 = sb ρ + (z 1).val → g z = prm y

variable [Facts]
open Facts₀ Facts

/-- The SparseCore and the subcore of task `i`, and its thread. -/
abbrev cV (i : grid0.Coords) : Fin τ.nSC := (i 0).castLE hcore0
abbrev jV (i : grid0.Coords) : Fin τ.nSub := (i 1).castLE hsub0
abbrev VT (d : Dev nD) (i : grid0.Coords) : Thread nD τ := V d (cV i) (jV i)

end Cert.KernelIdeal.Packed
-- ==== Proof.Region.lean ====
module
public import proofs.«01_k».proof.Proof.Setup
public import proofs.«01_k».proof.Proof.Gen.KernelIdeal.Launch
public import proofs.«01_k».proof.Proof.Gen.KernelIdeal.Skeleton
public import Idealize.ShloMosaic.Lib.Pipeline.RegionArraysTS
public import Idealize.ShloMosaic.Lib.Pipeline.ValueKit
public import Idealize.ShloMosaic.Lib.VecWindow

/-!
# The TensorCore call

The call runs over ten pairs of blocks, read off two constant tables.  At each it takes the upper block of the pair,
transposes and negates it, and writes it to the lower place; on the diagonal it keeps what is right of the diagonal.
The run of the body, the data of the pipeline, and what the result holds after the call as a function of what the
operand held before it.
-/

@[expose] public section

noncomputable section

namespace Cert.KernelIdeal.Packed

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The contents of the two tables. -/
def tbl : pre1.Contents (Elt F) := fun
  | 0 => fun i => lit0 (S10.rowMajor i)
  | 1 => fun i => lit1 (S10.rowMajor i)
  | ⟨_ + 2, h⟩ => absurd h (Nat.not_lt.2 (Nat.le_add_left _ _))

/-- The block row and block column of the pair at a point. -/
def bIdx (i : grid1.Coords) : S10.Idx := (Rect.unit (s := S10) (k1_off1 i) S1.size (k1_off1_inb i)).emb (Shape.Idx.first (numel1_S1.symm ▸ Nat.one_pos))
def bRow (i : grid1.Coords) : BitVec 32 := lit0 (S10.rowMajor (bIdx i))
def bCol (i : grid1.Coords) : BitVec 32 := lit1 (S10.rowMajor (bIdx i))

theorem bRow_lt : ∀ i : grid1.Coords, (bRow i).toNat < 4 := by decide +kernel
theorem bCol_lt : ∀ i : grid1.Coords, (bCol i).toNat < 4 := by decide +kernel
theorem bRow_le : ∀ i : grid1.Coords, (bRow i).toNat ≤ (bCol i).toNat := by decide +kernel

theorem tr0 (i : grid1.Coords) : cc1_transform_0 (F := F) k1_off1_inb numel1_S1 tbl i = ![(bRow i).toNat, (bCol i).toNat] := rfl
theorem tr1 (i : grid1.Coords) : cc1_transform_1 (F := F) k1_off1_inb numel1_S1 tbl i = ![(bCol i).toNat, (bRow i).toNat] := rfl

theorem ok_tbl : ok1 (F := F) tbl := by
  refine ⟨fun i => ⟨fun a => ?_, .inl rfl⟩, fun i => ⟨fun a => ?_, .inl rfl⟩⟩
  · have h1 := bRow_lt i; have h2 := bCol_lt i
    rw [tr0]
    match a with
    | 0 => show ((bRow i).toNat + 1) * 512 ≤ 2048; omega
    | 1 => show ((bCol i).toNat + 1) * 512 ≤ 2048; omega
  · have h1 := bRow_lt i; have h2 := bCol_lt i
    rw [tr1]
    match a with
    | 0 => show ((bCol i).toNat + 1) * 512 ≤ 2048; omega
    | 1 => show ((bRow i).toNat + 1) * 512 ≤ 2048; omega

/-- The tables as the pipeline takes them. -/
abbrev adm : (p : Fin 1) → (pcfgs (F := F) p).Adm := fun _ => ⟨tbl, ok_tbl⟩

/-- A whole TensorCore buffer at `f`. -/
abbrev ptT (c : Dev nD) {sp : Space} {S : Shape} {e : EltTy} (M : Memref sig .tc sp S e) (f : Buf (Elt F) (M.view.loc (T c : Thread nD τ))) : sProp 𝕄 :=
  M.view.loc (T c : Thread nD τ) ↦{fullShare} f

/-- The body: from both tables, the operand's block and the result's buffer. -/
noncomputable def blkRun (c : Dev nD) (i : grid1.Coords) (M3 : Memref sig .tc .vmem S512x512 .f32) (h3 : M3.IsWhole) (M4 : Memref sig .tc .vmem S512x512 .f32) (h4 : M4.IsWhole)
    (f0 : Buf (Elt F) ((Memref.whole main_c : Memref sig .tc _ _ _).view.loc (T c : Thread nD τ))) (f1 : Buf (Elt F) ((Memref.whole main_c_0 : Memref sig .tc _ _ _).view.loc (T c : Thread nD τ)))
    (f3 : Buf (Elt F) (M3.view.loc (T c : Thread nD τ))) :
    { W : Buf (Elt F) (M4.view.loc (T c : Thread nD τ)) → Buf (Elt F) (M4.view.loc (T c : Thread nD τ)) // ∀ (f4 : Buf (Elt F) (M4.view.loc (T c : Thread nD τ))) (E : Set ℕ) (Q : PUnit → sProp 𝕄),
        iprop(ptT c (Memref.whole main_c) f0 ∗ ptT c (Memref.whole main_c_0) f1 ∗ ptT c M3 f3 ∗ ptT c M4 f4
          ∗ (iprop(ptT c (Memref.whole main_c) f0 ∗ ptT c (Memref.whole main_c_0) f1 ∗ ptT c M3 f3 ∗ ptT c M4 (W f4)) -∗ Q ⟨⟩))
          ⊢ wp frame (wpE (defs₀ (F := F)) 𝒱₀ (T c) none) E
            (cc1__phase2_body i (Memref.whole main_c) (Memref.isWhole_whole _) (Memref.whole main_c_0) (Memref.isWhole_whole _) M3 h3 M4 h4) Q } := by
  refine ⟨?_, fun f4 E Q => ?run⟩
  case run =>
    rw [cc1__phase2_body_eq_skeleton]
    iintro ⟨H0, H1, H3, H4, Hk⟩
    sl_exec!
    sl_step
    iapply Hk
    isplitl [H0]; · iexact H0
    isplitl [H1]; · iexact H1
    isplitl [H3]; · iexact H3
    iexact H4

/-- What the body leaves in the result's buffer, read back. -/
theorem blkRun_read (c : Dev nD) (i : grid1.Coords) (M3 : Memref sig .tc .vmem S512x512 .f32) (h3 : M3.IsWhole) (M4 : Memref sig .tc .vmem S512x512 .f32) (h4 : M4.IsWhole)
    (f0 : Buf (Elt F) ((Memref.whole main_c : Memref sig .tc _ _ _).view.loc (T c : Thread nD τ))) (f1 : Buf (Elt F) ((Memref.whole main_c_0 : Memref sig .tc _ _ _).view.loc (T c : Thread nD τ)))
    (f3 : Buf (Elt F) (M3.view.loc (T c : Thread nD τ))) (f4 : Buf (Elt F) (M4.view.loc (T c : Thread nD τ))) :
    M4.view.read (Elt F) ((blkRun (F := F) c i M3 h3 M4 h4 f0 f1 f3).1 f4) = k1_pay1 (f0 (bIdx i)) (f1 (bIdx i)) (M3.view.read (Elt F) f3) := by
  unfold blkRun blkRun.sl.H4_1
  refine (View.read_writes_full (Val := Elt F) M4.view _ _ _ _).trans ?_
  rw [View.readAt_full]
  rfl

/-- The tables held at their constants. -/
abbrev tabs (c : Dev nD) : sProp 𝕄 := Pipeline.tablesAt (pcfgs (F := F)) adm 0 c

theorem tabs_eq (c : Dev nD) : (tabs (F := F) c : sProp 𝕄) = iprop(ptT c (Memref.whole main_c) (tbl 0) ∗ ptT c (Memref.whole main_c_0) (tbl 1)) := by
  show Pipeline.prefHeld pre1 c (fun _ => fullShare) tbl = _
  unfold Pipeline.prefHeld
  exact bigSep_fin_two _

/-- The body, its operand's block owned at `X`. -/
theorem blk_owns (c : Dev nD) (i : grid1.Coords) (M3 : Memref sig .tc .vmem S512x512 .f32) (h3 : M3.IsWhole) (M4 : Memref sig .tc .vmem S512x512 .f32) (h4 : M4.IsWhole)
    (X Y : S512x512.Idx → Elt F .f32) (E : Set ℕ) (Q : PUnit → sProp 𝕄) :
    iprop(tabs (F := F) c ∗ owns (T c : Thread nD τ) M3 fullShare X ∗ owns (T c : Thread nD τ) M4 fullShare Y
        ∗ (iprop(tabs (F := F) c ∗ owns (T c : Thread nD τ) M3 fullShare X ∗ owns (T c : Thread nD τ) M4 fullShare (k1_pay1 (F := F) (bRow i) (bCol i) X)) -∗ Q ⟨⟩))
      ⊢ wp frame (wpE (defs₀ (F := F)) 𝒱₀ (T c) none) E
        (cc1__phase2_body i (Memref.whole main_c) (Memref.isWhole_whole _) (Memref.whole main_c_0) (Memref.isWhole_whole _) M3 h3 M4 h4) Q := by
  rw [tabs_eq]
  unfold owns
  rw [h3.set_eq_univ, h4.set_eq_univ]
  iintro ⟨⟨H0, H1⟩, ⟨%f3, %hf3, H3⟩, ⟨%f4, -, H4⟩, Hk⟩
  iapply ((blkRun (F := F) c i M3 h3 M4 h4 (tbl 0) (tbl 1) f3).2 f4 E Q)
  isplitl [H0]; · iexact H0
  isplitl [H1]; · iexact H1
  isplitl [H3]; · iexact H3
  isplitl [H4]; · iexact H4
  iintro ⟨H0, H1, H3, H4⟩
  iapply Hk
  isplitl [H0 H1]
  · isplitl [H0]; · iexact H0
    iexact H1
  isplitl [H3]
  · iexists f3; isplitr; swap; (· iexact H3); ipureintro; exact hf3
  iexists _; isplitr; swap; (· iexact H4); ipureintro
  subst hf3
  exact blkRun_read (F := F) c i M3 h3 M4 h4 (tbl 0) (tbl 1) f3 f4

/-! ## The data of the pipeline -/

variable (W : Valuation τ sig (Elt F))

/-- The block of the operand read at a point. -/
abbrev inBlk (t : Fin (cfg1 (F := F) (adm 0)).N) : S512x512.Idx → Elt F .f32 :=
  (((cfg1 (F := F) (adm 0)).win 0).blk t).view.read (Elt F) (W (Proc.devRef .tc main_v0))

/-- The call's data, from the contents `W` of its two arrays. -/
def dat (c : Dev nD) : Dat τ (Elt F) (HIx 1) ℕ UU ℕ (cfg1 (F := F) (adm 0)) c where
  A w := W (Proc.devRef .tc (Pipeline.arrRef spec1 w))
  after w t := match w with
    | ⟨0, _⟩ => inBlk W t
    | ⟨1, _⟩ => k1_pay1 (bRow (grid1.coords t)) (bCol (grid1.coords t)) (inBlk W t)
  Φ _ := iprop(iprop(Pipeline.scopedRest (Ix := HIx 1) (Name := ℕ) (U := UU) (Lvl := ℕ) (Val := Elt F) spec1 c ∗ BI.emp) ∗ tabs c)
  q _ := fullShare
  owed _ := 0

abbrev pdats : (p : Fin 1) → (c : Dev nD) → Dat τ (Elt F) (HIx 1) ℕ UU ℕ (Pipeline.pin (pcfgs (F := F)) adm p) c :=
  fun _ c => dat W c

theorem fetch_bits : ∀ t, ((cfg1 (F := Bits) (adm 0)).win 0).fetch t = true := by decide +kernel

theorem fetch_all : ∀ t, ((cfg1 (F := F) (adm 0)).win 0).fetch t = true := fetch_bits

theorem before_in' (c : Dev nD) (t : Fin (cfg1 (F := F) (adm 0)).N) (d) : (dat W c).before 0 t d = inBlk W t := by
  unfold Dat.before; rw [if_pos (fetch_all t)]; rfl

theorem before_in (c : Dev nD) (t : Fin (cfg1 (F := F) (adm 0)).N) (d) : (dat W c).before (0 : Fin 2) t d = inBlk W t :=
  before_in' W c t d

theorem body_obligation (c : Dev nD) : BodyObligation (dat W c) (defs₀ (F := F)) 𝒱₀ none Set.univ := fun t => by
  rw [bigSep_W1, bigSep_W1]
  rw [show (dat W c).owesAt none t.succ = (dat W c).owesAt none t.castSucc from rfl,
    show (dat W c).Φ t.castSucc = iprop(iprop(Pipeline.scopedRest (Ix := HIx 1) (Name := ℕ) (U := UU) (Lvl := ℕ) (Val := Elt F) spec1 c ∗ BI.emp) ∗ tabs c) from rfl,
    show (dat W c).Φ t.succ = iprop(iprop(Pipeline.scopedRest (Ix := HIx 1) (Name := ℕ) (U := UU) (Lvl := ℕ) (Val := Elt F) spec1 c ∗ BI.emp) ∗ tabs c) from rfl]
  iintro ⟨⟨HS, HT⟩, Howes, ⟨%d0, H0⟩, ⟨%d1, H1⟩⟩
  ihave H0 := (Entails.of_eq (congrArg (owns (c.tc : Thread nD τ) (((cfg1 (F := F) (adm 0)).win (0 : Fin 2)).stage ((cfg1 (F := F) (adm 0)).slots t (0 : Fin 2))) fullShare) (before_in W c t d0))) $$ H0
  iapply (blk_owns (F := F) c (grid1.coords t) (spec1_0.stage ((cfg1 (F := F) (adm 0)).slots t (0 : Fin 2))) (hstage1_0 (((cfg1 (F := F) (adm 0)).slots t (0 : Fin 2)).cast nbuf1_0))
    (spec1_1.stage ((cfg1 (F := F) (adm 0)).slots t (1 : Fin 2))) (hstage1_1 (((cfg1 (F := F) (adm 0)).slots t (1 : Fin 2)).cast nbuf1_1)) (inBlk W t) ((dat W c).before (1 : Fin 2) t d1) Set.univ _)
  isplitl [HT]; · iexact HT
  isplitl [H0]; · iexact H0
  isplitl [H1]; · iexact H1
  iintro ⟨HT, H0, H1⟩
  isplitl [HS HT]
  · isplitl [HS]; · iexact HS
    iexact HT
  isplitl [Howes]; · iexact Howes
  isplitl [H0]; · iexact H0
  iexact H1

/-! ## What the body computes -/

/-- A place of a block, its coordinates exchanged. -/
def flipB (y : S512x512.Idx) : S512x512.Idx := fun | 0 => y 1 | 1 => y 0

/-- A place of the matrix, its coordinates exchanged. -/
def flipM (z : S2048x2048.Idx) : S2048x2048.Idx := fun | 0 => z 1 | 1 => z 0

theorem slt_ofNat {a b : ℕ} (ha : a < 2 ^ 31) (hb : b < 2 ^ 31) : (BitVec.ofNat 32 a).slt (BitVec.ofNat 32 b) = decide (a < b) := by
  have e : ∀ n : ℕ, n < 2 ^ 31 → (BitVec.ofNat 32 n).toInt = n := fun n hn => by
    rw [BitVec.toInt_eq_toNat_of_lt, BitVec.toNat_ofNat, Nat.mod_eq_of_lt (by omega)]
    rw [BitVec.toNat_ofNat, Nat.mod_eq_of_lt (by omega)]; omega
  unfold BitVec.slt
  rw [e a ha, e b hb]
  simp

/-- A place in the matrix from a place in a block. -/
theorem place {v : BitVec 32} {n : ℕ} (hv : v.toNat < 4) (hn : n < 512) :
    IntOp.addi (BitVec.ofNat 32 n) (Scalar.muli v 512#32) = BitVec.ofNat 32 (v.toNat * 512 + n) := by
  apply BitVec.eq_of_toNat_eq
  simp only [IntOp.addi, Scalar.muli, IntOp.muli, BitVec.toNat_add, BitVec.toNat_mul, BitVec.toNat_ofNat]
  omega

theorem select_ofBool {α : Type} (p : Bool) (a b : α) : Scalar.select (BitVec.ofBool p) a b = if p = true then a else b := by
  cases p <;> rfl

theorem pay_apply {v1 v3 : BitVec 32} (h1 : v1.toNat < 4) (h3 : v3.toNat < 4) (X : S512x512.Idx → Elt F .f32) (y : S512x512.Idx) :
    k1_pay1 (F := F) v1 v3 X y
      = if v1.toNat * 512 + (y 1 : ℕ) < v3.toNat * 512 + (y 0 : ℕ) then FloatOps.subf (FloatOps.ofBits .f32 0#32) (X (flipB y))
        else if v3.toNat * 512 + (y 0 : ℕ) < v1.toNat * 512 + (y 1 : ℕ) then X y else FloatOps.ofBits .f32 0#32 := by
  have hy0 : (y 0 : ℕ) < 512 := (y 0).isLt
  have hy1 : (y 1 : ℕ) < 512 := (y 1).isLt
  have ht : transposes_S512x512_p1_0_S512x512.src y = flipB y := by
    funext a
    match a with
    | 0 => rfl
    | 1 => rfl
  unfold k1_pay1
  dsimp only [select, cmpi, addi, iota, transpose, broadcast, subf]
  rw [ht]
  simp only [List.foldl_cons, List.foldl_nil, Nat.zero_mul, Nat.zero_add]
  rw [place h1 hy1, place h3 hy0]
  simp only [IntOp.cmpi]
  rw [slt_ofNat (by omega) (by omega), slt_ofNat (by omega) (by omega), select_ofBool, select_ofBool]
  simp only [decide_eq_true_eq]

/-! ## The written blocks -/

theorem covers_bits : ((cfg1 (F := Bits) (adm 0)).win 1).CoversWhere (fun β => β (1 : Fin 2) ≤ β (0 : Fin 2)) := by decide +kernel

theorem covers_out : ((cfg1 (F := F) (adm 0)).win 1).CoversWhere (fun β => β (1 : Fin 2) ≤ β (0 : Fin 2)) := covers_bits

/-- Where a block's entry lies in the whole matrix, the block at block row `bCol` and block column `bRow`. -/
theorem out_emb (t : Fin (cfg1 (F := F) (adm 0)).N) (y : S512x512.Idx) (a : Fin 2) :
    (((((cfg1 (F := F) (adm 0)).win 1).blk t).view.emb y : S2048x2048.Idx) a : ℕ)
      = (![(bCol (grid1.coords t)).toNat, (bRow (grid1.coords t)).toNat] : Fin 2 → ℕ) a * 512 + (y a : ℕ) := by
  blk_simp
  match a with
  | 0 => rfl
  | 1 => rfl

theorem in_emb (t : Fin (cfg1 (F := F) (adm 0)).N) (y : S512x512.Idx) (a : Fin 2) :
    (((((cfg1 (F := F) (adm 0)).win 0).blk t).view.emb y : S2048x2048.Idx) a : ℕ)
      = (![(bRow (grid1.coords t)).toNat, (bCol (grid1.coords t)).toNat] : Fin 2 → ℕ) a * 512 + (y a : ℕ) := by
  blk_simp
  match a with
  | 0 => rfl
  | 1 => rfl

/-- The entry of the call's result at row `r` and column `q`, from the operand. -/
def outAt (A : S2048x2048.Idx → Elt F .f32) (z : S2048x2048.Idx) : Elt F .f32 :=
  if (z 1 : ℕ) < (z 0 : ℕ) then FloatOps.subf (FloatOps.ofBits .f32 0#32) (A (flipM z))
  else if (z 0 : ℕ) < (z 1 : ℕ) then A z else FloatOps.ofBits .f32 0#32

theorem point_eq (A : S2048x2048.Idx → Elt F .f32) {r c n0 n1 : ℕ} (hle : r ≤ c) (h0 : n0 < 512) (h1 : n1 < 512) (z u v : S2048x2048.Idx)
    (o0 : (z 0 : ℕ) = c * 512 + n0) (o1 : (z 1 : ℕ) = r * 512 + n1) (i0 : (u 0 : ℕ) = r * 512 + n0) (i1 : (u 1 : ℕ) = c * 512 + n1)
    (j0 : (v 0 : ℕ) = r * 512 + n1) (j1 : (v 1 : ℕ) = c * 512 + n0) :
    (if r * 512 + n1 < c * 512 + n0 then FloatOps.subf (FloatOps.ofBits .f32 0#32) (A v)
      else if c * 512 + n0 < r * 512 + n1 then A u else FloatOps.ofBits .f32 0#32) = outAt A z := by
  have hv : v = flipM z := by
    funext a
    match a with
    | 0 => exact Fin.ext (j0.trans o1.symm)
    | 1 => exact Fin.ext (j1.trans o0.symm)
  unfold outAt
  rw [hv, ← o0, ← o1]
  split_ifs with c1 c2
  · rfl
  · refine congrArg A (funext fun a => ?_)
    match a with
    | 0 => exact Fin.ext (show (u 0 : ℕ) = (z 0 : ℕ) by omega)
    | 1 => exact Fin.ext (show (u 1 : ℕ) = (z 1 : ℕ) by omega)
  · rfl

theorem point (t : Fin (cfg1 (F := F) (adm 0)).N) (y : S512x512.Idx) :
    k1_pay1 (F := F) (bRow (grid1.coords t)) (bCol (grid1.coords t)) (inBlk W t) y
      = outAt (W (Proc.devRef .tc main_v0)) ((((cfg1 (F := F) (adm 0)).win 1).blk t).view.emb y) :=
  (pay_apply (F := F) (bRow_lt (grid1.coords t)) (bCol_lt (grid1.coords t)) (inBlk W t) y).trans
    (point_eq (F := F) (W (Proc.devRef .tc main_v0)) (bRow_le (grid1.coords t)) (y 0).isLt (y 1).isLt _ _ _
      (out_emb (F := F) t y 0) (out_emb (F := F) t y 1) (in_emb (F := F) t y 0) (in_emb (F := F) t y 1)
      (in_emb (F := F) t (flipB y) 0) (in_emb (F := F) t (flipB y) 1))

/-- The call's result: the blocks on and below the diagonal as computed, the others as before the call. -/
theorem arr_out (c : Dev nD) : (dat W c).arrAt 1 (cfg1 (F := F) (adm 0)).N
    = fun z : S2048x2048.Idx => if (z 1 : ℕ) / 512 ≤ (z 0 : ℕ) / 512 then outAt (W (Proc.devRef .tc main_v0)) z else W (Proc.devRef .tc main_v8) z := by
  refine (dat W c).arrAt_eq_of_coversWhere 1 _ _ covers_out (fun t hf y => ?_) (fun j => Iff.rfl)
  blk_simp
  exact point W t y

/-! ## The call as a segment of the host's run -/

/-- What the host holds from the first call on: every buffer of its own that no kernel's scope takes, the parameters apart. -/
abbrev UC : Finset (DevRef τ sig) := (Pipeline.ucRefs τ sig).erase (Proc.devRef .tc main_arg0)

theorem arrs_sub : Pipeline.arrRefs spec1 ⊆ UC := by decide +kernel
theorem tbls_sub : Pipeline.tblRefs pre1 ⊆ UC := by decide +kernel

end Cert.KernelIdeal.Packed
-- ==== Proof.Words.lean ====
module
public import proofs.«01_k».proof.Proof.Setup

/-!
# The kernel's integer arithmetic

Every branch, offset and loop bound of the SparseCore kernel is a chain of 32-bit word operations over the number of the
row in hand.  Here each chain is one function of the row's word, and each function has a closed form over `ρ < 2048`.
-/

@[expose] public section

namespace Cert.KernelIdeal.Packed

open Idealize.ShloMosaic Cert.KernelIdeal

/-- Floor division of words, as the kernel computes it from the truncating one. -/
def fd (a b : BitVec 32) : BitVec 32 :=
  Scalar.select
    (Scalar.andi
      (Scalar.cmpi .ne
        (Scalar.subi (Scalar.extui (Scalar.cmpi .sgt a 0#32) : BitVec 32) (Scalar.extui (Scalar.cmpi .slt a 0#32)))
        (Scalar.subi (Scalar.extui (Scalar.cmpi .sgt b 0#32) : BitVec 32) (Scalar.extui (Scalar.cmpi .slt b 0#32))))
      (Scalar.cmpi .ne (Scalar.remsi a b) 0#32))
    (Scalar.subi (Scalar.divsi a b) 1#32) (Scalar.divsi a b)

/-- A truth value, widened and narrowed again. -/
def b1 (c : BitVec 1) : BitVec 1 := Scalar.cmpi .ne (Scalar.extui c : BitVec 32) 0#32

/-- "The row lies in quarter `q`." -/
def condQ (q W : BitVec 32) : BitVec 1 := b1 (Scalar.cmpi .eq (fd W 512#32) q)

/-- "The row lies in quarter 0 and is not row 0." -/
def condIn0 (W : BitVec 32) : BitVec 1 :=
  b1 (Scalar.andi (Scalar.cmpi .eq (fd W 512#32) 0#32) (Scalar.cmpi .sgt W 0#32))

/-- "This is row 0." -/
def condR0 (W : BitVec 32) : BitVec 1 := b1 (Scalar.cmpi .eq W 0#32)

/-- One less than the row's first packed place, less the row: the place of the row's column 0, were it stored. -/
def startW (W : BitVec 32) : BitVec 32 :=
  Scalar.subi (Scalar.subi (Scalar.subi (Scalar.muli W 2047#32) (fd (Scalar.muli W (Scalar.subi W 1#32)) 2#32)) W) 1#32

/-- That place rounded down to a multiple of eight and kept inside the array. -/
def a8W (W : BitVec 32) : BitVec 32 :=
  Scalar.minsi 2094072#32 (Scalar.maxsi 0#32 (Scalar.muli (fd (startW W) 8#32) 8#32))

/-- The shift of the row within the window read. -/
def shW (W : BitVec 32) : BitVec 32 :=
  Scalar.select (Scalar.cmpi .eq W 0#32) 7#32 (Scalar.subi (startW W) (a8W W))

/-- The first block of 256 columns with a column beyond the diagonal. -/
def kbW (W : BitVec 32) : BitVec 32 := fd (Scalar.addi W 1#32) 256#32

/-- The tile's number. -/
def wid (i : grid0.Coords) : BitVec 32 :=
  Scalar.addi (Scalar.muli (BitVec.ofNat 32 (i 1).val) 2#32) (BitVec.ofNat 32 (i 0).val)

/-- The row of tile `i` at the step whose word is `t`. -/
def rowW (i : grid0.Coords) (t : BitVec 32) : BitVec 32 := Scalar.addi (Scalar.muli t 32#32) (wid i)

/-- The step of slot `s` in trip `t1`. -/
def tW (t1 : Fin k0_t1_loop.trips) (s : BitVec 32) : BitVec 32 :=
  Scalar.addi (Scalar.muli 4#32 (Scf.iv 0#32 1#32 t1)) s

/-- The step whose window slot `s`'s step fetches. -/
def tNext (t1 : Fin k0_t1_loop.trips) (s : BitVec 32) : BitVec 32 := Scalar.subi (Scalar.addi (tW t1 s) 4#32) 1#32
/-- The step whose row slot `s`'s step waits for. -/
def tPrev (t1 : Fin k0_t1_loop.trips) (s : BitVec 32) : BitVec 32 := Scalar.subi (tW t1 s) 4#32

/-! ## Closed forms over the row -/

theorem condIn0_iff (ρ : ℕ) (h : ρ < 2048) : condIn0 (BitVec.ofNat 32 ρ) = 1#1 ↔ kindIn ρ = 0 := by
  have : ∀ x : Fin 2048, condIn0 (BitVec.ofNat 32 x) = 1#1 ↔ kindIn x = 0 := by decide +kernel
  exact this ⟨ρ, h⟩

theorem condIn_iff (k : Fin 3) (ρ : ℕ) (h : ρ < 2048) :
    condQ (BitVec.ofNat 32 (k.val + 1)) (BitVec.ofNat 32 ρ) = 1#1 ↔ kindIn ρ = k.succ.castSucc := by
  have : ∀ k : Fin 3, ∀ x : Fin 2048, condQ (BitVec.ofNat 32 (k.val + 1)) (BitVec.ofNat 32 x) = 1#1 ↔ kindIn x = k.succ.castSucc := by
    decide +kernel
  exact this k ⟨ρ, h⟩

theorem condR0_iff (ρ : ℕ) (h : ρ < 2048) : condR0 (BitVec.ofNat 32 ρ) = 1#1 ↔ kindIn ρ = 4 := by
  have : ∀ x : Fin 2048, condR0 (BitVec.ofNat 32 x) = 1#1 ↔ kindIn x = 4 := by decide +kernel
  exact this ⟨ρ, h⟩

theorem condOut_iff (k : Fin 4) (ρ : ℕ) (h : ρ < 2048) :
    condQ (BitVec.ofNat 32 k.val) (BitVec.ofNat 32 ρ) = 1#1 ↔ kindOut ρ = k := by
  have : ∀ k : Fin 4, ∀ x : Fin 2048, condQ (BitVec.ofNat 32 k.val) (BitVec.ofNat 32 x) = 1#1 ↔ kindOut x = k := by
    decide +kernel
  exact this k ⟨ρ, h⟩

theorem in1_iff (ρ : ℕ) (h : ρ < 2048) : condQ 1#32 (BitVec.ofNat 32 ρ) = 1#1 ↔ kindIn ρ = 1 := condIn_iff 0 ρ h
theorem in2_iff (ρ : ℕ) (h : ρ < 2048) : condQ 2#32 (BitVec.ofNat 32 ρ) = 1#1 ↔ kindIn ρ = 2 := condIn_iff 1 ρ h
theorem in3_iff (ρ : ℕ) (h : ρ < 2048) : condQ 3#32 (BitVec.ofNat 32 ρ) = 1#1 ↔ kindIn ρ = 3 := condIn_iff 2 ρ h

/-- Where a window copy of quarter `q` starts. -/
theorem a8_add (ρ : ℕ) (h : ρ < 2048) (q : Fin 4) (h0 : kindIn ρ ≠ 4) :
    (Scalar.addi (a8W (BitVec.ofNat 32 ρ)) (BitVec.ofNat 32 (512 * q.val))).toNat + 8 = baseP ρ + 512 * q.val := by
  have key : ∀ x : Fin 2048, (a8W (BitVec.ofNat 32 x)).toNat ≤ 2094072 ∧ (x ≠ 0 → (a8W (BitVec.ofNat 32 x)).toNat + 8 = baseP x) := by
    decide +kernel
  obtain ⟨h1, h2⟩ := key ⟨ρ, h⟩
  have hne : (⟨ρ, h⟩ : Fin 2048) ≠ 0 := by
    rintro e; apply h0; have : ρ = 0 := congrArg Fin.val e; subst this; rfl
  have h3 := h2 hne
  have hq : q.val < 4 := q.isLt
  have : (Scalar.addi (a8W (BitVec.ofNat 32 ρ)) (BitVec.ofNat 32 (512 * q.val))).toNat = (a8W (BitVec.ofNat 32 ρ)).toNat + 512 * q.val := by
    show (a8W (BitVec.ofNat 32 ρ) + BitVec.ofNat 32 (512 * q.val)).toNat = _
    rw [BitVec.toNat_add, BitVec.toNat_ofNat]
    simp only at h1
    omega
  rw [this]; simp only at h3; omega

/-- Where the copies and stores of the shift start. -/
theorem shift_words (ρ : ℕ) (h : ρ < 2048) :
    (shW (BitVec.ofNat 32 ρ)).toNat ≤ 8 ∧ (shW (BitVec.ofNat 32 ρ)).toNat + baseP ρ = sb ρ ∧
      kbW (BitVec.ofNat 32 ρ) = BitVec.ofNat 32 ((ρ + 1) / 256) := by
  have : ∀ x : Fin 2048, (shW (BitVec.ofNat 32 x)).toNat ≤ 8 ∧ (shW (BitVec.ofNat 32 x)).toNat + baseP x = sb x ∧
      kbW (BitVec.ofNat 32 x) = BitVec.ofNat 32 ((x.val + 1) / 256) := by decide +kernel
  exact this ⟨ρ, h⟩

/-- The shift's blocks, and the loop's remainder. -/
def shiftL (W : BitVec 32) : Scf.Loop 32 :=
  ⟨kbW W, Scalar.addi (kbW W) (Scalar.muli (Scalar.divsi (Scalar.subi 8#32 (kbW W)) 1#32) 1#32), 1#32⟩
def shiftL' (W : BitVec 32) : Scf.Loop 32 :=
  ⟨Scalar.addi (kbW W) (Scalar.muli (Scalar.divsi (Scalar.subi 8#32 (kbW W)) 1#32) 1#32),
    Scalar.addi (kbW W) (Scalar.subi 8#32 (kbW W)), 1#32⟩

theorem shiftL_trips (ρ : ℕ) (h : ρ < 2048) : (shiftL (BitVec.ofNat 32 ρ)).trips = 8 - (ρ + 1) / 256 ∧ (shiftL' (BitVec.ofNat 32 ρ)).trips = 0 := by
  have : ∀ x : Fin 2048, (shiftL (BitVec.ofNat 32 x)).trips = 8 - (x.val + 1) / 256 ∧ (shiftL' (BitVec.ofNat 32 x)).trips = 0 := by
    decide +kernel
  exact this ⟨ρ, h⟩

/-- Where lane group `c` of block `n` of the shift is read and written. -/
theorem shift_off (ρ : ℕ) (h : ρ < 2048) (n : ℕ) (hn : n < 8 - (ρ + 1) / 256) (c : BitVec 32) (hc : c.toNat < 256) :
    (Scalar.addi (Scalar.addi (shW (BitVec.ofNat 32 ρ)) (Scalar.muli (Scf.iv (kbW (BitVec.ofNat 32 ρ)) 1#32 n) 256#32)) c).toNat + baseP ρ
        = sb ρ + (256 * ((ρ + 1) / 256 + n) + c.toNat) ∧
      (Scalar.addi (Scalar.muli (Scf.iv (kbW (BitVec.ofNat 32 ρ)) 1#32 n) 256#32) c).toNat = 256 * ((ρ + 1) / 256 + n) + c.toNat := by
  obtain ⟨h1, h2, h3⟩ := shift_words ρ h
  rw [h3]
  have e : (Scalar.muli (Scf.iv (BitVec.ofNat 32 ((ρ + 1) / 256)) 1#32 n) 256#32).toNat = 256 * ((ρ + 1) / 256 + n) := by
    show ((BitVec.ofNat 32 ((ρ + 1) / 256) + BitVec.ofNat 32 n * 1#32) * 256#32).toNat = _
    rw [BitVec.toNat_mul, BitVec.toNat_add, BitVec.toNat_mul, BitVec.toNat_ofNat, BitVec.toNat_ofNat]
    simp only [BitVec.toNat_ofNat]
    omega
  constructor
  · show ((shW (BitVec.ofNat 32 ρ) + Scalar.muli (Scf.iv (BitVec.ofNat 32 ((ρ + 1) / 256)) 1#32 n) 256#32) + c).toNat + _ = _
    rw [BitVec.toNat_add, BitVec.toNat_add, e]
    omega
  · show (Scalar.muli (Scf.iv (BitVec.ofNat 32 ((ρ + 1) / 256)) 1#32 n) 256#32 + c).toNat = _
    rw [BitVec.toNat_add, e]
    omega

/-! ## The rows of a tile -/

theorem trips_t1 : k0_t1_loop.trips = 16 := by decide +kernel

theorem wid_eq (i : grid0.Coords) : wid i = BitVec.ofNat 32 (widN i) := by
  have : ∀ (a : Fin 2) (b : Fin 16), Scalar.addi (Scalar.muli (BitVec.ofNat 32 b.val) 2#32) (BitVec.ofNat 32 a.val) = BitVec.ofNat 32 (2 * b.val + a.val) := by
    decide +kernel
  exact this (i 0) (i 1)

/-- Row `t` of a tile. -/
def rowN (i : grid0.Coords) (t : ℕ) : ℕ := 32 * t + widN i

theorem rowN_lt (i : grid0.Coords) {t : ℕ} (h : t < 64) : rowN i t < 2048 := by
  have := widN_lt i; unfold rowN; omega

theorem row_tW (i : grid0.Coords) (t1 : Fin k0_t1_loop.trips) (s : Fin 4) :
    rowW i (tW t1 (BitVec.ofNat 32 s.val)) = BitVec.ofNat 32 (rowN i (4 * t1.val + s.val)) := by
  have key : ∀ (t1 : Fin k0_t1_loop.trips) (s : Fin 4) (w : Fin 32), Scalar.addi (Scalar.muli (tW t1 (BitVec.ofNat 32 s.val)) 32#32) (BitVec.ofNat 32 w.val)
      = BitVec.ofNat 32 (32 * (4 * t1.val + s.val) + w.val) := by decide +kernel
  unfold rowW rowN; rw [wid_eq]; exact key t1 s ⟨widN i, widN_lt i⟩

theorem row_tNext (i : grid0.Coords) (t1 : Fin k0_t1_loop.trips) (s : Fin 4) :
    rowW i (tNext t1 (BitVec.ofNat 32 s.val)) = BitVec.ofNat 32 (rowN i (4 * t1.val + s.val + 3)) := by
  have key : ∀ (t1 : Fin k0_t1_loop.trips) (s : Fin 4) (w : Fin 32), Scalar.addi (Scalar.muli (tNext t1 (BitVec.ofNat 32 s.val)) 32#32) (BitVec.ofNat 32 w.val)
      = BitVec.ofNat 32 (32 * (4 * t1.val + s.val + 3) + w.val) := by decide +kernel
  unfold rowW rowN; rw [wid_eq]; exact key t1 s ⟨widN i, widN_lt i⟩

theorem row_tPrev (i : grid0.Coords) (t1 : Fin k0_t1_loop.trips) (h : t1.val ≠ 0) (s : Fin 4) :
    rowW i (tPrev t1 (BitVec.ofNat 32 s.val)) = BitVec.ofNat 32 (rowN i (4 * (t1.val - 1) + s.val)) := by
  have key : ∀ (t1 : Fin k0_t1_loop.trips) (s : Fin 4) (w : Fin 32), t1.val ≠ 0 →
      Scalar.addi (Scalar.muli (tPrev t1 (BitVec.ofNat 32 s.val)) 32#32) (BitVec.ofNat 32 w.val)
      = BitVec.ofNat 32 (32 * (4 * (t1.val - 1) + s.val) + w.val) := by decide +kernel
  unfold rowW rowN; rw [wid_eq]; exact key t1 s ⟨widN i, widN_lt i⟩ h

theorem row_const (i : grid0.Coords) (t : Fin 64) : rowW i (BitVec.ofNat 32 t.val) = BitVec.ofNat 32 (rowN i t.val) := by
  have key : ∀ (t : Fin 64) (w : Fin 32), Scalar.addi (Scalar.muli (BitVec.ofNat 32 t.val) 32#32) (BitVec.ofNat 32 w.val)
      = BitVec.ofNat 32 (32 * t.val + w.val) := by decide +kernel
  unfold rowW rowN; rw [wid_eq]; exact key t ⟨widN i, widN_lt i⟩

/-! ## The guards of a trip -/

theorem guardIn0 (t1 : Fin k0_t1_loop.trips) : k0_cond16 t1 = 1#1 ↔ 4 * t1.val + 0 + 3 < 64 := by revert t1; decide +kernel
theorem guardIn1 (t1 : Fin k0_t1_loop.trips) : k0_cond36 t1 = 1#1 ↔ 4 * t1.val + 1 + 3 < 64 := by revert t1; decide +kernel
theorem guardIn2 (t1 : Fin k0_t1_loop.trips) : k0_cond56 t1 = 1#1 ↔ 4 * t1.val + 2 + 3 < 64 := by revert t1; decide +kernel
theorem guardIn3 (t1 : Fin k0_t1_loop.trips) : k0_cond76 t1 = 1#1 ↔ 4 * t1.val + 3 + 3 < 64 := by revert t1; decide +kernel
theorem guardOut0 (t1 : Fin k0_t1_loop.trips) : k0_cond27 t1 = 1#1 ↔ t1.val ≠ 0 := by revert t1; decide +kernel
theorem guardOut1 (t1 : Fin k0_t1_loop.trips) : k0_cond47 t1 = 1#1 ↔ t1.val ≠ 0 := by revert t1; decide +kernel
theorem guardOut2 (t1 : Fin k0_t1_loop.trips) : k0_cond67 t1 = 1#1 ↔ t1.val ≠ 0 := by revert t1; decide +kernel
theorem guardOut3 (t1 : Fin k0_t1_loop.trips) : k0_cond87 t1 = 1#1 ↔ t1.val ≠ 0 := by revert t1; decide +kernel

end Cert.KernelIdeal.Packed
-- ==== Proof.Slot.lean ====
module
public import proofs.«01_k».proof.Proof.Setup

/-!
# One slot of the ring

A slot is a window buffer with five DMA semaphores and a row buffer with four.  Each is either idle or has one copy in
flight, on the semaphore of the copy's kind.  The kernel issues and waits under one conditional per kind; a lemma here
takes the slot across one such conditional, the state between two of them saying whether the row's own kind has been met.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)

/-- A run of a tile's program. -/
abbrev wpT {α : Type} (p : Prog (TpuEff nD τ sig (Elt F) Λ₀ (VT d i).2) α) (Q : α → sProp 𝕄) : sProp 𝕄 :=
  wp frame (wpE defs 𝒱₀ (VT d i) none) Set.univ p Q

/-- The semaphore of one kind, as the kernel names it. -/
abbrev isem (si : DmaSems sig S5) (k : ℕ) (h : ∀ a, (![k] : Fin 1 → ℕ) a + S1.size a ≤ S5.size a) : DmaSem sig :=
  ((si.slice (Rect.unit (s := S5) ![k] S1.size h)).squeeze S_ squeezes_S1_S_).sem
abbrev osem (so : DmaSems sig S4) (k : ℕ) (h : ∀ a, (![k] : Fin 1 → ℕ) a + S1.size a ≤ S4.size a) : DmaSem sig :=
  ((so.slice (Rect.unit (s := S4) ![k] S1.size h)).squeeze S_ squeezes_S1_S_).sem

theorem in5 (k : Fin 5) : ∀ a, (![k.val] : Fin 1 → ℕ) a + S1.size a ≤ S5.size a := by
  intro a; fin_cases a; show k.val + 1 ≤ 5; omega
theorem in4 (k : Fin 4) : ∀ a, (![k.val] : Fin 1 → ℕ) a + S1.size a ≤ S4.size a := by
  intro a; fin_cases a; show k.val + 1 ≤ 4; omega

abbrev isemF (si : DmaSems sig S5) (k : Fin 5) : DmaSem sig := isem si k.val (in5 k)
abbrev osemF (so : DmaSems sig S4) (k : Fin 4) : DmaSem sig := osem so k.val (in4 k)

theorem hwin (k : Fin 5) : ∀ a, (![lo k] : Fin 1 → ℕ) a + (Sz (cnt k)).size a ≤ S2056.size a := by
  intro a; fin_cases a; show lo k + cnt k ≤ 2056; exact (lo_cnt k).le
theorem hob (k : Fin 4) : ∀ a, (![loO k] : Fin 1 → ℕ) a + (Sz (cntO k)).size a ≤ S2048.size a := by
  intro a; fin_cases a; show loO k + cntO k ≤ 2048; exact (loO_cntO k).le

variable (pa : Memref sig .scVector .hbm S2096128 .f32) (am : Memref sig .scVector .hbm S2048x2048 .f32)
variable (ib : Memref sig .scVector .vmem S2056 .f32) (ob : Memref sig .scVector .vmem S2048 .f32)
variable (si : DmaSems sig S5) (so : DmaSems sig S4)
variable (q : PosShare TreeShare) (fp : Buf (Elt F) (pa.view.loc (VT d i)))

/-- The parameters, as the tile's view of the array reads them. -/
abbrev prm : S2096128.Idx → Elt F .f32 := pa.view.read (Elt F) fp

/-! ## The window buffer -/

/-- A read share of the parameters. -/
abbrev paTok : sProp 𝕄 := pa.view.loc (VT d i) ↦[pa.view.set]{q} fp

/-- All semaphores of the slot's windows at rest. -/
abbrev isems0 : sProp 𝕄 := bigSep Finset.univ fun k : Fin 5 => semVal (VT d i, SemLoc.dma (isemF si k)) 0

def InIdle : sProp 𝕄 := iprop((∃ f, ib.view.loc (VT d i) ↦[ib.view.set]{fullShare} f) ∗ paTok d i pa q fp ∗ isems0 d i si)

/-- The window of row `ρ` at hand. -/
def InBuf (ρ : ℕ) : sProp 𝕄 :=
  iprop(∃ f, (ib.view.loc (VT d i) ↦[ib.view.set]{fullShare} f) ∗ ⌜InOK (prm d i pa fp) ρ (ib.view.read (Elt F) f)⌝)

abbrev crIn (k : Fin 5) : ℕ := (ib.slice (Rect.unit (s := S2056) ![lo k] (Sz (cnt k)).size (hwin k)) (fun _ => rfl)).view.dmaCredit

def InFly (ρ : ℕ) : sProp 𝕄 :=
  iprop(Transfers.Flight countersEmb (VT d i) (.dma (isemF si (kindIn ρ))) (default : HIx 1) (crIn ib (kindIn ρ))
      iprop(InBuf d i pa ib fp ρ ∗ paTok d i pa q fp)
    ∗ bigSep (Finset.univ.erase (kindIn ρ)) fun k : Fin 5 => semVal (VT d i, SemLoc.dma (isemF si k)) 0)

def InDone (ρ : ℕ) : sProp 𝕄 := iprop(InBuf d i pa ib fp ρ ∗ paTok d i pa q fp ∗ isems0 d i si)

/-- Issuing row `ρ`'s window, the kinds below `n` tried. -/
def InIss (ρ n : ℕ) : sProp 𝕄 := if (kindIn ρ).val < n then InFly d i pa ib si q fp ρ else InIdle d i pa ib si q fp
/-- Waiting for row `ρ`'s window, the kinds below `n` tried. -/
def InWt (ρ n : ℕ) : sProp 𝕄 := if (kindIn ρ).val < n then InDone d i pa ib si q fp ρ else InFly d i pa ib si q fp ρ

/-- A vector's index. -/
def zi {n : ℕ} (k : ℕ) (h : k < n) : (Sz n).Idx := fun a => match a with | 0 => ⟨k, h⟩

theorem Sz_numel {n : ℕ} (h : 0 < n) : 0 < (Sz n).numel := by
  refine Shape.numel_pos fun a => ?_; fin_cases a; exact h

/-- What a window copy leaves. -/
theorem inOK_of_copy {ρ o n : ℕ} (hk : lo (kindIn ρ) = o) (hn : cnt (kindIn ρ) = n)
    {offs : Fin 1 → ℕ} {hin : ∀ a, offs a + (Sz n).size a ≤ S2096128.size a} (hv : offs 0 + 8 = baseP ρ + o)
    {hd : ∀ a, (![o] : Fin 1 → ℕ) a + (Sz n).size a ≤ S2056.size a} (fd : Buf (Elt F) (ib.view.loc (VT d i))) :
    InOK (prm d i pa fp) ρ (ib.view.read (Elt F)
      ((ib.view.slice (Rect.unit (s := S2056) ![o] (Sz n).size hd)).write (Elt F) fd
        ((pa.view.slice (Rect.unit (s := S2096128) offs (Sz n).size hin)).read (Elt F) fp) Finset.univ)) := by
  subst hk hn
  intro x hx y hy
  have hx2 : (x 0).val < 2056 := (x 0).isLt
  have hlc := lo_cnt (kindIn ρ)
  let z : (Sz (cnt (kindIn ρ))).Idx := zi ((x 0).val - lo (kindIn ρ)) (by omega)
  have hxz : x = (Rect.unit (s := S2056) ![lo (kindIn ρ)] (Sz (cnt (kindIn ρ))).size hd).emb z := by
    funext a; apply Fin.ext; fin_cases a
    rw [Rect.emb_apply]
    show (x 0).val = lo (kindIn ρ) + 1 * ((x 0).val - lo (kindIn ρ)); omega
  have hyz : y = (Rect.unit (s := S2096128) offs (Sz (cnt (kindIn ρ))).size hin).emb z := by
    funext a; apply Fin.ext; fin_cases a
    rw [Rect.emb_apply]
    show (y 0).val = offs 0 + 1 * ((x 0).val - lo (kindIn ρ)); omega
  rw [hxz, hyz]
  exact View.read_slice_write_emb _ _ _ (Finset.mem_univ _)

/-- One conditional issue of a window copy. -/
theorem issIn {α : Type} {R : sProp 𝕄} {Q : α → sProp 𝕄} (k : Fin 5) (o n : ℕ) {ρ : ℕ} {c : BitVec 1}
    {t : c = 1#1 → Prog (TpuEff nD τ sig (Elt F) Λ₀ (VT d i).2) α} {e : ¬ c = 1#1 → Prog (TpuEff nD τ sig (Elt F) Λ₀ (VT d i).2) α}
    {rest : Prog (TpuEff nD τ sig (Elt F) Λ₀ (VT d i).2) α} (ho : lo k = o) (hn : cnt k = n)
    (hc : c = 1#1 ↔ kindIn ρ = k)
    (offs : c = 1#1 → Fin 1 → ℕ) (hin : ∀ h, ∀ a, offs h a + (Sz n).size a ≤ S2096128.size a)
    (hd : ∀ a, (![o] : Fin 1 → ℕ) a + (Sz n).size a ≤ S2056.size a)
    (hs : ∀ a, (![k.val] : Fin 1 → ℕ) a + S1.size a ≤ S5.size a)
    {w1 : ∀ h, (pa.slice (Rect.unit (s := S2096128) (offs h) (Sz n).size (hin h)) (fun _ => rfl)).view.WordExact}
    {w2 : (ib.slice (Rect.unit (s := S2056) ![o] (Sz n).size hd) (fun _ => rfl)).view.WordExact}
    (hty : DmaTarget.Typed (nD := nD) (τ := τ) (sig := sig) (p := (VT d i).2) .hbm (.dma (isem si k.val hs)) (.here (ib.slice (Rect.unit (s := S2056) ![o] (Sz n).size hd) (fun _ => rfl))))
    (ht : ∀ h, t h = .op (.enqueueDma (pa.slice (Rect.unit (s := S2096128) (offs h) (Sz n).size (hin h)) (fun _ => rfl))
      (.here (ib.slice (Rect.unit (s := S2056) ![o] (Sz n).size hd) (fun _ => rfl))) (.dma (isem si k.val hs)) (w1 h) w2 hty) fun _ => rest)
    (he : ∀ h, e h = rest)
    (hv : ∀ h, kindIn ρ = k → offs h 0 + 8 = baseP ρ + o)
    (hrest : iprop(InIss d i pa ib si q fp ρ (k.val + 1) ∗ R) ⊢ wpT defs d i rest Q) :
    iprop(InIss d i pa ib si q fp ρ k.val ∗ R) ⊢ wpT defs d i (dite (c = 1#1) t e) Q := by
  rcases Classical.em (c = 1#1) with h | h
  · rw [dif_pos h, ht h]
    have hk := hc.1 h
    have hv' := hv h hk
    subst ho hn
    obtain rfl := hk
    rw [InIss, if_neg (lt_irrefl _)]
    rw [InIss, if_pos (Nat.lt_succ_self _)] at hrest
    unfold InIdle
    have hsub : ((pa.slice (Rect.unit (s := S2096128) (offs h) (Sz (cnt (kindIn ρ))).size (hin h)) (fun _ => rfl)).view.set) ⊆ pa.view.set :=
      View.set_slice_subset _ _
    rw [isems0, SparseCore.bigSep_erase' (Finset.mem_univ (kindIn ρ))]
    iintro ⟨⟨⟨%f, Hb⟩, Hp, Hs, Hss⟩, HR⟩
    ihave Hp' := (pointsTo_split_subset hsub).1 $$ Hp
    icases Hp' with ⟨Hp1, Hp2⟩
    iapply (Transfers.wp_dmaLocal countersEmb 𝒱₀ (VT d i) none (default : HIx 1) (crIn ib (kindIn ρ)) rfl
      (View.dmaCredit_pos _ (Sz_numel (cnt_pos (kindIn ρ)))) (View.set_slice_subset _ _)) $$ [Hp1 Hb Hs]
    · isplitl [Hp1]; · iexact Hp1
      isplitl [Hb]; · iexact Hb
      iexact Hs
    iintro Hf
    iapply hrest
    isplitr [HR]
    · unfold InFly
      isplitr [Hss]
      · ihave Hf' := (Transfers.Flight_frame countersEmb (VT d i)) $$ [Hf Hp2]
        · isplitl [Hp2]; · iexact Hp2
          iexact Hf
        have hD : iprop((pa.view.loc (VT d i) ↦[pa.view.set \ (pa.view.slice (Rect.unit (s := S2096128) (offs h) (Sz (cnt (kindIn ρ))).size (hin h))).set]{q} fp)
            ∗ (ib.view.loc (VT d i) ↦[ib.view.set]{fullShare}
                (ib.view.slice (Rect.unit (s := S2056) ![lo (kindIn ρ)] (Sz (cnt (kindIn ρ))).size hd)).write (Elt F) f
                  ((pa.view.slice (Rect.unit (s := S2096128) (offs h) (Sz (cnt (kindIn ρ))).size (hin h))).read (Elt F) fp) Finset.univ)
            ∗ (pa.view.loc (VT d i) ↦[(pa.view.slice (Rect.unit (s := S2096128) (offs h) (Sz (cnt (kindIn ρ))).size (hin h))).set]{q} fp))
            ⊢ iprop(InBuf d i pa ib fp ρ ∗ paTok d i pa q fp) := by
          unfold InBuf
          iintro ⟨Hp2, Hb, Hp1⟩
          isplitl [Hb]
          · iexists _
            isplitl [Hb]; · iexact Hb
            ipureintro
            exact inOK_of_copy d i pa ib fp rfl rfl hv' f
          · iapply (pointsTo_split_subset hsub).2
            isplitl [Hp1]; · iexact Hp1
            iexact Hp2
        iapply (Transfers.Flight_mono countersEmb (VT d i) hD)
        iexact Hf'
      · iexact Hss
    · iexact HR
  · have hne : (kindIn ρ).val ≠ k.val := fun hk => h (hc.2 (Fin.ext hk))
    have e1 : InIss d i pa ib si q fp ρ k.val = InIss d i pa ib si q fp ρ (k.val + 1) := by
      unfold InIss
      by_cases hlt : (kindIn ρ).val < k.val
      · rw [if_pos hlt, if_pos (by omega)]
      · rw [if_neg hlt, if_neg (by omega)]
    rw [dif_neg h, he h, e1]
    exact hrest

/-! ## Waiting -/

/-- The tile may wait for its own copies, and has some record of the waits made. -/
def OW (O : CellTallies nD τ sig (HIx 1)) : sProp 𝕄 :=
  iprop(Transfers.MayWaits (VT d i) (default : HIx 1) O ∗ ∃ W, owes (VT d i) O W)

/-- One conditional wait for a window. -/
theorem wtIn {α : Type} {R : sProp 𝕄} {Q : α → sProp 𝕄} {O : CellTallies nD τ sig (HIx 1)} (k : Fin 5) {ρ : ℕ} {c : BitVec 1}
    {t : c = 1#1 → Prog (TpuEff nD τ sig (Elt F) Λ₀ (VT d i).2) α} {e : ¬ c = 1#1 → Prog (TpuEff nD τ sig (Elt F) Λ₀ (VT d i).2) α}
    {rest : Prog (TpuEff nD τ sig (Elt F) Λ₀ (VT d i).2) α}
    (hc : c = 1#1 ↔ kindIn ρ = k)
    (hs : ∀ a, (![k.val] : Fin 1 → ℕ) a + S1.size a ≤ S5.size a)
    {sp sp' : Space} {s s' : Shape} {el el' : EltTy}
    {srcw : c = 1#1 → Memref sig (VT d i).2.kind sp' s' el'} {dstw : c = 1#1 → Memref sig (VT d i).2.kind sp s el}
    {w1 : ∀ h, (srcw h).view.WordExact} {w2 : ∀ h, (dstw h).view.WordExact}
    (ht : ∀ h, t h = .op (.waitDma2 (isem si k.val hs) (srcw h) (dstw h) (w1 h) (w2 h)) fun _ => rest)
    (hcr : ∀ h, (dstw h).view.dmaCredit = crIn ib k)
    (he : ∀ h, e h = rest)
    (hrest : iprop(InWt d i pa ib si q fp ρ (k.val + 1) ∗ OW d i O ∗ R) ⊢ wpT defs d i rest Q) :
    iprop(InWt d i pa ib si q fp ρ k.val ∗ OW d i O ∗ R) ⊢ wpT defs d i (dite (c = 1#1) t e) Q := by
  rcases Classical.em (c = 1#1) with h | h
  · rw [dif_pos h, ht h]
    obtain rfl := hc.1 h
    have hcr' := hcr h
    rw [InWt, if_neg (lt_irrefl _)]
    rw [InWt, if_pos (Nat.lt_succ_self _)] at hrest
    unfold InFly
    iintro ⟨⟨Hf, Hss⟩, HO, HR⟩
    unfold OW
    icases HO with ⟨#Hmw, %W, HO⟩
    ihave Hm := (Transfers.MayWaits.elim (.dma (isem si (kindIn ρ).val hs))) $$ Hmw
    iapply (Transfers.wp_waitLocalO countersEmb 𝒱₀ (VT d i) none (default : HIx 1) hcr') $$ [Hf HO Hm]
    · isplitl [Hf]; · iexact Hf
      isplitl [HO]; · iexact HO
      iexact Hm
    iintro ⟨⟨Hb, Hp⟩, Hs, HO⟩
    iapply hrest
    isplitl [Hb Hp Hs Hss]
    · unfold InDone
      isplitl [Hb]; · iexact Hb
      isplitl [Hp]; · iexact Hp
      rw [isems0, SparseCore.bigSep_erase' (Finset.mem_univ (kindIn ρ))]
      isplitl [Hs]; · iexact Hs
      iexact Hss
    isplitl [HO]
    · unfold OW
      isplitr; · iexact Hmw
      iexists _; iexact HO
    · iexact HR
  · have hne : (kindIn ρ).val ≠ k.val := fun hk => h (hc.2 (Fin.ext hk))
    have e1 : InWt d i pa ib si q fp ρ k.val = InWt d i pa ib si q fp ρ (k.val + 1) := by
      unfold InWt
      by_cases hlt : (kindIn ρ).val < k.val
      · rw [if_pos hlt, if_pos (by omega)]
      · rw [if_neg hlt, if_neg (by omega)]
    rw [dif_neg h, he h, e1]
    exact hrest

/-! ## The row buffer -/

/-- The elements of row `ρ` of the matrix. -/
def rowIdx (ρ : ℕ) : Finset S2048x2048.Idx := Finset.univ.filter fun z => (z 0).val = ρ
def rowSet (ρ : ℕ) : Finset (Idx (am.view.loc (VT d i))) := (rowIdx ρ).map am.view.emb

/-- Row `ρ` of the matrix at whatever it holds, and written. -/
def RowRaw (ρ : ℕ) : sProp 𝕄 := iprop(∃ f, am.view.loc (VT d i) ↦[rowSet d i am ρ]{fullShare} f)
def RowDn (ρ : ℕ) : sProp 𝕄 :=
  iprop(∃ f, (am.view.loc (VT d i) ↦[rowSet d i am ρ]{fullShare} f) ∗ ⌜RowOK (prm d i pa fp) ρ (am.view.read (Elt F) f)⌝)

abbrev osems0 : sProp 𝕄 := bigSep Finset.univ fun k : Fin 4 => semVal (VT d i, SemLoc.dma (osemF so k)) 0

/-- The row buffer at whatever it holds. -/
def ObAny : sProp 𝕄 := iprop(∃ f, ob.view.loc (VT d i) ↦[ob.view.set]{fullShare} f)
/-- The row buffer with row `ρ` in it. -/
def ObBuf (ρ : ℕ) : sProp 𝕄 :=
  iprop(∃ f, (ob.view.loc (VT d i) ↦[ob.view.set]{fullShare} f) ∗ ⌜ObOK (prm d i pa fp) ρ (ob.view.read (Elt F) f)⌝)

theorem sq_row (k : Fin 4) : (Sz1 (cntO k)).Squeezes (Sz (cntO k)) := by revert k; decide
theorem hrow (k : Fin 4) : ∀ a, (![0, loO k] : Fin 2 → ℕ) a + (Sz1 (cntO k)).size a ≤ S2048x2048.size a := by
  intro a; fin_cases a
  · show 0 + 1 ≤ 2048; omega
  · show loO k + cntO k ≤ 2048; exact (loO_cntO k).le

abbrev crOut (k : Fin 4) : ℕ :=
  ((am.slice (Rect.unit (s := S2048x2048) ![0, loO k] (Sz1 (cntO k)).size (hrow k)) (fun _ => rfl)).squeeze (Sz (cntO k)) (sq_row k)).view.dmaCredit

def OutIdle : sProp 𝕄 := iprop(ObAny d i ob ∗ osems0 d i so)
def OutRdy (ρ : ℕ) : sProp 𝕄 := iprop(ObBuf d i pa ob fp ρ ∗ osems0 d i so ∗ RowRaw d i am ρ)
def OutFly (ρ : ℕ) : sProp 𝕄 :=
  iprop(Transfers.Flight countersEmb (VT d i) (.dma (osemF so (kindOut ρ))) (default : HIx 1) (crOut am (kindOut ρ))
      iprop(ObAny d i ob ∗ RowDn d i pa am fp ρ)
    ∗ bigSep (Finset.univ.erase (kindOut ρ)) fun k : Fin 4 => semVal (VT d i, SemLoc.dma (osemF so k)) 0)
def OutDone (ρ : ℕ) : sProp 𝕄 := iprop(OutIdle d i ob so ∗ RowDn d i pa am fp ρ)

/-- Issuing row `ρ`'s write-back, and waiting for it, the kinds below `n` tried. -/
def OutIss (ρ n : ℕ) : sProp 𝕄 := if (kindOut ρ).val < n then OutFly d i pa am ob so fp ρ else OutRdy d i pa am ob so fp ρ
def OutWt (ρ n : ℕ) : sProp 𝕄 := if (kindOut ρ).val < n then OutDone d i pa am ob so fp ρ else OutFly d i pa am ob so fp ρ

/-- What a write-back leaves. -/
theorem rowOK_of_copy {ρ o n : ℕ} (hρ : ρ < 2048) (ho : loO (kindOut ρ) = o) (hn : cntO (kindOut ρ) = n)
    {offs : Fin 2 → ℕ} {hin : ∀ a, offs a + (Sz1 n).size a ≤ S2048x2048.size a} (hv0 : offs 0 = ρ) (hv1 : offs 1 = o)
    {hsq : (Sz1 n).Squeezes (Sz n)}
    {hd : ∀ a, (![o] : Fin 1 → ℕ) a + (Sz n).size a ≤ S2048.size a} (fd : Buf (Elt F) (am.view.loc (VT d i)))
    (fs : Buf (Elt F) (ob.view.loc (VT d i))) (hob : ObOK (prm d i pa fp) ρ (ob.view.read (Elt F) fs)) :
    RowOK (prm d i pa fp) ρ (am.view.read (Elt F)
      (((am.slice (Rect.unit (s := S2048x2048) offs (Sz1 n).size hin) (fun _ => rfl)).squeeze (Sz n) hsq).view.write (Elt F) fd
        ((ob.view.slice (Rect.unit (s := S2048) ![o] (Sz n).size hd)).read (Elt F) fs) Finset.univ)) := by
  intro z hz hz1 y hy
  have hlo : o ≤ ρ := by rw [← ho, loO_kindOut ρ hρ]; omega
  have hlc : o + n = 2048 := by rw [← ho, ← hn]; exact loO_cntO _
  have hz2 : (z 1).val < 2048 := (z 1).isLt
  let x : (Sz n).Idx := zi ((z 1).val - o) (by omega)
  have hzx : am.view.emb z = ((am.slice (Rect.unit (s := S2048x2048) offs (Sz1 n).size hin) (fun _ => rfl)).squeeze (Sz n) hsq).view.emb x := by
    show am.view.emb z = am.view.emb ((Rect.unit (s := S2048x2048) offs (Sz1 n).size hin).emb (Shape.reshapeEquiv hsq.numel_eq x))
    congr 1
    rw [Shape.reshapeEquiv_cons_one]
    funext a; apply Fin.ext; rw [Rect.emb_apply]; fin_cases a
    · show (z 0).val = offs 0 + 1 * 0; omega
    · show (z 1).val = offs 1 + 1 * ((z 1).val - o); omega
  rw [View.read_apply, hzx, View.write_emb_of_mem _ _ (Finset.mem_univ _), cast_cast, cast_eq]
  refine hob _ ?_ ?_ y ?_
  · show ρ < o + 1 * ((z 1).val - o); omega
  · show o + 1 * ((z 1).val - o) < 2048; omega
  · show _ = sb ρ + (o + 1 * ((z 1).val - o)); omega

/-- One conditional issue of a write-back. -/
theorem issOut {α : Type} {R : sProp 𝕄} {Q : α → sProp 𝕄} (k : Fin 4) (o n : ℕ) {ρ : ℕ} {c : BitVec 1} (hρ : ρ < 2048)
    {t : c = 1#1 → Prog (TpuEff nD τ sig (Elt F) Λ₀ (VT d i).2) α} {e : ¬ c = 1#1 → Prog (TpuEff nD τ sig (Elt F) Λ₀ (VT d i).2) α}
    {rest : Prog (TpuEff nD τ sig (Elt F) Λ₀ (VT d i).2) α} (ho : loO k = o) (hn : cntO k = n)
    (hc : c = 1#1 ↔ kindOut ρ = k)
    (offs : c = 1#1 → Fin 2 → ℕ) (hin : ∀ h, ∀ a, offs h a + (Sz1 n).size a ≤ S2048x2048.size a)
    (hd : ∀ a, (![o] : Fin 1 → ℕ) a + (Sz n).size a ≤ S2048.size a)
    (hsq : (Sz1 n).Squeezes (Sz n))
    (hs : ∀ a, (![k.val] : Fin 1 → ℕ) a + S1.size a ≤ S4.size a)
    {w1 : (ob.slice (Rect.unit (s := S2048) ![o] (Sz n).size hd) (fun _ => rfl)).view.WordExact}
    {w2 : ∀ h, ((am.slice (Rect.unit (s := S2048x2048) (offs h) (Sz1 n).size (hin h)) (fun _ => rfl)).squeeze (Sz n) hsq).view.WordExact}
    {hty : ∀ h, DmaTarget.Typed (nD := nD) (τ := τ) (sig := sig) (p := (VT d i).2) (.core .vmem) (.dma (osem so k.val hs))
      (.here ((am.slice (Rect.unit (s := S2048x2048) (offs h) (Sz1 n).size (hin h)) (fun _ => rfl)).squeeze (Sz n) hsq))}
    (ht : ∀ h, t h = .op (.enqueueDma (ob.slice (Rect.unit (s := S2048) ![o] (Sz n).size hd) (fun _ => rfl))
      (.here ((am.slice (Rect.unit (s := S2048x2048) (offs h) (Sz1 n).size (hin h)) (fun _ => rfl)).squeeze (Sz n) hsq))
      (.dma (osem so k.val hs)) w1 (w2 h) (hty h)) fun _ => rest)
    (he : ∀ h, e h = rest)
    (hv : ∀ h, offs h 0 = ρ ∧ offs h 1 = o)
    (hrest : iprop(OutIss d i pa am ob so fp ρ (k.val + 1) ∗ R) ⊢ wpT defs d i rest Q) :
    iprop(OutIss d i pa am ob so fp ρ k.val ∗ R) ⊢ wpT defs d i (dite (c = 1#1) t e) Q := by
  rcases Classical.em (c = 1#1) with h | h
  · rw [dif_pos h, ht h]
    obtain ⟨hv0, hv1⟩ := hv h
    subst ho hn
    obtain rfl := hc.1 h
    rw [OutIss, if_neg (lt_irrefl _)]
    rw [OutIss, if_pos (Nat.lt_succ_self _)] at hrest
    unfold OutRdy ObBuf RowRaw
    have hsub : ((ob.slice (Rect.unit (s := S2048) ![loO (kindOut ρ)] (Sz (cntO (kindOut ρ))).size hd) (fun _ => rfl)).view.set) ⊆ ob.view.set :=
      View.set_slice_subset _ _
    have hdst : ((am.slice (Rect.unit (s := S2048x2048) (offs h) (Sz1 (cntO (kindOut ρ))).size (hin h)) (fun _ => rfl)).squeeze
        (Sz (cntO (kindOut ρ))) hsq).view.set ⊆ rowSet d i am ρ := by
      refine Finset.Subset.trans (Finset.Subset.trans (subset_of_eq (View.set_reshape _ _)) (subset_of_eq (View.set_slice _ _)))
        (Finset.map_subset_map.2 fun z hz => ?_)
      rw [Rect.mem_set_unit] at hz
      have := hz 0
      refine Finset.mem_filter.2 ⟨Finset.mem_univ _, ?_⟩
      have h2 : (z 0).val < offs h 0 + 1 := this.2
      have h1 := this.1
      omega
    rw [osems0, SparseCore.bigSep_erase' (Finset.mem_univ (kindOut ρ))]
    iintro ⟨⟨⟨%f, Hb, %hob⟩, ⟨Hs, Hss⟩, ⟨%fa, Ha⟩⟩, HR⟩
    ihave Hb' := (pointsTo_split_subset hsub).1 $$ Hb
    icases Hb' with ⟨Hb1, Hb2⟩
    iapply (Transfers.wp_dmaLocal countersEmb 𝒱₀ (VT d i) none (default : HIx 1) (crOut am (kindOut ρ)) rfl
      (View.dmaCredit_pos _ (Sz_numel (cntO_pos (kindOut ρ)))) hdst) $$ [Hb1 Ha Hs]
    · isplitl [Hb1]; · iexact Hb1
      isplitl [Ha]; · iexact Ha
      iexact Hs
    iintro Hf
    iapply hrest
    isplitr [HR]
    · unfold OutFly
      isplitr [Hss]
      · ihave Hf' := (Transfers.Flight_frame countersEmb (VT d i)) $$ [Hf Hb2]
        · isplitl [Hb2]; · iexact Hb2
          iexact Hf
        have hD : iprop((ob.view.loc (VT d i) ↦[ob.view.set \ (ob.view.slice (Rect.unit (s := S2048) ![loO (kindOut ρ)] (Sz (cntO (kindOut ρ))).size hd)).set]{fullShare} f)
            ∗ (am.view.loc (VT d i) ↦[rowSet d i am ρ]{fullShare}
                ((am.slice (Rect.unit (s := S2048x2048) (offs h) (Sz1 (cntO (kindOut ρ))).size (hin h)) (fun _ => rfl)).squeeze
                  (Sz (cntO (kindOut ρ))) hsq).view.write (Elt F) fa
                  ((ob.view.slice (Rect.unit (s := S2048) ![loO (kindOut ρ)] (Sz (cntO (kindOut ρ))).size hd)).read (Elt F) f) Finset.univ)
            ∗ (ob.view.loc (VT d i) ↦[(ob.view.slice (Rect.unit (s := S2048) ![loO (kindOut ρ)] (Sz (cntO (kindOut ρ))).size hd)).set]{fullShare} f))
            ⊢ iprop(ObAny d i ob ∗ RowDn d i pa am fp ρ) := by
          unfold ObAny RowDn
          iintro ⟨Hb2, Ha, Hb1⟩
          isplitr [Ha]
          · iexists f
            iapply (pointsTo_split_subset hsub).2
            isplitl [Hb1]; · iexact Hb1
            iexact Hb2
          · iexists _
            isplitl [Ha]; · iexact Ha
            ipureintro
            exact rowOK_of_copy d i pa am ob fp hρ rfl rfl hv0 hv1 fa f hob
        iapply (Transfers.Flight_mono countersEmb (VT d i) hD)
        iexact Hf'
      · iexact Hss
    · iexact HR
  · have hne : (kindOut ρ).val ≠ k.val := fun hk => h (hc.2 (Fin.ext hk))
    have e1 : OutIss d i pa am ob so fp ρ k.val = OutIss d i pa am ob so fp ρ (k.val + 1) := by
      unfold OutIss
      by_cases hlt : (kindOut ρ).val < k.val
      · rw [if_pos hlt, if_pos (by omega)]
      · rw [if_neg hlt, if_neg (by omega)]
    rw [dif_neg h, he h, e1]
    exact hrest

/-- One conditional wait for a write-back. -/
theorem wtOut {α : Type} {R : sProp 𝕄} {Q : α → sProp 𝕄} {O : CellTallies nD τ sig (HIx 1)} (k : Fin 4) {ρ : ℕ} {c : BitVec 1}
    {t : c = 1#1 → Prog (TpuEff nD τ sig (Elt F) Λ₀ (VT d i).2) α} {e : ¬ c = 1#1 → Prog (TpuEff nD τ sig (Elt F) Λ₀ (VT d i).2) α}
    {rest : Prog (TpuEff nD τ sig (Elt F) Λ₀ (VT d i).2) α}
    (hc : c = 1#1 ↔ kindOut ρ = k)
    (hs : ∀ a, (![k.val] : Fin 1 → ℕ) a + S1.size a ≤ S4.size a)
    {sp sp' : Space} {s s' : Shape} {el el' : EltTy}
    {srcw : c = 1#1 → Memref sig (VT d i).2.kind sp' s' el'} {dstw : c = 1#1 → Memref sig (VT d i).2.kind sp s el}
    {w1 : ∀ h, (srcw h).view.WordExact} {w2 : ∀ h, (dstw h).view.WordExact}
    (ht : ∀ h, t h = .op (.waitDma2 (osem so k.val hs) (srcw h) (dstw h) (w1 h) (w2 h)) fun _ => rest)
    (hcr : ∀ h, (dstw h).view.dmaCredit = crOut am k)
    (he : ∀ h, e h = rest)
    (hrest : iprop(OutWt d i pa am ob so fp ρ (k.val + 1) ∗ OW d i O ∗ R) ⊢ wpT defs d i rest Q) :
    iprop(OutWt d i pa am ob so fp ρ k.val ∗ OW d i O ∗ R) ⊢ wpT defs d i (dite (c = 1#1) t e) Q := by
  rcases Classical.em (c = 1#1) with h | h
  · rw [dif_pos h, ht h]
    obtain rfl := hc.1 h
    have hcr' := hcr h
    rw [OutWt, if_neg (lt_irrefl _)]
    rw [OutWt, if_pos (Nat.lt_succ_self _)] at hrest
    unfold OutFly
    iintro ⟨⟨Hf, Hss⟩, HO, HR⟩
    unfold OW
    icases HO with ⟨#Hmw, %W, HO⟩
    ihave Hm := (Transfers.MayWaits.elim (.dma (osem so (kindOut ρ).val hs))) $$ Hmw
    iapply (Transfers.wp_waitLocalO countersEmb 𝒱₀ (VT d i) none (default : HIx 1) hcr') $$ [Hf HO Hm]
    · isplitl [Hf]; · iexact Hf
      isplitl [HO]; · iexact HO
      iexact Hm
    iintro ⟨⟨Hb, Hr⟩, Hs, HO⟩
    iapply hrest
    isplitl [Hb Hr Hs Hss]
    · unfold OutDone OutIdle
      isplitr [Hr]
      · isplitl [Hb]; · iexact Hb
        rw [osems0, SparseCore.bigSep_erase' (Finset.mem_univ (kindOut ρ))]
        isplitl [Hs]; · iexact Hs
        iexact Hss
      iexact Hr
    isplitl [HO]
    · unfold OW
      isplitr; · iexact Hmw
      iexists _; iexact HO
    · iexact HR
  · have hne : (kindOut ρ).val ≠ k.val := fun hk => h (hc.2 (Fin.ext hk))
    have e1 : OutWt d i pa am ob so fp ρ k.val = OutWt d i pa am ob so fp ρ (k.val + 1) := by
      unfold OutWt
      by_cases hlt : (kindOut ρ).val < k.val
      · rw [if_pos hlt, if_pos (by omega)]
      · rw [if_neg hlt, if_neg (by omega)]
    rw [dif_neg h, he h, e1]
    exact hrest

end Cert.KernelIdeal.Packed
-- ==== Proof.Rows.lean ====
module
public import proofs.«01_k».proof.Proof.Words
public import proofs.«01_k».proof.Proof.Slot

/-!
# The arrays dealt to the tasks

The matrix is cut into its rows: task `i` has the rows `32 t + widN i`.  Of the parameters a task has four read
shares, one for each slot of its ring.  Afterwards the rows, each written right of the diagonal, are the matrix again.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F
local notation "pV" => (Memref.whole Cert.KernelIdeal.main_arg0_scv : Memref Cert.KernelIdeal.sig Kind.scVector Space.hbm Cert.KernelIdeal.S2096128 EltTy.f32)
local notation "aV" => (Memref.whole Cert.KernelIdeal.main_v0_scv : Memref Cert.KernelIdeal.sig Kind.scVector Space.hbm Cert.KernelIdeal.S2048x2048 EltTy.f32)

/-- The three arrays of the call's host, on device `d`. -/
abbrev pLoc (d : Dev nD) : Loc nD τ sig := (T d : Thread nD τ).loc main_arg0
abbrev tLoc (d : Dev nD) : Loc nD τ sig := (T d : Thread nD τ).loc main_arg1
abbrev aLoc (d : Dev nD) : Loc nD τ sig := (T d : Thread nD τ).loc main_v0

/-- The task on subcore `s` of SparseCore `c`. -/
def crd (c : Fin 2) (s : Fin 16) : grid0.Coords :=
  fun | 0 => c | 1 => s | ⟨_ + 2, h⟩ => absurd h (Nat.not_lt.2 (Nat.le_add_left _ _))

theorem widN_crd (c : Fin 2) (s : Fin 16) : widN (crd c s) = 2 * s.val + c.val := rfl

/-- The share of the parameters that slot `k` of a task reads. -/
def qT (c : Fin 2) (s : Fin 16) (k : Fin 4) : PosShare TreeShare :=
  Transfers.shareTok (Transfers.shareTok (Transfers.shareTok fullShare 2 c) 16 s) 4 k

/-! ## What a task is handed and hands back -/

/-- A task's shares of the parameters, and its rows at whatever they hold. -/
def goP (d : Dev nD) (f : Buf (Elt F) (pLoc d)) (c : Fin 2) (s : Fin 16) : sProp 𝕄 :=
  iprop((bigSep Finset.univ fun k : Fin 4 => pLoc d ↦{qT c s k} f)
    ∗ bigSep Finset.univ fun t : Fin 64 => iprop(∃ g, aLoc d ↦[rowIdx (rowN (crd c s) t.val)]{fullShare} g))
/-- A task's rows, written. -/
def tdP (d : Dev nD) (f : Buf (Elt F) (pLoc d)) (c : Fin 2) (s : Fin 16) : sProp 𝕄 :=
  bigSep Finset.univ fun t : Fin 64 =>
    iprop(∃ g : Buf (Elt F) (aLoc d), ⌜RowOK (α := Elt F .f32) f (rowN (crd c s) t.val) g⌝ ∗ aLoc d ↦[rowIdx (rowN (crd c s) t.val)]{fullShare} g)

/-! ## The parameters -/

theorem params_deal (d : Dev nD) (f : Buf (Elt F) (pLoc d)) :
    (pLoc d ↦{fullShare} f : sProp 𝕄) ⊢ iprop((pLoc d ↦{Transfers.shareDrop fullShare 2} f)
      ∗ bigSep Finset.univ fun c : Fin 2 => bigSep Finset.univ fun s : Fin 16 => bigSep Finset.univ fun k : Fin 4 => pLoc d ↦{qT c s k} f) := by
  refine (Transfers.pointsTo_toks_split fullShare 2).trans (sep_mono_right ?_)
  refine bigSep_mono fun c _ => ?_
  refine ((Transfers.pointsTo_toks_split _ 16).trans sep_elim_right).trans (bigSep_mono fun s _ => ?_)
  exact (Transfers.pointsTo_toks_split _ 4).trans sep_elim_right

/-! ## The matrix -/

theorem rows_disjoint : ∀ p ∈ (Finset.univ : Finset (Fin 2 × Fin 16 × Fin 64)), ∀ p' ∈ (Finset.univ : Finset (Fin 2 × Fin 16 × Fin 64)), p ≠ p' →
    Disjoint (rowIdx (rowN (crd p.1 p.2.1) p.2.2.val)) (rowIdx (rowN (crd p'.1 p'.2.1) p'.2.2.val)) := by
  rintro ⟨c, s, t⟩ - ⟨c', s', t'⟩ - hne
  refine Finset.disjoint_left.2 fun z hz hz' => hne ?_
  have h1 := (Finset.mem_filter.1 hz).2
  have h2 := (Finset.mem_filter.1 hz').2
  simp only [rowN, widN_crd] at h1 h2
  have := c.isLt; have := c'.isLt; have := s.isLt; have := s'.isLt
  refine Prod.ext (Fin.ext ?_) (Prod.ext (Fin.ext ?_) (Fin.ext ?_)) <;> dsimp only <;> omega

/-- Every row is a task's at some step. -/
theorem row_task {r : ℕ} (hr : r < 2048) : ∃ p : Fin 2 × Fin 16 × Fin 64, rowN (crd p.1 p.2.1) p.2.2.val = r := by
  refine ⟨(⟨r % 2, by omega⟩, ⟨r / 2 % 16, by omega⟩, ⟨r / 32, by omega⟩), ?_⟩
  simp only [rowN, widN_crd]; omega

theorem rows_cover : (Finset.univ : Finset (Fin 2 × Fin 16 × Fin 64)).biUnion (fun p => rowIdx (rowN (crd p.1 p.2.1) p.2.2.val)) = Finset.univ := by
  refine Finset.eq_univ_of_forall fun z => ?_
  rw [Finset.mem_biUnion]
  obtain ⟨p, hp⟩ := row_task (show (z 0).val < 2048 from (z 0).isLt)
  exact ⟨p, Finset.mem_univ _, Finset.mem_filter.2 ⟨Finset.mem_univ _, hp.symm⟩⟩

theorem matrix_deal (d : Dev nD) (f : Buf (Elt F) (aLoc d)) :
    (aLoc d ↦{fullShare} f : sProp 𝕄) ⊢ bigSep Finset.univ fun c : Fin 2 => bigSep Finset.univ fun s : Fin 16 => bigSep Finset.univ fun t : Fin 64 =>
      iprop(∃ g, aLoc d ↦[rowIdx (rowN (crd c s) t.val)]{fullShare} g) := by
  have h : (aLoc d ↦{fullShare} f : sProp 𝕄) = bigSep Finset.univ fun p : Fin 2 × Fin 16 × Fin 64 => aLoc d ↦[rowIdx (rowN (crd p.1 p.2.1) p.2.2.val)]{fullShare} f := by
    rw [← pointsTo_biUnion Finset.univ (ℓ := aLoc d) (fun p : Fin 2 × Fin 16 × Fin 64 => rowIdx (rowN (crd p.1 p.2.1) p.2.2.val)) rows_disjoint, rows_cover]; try rfl
  rw [h, BI.bigSep_univ_prod]
  refine bigSep_mono fun c _ => ?_
  rw [BI.bigSep_univ_prod]
  refine bigSep_mono fun s _ => bigSep_mono fun t _ => ?_
  show (aLoc d ↦[rowIdx (rowN (crd c s) t.val)]{fullShare} f : sProp 𝕄) ⊢ iprop(∃ g, aLoc d ↦[rowIdx (rowN (crd c s) t.val)]{fullShare} g)
  iintro H; iexists f; iexact H

/-- All the tasks' shares and rows. -/
theorem go_deal (d : Dev nD) (f : Buf (Elt F) (pLoc d)) (fa : Buf (Elt F) (aLoc d)) :
    iprop((pLoc d ↦{fullShare} f) ∗ aLoc d ↦{fullShare} fa) ⊢ (iprop((pLoc d ↦{Transfers.shareDrop fullShare 2} f)
      ∗ bigSep Finset.univ fun c : Fin 2 => bigSep Finset.univ fun s : Fin 16 => goP d f c s) : sProp 𝕄) := by
  have h : (bigSep Finset.univ fun c : Fin 2 => bigSep Finset.univ fun s : Fin 16 => goP d f c s)
      = (iprop((bigSep Finset.univ fun c : Fin 2 => bigSep Finset.univ fun s : Fin 16 => bigSep Finset.univ fun k : Fin 4 => pLoc d ↦{qT c s k} f)
        ∗ bigSep Finset.univ fun c : Fin 2 => bigSep Finset.univ fun s : Fin 16 => bigSep Finset.univ fun t : Fin 64 =>
          iprop(∃ g, aLoc d ↦[rowIdx (rowN (crd c s) t.val)]{fullShare} g)) : sProp 𝕄) := by
    unfold goP
    rw [← bigSep_sep']
    exact bigSep_congr fun c _ => bigSep_sep' _ _ _
  rw [h]
  iintro ⟨Hp, Ha⟩
  ihave Hp' := (params_deal d f) $$ Hp
  icases Hp' with ⟨Hd, Hp⟩
  ihave Ha' := (matrix_deal d fa) $$ Ha
  isplitl [Hd]; · iexact Hd
  isplitl [Hp]; · iexact Hp
  iexact Ha'

/-- The rows written are the matrix, its entries right of the diagonal in place. -/
theorem td_join (d : Dev nD) (f : Buf (Elt F) (pLoc d)) :
    (bigSep Finset.univ fun c : Fin 2 => bigSep Finset.univ fun s : Fin 16 => tdP d f c s)
      ⊢ (iprop(∃ g : Buf (Elt F) (aLoc d), ⌜∀ ρ, ρ < 2048 → RowOK (α := Elt F .f32) f ρ g⌝ ∗ aLoc d ↦{fullShare} g) : sProp 𝕄) := by
  have h : (bigSep Finset.univ fun c : Fin 2 => bigSep Finset.univ fun s : Fin 16 => tdP d f c s)
      = (bigSep Finset.univ fun p : Fin 2 × Fin 16 × Fin 64 =>
        iprop(∃ g : Buf (Elt F) (aLoc d), ⌜RowOK (α := Elt F .f32) f (rowN (crd p.1 p.2.1) p.2.2.val) g⌝ ∗ aLoc d ↦[rowIdx (rowN (crd p.1 p.2.1) p.2.2.val)]{fullShare} g) : sProp 𝕄) := by
    unfold tdP
    rw [BI.bigSep_univ_prod]
    refine bigSep_congr fun c _ => ?_
    rw [BI.bigSep_univ_prod]
  rw [h]
  refine (bigSep_exists_pi Finset.univ (fun (p : Fin 2 × Fin 16 × Fin 64) (g : Buf (Elt F) (aLoc d)) =>
    iprop(⌜RowOK (α := Elt F .f32) f (rowN (crd p.1 p.2.1) p.2.2.val) g⌝ ∗ aLoc d ↦[rowIdx (rowN (crd p.1 p.2.1) p.2.2.val)]{fullShare} g))).trans ?_
  iintro ⟨%gs, H⟩
  ihave H' := (bigSep_pure_sep Finset.univ (fun p : Fin 2 × Fin 16 × Fin 64 => RowOK (α := Elt F .f32) f (rowN (crd p.1 p.2.1) p.2.2.val) (gs p))
    (fun p => (aLoc d ↦[rowIdx (rowN (crd p.1 p.2.1) p.2.2.val)]{fullShare} gs p : sProp 𝕄))) $$ H
  icases H' with ⟨%hok, H⟩
  ihave H' := (pointsTo_biUnion_join (ℓ := aLoc d) (q := fullShare) (Val := Elt F) Finset.univ
    (fun p : Fin 2 × Fin 16 × Fin 64 => rowIdx (rowN (crd p.1 p.2.1) p.2.2.val)) gs (gs (0, 0, 0)) rows_disjoint) $$ H
  icases H' with ⟨%g, %hg, Hg⟩
  rw [rows_cover]
  iexists g
  isplitr
  · ipureintro
    intro ρ hρ z hz hlt y hy
    obtain ⟨p, hp⟩ := row_task hρ
    have hm : z ∈ rowIdx (rowN (crd p.1 p.2.1) p.2.2.val) := Finset.mem_filter.2 ⟨Finset.mem_univ _, by rw [hp]; exact hz⟩
    refine (hg p (Finset.mem_univ _) z hm).trans ?_
    exact hok p (Finset.mem_univ _) z (by rw [hp]; exact hz) (by rw [hp]; exact hlt) y (by rw [hp]; exact hy)
  · iexact Hg

/-! ## A task's rows, as the task names them -/

theorem rowSet_whole (d : Dev nD) (i : grid0.Coords) (ρ : ℕ) : rowSet d i aV ρ = rowIdx ρ := Finset.map_refl

theorem bigSep_fin_range (n : ℕ) (P : ℕ → sProp 𝕄) : (bigSep Finset.univ fun t : Fin n => P t.val) = bigSep (Finset.range n) P := by
  rw [← Nat.Iio_eq_range, ← Fin.map_valEmbedding_univ, BI.bigSep_map]; rfl

theorem raw_eq (d : Dev nD) (i : grid0.Coords) (ρ : ℕ) :
    (iprop(∃ g, aLoc d ↦[rowIdx ρ]{fullShare} g) : sProp 𝕄) = RowRaw d i aV ρ := by
  unfold RowRaw; rw [rowSet_whole]

theorem dn_entails (d : Dev nD) (i : grid0.Coords) (f : Buf (Elt F) (pLoc d)) (ρ : ℕ) :
    RowDn d i pV aV f ρ ⊢ (iprop(∃ g : Buf (Elt F) (aLoc d), ⌜RowOK (α := Elt F .f32) f ρ g⌝ ∗ aLoc d ↦[rowIdx ρ]{fullShare} g) : sProp 𝕄) := by
  unfold RowDn; rw [rowSet_whole]
  iintro ⟨%g, Hg, %h⟩
  iexists g
  isplitr
  · ipureintro; exact h
  · iexact Hg

end Cert.KernelIdeal.Packed
-- ==== Proof.Shift.lean ====
module
public import proofs.«01_k».proof.Proof.Slot
public import proofs.«01_k».proof.Proof.Words

/-!
# Loads and stores of the shift

The row in hand is moved from the window to the row buffer in vectors of sixteen lanes.  A vector loaded from the window
holds sixteen columns of the row; storing it after the columns below `b` extends what the row buffer holds by sixteen.
Beside them stand the steps by which a run is taken through the printed parts of the kernel.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)

/-! ## Steps -/

/-- Past a part that only computes words. -/
theorem bindPure {α β : Type} {A : sProp 𝕄} {Q : β → sProp 𝕄} {P : α → Prop}
    {p : Prog (TpuEff nD τ sig (Elt F) Λ₀ (VT d i).2) α} {k : α → Prog (TpuEff nD τ sig (Elt F) Λ₀ (VT d i).2) β}
    (hp : ∃ r, p = .ret r ∧ P r) (hk : ∀ r, P r → A ⊢ wpT defs d i (k r) Q) : A ⊢ wpT defs d i (p >>= k) Q := by
  obtain ⟨r, rfl, hr⟩ := hp
  exact hk r hr

/-- Past a part, by what is known of it. -/
theorem bindS {α β : Type} {A : sProp 𝕄} {B : α → sProp 𝕄} {Q : β → sProp 𝕄}
    {p : Prog (TpuEff nD τ sig (Elt F) Λ₀ (VT d i).2) α} {k : α → Prog (TpuEff nD τ sig (Elt F) Λ₀ (VT d i).2) β}
    (hp : A ⊢ wpT defs d i p B) (hk : ∀ r, B r ⊢ wpT defs d i (k r) Q) : A ⊢ wpT defs d i (p >>= k) Q := by
  unfold wpT; rw [wp_bind]
  exact hp.trans (wp_mono _ _ _ hk)

theorem pureL {P : Prop} {A B : sProp 𝕄} (h : P → A ⊢ B) : iprop(⌜P⌝ ∗ A) ⊢ B := by
  iintro ⟨%hP, HA⟩
  iapply (h hP) $$ HA

/-- A part's end, with what is known of its result. -/
theorem retP {α : Type} {A : sProp 𝕄} {P : α → Prop} {r : α} (h : P r) :
    A ⊢ wpT defs d i (.ret r) (fun r => iprop(⌜P r⌝ ∗ A)) := by
  refine BIBase.Entails.trans ?_ (le_wp_ret _ _ _ _ _)
  iintro HA
  isplitr
  · ipureintro; exact h
  · iexact HA

theorem sepSwap {X Y R : sProp 𝕄} : iprop(X ∗ Y ∗ R) ⊢ iprop(Y ∗ X ∗ R) := by
  iintro ⟨HX, HY, HR⟩
  isplitl [HY]; · iexact HY
  isplitl [HX]; · iexact HX
  iexact HR

theorem retS {α : Type} {A : sProp 𝕄} {r : α} : A ⊢ wpT defs d i (.ret r) (fun _ => A) := le_wp_ret _ _ _ r fun _ => A

/-- A loop of no trips. -/
theorem zeroLoop {α : Type} {A : sProp 𝕄} {Q : α → sProp 𝕄} {L : Scf.Loop 32} {ok : L.OK}
    {body : Fin L.trips → PUnit → Prog (TpuEff nD τ sig (Elt F) Λ₀ (VT d i).2) PUnit}
    {k : PUnit → Prog (TpuEff nD τ sig (Elt F) Λ₀ (VT d i).2) α} (h : L.trips = 0)
    (hk : A ⊢ wpT defs d i (k ⟨⟩) Q) : A ⊢ wpT defs d i (L.for ok ⟨⟩ body >>= k) Q :=
  Scf.wp_for0_bind' _ _ _ L.lb L.ub L.st ok ⟨⟩ body h k Q A hk

theorem guardPos {α : Type} {A : sProp 𝕄} {Q : α → sProp 𝕄} {c : BitVec 1}
    {t : c = 1#1 → Prog (TpuEff nD τ sig (Elt F) Λ₀ (VT d i).2) α} {e : ¬ c = 1#1 → Prog (TpuEff nD τ sig (Elt F) Λ₀ (VT d i).2) α}
    (h : c = 1#1) (H : A ⊢ wpT defs d i (t h) Q) : A ⊢ wpT defs d i (dite (c = 1#1) t e) Q := by
  rw [dif_pos h]; exact H
theorem guardNeg {α : Type} {A : sProp 𝕄} {Q : α → sProp 𝕄} {c : BitVec 1}
    {t : c = 1#1 → Prog (TpuEff nD τ sig (Elt F) Λ₀ (VT d i).2) α} {e : ¬ c = 1#1 → Prog (TpuEff nD τ sig (Elt F) Λ₀ (VT d i).2) α}
    (h : ¬ c = 1#1) (H : A ⊢ wpT defs d i (e h) Q) : A ⊢ wpT defs d i (dite (c = 1#1) t e) Q := by
  rw [dif_neg h]; exact H

/-! ## Vectors -/

variable (pa : Memref sig .scVector .hbm S2096128 .f32)
variable (ib : Memref sig .scVector .vmem S2056 .f32) (ob : Memref sig .scVector .vmem S2048 .f32)
variable (q : PosShare TreeShare) (fp : Buf (Elt F) (pa.view.loc (VT d i)))

/-- The vector holds columns `col` … `col + 15` of row `ρ`, right of the diagonal. -/
def VecOK (ρ col : ℕ) (v : S16.Idx → Elt F .f32) : Prop :=
  ∀ x : S16.Idx, ρ < col + (x 0).val → ∀ y : S2096128.Idx, (y 0).val + 8 = sb ρ + (col + (x 0).val) → v x = prm d i pa fp y

theorem VecOK.cast {ρ col : ℕ} {v : S16.Idx → Elt F .f32} (h : VecOK d i pa fp ρ col v) {hc : S16.ShapeCasts S16} :
    VecOK d i pa fp ρ col (shapeCast S16 v hc) := by
  have e : shapeCast S16 v hc = v := funext fun x => congrArg v (Shape.reshapeEquiv_self _ x)
  rw [e]; exact h

/-- The row buffer, with row `ρ` in place up to column `b`. -/
def ObP (ρ b : ℕ) : sProp 𝕄 :=
  iprop(∃ f, (ob.view.loc (VT d i) ↦[ob.view.set]{fullShare} f) ∗ ⌜ObUpTo (prm d i pa fp) ρ b (ob.view.read (Elt F) f)⌝)

/-- A load from the window. -/
theorem ldIn {α : Type} {R : sProp 𝕄} {Q : α → sProp 𝕄} (ρ col : ℕ) (hρ : ρ < 2048) {offs : Fin 1 → ℕ}
    {hin : ∀ a, offs a + S16.size a ≤ S2056.size a} {hl}
    {k : (S16.Idx → Elt F .f32) → Prog (TpuEff nD τ sig (Elt F) Λ₀ (VT d i).2) α}
    (hv : offs 0 + baseP ρ = sb ρ + col) (hcol : 256 * ((ρ + 1) / 256) ≤ col)
    (hk : ∀ v, VecOK d i pa fp ρ col v → iprop(InBuf d i pa ib fp ρ ∗ R) ⊢ wpT defs d i (k v) Q) :
    iprop(InBuf d i pa ib fp ρ ∗ R) ⊢ wpT defs d i (.op (.load ib (Rect.unit (s := S2056) offs S16.size hin).toLoadRect hl) k) Q := by
  unfold InBuf at hk ⊢
  iintro ⟨⟨%f, Hb, %hf⟩, HR⟩
  iapply (wp_load_rect (m := ib) (r := Rect.unit (s := S2056) offs S16.size hin) (S := ib.view.set) (f := f)
    𝒱₀ (VT d i) none Set.univ (View.set_slice_subset _ _)) $$ Hb
  iintro Hb
  have hV : VecOK d i pa fp ρ col ((ib.access (Rect.unit (s := S2056) offs S16.size hin)).read (Elt F) f) := by
    intro x hx y hy
    refine hf ((Rect.unit (s := S2056) offs S16.size hin).emb x) ?_ y ?_
    · rw [Rect.emb_apply]
      show lo (kindIn ρ) ≤ offs 0 + 1 * (x 0).val
      obtain ⟨-, hs, -⟩ := shift_words ρ hρ
      by_cases h0 : ρ = 0
      · subst h0
        have e1 : baseP 0 = 0 := rfl
        have e2 : sb 0 = 7 := rfl
        have e3 : lo (kindIn 0) = 8 := rfl
        omega
      · rw [lo_kindIn ρ hρ h0]; omega
    · rw [Rect.emb_apply]
      show _ = baseP ρ + (offs 0 + 1 * (x 0).val)
      omega
  iapply (hk _ hV)
  isplitl [Hb]
  · iexists f
    isplitl [Hb]; · iexact Hb
    ipureintro; exact hf
  · iexact HR

/-- A load from the row buffer. -/
theorem ldOb {α : Type} {R : sProp 𝕄} {Q : α → sProp 𝕄} (ρ b : ℕ) {offs : Fin 1 → ℕ}
    {hin : ∀ a, offs a + S16.size a ≤ S2048.size a} {hl}
    {k : (S16.Idx → Elt F .f32) → Prog (TpuEff nD τ sig (Elt F) Λ₀ (VT d i).2) α}
    (hk : ∀ v, iprop(ObP d i pa ob fp ρ b ∗ R) ⊢ wpT defs d i (k v) Q) :
    iprop(ObP d i pa ob fp ρ b ∗ R) ⊢ wpT defs d i (.op (.load ob (Rect.unit (s := S2048) offs S16.size hin).toLoadRect hl) k) Q := by
  unfold ObP at hk ⊢
  iintro ⟨⟨%f, Hb, %hf⟩, HR⟩
  iapply (wp_load_rect (m := ob) (r := Rect.unit (s := S2048) offs S16.size hin) (S := ob.view.set) (f := f)
    𝒱₀ (VT d i) none Set.univ (View.set_slice_subset _ _)) $$ Hb
  iintro Hb
  iapply (hk _)
  isplitl [Hb]
  · iexists f
    isplitl [Hb]; · iexact Hb
    ipureintro; exact hf
  · iexact HR

/-- A store into the row buffer. -/
theorem stOb {α : Type} {R : sProp 𝕄} {Q : α → sProp 𝕄} (ρ b b' : ℕ) {offs : Fin 1 → ℕ}
    {hin : ∀ a, offs a + S16.size a ≤ S2048.size a} {w : S16.Idx → Elt F .f32} {hx} {hm}
    {k : PUnit → Prog (TpuEff nD τ sig (Elt F) Λ₀ (VT d i).2) α}
    (hw : VecOK d i pa fp ρ b w) (hv : offs 0 = b) (hb : b' = b + 16)
    (hk : iprop(ObP d i pa ob fp ρ b' ∗ R) ⊢ wpT defs d i (k ⟨⟩) Q) :
    iprop(ObP d i pa ob fp ρ b ∗ R) ⊢
      wpT defs d i (.op (.store ob (Rect.unit (s := S2048) offs S16.size hin) w Finset.univ hx hm) k) Q := by
  unfold ObP at hk ⊢
  iintro ⟨⟨%f, Hb, %hf⟩, HR⟩
  iapply (wp_store (m := ob) (r := Rect.unit (s := S2048) offs S16.size hin) (S := ob.view.set) (f := f)
    𝒱₀ (VT d i) none Set.univ (View.set_slice_subset _ _)) $$ Hb
  iintro Hb
  iapply hk
  isplitl [Hb]
  · iexists _
    isplitl [Hb]; · iexact Hb
    ipureintro
    subst hb
    intro j hj hjb y hy
    by_cases hlt : (j 0).val < b
    · have hn : j ∉ Finset.univ.map (Rect.unit (s := S2048) offs S16.size hin).emb := by
        intro hm
        obtain ⟨x, -, hx⟩ := Finset.mem_map.1 hm
        have := congrArg (fun z : S2048.Idx => (z 0).val) hx
        simp only [Rect.emb_apply] at this
        change offs 0 + 1 * (x 0).val = (j 0).val at this
        omega
      exact (View.read_slice_write_of_not_mem _ _ _ _ hn).trans (hf j hj hlt y hy)
    · let x : S16.Idx := zi (n := 16) ((j 0).val - b) (by omega)
      have hx : j = (Rect.unit (s := S2048) offs S16.size hin).emb x := by
        funext a; apply Fin.ext; fin_cases a
        rw [Rect.emb_apply]
        show (j 0).val = offs 0 + 1 * ((j 0).val - b); omega
      have hxv : (x 0).val = (j 0).val - b := rfl
      rw [← hw x (by omega) y (by omega), hx]
      exact View.read_slice_write_emb _ _ _ (Finset.mem_univ _)
  · iexact HR

/-- The loop over a row's blocks. -/
theorem shiftLoop {α : Type} {R : sProp 𝕄} {Q : α → sProp 𝕄} (ρ : ℕ) (hρ : ρ < 2048) {L : Scf.Loop 32} {ok : L.OK}
    {body : Fin L.trips → PUnit → Prog (TpuEff nD τ sig (Elt F) Λ₀ (VT d i).2) PUnit}
    {k : PUnit → Prog (TpuEff nD τ sig (Elt F) Λ₀ (VT d i).2) α} (etr : L.trips = 8 - (ρ + 1) / 256)
    (hbody : ∀ n acc, iprop(InBuf d i pa ib fp ρ ∗ ObP d i pa ob fp ρ (256 * ((ρ + 1) / 256 + n.val) + 0) ∗ R) ⊢
      wpT defs d i (body n acc) (fun _ => iprop(ObP d i pa ob fp ρ (256 * ((ρ + 1) / 256 + n.val) + 256) ∗ InBuf d i pa ib fp ρ ∗ R)))
    (hk : iprop(InBuf d i pa ib fp ρ ∗ ObBuf d i pa ob fp ρ ∗ R) ⊢ wpT defs d i (k ⟨⟩) Q) :
    iprop(InBuf d i pa ib fp ρ ∗ ObAny d i ob ∗ R) ⊢ wpT defs d i (L.for ok ⟨⟩ body >>= k) Q := by
  unfold ObAny
  iintro ⟨HI, ⟨%f, HO⟩, HR⟩
  iapply (Scf.wp_for_bind frame (wpE defs 𝒱₀ (VT d i) none) Set.univ L.lb L.ub L.st ok ⟨⟩ body
    (fun n _ => iprop(ObP d i pa ob fp ρ (256 * ((ρ + 1) / 256 + n)) ∗ InBuf d i pa ib fp ρ ∗ R)) ?_) $$ [HI HO HR]
  · intro n acc
    refine sepSwap.trans ((hbody n acc).trans (wp_mono _ _ _ fun _ => ?_))
    rw [show 256 * ((ρ + 1) / 256 + n.val) + 256 = 256 * ((ρ + 1) / 256 + (n.val + 1)) by omega]
  · isplitl [HO]
    · unfold ObP
      iexists f
      isplitl [HO]; · iexact HO
      ipureintro
      intro j hj hjb
      omega
    isplitl [HI]; · iexact HI
    iexact HR
  iintro %acc ⟨HO, HI, HR⟩
  iapply hk
  isplitl [HI]; · iexact HI
  isplitl [HO]
  · have e : 256 * ((ρ + 1) / 256 + Scf.trips L.lb L.ub L.st) = 2048 := by
      have : Scf.trips L.lb L.ub L.st = 8 - (ρ + 1) / 256 := etr
      omega
    rw [e]
    unfold ObP ObBuf
    iexact HO
  iexact HR

end Cert.KernelIdeal.Packed
-- ==== Proof.Shift0.lean ====
module
public import proofs.«01_k».proof.Proof.Shift

/-!
# Slot 0: the shift

The loop that moves a row from slot 0's window to its row buffer.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part29 (k0_t1 : Fin k0_t1_loop.trips) (v698 : BitVec 32) (v716 : BitVec 32) (c1_i32_346 : BitVec 32) (k0_t2 : Fin (k0_t2_loop i k0_t1).trips)
    (ρ b : ℕ) (hρ : ρ < 2048) (hb : 256 * ((ρ + 1) / 256) ≤ b)
    (ho : ∀ c : BitVec 32, c.toNat < 256 → k0_off25 i k0_t1 k0_t2 c 0 + baseP ρ = sb ρ + (b + c.toNat))
    (R : sProp 𝕄) :
    iprop(InBuf d i arg2 arg4 fp ρ ∗ R) ⊢ wpT defs d i (k0_part29 i arg2 harg2 arg3 harg3 arg4 harg4 arg5 harg5 arg6 harg6 arg7 harg7 arg8 harg8 arg9 harg9 arg10 harg10 arg11 harg11 arg12 arg13 arg14 arg15 arg16 arg17 arg18 arg19 k0_t1 v698 v716 c1_i32_346 k0_t2)
      (fun r => iprop(⌜VecOK d i arg2 fp ρ (b + 0) r.2.1 ∧ VecOK d i arg2 fp ρ (b + 16) r.2.2.1 ∧ VecOK d i arg2 fp ρ (b + 32) r.2.2.2.1 ∧ VecOK d i arg2 fp ρ (b + 48) r.2.2.2.2.1 ∧ VecOK d i arg2 fp ρ (b + 64) r.2.2.2.2.2.1 ∧ VecOK d i arg2 fp ρ (b + 80) r.2.2.2.2.2.2.1 ∧ VecOK d i arg2 fp ρ (b + 96) r.2.2.2.2.2.2.2.1 ∧ VecOK d i arg2 fp ρ (b + 112) r.2.2.2.2.2.2.2.2.1 ∧ VecOK d i arg2 fp ρ (b + 128) r.2.2.2.2.2.2.2.2.2.1⌝ ∗ InBuf d i arg2 arg4 fp ρ ∗ R)) := by
  unfold k0_part29
  refine ldIn defs d i arg2 arg4 fp ρ (b + (0#32 : BitVec 32).toNat) hρ (ho 0#32 (by decide)) (le_trans hb (Nat.le_add_right _ _)) fun w0 h0 => ?_
  refine ldIn defs d i arg2 arg4 fp ρ (b + (16#32 : BitVec 32).toNat) hρ (ho 16#32 (by decide)) (le_trans hb (Nat.le_add_right _ _)) fun w1 h1 => ?_
  refine ldIn defs d i arg2 arg4 fp ρ (b + (32#32 : BitVec 32).toNat) hρ (ho 32#32 (by decide)) (le_trans hb (Nat.le_add_right _ _)) fun w2 h2 => ?_
  refine ldIn defs d i arg2 arg4 fp ρ (b + (48#32 : BitVec 32).toNat) hρ (ho 48#32 (by decide)) (le_trans hb (Nat.le_add_right _ _)) fun w3 h3 => ?_
  refine ldIn defs d i arg2 arg4 fp ρ (b + (64#32 : BitVec 32).toNat) hρ (ho 64#32 (by decide)) (le_trans hb (Nat.le_add_right _ _)) fun w4 h4 => ?_
  refine ldIn defs d i arg2 arg4 fp ρ (b + (80#32 : BitVec 32).toNat) hρ (ho 80#32 (by decide)) (le_trans hb (Nat.le_add_right _ _)) fun w5 h5 => ?_
  refine ldIn defs d i arg2 arg4 fp ρ (b + (96#32 : BitVec 32).toNat) hρ (ho 96#32 (by decide)) (le_trans hb (Nat.le_add_right _ _)) fun w6 h6 => ?_
  refine ldIn defs d i arg2 arg4 fp ρ (b + (112#32 : BitVec 32).toNat) hρ (ho 112#32 (by decide)) (le_trans hb (Nat.le_add_right _ _)) fun w7 h7 => ?_
  refine ldIn defs d i arg2 arg4 fp ρ (b + (128#32 : BitVec 32).toNat) hρ (ho 128#32 (by decide)) (le_trans hb (Nat.le_add_right _ _)) fun w8 h8 => ?_
  exact retP defs d i ⟨h0.cast, h1.cast, h2.cast, h3.cast, h4.cast, h5.cast, h6.cast, h7.cast, h8.cast⟩

theorem part30 (k0_t1 : Fin k0_t1_loop.trips) (v698 : BitVec 32) (k0_t2 : Fin (k0_t2_loop i k0_t1).trips) (v1529 : BitVec 32) (v1534 : FVec F S16 .f32) (v1539 : FVec F S16 .f32) (v1544 : FVec F S16 .f32) (v1576 : BitVec 32)
    (ρ b : ℕ) (hρ : ρ < 2048) (hb : 256 * ((ρ + 1) / 256) ≤ b)
    (ho : ∀ c : BitVec 32, c.toNat < 256 → k0_off25 i k0_t1 k0_t2 c 0 + baseP ρ = sb ρ + (b + c.toNat))
    (ho2 : ∀ c : BitVec 32, c.toNat < 256 → k0_off26 i k0_t1 k0_t2 c 0 = b + c.toNat)
    (g0 : VecOK d i arg2 fp ρ (b + 0) v1534) (g1 : VecOK d i arg2 fp ρ (b + 16) v1539) (g2 : VecOK d i arg2 fp ρ (b + 32) v1544)
    (R : sProp 𝕄) :
    iprop(InBuf d i arg2 arg4 fp ρ ∗ ObP d i arg2 arg8 fp ρ (b + 0) ∗ R) ⊢ wpT defs d i (k0_part30 i arg2 harg2 arg3 harg3 arg4 harg4 arg5 harg5 arg6 harg6 arg7 harg7 arg8 harg8 arg9 harg9 arg10 harg10 arg11 harg11 arg12 arg13 arg14 arg15 arg16 arg17 arg18 arg19 k0_t1 v698 k0_t2 v1529 v1534 v1539 v1544 v1576)
      (fun r => iprop(⌜VecOK d i arg2 fp ρ (b + 144) r.1 ∧ VecOK d i arg2 fp ρ (b + 160) r.2.1 ∧ VecOK d i arg2 fp ρ (b + 176) r.2.2.1 ∧ VecOK d i arg2 fp ρ (b + 192) r.2.2.2.1 ∧ VecOK d i arg2 fp ρ (b + 208) r.2.2.2.2.1 ∧ VecOK d i arg2 fp ρ (b + 224) r.2.2.2.2.2.1 ∧ VecOK d i arg2 fp ρ (b + 240) r.2.2.2.2.2.2⌝ ∗ ObP d i arg2 arg8 fp ρ (b + 48) ∗ InBuf d i arg2 arg4 fp ρ ∗ R)) := by
  unfold k0_part30
  refine ldIn defs d i arg2 arg4 fp ρ (b + (144#32 : BitVec 32).toNat) hρ (ho 144#32 (by decide)) (le_trans hb (Nat.le_add_right _ _)) fun w9 h9 => ?_
  refine ldIn defs d i arg2 arg4 fp ρ (b + (160#32 : BitVec 32).toNat) hρ (ho 160#32 (by decide)) (le_trans hb (Nat.le_add_right _ _)) fun w10 h10 => ?_
  refine ldIn defs d i arg2 arg4 fp ρ (b + (176#32 : BitVec 32).toNat) hρ (ho 176#32 (by decide)) (le_trans hb (Nat.le_add_right _ _)) fun w11 h11 => ?_
  refine ldIn defs d i arg2 arg4 fp ρ (b + (192#32 : BitVec 32).toNat) hρ (ho 192#32 (by decide)) (le_trans hb (Nat.le_add_right _ _)) fun w12 h12 => ?_
  refine ldIn defs d i arg2 arg4 fp ρ (b + (208#32 : BitVec 32).toNat) hρ (ho 208#32 (by decide)) (le_trans hb (Nat.le_add_right _ _)) fun w13 h13 => ?_
  refine ldIn defs d i arg2 arg4 fp ρ (b + (224#32 : BitVec 32).toNat) hρ (ho 224#32 (by decide)) (le_trans hb (Nat.le_add_right _ _)) fun w14 h14 => ?_
  refine ldIn defs d i arg2 arg4 fp ρ (b + (240#32 : BitVec 32).toNat) hρ (ho 240#32 (by decide)) (le_trans hb (Nat.le_add_right _ _)) fun w15 h15 => ?_
  refine sepSwap.trans ?_
  refine ldOb defs d i arg2 arg8 fp ρ (b + 0) fun _ => ?_
  refine stOb defs d i arg2 arg8 fp ρ (b + 0) (b + 16) g0.cast (ho2 0#32 (by decide)) rfl ?_
  refine ldOb defs d i arg2 arg8 fp ρ (b + 16) fun _ => ?_
  refine stOb defs d i arg2 arg8 fp ρ (b + 16) (b + 32) g1.cast (ho2 16#32 (by decide)) rfl ?_
  refine ldOb defs d i arg2 arg8 fp ρ (b + 32) fun _ => ?_
  refine stOb defs d i arg2 arg8 fp ρ (b + 32) (b + 48) g2.cast (ho2 32#32 (by decide)) rfl ?_
  exact retP defs d i ⟨h9.cast, h10.cast, h11.cast, h12.cast, h13.cast, h14.cast, h15.cast⟩

theorem part31 (k0_t1 : Fin k0_t1_loop.trips) (k0_t2 : Fin (k0_t2_loop i k0_t1).trips) (v1529 : BitVec 32) (v1549 : FVec F S16 .f32) (v1554 : FVec F S16 .f32) (v1559 : FVec F S16 .f32) (v1564 : FVec F S16 .f32) (v1569 : FVec F S16 .f32) (v1574 : FVec F S16 .f32) (v1579 : FVec F S16 .f32) (v1584 : FVec F S16 .f32)
    (ρ b : ℕ)
    (ho2 : ∀ c : BitVec 32, c.toNat < 256 → k0_off26 i k0_t1 k0_t2 c 0 = b + c.toNat)
    (g3 : VecOK d i arg2 fp ρ (b + 48) v1549) (g4 : VecOK d i arg2 fp ρ (b + 64) v1554) (g5 : VecOK d i arg2 fp ρ (b + 80) v1559) (g6 : VecOK d i arg2 fp ρ (b + 96) v1564) (g7 : VecOK d i arg2 fp ρ (b + 112) v1569) (g8 : VecOK d i arg2 fp ρ (b + 128) v1574) (g9 : VecOK d i arg2 fp ρ (b + 144) v1579) (g10 : VecOK d i arg2 fp ρ (b + 160) v1584)
    (R : sProp 𝕄) :
    iprop(ObP d i arg2 arg8 fp ρ (b + 48) ∗ R) ⊢ wpT defs d i (k0_part31 i arg2 harg2 arg3 harg3 arg4 harg4 arg5 harg5 arg6 harg6 arg7 harg7 arg8 harg8 arg9 harg9 arg10 harg10 arg11 harg11 arg12 arg13 arg14 arg15 arg16 arg17 arg18 arg19 k0_t1 k0_t2 v1529 v1549 v1554 v1559 v1564 v1569 v1574 v1579 v1584)
      (fun _ => iprop(ObP d i arg2 arg8 fp ρ (b + 176) ∗ R)) := by
  unfold k0_part31
  refine ldOb defs d i arg2 arg8 fp ρ (b + 48) fun _ => ?_
  refine stOb defs d i arg2 arg8 fp ρ (b + 48) (b + 64) g3.cast (ho2 48#32 (by decide)) rfl ?_
  refine ldOb defs d i arg2 arg8 fp ρ (b + 64) fun _ => ?_
  refine stOb defs d i arg2 arg8 fp ρ (b + 64) (b + 80) g4.cast (ho2 64#32 (by decide)) rfl ?_
  refine ldOb defs d i arg2 arg8 fp ρ (b + 80) fun _ => ?_
  refine stOb defs d i arg2 arg8 fp ρ (b + 80) (b + 96) g5.cast (ho2 80#32 (by decide)) rfl ?_
  refine ldOb defs d i arg2 arg8 fp ρ (b + 96) fun _ => ?_
  refine stOb defs d i arg2 arg8 fp ρ (b + 96) (b + 112) g6.cast (ho2 96#32 (by decide)) rfl ?_
  refine ldOb defs d i arg2 arg8 fp ρ (b + 112) fun _ => ?_
  refine stOb defs d i arg2 arg8 fp ρ (b + 112) (b + 128) g7.cast (ho2 112#32 (by decide)) rfl ?_
  refine ldOb defs d i arg2 arg8 fp ρ (b + 128) fun _ => ?_
  refine stOb defs d i arg2 arg8 fp ρ (b + 128) (b + 144) g8.cast (ho2 128#32 (by decide)) rfl ?_
  refine ldOb defs d i arg2 arg8 fp ρ (b + 144) fun _ => ?_
  refine stOb defs d i arg2 arg8 fp ρ (b + 144) (b + 160) g9.cast (ho2 144#32 (by decide)) rfl ?_
  refine ldOb defs d i arg2 arg8 fp ρ (b + 160) fun _ => ?_
  refine stOb defs d i arg2 arg8 fp ρ (b + 160) (b + 176) g10.cast (ho2 160#32 (by decide)) rfl ?_
  refine ldOb defs d i arg2 arg8 fp ρ (b + 176) fun _ => ?_
  exact retS defs d i

/-- The whole shift of row `ρ`. -/
theorem part121 (v1 : BitVec 32) (k0_t1 : Fin k0_t1_loop.trips) (v558 : BitVec 32) (v698 : BitVec 32) (v699 : BitVec 32) (c256_i32 : BitVec 32) (v700 : BitVec 32) (v705 : BitVec 32) (v710 : BitVec 32) (ρ : ℕ) (hρ : ρ < 2048) (hW : rowW i (tW k0_t1 0#32) = BitVec.ofNat 32 ρ) (R : sProp 𝕄) :
    iprop(InBuf d i arg2 arg4 fp ρ ∗ ObAny d i arg8 ∗ R) ⊢ wpT defs d i (k0_part121 i arg2 harg2 arg3 harg3 arg4 harg4 arg5 harg5 arg6 harg6 arg7 harg7 arg8 harg8 arg9 harg9 arg10 harg10 arg11 harg11 arg12 arg13 arg14 arg15 arg16 arg17 arg18 arg19 v1 k0_t1 v558 v698 v699 c256_i32 v700 v705 v710)
      (fun _ => iprop(InBuf d i arg2 arg4 fp ρ ∗ ObBuf d i arg2 arg8 fp ρ ∗ R)) := by
  unfold k0_part121
  have etr : (k0_t2_loop i k0_t1).trips = 8 - (ρ + 1) / 256 := by
    rw [← (shiftL_trips ρ hρ).1, ← hW]; rfl
  have etr' : (k0_t3_loop i k0_t1).trips = 0 := by
    rw [← (shiftL_trips ρ hρ).2, ← hW]; rfl
  have o1 : ∀ (n : Fin (k0_t2_loop i k0_t1).trips) (c : BitVec 32), c.toNat < 256 →
      k0_off25 i k0_t1 n c 0 + baseP ρ = sb ρ + (256 * ((ρ + 1) / 256 + n.val) + c.toNat) := by
    intro n c hc
    rw [← (shift_off ρ hρ n.val (etr ▸ n.isLt) c hc).1, ← hW]; rfl
  have o2 : ∀ (n : Fin (k0_t2_loop i k0_t1).trips) (c : BitVec 32), c.toNat < 256 →
      k0_off26 i k0_t1 n c 0 = 256 * ((ρ + 1) / 256 + n.val) + c.toNat := by
    intro n c hc
    rw [← (shift_off ρ hρ n.val (etr ▸ n.isLt) c hc).2, ← hW]; rfl
  refine shiftLoop defs d i arg2 arg4 arg8 fp ρ hρ etr ?_ ?_
  · intro n acc
    refine bindS defs d i (part29 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ _ _ n ρ (256 * ((ρ + 1) / 256 + n.val)) hρ (by omega) (o1 n) _) fun r => ?_
    refine pureL fun ⟨g0, g1, g2, g3, g4, g5, g6, g7, g8⟩ => ?_
    refine bindS defs d i (part30 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ n _ _ _ _ _ ρ (256 * ((ρ + 1) / 256 + n.val)) hρ (by omega) (o1 n) (o2 n) g0 g1 g2 _) fun r' => ?_
    refine pureL fun ⟨g9, g10, g11, g12, g13, g14, g15⟩ => ?_
    refine bindS defs d i (part31 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 n _ _ _ _ _ _ _ _ _ ρ (256 * ((ρ + 1) / 256 + n.val)) (o2 n) g3 g4 g5 g6 g7 g8 g9 g10 _) fun r'' => ?_
    refine stOb defs d i arg2 arg8 fp ρ _ (256 * ((ρ + 1) / 256 + n.val) + 192) g11.cast (o2 n 176#32 (by decide)) rfl ?_
    refine ldOb defs d i arg2 arg8 fp ρ (256 * ((ρ + 1) / 256 + n.val) + 192) fun _ => ?_
    refine stOb defs d i arg2 arg8 fp ρ (256 * ((ρ + 1) / 256 + n.val) + 192) (256 * ((ρ + 1) / 256 + n.val) + 208) g12.cast (o2 n 192#32 (by decide)) rfl ?_
    refine ldOb defs d i arg2 arg8 fp ρ (256 * ((ρ + 1) / 256 + n.val) + 208) fun _ => ?_
    refine stOb defs d i arg2 arg8 fp ρ (256 * ((ρ + 1) / 256 + n.val) + 208) (256 * ((ρ + 1) / 256 + n.val) + 224) g13.cast (o2 n 208#32 (by decide)) rfl ?_
    refine ldOb defs d i arg2 arg8 fp ρ (256 * ((ρ + 1) / 256 + n.val) + 224) fun _ => ?_
    refine stOb defs d i arg2 arg8 fp ρ (256 * ((ρ + 1) / 256 + n.val) + 224) (256 * ((ρ + 1) / 256 + n.val) + 240) g14.cast (o2 n 224#32 (by decide)) rfl ?_
    refine ldOb defs d i arg2 arg8 fp ρ (256 * ((ρ + 1) / 256 + n.val) + 240) fun _ => ?_
    refine stOb defs d i arg2 arg8 fp ρ (256 * ((ρ + 1) / 256 + n.val) + 240) (256 * ((ρ + 1) / 256 + n.val) + 256) g15.cast (o2 n 240#32 (by decide)) rfl ?_
    exact retS defs d i
  · refine zeroLoop defs d i etr' ?_
    exact retS defs d i

end Cert.KernelIdeal.Packed
-- ==== Proof.Shift1.lean ====
module
public import proofs.«01_k».proof.Proof.Shift

/-!
# Slot 1: the shift

The loop that moves a row from slot 1's window to its row buffer.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part55 (k0_t1 : Fin k0_t1_loop.trips) (v941 : BitVec 32) (v959 : BitVec 32) (c1_i32_469 : BitVec 32) (k0_t4 : Fin (k0_t4_loop i k0_t1).trips)
    (ρ b : ℕ) (hρ : ρ < 2048) (hb : 256 * ((ρ + 1) / 256) ≤ b)
    (ho : ∀ c : BitVec 32, c.toNat < 256 → k0_off45 i k0_t1 k0_t4 c 0 + baseP ρ = sb ρ + (b + c.toNat))
    (R : sProp 𝕄) :
    iprop(InBuf d i arg2 arg5 fp ρ ∗ R) ⊢ wpT defs d i (k0_part55 i arg2 harg2 arg3 harg3 arg4 harg4 arg5 harg5 arg6 harg6 arg7 harg7 arg8 harg8 arg9 harg9 arg10 harg10 arg11 harg11 arg12 arg13 arg14 arg15 arg16 arg17 arg18 arg19 k0_t1 v941 v959 c1_i32_469 k0_t4)
      (fun r => iprop(⌜VecOK d i arg2 fp ρ (b + 0) r.2.1 ∧ VecOK d i arg2 fp ρ (b + 16) r.2.2.1 ∧ VecOK d i arg2 fp ρ (b + 32) r.2.2.2.1 ∧ VecOK d i arg2 fp ρ (b + 48) r.2.2.2.2.1 ∧ VecOK d i arg2 fp ρ (b + 64) r.2.2.2.2.2.1 ∧ VecOK d i arg2 fp ρ (b + 80) r.2.2.2.2.2.2.1 ∧ VecOK d i arg2 fp ρ (b + 96) r.2.2.2.2.2.2.2.1 ∧ VecOK d i arg2 fp ρ (b + 112) r.2.2.2.2.2.2.2.2.1 ∧ VecOK d i arg2 fp ρ (b + 128) r.2.2.2.2.2.2.2.2.2.1⌝ ∗ InBuf d i arg2 arg5 fp ρ ∗ R)) := by
  unfold k0_part55
  refine ldIn defs d i arg2 arg5 fp ρ (b + (0#32 : BitVec 32).toNat) hρ (ho 0#32 (by decide)) (le_trans hb (Nat.le_add_right _ _)) fun w0 h0 => ?_
  refine ldIn defs d i arg2 arg5 fp ρ (b + (16#32 : BitVec 32).toNat) hρ (ho 16#32 (by decide)) (le_trans hb (Nat.le_add_right _ _)) fun w1 h1 => ?_
  refine ldIn defs d i arg2 arg5 fp ρ (b + (32#32 : BitVec 32).toNat) hρ (ho 32#32 (by decide)) (le_trans hb (Nat.le_add_right _ _)) fun w2 h2 => ?_
  refine ldIn defs d i arg2 arg5 fp ρ (b + (48#32 : BitVec 32).toNat) hρ (ho 48#32 (by decide)) (le_trans hb (Nat.le_add_right _ _)) fun w3 h3 => ?_
  refine ldIn defs d i arg2 arg5 fp ρ (b + (64#32 : BitVec 32).toNat) hρ (ho 64#32 (by decide)) (le_trans hb (Nat.le_add_right _ _)) fun w4 h4 => ?_
  refine ldIn defs d i arg2 arg5 fp ρ (b + (80#32 : BitVec 32).toNat) hρ (ho 80#32 (by decide)) (le_trans hb (Nat.le_add_right _ _)) fun w5 h5 => ?_
  refine ldIn defs d i arg2 arg5 fp ρ (b + (96#32 : BitVec 32).toNat) hρ (ho 96#32 (by decide)) (le_trans hb (Nat.le_add_right _ _)) fun w6 h6 => ?_
  refine ldIn defs d i arg2 arg5 fp ρ (b + (112#32 : BitVec 32).toNat) hρ (ho 112#32 (by decide)) (le_trans hb (Nat.le_add_right _ _)) fun w7 h7 => ?_
  refine ldIn defs d i arg2 arg5 fp ρ (b + (128#32 : BitVec 32).toNat) hρ (ho 128#32 (by decide)) (le_trans hb (Nat.le_add_right _ _)) fun w8 h8 => ?_
  exact retP defs d i ⟨h0.cast, h1.cast, h2.cast, h3.cast, h4.cast, h5.cast, h6.cast, h7.cast, h8.cast⟩

theorem part56 (k0_t1 : Fin k0_t1_loop.trips) (v941 : BitVec 32) (k0_t4 : Fin (k0_t4_loop i k0_t1).trips) (v1529 : BitVec 32) (v1534 : FVec F S16 .f32) (v1539 : FVec F S16 .f32) (v1544 : FVec F S16 .f32) (v1576 : BitVec 32)
    (ρ b : ℕ) (hρ : ρ < 2048) (hb : 256 * ((ρ + 1) / 256) ≤ b)
    (ho : ∀ c : BitVec 32, c.toNat < 256 → k0_off45 i k0_t1 k0_t4 c 0 + baseP ρ = sb ρ + (b + c.toNat))
    (ho2 : ∀ c : BitVec 32, c.toNat < 256 → k0_off46 i k0_t1 k0_t4 c 0 = b + c.toNat)
    (g0 : VecOK d i arg2 fp ρ (b + 0) v1534) (g1 : VecOK d i arg2 fp ρ (b + 16) v1539) (g2 : VecOK d i arg2 fp ρ (b + 32) v1544)
    (R : sProp 𝕄) :
    iprop(InBuf d i arg2 arg5 fp ρ ∗ ObP d i arg2 arg9 fp ρ (b + 0) ∗ R) ⊢ wpT defs d i (k0_part56 i arg2 harg2 arg3 harg3 arg4 harg4 arg5 harg5 arg6 harg6 arg7 harg7 arg8 harg8 arg9 harg9 arg10 harg10 arg11 harg11 arg12 arg13 arg14 arg15 arg16 arg17 arg18 arg19 k0_t1 v941 k0_t4 v1529 v1534 v1539 v1544 v1576)
      (fun r => iprop(⌜VecOK d i arg2 fp ρ (b + 144) r.1 ∧ VecOK d i arg2 fp ρ (b + 160) r.2.1 ∧ VecOK d i arg2 fp ρ (b + 176) r.2.2.1 ∧ VecOK d i arg2 fp ρ (b + 192) r.2.2.2.1 ∧ VecOK d i arg2 fp ρ (b + 208) r.2.2.2.2.1 ∧ VecOK d i arg2 fp ρ (b + 224) r.2.2.2.2.2.1 ∧ VecOK d i arg2 fp ρ (b + 240) r.2.2.2.2.2.2⌝ ∗ ObP d i arg2 arg9 fp ρ (b + 48) ∗ InBuf d i arg2 arg5 fp ρ ∗ R)) := by
  unfold k0_part56
  refine ldIn defs d i arg2 arg5 fp ρ (b + (144#32 : BitVec 32).toNat) hρ (ho 144#32 (by decide)) (le_trans hb (Nat.le_add_right _ _)) fun w9 h9 => ?_
  refine ldIn defs d i arg2 arg5 fp ρ (b + (160#32 : BitVec 32).toNat) hρ (ho 160#32 (by decide)) (le_trans hb (Nat.le_add_right _ _)) fun w10 h10 => ?_
  refine ldIn defs d i arg2 arg5 fp ρ (b + (176#32 : BitVec 32).toNat) hρ (ho 176#32 (by decide)) (le_trans hb (Nat.le_add_right _ _)) fun w11 h11 => ?_
  refine ldIn defs d i arg2 arg5 fp ρ (b + (192#32 : BitVec 32).toNat) hρ (ho 192#32 (by decide)) (le_trans hb (Nat.le_add_right _ _)) fun w12 h12 => ?_
  refine ldIn defs d i arg2 arg5 fp ρ (b + (208#32 : BitVec 32).toNat) hρ (ho 208#32 (by decide)) (le_trans hb (Nat.le_add_right _ _)) fun w13 h13 => ?_
  refine ldIn defs d i arg2 arg5 fp ρ (b + (224#32 : BitVec 32).toNat) hρ (ho 224#32 (by decide)) (le_trans hb (Nat.le_add_right _ _)) fun w14 h14 => ?_
  refine ldIn defs d i arg2 arg5 fp ρ (b + (240#32 : BitVec 32).toNat) hρ (ho 240#32 (by decide)) (le_trans hb (Nat.le_add_right _ _)) fun w15 h15 => ?_
  refine sepSwap.trans ?_
  refine ldOb defs d i arg2 arg9 fp ρ (b + 0) fun _ => ?_
  refine stOb defs d i arg2 arg9 fp ρ (b + 0) (b + 16) g0.cast (ho2 0#32 (by decide)) rfl ?_
  refine ldOb defs d i arg2 arg9 fp ρ (b + 16) fun _ => ?_
  refine stOb defs d i arg2 arg9 fp ρ (b + 16) (b + 32) g1.cast (ho2 16#32 (by decide)) rfl ?_
  refine ldOb defs d i arg2 arg9 fp ρ (b + 32) fun _ => ?_
  refine stOb defs d i arg2 arg9 fp ρ (b + 32) (b + 48) g2.cast (ho2 32#32 (by decide)) rfl ?_
  exact retP defs d i ⟨h9.cast, h10.cast, h11.cast, h12.cast, h13.cast, h14.cast, h15.cast⟩

theorem part57 (k0_t1 : Fin k0_t1_loop.trips) (k0_t4 : Fin (k0_t4_loop i k0_t1).trips) (v1529 : BitVec 32) (v1549 : FVec F S16 .f32) (v1554 : FVec F S16 .f32) (v1559 : FVec F S16 .f32) (v1564 : FVec F S16 .f32) (v1569 : FVec F S16 .f32) (v1574 : FVec F S16 .f32) (v1579 : FVec F S16 .f32) (v1584 : FVec F S16 .f32)
    (ρ b : ℕ)
    (ho2 : ∀ c : BitVec 32, c.toNat < 256 → k0_off46 i k0_t1 k0_t4 c 0 = b + c.toNat)
    (g3 : VecOK d i arg2 fp ρ (b + 48) v1549) (g4 : VecOK d i arg2 fp ρ (b + 64) v1554) (g5 : VecOK d i arg2 fp ρ (b + 80) v1559) (g6 : VecOK d i arg2 fp ρ (b + 96) v1564) (g7 : VecOK d i arg2 fp ρ (b + 112) v1569) (g8 : VecOK d i arg2 fp ρ (b + 128) v1574) (g9 : VecOK d i arg2 fp ρ (b + 144) v1579) (g10 : VecOK d i arg2 fp ρ (b + 160) v1584)
    (R : sProp 𝕄) :
    iprop(ObP d i arg2 arg9 fp ρ (b + 48) ∗ R) ⊢ wpT defs d i (k0_part57 i arg2 harg2 arg3 harg3 arg4 harg4 arg5 harg5 arg6 harg6 arg7 harg7 arg8 harg8 arg9 harg9 arg10 harg10 arg11 harg11 arg12 arg13 arg14 arg15 arg16 arg17 arg18 arg19 k0_t1 k0_t4 v1529 v1549 v1554 v1559 v1564 v1569 v1574 v1579 v1584)
      (fun _ => iprop(ObP d i arg2 arg9 fp ρ (b + 176) ∗ R)) := by
  unfold k0_part57
  refine ldOb defs d i arg2 arg9 fp ρ (b + 48) fun _ => ?_
  refine stOb defs d i arg2 arg9 fp ρ (b + 48) (b + 64) g3.cast (ho2 48#32 (by decide)) rfl ?_
  refine ldOb defs d i arg2 arg9 fp ρ (b + 64) fun _ => ?_
  refine stOb defs d i arg2 arg9 fp ρ (b + 64) (b + 80) g4.cast (ho2 64#32 (by decide)) rfl ?_
  refine ldOb defs d i arg2 arg9 fp ρ (b + 80) fun _ => ?_
  refine stOb defs d i arg2 arg9 fp ρ (b + 80) (b + 96) g5.cast (ho2 80#32 (by decide)) rfl ?_
  refine ldOb defs d i arg2 arg9 fp ρ (b + 96) fun _ => ?_
  refine stOb defs d i arg2 arg9 fp ρ (b + 96) (b + 112) g6.cast (ho2 96#32 (by decide)) rfl ?_
  refine ldOb defs d i arg2 arg9 fp ρ (b + 112) fun _ => ?_
  refine stOb defs d i arg2 arg9 fp ρ (b + 112) (b + 128) g7.cast (ho2 112#32 (by decide)) rfl ?_
  refine ldOb defs d i arg2 arg9 fp ρ (b + 128) fun _ => ?_
  refine stOb defs d i arg2 arg9 fp ρ (b + 128) (b + 144) g8.cast (ho2 128#32 (by decide)) rfl ?_
  refine ldOb defs d i arg2 arg9 fp ρ (b + 144) fun _ => ?_
  refine stOb defs d i arg2 arg9 fp ρ (b + 144) (b + 160) g9.cast (ho2 144#32 (by decide)) rfl ?_
  refine ldOb defs d i arg2 arg9 fp ρ (b + 160) fun _ => ?_
  refine stOb defs d i arg2 arg9 fp ρ (b + 160) (b + 176) g10.cast (ho2 160#32 (by decide)) rfl ?_
  refine ldOb defs d i arg2 arg9 fp ρ (b + 176) fun _ => ?_
  exact retS defs d i

/-- The whole shift of row `ρ`. -/
theorem part127 (v1 : BitVec 32) (k0_t1 : Fin k0_t1_loop.trips) (v801 : BitVec 32) (v894 : BitVec 32) (v939 : BitVec 1) (v940 : BitVec 32) (c7_i32_457 : BitVec 32) (ρ : ℕ) (hρ : ρ < 2048) (hW : rowW i (tW k0_t1 1#32) = BitVec.ofNat 32 ρ) (R : sProp 𝕄) :
    iprop(InBuf d i arg2 arg5 fp ρ ∗ ObAny d i arg9 ∗ R) ⊢ wpT defs d i (k0_part127 i arg2 harg2 arg3 harg3 arg4 harg4 arg5 harg5 arg6 harg6 arg7 harg7 arg8 harg8 arg9 harg9 arg10 harg10 arg11 harg11 arg12 arg13 arg14 arg15 arg16 arg17 arg18 arg19 v1 k0_t1 v801 v894 v939 v940 c7_i32_457)
      (fun _ => iprop(InBuf d i arg2 arg5 fp ρ ∗ ObBuf d i arg2 arg9 fp ρ ∗ R)) := by
  unfold k0_part127
  have etr : (k0_t4_loop i k0_t1).trips = 8 - (ρ + 1) / 256 := by
    rw [← (shiftL_trips ρ hρ).1, ← hW]; rfl
  have etr' : (k0_t5_loop i k0_t1).trips = 0 := by
    rw [← (shiftL_trips ρ hρ).2, ← hW]; rfl
  have o1 : ∀ (n : Fin (k0_t4_loop i k0_t1).trips) (c : BitVec 32), c.toNat < 256 →
      k0_off45 i k0_t1 n c 0 + baseP ρ = sb ρ + (256 * ((ρ + 1) / 256 + n.val) + c.toNat) := by
    intro n c hc
    rw [← (shift_off ρ hρ n.val (etr ▸ n.isLt) c hc).1, ← hW]; rfl
  have o2 : ∀ (n : Fin (k0_t4_loop i k0_t1).trips) (c : BitVec 32), c.toNat < 256 →
      k0_off46 i k0_t1 n c 0 = 256 * ((ρ + 1) / 256 + n.val) + c.toNat := by
    intro n c hc
    rw [← (shift_off ρ hρ n.val (etr ▸ n.isLt) c hc).2, ← hW]; rfl
  refine shiftLoop defs d i arg2 arg5 arg9 fp ρ hρ etr ?_ ?_
  · intro n acc
    refine bindS defs d i (part55 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ _ _ n ρ (256 * ((ρ + 1) / 256 + n.val)) hρ (by omega) (o1 n) _) fun r => ?_
    refine pureL fun ⟨g0, g1, g2, g3, g4, g5, g6, g7, g8⟩ => ?_
    refine bindS defs d i (part56 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ n _ _ _ _ _ ρ (256 * ((ρ + 1) / 256 + n.val)) hρ (by omega) (o1 n) (o2 n) g0 g1 g2 _) fun r' => ?_
    refine pureL fun ⟨g9, g10, g11, g12, g13, g14, g15⟩ => ?_
    refine bindS defs d i (part57 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 n _ _ _ _ _ _ _ _ _ ρ (256 * ((ρ + 1) / 256 + n.val)) (o2 n) g3 g4 g5 g6 g7 g8 g9 g10 _) fun r'' => ?_
    refine stOb defs d i arg2 arg9 fp ρ _ (256 * ((ρ + 1) / 256 + n.val) + 192) g11.cast (o2 n 176#32 (by decide)) rfl ?_
    refine ldOb defs d i arg2 arg9 fp ρ (256 * ((ρ + 1) / 256 + n.val) + 192) fun _ => ?_
    refine stOb defs d i arg2 arg9 fp ρ (256 * ((ρ + 1) / 256 + n.val) + 192) (256 * ((ρ + 1) / 256 + n.val) + 208) g12.cast (o2 n 192#32 (by decide)) rfl ?_
    refine ldOb defs d i arg2 arg9 fp ρ (256 * ((ρ + 1) / 256 + n.val) + 208) fun _ => ?_
    refine stOb defs d i arg2 arg9 fp ρ (256 * ((ρ + 1) / 256 + n.val) + 208) (256 * ((ρ + 1) / 256 + n.val) + 224) g13.cast (o2 n 208#32 (by decide)) rfl ?_
    refine ldOb defs d i arg2 arg9 fp ρ (256 * ((ρ + 1) / 256 + n.val) + 224) fun _ => ?_
    refine stOb defs d i arg2 arg9 fp ρ (256 * ((ρ + 1) / 256 + n.val) + 224) (256 * ((ρ + 1) / 256 + n.val) + 240) g14.cast (o2 n 224#32 (by decide)) rfl ?_
    refine ldOb defs d i arg2 arg9 fp ρ (256 * ((ρ + 1) / 256 + n.val) + 240) fun _ => ?_
    refine stOb defs d i arg2 arg9 fp ρ (256 * ((ρ + 1) / 256 + n.val) + 240) (256 * ((ρ + 1) / 256 + n.val) + 256) g15.cast (o2 n 240#32 (by decide)) rfl ?_
    exact retS defs d i
  · refine zeroLoop defs d i etr' ?_
    exact retS defs d i

end Cert.KernelIdeal.Packed
-- ==== Proof.Shift2.lean ====
module
public import proofs.«01_k».proof.Proof.Shift

/-!
# Slot 2: the shift

The loop that moves a row from slot 2's window to its row buffer.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part81 (k0_t1 : Fin k0_t1_loop.trips) (v1184 : BitVec 32) (v1202 : BitVec 32) (c1_i32_592 : BitVec 32) (k0_t6 : Fin (k0_t6_loop i k0_t1).trips)
    (ρ b : ℕ) (hρ : ρ < 2048) (hb : 256 * ((ρ + 1) / 256) ≤ b)
    (ho : ∀ c : BitVec 32, c.toNat < 256 → k0_off65 i k0_t1 k0_t6 c 0 + baseP ρ = sb ρ + (b + c.toNat))
    (R : sProp 𝕄) :
    iprop(InBuf d i arg2 arg6 fp ρ ∗ R) ⊢ wpT defs d i (k0_part81 i arg2 harg2 arg3 harg3 arg4 harg4 arg5 harg5 arg6 harg6 arg7 harg7 arg8 harg8 arg9 harg9 arg10 harg10 arg11 harg11 arg12 arg13 arg14 arg15 arg16 arg17 arg18 arg19 k0_t1 v1184 v1202 c1_i32_592 k0_t6)
      (fun r => iprop(⌜VecOK d i arg2 fp ρ (b + 0) r.2.1 ∧ VecOK d i arg2 fp ρ (b + 16) r.2.2.1 ∧ VecOK d i arg2 fp ρ (b + 32) r.2.2.2.1 ∧ VecOK d i arg2 fp ρ (b + 48) r.2.2.2.2.1 ∧ VecOK d i arg2 fp ρ (b + 64) r.2.2.2.2.2.1 ∧ VecOK d i arg2 fp ρ (b + 80) r.2.2.2.2.2.2.1 ∧ VecOK d i arg2 fp ρ (b + 96) r.2.2.2.2.2.2.2.1 ∧ VecOK d i arg2 fp ρ (b + 112) r.2.2.2.2.2.2.2.2.1 ∧ VecOK d i arg2 fp ρ (b + 128) r.2.2.2.2.2.2.2.2.2.1⌝ ∗ InBuf d i arg2 arg6 fp ρ ∗ R)) := by
  unfold k0_part81
  refine ldIn defs d i arg2 arg6 fp ρ (b + (0#32 : BitVec 32).toNat) hρ (ho 0#32 (by decide)) (le_trans hb (Nat.le_add_right _ _)) fun w0 h0 => ?_
  refine ldIn defs d i arg2 arg6 fp ρ (b + (16#32 : BitVec 32).toNat) hρ (ho 16#32 (by decide)) (le_trans hb (Nat.le_add_right _ _)) fun w1 h1 => ?_
  refine ldIn defs d i arg2 arg6 fp ρ (b + (32#32 : BitVec 32).toNat) hρ (ho 32#32 (by decide)) (le_trans hb (Nat.le_add_right _ _)) fun w2 h2 => ?_
  refine ldIn defs d i arg2 arg6 fp ρ (b + (48#32 : BitVec 32).toNat) hρ (ho 48#32 (by decide)) (le_trans hb (Nat.le_add_right _ _)) fun w3 h3 => ?_
  refine ldIn defs d i arg2 arg6 fp ρ (b + (64#32 : BitVec 32).toNat) hρ (ho 64#32 (by decide)) (le_trans hb (Nat.le_add_right _ _)) fun w4 h4 => ?_
  refine ldIn defs d i arg2 arg6 fp ρ (b + (80#32 : BitVec 32).toNat) hρ (ho 80#32 (by decide)) (le_trans hb (Nat.le_add_right _ _)) fun w5 h5 => ?_
  refine ldIn defs d i arg2 arg6 fp ρ (b + (96#32 : BitVec 32).toNat) hρ (ho 96#32 (by decide)) (le_trans hb (Nat.le_add_right _ _)) fun w6 h6 => ?_
  refine ldIn defs d i arg2 arg6 fp ρ (b + (112#32 : BitVec 32).toNat) hρ (ho 112#32 (by decide)) (le_trans hb (Nat.le_add_right _ _)) fun w7 h7 => ?_
  refine ldIn defs d i arg2 arg6 fp ρ (b + (128#32 : BitVec 32).toNat) hρ (ho 128#32 (by decide)) (le_trans hb (Nat.le_add_right _ _)) fun w8 h8 => ?_
  exact retP defs d i ⟨h0.cast, h1.cast, h2.cast, h3.cast, h4.cast, h5.cast, h6.cast, h7.cast, h8.cast⟩

theorem part82 (k0_t1 : Fin k0_t1_loop.trips) (v1184 : BitVec 32) (k0_t6 : Fin (k0_t6_loop i k0_t1).trips) (v1529 : BitVec 32) (v1534 : FVec F S16 .f32) (v1539 : FVec F S16 .f32) (v1544 : FVec F S16 .f32) (v1576 : BitVec 32)
    (ρ b : ℕ) (hρ : ρ < 2048) (hb : 256 * ((ρ + 1) / 256) ≤ b)
    (ho : ∀ c : BitVec 32, c.toNat < 256 → k0_off65 i k0_t1 k0_t6 c 0 + baseP ρ = sb ρ + (b + c.toNat))
    (ho2 : ∀ c : BitVec 32, c.toNat < 256 → k0_off66 i k0_t1 k0_t6 c 0 = b + c.toNat)
    (g0 : VecOK d i arg2 fp ρ (b + 0) v1534) (g1 : VecOK d i arg2 fp ρ (b + 16) v1539) (g2 : VecOK d i arg2 fp ρ (b + 32) v1544)
    (R : sProp 𝕄) :
    iprop(InBuf d i arg2 arg6 fp ρ ∗ ObP d i arg2 arg10 fp ρ (b + 0) ∗ R) ⊢ wpT defs d i (k0_part82 i arg2 harg2 arg3 harg3 arg4 harg4 arg5 harg5 arg6 harg6 arg7 harg7 arg8 harg8 arg9 harg9 arg10 harg10 arg11 harg11 arg12 arg13 arg14 arg15 arg16 arg17 arg18 arg19 k0_t1 v1184 k0_t6 v1529 v1534 v1539 v1544 v1576)
      (fun r => iprop(⌜VecOK d i arg2 fp ρ (b + 144) r.1 ∧ VecOK d i arg2 fp ρ (b + 160) r.2.1 ∧ VecOK d i arg2 fp ρ (b + 176) r.2.2.1 ∧ VecOK d i arg2 fp ρ (b + 192) r.2.2.2.1 ∧ VecOK d i arg2 fp ρ (b + 208) r.2.2.2.2.1 ∧ VecOK d i arg2 fp ρ (b + 224) r.2.2.2.2.2.1 ∧ VecOK d i arg2 fp ρ (b + 240) r.2.2.2.2.2.2⌝ ∗ ObP d i arg2 arg10 fp ρ (b + 48) ∗ InBuf d i arg2 arg6 fp ρ ∗ R)) := by
  unfold k0_part82
  refine ldIn defs d i arg2 arg6 fp ρ (b + (144#32 : BitVec 32).toNat) hρ (ho 144#32 (by decide)) (le_trans hb (Nat.le_add_right _ _)) fun w9 h9 => ?_
  refine ldIn defs d i arg2 arg6 fp ρ (b + (160#32 : BitVec 32).toNat) hρ (ho 160#32 (by decide)) (le_trans hb (Nat.le_add_right _ _)) fun w10 h10 => ?_
  refine ldIn defs d i arg2 arg6 fp ρ (b + (176#32 : BitVec 32).toNat) hρ (ho 176#32 (by decide)) (le_trans hb (Nat.le_add_right _ _)) fun w11 h11 => ?_
  refine ldIn defs d i arg2 arg6 fp ρ (b + (192#32 : BitVec 32).toNat) hρ (ho 192#32 (by decide)) (le_trans hb (Nat.le_add_right _ _)) fun w12 h12 => ?_
  refine ldIn defs d i arg2 arg6 fp ρ (b + (208#32 : BitVec 32).toNat) hρ (ho 208#32 (by decide)) (le_trans hb (Nat.le_add_right _ _)) fun w13 h13 => ?_
  refine ldIn defs d i arg2 arg6 fp ρ (b + (224#32 : BitVec 32).toNat) hρ (ho 224#32 (by decide)) (le_trans hb (Nat.le_add_right _ _)) fun w14 h14 => ?_
  refine ldIn defs d i arg2 arg6 fp ρ (b + (240#32 : BitVec 32).toNat) hρ (ho 240#32 (by decide)) (le_trans hb (Nat.le_add_right _ _)) fun w15 h15 => ?_
  refine sepSwap.trans ?_
  refine ldOb defs d i arg2 arg10 fp ρ (b + 0) fun _ => ?_
  refine stOb defs d i arg2 arg10 fp ρ (b + 0) (b + 16) g0.cast (ho2 0#32 (by decide)) rfl ?_
  refine ldOb defs d i arg2 arg10 fp ρ (b + 16) fun _ => ?_
  refine stOb defs d i arg2 arg10 fp ρ (b + 16) (b + 32) g1.cast (ho2 16#32 (by decide)) rfl ?_
  refine ldOb defs d i arg2 arg10 fp ρ (b + 32) fun _ => ?_
  refine stOb defs d i arg2 arg10 fp ρ (b + 32) (b + 48) g2.cast (ho2 32#32 (by decide)) rfl ?_
  exact retP defs d i ⟨h9.cast, h10.cast, h11.cast, h12.cast, h13.cast, h14.cast, h15.cast⟩

theorem part83 (k0_t1 : Fin k0_t1_loop.trips) (k0_t6 : Fin (k0_t6_loop i k0_t1).trips) (v1529 : BitVec 32) (v1549 : FVec F S16 .f32) (v1554 : FVec F S16 .f32) (v1559 : FVec F S16 .f32) (v1564 : FVec F S16 .f32) (v1569 : FVec F S16 .f32) (v1574 : FVec F S16 .f32) (v1579 : FVec F S16 .f32) (v1584 : FVec F S16 .f32)
    (ρ b : ℕ)
    (ho2 : ∀ c : BitVec 32, c.toNat < 256 → k0_off66 i k0_t1 k0_t6 c 0 = b + c.toNat)
    (g3 : VecOK d i arg2 fp ρ (b + 48) v1549) (g4 : VecOK d i arg2 fp ρ (b + 64) v1554) (g5 : VecOK d i arg2 fp ρ (b + 80) v1559) (g6 : VecOK d i arg2 fp ρ (b + 96) v1564) (g7 : VecOK d i arg2 fp ρ (b + 112) v1569) (g8 : VecOK d i arg2 fp ρ (b + 128) v1574) (g9 : VecOK d i arg2 fp ρ (b + 144) v1579) (g10 : VecOK d i arg2 fp ρ (b + 160) v1584)
    (R : sProp 𝕄) :
    iprop(ObP d i arg2 arg10 fp ρ (b + 48) ∗ R) ⊢ wpT defs d i (k0_part83 i arg2 harg2 arg3 harg3 arg4 harg4 arg5 harg5 arg6 harg6 arg7 harg7 arg8 harg8 arg9 harg9 arg10 harg10 arg11 harg11 arg12 arg13 arg14 arg15 arg16 arg17 arg18 arg19 k0_t1 k0_t6 v1529 v1549 v1554 v1559 v1564 v1569 v1574 v1579 v1584)
      (fun _ => iprop(ObP d i arg2 arg10 fp ρ (b + 176) ∗ R)) := by
  unfold k0_part83
  refine ldOb defs d i arg2 arg10 fp ρ (b + 48) fun _ => ?_
  refine stOb defs d i arg2 arg10 fp ρ (b + 48) (b + 64) g3.cast (ho2 48#32 (by decide)) rfl ?_
  refine ldOb defs d i arg2 arg10 fp ρ (b + 64) fun _ => ?_
  refine stOb defs d i arg2 arg10 fp ρ (b + 64) (b + 80) g4.cast (ho2 64#32 (by decide)) rfl ?_
  refine ldOb defs d i arg2 arg10 fp ρ (b + 80) fun _ => ?_
  refine stOb defs d i arg2 arg10 fp ρ (b + 80) (b + 96) g5.cast (ho2 80#32 (by decide)) rfl ?_
  refine ldOb defs d i arg2 arg10 fp ρ (b + 96) fun _ => ?_
  refine stOb defs d i arg2 arg10 fp ρ (b + 96) (b + 112) g6.cast (ho2 96#32 (by decide)) rfl ?_
  refine ldOb defs d i arg2 arg10 fp ρ (b + 112) fun _ => ?_
  refine stOb defs d i arg2 arg10 fp ρ (b + 112) (b + 128) g7.cast (ho2 112#32 (by decide)) rfl ?_
  refine ldOb defs d i arg2 arg10 fp ρ (b + 128) fun _ => ?_
  refine stOb defs d i arg2 arg10 fp ρ (b + 128) (b + 144) g8.cast (ho2 128#32 (by decide)) rfl ?_
  refine ldOb defs d i arg2 arg10 fp ρ (b + 144) fun _ => ?_
  refine stOb defs d i arg2 arg10 fp ρ (b + 144) (b + 160) g9.cast (ho2 144#32 (by decide)) rfl ?_
  refine ldOb defs d i arg2 arg10 fp ρ (b + 160) fun _ => ?_
  refine stOb defs d i arg2 arg10 fp ρ (b + 160) (b + 176) g10.cast (ho2 160#32 (by decide)) rfl ?_
  refine ldOb defs d i arg2 arg10 fp ρ (b + 176) fun _ => ?_
  exact retS defs d i

/-- The whole shift of row `ρ`. -/
theorem part133 (k0_t1 : Fin k0_t1_loop.trips) (v1044 : BitVec 32) (v1137 : BitVec 32) (v1160 : BitVec 32) (c8_i32_569 : BitVec 32) (v1161 : BitVec 32) (v1166 : BitVec 32) (v1171 : BitVec 32) (ρ : ℕ) (hρ : ρ < 2048) (hW : rowW i (tW k0_t1 2#32) = BitVec.ofNat 32 ρ) (R : sProp 𝕄) :
    iprop(InBuf d i arg2 arg6 fp ρ ∗ ObAny d i arg10 ∗ R) ⊢ wpT defs d i (k0_part133 i arg2 harg2 arg3 harg3 arg4 harg4 arg5 harg5 arg6 harg6 arg7 harg7 arg8 harg8 arg9 harg9 arg10 harg10 arg11 harg11 arg12 arg13 arg14 arg15 arg16 arg17 arg18 arg19 k0_t1 v1044 v1137 v1160 c8_i32_569 v1161 v1166 v1171)
      (fun _ => iprop(InBuf d i arg2 arg6 fp ρ ∗ ObBuf d i arg2 arg10 fp ρ ∗ R)) := by
  unfold k0_part133
  have etr : (k0_t6_loop i k0_t1).trips = 8 - (ρ + 1) / 256 := by
    rw [← (shiftL_trips ρ hρ).1, ← hW]; rfl
  have etr' : (k0_t7_loop i k0_t1).trips = 0 := by
    rw [← (shiftL_trips ρ hρ).2, ← hW]; rfl
  have o1 : ∀ (n : Fin (k0_t6_loop i k0_t1).trips) (c : BitVec 32), c.toNat < 256 →
      k0_off65 i k0_t1 n c 0 + baseP ρ = sb ρ + (256 * ((ρ + 1) / 256 + n.val) + c.toNat) := by
    intro n c hc
    rw [← (shift_off ρ hρ n.val (etr ▸ n.isLt) c hc).1, ← hW]; rfl
  have o2 : ∀ (n : Fin (k0_t6_loop i k0_t1).trips) (c : BitVec 32), c.toNat < 256 →
      k0_off66 i k0_t1 n c 0 = 256 * ((ρ + 1) / 256 + n.val) + c.toNat := by
    intro n c hc
    rw [← (shift_off ρ hρ n.val (etr ▸ n.isLt) c hc).2, ← hW]; rfl
  refine shiftLoop defs d i arg2 arg6 arg10 fp ρ hρ etr ?_ ?_
  · intro n acc
    refine bindS defs d i (part81 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ _ _ n ρ (256 * ((ρ + 1) / 256 + n.val)) hρ (by omega) (o1 n) _) fun r => ?_
    refine pureL fun ⟨g0, g1, g2, g3, g4, g5, g6, g7, g8⟩ => ?_
    refine bindS defs d i (part82 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ n _ _ _ _ _ ρ (256 * ((ρ + 1) / 256 + n.val)) hρ (by omega) (o1 n) (o2 n) g0 g1 g2 _) fun r' => ?_
    refine pureL fun ⟨g9, g10, g11, g12, g13, g14, g15⟩ => ?_
    refine bindS defs d i (part83 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 n _ _ _ _ _ _ _ _ _ ρ (256 * ((ρ + 1) / 256 + n.val)) (o2 n) g3 g4 g5 g6 g7 g8 g9 g10 _) fun r'' => ?_
    refine stOb defs d i arg2 arg10 fp ρ _ (256 * ((ρ + 1) / 256 + n.val) + 192) g11.cast (o2 n 176#32 (by decide)) rfl ?_
    refine ldOb defs d i arg2 arg10 fp ρ (256 * ((ρ + 1) / 256 + n.val) + 192) fun _ => ?_
    refine stOb defs d i arg2 arg10 fp ρ (256 * ((ρ + 1) / 256 + n.val) + 192) (256 * ((ρ + 1) / 256 + n.val) + 208) g12.cast (o2 n 192#32 (by decide)) rfl ?_
    refine ldOb defs d i arg2 arg10 fp ρ (256 * ((ρ + 1) / 256 + n.val) + 208) fun _ => ?_
    refine stOb defs d i arg2 arg10 fp ρ (256 * ((ρ + 1) / 256 + n.val) + 208) (256 * ((ρ + 1) / 256 + n.val) + 224) g13.cast (o2 n 208#32 (by decide)) rfl ?_
    refine ldOb defs d i arg2 arg10 fp ρ (256 * ((ρ + 1) / 256 + n.val) + 224) fun _ => ?_
    refine stOb defs d i arg2 arg10 fp ρ (256 * ((ρ + 1) / 256 + n.val) + 224) (256 * ((ρ + 1) / 256 + n.val) + 240) g14.cast (o2 n 224#32 (by decide)) rfl ?_
    refine ldOb defs d i arg2 arg10 fp ρ (256 * ((ρ + 1) / 256 + n.val) + 240) fun _ => ?_
    refine stOb defs d i arg2 arg10 fp ρ (256 * ((ρ + 1) / 256 + n.val) + 240) (256 * ((ρ + 1) / 256 + n.val) + 256) g15.cast (o2 n 240#32 (by decide)) rfl ?_
    exact retS defs d i
  · refine zeroLoop defs d i etr' ?_
    exact retS defs d i

end Cert.KernelIdeal.Packed
-- ==== Proof.Shift3.lean ====
module
public import proofs.«01_k».proof.Proof.Shift

/-!
# Slot 3: the shift

The loop that moves a row from slot 3's window to its row buffer.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part107 (k0_t1 : Fin k0_t1_loop.trips) (v1427 : BitVec 32) (v1445 : BitVec 32) (c1_i32_715 : BitVec 32) (k0_t8 : Fin (k0_t8_loop i k0_t1).trips)
    (ρ b : ℕ) (hρ : ρ < 2048) (hb : 256 * ((ρ + 1) / 256) ≤ b)
    (ho : ∀ c : BitVec 32, c.toNat < 256 → k0_off85 i k0_t1 k0_t8 c 0 + baseP ρ = sb ρ + (b + c.toNat))
    (R : sProp 𝕄) :
    iprop(InBuf d i arg2 arg7 fp ρ ∗ R) ⊢ wpT defs d i (k0_part107 i arg2 harg2 arg3 harg3 arg4 harg4 arg5 harg5 arg6 harg6 arg7 harg7 arg8 harg8 arg9 harg9 arg10 harg10 arg11 harg11 arg12 arg13 arg14 arg15 arg16 arg17 arg18 arg19 k0_t1 v1427 v1445 c1_i32_715 k0_t8)
      (fun r => iprop(⌜VecOK d i arg2 fp ρ (b + 0) r.2.1 ∧ VecOK d i arg2 fp ρ (b + 16) r.2.2.1 ∧ VecOK d i arg2 fp ρ (b + 32) r.2.2.2.1 ∧ VecOK d i arg2 fp ρ (b + 48) r.2.2.2.2.1 ∧ VecOK d i arg2 fp ρ (b + 64) r.2.2.2.2.2.1 ∧ VecOK d i arg2 fp ρ (b + 80) r.2.2.2.2.2.2.1 ∧ VecOK d i arg2 fp ρ (b + 96) r.2.2.2.2.2.2.2.1 ∧ VecOK d i arg2 fp ρ (b + 112) r.2.2.2.2.2.2.2.2.1 ∧ VecOK d i arg2 fp ρ (b + 128) r.2.2.2.2.2.2.2.2.2.1⌝ ∗ InBuf d i arg2 arg7 fp ρ ∗ R)) := by
  unfold k0_part107
  refine ldIn defs d i arg2 arg7 fp ρ (b + (0#32 : BitVec 32).toNat) hρ (ho 0#32 (by decide)) (le_trans hb (Nat.le_add_right _ _)) fun w0 h0 => ?_
  refine ldIn defs d i arg2 arg7 fp ρ (b + (16#32 : BitVec 32).toNat) hρ (ho 16#32 (by decide)) (le_trans hb (Nat.le_add_right _ _)) fun w1 h1 => ?_
  refine ldIn defs d i arg2 arg7 fp ρ (b + (32#32 : BitVec 32).toNat) hρ (ho 32#32 (by decide)) (le_trans hb (Nat.le_add_right _ _)) fun w2 h2 => ?_
  refine ldIn defs d i arg2 arg7 fp ρ (b + (48#32 : BitVec 32).toNat) hρ (ho 48#32 (by decide)) (le_trans hb (Nat.le_add_right _ _)) fun w3 h3 => ?_
  refine ldIn defs d i arg2 arg7 fp ρ (b + (64#32 : BitVec 32).toNat) hρ (ho 64#32 (by decide)) (le_trans hb (Nat.le_add_right _ _)) fun w4 h4 => ?_
  refine ldIn defs d i arg2 arg7 fp ρ (b + (80#32 : BitVec 32).toNat) hρ (ho 80#32 (by decide)) (le_trans hb (Nat.le_add_right _ _)) fun w5 h5 => ?_
  refine ldIn defs d i arg2 arg7 fp ρ (b + (96#32 : BitVec 32).toNat) hρ (ho 96#32 (by decide)) (le_trans hb (Nat.le_add_right _ _)) fun w6 h6 => ?_
  refine ldIn defs d i arg2 arg7 fp ρ (b + (112#32 : BitVec 32).toNat) hρ (ho 112#32 (by decide)) (le_trans hb (Nat.le_add_right _ _)) fun w7 h7 => ?_
  refine ldIn defs d i arg2 arg7 fp ρ (b + (128#32 : BitVec 32).toNat) hρ (ho 128#32 (by decide)) (le_trans hb (Nat.le_add_right _ _)) fun w8 h8 => ?_
  exact retP defs d i ⟨h0.cast, h1.cast, h2.cast, h3.cast, h4.cast, h5.cast, h6.cast, h7.cast, h8.cast⟩

theorem part108 (k0_t1 : Fin k0_t1_loop.trips) (v1427 : BitVec 32) (k0_t8 : Fin (k0_t8_loop i k0_t1).trips) (v1529 : BitVec 32) (v1534 : FVec F S16 .f32) (v1539 : FVec F S16 .f32) (v1544 : FVec F S16 .f32) (v1576 : BitVec 32)
    (ρ b : ℕ) (hρ : ρ < 2048) (hb : 256 * ((ρ + 1) / 256) ≤ b)
    (ho : ∀ c : BitVec 32, c.toNat < 256 → k0_off85 i k0_t1 k0_t8 c 0 + baseP ρ = sb ρ + (b + c.toNat))
    (ho2 : ∀ c : BitVec 32, c.toNat < 256 → k0_off86 i k0_t1 k0_t8 c 0 = b + c.toNat)
    (g0 : VecOK d i arg2 fp ρ (b + 0) v1534) (g1 : VecOK d i arg2 fp ρ (b + 16) v1539) (g2 : VecOK d i arg2 fp ρ (b + 32) v1544)
    (R : sProp 𝕄) :
    iprop(InBuf d i arg2 arg7 fp ρ ∗ ObP d i arg2 arg11 fp ρ (b + 0) ∗ R) ⊢ wpT defs d i (k0_part108 i arg2 harg2 arg3 harg3 arg4 harg4 arg5 harg5 arg6 harg6 arg7 harg7 arg8 harg8 arg9 harg9 arg10 harg10 arg11 harg11 arg12 arg13 arg14 arg15 arg16 arg17 arg18 arg19 k0_t1 v1427 k0_t8 v1529 v1534 v1539 v1544 v1576)
      (fun r => iprop(⌜VecOK d i arg2 fp ρ (b + 144) r.1 ∧ VecOK d i arg2 fp ρ (b + 160) r.2.1 ∧ VecOK d i arg2 fp ρ (b + 176) r.2.2.1 ∧ VecOK d i arg2 fp ρ (b + 192) r.2.2.2.1 ∧ VecOK d i arg2 fp ρ (b + 208) r.2.2.2.2.1 ∧ VecOK d i arg2 fp ρ (b + 224) r.2.2.2.2.2.1 ∧ VecOK d i arg2 fp ρ (b + 240) r.2.2.2.2.2.2⌝ ∗ ObP d i arg2 arg11 fp ρ (b + 48) ∗ InBuf d i arg2 arg7 fp ρ ∗ R)) := by
  unfold k0_part108
  refine ldIn defs d i arg2 arg7 fp ρ (b + (144#32 : BitVec 32).toNat) hρ (ho 144#32 (by decide)) (le_trans hb (Nat.le_add_right _ _)) fun w9 h9 => ?_
  refine ldIn defs d i arg2 arg7 fp ρ (b + (160#32 : BitVec 32).toNat) hρ (ho 160#32 (by decide)) (le_trans hb (Nat.le_add_right _ _)) fun w10 h10 => ?_
  refine ldIn defs d i arg2 arg7 fp ρ (b + (176#32 : BitVec 32).toNat) hρ (ho 176#32 (by decide)) (le_trans hb (Nat.le_add_right _ _)) fun w11 h11 => ?_
  refine ldIn defs d i arg2 arg7 fp ρ (b + (192#32 : BitVec 32).toNat) hρ (ho 192#32 (by decide)) (le_trans hb (Nat.le_add_right _ _)) fun w12 h12 => ?_
  refine ldIn defs d i arg2 arg7 fp ρ (b + (208#32 : BitVec 32).toNat) hρ (ho 208#32 (by decide)) (le_trans hb (Nat.le_add_right _ _)) fun w13 h13 => ?_
  refine ldIn defs d i arg2 arg7 fp ρ (b + (224#32 : BitVec 32).toNat) hρ (ho 224#32 (by decide)) (le_trans hb (Nat.le_add_right _ _)) fun w14 h14 => ?_
  refine ldIn defs d i arg2 arg7 fp ρ (b + (240#32 : BitVec 32).toNat) hρ (ho 240#32 (by decide)) (le_trans hb (Nat.le_add_right _ _)) fun w15 h15 => ?_
  refine sepSwap.trans ?_
  refine ldOb defs d i arg2 arg11 fp ρ (b + 0) fun _ => ?_
  refine stOb defs d i arg2 arg11 fp ρ (b + 0) (b + 16) g0.cast (ho2 0#32 (by decide)) rfl ?_
  refine ldOb defs d i arg2 arg11 fp ρ (b + 16) fun _ => ?_
  refine stOb defs d i arg2 arg11 fp ρ (b + 16) (b + 32) g1.cast (ho2 16#32 (by decide)) rfl ?_
  refine ldOb defs d i arg2 arg11 fp ρ (b + 32) fun _ => ?_
  refine stOb defs d i arg2 arg11 fp ρ (b + 32) (b + 48) g2.cast (ho2 32#32 (by decide)) rfl ?_
  exact retP defs d i ⟨h9.cast, h10.cast, h11.cast, h12.cast, h13.cast, h14.cast, h15.cast⟩

theorem part109 (k0_t1 : Fin k0_t1_loop.trips) (k0_t8 : Fin (k0_t8_loop i k0_t1).trips) (v1529 : BitVec 32) (v1549 : FVec F S16 .f32) (v1554 : FVec F S16 .f32) (v1559 : FVec F S16 .f32) (v1564 : FVec F S16 .f32) (v1569 : FVec F S16 .f32) (v1574 : FVec F S16 .f32) (v1579 : FVec F S16 .f32) (v1584 : FVec F S16 .f32)
    (ρ b : ℕ)
    (ho2 : ∀ c : BitVec 32, c.toNat < 256 → k0_off86 i k0_t1 k0_t8 c 0 = b + c.toNat)
    (g3 : VecOK d i arg2 fp ρ (b + 48) v1549) (g4 : VecOK d i arg2 fp ρ (b + 64) v1554) (g5 : VecOK d i arg2 fp ρ (b + 80) v1559) (g6 : VecOK d i arg2 fp ρ (b + 96) v1564) (g7 : VecOK d i arg2 fp ρ (b + 112) v1569) (g8 : VecOK d i arg2 fp ρ (b + 128) v1574) (g9 : VecOK d i arg2 fp ρ (b + 144) v1579) (g10 : VecOK d i arg2 fp ρ (b + 160) v1584)
    (R : sProp 𝕄) :
    iprop(ObP d i arg2 arg11 fp ρ (b + 48) ∗ R) ⊢ wpT defs d i (k0_part109 i arg2 harg2 arg3 harg3 arg4 harg4 arg5 harg5 arg6 harg6 arg7 harg7 arg8 harg8 arg9 harg9 arg10 harg10 arg11 harg11 arg12 arg13 arg14 arg15 arg16 arg17 arg18 arg19 k0_t1 k0_t8 v1529 v1549 v1554 v1559 v1564 v1569 v1574 v1579 v1584)
      (fun _ => iprop(ObP d i arg2 arg11 fp ρ (b + 176) ∗ R)) := by
  unfold k0_part109
  refine ldOb defs d i arg2 arg11 fp ρ (b + 48) fun _ => ?_
  refine stOb defs d i arg2 arg11 fp ρ (b + 48) (b + 64) g3.cast (ho2 48#32 (by decide)) rfl ?_
  refine ldOb defs d i arg2 arg11 fp ρ (b + 64) fun _ => ?_
  refine stOb defs d i arg2 arg11 fp ρ (b + 64) (b + 80) g4.cast (ho2 64#32 (by decide)) rfl ?_
  refine ldOb defs d i arg2 arg11 fp ρ (b + 80) fun _ => ?_
  refine stOb defs d i arg2 arg11 fp ρ (b + 80) (b + 96) g5.cast (ho2 80#32 (by decide)) rfl ?_
  refine ldOb defs d i arg2 arg11 fp ρ (b + 96) fun _ => ?_
  refine stOb defs d i arg2 arg11 fp ρ (b + 96) (b + 112) g6.cast (ho2 96#32 (by decide)) rfl ?_
  refine ldOb defs d i arg2 arg11 fp ρ (b + 112) fun _ => ?_
  refine stOb defs d i arg2 arg11 fp ρ (b + 112) (b + 128) g7.cast (ho2 112#32 (by decide)) rfl ?_
  refine ldOb defs d i arg2 arg11 fp ρ (b + 128) fun _ => ?_
  refine stOb defs d i arg2 arg11 fp ρ (b + 128) (b + 144) g8.cast (ho2 128#32 (by decide)) rfl ?_
  refine ldOb defs d i arg2 arg11 fp ρ (b + 144) fun _ => ?_
  refine stOb defs d i arg2 arg11 fp ρ (b + 144) (b + 160) g9.cast (ho2 144#32 (by decide)) rfl ?_
  refine ldOb defs d i arg2 arg11 fp ρ (b + 160) fun _ => ?_
  refine stOb defs d i arg2 arg11 fp ρ (b + 160) (b + 176) g10.cast (ho2 160#32 (by decide)) rfl ?_
  refine ldOb defs d i arg2 arg11 fp ρ (b + 176) fun _ => ?_
  exact retS defs d i

/-- The whole shift of row `ρ`. -/
theorem part140 (v1 : BitVec 32) (k0_t1 : Fin k0_t1_loop.trips) (v1287 : BitVec 32) (v1427 : BitVec 32) (v1429 : BitVec 32) (v1440 : BitVec 1) (v1441 : BitVec 32) (c0_i32_710 : BitVec 32) (ρ : ℕ) (hρ : ρ < 2048) (hW : rowW i (tW k0_t1 3#32) = BitVec.ofNat 32 ρ) (R : sProp 𝕄) :
    iprop(InBuf d i arg2 arg7 fp ρ ∗ ObAny d i arg11 ∗ R) ⊢ wpT defs d i (k0_part140 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1287 v1427 v1429 v1440 v1441 c0_i32_710)
      (fun _ => iprop(InBuf d i arg2 arg7 fp ρ ∗ ObBuf d i arg2 arg11 fp ρ ∗ R)) := by
  unfold k0_part140
  have etr : (k0_t8_loop i k0_t1).trips = 8 - (ρ + 1) / 256 := by
    rw [← (shiftL_trips ρ hρ).1, ← hW]; rfl
  have etr' : (k0_t9_loop i k0_t1).trips = 0 := by
    rw [← (shiftL_trips ρ hρ).2, ← hW]; rfl
  have o1 : ∀ (n : Fin (k0_t8_loop i k0_t1).trips) (c : BitVec 32), c.toNat < 256 →
      k0_off85 i k0_t1 n c 0 + baseP ρ = sb ρ + (256 * ((ρ + 1) / 256 + n.val) + c.toNat) := by
    intro n c hc
    rw [← (shift_off ρ hρ n.val (etr ▸ n.isLt) c hc).1, ← hW]; rfl
  have o2 : ∀ (n : Fin (k0_t8_loop i k0_t1).trips) (c : BitVec 32), c.toNat < 256 →
      k0_off86 i k0_t1 n c 0 = 256 * ((ρ + 1) / 256 + n.val) + c.toNat := by
    intro n c hc
    rw [← (shift_off ρ hρ n.val (etr ▸ n.isLt) c hc).2, ← hW]; rfl
  refine shiftLoop defs d i arg2 arg7 arg11 fp ρ hρ etr ?_ ?_
  · intro n acc
    refine bindS defs d i (part107 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ _ _ n ρ (256 * ((ρ + 1) / 256 + n.val)) hρ (by omega) (o1 n) _) fun r => ?_
    refine pureL fun ⟨g0, g1, g2, g3, g4, g5, g6, g7, g8⟩ => ?_
    refine bindS defs d i (part108 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ n _ _ _ _ _ ρ (256 * ((ρ + 1) / 256 + n.val)) hρ (by omega) (o1 n) (o2 n) g0 g1 g2 _) fun r' => ?_
    refine pureL fun ⟨g9, g10, g11, g12, g13, g14, g15⟩ => ?_
    refine bindS defs d i (part109 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 n _ _ _ _ _ _ _ _ _ ρ (256 * ((ρ + 1) / 256 + n.val)) (o2 n) g3 g4 g5 g6 g7 g8 g9 g10 _) fun r'' => ?_
    refine stOb defs d i arg2 arg11 fp ρ _ (256 * ((ρ + 1) / 256 + n.val) + 192) g11.cast (o2 n 176#32 (by decide)) rfl ?_
    refine ldOb defs d i arg2 arg11 fp ρ (256 * ((ρ + 1) / 256 + n.val) + 192) fun _ => ?_
    refine stOb defs d i arg2 arg11 fp ρ (256 * ((ρ + 1) / 256 + n.val) + 192) (256 * ((ρ + 1) / 256 + n.val) + 208) g12.cast (o2 n 192#32 (by decide)) rfl ?_
    refine ldOb defs d i arg2 arg11 fp ρ (256 * ((ρ + 1) / 256 + n.val) + 208) fun _ => ?_
    refine stOb defs d i arg2 arg11 fp ρ (256 * ((ρ + 1) / 256 + n.val) + 208) (256 * ((ρ + 1) / 256 + n.val) + 224) g13.cast (o2 n 208#32 (by decide)) rfl ?_
    refine ldOb defs d i arg2 arg11 fp ρ (256 * ((ρ + 1) / 256 + n.val) + 224) fun _ => ?_
    refine stOb defs d i arg2 arg11 fp ρ (256 * ((ρ + 1) / 256 + n.val) + 224) (256 * ((ρ + 1) / 256 + n.val) + 240) g14.cast (o2 n 224#32 (by decide)) rfl ?_
    refine ldOb defs d i arg2 arg11 fp ρ (256 * ((ρ + 1) / 256 + n.val) + 240) fun _ => ?_
    refine stOb defs d i arg2 arg11 fp ρ (256 * ((ρ + 1) / 256 + n.val) + 240) (256 * ((ρ + 1) / 256 + n.val) + 256) g15.cast (o2 n 240#32 (by decide)) rfl ?_
    exact retS defs d i
  · refine zeroLoop defs d i etr' ?_
    exact retS defs d i

end Cert.KernelIdeal.Packed
-- ==== Proof.Conds.lean ====
module
public import proofs.«01_k».proof.Proof.Shift

/-!
# Conditions of a row

What a row's word says of the branches the kernel takes for that row, and the states of a slot around the guarded steps.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F

variable (defs : Defs nD τ sig (Elt F) Λ₀) (d : Dev nD) (i : grid0.Coords)
variable (pa : Memref sig .scVector .hbm S2096128 .f32) (am : Memref sig .scVector .hbm S2048x2048 .f32)
variable (ib : Memref sig .scVector .vmem S2056 .f32) (ob : Memref sig .scVector .vmem S2048 .f32)
variable (si : DmaSems sig S5) (so : DmaSems sig S4)
variable (q : PosShare TreeShare) (fp : Buf (Elt F) (pa.view.loc (VT d i)))

/-! ## The branches of a row -/

section Words
variable {W : BitVec 32} {ρ : ℕ} (hW : W = BitVec.ofNat 32 ρ) (hρ : ρ < 2048)
include hW hρ

theorem in0_of : condIn0 W = 1#1 ↔ kindIn ρ = 0 := by rw [hW]; exact condIn0_iff ρ hρ
theorem in1_of : condQ 1#32 W = 1#1 ↔ kindIn ρ = 1 := by rw [hW]; exact in1_iff ρ hρ
theorem in2_of : condQ 2#32 W = 1#1 ↔ kindIn ρ = 2 := by rw [hW]; exact in2_iff ρ hρ
theorem in3_of : condQ 3#32 W = 1#1 ↔ kindIn ρ = 3 := by rw [hW]; exact in3_iff ρ hρ
theorem in4_of : condR0 W = 1#1 ↔ kindIn ρ = 4 := by rw [hW]; exact condR0_iff ρ hρ
theorem out0_of : condQ 0#32 W = 1#1 ↔ kindOut ρ = 0 := by rw [hW]; exact condOut_iff 0 ρ hρ
theorem out1_of : condQ 1#32 W = 1#1 ↔ kindOut ρ = 1 := by rw [hW]; exact condOut_iff 1 ρ hρ
theorem out2_of : condQ 2#32 W = 1#1 ↔ kindOut ρ = 2 := by rw [hW]; exact condOut_iff 2 ρ hρ
theorem out3_of : condQ 3#32 W = 1#1 ↔ kindOut ρ = 3 := by rw [hW]; exact condOut_iff 3 ρ hρ

theorem a8_of (q : Fin 4) (h : kindIn ρ = q.castSucc) :
    (Scalar.addi (a8W W) (BitVec.ofNat 32 (512 * q.val))).toNat + 8 = baseP ρ + 512 * q.val := by
  rw [hW]
  refine a8_add ρ hρ q ?_
  rw [h]; intro e; have := congrArg Fin.val e; simp at this; omega

theorem a8_0 (h : kindIn ρ = 0) : (Scalar.addi (a8W W) 0#32).toNat + 8 = baseP ρ + 0 := a8_of hW hρ 0 h
theorem a8_1 (h : kindIn ρ = 1) : (Scalar.addi (a8W W) 512#32).toNat + 8 = baseP ρ + 512 := a8_of hW hρ 1 h
theorem a8_2 (h : kindIn ρ = 2) : (Scalar.addi (a8W W) 1024#32).toNat + 8 = baseP ρ + 1024 := a8_of hW hρ 2 h
theorem a8_3 (h : kindIn ρ = 3) : (Scalar.addi (a8W W) 1536#32).toNat + 8 = baseP ρ + 1536 := a8_of hW hρ 3 h

omit hW in
theorem a8_4 (h : kindIn ρ = 4) : 0 + 8 = baseP ρ + 8 := by
  have : ρ = 0 := by
    by_contra h0
    rw [kindIn, if_neg h0] at h
    have := congrArg Fin.val h
    simp at this; omega
  subst this; rfl

theorem row_of : W.toNat = ρ := by rw [hW, BitVec.toNat_ofNat]; omega

end Words

/-! ## Around the guarded steps -/

/-- A window in flight if the guard lets it, else idle. -/
def InMay (g : BitVec 1) (ρ : ℕ) : sProp 𝕄 := if g = 1#1 then InFly d i pa ib si q fp ρ else InIdle d i pa ib si q fp
/-- The slot's last row in flight, if there is one. -/
def OutPrev (m ρ : ℕ) : sProp 𝕄 := if m = 0 then OutIdle d i ob so else OutFly d i pa am ob so fp ρ
/-- The slot's last row in place, if there is one. -/
def DnIf (m ρ : ℕ) : sProp 𝕄 := if m = 0 then iprop(emp) else RowDn d i pa am fp ρ

variable {d i pa am ib ob si so q fp}

theorem InIss_zero {ρ : ℕ} : InIss d i pa ib si q fp ρ 0 = InIdle d i pa ib si q fp := if_neg (Nat.not_lt_zero _)
theorem InIss_five {ρ : ℕ} : InIss d i pa ib si q fp ρ 5 = InFly d i pa ib si q fp ρ := if_pos (kindIn ρ).isLt
theorem InWt_zero {ρ : ℕ} : InWt d i pa ib si q fp ρ 0 = InFly d i pa ib si q fp ρ := if_neg (Nat.not_lt_zero _)
theorem InWt_five {ρ : ℕ} : InWt d i pa ib si q fp ρ 5 = InDone d i pa ib si q fp ρ := if_pos (kindIn ρ).isLt
theorem OutIss_zero {ρ : ℕ} : OutIss d i pa am ob so fp ρ 0 = OutRdy d i pa am ob so fp ρ := if_neg (Nat.not_lt_zero _)
theorem OutIss_four {ρ : ℕ} : OutIss d i pa am ob so fp ρ 4 = OutFly d i pa am ob so fp ρ := if_pos (kindOut ρ).isLt
theorem OutWt_zero {ρ : ℕ} : OutWt d i pa am ob so fp ρ 0 = OutFly d i pa am ob so fp ρ := if_neg (Nat.not_lt_zero _)
theorem OutWt_four {ρ : ℕ} : OutWt d i pa am ob so fp ρ 4 = OutDone d i pa am ob so fp ρ := if_pos (kindOut ρ).isLt

theorem may_pos {g : BitVec 1} {ρ : ℕ} {R : sProp 𝕄} (h : g = 1#1) :
    iprop(InIss d i pa ib si q fp ρ 5 ∗ R) ⊢ iprop(InMay d i pa ib si q fp g ρ ∗ R) := by
  rw [InIss_five, InMay, if_pos h]
theorem may_neg {g : BitVec 1} {ρ : ℕ} {R : sProp 𝕄} (h : ¬ g = 1#1) :
    iprop(InIdle d i pa ib si q fp ∗ R) ⊢ iprop(InMay d i pa ib si q fp g ρ ∗ R) := by
  rw [InMay, if_neg h]
theorem iss_start {ρ : ℕ} {R : sProp 𝕄} : iprop(InIdle d i pa ib si q fp ∗ R) ⊢ iprop(InIss d i pa ib si q fp ρ 0 ∗ R) := by
  rw [InIss_zero]
theorem prev_pos {m ρ : ℕ} {R : sProp 𝕄} (h : m ≠ 0) :
    iprop(OutPrev d i pa am ob so fp m ρ ∗ R) ⊢ iprop(OutWt d i pa am ob so fp ρ 0 ∗ R) := by
  rw [OutWt_zero, OutPrev, if_neg h]
theorem prev_done {m ρ : ℕ} {R : sProp 𝕄} (h : m ≠ 0) :
    iprop(OutWt d i pa am ob so fp ρ 4 ∗ R) ⊢ iprop((OutIdle d i ob so ∗ DnIf d i pa am fp m ρ) ∗ R) := by
  rw [OutWt_four, DnIf, if_neg h]; unfold OutDone; exact BIBase.Entails.rfl
theorem prev_neg {m ρ : ℕ} {R : sProp 𝕄} (h : m = 0) :
    iprop(OutPrev d i pa am ob so fp m ρ ∗ R) ⊢ iprop((OutIdle d i ob so ∗ DnIf d i pa am fp m ρ) ∗ R) := by
  rw [OutPrev, DnIf, if_pos h, if_pos h]
  iintro ⟨HO, HR⟩
  isplitl [HO]
  · isplitl [HO]; · iexact HO
    iempintro
  · iexact HR

theorem sepRot {X O Y R : sProp 𝕄} : iprop(X ∗ O ∗ Y ∗ R) ⊢ iprop(Y ∗ O ∗ X ∗ R) := by
  iintro ⟨HX, HO, HY, HR⟩
  isplitl [HY]; · iexact HY
  isplitl [HO]; · iexact HO
  isplitl [HX]; · iexact HX
  iexact HR

/-- A part's end, with what is known of its result, the assertion put in its final form. -/
theorem retQ {α : Type} {A B : sProp 𝕄} {P : α → Prop} {r : α} (h : P r) (hA : A ⊢ B) :
    A ⊢ wpT defs d i (.ret r) (fun r => iprop(⌜P r⌝ ∗ B)) := by
  refine BIBase.Entails.trans ?_ (le_wp_ret _ _ _ _ _)
  iintro HA
  isplitr
  · ipureintro; exact h
  · iapply hA $$ HA
theorem retT {α : Type} {A B : sProp 𝕄} {r : α} (hA : A ⊢ B) : A ⊢ wpT defs d i (.ret r) (fun _ => B) :=
  hA.trans (le_wp_ret _ _ _ r fun _ => B)

/-- A fact beside what is held. -/
theorem pureI {A B : sProp 𝕄} {P : Prop} (h : P) (hA : A ⊢ B) : A ⊢ iprop(⌜P⌝ ∗ B) := by
  iintro HA
  isplitr
  · ipureintro; exact h
  · iapply hA $$ HA

end Cert.KernelIdeal.Packed
-- ==== Proof.Trip0.lean ====
module
public import proofs.«01_k».proof.Proof.Conds

/-!
# Step 0 of a trip

The printed parts that fetch, await, write back and await the writing back for slot 0's row.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
set_option maxHeartbeats 4000000
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part17 (v1 : BitVec 32) (v558 : BitVec 32) (k0_t1 : Fin k0_t1_loop.trips) (h1 : v1 = wid i) (ht : v558 = tW k0_t1 0#32) :
    ∃ r, k0_part17 (F := F) i arg2 harg2 arg3 harg3 arg4 harg4 arg5 harg5 arg6 harg6 arg7 harg7 arg8 harg8 arg9 harg9 arg10 harg10 arg11 harg11 arg12 arg13 arg14 arg15 arg16 arg17 arg18 arg19 v1 v558 = .ret r ∧ r.2.1 = rowW i (tNext k0_t1 0#32) := by
  subst h1 ht; exact ⟨_, rfl, rfl⟩

theorem part18 (v1 : BitVec 32) (k0_t1 : Fin k0_t1_loop.trips) (k0_h16 : k0_cond16 k0_t1 = 1#1) (v1530 : BitVec 32) (v1532 : BitVec 32) (v1555 : BitVec 32) (v1556 : BitVec 32) (v1567 : BitVec 1) (v1569 : BitVec 1)
    (ρ : ℕ) (hρ : ρ < 2048) (hW : rowW i (tNext k0_t1 0#32) = BitVec.ofNat 32 ρ) (R : sProp 𝕄) :
    iprop(InIss d i arg2 arg7 arg15 q fp ρ 0 ∗ R) ⊢ wpT defs d i (k0_part18 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h16 v1530 v1532 v1555 v1556 v1567 v1569)
      (fun _ => iprop(InIss d i arg2 arg7 arg15 q fp ρ 2 ∗ R)) := by
  unfold k0_part18
  refine issIn defs d i arg2 arg7 arg15 q fp 0 0 2056 rfl rfl (in0_of hW hρ) _ _ _ _ _ (fun _ => rfl) (fun _ => rfl) (fun _ h => a8_0 hW hρ h) ?_
  refine issIn defs d i arg2 arg7 arg15 q fp 1 512 1544 rfl rfl (in1_of hW hρ) _ _ _ _ _ (fun _ => rfl) (fun _ => rfl) (fun _ h => a8_1 hW hρ h) ?_
  exact retS defs d i

theorem part28 (v1 : BitVec 32) (k0_t1 : Fin k0_t1_loop.trips) (k0_h27 : k0_cond27 k0_t1 = 1#1) (v1529 : BitVec 32) (v1531 : BitVec 32) (v1554 : BitVec 32) (v1555 : BitVec 32) (v1569 : BitVec 1) (c1_i32_773 : BitVec 32)
    (O : CellTallies nD τ sig (HIx 1)) (ρ : ℕ) (hρ : ρ < 2048) (hW : rowW i (tPrev k0_t1 0#32) = BitVec.ofNat 32 ρ) (R : sProp 𝕄) :
    iprop(OutWt d i arg2 arg3 arg8 arg16 fp ρ 0 ∗ OW d i O ∗ R) ⊢ wpT defs d i (k0_part28 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h27 v1529 v1531 v1554 v1555 v1569 c1_i32_773)
      (fun _ => iprop(OutWt d i arg2 arg3 arg8 arg16 fp ρ 3 ∗ OW d i O ∗ R)) := by
  unfold k0_part28
  refine wtOut defs d i arg2 arg3 arg8 arg16 fp 0 (out0_of hW hρ) _ (fun _ => rfl) (fun _ => rfl) (fun _ => rfl) ?_
  refine wtOut defs d i arg2 arg3 arg8 arg16 fp 1 (out1_of hW hρ) _ (fun _ => rfl) (fun _ => rfl) (fun _ => rfl) ?_
  refine wtOut defs d i arg2 arg3 arg8 arg16 fp 2 (out2_of hW hρ) _ (fun _ => rfl) (fun _ => rfl) (fun _ => rfl) ?_
  exact retS defs d i

theorem part117 (k0_t1 : Fin k0_t1_loop.trips) (ρ' : ℕ) (hN : k0_cond16 k0_t1 = 1#1 → rowW i (tNext k0_t1 0#32) = BitVec.ofNat 32 ρ' ∧ ρ' < 2048) (R : sProp 𝕄) :
    iprop(InIdle d i arg2 arg7 arg15 q fp ∗ R) ⊢ wpT defs d i (k0_part117 i arg2 harg2 arg3 harg3 arg4 harg4 arg5 harg5 arg6 harg6 arg7 harg7 arg8 harg8 arg9 harg9 arg10 harg10 arg11 harg11 arg12 arg13 arg14 arg15 arg16 arg17 arg18 arg19 (wid i) 0#32 1#32 k0_t1)
      (fun r => iprop(⌜r.1 = Scf.iv 0#32 1#32 k0_t1 ∧ r.2.1 = tW k0_t1 0#32 ∧ r.2.2.1 = rowW i (tW k0_t1 0#32)⌝ ∗ InMay d i arg2 arg7 arg15 q fp (k0_cond16 k0_t1) ρ' ∗ R)) := by
  unfold k0_part117
  rcases Classical.em (k0_cond16 k0_t1 = 1#1) with hg | hg
  · obtain ⟨hW', hρ'⟩ := hN hg
    refine guardPos defs d i hg ?_
    refine (iss_start (d := d) (i := i) (pa := arg2) (ib := arg7) (si := arg15) (q := q) (fp := fp) (ρ := ρ') (R := _)).trans ?_
    refine bindPure defs d i (part17 i arg2 harg2 arg3 harg3 arg4 harg4 arg5 harg5 arg6 harg6 arg7 harg7 arg8 harg8 arg9 harg9 arg10 harg10 arg11 harg11 arg12 arg13 arg14 arg15 arg16 arg17 arg18 arg19 _ _ k0_t1 rfl rfl) fun r hr => ?_
    obtain ⟨r1, r2, r3, r4, r5, r6⟩ := r
    change r2 = _ at hr
    refine bindS defs d i (part18 defs d i arg2 harg2 arg3 harg3 arg4 harg4 arg5 harg5 arg6 harg6 arg7 harg7 arg8 harg8 arg9 harg9 arg10 harg10 arg11 harg11 arg12 arg13 arg14 arg15 arg16 arg17 arg18 arg19 q fp _ k0_t1 hg _ _ _ _ _ _ ρ' hρ' hW' _) fun _ => ?_
    refine issIn defs d i arg2 arg7 arg15 q fp 2 1024 1032 rfl rfl (in2_of hW' hρ') _ _ _ _ _ (fun _ => rfl) (fun _ => rfl) (fun _ h => a8_2 hW' hρ' h) ?_
    refine issIn defs d i arg2 arg7 arg15 q fp 3 1536 520 rfl rfl (in3_of hW' hρ') _ _ _ _ _ (fun _ => rfl) (fun _ => rfl) (fun _ h => a8_3 hW' hρ' h) ?_
    refine issIn defs d i arg2 arg7 arg15 q fp 4 8 2048 rfl rfl (in4_of (hr.trans hW') hρ') _ _ _ _ _ (fun _ => rfl) (fun _ => rfl) (fun _ h => a8_4 hρ' h) ?_
    exact retQ defs ⟨rfl, rfl, rfl⟩ (may_pos hg)
  · refine guardNeg defs d i hg ?_
    exact retQ defs ⟨rfl, rfl, rfl⟩ (may_neg hg)

theorem part118 (v1 : BitVec 32) (k0_t1 : Fin k0_t1_loop.trips) (v558 : BitVec 32) (v565 : BitVec 32) (v588 : BitVec 32) (c8_i32_281 : BitVec 32) (v589 : BitVec 32) (v594 : BitVec 32)
    (O : CellTallies nD τ sig (HIx 1)) (ρ : ℕ) (hρ : ρ < 2048) (hW : rowW i (tW k0_t1 0#32) = BitVec.ofNat 32 ρ) (R : sProp 𝕄) :
    iprop(InWt d i arg2 arg4 arg12 q fp ρ 0 ∗ OW d i O ∗ R) ⊢ wpT defs d i (k0_part118 i arg2 harg2 arg3 harg3 arg4 harg4 arg5 harg5 arg6 harg6 arg7 harg7 arg8 harg8 arg9 harg9 arg10 harg10 arg11 harg11 arg12 arg13 arg14 arg15 arg16 arg17 arg18 arg19 v1 k0_t1 v558 v565 v588 c8_i32_281 v589 v594)
      (fun _ => iprop(InWt d i arg2 arg4 arg12 q fp ρ 1 ∗ OW d i O ∗ R)) := by
  unfold k0_part118
  refine wtIn defs d i arg2 arg4 arg12 q fp 0 (in0_of hW hρ) _ (fun _ => rfl) (fun _ => rfl) (fun _ => rfl) ?_
  exact retS defs d i

theorem part119 (v1 : BitVec 32) (k0_t1 : Fin k0_t1_loop.trips) (v558 : BitVec 32) (v565 : BitVec 32) (v629 : BitVec 32)
    (O : CellTallies nD τ sig (HIx 1)) (h5 : v565 = rowW i (tW k0_t1 0#32)) (ρ : ℕ) (hρ : ρ < 2048) (hW : rowW i (tW k0_t1 0#32) = BitVec.ofNat 32 ρ) (ρp : ℕ) (hG : k0_cond27 k0_t1 = 1#1 ↔ k0_t1.val ≠ 0) (hP : k0_t1.val ≠ 0 → rowW i (tPrev k0_t1 0#32) = BitVec.ofNat 32 ρp ∧ ρp < 2048) (R : sProp 𝕄) :
    iprop(InWt d i arg2 arg4 arg12 q fp ρ 1 ∗ OW d i O ∗ OutPrev d i arg2 arg3 arg8 arg16 fp k0_t1.val ρp ∗ R) ⊢ wpT defs d i (k0_part119 i arg2 harg2 arg3 harg3 arg4 harg4 arg5 harg5 arg6 harg6 arg7 harg7 arg8 harg8 arg9 harg9 arg10 harg10 arg11 harg11 arg12 arg13 arg14 arg15 arg16 arg17 arg18 arg19 v1 k0_t1 v558 v565 v629)
      (fun _ => iprop((OutIdle d i arg8 arg16 ∗ DnIf d i arg2 arg3 fp k0_t1.val ρp) ∗ OW d i O ∗ InWt d i arg2 arg4 arg12 q fp ρ 5 ∗ R)) := by
  unfold k0_part119
  subst h5
  refine wtIn defs d i arg2 arg4 arg12 q fp 1 (in1_of hW hρ) _ (fun _ => rfl) (fun _ => rfl) (fun _ => rfl) ?_
  refine wtIn defs d i arg2 arg4 arg12 q fp 2 (in2_of hW hρ) _ (fun _ => rfl) (fun _ => rfl) (fun _ => rfl) ?_
  refine wtIn defs d i arg2 arg4 arg12 q fp 3 (in3_of hW hρ) _ (fun _ => rfl) (fun _ => rfl) (fun _ => rfl) ?_
  refine wtIn defs d i arg2 arg4 arg12 q fp 4 (in4_of hW hρ) _ (fun _ => rfl) (fun _ => rfl) (fun _ => rfl) ?_
  refine sepRot.trans ?_
  rcases Classical.em (k0_cond27 k0_t1 = 1#1) with hg | hg
  · obtain ⟨hW', hρ'⟩ := hP (hG.1 hg)
    refine guardPos defs d i hg ?_
    refine (prev_pos (d := d) (i := i) (pa := arg2) (am := arg3) (ob := arg8) (so := arg16) (fp := fp) (ρ := ρp) (R := _) (hG.1 hg)).trans ?_
    refine bindPure defs d i (P := fun _ => True) ⟨_, rfl, trivial⟩ fun _ _ => ?_
    refine bindS defs d i (part28 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 hg _ _ _ _ _ _ O ρp hρ' hW' _) fun _ => ?_
    refine wtOut defs d i arg2 arg3 arg8 arg16 fp 3 (out3_of hW' hρ') _ (fun _ => rfl) (fun _ => rfl) (fun _ => rfl) ?_
    exact retT defs (prev_done (hG.1 hg))
  · refine guardNeg defs d i hg ?_
    exact retT defs (prev_neg (not_not.1 fun h => hg (hG.2 h)))

end Cert.KernelIdeal.Packed
-- ==== Proof.Trip1.lean ====
module
public import proofs.«01_k».proof.Proof.Conds

/-!
# Step 1 of a trip

The printed parts that fetch, await, write back and await the writing back for slot 1's row.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
set_option maxHeartbeats 4000000
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part43 (v1 : BitVec 32) (v801 : BitVec 32) (k0_t1 : Fin k0_t1_loop.trips) (h1 : v1 = wid i) (ht : v801 = tW k0_t1 1#32) :
    ∃ r, k0_part43 (F := F) i arg2 harg2 arg3 harg3 arg4 harg4 arg5 harg5 arg6 harg6 arg7 harg7 arg8 harg8 arg9 harg9 arg10 harg10 arg11 harg11 arg12 arg13 arg14 arg15 arg16 arg17 arg18 arg19 v1 v801 = .ret r ∧ r.2.1 = rowW i (tNext k0_t1 1#32) := by
  subst h1 ht; exact ⟨_, rfl, rfl⟩

theorem part44 (v1 : BitVec 32) (k0_t1 : Fin k0_t1_loop.trips) (k0_h36 : k0_cond36 k0_t1 = 1#1) (v1530 : BitVec 32) (v1532 : BitVec 32) (v1555 : BitVec 32) (v1556 : BitVec 32) (v1567 : BitVec 1) (v1569 : BitVec 1)
    (ρ : ℕ) (hρ : ρ < 2048) (hW : rowW i (tNext k0_t1 1#32) = BitVec.ofNat 32 ρ) (R : sProp 𝕄) :
    iprop(InIss d i arg2 arg4 arg12 q fp ρ 0 ∗ R) ⊢ wpT defs d i (k0_part44 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h36 v1530 v1532 v1555 v1556 v1567 v1569)
      (fun _ => iprop(InIss d i arg2 arg4 arg12 q fp ρ 2 ∗ R)) := by
  unfold k0_part44
  refine issIn defs d i arg2 arg4 arg12 q fp 0 0 2056 rfl rfl (in0_of hW hρ) _ _ _ _ _ (fun _ => rfl) (fun _ => rfl) (fun _ h => a8_0 hW hρ h) ?_
  refine issIn defs d i arg2 arg4 arg12 q fp 1 512 1544 rfl rfl (in1_of hW hρ) _ _ _ _ _ (fun _ => rfl) (fun _ => rfl) (fun _ h => a8_1 hW hρ h) ?_
  exact retS defs d i

theorem part54 (v1 : BitVec 32) (k0_t1 : Fin k0_t1_loop.trips) (k0_h47 : k0_cond47 k0_t1 = 1#1) (v1529 : BitVec 32) (v1531 : BitVec 32) (v1554 : BitVec 32) (v1555 : BitVec 32) (v1569 : BitVec 1) (c1_i32_773 : BitVec 32)
    (O : CellTallies nD τ sig (HIx 1)) (ρ : ℕ) (hρ : ρ < 2048) (hW : rowW i (tPrev k0_t1 1#32) = BitVec.ofNat 32 ρ) (R : sProp 𝕄) :
    iprop(OutWt d i arg2 arg3 arg9 arg17 fp ρ 0 ∗ OW d i O ∗ R) ⊢ wpT defs d i (k0_part54 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h47 v1529 v1531 v1554 v1555 v1569 c1_i32_773)
      (fun _ => iprop(OutWt d i arg2 arg3 arg9 arg17 fp ρ 3 ∗ OW d i O ∗ R)) := by
  unfold k0_part54
  refine wtOut defs d i arg2 arg3 arg9 arg17 fp 0 (out0_of hW hρ) _ (fun _ => rfl) (fun _ => rfl) (fun _ => rfl) ?_
  refine wtOut defs d i arg2 arg3 arg9 arg17 fp 1 (out1_of hW hρ) _ (fun _ => rfl) (fun _ => rfl) (fun _ => rfl) ?_
  refine wtOut defs d i arg2 arg3 arg9 arg17 fp 2 (out2_of hW hρ) _ (fun _ => rfl) (fun _ => rfl) (fun _ => rfl) ?_
  exact retS defs d i

theorem part123 (v1 : BitVec 32) (k0_t1 : Fin k0_t1_loop.trips) (arg20 : BitVec 32) (v558 : BitVec 32) (v787 : BitVec 32) (v789 : BitVec 32) (c0_i32_379 : BitVec 32)
    (h1 : v1 = wid i) (ha : arg20 = Scf.iv 0#32 1#32 k0_t1) (ρ : ℕ) (hρ : ρ < 2048) (hW : rowW i (tW k0_t1 0#32) = BitVec.ofNat 32 ρ) (ρ' : ℕ) (hN : k0_cond36 k0_t1 = 1#1 → rowW i (tNext k0_t1 1#32) = BitVec.ofNat 32 ρ' ∧ ρ' < 2048) (R : sProp 𝕄) :
    iprop(OutIss d i arg2 arg3 arg8 arg16 fp ρ 0 ∗ InIdle d i arg2 arg4 arg12 q fp ∗ R) ⊢ wpT defs d i (k0_part123 i arg2 harg2 arg3 harg3 arg4 harg4 arg5 harg5 arg6 harg6 arg7 harg7 arg8 harg8 arg9 harg9 arg10 harg10 arg11 harg11 arg12 arg13 arg14 arg15 arg16 arg17 arg18 arg19 v1 k0_t1 arg20 v558 v787 v789 c0_i32_379)
      (fun r => iprop(⌜r.1 = tW k0_t1 1#32 ∧ r.2.1 = rowW i (tW k0_t1 1#32)⌝ ∗ InMay d i arg2 arg4 arg12 q fp (k0_cond36 k0_t1) ρ' ∗ OutIss d i arg2 arg3 arg8 arg16 fp ρ 4 ∗ R)) := by
  unfold k0_part123
  subst h1 ha
  refine issOut defs d i arg2 arg3 arg8 arg16 fp 0 0 2048 hρ rfl rfl (out0_of hW hρ) _ _ _ _ _ (fun _ => rfl) (fun _ => rfl) (fun _ => ⟨row_of hW hρ, rfl⟩) ?_
  refine issOut defs d i arg2 arg3 arg8 arg16 fp 1 512 1536 hρ rfl rfl (out1_of hW hρ) _ _ _ _ _ (fun _ => rfl) (fun _ => rfl) (fun _ => ⟨row_of hW hρ, rfl⟩) ?_
  refine issOut defs d i arg2 arg3 arg8 arg16 fp 2 1024 1024 hρ rfl rfl (out2_of hW hρ) _ _ _ _ _ (fun _ => rfl) (fun _ => rfl) (fun _ => ⟨row_of hW hρ, rfl⟩) ?_
  refine issOut defs d i arg2 arg3 arg8 arg16 fp 3 1536 512 hρ rfl rfl (out3_of hW hρ) _ _ _ _ _ (fun _ => rfl) (fun _ => rfl) (fun _ => ⟨row_of hW hρ, rfl⟩) ?_
  refine sepSwap.trans ?_
  rcases Classical.em (k0_cond36 k0_t1 = 1#1) with hg | hg
  · obtain ⟨hW', hρ'⟩ := hN hg
    refine guardPos defs d i hg ?_
    refine (iss_start (d := d) (i := i) (pa := arg2) (ib := arg4) (si := arg12) (q := q) (fp := fp) (ρ := ρ') (R := _)).trans ?_
    refine bindPure defs d i (part43 i arg2 harg2 arg3 harg3 arg4 harg4 arg5 harg5 arg6 harg6 arg7 harg7 arg8 harg8 arg9 harg9 arg10 harg10 arg11 harg11 arg12 arg13 arg14 arg15 arg16 arg17 arg18 arg19 _ _ k0_t1 rfl rfl) fun r hr => ?_
    obtain ⟨r1, r2, r3, r4, r5, r6⟩ := r
    change r2 = _ at hr
    refine bindS defs d i (part44 defs d i arg2 harg2 arg3 harg3 arg4 harg4 arg5 harg5 arg6 harg6 arg7 harg7 arg8 harg8 arg9 harg9 arg10 harg10 arg11 harg11 arg12 arg13 arg14 arg15 arg16 arg17 arg18 arg19 q fp _ k0_t1 hg _ _ _ _ _ _ ρ' hρ' hW' _) fun _ => ?_
    refine issIn defs d i arg2 arg4 arg12 q fp 2 1024 1032 rfl rfl (in2_of hW' hρ') _ _ _ _ _ (fun _ => rfl) (fun _ => rfl) (fun _ h => a8_2 hW' hρ' h) ?_
    refine issIn defs d i arg2 arg4 arg12 q fp 3 1536 520 rfl rfl (in3_of hW' hρ') _ _ _ _ _ (fun _ => rfl) (fun _ => rfl) (fun _ h => a8_3 hW' hρ' h) ?_
    refine issIn defs d i arg2 arg4 arg12 q fp 4 8 2048 rfl rfl (in4_of (hr.trans hW') hρ') _ _ _ _ _ (fun _ => rfl) (fun _ => rfl) (fun _ h => a8_4 hρ' h) ?_
    exact retQ defs ⟨rfl, rfl⟩ (may_pos hg)
  · refine guardNeg defs d i hg ?_
    exact retQ defs ⟨rfl, rfl⟩ (may_neg hg)

theorem part125 (v1 : BitVec 32) (k0_t1 : Fin k0_t1_loop.trips) (v801 : BitVec 32) (v808 : BitVec 32) (c512_i32_415 : BitVec 32) (v856 : BitVec 32) (v861 : BitVec 32) (v863 : BitVec 32) (v864 : BitVec 1)
    (O : CellTallies nD τ sig (HIx 1)) (h5 : v808 = rowW i (tW k0_t1 1#32)) (ρ : ℕ) (hρ : ρ < 2048) (hW : rowW i (tW k0_t1 1#32) = BitVec.ofNat 32 ρ) (ρp : ℕ) (hG : k0_cond47 k0_t1 = 1#1 ↔ k0_t1.val ≠ 0) (hP : k0_t1.val ≠ 0 → rowW i (tPrev k0_t1 1#32) = BitVec.ofNat 32 ρp ∧ ρp < 2048) (R : sProp 𝕄) :
    iprop(InWt d i arg2 arg5 arg13 q fp ρ 0 ∗ OW d i O ∗ OutPrev d i arg2 arg3 arg9 arg17 fp k0_t1.val ρp ∗ R) ⊢ wpT defs d i (k0_part125 i arg2 harg2 arg3 harg3 arg4 harg4 arg5 harg5 arg6 harg6 arg7 harg7 arg8 harg8 arg9 harg9 arg10 harg10 arg11 harg11 arg12 arg13 arg14 arg15 arg16 arg17 arg18 arg19 v1 k0_t1 v801 v808 c512_i32_415 v856 v861 v863 v864)
      (fun _ => iprop((OutIdle d i arg9 arg17 ∗ DnIf d i arg2 arg3 fp k0_t1.val ρp) ∗ OW d i O ∗ InWt d i arg2 arg5 arg13 q fp ρ 5 ∗ R)) := by
  unfold k0_part125
  subst h5
  refine wtIn defs d i arg2 arg5 arg13 q fp 0 (in0_of hW hρ) _ (fun _ => rfl) (fun _ => rfl) (fun _ => rfl) ?_
  refine wtIn defs d i arg2 arg5 arg13 q fp 1 (in1_of hW hρ) _ (fun _ => rfl) (fun _ => rfl) (fun _ => rfl) ?_
  refine wtIn defs d i arg2 arg5 arg13 q fp 2 (in2_of hW hρ) _ (fun _ => rfl) (fun _ => rfl) (fun _ => rfl) ?_
  refine wtIn defs d i arg2 arg5 arg13 q fp 3 (in3_of hW hρ) _ (fun _ => rfl) (fun _ => rfl) (fun _ => rfl) ?_
  refine wtIn defs d i arg2 arg5 arg13 q fp 4 (in4_of hW hρ) _ (fun _ => rfl) (fun _ => rfl) (fun _ => rfl) ?_
  refine sepRot.trans ?_
  rcases Classical.em (k0_cond47 k0_t1 = 1#1) with hg | hg
  · obtain ⟨hW', hρ'⟩ := hP (hG.1 hg)
    refine guardPos defs d i hg ?_
    refine (prev_pos (d := d) (i := i) (pa := arg2) (am := arg3) (ob := arg9) (so := arg17) (fp := fp) (ρ := ρp) (R := _) (hG.1 hg)).trans ?_
    refine bindPure defs d i (P := fun _ => True) ⟨_, rfl, trivial⟩ fun _ _ => ?_
    refine bindS defs d i (part54 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 hg _ _ _ _ _ _ O ρp hρ' hW' _) fun _ => ?_
    refine wtOut defs d i arg2 arg3 arg9 arg17 fp 3 (out3_of hW' hρ') _ (fun _ => rfl) (fun _ => rfl) (fun _ => rfl) ?_
    exact retT defs (prev_done (hG.1 hg))
  · refine guardNeg defs d i hg ?_
    exact retT defs (prev_neg (not_not.1 fun h => hg (hG.2 h)))

end Cert.KernelIdeal.Packed
-- ==== Proof.Trip2.lean ====
module
public import proofs.«01_k».proof.Proof.Conds

/-!
# Step 2 of a trip

The printed parts that fetch, await, write back and await the writing back for slot 2's row.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
set_option maxHeartbeats 4000000
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part69 (v1 : BitVec 32) (v1044 : BitVec 32) (k0_t1 : Fin k0_t1_loop.trips) (h1 : v1 = wid i) (ht : v1044 = tW k0_t1 2#32) :
    ∃ r, k0_part69 (F := F) i arg2 harg2 arg3 harg3 arg4 harg4 arg5 harg5 arg6 harg6 arg7 harg7 arg8 harg8 arg9 harg9 arg10 harg10 arg11 harg11 arg12 arg13 arg14 arg15 arg16 arg17 arg18 arg19 v1 v1044 = .ret r ∧ r.2.1 = rowW i (tNext k0_t1 2#32) := by
  subst h1 ht; exact ⟨_, rfl, rfl⟩

theorem part70 (v1 : BitVec 32) (k0_t1 : Fin k0_t1_loop.trips) (k0_h56 : k0_cond56 k0_t1 = 1#1) (v1530 : BitVec 32) (v1532 : BitVec 32) (v1555 : BitVec 32) (v1556 : BitVec 32) (v1567 : BitVec 1) (v1569 : BitVec 1)
    (ρ : ℕ) (hρ : ρ < 2048) (hW : rowW i (tNext k0_t1 2#32) = BitVec.ofNat 32 ρ) (R : sProp 𝕄) :
    iprop(InIss d i arg2 arg5 arg13 q fp ρ 0 ∗ R) ⊢ wpT defs d i (k0_part70 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h56 v1530 v1532 v1555 v1556 v1567 v1569)
      (fun _ => iprop(InIss d i arg2 arg5 arg13 q fp ρ 2 ∗ R)) := by
  unfold k0_part70
  refine issIn defs d i arg2 arg5 arg13 q fp 0 0 2056 rfl rfl (in0_of hW hρ) _ _ _ _ _ (fun _ => rfl) (fun _ => rfl) (fun _ h => a8_0 hW hρ h) ?_
  refine issIn defs d i arg2 arg5 arg13 q fp 1 512 1544 rfl rfl (in1_of hW hρ) _ _ _ _ _ (fun _ => rfl) (fun _ => rfl) (fun _ h => a8_1 hW hρ h) ?_
  exact retS defs d i

theorem part80 (v1 : BitVec 32) (k0_t1 : Fin k0_t1_loop.trips) (k0_h67 : k0_cond67 k0_t1 = 1#1) (v1529 : BitVec 32) (v1531 : BitVec 32) (v1554 : BitVec 32) (v1555 : BitVec 32) (v1569 : BitVec 1) (c1_i32_773 : BitVec 32)
    (O : CellTallies nD τ sig (HIx 1)) (ρ : ℕ) (hρ : ρ < 2048) (hW : rowW i (tPrev k0_t1 2#32) = BitVec.ofNat 32 ρ) (R : sProp 𝕄) :
    iprop(OutWt d i arg2 arg3 arg10 arg18 fp ρ 0 ∗ OW d i O ∗ R) ⊢ wpT defs d i (k0_part80 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h67 v1529 v1531 v1554 v1555 v1569 c1_i32_773)
      (fun _ => iprop(OutWt d i arg2 arg3 arg10 arg18 fp ρ 3 ∗ OW d i O ∗ R)) := by
  unfold k0_part80
  refine wtOut defs d i arg2 arg3 arg10 arg18 fp 0 (out0_of hW hρ) _ (fun _ => rfl) (fun _ => rfl) (fun _ => rfl) ?_
  refine wtOut defs d i arg2 arg3 arg10 arg18 fp 1 (out1_of hW hρ) _ (fun _ => rfl) (fun _ => rfl) (fun _ => rfl) ?_
  refine wtOut defs d i arg2 arg3 arg10 arg18 fp 2 (out2_of hW hρ) _ (fun _ => rfl) (fun _ => rfl) (fun _ => rfl) ?_
  exact retS defs d i

theorem part129 (v1 : BitVec 32) (k0_t1 : Fin k0_t1_loop.trips) (arg20 : BitVec 32) (v801 : BitVec 32) (v966 : BitVec 32) (c512_i32_494 : BitVec 32) (v1014 : BitVec 32) (v1019 : BitVec 32)
    (h1 : v1 = wid i) (ha : arg20 = Scf.iv 0#32 1#32 k0_t1) (ρ : ℕ) (hρ : ρ < 2048) (hW : rowW i (tW k0_t1 1#32) = BitVec.ofNat 32 ρ) (ρ' : ℕ) (hN : k0_cond56 k0_t1 = 1#1 → rowW i (tNext k0_t1 2#32) = BitVec.ofNat 32 ρ' ∧ ρ' < 2048) (R : sProp 𝕄) :
    iprop(OutIss d i arg2 arg3 arg9 arg17 fp ρ 0 ∗ InIdle d i arg2 arg5 arg13 q fp ∗ R) ⊢ wpT defs d i (k0_part129 i arg2 harg2 arg3 harg3 arg4 harg4 arg5 harg5 arg6 harg6 arg7 harg7 arg8 harg8 arg9 harg9 arg10 harg10 arg11 harg11 arg12 arg13 arg14 arg15 arg16 arg17 arg18 arg19 v1 k0_t1 arg20 v801 v966 c512_i32_494 v1014 v1019)
      (fun r => iprop(⌜r.1 = tW k0_t1 2#32 ∧ r.2.1 = rowW i (tW k0_t1 2#32)⌝ ∗ InMay d i arg2 arg5 arg13 q fp (k0_cond56 k0_t1) ρ' ∗ OutIss d i arg2 arg3 arg9 arg17 fp ρ 4 ∗ R)) := by
  unfold k0_part129
  subst h1 ha
  refine issOut defs d i arg2 arg3 arg9 arg17 fp 0 0 2048 hρ rfl rfl (out0_of hW hρ) _ _ _ _ _ (fun _ => rfl) (fun _ => rfl) (fun _ => ⟨row_of hW hρ, rfl⟩) ?_
  refine issOut defs d i arg2 arg3 arg9 arg17 fp 1 512 1536 hρ rfl rfl (out1_of hW hρ) _ _ _ _ _ (fun _ => rfl) (fun _ => rfl) (fun _ => ⟨row_of hW hρ, rfl⟩) ?_
  refine issOut defs d i arg2 arg3 arg9 arg17 fp 2 1024 1024 hρ rfl rfl (out2_of hW hρ) _ _ _ _ _ (fun _ => rfl) (fun _ => rfl) (fun _ => ⟨row_of hW hρ, rfl⟩) ?_
  refine issOut defs d i arg2 arg3 arg9 arg17 fp 3 1536 512 hρ rfl rfl (out3_of hW hρ) _ _ _ _ _ (fun _ => rfl) (fun _ => rfl) (fun _ => ⟨row_of hW hρ, rfl⟩) ?_
  refine sepSwap.trans ?_
  rcases Classical.em (k0_cond56 k0_t1 = 1#1) with hg | hg
  · obtain ⟨hW', hρ'⟩ := hN hg
    refine guardPos defs d i hg ?_
    refine (iss_start (d := d) (i := i) (pa := arg2) (ib := arg5) (si := arg13) (q := q) (fp := fp) (ρ := ρ') (R := _)).trans ?_
    refine bindPure defs d i (part69 i arg2 harg2 arg3 harg3 arg4 harg4 arg5 harg5 arg6 harg6 arg7 harg7 arg8 harg8 arg9 harg9 arg10 harg10 arg11 harg11 arg12 arg13 arg14 arg15 arg16 arg17 arg18 arg19 _ _ k0_t1 rfl rfl) fun r hr => ?_
    obtain ⟨r1, r2, r3, r4, r5, r6⟩ := r
    change r2 = _ at hr
    refine bindS defs d i (part70 defs d i arg2 harg2 arg3 harg3 arg4 harg4 arg5 harg5 arg6 harg6 arg7 harg7 arg8 harg8 arg9 harg9 arg10 harg10 arg11 harg11 arg12 arg13 arg14 arg15 arg16 arg17 arg18 arg19 q fp _ k0_t1 hg _ _ _ _ _ _ ρ' hρ' hW' _) fun _ => ?_
    refine issIn defs d i arg2 arg5 arg13 q fp 2 1024 1032 rfl rfl (in2_of hW' hρ') _ _ _ _ _ (fun _ => rfl) (fun _ => rfl) (fun _ h => a8_2 hW' hρ' h) ?_
    refine issIn defs d i arg2 arg5 arg13 q fp 3 1536 520 rfl rfl (in3_of hW' hρ') _ _ _ _ _ (fun _ => rfl) (fun _ => rfl) (fun _ h => a8_3 hW' hρ' h) ?_
    refine issIn defs d i arg2 arg5 arg13 q fp 4 8 2048 rfl rfl (in4_of (hr.trans hW') hρ') _ _ _ _ _ (fun _ => rfl) (fun _ => rfl) (fun _ h => a8_4 hρ' h) ?_
    exact retQ defs ⟨rfl, rfl⟩ (may_pos hg)
  · refine guardNeg defs d i hg ?_
    exact retQ defs ⟨rfl, rfl⟩ (may_neg hg)

theorem part131 (v1 : BitVec 32) (k0_t1 : Fin k0_t1_loop.trips) (v1044 : BitVec 32) (v1051 : BitVec 32) (v1074 : BitVec 32) (v1095 : BitVec 32)
    (O : CellTallies nD τ sig (HIx 1)) (h5 : v1051 = rowW i (tW k0_t1 2#32)) (ρ : ℕ) (hρ : ρ < 2048) (hW : rowW i (tW k0_t1 2#32) = BitVec.ofNat 32 ρ) (R : sProp 𝕄) :
    iprop(InWt d i arg2 arg6 arg14 q fp ρ 0 ∗ OW d i O ∗ R) ⊢ wpT defs d i (k0_part131 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1044 v1051 v1074 v1095)
      (fun r => iprop(⌜Scalar.cmpi .ne r.1 r.2 = condR0 (rowW i (tW k0_t1 2#32))⌝ ∗ InWt d i arg2 arg6 arg14 q fp ρ 4 ∗ OW d i O ∗ R)) := by
  unfold k0_part131
  refine wtIn defs d i arg2 arg6 arg14 q fp 0 (in0_of hW hρ) _ (fun _ => rfl) (fun _ => rfl) (fun _ => rfl) ?_
  refine wtIn defs d i arg2 arg6 arg14 q fp 1 (in1_of hW hρ) _ (fun _ => rfl) (fun _ => rfl) (fun _ => rfl) ?_
  refine wtIn defs d i arg2 arg6 arg14 q fp 2 (in2_of hW hρ) _ (fun _ => rfl) (fun _ => rfl) (fun _ => rfl) ?_
  refine wtIn defs d i arg2 arg6 arg14 q fp 3 (in3_of hW hρ) _ (fun _ => rfl) (fun _ => rfl) (fun _ => rfl) ?_
  refine BIBase.Entails.trans ?_ (le_wp_ret _ _ _ _ _)
  refine pureI ?_ BIBase.Entails.rfl
  rw [← h5]; rfl

theorem part132 (v1 : BitVec 32) (k0_t1 : Fin k0_t1_loop.trips) (v1044 : BitVec 32) (v1131 : BitVec 32) (c0_i32_555 : BitVec 32)
    (O : CellTallies nD τ sig (HIx 1)) (h5 : Scalar.cmpi .ne v1131 c0_i32_555 = condR0 (rowW i (tW k0_t1 2#32))) (ρ : ℕ) (hρ : ρ < 2048) (hW : rowW i (tW k0_t1 2#32) = BitVec.ofNat 32 ρ) (ρp : ℕ) (hG : k0_cond67 k0_t1 = 1#1 ↔ k0_t1.val ≠ 0) (hP : k0_t1.val ≠ 0 → rowW i (tPrev k0_t1 2#32) = BitVec.ofNat 32 ρp ∧ ρp < 2048) (R : sProp 𝕄) :
    iprop(InWt d i arg2 arg6 arg14 q fp ρ 4 ∗ OW d i O ∗ OutPrev d i arg2 arg3 arg10 arg18 fp k0_t1.val ρp ∗ R) ⊢ wpT defs d i (k0_part132 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1044 v1131 c0_i32_555)
      (fun _ => iprop((OutIdle d i arg10 arg18 ∗ DnIf d i arg2 arg3 fp k0_t1.val ρp) ∗ OW d i O ∗ InWt d i arg2 arg6 arg14 q fp ρ 5 ∗ R)) := by
  unfold k0_part132
  refine wtIn defs d i arg2 arg6 arg14 q fp 4 ((iff_of_eq (congrArg (· = 1#1) h5)).trans (in4_of hW hρ)) _ (fun _ => rfl) (fun _ => rfl) (fun _ => rfl) ?_
  refine sepRot.trans ?_
  rcases Classical.em (k0_cond67 k0_t1 = 1#1) with hg | hg
  · obtain ⟨hW', hρ'⟩ := hP (hG.1 hg)
    refine guardPos defs d i hg ?_
    refine (prev_pos (d := d) (i := i) (pa := arg2) (am := arg3) (ob := arg10) (so := arg18) (fp := fp) (ρ := ρp) (R := _) (hG.1 hg)).trans ?_
    refine bindPure defs d i (P := fun _ => True) ⟨_, rfl, trivial⟩ fun _ _ => ?_
    refine bindS defs d i (part80 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 hg _ _ _ _ _ _ O ρp hρ' hW' _) fun _ => ?_
    refine wtOut defs d i arg2 arg3 arg10 arg18 fp 3 (out3_of hW' hρ') _ (fun _ => rfl) (fun _ => rfl) (fun _ => rfl) ?_
    exact retT defs (prev_done (hG.1 hg))
  · refine guardNeg defs d i hg ?_
    exact retT defs (prev_neg (not_not.1 fun h => hg (hG.2 h)))

end Cert.KernelIdeal.Packed
-- ==== Proof.Trip3.lean ====
module
public import proofs.«01_k».proof.Proof.Conds

/-!
# Step 3 of a trip

The printed parts that fetch, await, write back and await the writing back for slot 3's row.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
set_option maxHeartbeats 4000000
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part95 (v1 : BitVec 32) (v1287 : BitVec 32) (k0_t1 : Fin k0_t1_loop.trips) (h1 : v1 = wid i) (ht : v1287 = tW k0_t1 3#32) :
    ∃ r, k0_part95 (F := F) i arg2 harg2 arg3 harg3 arg4 harg4 arg5 harg5 arg6 harg6 arg7 harg7 arg8 harg8 arg9 harg9 arg10 harg10 arg11 harg11 arg12 arg13 arg14 arg15 arg16 arg17 arg18 arg19 v1 v1287 = .ret r ∧ r.2.1 = rowW i (tNext k0_t1 3#32) := by
  subst h1 ht; exact ⟨_, rfl, rfl⟩

theorem part96 (v1 : BitVec 32) (k0_t1 : Fin k0_t1_loop.trips) (k0_h76 : k0_cond76 k0_t1 = 1#1) (v1530 : BitVec 32) (v1532 : BitVec 32) (v1555 : BitVec 32) (v1556 : BitVec 32) (v1567 : BitVec 1) (v1569 : BitVec 1)
    (ρ : ℕ) (hρ : ρ < 2048) (hW : rowW i (tNext k0_t1 3#32) = BitVec.ofNat 32 ρ) (R : sProp 𝕄) :
    iprop(InIss d i arg2 arg6 arg14 q fp ρ 0 ∗ R) ⊢ wpT defs d i (k0_part96 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h76 v1530 v1532 v1555 v1556 v1567 v1569)
      (fun _ => iprop(InIss d i arg2 arg6 arg14 q fp ρ 2 ∗ R)) := by
  unfold k0_part96
  refine issIn defs d i arg2 arg6 arg14 q fp 0 0 2056 rfl rfl (in0_of hW hρ) _ _ _ _ _ (fun _ => rfl) (fun _ => rfl) (fun _ h => a8_0 hW hρ h) ?_
  refine issIn defs d i arg2 arg6 arg14 q fp 1 512 1544 rfl rfl (in1_of hW hρ) _ _ _ _ _ (fun _ => rfl) (fun _ => rfl) (fun _ h => a8_1 hW hρ h) ?_
  exact retS defs d i

theorem part106 (v1 : BitVec 32) (k0_t1 : Fin k0_t1_loop.trips) (k0_h87 : k0_cond87 k0_t1 = 1#1) (v1529 : BitVec 32) (v1531 : BitVec 32) (v1554 : BitVec 32) (v1555 : BitVec 32) (v1569 : BitVec 1) (c1_i32_773 : BitVec 32)
    (O : CellTallies nD τ sig (HIx 1)) (ρ : ℕ) (hρ : ρ < 2048) (hW : rowW i (tPrev k0_t1 3#32) = BitVec.ofNat 32 ρ) (R : sProp 𝕄) :
    iprop(OutWt d i arg2 arg3 arg11 arg19 fp ρ 0 ∗ OW d i O ∗ R) ⊢ wpT defs d i (k0_part106 i arg2 harg2 arg3 harg3 arg4 harg4 arg5 harg5 arg6 harg6 arg7 harg7 arg8 harg8 arg9 harg9 arg10 harg10 arg11 harg11 arg12 arg13 arg14 arg15 arg16 arg17 arg18 arg19 v1 k0_t1 k0_h87 v1529 v1531 v1554 v1555 v1569 c1_i32_773)
      (fun _ => iprop(OutWt d i arg2 arg3 arg11 arg19 fp ρ 3 ∗ OW d i O ∗ R)) := by
  unfold k0_part106
  refine wtOut defs d i arg2 arg3 arg11 arg19 fp 0 (out0_of hW hρ) _ (fun _ => rfl) (fun _ => rfl) (fun _ => rfl) ?_
  refine wtOut defs d i arg2 arg3 arg11 arg19 fp 1 (out1_of hW hρ) _ (fun _ => rfl) (fun _ => rfl) (fun _ => rfl) ?_
  refine wtOut defs d i arg2 arg3 arg11 arg19 fp 2 (out2_of hW hρ) _ (fun _ => rfl) (fun _ => rfl) (fun _ => rfl) ?_
  exact retS defs d i

theorem part135 (v1 : BitVec 32) (k0_t1 : Fin k0_t1_loop.trips) (arg20 : BitVec 32) (v1044 : BitVec 32) (v1209 : BitVec 32) (v1232 : BitVec 32) (v1250 : BitVec 32)
    (ha : arg20 = Scf.iv 0#32 1#32 k0_t1) (ρ : ℕ) (hρ : ρ < 2048) (hW : rowW i (tW k0_t1 2#32) = BitVec.ofNat 32 ρ) (R : sProp 𝕄) :
    iprop(OutIss d i arg2 arg3 arg10 arg18 fp ρ 0 ∗ R) ⊢ wpT defs d i (k0_part135 i arg2 harg2 arg3 harg3 arg4 harg4 arg5 harg5 arg6 harg6 arg7 harg7 arg8 harg8 arg9 harg9 arg10 harg10 arg11 harg11 arg12 arg13 arg14 arg15 arg16 arg17 arg18 arg19 v1 k0_t1 arg20 v1044 v1209 v1232 v1250)
      (fun r => iprop(⌜Scalar.addi r 3#32 = tW k0_t1 3#32⌝ ∗ OutIss d i arg2 arg3 arg10 arg18 fp ρ 4 ∗ R)) := by
  unfold k0_part135
  subst ha
  refine issOut defs d i arg2 arg3 arg10 arg18 fp 0 0 2048 hρ rfl rfl (out0_of hW hρ) _ _ _ _ _ (fun _ => rfl) (fun _ => rfl) (fun _ => ⟨row_of hW hρ, rfl⟩) ?_
  refine issOut defs d i arg2 arg3 arg10 arg18 fp 1 512 1536 hρ rfl rfl (out1_of hW hρ) _ _ _ _ _ (fun _ => rfl) (fun _ => rfl) (fun _ => ⟨row_of hW hρ, rfl⟩) ?_
  refine issOut defs d i arg2 arg3 arg10 arg18 fp 2 1024 1024 hρ rfl rfl (out2_of hW hρ) _ _ _ _ _ (fun _ => rfl) (fun _ => rfl) (fun _ => ⟨row_of hW hρ, rfl⟩) ?_
  refine issOut defs d i arg2 arg3 arg10 arg18 fp 3 1536 512 hρ rfl rfl (out3_of hW hρ) _ _ _ _ _ (fun _ => rfl) (fun _ => rfl) (fun _ => ⟨row_of hW hρ, rfl⟩) ?_
  refine BIBase.Entails.trans ?_ (le_wp_ret _ _ _ _ _)
  exact pureI rfl BIBase.Entails.rfl

theorem part136 (v1 : BitVec 32) (k0_t1 : Fin k0_t1_loop.trips) (v1286 : BitVec 32)
    (h1 : v1 = wid i) (ha : Scalar.addi v1286 3#32 = tW k0_t1 3#32) (ρ' : ℕ) (hN : k0_cond76 k0_t1 = 1#1 → rowW i (tNext k0_t1 3#32) = BitVec.ofNat 32 ρ' ∧ ρ' < 2048) (R : sProp 𝕄) :
    iprop(InIdle d i arg2 arg6 arg14 q fp ∗ R) ⊢ wpT defs d i (k0_part136 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1286)
      (fun r => iprop(⌜r.1 = tW k0_t1 3#32 ∧ r.2.1 = rowW i (tW k0_t1 3#32)⌝ ∗ InMay d i arg2 arg6 arg14 q fp (k0_cond76 k0_t1) ρ' ∗ R)) := by
  unfold k0_part136
  subst h1
  rcases Classical.em (k0_cond76 k0_t1 = 1#1) with hg | hg
  · obtain ⟨hW', hρ'⟩ := hN hg
    refine guardPos defs d i hg ?_
    refine (iss_start (d := d) (i := i) (pa := arg2) (ib := arg6) (si := arg14) (q := q) (fp := fp) (ρ := ρ') (R := _)).trans ?_
    refine bindPure defs d i (part95 i arg2 harg2 arg3 harg3 arg4 harg4 arg5 harg5 arg6 harg6 arg7 harg7 arg8 harg8 arg9 harg9 arg10 harg10 arg11 harg11 arg12 arg13 arg14 arg15 arg16 arg17 arg18 arg19 _ _ k0_t1 rfl ha) fun r hr => ?_
    obtain ⟨r1, r2, r3, r4, r5, r6⟩ := r
    change r2 = _ at hr
    refine bindS defs d i (part96 defs d i arg2 harg2 arg3 harg3 arg4 harg4 arg5 harg5 arg6 harg6 arg7 harg7 arg8 harg8 arg9 harg9 arg10 harg10 arg11 harg11 arg12 arg13 arg14 arg15 arg16 arg17 arg18 arg19 q fp _ k0_t1 hg _ _ _ _ _ _ ρ' hρ' hW' _) fun _ => ?_
    refine issIn defs d i arg2 arg6 arg14 q fp 2 1024 1032 rfl rfl (in2_of hW' hρ') _ _ _ _ _ (fun _ => rfl) (fun _ => rfl) (fun _ h => a8_2 hW' hρ' h) ?_
    refine issIn defs d i arg2 arg6 arg14 q fp 3 1536 520 rfl rfl (in3_of hW' hρ') _ _ _ _ _ (fun _ => rfl) (fun _ => rfl) (fun _ h => a8_3 hW' hρ' h) ?_
    refine issIn defs d i arg2 arg6 arg14 q fp 4 8 2048 rfl rfl (in4_of (hr.trans hW') hρ') _ _ _ _ _ (fun _ => rfl) (fun _ => rfl) (fun _ h => a8_4 hρ' h) ?_
    exact retQ defs ⟨ha, (congrArg (rowW i) ha)⟩ (may_pos hg)
  · refine guardNeg defs d i hg ?_
    exact retQ defs ⟨ha, (congrArg (rowW i) ha)⟩ (may_neg hg)

theorem part137 (v1 : BitVec 32) (k0_t1 : Fin k0_t1_loop.trips) (v1287 : BitVec 32) (v1294 : BitVec 32) (v1317 : BitVec 32) (c8_i32_649 : BitVec 32) (v1318 : BitVec 32) (v1323 : BitVec 32) (v1325 : BitVec 32)
    (O : CellTallies nD τ sig (HIx 1)) (ρ : ℕ) (hρ : ρ < 2048) (hW : rowW i (tW k0_t1 3#32) = BitVec.ofNat 32 ρ) (R : sProp 𝕄) :
    iprop(InWt d i arg2 arg7 arg15 q fp ρ 0 ∗ OW d i O ∗ R) ⊢ wpT defs d i (k0_part137 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1287 v1294 v1317 c8_i32_649 v1318 v1323 v1325)
      (fun _ => iprop(InWt d i arg2 arg7 arg15 q fp ρ 1 ∗ OW d i O ∗ R)) := by
  unfold k0_part137
  refine wtIn defs d i arg2 arg7 arg15 q fp 0 (in0_of hW hρ) _ (fun _ => rfl) (fun _ => rfl) (fun _ => rfl) ?_
  exact retS defs d i

theorem part138 (v1 : BitVec 32) (k0_t1 : Fin k0_t1_loop.trips) (v1287 : BitVec 32) (v1294 : BitVec 32) (v1358 : BitVec 32) (v1365 : BitVec 32)
    (O : CellTallies nD τ sig (HIx 1)) (h5 : v1294 = rowW i (tW k0_t1 3#32)) (ρ : ℕ) (hρ : ρ < 2048) (hW : rowW i (tW k0_t1 3#32) = BitVec.ofNat 32 ρ) (ρp : ℕ) (hG : k0_cond87 k0_t1 = 1#1 ↔ k0_t1.val ≠ 0) (hP : k0_t1.val ≠ 0 → rowW i (tPrev k0_t1 3#32) = BitVec.ofNat 32 ρp ∧ ρp < 2048) (R : sProp 𝕄) :
    iprop(InWt d i arg2 arg7 arg15 q fp ρ 1 ∗ OW d i O ∗ OutPrev d i arg2 arg3 arg11 arg19 fp k0_t1.val ρp ∗ R) ⊢ wpT defs d i (k0_part138 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1287 v1294 v1358 v1365)
      (fun _ => iprop((OutIdle d i arg11 arg19 ∗ DnIf d i arg2 arg3 fp k0_t1.val ρp) ∗ OW d i O ∗ InWt d i arg2 arg7 arg15 q fp ρ 5 ∗ R)) := by
  unfold k0_part138
  subst h5
  refine wtIn defs d i arg2 arg7 arg15 q fp 1 (in1_of hW hρ) _ (fun _ => rfl) (fun _ => rfl) (fun _ => rfl) ?_
  refine wtIn defs d i arg2 arg7 arg15 q fp 2 (in2_of hW hρ) _ (fun _ => rfl) (fun _ => rfl) (fun _ => rfl) ?_
  refine wtIn defs d i arg2 arg7 arg15 q fp 3 (in3_of hW hρ) _ (fun _ => rfl) (fun _ => rfl) (fun _ => rfl) ?_
  refine wtIn defs d i arg2 arg7 arg15 q fp 4 (in4_of hW hρ) _ (fun _ => rfl) (fun _ => rfl) (fun _ => rfl) ?_
  refine sepRot.trans ?_
  rcases Classical.em (k0_cond87 k0_t1 = 1#1) with hg | hg
  · obtain ⟨hW', hρ'⟩ := hP (hG.1 hg)
    refine guardPos defs d i hg ?_
    refine (prev_pos (d := d) (i := i) (pa := arg2) (am := arg3) (ob := arg11) (so := arg19) (fp := fp) (ρ := ρp) (R := _) (hG.1 hg)).trans ?_
    refine bindPure defs d i (P := fun _ => True) ⟨_, rfl, trivial⟩ fun _ _ => ?_
    refine bindS defs d i (part106 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 hg _ _ _ _ _ _ O ρp hρ' hW' _) fun _ => ?_
    refine wtOut defs d i arg2 arg3 arg11 arg19 fp 3 (out3_of hW' hρ') _ (fun _ => rfl) (fun _ => rfl) (fun _ => rfl) ?_
    exact retT defs (prev_done (hG.1 hg))
  · refine guardNeg defs d i hg ?_
    exact retT defs (prev_neg (not_not.1 fun h => hg (hG.2 h)))

theorem part141 (v1 : BitVec 32) (k0_t1 : Fin k0_t1_loop.trips) (v1287 : BitVec 32) (v1452 : BitVec 32) (v1475 : BitVec 32) (c8_i32_728 : BitVec 32) (v1476 : BitVec 32) (v1478 : BitVec 32) (v1479 : BitVec 1)
    (ρ : ℕ) (hρ : ρ < 2048) (hW : rowW i (tW k0_t1 3#32) = BitVec.ofNat 32 ρ) (R : sProp 𝕄) :
    iprop(OutIss d i arg2 arg3 arg11 arg19 fp ρ 0 ∗ R) ⊢ wpT defs d i (k0_part141 i arg2 harg2 arg3 harg3 arg4 harg4 arg5 harg5 arg6 harg6 arg7 harg7 arg8 harg8 arg9 harg9 arg10 harg10 arg11 harg11 arg12 arg13 arg14 arg15 arg16 arg17 arg18 arg19 v1 k0_t1 v1287 v1452 v1475 c8_i32_728 v1476 v1478 v1479)
      (fun _ => iprop(OutIss d i arg2 arg3 arg11 arg19 fp ρ 1 ∗ R)) := by
  unfold k0_part141
  refine issOut defs d i arg2 arg3 arg11 arg19 fp 0 0 2048 hρ rfl rfl (out0_of hW hρ) _ _ _ _ _ (fun _ => rfl) (fun _ => rfl) (fun _ => ⟨row_of hW hρ, rfl⟩) ?_
  exact retS defs d i

end Cert.KernelIdeal.Packed
-- ==== Proof.Moves.lean ====
module

public import proofs.«01_k».proof.Proof.Conds

/-!
# Rearranging what a tile holds

What a tile holds is a long separating conjunction.  A step uses its first few members, so the
members it wants are pulled to the front one at a time; the rest here says what one state of a
slot is in terms of another.
-/

@[expose] public section

noncomputable section
namespace Cert.KernelIdeal.Packed
open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

theorem sepMono {X A B : sProp 𝕄} (h : A ⊢ B) : iprop(X ∗ A) ⊢ iprop(X ∗ B) := by
  iintro ⟨HX, HA⟩
  isplitl [HX]; · iexact HX
  iapply h $$ HA
theorem sepHead {X Y A : sProp 𝕄} (h : X ⊢ Y) : iprop(X ∗ A) ⊢ iprop(Y ∗ A) := by
  iintro ⟨HX, HA⟩
  isplitl [HX]; · iapply h $$ HX
  iexact HA
theorem sepAsc {X Y R : sProp 𝕄} : iprop((X ∗ Y) ∗ R) ⊢ iprop(X ∗ Y ∗ R) := by
  iintro ⟨⟨HX, HY⟩, HR⟩
  isplitl [HX]; · iexact HX
  isplitl [HY]; · iexact HY
  iexact HR
theorem sepGrp {X Y R : sProp 𝕄} : iprop(X ∗ Y ∗ R) ⊢ iprop((X ∗ Y) ∗ R) := by
  iintro ⟨HX, HY, HR⟩
  isplitr [HR]; · isplitl [HX]; · iexact HX
                  iexact HY
  iexact HR
theorem pull1 {a x R : sProp 𝕄} : iprop(a ∗ x ∗ R) ⊢ iprop(x ∗ a ∗ R) := by
  iintro ⟨Ha, Hx, HR⟩
  isplitl [Hx]; · iexact Hx
  isplitl [Ha]; · iexact Ha
  iexact HR
theorem pull2 {a0 a1 x R : sProp 𝕄} : iprop(a0 ∗ a1 ∗ x ∗ R) ⊢ iprop(x ∗ a0 ∗ a1 ∗ R) :=
  (sepMono pull1).trans pull1
theorem pull3 {a0 a1 a2 x R : sProp 𝕄} : iprop(a0 ∗ a1 ∗ a2 ∗ x ∗ R) ⊢ iprop(x ∗ a0 ∗ a1 ∗ a2 ∗ R) :=
  (sepMono pull2).trans pull1
theorem pull4 {a0 a1 a2 a3 x R : sProp 𝕄} : iprop(a0 ∗ a1 ∗ a2 ∗ a3 ∗ x ∗ R) ⊢ iprop(x ∗ a0 ∗ a1 ∗ a2 ∗ a3 ∗ R) :=
  (sepMono pull3).trans pull1
theorem pull5 {a0 a1 a2 a3 a4 x R : sProp 𝕄} : iprop(a0 ∗ a1 ∗ a2 ∗ a3 ∗ a4 ∗ x ∗ R) ⊢ iprop(x ∗ a0 ∗ a1 ∗ a2 ∗ a3 ∗ a4 ∗ R) :=
  (sepMono pull4).trans pull1
theorem pull6 {a0 a1 a2 a3 a4 a5 x R : sProp 𝕄} : iprop(a0 ∗ a1 ∗ a2 ∗ a3 ∗ a4 ∗ a5 ∗ x ∗ R) ⊢ iprop(x ∗ a0 ∗ a1 ∗ a2 ∗ a3 ∗ a4 ∗ a5 ∗ R) :=
  (sepMono pull5).trans pull1
theorem pull7 {a0 a1 a2 a3 a4 a5 a6 x R : sProp 𝕄} : iprop(a0 ∗ a1 ∗ a2 ∗ a3 ∗ a4 ∗ a5 ∗ a6 ∗ x ∗ R) ⊢ iprop(x ∗ a0 ∗ a1 ∗ a2 ∗ a3 ∗ a4 ∗ a5 ∗ a6 ∗ R) :=
  (sepMono pull6).trans pull1
theorem pull8 {a0 a1 a2 a3 a4 a5 a6 a7 x R : sProp 𝕄} : iprop(a0 ∗ a1 ∗ a2 ∗ a3 ∗ a4 ∗ a5 ∗ a6 ∗ a7 ∗ x ∗ R) ⊢ iprop(x ∗ a0 ∗ a1 ∗ a2 ∗ a3 ∗ a4 ∗ a5 ∗ a6 ∗ a7 ∗ R) :=
  (sepMono pull7).trans pull1
theorem pull9 {a0 a1 a2 a3 a4 a5 a6 a7 a8 x R : sProp 𝕄} : iprop(a0 ∗ a1 ∗ a2 ∗ a3 ∗ a4 ∗ a5 ∗ a6 ∗ a7 ∗ a8 ∗ x ∗ R) ⊢ iprop(x ∗ a0 ∗ a1 ∗ a2 ∗ a3 ∗ a4 ∗ a5 ∗ a6 ∗ a7 ∗ a8 ∗ R) :=
  (sepMono pull8).trans pull1
theorem pull10 {a0 a1 a2 a3 a4 a5 a6 a7 a8 a9 x R : sProp 𝕄} : iprop(a0 ∗ a1 ∗ a2 ∗ a3 ∗ a4 ∗ a5 ∗ a6 ∗ a7 ∗ a8 ∗ a9 ∗ x ∗ R) ⊢ iprop(x ∗ a0 ∗ a1 ∗ a2 ∗ a3 ∗ a4 ∗ a5 ∗ a6 ∗ a7 ∗ a8 ∗ a9 ∗ R) :=
  (sepMono pull9).trans pull1
theorem pull11 {a0 a1 a2 a3 a4 a5 a6 a7 a8 a9 a10 x R : sProp 𝕄} : iprop(a0 ∗ a1 ∗ a2 ∗ a3 ∗ a4 ∗ a5 ∗ a6 ∗ a7 ∗ a8 ∗ a9 ∗ a10 ∗ x ∗ R) ⊢ iprop(x ∗ a0 ∗ a1 ∗ a2 ∗ a3 ∗ a4 ∗ a5 ∗ a6 ∗ a7 ∗ a8 ∗ a9 ∗ a10 ∗ R) :=
  (sepMono pull10).trans pull1
theorem pull12 {a0 a1 a2 a3 a4 a5 a6 a7 a8 a9 a10 a11 x R : sProp 𝕄} : iprop(a0 ∗ a1 ∗ a2 ∗ a3 ∗ a4 ∗ a5 ∗ a6 ∗ a7 ∗ a8 ∗ a9 ∗ a10 ∗ a11 ∗ x ∗ R) ⊢ iprop(x ∗ a0 ∗ a1 ∗ a2 ∗ a3 ∗ a4 ∗ a5 ∗ a6 ∗ a7 ∗ a8 ∗ a9 ∗ a10 ∗ a11 ∗ R) :=
  (sepMono pull11).trans pull1
theorem pull13 {a0 a1 a2 a3 a4 a5 a6 a7 a8 a9 a10 a11 a12 x R : sProp 𝕄} : iprop(a0 ∗ a1 ∗ a2 ∗ a3 ∗ a4 ∗ a5 ∗ a6 ∗ a7 ∗ a8 ∗ a9 ∗ a10 ∗ a11 ∗ a12 ∗ x ∗ R) ⊢ iprop(x ∗ a0 ∗ a1 ∗ a2 ∗ a3 ∗ a4 ∗ a5 ∗ a6 ∗ a7 ∗ a8 ∗ a9 ∗ a10 ∗ a11 ∗ a12 ∗ R) :=
  (sepMono pull12).trans pull1
theorem pull14 {a0 a1 a2 a3 a4 a5 a6 a7 a8 a9 a10 a11 a12 a13 x R : sProp 𝕄} : iprop(a0 ∗ a1 ∗ a2 ∗ a3 ∗ a4 ∗ a5 ∗ a6 ∗ a7 ∗ a8 ∗ a9 ∗ a10 ∗ a11 ∗ a12 ∗ a13 ∗ x ∗ R) ⊢ iprop(x ∗ a0 ∗ a1 ∗ a2 ∗ a3 ∗ a4 ∗ a5 ∗ a6 ∗ a7 ∗ a8 ∗ a9 ∗ a10 ∗ a11 ∗ a12 ∗ a13 ∗ R) :=
  (sepMono pull13).trans pull1
theorem pull15 {a0 a1 a2 a3 a4 a5 a6 a7 a8 a9 a10 a11 a12 a13 a14 x R : sProp 𝕄} : iprop(a0 ∗ a1 ∗ a2 ∗ a3 ∗ a4 ∗ a5 ∗ a6 ∗ a7 ∗ a8 ∗ a9 ∗ a10 ∗ a11 ∗ a12 ∗ a13 ∗ a14 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ R) :=
  (sepMono pull14).trans pull1
theorem pull16 {a0 a1 a2 a3 a4 a5 a6 a7 a8 a9 a10 a11 a12 a13 a14 a15 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ R) :=
  (sepMono pull15).trans pull1
theorem pull17 {a0 a1 a2 a3 a4 a5 a6 a7 a8 a9 a10 a11 a12 a13 a14 a15 a16 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ R) :=
  (sepMono pull16).trans pull1
theorem pull18 {a0 a1 a2 a3 a4 a5 a6 a7 a8 a9 a10 a11 a12 a13 a14 a15 a16 a17 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ R) :=
  (sepMono pull17).trans pull1
theorem pull19 {a0 a1 a2 a3 a4 a5 a6 a7 a8 a9 a10 a11 a12 a13 a14 a15 a16 a17 a18 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ R) :=
  (sepMono pull18).trans pull1
theorem pull20 {a0 a1 a2 a3 a4 a5 a6 a7 a8 a9 a10 a11 a12 a13 a14 a15 a16 a17 a18 a19 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ R) :=
  (sepMono pull19).trans pull1
theorem pull21 {a0 a1 a2 a3 a4 a5 a6 a7 a8 a9 a10 a11 a12 a13 a14 a15 a16 a17 a18 a19 a20 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ R) :=
  (sepMono pull20).trans pull1
theorem pull22 {a0 a1 a2 a3 a4 a5 a6 a7 a8 a9 a10 a11 a12 a13 a14 a15 a16 a17 a18 a19 a20 a21 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ a21 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ a21 ∗ R) :=
  (sepMono pull21).trans pull1
theorem pull23 {a0 a1 a2 a3 a4 a5 a6 a7 a8 a9 a10 a11 a12 a13 a14 a15 a16 a17 a18 a19 a20 a21 a22 x R : sProp 𝕄} : iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ a21 ∗ a22 ∗ x ∗ R) ⊢ iprop(x ∗ a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18 ∗ a19 ∗ a20 ∗ a21 ∗ a22 ∗ R) :=
  (sepMono pull22).trans pull1

variable [Facts] {d : Dev nD} {i : grid0.Coords}
variable {pa : Memref sig .scVector .hbm S2096128 .f32} {am : Memref sig .scVector .hbm S2048x2048 .f32}
  {ib : Memref sig .scVector .vmem S2056 .f32} {ob : Memref sig .scVector .vmem S2048 .f32}
  {si : DmaSems sig S5} {so : DmaSems sig S4} {q : PosShare TreeShare} {fp : Buf (Elt F) (pa.view.loc (VT d i))}

theorem toWt {ρ : ℕ} {R : sProp 𝕄} : iprop(InFly d i pa ib si q fp ρ ∗ R) ⊢ iprop(InWt d i pa ib si q fp ρ 0 ∗ R) := by
  rw [InWt_zero]
theorem mayWt {g : BitVec 1} {ρ : ℕ} {R : sProp 𝕄} (h : g = 1#1) :
    iprop(InMay d i pa ib si q fp g ρ ∗ R) ⊢ iprop(InWt d i pa ib si q fp ρ 0 ∗ R) := by
  rw [InWt_zero, InMay, if_pos h]
theorem wtDone {ρ : ℕ} {R : sProp 𝕄} :
    iprop(InWt d i pa ib si q fp ρ 5 ∗ R) ⊢ iprop(InBuf d i pa ib fp ρ ∗ paTok d i pa q fp ∗ isems0 d i si ∗ R) := by
  rw [InWt_five]; unfold InDone
  exact sepAsc.trans (sepMono sepAsc)
theorem toIdle {ρ : ℕ} {R : sProp 𝕄} :
    iprop(InBuf d i pa ib fp ρ ∗ paTok d i pa q fp ∗ isems0 d i si ∗ R) ⊢ iprop(InIdle d i pa ib si q fp ∗ R) := by
  refine (sepMono sepGrp).trans (sepGrp.trans (sepHead (sepHead ?_)))
  unfold InBuf
  iintro ⟨%f, Hf, %_⟩
  iexists f; iexact Hf
theorem idleOb {R : sProp 𝕄} : iprop(OutIdle d i ob so ∗ R) ⊢ iprop(ObAny d i ob ∗ osems0 d i so ∗ R) := by
  unfold OutIdle; exact sepAsc
theorem toIss {ρ : ℕ} {R : sProp 𝕄} :
    iprop(ObBuf d i pa ob fp ρ ∗ osems0 d i so ∗ RowRaw d i am ρ ∗ R) ⊢ iprop(OutIss d i pa am ob so fp ρ 0 ∗ R) := by
  rw [OutIss_zero]; unfold OutRdy
  exact (sepMono sepGrp).trans sepGrp
theorem issFly {ρ : ℕ} {R : sProp 𝕄} :
    iprop(OutIss d i pa am ob so fp ρ 4 ∗ R) ⊢ iprop(OutFly d i pa am ob so fp ρ ∗ R) := by
  rw [OutIss_four]

end Cert.KernelIdeal.Packed
-- ==== Proof.Trip.lean ====
module
public import proofs.«01_k».proof.Proof.Gen.KernelIdeal.Skeleton
public import proofs.«01_k».proof.Proof.Shift0
public import proofs.«01_k».proof.Proof.Shift1
public import proofs.«01_k».proof.Proof.Shift2
public import proofs.«01_k».proof.Proof.Shift3
public import proofs.«01_k».proof.Proof.Trip0
public import proofs.«01_k».proof.Proof.Trip1
public import proofs.«01_k».proof.Proof.Trip2
public import proofs.«01_k».proof.Proof.Trip3
public import proofs.«01_k».proof.Proof.Moves

/-!
# One trip of the row loop

The four steps of a trip together: four rows fetched ahead, awaited, shifted and sent home.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
set_option maxHeartbeats 4000000
open Cert.KernelIdeal.Gen (k0_t1_body)

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : Fin 4 → PosShare TreeShare) (fp : Buf (Elt F) (arg2.view.loc (VT d i)))

theorem trip (O : CellTallies nD τ sig (HIx 1)) (k0_t1 : Fin k0_t1_loop.trips) (u : Unit) (v166 v230 : BitVec 32) (v231 v232 : BitVec 1)
    (ρ0 : ℕ) (hρ0 : ρ0 < 2048) (hW0 : rowW i (tW k0_t1 0#32) = BitVec.ofNat 32 ρ0) (ρ1 : ℕ) (hρ1 : ρ1 < 2048) (hW1 : rowW i (tW k0_t1 1#32) = BitVec.ofNat 32 ρ1) (ρ2 : ℕ) (hρ2 : ρ2 < 2048) (hW2 : rowW i (tW k0_t1 2#32) = BitVec.ofNat 32 ρ2) (ρ3 : ℕ) (hρ3 : ρ3 < 2048) (hW3 : rowW i (tW k0_t1 3#32) = BitVec.ofNat 32 ρ3)
    (hg0 : k0_cond16 k0_t1 = 1#1) (hN0 : rowW i (tNext k0_t1 0#32) = BitVec.ofNat 32 ρ3)
    (n0 : ℕ) (hN1 : k0_cond36 k0_t1 = 1#1 → rowW i (tNext k0_t1 1#32) = BitVec.ofNat 32 n0 ∧ n0 < 2048) (n1 : ℕ) (hN2 : k0_cond56 k0_t1 = 1#1 → rowW i (tNext k0_t1 2#32) = BitVec.ofNat 32 n1 ∧ n1 < 2048) (n2 : ℕ) (hN3 : k0_cond76 k0_t1 = 1#1 → rowW i (tNext k0_t1 3#32) = BitVec.ofNat 32 n2 ∧ n2 < 2048)
    (p0 : ℕ) (hP0 : k0_t1.val ≠ 0 → rowW i (tPrev k0_t1 0#32) = BitVec.ofNat 32 p0 ∧ p0 < 2048) (p1 : ℕ) (hP1 : k0_t1.val ≠ 0 → rowW i (tPrev k0_t1 1#32) = BitVec.ofNat 32 p1 ∧ p1 < 2048) (p2 : ℕ) (hP2 : k0_t1.val ≠ 0 → rowW i (tPrev k0_t1 2#32) = BitVec.ofNat 32 p2 ∧ p2 < 2048) (p3 : ℕ) (hP3 : k0_t1.val ≠ 0 → rowW i (tPrev k0_t1 3#32) = BitVec.ofNat 32 p3 ∧ p3 < 2048) (R : sProp 𝕄) :
    iprop(InFly d i arg2 arg4 arg12 (q 0) fp ρ0 ∗ InFly d i arg2 arg5 arg13 (q 1) fp ρ1 ∗ InFly d i arg2 arg6 arg14 (q 2) fp ρ2 ∗ InIdle d i arg2 arg7 arg15 (q 3) fp ∗ OutPrev d i arg2 arg3 arg8 arg16 fp k0_t1.val p0 ∗ OutPrev d i arg2 arg3 arg9 arg17 fp k0_t1.val p1 ∗ OutPrev d i arg2 arg3 arg10 arg18 fp k0_t1.val p2 ∗ OutPrev d i arg2 arg3 arg11 arg19 fp k0_t1.val p3 ∗ RowRaw d i arg3 ρ0 ∗ RowRaw d i arg3 ρ1 ∗ RowRaw d i arg3 ρ2 ∗ RowRaw d i arg3 ρ3 ∗ OW d i O ∗ R) ⊢ wpT defs d i (k0_t1_body i arg2 harg2 arg3 harg3 arg4 harg4 arg5 harg5 arg6 harg6 arg7 harg7 arg8 harg8 arg9 harg9 arg10 harg10 arg11 harg11 arg12 arg13 arg14 arg15 arg16 arg17 arg18 arg19 (wid i) v166 v230 v231 v232 k0_t1 u)
      (fun _ => iprop(InMay d i arg2 arg4 arg12 (q 0) fp (k0_cond36 k0_t1) n0 ∗ InMay d i arg2 arg5 arg13 (q 1) fp (k0_cond56 k0_t1) n1 ∗ InMay d i arg2 arg6 arg14 (q 2) fp (k0_cond76 k0_t1) n2 ∗ InIdle d i arg2 arg7 arg15 (q 3) fp ∗ DnIf d i arg2 arg3 fp k0_t1.val p0 ∗ DnIf d i arg2 arg3 fp k0_t1.val p1 ∗ DnIf d i arg2 arg3 fp k0_t1.val p2 ∗ DnIf d i arg2 arg3 fp k0_t1.val p3 ∗ OutFly d i arg2 arg3 arg8 arg16 fp ρ0 ∗ OutFly d i arg2 arg3 arg9 arg17 fp ρ1 ∗ OutFly d i arg2 arg3 arg10 arg18 fp ρ2 ∗ OutFly d i arg2 arg3 arg11 arg19 fp ρ3 ∗ OW d i O ∗ R)) := by
  unfold k0_t1_body
  refine pull3.trans ?_
  refine bindS defs d i (part117 defs d i arg2 harg2 arg3 harg3 arg4 harg4 arg5 harg5 arg6 harg6 arg7 harg7 arg8 harg8 arg9 harg9 arg10 harg10 arg11 harg11 arg12 arg13 arg14 arg15 arg16 arg17 arg18 arg19 (q 3) fp k0_t1 ρ3 (fun _ => ⟨hN0, hρ3⟩) _) fun r => ?_
  obtain ⟨r117_0, r117_1, r117_2, r117_3, r117_4, r117_5, r117_6⟩ := r
  refine pureL fun hr => ?_
  obtain ⟨e1, e2, e3⟩ := hr
  dsimp only at e1 e2 e3
  subst e1 e2 e3
  refine (mayWt hg0).trans ?_
  refine pull1.trans ?_
  refine (toWt).trans ?_
  refine pull12.trans ?_
  refine pull1.trans ?_
  refine bindS defs d i (part118 defs d i arg2 harg2 arg3 harg3 arg4 harg4 arg5 harg5 arg6 harg6 arg7 harg7 arg8 harg8 arg9 harg9 arg10 harg10 arg11 harg11 arg12 arg13 arg14 arg15 arg16 arg17 arg18 arg19 (q 0) fp _ k0_t1 _ _ _ _ _ _ O ρ0 hρ0 hW0 _) fun r => ?_
  refine pull5.trans ?_
  refine pull2.trans ?_
  refine pull2.trans ?_
  refine bindS defs d i (part119 defs d i arg2 harg2 arg3 harg3 arg4 harg4 arg5 harg5 arg6 harg6 arg7 harg7 arg8 harg8 arg9 harg9 arg10 harg10 arg11 harg11 arg12 arg13 arg14 arg15 arg16 arg17 arg18 arg19 (q 0) fp _ k0_t1 _ _ _ O rfl ρ0 hρ0 hW0 p0 (guardOut0 k0_t1) hP0 _) fun r => ?_
  obtain ⟨r119_0, r119_1, r119_2, r119_3, r119_4⟩ := r
  refine pull2.trans ?_
  refine (wtDone).trans ?_
  refine pull3.trans ?_
  refine (sepAsc).trans ?_
  refine (idleOb).trans ?_
  refine bindPure defs d i (P := fun _ => True) ⟨_, rfl, trivial⟩ fun r _ => ?_
  obtain ⟨r120_0, r120_1, r120_2, r120_3, r120_4, r120_5⟩ := r
  refine pull3.trans ?_
  refine bindS defs d i (part121 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 _ _ _ _ _ _ _ ρ0 hρ0 hW0 _) fun r => ?_
  obtain ⟨r121_0, r121_1, r121_2, r121_3, r121_4⟩ := r
  refine bindPure defs d i (P := fun _ => True) ⟨_, rfl, trivial⟩ fun r _ => ?_
  obtain ⟨r122_0, r122_1, r122_2⟩ := r
  refine pull5.trans ?_
  refine pull5.trans ?_
  refine pull2.trans ?_
  refine (toIdle).trans ?_
  refine pull11.trans ?_
  refine pull3.trans ?_
  refine pull3.trans ?_
  refine (toIss).trans ?_
  refine pull1.trans ?_
  refine pull1.trans ?_
  refine bindS defs d i (part123 defs d i arg2 harg2 arg3 harg3 arg4 harg4 arg5 harg5 arg6 harg6 arg7 harg7 arg8 harg8 arg9 harg9 arg10 harg10 arg11 harg11 arg12 arg13 arg14 arg15 arg16 arg17 arg18 arg19 (q 0) fp _ k0_t1 _ _ _ _ _ rfl rfl ρ0 hρ0 hW0 n0 hN1 _) fun r => ?_
  obtain ⟨r123_0, r123_1, r123_2, r123_3, r123_4, r123_5⟩ := r
  refine pureL fun hr => ?_
  obtain ⟨e1, e2⟩ := hr
  dsimp only at e1 e2
  subst e1 e2
  refine bindPure defs d i (P := fun _ => True) ⟨_, rfl, trivial⟩ fun r _ => ?_
  obtain ⟨r124_0, r124_1, r124_2, r124_3, r124_4⟩ := r
  refine pull5.trans ?_
  refine (toWt).trans ?_
  refine pull7.trans ?_
  refine pull5.trans ?_
  refine pull2.trans ?_
  refine bindS defs d i (part125 defs d i arg2 harg2 arg3 harg3 arg4 harg4 arg5 harg5 arg6 harg6 arg7 harg7 arg8 harg8 arg9 harg9 arg10 harg10 arg11 harg11 arg12 arg13 arg14 arg15 arg16 arg17 arg18 arg19 (q 1) fp _ k0_t1 _ _ _ _ _ _ _ O rfl ρ1 hρ1 hW1 p1 (guardOut1 k0_t1) hP1 _) fun r => ?_
  obtain ⟨r125_0, r125_1, r125_2, r125_3, r125_4, r125_5⟩ := r
  refine pull2.trans ?_
  refine (wtDone).trans ?_
  refine pull3.trans ?_
  refine (sepAsc).trans ?_
  refine (idleOb).trans ?_
  refine bindPure defs d i (P := fun _ => True) ⟨_, rfl, trivial⟩ fun r _ => ?_
  obtain ⟨r126_0, r126_1, r126_2⟩ := r
  refine pull3.trans ?_
  refine bindS defs d i (part127 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 _ _ _ _ _ ρ1 hρ1 hW1 _) fun r => ?_
  obtain ⟨r127_0, r127_1, r127_2, r127_3, r127_4, r127_5, r127_6, r127_7⟩ := r
  refine bindPure defs d i (P := fun _ => True) ⟨_, rfl, trivial⟩ fun r _ => ?_
  obtain ⟨r128_0, r128_1, r128_2⟩ := r
  refine pull5.trans ?_
  refine pull5.trans ?_
  refine pull2.trans ?_
  refine (toIdle).trans ?_
  refine pull12.trans ?_
  refine pull3.trans ?_
  refine pull3.trans ?_
  refine (toIss).trans ?_
  refine pull1.trans ?_
  refine pull1.trans ?_
  refine bindS defs d i (part129 defs d i arg2 harg2 arg3 harg3 arg4 harg4 arg5 harg5 arg6 harg6 arg7 harg7 arg8 harg8 arg9 harg9 arg10 harg10 arg11 harg11 arg12 arg13 arg14 arg15 arg16 arg17 arg18 arg19 (q 1) fp _ k0_t1 _ _ _ _ _ _ rfl rfl ρ1 hρ1 hW1 n1 hN2 _) fun r => ?_
  obtain ⟨r129_0, r129_1, r129_2, r129_3⟩ := r
  refine pureL fun hr => ?_
  obtain ⟨e1, e2⟩ := hr
  dsimp only at e1 e2
  subst e1 e2
  refine bindPure defs d i (P := fun _ => True) ⟨_, rfl, trivial⟩ fun r _ => ?_
  obtain ⟨r130_0, r130_1⟩ := r
  refine pull8.trans ?_
  refine (toWt).trans ?_
  refine pull4.trans ?_
  refine pull1.trans ?_
  refine bindS defs d i (part131 defs d i arg2 harg2 arg3 harg3 arg4 harg4 arg5 harg5 arg6 harg6 arg7 harg7 arg8 harg8 arg9 harg9 arg10 harg10 arg11 harg11 arg12 arg13 arg14 arg15 arg16 arg17 arg18 arg19 (q 2) fp _ k0_t1 _ _ _ _ O rfl ρ2 hρ2 hW2 _) fun r => ?_
  obtain ⟨r131_0, r131_1⟩ := r
  refine pureL fun hr => ?_
  dsimp only at hr
  refine pull9.trans ?_
  refine pull2.trans ?_
  refine pull2.trans ?_
  refine bindS defs d i (part132 defs d i arg2 harg2 arg3 harg3 arg4 harg4 arg5 harg5 arg6 harg6 arg7 harg7 arg8 harg8 arg9 harg9 arg10 harg10 arg11 harg11 arg12 arg13 arg14 arg15 arg16 arg17 arg18 arg19 (q 2) fp _ k0_t1 _ _ _ O hr ρ2 hρ2 hW2 p2 (guardOut2 k0_t1) hP2 _) fun r => ?_
  obtain ⟨r132_0, r132_1, r132_2, r132_3, r132_4, r132_5⟩ := r
  refine pull2.trans ?_
  refine (wtDone).trans ?_
  refine pull3.trans ?_
  refine (sepAsc).trans ?_
  refine (idleOb).trans ?_
  refine pull3.trans ?_
  refine bindS defs d i (part133 defs d i arg2 harg2 arg3 harg3 arg4 harg4 arg5 harg5 arg6 harg6 arg7 harg7 arg8 harg8 arg9 harg9 arg10 harg10 arg11 harg11 arg12 arg13 arg14 arg15 arg16 arg17 arg18 arg19 fp k0_t1 _ _ _ _ _ _ _ ρ2 hρ2 hW2 _) fun r => ?_
  refine bindPure defs d i (P := fun _ => True) ⟨_, rfl, trivial⟩ fun r _ => ?_
  obtain ⟨r134_0, r134_1, r134_2⟩ := r
  refine pull5.trans ?_
  refine pull5.trans ?_
  refine pull2.trans ?_
  refine (toIdle).trans ?_
  refine pull13.trans ?_
  refine pull3.trans ?_
  refine pull3.trans ?_
  refine (toIss).trans ?_
  refine bindS defs d i (part135 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 _ _ _ _ _ rfl ρ2 hρ2 hW2 _) fun r => ?_
  refine pureL fun hr => ?_
  have ha := hr
  refine pull1.trans ?_
  refine bindS defs d i (part136 defs d i arg2 harg2 arg3 harg3 arg4 harg4 arg5 harg5 arg6 harg6 arg7 harg7 arg8 harg8 arg9 harg9 arg10 harg10 arg11 harg11 arg12 arg13 arg14 arg15 arg16 arg17 arg18 arg19 (q 2) fp _ k0_t1 _ rfl ha n2 hN3 _) fun r => ?_
  obtain ⟨r136_0, r136_1, r136_2, r136_3, r136_4, r136_5, r136_6⟩ := r
  refine pureL fun hr => ?_
  obtain ⟨e1, e2⟩ := hr
  dsimp only at e1 e2
  subst e1 e2
  refine pull3.trans ?_
  refine pull10.trans ?_
  refine bindS defs d i (part137 defs d i arg2 harg2 arg3 harg3 arg4 harg4 arg5 harg5 arg6 harg6 arg7 harg7 arg8 harg8 arg9 harg9 arg10 harg10 arg11 harg11 arg12 arg13 arg14 arg15 arg16 arg17 arg18 arg19 (q 3) fp _ k0_t1 _ _ _ _ _ _ _ O ρ3 hρ3 hW3 _) fun r => ?_
  obtain ⟨r137_0, r137_1⟩ := r
  refine pull11.trans ?_
  refine pull2.trans ?_
  refine pull2.trans ?_
  refine bindS defs d i (part138 defs d i arg2 harg2 arg3 harg3 arg4 harg4 arg5 harg5 arg6 harg6 arg7 harg7 arg8 harg8 arg9 harg9 arg10 harg10 arg11 harg11 arg12 arg13 arg14 arg15 arg16 arg17 arg18 arg19 (q 3) fp _ k0_t1 _ _ _ _ O rfl ρ3 hρ3 hW3 p3 (guardOut3 k0_t1) hP3 _) fun r => ?_
  obtain ⟨r138_0, r138_1⟩ := r
  refine pull2.trans ?_
  refine (wtDone).trans ?_
  refine pull3.trans ?_
  refine (sepAsc).trans ?_
  refine (idleOb).trans ?_
  refine bindPure defs d i (P := fun _ => True) ⟨_, rfl, trivial⟩ fun r _ => ?_
  obtain ⟨r139_0, r139_1, r139_2, r139_3, r139_4⟩ := r
  refine pull3.trans ?_
  refine bindS defs d i (part140 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 _ _ _ _ _ _ ρ3 hρ3 hW3 _) fun r => ?_
  obtain ⟨r140_0, r140_1, r140_2, r140_3, r140_4, r140_5⟩ := r
  refine pull5.trans ?_
  refine pull5.trans ?_
  refine pull2.trans ?_
  refine (toIdle).trans ?_
  refine pull14.trans ?_
  refine pull3.trans ?_
  refine pull3.trans ?_
  refine (toIss).trans ?_
  refine bindS defs d i (part141 defs d i arg2 harg2 arg3 harg3 arg4 harg4 arg5 harg5 arg6 harg6 arg7 harg7 arg8 harg8 arg9 harg9 arg10 harg10 arg11 harg11 arg12 arg13 arg14 arg15 arg16 arg17 arg18 arg19 fp _ k0_t1 _ _ _ _ _ _ _ ρ3 hρ3 hW3 _) fun r => ?_
  obtain ⟨r141_0, r141_1⟩ := r
  refine issOut defs d i arg2 arg3 arg11 arg19 fp 1 512 1536 hρ3 rfl rfl (out1_of hW3 hρ3) _ _ _ _ _ (fun _ => rfl) (fun _ => rfl) (fun _ => ⟨row_of hW3 hρ3, rfl⟩) ?_
  refine issOut defs d i arg2 arg3 arg11 arg19 fp 2 1024 1024 hρ3 rfl rfl (out2_of hW3 hρ3) _ _ _ _ _ (fun _ => rfl) (fun _ => rfl) (fun _ => ⟨row_of hW3 hρ3, rfl⟩) ?_
  refine issOut defs d i arg2 arg3 arg11 arg19 fp 3 1536 512 hρ3 rfl rfl (out3_of hW3 hρ3) _ _ _ _ _ (fun _ => rfl) (fun _ => rfl) (fun _ => ⟨row_of hW3 hρ3, rfl⟩) ?_
  refine pull11.trans ?_
  refine (issFly).trans ?_
  refine pull9.trans ?_
  refine (issFly).trans ?_
  refine pull7.trans ?_
  refine (issFly).trans ?_
  refine pull3.trans ?_
  refine (issFly).trans ?_
  refine pull6.trans ?_
  refine pull1.trans ?_
  refine pull2.trans ?_
  refine pull3.trans ?_
  refine pull4.trans ?_
  refine pull6.trans ?_
  refine pull8.trans ?_
  refine pull10.trans ?_
  refine pull12.trans ?_
  refine pull9.trans ?_
  refine pull10.trans ?_
  refine pull11.trans ?_
  refine pull12.trans ?_
  exact retS defs d i

end Cert.KernelIdeal.Packed
-- ==== Proof.Loop.lean ====
module
public import proofs.«01_k».proof.Proof.Gen.KernelIdeal.Skeleton
public import proofs.«01_k».proof.Proof.Trip

/-!
# The row loop

Sixteen trips of four rows: what is held between two trips, and the run of all of them.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
set_option maxHeartbeats 4000000
open Facts₀ Facts
open Cert.KernelIdeal.Gen (k0_t1_body)

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : Fin 4 → PosShare TreeShare) (fp : Buf (Elt F) (arg2.view.loc (VT d i)))

/-- The rows from `n` on, and the rows below `n`, of a family. -/
def TodoOf (P : ℕ → sProp 𝕄) (n : ℕ) : sProp 𝕄 := bigSep (Finset.Ico n 64) P
def DoneOf (P : ℕ → sProp 𝕄) (n : ℕ) : sProp 𝕄 := bigSep (Finset.range n) P

theorem todo_step {P : ℕ → sProp 𝕄} {X : sProp 𝕄} (n : ℕ) (h : n < 64) : iprop(TodoOf P n ∗ X) ⊢ iprop(P n ∗ TodoOf P (n + 1) ∗ X) := by
  unfold TodoOf
  rw [show Finset.Ico n 64 = insert n (Finset.Ico (n + 1) 64) from by ext x; simp only [Finset.mem_insert, Finset.mem_Ico]; omega,
    SparseCore.bigSep_insert' (by simp)]
  exact sepAsc
theorem todo_last {P : ℕ → sProp 𝕄} {X : sProp 𝕄} : iprop(TodoOf P 64 ∗ X) ⊢ X := by
  iintro ⟨_, HX⟩; iexact HX
theorem done_step {P : ℕ → sProp 𝕄} {X : sProp 𝕄} (n : ℕ) : iprop(P n ∗ DoneOf P n ∗ X) ⊢ iprop(DoneOf P (n + 1) ∗ X) := by
  unfold DoneOf
  rw [Finset.range_add_one, SparseCore.bigSep_insert' (by simp)]
  exact sepGrp
theorem done_zero {P : ℕ → sProp 𝕄} {X : sProp 𝕄} : X ⊢ iprop(DoneOf P 0 ∗ X) := by
  unfold DoneOf
  rw [Finset.range_zero, BI.bigSep_empty]
  iintro HX
  isplitr; · iempintro
  iexact HX
theorem todo_four {P : ℕ → sProp 𝕄} {X : sProp 𝕄} (m : ℕ) (h : m < 16) :
    iprop(TodoOf P (4 * m) ∗ X) ⊢ iprop(P (4 * m + 0) ∗ P (4 * m + 1) ∗ P (4 * m + 2) ∗ P (4 * m + 3) ∗ TodoOf P (4 * (m + 1)) ∗ X) :=
  (todo_step _ (by omega)).trans (sepMono ((todo_step _ (by omega)).trans (sepMono ((todo_step _ (by omega)).trans (sepMono (todo_step _ (by omega)))))))
theorem done_four {P : ℕ → sProp 𝕄} {X : sProp 𝕄} (n : ℕ) :
    iprop(P (n + 0) ∗ P (n + 1) ∗ P (n + 2) ∗ P (n + 3) ∗ DoneOf P n ∗ X) ⊢ iprop(DoneOf P (n + 4) ∗ X) := by
  refine pull4.trans ?_
  refine pull1.trans ((done_step n).trans (pull1.trans ((done_step (n + 1)).trans (pull1.trans ((done_step (n + 2)).trans (pull1.trans (done_step (n + 3))))))))

section
variable {d i}
variable (pa : Memref sig .scVector .hbm S2096128 .f32) (am : Memref sig .scVector .hbm S2048x2048 .f32)
  (ib : Memref sig .scVector .vmem S2056 .f32) (ob : Memref sig .scVector .vmem S2048 .f32)
  (si : DmaSems sig S5) (so : DmaSems sig S4) (q : PosShare TreeShare) (fp : Buf (Elt F) (pa.view.loc (VT d i)))

/-- Before trip `m`: the window of the trip's step `s` is coming in, or there is no such step. -/
def InS (s m : ℕ) : sProp 𝕄 := if 4 * m + s < 64 then InFly d i pa ib si q fp (rowN i (4 * m + s)) else InIdle d i pa ib si q fp
/-- The rows of tile `i` still as they were, and written. -/
abbrev Todo (n : ℕ) : sProp 𝕄 := TodoOf (fun t => RowRaw d i am (rowN i t)) n
abbrev Done (n : ℕ) : sProp 𝕄 := DoneOf (fun t => RowDn d i pa am fp (rowN i t)) n

variable {pa am ib ob si so q fp}
theorem inS_in {s m : ℕ} {R : sProp 𝕄} (h : 4 * m + s < 64) : iprop(InS pa ib si q fp s m ∗ R) ⊢ iprop(InFly d i pa ib si q fp (rowN i (4 * m + s)) ∗ R) := by
  rw [InS, if_pos h]
theorem inS_of {s m : ℕ} {R : sProp 𝕄} (h : 4 * m + s < 64) : iprop(InFly d i pa ib si q fp (rowN i (4 * m + s)) ∗ R) ⊢ iprop(InS pa ib si q fp s m ∗ R) := by
  rw [InS, if_pos h]
theorem inS_idle {s m : ℕ} {R : sProp 𝕄} (h : ¬ 4 * m + s < 64) : iprop(InS pa ib si q fp s m ∗ R) ⊢ iprop(InIdle d i pa ib si q fp ∗ R) := by
  rw [InS, if_neg h]
theorem inS_may {s m : ℕ} {g : BitVec 1} {n : ℕ} {R : sProp 𝕄} (h : g = 1#1 ↔ 4 * (m + 1) + s < 64) (hn : n = rowN i (4 * (m + 1) + s)) :
    iprop(InMay d i pa ib si q fp g n ∗ R) ⊢ iprop(InS pa ib si q fp s (m + 1) ∗ R) := by
  subst hn
  rw [InMay, InS]
  by_cases hg : g = 1#1
  · rw [if_pos hg, if_pos (h.1 hg)]
  · rw [if_neg hg, if_neg fun h' => hg (h.2 h')]
theorem prev_of {m ρ : ℕ} {R : sProp 𝕄} : iprop(OutFly d i pa am ob so fp ρ ∗ R) ⊢ iprop(OutPrev d i pa am ob so fp (m + 1) ρ ∗ R) := by
  rw [OutPrev, if_neg (Nat.succ_ne_zero m)]
theorem prev_fly {m ρ : ℕ} {R : sProp 𝕄} (h : m ≠ 0) : iprop(OutPrev d i pa am ob so fp m ρ ∗ R) ⊢ iprop(OutFly d i pa am ob so fp ρ ∗ R) := by
  rw [OutPrev, if_neg h]
theorem prev_zero {ρ : ℕ} {R : sProp 𝕄} : iprop(OutIdle d i ob so ∗ R) ⊢ iprop(OutPrev d i pa am ob so fp 0 ρ ∗ R) := by
  rw [OutPrev, if_pos rfl]
theorem done_trip {m : ℕ} {R : sProp 𝕄} :
    iprop(DnIf d i pa am fp m (rowN i (4 * (m - 1) + 0)) ∗ DnIf d i pa am fp m (rowN i (4 * (m - 1) + 1)) ∗ DnIf d i pa am fp m (rowN i (4 * (m - 1) + 2))
      ∗ DnIf d i pa am fp m (rowN i (4 * (m - 1) + 3)) ∗ Done pa am fp (4 * (m - 1)) ∗ R) ⊢ iprop(Done pa am fp (4 * (m + 1 - 1)) ∗ R) := by
  by_cases h : m = 0
  · subst h
    simp only [DnIf, if_pos]
    iintro ⟨_, _, _, _, HD, HR⟩
    isplitl [HD]; · iexact HD
    iexact HR
  · simp only [DnIf, if_neg h]
    refine (done_four (P := fun t => RowDn d i pa am fp (rowN i t)) (4 * (m - 1))).trans ?_
    rw [show 4 * (m - 1) + 4 = 4 * (m + 1 - 1) by omega]
end

/-- What is held before trip `m`. -/
def Inv (O : CellTallies nD τ sig (HIx 1)) (R : sProp 𝕄) (m : ℕ) : sProp 𝕄 :=
  iprop(Todo (d := d) (i := i) arg3 (4 * m) ∗ InS arg2 arg4 arg12 (q 0) fp 0 m ∗ InS arg2 arg5 arg13 (q 1) fp 1 m ∗ InS arg2 arg6 arg14 (q 2) fp 2 m ∗ InIdle d i arg2 arg7 arg15 (q 3) fp ∗ OutPrev d i arg2 arg3 arg8 arg16 fp m (rowN i (4 * (m - 1) + 0)) ∗ OutPrev d i arg2 arg3 arg9 arg17 fp m (rowN i (4 * (m - 1) + 1)) ∗ OutPrev d i arg2 arg3 arg10 arg18 fp m (rowN i (4 * (m - 1) + 2)) ∗ OutPrev d i arg2 arg3 arg11 arg19 fp m (rowN i (4 * (m - 1) + 3)) ∗ OW d i O ∗ Done arg2 arg3 fp (4 * (m - 1)) ∗ R)

theorem invStep (O : CellTallies nD τ sig (HIx 1)) (R : sProp 𝕄) (v166 v230 : BitVec 32) (v231 v232 : BitVec 1) (t1 : Fin k0_t1_loop.trips) (u : Unit) :
    Inv d i arg2 arg3 arg4 arg5 arg6 arg7 arg8 arg9 arg10 arg11 arg12 arg13 arg14 arg15 arg16 arg17 arg18 arg19 q fp O R t1.val
      ⊢ wpT defs d i (k0_t1_body i arg2 harg2 arg3 harg3 arg4 harg4 arg5 harg5 arg6 harg6 arg7 harg7 arg8 harg8 arg9 harg9 arg10 harg10 arg11 harg11 arg12 arg13 arg14 arg15 arg16 arg17 arg18 arg19 (wid i) v166 v230 v231 v232 t1 u)
        (fun _ => Inv d i arg2 arg3 arg4 arg5 arg6 arg7 arg8 arg9 arg10 arg11 arg12 arg13 arg14 arg15 arg16 arg17 arg18 arg19 q fp O R (t1.val + 1)) := by
  have hm16 : t1.val < 16 := lt_of_lt_of_eq t1.isLt trips_t1
  unfold Inv
  refine (todo_four t1.val hm16).trans ?_
  refine pull5.trans ?_
  refine (inS_in (by omega)).trans ?_
  refine pull6.trans ?_
  refine (inS_in (by omega)).trans ?_
  refine pull7.trans ?_
  refine (inS_in (by omega)).trans ?_
  refine pull13.trans ?_
  refine pull7.trans ?_
  refine pull7.trans ?_
  refine pull7.trans ?_
  refine pull7.trans ?_
  refine pull13.trans ?_
  refine pull13.trans ?_
  refine pull13.trans ?_
  refine pull13.trans ?_
  refine pull13.trans ?_
  refine pull10.trans ?_
  refine pull11.trans ?_
  refine pull12.trans ?_
  refine (trip defs d i arg2 harg2 arg3 harg3 arg4 harg4 arg5 harg5 arg6 harg6 arg7 harg7 arg8 harg8 arg9 harg9 arg10 harg10 arg11 harg11 arg12 arg13 arg14 arg15 arg16 arg17 arg18 arg19 q fp O t1 u v166 v230 v231 v232 (rowN i (4 * t1.val + 0)) (rowN_lt i (by omega)) (row_tW i t1 0) (rowN i (4 * t1.val + 1)) (rowN_lt i (by omega)) (row_tW i t1 1) (rowN i (4 * t1.val + 2)) (rowN_lt i (by omega)) (row_tW i t1 2) (rowN i (4 * t1.val + 3)) (rowN_lt i (by omega)) (row_tW i t1 3) ((guardIn0 t1).2 (by omega)) (row_tNext i t1 0) (rowN i (4 * (t1.val + 1) + 0)) (fun hg => ⟨(row_tNext i t1 1).trans (congrArg (fun n => BitVec.ofNat 32 (rowN i n)) (show 4 * t1.val + (1 : Fin 4).val + 3 = 4 * (t1.val + 1) + 0 by show 4 * t1.val + 1 + 3 = _; omega)), rowN_lt i (by have := (guardIn1 t1).1 hg; omega)⟩) (rowN i (4 * (t1.val + 1) + 1)) (fun hg => ⟨(row_tNext i t1 2).trans (congrArg (fun n => BitVec.ofNat 32 (rowN i n)) (show 4 * t1.val + (2 : Fin 4).val + 3 = 4 * (t1.val + 1) + 1 by show 4 * t1.val + 2 + 3 = _; omega)), rowN_lt i (by have := (guardIn2 t1).1 hg; omega)⟩) (rowN i (4 * (t1.val + 1) + 2)) (fun hg => ⟨(row_tNext i t1 3).trans (congrArg (fun n => BitVec.ofNat 32 (rowN i n)) (show 4 * t1.val + (3 : Fin 4).val + 3 = 4 * (t1.val + 1) + 2 by show 4 * t1.val + 3 + 3 = _; omega)), rowN_lt i (by have := (guardIn3 t1).1 hg; omega)⟩) (rowN i (4 * (t1.val - 1) + 0)) (fun h0 => ⟨row_tPrev i t1 h0 0, rowN_lt i (by omega)⟩) (rowN i (4 * (t1.val - 1) + 1)) (fun h0 => ⟨row_tPrev i t1 h0 1, rowN_lt i (by omega)⟩) (rowN i (4 * (t1.val - 1) + 2)) (fun h0 => ⟨row_tPrev i t1 h0 2, rowN_lt i (by omega)⟩) (rowN i (4 * (t1.val - 1) + 3)) (fun h0 => ⟨row_tPrev i t1 h0 3, rowN_lt i (by omega)⟩) _).trans (wp_mono _ _ _ fun _ => ?_)
  · skip
    refine (inS_may ((guardIn1 t1).trans (by omega)) rfl).trans ?_
    refine pull1.trans ?_
    refine (inS_may ((guardIn2 t1).trans (by omega)) rfl).trans ?_
    refine pull2.trans ?_
    refine (inS_may ((guardIn3 t1).trans (by omega)) rfl).trans ?_
    refine pull8.trans ?_
    refine (prev_of (m := t1.val)).trans ?_
    refine pull9.trans ?_
    refine (prev_of (m := t1.val)).trans ?_
    refine pull10.trans ?_
    refine (prev_of (m := t1.val)).trans ?_
    refine pull11.trans ?_
    refine (prev_of (m := t1.val)).trans ?_
    refine pull14.trans ?_
    refine pull12.trans ?_
    refine pull12.trans ?_
    refine pull12.trans ?_
    refine pull12.trans ?_
    refine (done_trip).trans ?_
    refine pull9.trans ?_
    refine pull2.trans ?_
    refine pull3.trans ?_
    refine pull4.trans ?_
    refine pull5.trans ?_
    refine pull9.trans ?_
    refine pull7.trans ?_
    refine pull8.trans ?_
    refine pull9.trans ?_
    refine pull10.trans ?_
    exact BIBase.Entails.rfl

/-- All the trips. -/
theorem rowLoop {α : Type} {Q : α → sProp 𝕄} (O : CellTallies nD τ sig (HIx 1)) (R : sProp 𝕄) (v166 v230 : BitVec 32) (v231 v232 : BitVec 1)
    {k : Unit → Prog (TpuEff nD τ sig (Elt F) Λ₀ (VT d i).2) α}
    (hk : iprop(InIdle d i arg2 arg4 arg12 (q 0) fp ∗ InIdle d i arg2 arg5 arg13 (q 1) fp ∗ InIdle d i arg2 arg6 arg14 (q 2) fp ∗ InIdle d i arg2 arg7 arg15 (q 3) fp ∗ OutFly d i arg2 arg3 arg8 arg16 fp (rowN i 60) ∗ OutFly d i arg2 arg3 arg9 arg17 fp (rowN i 61) ∗ OutFly d i arg2 arg3 arg10 arg18 fp (rowN i 62) ∗ OutFly d i arg2 arg3 arg11 arg19 fp (rowN i 63) ∗ OW d i O ∗ Done arg2 arg3 fp 60 ∗ R) ⊢ wpT defs d i (k ⟨⟩) Q) :
    iprop(InFly d i arg2 arg4 arg12 (q 0) fp (rowN i 0) ∗ InFly d i arg2 arg5 arg13 (q 1) fp (rowN i 1) ∗ InFly d i arg2 arg6 arg14 (q 2) fp (rowN i 2) ∗ InIdle d i arg2 arg7 arg15 (q 3) fp ∗ OutIdle d i arg8 arg16 ∗ OutIdle d i arg9 arg17 ∗ OutIdle d i arg10 arg18 ∗ OutIdle d i arg11 arg19 ∗ Todo (d := d) (i := i) arg3 0 ∗ OW d i O ∗ R)
      ⊢ wpT defs d i (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 arg13 arg14 arg15 arg16 arg17 arg18 arg19 (wid i) v166 v230 v231 v232) >>= k) Q := by
  have hin : iprop(InFly d i arg2 arg4 arg12 (q 0) fp (rowN i 0) ∗ InFly d i arg2 arg5 arg13 (q 1) fp (rowN i 1) ∗ InFly d i arg2 arg6 arg14 (q 2) fp (rowN i 2) ∗ InIdle d i arg2 arg7 arg15 (q 3) fp ∗ OutIdle d i arg8 arg16 ∗ OutIdle d i arg9 arg17 ∗ OutIdle d i arg10 arg18 ∗ OutIdle d i arg11 arg19 ∗ Todo (d := d) (i := i) arg3 0 ∗ OW d i O ∗ R) ⊢ Inv d i arg2 arg3 arg4 arg5 arg6 arg7 arg8 arg9 arg10 arg11 arg12 arg13 arg14 arg15 arg16 arg17 arg18 arg19 q fp O R 0 := by
    unfold Inv
    refine (inS_of (m := 0) (s := 0) (by omega)).trans ?_
    refine pull1.trans ?_
    refine (inS_of (m := 0) (s := 1) (by omega)).trans ?_
    refine pull2.trans ?_
    refine (inS_of (m := 0) (s := 2) (by omega)).trans ?_
    refine pull4.trans ?_
    refine (prev_zero (pa := arg2) (am := arg3) (fp := fp) (ρ := rowN i (4 * (0 - 1) + 0))).trans ?_
    refine pull5.trans ?_
    refine (prev_zero (pa := arg2) (am := arg3) (fp := fp) (ρ := rowN i (4 * (0 - 1) + 1))).trans ?_
    refine pull6.trans ?_
    refine (prev_zero (pa := arg2) (am := arg3) (fp := fp) (ρ := rowN i (4 * (0 - 1) + 2))).trans ?_
    refine pull7.trans ?_
    refine (prev_zero (pa := arg2) (am := arg3) (fp := fp) (ρ := rowN i (4 * (0 - 1) + 3))).trans ?_
    refine pull9.trans ?_
    refine pull1.trans ?_
    refine pull2.trans ?_
    refine pull3.trans ?_
    refine pull4.trans ?_
    refine pull8.trans ?_
    refine pull6.trans ?_
    refine pull7.trans ?_
    refine pull8.trans ?_
    refine pull9.trans ?_
    refine (sepMono (sepMono (sepMono (sepMono (sepMono (sepMono (sepMono (sepMono (sepMono (sepMono (done_zero (P := fun t => RowDn d i arg2 arg3 fp (rowN i t))))))))))))).trans ?_
    exact BIBase.Entails.rfl
  have hout : Inv d i arg2 arg3 arg4 arg5 arg6 arg7 arg8 arg9 arg10 arg11 arg12 arg13 arg14 arg15 arg16 arg17 arg18 arg19 q fp O R 16 ⊢ wpT defs d i (k ⟨⟩) Q := by
    unfold Inv
    refine (todo_last).trans ?_
    refine (inS_idle (by omega)).trans ?_
    refine pull1.trans ?_
    refine (inS_idle (by omega)).trans ?_
    refine pull2.trans ?_
    refine (inS_idle (by omega)).trans ?_
    refine pull4.trans ?_
    refine (prev_fly (by omega)).trans ?_
    refine pull5.trans ?_
    refine (prev_fly (by omega)).trans ?_
    refine pull6.trans ?_
    refine (prev_fly (by omega)).trans ?_
    refine pull7.trans ?_
    refine (prev_fly (by omega)).trans ?_
    refine pull9.trans ?_
    refine pull9.trans ?_
    refine pull2.trans ?_
    refine pull3.trans ?_
    refine pull4.trans ?_
    refine pull5.trans ?_
    refine pull9.trans ?_
    refine pull7.trans ?_
    refine pull8.trans ?_
    refine pull9.trans ?_
    exact hk
  iintro HI
  ihave HI := hin $$ HI
  iapply (Scf.wp_for_bind frame (wpE defs 𝒱₀ (VT d i) none) Set.univ k0_t1_loop.lb k0_t1_loop.ub k0_t1_loop.st k0_t1_ok ⟨⟩
    (k0_t1_body i arg2 harg2 arg3 harg3 arg4 harg4 arg5 harg5 arg6 harg6 arg7 harg7 arg8 harg8 arg9 harg9 arg10 harg10 arg11 harg11 arg12 arg13 arg14 arg15 arg16 arg17 arg18 arg19 (wid i) v166 v230 v231 v232) (fun n _ => Inv d i arg2 arg3 arg4 arg5 arg6 arg7 arg8 arg9 arg10 arg11 arg12 arg13 arg14 arg15 arg16 arg17 arg18 arg19 q fp O R n) ?_) $$ [HI]
  · intro n acc
    exact invStep defs d i arg2 harg2 arg3 harg3 arg4 harg4 arg5 harg5 arg6 harg6 arg7 harg7 arg8 harg8 arg9 harg9 arg10 harg10 arg11 harg11 arg12 arg13 arg14 arg15 arg16 arg17 arg18 arg19 q fp O R v166 v230 v231 v232 n acc
  · iexact HI
  iintro %acc HI
  have e : Scf.trips k0_t1_loop.lb k0_t1_loop.ub k0_t1_loop.st = 16 := trips_t1
  rw [e]
  iapply hout $$ HI

end Cert.KernelIdeal.Packed
-- ==== Proof.Cells.lean ====
module
public import proofs.«01_k».proof.Proof.Rows
public import proofs.«01_k».proof.Proof.Loop

/-!
# What a tile owns

A tile's own buffers and semaphores, taken apart into the slots of its ring, and put together again.
-/

@[expose] public section

noncomputable section

namespace Cert.KernelIdeal.Packed

open Cert.KernelIdeal
open Idealize.ShloMosaic
open Idealize.ShloMosaic.SparseCore (S V T)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
open Facts₀ Facts

local notation "𝕄" => MM F
local notation "pV" => (Memref.whole Cert.KernelIdeal.main_arg0_scv : Memref Cert.KernelIdeal.sig Kind.scVector Space.hbm Cert.KernelIdeal.S2096128 EltTy.f32)
local notation "aV" => (Memref.whole Cert.KernelIdeal.main_v0_scv : Memref Cert.KernelIdeal.sig Kind.scVector Space.hbm Cert.KernelIdeal.S2048x2048 EltTy.f32)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

/-! ## The semaphores -/

/-- The semaphore arrays of the slots. -/
abbrev siV : Fin 4 → DmaSems sig S5 := fun | 0 => cc0_scratch8 | 1 => cc0_scratch9 | 2 => cc0_scratch10 | 3 => cc0_scratch11
abbrev soV : Fin 4 → DmaSems sig S4 := fun | 0 => cc0_scratch12 | 1 => cc0_scratch13 | 2 => cc0_scratch14 | 3 => cc0_scratch15

/-- Semaphore `k` of a run of five (of four) from `base` is the pool's `base + k`. -/
theorem isem_val (base : ℕ) (h : base + S5.numel ≤ 40) (k : Fin 5) : (isemF (SemArray.consecutive base S5 h) k).val = base + k.val := by
  show base + (S5.rowMajor _).val = _
  rw [Shape.rowMajor_val_one]
  simp [Rect.emb, Rect.unit]
  exact Nat.lt_one_iff.1 (Fin.isLt _)
theorem osem_val (base : ℕ) (h : base + S4.numel ≤ 40) (k : Fin 4) : (osemF (SemArray.consecutive base S4 h) k).val = base + k.val := by
  show base + (S4.rowMajor _).val = _
  rw [Shape.rowMajor_val_one]
  simp [Rect.emb, Rect.unit]
  exact Nat.lt_one_iff.1 (Fin.isLt _)

theorem isemV (s : Fin 4) (k : Fin 5) : (isemF (siV s) k).val = 5 * s.val + k.val := by
  match s with
  | 0 => exact isem_val 0 _ k
  | 1 => exact isem_val 5 _ k
  | 2 => exact isem_val 10 _ k
  | 3 => exact isem_val 15 _ k
theorem osemV (s : Fin 4) (k : Fin 4) : (osemF (soV s) k).val = 20 + 4 * s.val + k.val := by
  match s with
  | 0 => exact osem_val 20 _ k
  | 1 => exact osem_val 24 _ k
  | 2 => exact osem_val 28 _ k
  | 3 => exact osem_val 32 _ k

variable (d : Dev nD) (i : grid0.Coords)

/-- The semaphores a task names. -/
def dsem : (Fin 4 × Fin 5) ⊕ (Fin 4 × Fin 4) → DmaSem sig
  | .inl p => isemF (siV p.1) p.2
  | .inr p => osemF (soV p.1) p.2
def dcell (x : (Fin 4 × Fin 5) ⊕ (Fin 4 × Fin 4)) : GSem nD τ sig := (VT d i, .dma (dsem x))

theorem dsem_inj : Function.Injective dsem := by
  rintro (⟨s, k⟩ | ⟨s, k⟩) (⟨s', k'⟩ | ⟨s', k'⟩) h
  · have h' : 5 * s.val + k.val = 5 * s'.val + k'.val := by rw [← isemV, ← isemV]; exact congrArg Fin.val h
    have := k.isLt; have := k'.isLt
    exact congrArg Sum.inl (Prod.ext (Fin.ext (by dsimp only; omega)) (Fin.ext (by dsimp only; omega)))
  · have h' : 5 * s.val + k.val = 20 + 4 * s'.val + k'.val := by rw [← isemV, ← osemV]; exact congrArg Fin.val h
    have := k.isLt; have := s.isLt; omega
  · have h' : 20 + 4 * s.val + k.val = 5 * s'.val + k'.val := by rw [← isemV, ← osemV]; exact congrArg Fin.val h
    have := k'.isLt; have := s'.isLt; omega
  · have h' : 20 + 4 * s.val + k.val = 20 + 4 * s'.val + k'.val := by rw [← osemV, ← osemV]; exact congrArg Fin.val h
    have := k.isLt; have := k'.isLt
    exact congrArg Sum.inr (Prod.ext (Fin.ext (by dsimp only; omega)) (Fin.ext (by dsimp only; omega)))

theorem dcell_inj : Function.Injective (dcell d i) := fun a b h => dsem_inj (by
  have := congrArg (fun g : GSem nD τ sig => g.2) h
  simp only [dcell, SemLoc.dma.injEq] at this; exact this)

theorem dcell_mem (x) : dcell d i x ∈ ownCells (VT d i) :=
  mem_ownCells.mpr ⟨rfl, (show ∀ s : DmaSem sig, (SemLoc.dma s : SemLoc sig).isScoped .scVector = true by decide) _⟩

/-- What else the tile owns of semaphores. -/
def restSems : sProp 𝕄 := bigSep ((ownCells (VT d i)) \ Finset.univ.image (dcell d i)) fun g => semVal g 0

/-- The tile's semaphores at zero, slot by slot. -/
theorem ownSems0_V :
    (ownSems0 (VT d i) : sProp 𝕄)
      = iprop((iprop(isems0 d i cc0_scratch8 ∗ isems0 d i cc0_scratch9 ∗ isems0 d i cc0_scratch10 ∗ isems0 d i cc0_scratch11)
          ∗ iprop(osems0 d i cc0_scratch12 ∗ osems0 d i cc0_scratch13 ∗ osems0 d i cc0_scratch14 ∗ osems0 d i cc0_scratch15)) ∗ restSems d i) := by
  unfold SparseCore.Cfg.ownSems0 restSems
  rw [SparseCore.bigSep_sdiff_split' (t := Finset.univ.image (dcell d i)) (Finset.image_subset_iff.mpr fun k _ => dcell_mem d i k),
    SparseCore.bigSep_image_of_injOn (fun a _ b _ h => dcell_inj d i h), bigSep_univ_sum, BI.bigSep_univ_prod, BI.bigSep_univ_prod,
    bigSep_fin4, bigSep_fin4]
  rfl

/-! ## The buffers -/

/-- Scratch buffer `b` as the device names it. -/
abbrev dref (b : Ref sig .scVector) : DevRef τ sig := (Proc.scVector (cV i) (jV i)).devRef b

/-- The scratch buffers of the slots. -/
def bufs : List (Ref sig .scVector) := [cc0_scratch0, cc0_scratch1, cc0_scratch2, cc0_scratch3, cc0_scratch4, cc0_scratch5, cc0_scratch6, cc0_scratch7]

/-- What else the tile owns of buffers. -/
def restBufs : sProp 𝕄 := bigSep ((ownRefs (τ := τ) (.scVector (cV i) (jV i))) \ bufs.toFinset.image (dref i)) fun b => iprop(∃ f, ((d, b) : Loc nD τ sig) ↦{fullShare} f)

/-- Scratch buffer `b` at some contents. -/
abbrev bufAny (b : Ref sig .scVector) : sProp 𝕄 := iprop(∃ f, (VT d i).loc b ↦{fullShare} f)

theorem ownBufs_V :
    (ownBufs (VT d i) : sProp 𝕄)
      = iprop(iprop(bufAny d i cc0_scratch0 ∗ bufAny d i cc0_scratch1 ∗ bufAny d i cc0_scratch2 ∗ bufAny d i cc0_scratch3
          ∗ bufAny d i cc0_scratch4 ∗ bufAny d i cc0_scratch5 ∗ bufAny d i cc0_scratch6 ∗ bufAny d i cc0_scratch7) ∗ restBufs d i) := by
  have hinj : ∀ a ∈ bufs.toFinset, ∀ b ∈ bufs.toFinset, dref i a = dref i b → a = b := fun a _ b _ e => Proc.devRef_injective _ e
  have hown : ∀ b ∈ bufs.toFinset, (dref i b).owner = .proc (.scVector (cV i) (jV i)) := by
    intro b hb
    simp only [bufs, List.mem_toFinset, List.mem_cons, List.not_mem_nil, _root_.or_false] at hb
    rcases hb with rfl | rfl | rfl | rfl | rfl | rfl | rfl | rfl <;> rfl
  unfold SparseCore.Cfg.ownBufs restBufs
  rw [SparseCore.bigSep_sdiff_split' (t := bufs.toFinset.image (dref i))
      (Finset.image_subset_iff.mpr fun b hb => SparseCore.Cfg.mem_ownRefs_of_owner (p := Proc.scVector (cV i) (jV i)) (hown b hb)),
    SparseCore.bigSep_image_of_injOn hinj,
    show bufs.toFinset = {cc0_scratch0, cc0_scratch1, cc0_scratch2, cc0_scratch3, cc0_scratch4, cc0_scratch5, cc0_scratch6, cc0_scratch7} by decide]
  iterate 7 rw [SparseCore.bigSep_insert' (by decide)]
  rw [bigSep_singleton]

/-! ## From the launch's form to the run's, and back -/

/-- The tile's ring, every slot idle. -/
abbrev ring (q : Fin 4 → PosShare TreeShare) (f : Buf (Elt F) (pLoc d)) (X : sProp 𝕄) : sProp 𝕄 :=
  iprop(InIdle d i pV (Memref.whole cc0_scratch0) cc0_scratch8 (q 0) f ∗ InIdle d i pV (Memref.whole cc0_scratch1) cc0_scratch9 (q 1) f
    ∗ InIdle d i pV (Memref.whole cc0_scratch2) cc0_scratch10 (q 2) f ∗ InIdle d i pV (Memref.whole cc0_scratch3) cc0_scratch11 (q 3) f
    ∗ OutIdle d i (Memref.whole cc0_scratch4) cc0_scratch12 ∗ OutIdle d i (Memref.whole cc0_scratch5) cc0_scratch13
    ∗ OutIdle d i (Memref.whole cc0_scratch6) cc0_scratch14 ∗ OutIdle d i (Memref.whole cc0_scratch7) cc0_scratch15 ∗ X)

theorem any_whole (b : Ref sig .scVector) :
    (iprop(∃ f, (Memref.whole b).view.loc (VT d i) ↦[(Memref.whole b).view.set]{fullShare} f) : sProp 𝕄) = bufAny d i b := by
  rw [View.set_whole]

theorem in_eq (b : Ref sig .scVector) (ib : Memref sig .scVector .vmem S2056 .f32) (si : DmaSems sig S5) (q : PosShare TreeShare) (f : Buf (Elt F) (pLoc d))
    (h : (iprop(∃ f, ib.view.loc (VT d i) ↦[ib.view.set]{fullShare} f) : sProp 𝕄) = bufAny d i b) :
    InIdle d i pV ib si q f = (iprop(bufAny d i b ∗ (pLoc d ↦{q} f) ∗ isems0 d i si) : sProp 𝕄) := by
  unfold InIdle
  rw [h]
  show iprop(bufAny d i b ∗ paTok d i pV q f ∗ isems0 d i si) = _
  unfold paTok
  rw [View.set_whole]

theorem out_eq (b : Ref sig .scVector) (ob : Memref sig .scVector .vmem S2048 .f32) (so : DmaSems sig S4)
    (h : (iprop(∃ f, ob.view.loc (VT d i) ↦[ob.view.set]{fullShare} f) : sProp 𝕄) = bufAny d i b) :
    OutIdle d i ob so = (iprop(bufAny d i b ∗ osems0 d i so) : sProp 𝕄) := by
  unfold OutIdle ObAny
  rw [h]

theorem ring_eq (q : Fin 4 → PosShare TreeShare) (f : Buf (Elt F) (pLoc d)) (X : sProp 𝕄) :
    ring d i q f X
      = (iprop((bufAny d i cc0_scratch0 ∗ (pLoc d ↦{q 0} f) ∗ isems0 d i cc0_scratch8) ∗ (bufAny d i cc0_scratch1 ∗ (pLoc d ↦{q 1} f) ∗ isems0 d i cc0_scratch9)
        ∗ (bufAny d i cc0_scratch2 ∗ (pLoc d ↦{q 2} f) ∗ isems0 d i cc0_scratch10) ∗ (bufAny d i cc0_scratch3 ∗ (pLoc d ↦{q 3} f) ∗ isems0 d i cc0_scratch11)
        ∗ (bufAny d i cc0_scratch4 ∗ osems0 d i cc0_scratch12) ∗ (bufAny d i cc0_scratch5 ∗ osems0 d i cc0_scratch13)
        ∗ (bufAny d i cc0_scratch6 ∗ osems0 d i cc0_scratch14) ∗ (bufAny d i cc0_scratch7 ∗ osems0 d i cc0_scratch15) ∗ X) : sProp 𝕄) := by
  rw [← in_eq d i cc0_scratch0 (Memref.whole cc0_scratch0) cc0_scratch8 (q 0) f (any_whole d i cc0_scratch0),
    ← in_eq d i cc0_scratch1 (Memref.whole cc0_scratch1) cc0_scratch9 (q 1) f (any_whole d i cc0_scratch1),
    ← in_eq d i cc0_scratch2 (Memref.whole cc0_scratch2) cc0_scratch10 (q 2) f (any_whole d i cc0_scratch2),
    ← in_eq d i cc0_scratch3 (Memref.whole cc0_scratch3) cc0_scratch11 (q 3) f (any_whole d i cc0_scratch3),
    ← out_eq d i cc0_scratch4 (Memref.whole cc0_scratch4) cc0_scratch12 (any_whole d i cc0_scratch4),
    ← out_eq d i cc0_scratch5 (Memref.whole cc0_scratch5) cc0_scratch13 (any_whole d i cc0_scratch5),
    ← out_eq d i cc0_scratch6 (Memref.whole cc0_scratch6) cc0_scratch14 (any_whole d i cc0_scratch6),
    ← out_eq d i cc0_scratch7 (Memref.whole cc0_scratch7) cc0_scratch15 (any_whole d i cc0_scratch7)]

theorem todo_eq (c : Fin 2) (s : Fin 16) :
    (bigSep Finset.univ fun t : Fin 64 => iprop(∃ g, aLoc d ↦[rowIdx (rowN (crd c s) t.val)]{fullShare} g)) = (Todo (d := d) (i := crd c s) aV 0 : sProp 𝕄) := by
  unfold Todo TodoOf
  rw [show Finset.Ico 0 64 = Finset.range 64 from (Finset.range_eq_Ico 64).symm, ← bigSep_fin_range]
  exact bigSep_congr fun t _ => raw_eq d (crd c s) _

theorem done_td (c : Fin 2) (s : Fin 16) (f : Buf (Elt F) (pLoc d)) : Done (d := d) (i := crd c s) pV aV f 64 ⊢ tdP d f c s := by
  unfold Done DoneOf tdP
  rw [← bigSep_fin_range]
  exact bigSep_mono fun t _ => dn_entails d (crd c s) f _

/-- What the launch deals a task, as the run takes it. -/
theorem tile_open (c : Fin 2) (s : Fin 16) (f : Buf (Elt F) (pLoc d)) (X : sProp 𝕄) :
    iprop(goP d f c s ∗ ownBufs (VT d (crd c s)) ∗ ownSems0 (VT d (crd c s)) ∗ X)
      ⊢ ring d (crd c s) (qT c s) f iprop(Todo (d := d) (i := crd c s) aV 0 ∗ X ∗ restSems d (crd c s) ∗ restBufs d (crd c s)) := by
  rw [ring_eq, ownSems0_V, ownBufs_V]
  unfold goP
  rw [todo_eq, bigSep_fin4]
  iintro ⟨⟨⟨Hq0, Hq1, Hq2, Hq3⟩, HT⟩, ⟨⟨Hb0, Hb1, Hb2, Hb3, Hb4, Hb5, Hb6, Hb7⟩, Hbr⟩, ⟨⟨⟨Hi0, Hi1, Hi2, Hi3⟩, Ho0, Ho1, Ho2, Ho3⟩, Hsr⟩, HX⟩
  isplitl [Hb0 Hq0 Hi0]; · isplitl [Hb0]; (· iexact Hb0); isplitl [Hq0]; (· iexact Hq0); iexact Hi0
  isplitl [Hb1 Hq1 Hi1]; · isplitl [Hb1]; (· iexact Hb1); isplitl [Hq1]; (· iexact Hq1); iexact Hi1
  isplitl [Hb2 Hq2 Hi2]; · isplitl [Hb2]; (· iexact Hb2); isplitl [Hq2]; (· iexact Hq2); iexact Hi2
  isplitl [Hb3 Hq3 Hi3]; · isplitl [Hb3]; (· iexact Hb3); isplitl [Hq3]; (· iexact Hq3); iexact Hi3
  isplitl [Hb4 Ho0]; · isplitl [Hb4]; (· iexact Hb4); iexact Ho0
  isplitl [Hb5 Ho1]; · isplitl [Hb5]; (· iexact Hb5); iexact Ho1
  isplitl [Hb6 Ho2]; · isplitl [Hb6]; (· iexact Hb6); iexact Ho2
  isplitl [Hb7 Ho3]; · isplitl [Hb7]; (· iexact Hb7); iexact Ho3
  isplitl [HT]; · iexact HT
  isplitl [HX]; · iexact HX
  isplitl [Hsr]; · iexact Hsr
  iexact Hbr

/-- What the run leaves, as the launch takes it back. -/
theorem tile_close (c : Fin 2) (s : Fin 16) (f : Buf (Elt F) (pLoc d)) (X : sProp 𝕄) :
    ring d (crd c s) (qT c s) f iprop(Done (d := d) (i := crd c s) pV aV f 64 ∗ X ∗ restSems d (crd c s) ∗ restBufs d (crd c s))
      ⊢ iprop(tdP d f c s ∗ ownBufs (VT d (crd c s)) ∗ ownSems0 (VT d (crd c s)) ∗ X) := by
  rw [ring_eq, ownSems0_V, ownBufs_V]
  iintro ⟨⟨Hb0, -, Hi0⟩, ⟨Hb1, -, Hi1⟩, ⟨Hb2, -, Hi2⟩, ⟨Hb3, -, Hi3⟩, ⟨Hb4, Ho0⟩, ⟨Hb5, Ho1⟩, ⟨Hb6, Ho2⟩, ⟨Hb7, Ho3⟩, HD, HX, Hsr, Hbr⟩
  isplitl [HD]; · iapply (done_td d c s f); iexact HD
  isplitl [Hb0 Hb1 Hb2 Hb3 Hb4 Hb5 Hb6 Hb7 Hbr]
  · isplitr [Hbr]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      iexact Hb7
    · iexact Hbr
  isplitr [HX]
  · isplitr [Hsr]
    · isplitl [Hi0 Hi1 Hi2 Hi3]
      · isplitl [Hi0]; · iexact Hi0
        isplitl [Hi1]; · iexact Hi1
        isplitl [Hi2]; · iexact Hi2
        iexact Hi3
      · isplitl [Ho0]; · iexact Ho0
        isplitl [Ho1]; · iexact Ho1
        isplitl [Ho2]; · iexact Ho2
        iexact Ho3
    · iexact Hsr
  · iexact HX

end Cert.KernelIdeal.Packed
-- ==== Proof.Fetch.lean ====
module
public import proofs.«01_k».proof.Proof.Conds

/-!
# Before the loop

The printed parts that fetch the first three rows of a tile.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
set_option maxHeartbeats 4000000
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part158 : ∃ r, k0_part158 (F := F) i arg2 harg2 arg3 harg3 arg4 harg4 arg5 harg5 arg6 harg6 arg7 harg7 arg8 harg8 arg9 harg9 arg10 harg10 arg11 harg11 arg12 arg13 arg14 arg15 arg16 arg17 arg18 arg19 = .ret r ∧ (r.1 = wid i ∧ r.2.1 = Scalar.addi 0#32 (wid i)) := ⟨_, rfl, rfl, rfl⟩

theorem part159 (v1 : BitVec 32) (v2 : BitVec 32) (v25 : BitVec 32) (v26 : BitVec 32) (v37 : BitVec 1) (v39 : BitVec 1)
    (ρ : ℕ) (hρ : ρ < 2048) (hW : Scalar.addi 0#32 (wid i) = BitVec.ofNat 32 ρ) (R : sProp 𝕄) :
    iprop(InIss d i arg2 arg4 arg12 q fp ρ 0 ∗ R) ⊢ wpT defs d i (k0_part159 i arg2 harg2 arg3 harg3 arg4 harg4 arg5 harg5 arg6 harg6 arg7 harg7 arg8 harg8 arg9 harg9 arg10 harg10 arg11 harg11 arg12 arg13 arg14 arg15 arg16 arg17 arg18 arg19 v1 v2 v25 v26 v37 v39)
      (fun _ => iprop(InIss d i arg2 arg4 arg12 q fp ρ 2 ∗ R)) := by
  unfold k0_part159
  refine issIn defs d i arg2 arg4 arg12 q fp 0 0 2056 rfl rfl (in0_of hW hρ) _ _ _ _ _ (fun _ => rfl) (fun _ => rfl) (fun _ h => a8_0 hW hρ h) ?_
  refine issIn defs d i arg2 arg4 arg12 q fp 1 512 1544 rfl rfl (in1_of hW hρ) _ _ _ _ _ (fun _ => rfl) (fun _ => rfl) (fun _ h => a8_1 hW hρ h) ?_
  exact retS defs d i

theorem part160 (v1 : BitVec 32) (v2 : BitVec 32) (v66 : BitVec 32)
    (h1 : v1 = wid i) (h2 : v2 = Scalar.addi 0#32 (wid i)) (ρ : ℕ) (hρ : ρ < 2048) (hW : Scalar.addi 0#32 (wid i) = BitVec.ofNat 32 ρ) (R : sProp 𝕄) :
    iprop(InIss d i arg2 arg4 arg12 q fp ρ 2 ∗ R) ⊢ wpT defs d i (k0_part160 i arg2 harg2 arg3 harg3 arg4 harg4 arg5 harg5 arg6 harg6 arg7 harg7 arg8 harg8 arg9 harg9 arg10 harg10 arg11 harg11 arg12 arg13 arg14 arg15 arg16 arg17 arg18 arg19 v1 v2 v66)
      (fun r => iprop(⌜r.1 = Scalar.addi 32#32 (wid i)⌝ ∗ InIss d i arg2 arg4 arg12 q fp ρ 5 ∗ R)) := by
  unfold k0_part160
  subst h1 h2
  refine issIn defs d i arg2 arg4 arg12 q fp 2 1024 1032 rfl rfl (in2_of hW hρ) _ _ _ _ _ (fun _ => rfl) (fun _ => rfl) (fun _ h => a8_2 hW hρ h) ?_
  refine issIn defs d i arg2 arg4 arg12 q fp 3 1536 520 rfl rfl (in3_of hW hρ) _ _ _ _ _ (fun _ => rfl) (fun _ => rfl) (fun _ h => a8_3 hW hρ h) ?_
  refine issIn defs d i arg2 arg4 arg12 q fp 4 8 2048 rfl rfl (in4_of hW hρ) _ _ _ _ _ (fun _ => rfl) (fun _ => rfl) (fun _ h => a8_4 hρ h) ?_
  refine BIBase.Entails.trans ?_ (le_wp_ret _ _ _ _ _)
  exact pureI rfl BIBase.Entails.rfl

theorem part161 (v1 : BitVec 32) (v84 : BitVec 32) (v107 : BitVec 32) (c8_i32_43 : BitVec 32) (v108 : BitVec 32) (v113 : BitVec 32) (v115 : BitVec 32)
    (ρ : ℕ) (hρ : ρ < 2048) (hW : Scalar.addi 32#32 (wid i) = BitVec.ofNat 32 ρ) (R : sProp 𝕄) :
    iprop(InIss d i arg2 arg5 arg13 q fp ρ 0 ∗ R) ⊢ wpT defs d i (k0_part161 i arg2 harg2 arg3 harg3 arg4 harg4 arg5 harg5 arg6 harg6 arg7 harg7 arg8 harg8 arg9 harg9 arg10 harg10 arg11 harg11 arg12 arg13 arg14 arg15 arg16 arg17 arg18 arg19 v1 v84 v107 c8_i32_43 v108 v113 v115)
      (fun _ => iprop(InIss d i arg2 arg5 arg13 q fp ρ 1 ∗ R)) := by
  unfold k0_part161
  refine issIn defs d i arg2 arg5 arg13 q fp 0 0 2056 rfl rfl (in0_of hW hρ) _ _ _ _ _ (fun _ => rfl) (fun _ => rfl) (fun _ h => a8_0 hW hρ h) ?_
  exact retS defs d i

theorem part162 (v1 : BitVec 32) (v84 : BitVec 32) (v148 : BitVec 32) (v155 : BitVec 32)
    (h1 : v1 = wid i) (h2 : v84 = Scalar.addi 32#32 (wid i)) (ρ : ℕ) (hρ : ρ < 2048) (hW : Scalar.addi 32#32 (wid i) = BitVec.ofNat 32 ρ) (R : sProp 𝕄) :
    iprop(InIss d i arg2 arg5 arg13 q fp ρ 1 ∗ R) ⊢ wpT defs d i (k0_part162 i arg2 harg2 arg3 harg3 arg4 harg4 arg5 harg5 arg6 harg6 arg7 harg7 arg8 harg8 arg9 harg9 arg10 harg10 arg11 harg11 arg12 arg13 arg14 arg15 arg16 arg17 arg18 arg19 v1 v84 v148 v155)
      (fun r => iprop(⌜r.1 = Scalar.addi 64#32 (wid i)⌝ ∗ InIss d i arg2 arg5 arg13 q fp ρ 5 ∗ R)) := by
  unfold k0_part162
  subst h1 h2
  refine issIn defs d i arg2 arg5 arg13 q fp 1 512 1544 rfl rfl (in1_of hW hρ) _ _ _ _ _ (fun _ => rfl) (fun _ => rfl) (fun _ h => a8_1 hW hρ h) ?_
  refine issIn defs d i arg2 arg5 arg13 q fp 2 1024 1032 rfl rfl (in2_of hW hρ) _ _ _ _ _ (fun _ => rfl) (fun _ => rfl) (fun _ h => a8_2 hW hρ h) ?_
  refine issIn defs d i arg2 arg5 arg13 q fp 3 1536 520 rfl rfl (in3_of hW hρ) _ _ _ _ _ (fun _ => rfl) (fun _ => rfl) (fun _ h => a8_3 hW hρ h) ?_
  refine issIn defs d i arg2 arg5 arg13 q fp 4 8 2048 rfl rfl (in4_of hW hρ) _ _ _ _ _ (fun _ => rfl) (fun _ => rfl) (fun _ h => a8_4 hρ h) ?_
  refine BIBase.Entails.trans ?_ (le_wp_ret _ _ _ _ _)
  exact pureI rfl BIBase.Entails.rfl

end Cert.KernelIdeal.Packed
-- ==== Proof.Last.lean ====
module
public import proofs.«01_k».proof.Proof.Conds

/-!
# After the loop

The printed parts that wait for the writing back of a tile's last rows.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]
set_option maxHeartbeats 4000000
open Facts₀ Facts

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : PosShare TreeShare) (fp : Buf (Elt F) (arg2.view.loc (VT d i)))

theorem part166 (v1 : BitVec 32) (v249 : BitVec 32) (c512_i32_139 : BitVec 32) (v297 : BitVec 32) (v302 : BitVec 32) (v304 : BitVec 32) (c0_i32_143 : BitVec 32)
    (O : CellTallies nD τ sig (HIx 1)) (ρ : ℕ) (hρ : ρ < 2048) (hW : Scalar.addi 1920#32 (wid i) = BitVec.ofNat 32 ρ) (R : sProp 𝕄) :
    iprop(OutWt d i arg2 arg3 arg8 arg16 fp ρ 0 ∗ OW d i O ∗ R) ⊢ wpT defs d i (k0_part166 i arg2 harg2 arg3 harg3 arg4 harg4 arg5 harg5 arg6 harg6 arg7 harg7 arg8 harg8 arg9 harg9 arg10 harg10 arg11 harg11 arg12 arg13 arg14 arg15 arg16 arg17 arg18 arg19 v1 v249 c512_i32_139 v297 v302 v304 c0_i32_143)
      (fun _ => iprop(OutWt d i arg2 arg3 arg8 arg16 fp ρ 4 ∗ OW d i O ∗ R)) := by
  unfold k0_part166
  refine wtOut defs d i arg2 arg3 arg8 arg16 fp 0 (out0_of hW hρ) _ (fun _ => rfl) (fun _ => rfl) (fun _ => rfl) ?_
  refine wtOut defs d i arg2 arg3 arg8 arg16 fp 1 (out1_of hW hρ) _ (fun _ => rfl) (fun _ => rfl) (fun _ => rfl) ?_
  refine wtOut defs d i arg2 arg3 arg8 arg16 fp 2 (out2_of hW hρ) _ (fun _ => rfl) (fun _ => rfl) (fun _ => rfl) ?_
  refine wtOut defs d i arg2 arg3 arg8 arg16 fp 3 (out3_of hW hρ) _ (fun _ => rfl) (fun _ => rfl) (fun _ => rfl) ?_
  exact retS defs d i

theorem part168 (v1 : BitVec 32) (v326 : BitVec 32) (c512_i32_176 : BitVec 32) (v374 : BitVec 32) (v379 : BitVec 32) (v381 : BitVec 32) (v382 : BitVec 1)
    (O : CellTallies nD τ sig (HIx 1)) (ρ : ℕ) (hρ : ρ < 2048) (hW : Scalar.addi 1952#32 (wid i) = BitVec.ofNat 32 ρ) (R : sProp 𝕄) :
    iprop(OutWt d i arg2 arg3 arg9 arg17 fp ρ 0 ∗ OW d i O ∗ R) ⊢ wpT defs d i (k0_part168 i arg2 harg2 arg3 harg3 arg4 harg4 arg5 harg5 arg6 harg6 arg7 harg7 arg8 harg8 arg9 harg9 arg10 harg10 arg11 harg11 arg12 arg13 arg14 arg15 arg16 arg17 arg18 arg19 v1 v326 c512_i32_176 v374 v379 v381 v382)
      (fun _ => iprop(OutWt d i arg2 arg3 arg9 arg17 fp ρ 4 ∗ OW d i O ∗ R)) := by
  unfold k0_part168
  refine wtOut defs d i arg2 arg3 arg9 arg17 fp 0 (out0_of hW hρ) _ (fun _ => rfl) (fun _ => rfl) (fun _ => rfl) ?_
  refine wtOut defs d i arg2 arg3 arg9 arg17 fp 1 (out1_of hW hρ) _ (fun _ => rfl) (fun _ => rfl) (fun _ => rfl) ?_
  refine wtOut defs d i arg2 arg3 arg9 arg17 fp 2 (out2_of hW hρ) _ (fun _ => rfl) (fun _ => rfl) (fun _ => rfl) ?_
  refine wtOut defs d i arg2 arg3 arg9 arg17 fp 3 (out3_of hW hρ) _ (fun _ => rfl) (fun _ => rfl) (fun _ => rfl) ?_
  exact retS defs d i

theorem part170 (v1 : BitVec 32) (v403 : BitVec 32) (c512_i32_213 : BitVec 32) (v451 : BitVec 32) (v456 : BitVec 32) (v458 : BitVec 32) (v460 : BitVec 32)
    (O : CellTallies nD τ sig (HIx 1)) (ρ : ℕ) (hρ : ρ < 2048) (hW : Scalar.addi 1984#32 (wid i) = BitVec.ofNat 32 ρ) (R : sProp 𝕄) :
    iprop(OutWt d i arg2 arg3 arg10 arg18 fp ρ 0 ∗ OW d i O ∗ R) ⊢ wpT defs d i (k0_part170 i arg2 harg2 arg3 harg3 arg4 harg4 arg5 harg5 arg6 harg6 arg7 harg7 arg8 harg8 arg9 harg9 arg10 harg10 arg11 harg11 arg12 arg13 arg14 arg15 arg16 arg17 arg18 arg19 v1 v403 c512_i32_213 v451 v456 v458 v460)
      (fun _ => iprop(OutWt d i arg2 arg3 arg10 arg18 fp ρ 4 ∗ OW d i O ∗ R)) := by
  unfold k0_part170
  refine wtOut defs d i arg2 arg3 arg10 arg18 fp 0 (out0_of hW hρ) _ (fun _ => rfl) (fun _ => rfl) (fun _ => rfl) ?_
  refine wtOut defs d i arg2 arg3 arg10 arg18 fp 1 (out1_of hW hρ) _ (fun _ => rfl) (fun _ => rfl) (fun _ => rfl) ?_
  refine wtOut defs d i arg2 arg3 arg10 arg18 fp 2 (out2_of hW hρ) _ (fun _ => rfl) (fun _ => rfl) (fun _ => rfl) ?_
  refine wtOut defs d i arg2 arg3 arg10 arg18 fp 3 (out3_of hW hρ) _ (fun _ => rfl) (fun _ => rfl) (fun _ => rfl) ?_
  exact retS defs d i

end Cert.KernelIdeal.Packed
-- ==== Proof.Body.lean ====
module
public import proofs.«01_k».proof.Proof.Gen.KernelIdeal.Skeleton
public import proofs.«01_k».proof.Proof.Fetch
public import proofs.«01_k».proof.Proof.Last
public import proofs.«01_k».proof.Proof.Loop

/-!
# A tile's run

The whole of a tile: three rows fetched, the loop, the last four rows awaited.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
set_option maxHeartbeats 4000000
open Facts₀ Facts
open Cert.KernelIdeal.Gen (k0_t1_body)

local notation "𝕄" => MM F

variable (defs : Defs nD τ sig (Elt F) Λ₀) (d : Dev nD) (i : grid0.Coords)
variable (arg2 : Memref sig .scVector .hbm S2096128 .f32) (harg2 : arg2.IsWhole)
  (arg3 : Memref sig .scVector .hbm S2048x2048 .f32) (harg3 : arg3.IsWhole)
  (arg4 : Memref sig .scVector .vmem S2056 .f32) (harg4 : arg4.IsWhole) (arg5 : Memref sig .scVector .vmem S2056 .f32) (harg5 : arg5.IsWhole)
  (arg6 : Memref sig .scVector .vmem S2056 .f32) (harg6 : arg6.IsWhole) (arg7 : Memref sig .scVector .vmem S2056 .f32) (harg7 : arg7.IsWhole)
  (arg8 : Memref sig .scVector .vmem S2048 .f32) (harg8 : arg8.IsWhole) (arg9 : Memref sig .scVector .vmem S2048 .f32) (harg9 : arg9.IsWhole)
  (arg10 : Memref sig .scVector .vmem S2048 .f32) (harg10 : arg10.IsWhole) (arg11 : Memref sig .scVector .vmem S2048 .f32) (harg11 : arg11.IsWhole)
  (arg12 arg13 arg14 arg15 : DmaSems sig S5) (arg16 arg17 arg18 arg19 : DmaSems sig S4)
variable (q : Fin 4 → PosShare TreeShare) (fp : Buf (Elt F) (arg2.view.loc (VT d i)))

/-- The row word of step `t`, as the straight-line parts print it. -/
theorem row_lit (t : Fin 64) (w : BitVec 32) (h : Scalar.muli (BitVec.ofNat 32 t.val) 32#32 = w) : Scalar.addi w (wid i) = BitVec.ofNat 32 (rowN i t.val) := by
  subst h; exact row_const i t

theorem wtIdle {pa : Memref sig .scVector .hbm S2096128 .f32} {am : Memref sig .scVector .hbm S2048x2048 .f32} {ob : Memref sig .scVector .vmem S2048 .f32}
    {so : DmaSems sig S4} {fp : Buf (Elt F) (pa.view.loc (VT d i))} {ρ : ℕ} {R : sProp 𝕄} :
    iprop(OutWt d i pa am ob so fp ρ 4 ∗ R) ⊢ iprop(RowDn d i pa am fp ρ ∗ OutIdle d i ob so ∗ R) := by
  rw [OutWt_four]; unfold OutDone
  iintro ⟨⟨HO, HD⟩, HR⟩
  isplitl [HD]; · iexact HD
  isplitl [HO]; · iexact HO
  iexact HR
theorem flyWt {pa : Memref sig .scVector .hbm S2096128 .f32} {am : Memref sig .scVector .hbm S2048x2048 .f32} {ob : Memref sig .scVector .vmem S2048 .f32}
    {so : DmaSems sig S4} {fp : Buf (Elt F) (pa.view.loc (VT d i))} {ρ : ℕ} {R : sProp 𝕄} :
    iprop(OutFly d i pa am ob so fp ρ ∗ R) ⊢ iprop(OutWt d i pa am ob so fp ρ 0 ∗ R) := by
  rw [OutWt_zero]
theorem issIn_fly {pa : Memref sig .scVector .hbm S2096128 .f32} {ib : Memref sig .scVector .vmem S2056 .f32}
    {si : DmaSems sig S5} {q : PosShare TreeShare} {fp : Buf (Elt F) (pa.view.loc (VT d i))} {ρ : ℕ} {R : sProp 𝕄} :
    iprop(InIss d i pa ib si q fp ρ 5 ∗ R) ⊢ iprop(InFly d i pa ib si q fp ρ ∗ R) := by
  rw [InIss_five]

theorem part164 (v1 : BitVec 32) (v166 : BitVec 32) (v230 : BitVec 32) (v231 : BitVec 1) (v232 : BitVec 1) (O : CellTallies nD τ sig (HIx 1)) (h1 : v1 = wid i) (h2 : v166 = Scalar.addi 64#32 (wid i))  (R : sProp 𝕄) :
    iprop(InFly d i arg2 arg4 arg12 (q 0) fp (rowN i 0) ∗ InFly d i arg2 arg5 arg13 (q 1) fp (rowN i 1) ∗ InIss d i arg2 arg6 arg14 (q 2) fp (rowN i 2) 0 ∗ InIdle d i arg2 arg7 arg15 (q 3) fp ∗ OutIdle d i arg8 arg16 ∗ OutIdle d i arg9 arg17 ∗ OutIdle d i arg10 arg18 ∗ OutIdle d i arg11 arg19 ∗ Todo (d := d) (i := i) arg3 0 ∗ OW d i O ∗ R) ⊢ wpT defs d i (k0_part164 i arg2 harg2 arg3 harg3 arg4 harg4 arg5 harg5 arg6 harg6 arg7 harg7 arg8 harg8 arg9 harg9 arg10 harg10 arg11 harg11 arg12 arg13 arg14 arg15 arg16 arg17 arg18 arg19 v1 v166 v230 v231 v232)
      (fun _ => iprop(InIdle d i arg2 arg4 arg12 (q 0) fp ∗ InIdle d i arg2 arg5 arg13 (q 1) fp ∗ InIdle d i arg2 arg6 arg14 (q 2) fp ∗ InIdle d i arg2 arg7 arg15 (q 3) fp ∗ OutFly d i arg2 arg3 arg8 arg16 fp (rowN i 60) ∗ OutFly d i arg2 arg3 arg9 arg17 fp (rowN i 61) ∗ OutFly d i arg2 arg3 arg10 arg18 fp (rowN i 62) ∗ OutFly d i arg2 arg3 arg11 arg19 fp (rowN i 63) ∗ OW d i O ∗ Done arg2 arg3 fp 60 ∗ R)) := by
  rw [Cert.KernelIdeal.Gen.k0_part164_eq_skeleton]
  unfold Cert.KernelIdeal.Gen.k0_part164_skel
  subst h1 h2
  have hW := row_lit i 2 64#32 rfl
  have hρ := rowN_lt i (show (2 : Fin 64).val < 64 by decide)
  refine pull2.trans ?_
  refine issIn defs d i arg2 arg6 arg14 (q 2) fp 0 0 2056 rfl rfl (in0_of hW hρ) _ _ _ _ _ (fun _ => rfl) (fun _ => rfl) (fun _ h => a8_0 hW hρ h) ?_
  refine issIn defs d i arg2 arg6 arg14 (q 2) fp 1 512 1544 rfl rfl (in1_of hW hρ) _ _ _ _ _ (fun _ => rfl) (fun _ => rfl) (fun _ h => a8_1 hW hρ h) ?_
  refine issIn defs d i arg2 arg6 arg14 (q 2) fp 2 1024 1032 rfl rfl (in2_of hW hρ) _ _ _ _ _ (fun _ => rfl) (fun _ => rfl) (fun _ h => a8_2 hW hρ h) ?_
  refine issIn defs d i arg2 arg6 arg14 (q 2) fp 3 1536 520 rfl rfl (in3_of hW hρ) _ _ _ _ _ (fun _ => rfl) (fun _ => rfl) (fun _ h => a8_3 hW hρ h) ?_
  refine issIn defs d i arg2 arg6 arg14 (q 2) fp 4 8 2048 rfl rfl (in4_of hW hρ) _ _ _ _ _ (fun _ => rfl) (fun _ => rfl) (fun _ h => a8_4 hρ h) ?_
  refine (issIn_fly d i).trans ?_
  refine pull2.trans ?_
  refine pull2.trans ?_
  exact rowLoop defs d i arg2 harg2 arg3 harg3 arg4 harg4 arg5 harg5 arg6 harg6 arg7 harg7 arg8 harg8 arg9 harg9 arg10 harg10 arg11 harg11 arg12 arg13 arg14 arg15 arg16 arg17 arg18 arg19 q fp O R _ _ _ _ (retT defs BIBase.Entails.rfl)

/-- A tile's run: its rows of the matrix written. -/
theorem tileRun (O : CellTallies nD τ sig (HIx 1)) (R : sProp 𝕄) :
    iprop(InIdle d i arg2 arg4 arg12 (q 0) fp ∗ InIdle d i arg2 arg5 arg13 (q 1) fp ∗ InIdle d i arg2 arg6 arg14 (q 2) fp ∗ InIdle d i arg2 arg7 arg15 (q 3) fp ∗ OutIdle d i arg8 arg16 ∗ OutIdle d i arg9 arg17 ∗ OutIdle d i arg10 arg18 ∗ OutIdle d i arg11 arg19 ∗ Todo (d := d) (i := i) arg3 0 ∗ OW d i O ∗ R) ⊢ wpT defs d i (cc0__phase1 i arg2 harg2 arg3 harg3 arg4 harg4 arg5 harg5 arg6 harg6 arg7 harg7 arg8 harg8 arg9 harg9 arg10 harg10 arg11 harg11 arg12 arg13 arg14 arg15 arg16 arg17 arg18 arg19)
      (fun _ => iprop(InIdle d i arg2 arg4 arg12 (q 0) fp ∗ InIdle d i arg2 arg5 arg13 (q 1) fp ∗ InIdle d i arg2 arg6 arg14 (q 2) fp ∗ InIdle d i arg2 arg7 arg15 (q 3) fp ∗ OutIdle d i arg8 arg16 ∗ OutIdle d i arg9 arg17 ∗ OutIdle d i arg10 arg18 ∗ OutIdle d i arg11 arg19 ∗ Done arg2 arg3 fp 64 ∗ OW d i O ∗ R)) := by
  unfold cc0__phase1
  refine bindPure defs d i (part158 i arg2 harg2 arg3 harg3 arg4 harg4 arg5 harg5 arg6 harg6 arg7 harg7 arg8 harg8 arg9 harg9 arg10 harg10 arg11 harg11 arg12 arg13 arg14 arg15 arg16 arg17 arg18 arg19) fun r hr => ?_
  obtain ⟨r158_0, r158_1, r158_2, r158_3, r158_4, r158_5⟩ := r
  obtain ⟨e1, e2⟩ := hr
  dsimp only at e1 e2
  refine (iss_start (d := d) (i := i) (pa := arg2) (ib := arg4) (si := arg12) (q := q 0) (fp := fp) (ρ := rowN i 0) (R := _)).trans ?_
  refine bindS defs d i (part159 defs d i arg2 harg2 arg3 harg3 arg4 harg4 arg5 harg5 arg6 harg6 arg7 harg7 arg8 harg8 arg9 harg9 arg10 harg10 arg11 harg11 arg12 arg13 arg14 arg15 arg16 arg17 arg18 arg19 (q 0) fp _ _ _ _ _ _ (rowN i 0) (rowN_lt i (show (0 : Fin 64).val < 64 by decide)) (row_lit i 0 0#32 rfl) _) fun r => ?_
  refine bindS defs d i (part160 defs d i arg2 harg2 arg3 harg3 arg4 harg4 arg5 harg5 arg6 harg6 arg7 harg7 arg8 harg8 arg9 harg9 arg10 harg10 arg11 harg11 arg12 arg13 arg14 arg15 arg16 arg17 arg18 arg19 (q 0) fp _ _ _ e1 e2 (rowN i 0) (rowN_lt i (show (0 : Fin 64).val < 64 by decide)) (row_lit i 0 0#32 rfl) _) fun r => ?_
  obtain ⟨r160_0, r160_1, r160_2, r160_3, r160_4, r160_5⟩ := r
  refine pureL fun hr => ?_
  have e3 := hr
  dsimp only at e3
  refine (issIn_fly d i).trans ?_
  refine pull1.trans ?_
  refine (iss_start (d := d) (i := i) (pa := arg2) (ib := arg5) (si := arg13) (q := q 1) (fp := fp) (ρ := rowN i 1) (R := _)).trans ?_
  refine bindS defs d i (part161 defs d i arg2 harg2 arg3 harg3 arg4 harg4 arg5 harg5 arg6 harg6 arg7 harg7 arg8 harg8 arg9 harg9 arg10 harg10 arg11 harg11 arg12 arg13 arg14 arg15 arg16 arg17 arg18 arg19 (q 1) fp _ _ _ _ _ _ _ (rowN i 1) (rowN_lt i (show (1 : Fin 64).val < 64 by decide)) (row_lit i 1 32#32 rfl) _) fun r => ?_
  obtain ⟨r161_0, r161_1⟩ := r
  refine bindS defs d i (part162 defs d i arg2 harg2 arg3 harg3 arg4 harg4 arg5 harg5 arg6 harg6 arg7 harg7 arg8 harg8 arg9 harg9 arg10 harg10 arg11 harg11 arg12 arg13 arg14 arg15 arg16 arg17 arg18 arg19 (q 1) fp _ _ _ _ e1 e3 (rowN i 1) (rowN_lt i (show (1 : Fin 64).val < 64 by decide)) (row_lit i 1 32#32 rfl) _) fun r => ?_
  obtain ⟨r162_0, r162_1, r162_2, r162_3, r162_4⟩ := r
  refine pureL fun hr => ?_
  have e4 := hr
  dsimp only at e4
  refine (issIn_fly d i).trans ?_
  refine bindPure defs d i (P := fun _ => True) ⟨_, rfl, trivial⟩ fun r _ => ?_
  obtain ⟨r163_0, r163_1, r163_2⟩ := r
  refine pull2.trans ?_
  refine (iss_start (d := d) (i := i) (pa := arg2) (ib := arg6) (si := arg14) (q := q 2) (fp := fp) (ρ := rowN i 2) (R := _)).trans ?_
  refine pull9.trans ?_
  refine pull9.trans ?_
  refine pull9.trans ?_
  refine pull9.trans ?_
  refine pull9.trans ?_
  refine pull9.trans ?_
  refine pull9.trans ?_
  refine pull7.trans ?_
  refine pull8.trans ?_
  refine pull9.trans ?_
  refine bindS defs d i (part164 defs d i arg2 harg2 arg3 harg3 arg4 harg4 arg5 harg5 arg6 harg6 arg7 harg7 arg8 harg8 arg9 harg9 arg10 harg10 arg11 harg11 arg12 arg13 arg14 arg15 arg16 arg17 arg18 arg19 q fp _ _ _ _ _ O e1 e4 _) fun r => ?_
  obtain ⟨r164_0, r164_1, r164_2, r164_3, r164_4, r164_5⟩ := r
  refine bindPure defs d i (P := fun _ => True) ⟨_, rfl, trivial⟩ fun r _ => ?_
  obtain ⟨r165_0, r165_1, r165_2, r165_3, r165_4⟩ := r
  refine pull4.trans ?_
  refine (flyWt d i).trans ?_
  refine pull8.trans ?_
  refine pull1.trans ?_
  refine bindS defs d i (part166 defs d i arg2 harg2 arg3 harg3 arg4 harg4 arg5 harg5 arg6 harg6 arg7 harg7 arg8 harg8 arg9 harg9 arg10 harg10 arg11 harg11 arg12 arg13 arg14 arg15 arg16 arg17 arg18 arg19 fp _ _ _ _ _ _ _ O (rowN i 60) (rowN_lt i (show (60 : Fin 64).val < 64 by decide)) (row_lit i 60 1920#32 rfl) _) fun r => ?_
  obtain ⟨r166_0, r166_1, r166_2, r166_3, r166_4⟩ := r
  refine (wtIdle d i).trans ?_
  refine pull10.trans ?_
  refine pull1.trans ?_
  refine (done_step (P := fun t => RowDn d i arg2 arg3 fp (rowN i t)) 60).trans ?_
  refine bindPure defs d i (P := fun _ => True) ⟨_, rfl, trivial⟩ fun r _ => ?_
  obtain ⟨r167_0, r167_1, r167_2, r167_3, r167_4⟩ := r
  refine pull7.trans ?_
  refine (flyWt d i).trans ?_
  refine pull3.trans ?_
  refine pull1.trans ?_
  refine bindS defs d i (part168 defs d i arg2 harg2 arg3 harg3 arg4 harg4 arg5 harg5 arg6 harg6 arg7 harg7 arg8 harg8 arg9 harg9 arg10 harg10 arg11 harg11 arg12 arg13 arg14 arg15 arg16 arg17 arg18 arg19 fp _ _ _ _ _ _ _ O (rowN i 61) (rowN_lt i (show (61 : Fin 64).val < 64 by decide)) (row_lit i 61 1952#32 rfl) _) fun r => ?_
  obtain ⟨r168_0, r168_1, r168_2, r168_3, r168_4, r168_5⟩ := r
  refine (wtIdle d i).trans ?_
  refine pull3.trans ?_
  refine pull1.trans ?_
  refine (done_step (P := fun t => RowDn d i arg2 arg3 fp (rowN i t)) 61).trans ?_
  refine bindPure defs d i (P := fun _ => True) ⟨_, rfl, trivial⟩ fun r _ => ?_
  obtain ⟨r169_0, r169_1, r169_2, r169_3, r169_4⟩ := r
  refine pull8.trans ?_
  refine (flyWt d i).trans ?_
  refine pull3.trans ?_
  refine pull1.trans ?_
  refine bindS defs d i (part170 defs d i arg2 harg2 arg3 harg3 arg4 harg4 arg5 harg5 arg6 harg6 arg7 harg7 arg8 harg8 arg9 harg9 arg10 harg10 arg11 harg11 arg12 arg13 arg14 arg15 arg16 arg17 arg18 arg19 fp _ _ _ _ _ _ _ O (rowN i 62) (rowN_lt i (show (62 : Fin 64).val < 64 by decide)) (row_lit i 62 1984#32 rfl) _) fun r => ?_
  obtain ⟨r170_0, r170_1, r170_2, r170_3, r170_4⟩ := r
  refine (wtIdle d i).trans ?_
  refine pull3.trans ?_
  refine pull1.trans ?_
  refine (done_step (P := fun t => RowDn d i arg2 arg3 fp (rowN i t)) 62).trans ?_
  refine bindPure defs d i (P := fun _ => True) ⟨_, rfl, trivial⟩ fun r _ => ?_
  obtain ⟨r171_0, r171_1, r171_2, r171_3⟩ := r
  refine pull9.trans ?_
  refine (flyWt d i).trans ?_
  refine pull3.trans ?_
  refine pull1.trans ?_
  have hW := row_lit i 63 2016#32 rfl
  have hρ := rowN_lt i (show (63 : Fin 64).val < 64 by decide)
  refine wtOut defs d i arg2 arg3 arg11 arg19 fp 0 (out0_of hW hρ) _ (fun _ => rfl) (fun _ => rfl) (fun _ => rfl) ?_
  refine wtOut defs d i arg2 arg3 arg11 arg19 fp 1 (out1_of hW hρ) _ (fun _ => rfl) (fun _ => rfl) (fun _ => rfl) ?_
  refine wtOut defs d i arg2 arg3 arg11 arg19 fp 2 (out2_of hW hρ) _ (fun _ => rfl) (fun _ => rfl) (fun _ => rfl) ?_
  refine wtOut defs d i arg2 arg3 arg11 arg19 fp 3 (out3_of hW hρ) _ (fun _ => rfl) (fun _ => rfl) (fun _ => rfl) ?_
  refine (wtIdle d i).trans ?_
  refine pull3.trans ?_
  refine pull1.trans ?_
  refine (done_step (P := fun t => RowDn d i arg2 arg3 fp (rowN i t)) 63).trans ?_
  refine pull2.trans ?_
  refine pull1.trans ?_
  refine pull2.trans ?_
  refine pull3.trans ?_
  refine pull4.trans ?_
  refine pull5.trans ?_
  refine pull9.trans ?_
  refine pull9.trans ?_
  refine pull9.trans ?_
  refine pull9.trans ?_
  exact retS defs d i

end Cert.KernelIdeal.Packed
-- ==== Proof.Tile.lean ====
module
public import proofs.«01_k».proof.Proof.Cells
public import proofs.«01_k».proof.Proof.Body
public import Idealize.ShloMosaic.Lib.Pipeline.Kit

/-!
# The SparseCore call

What the handshakes of the call carry, and that every task, started from its part, ends with its rows written.
-/

@[expose] public section

noncomputable section

namespace Cert.KernelIdeal.Packed

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type}

local notation "𝕄" => MM F
local notation "pV" => (Memref.whole Cert.KernelIdeal.main_arg0_scv : Memref Cert.KernelIdeal.sig Kind.scVector Space.hbm Cert.KernelIdeal.S2096128 EltTy.f32)
local notation "aV" => (Memref.whole Cert.KernelIdeal.main_v0_scv : Memref Cert.KernelIdeal.sig Kind.scVector Space.hbm Cert.KernelIdeal.S2048x2048 EltTy.f32)

/-! ## The program as the launch theorem sees it -/

abbrev EH : Emb UH (MM F) := embL

variable [FloatOps F]

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

variable (m : (ℓ : Loc nD τ sig) → Buf (Elt F) ℓ) (ρ : Dev nD → PrngReg)

/-- A SparseCore's part: all its tasks'. -/
abbrev stP (d : Dev nD) (c : Fin 2) : sProp 𝕄 := bigSep Finset.univ fun s : Fin 16 => goP d (m (pLoc d)) c s
abbrev dnP (d : Dev nD) (c : Fin 2) : sProp 𝕄 := bigSep Finset.univ fun s : Fin 16 => tdP d (m (pLoc d)) c s

/-- The call takes shares of the parameters and the matrix; each task four shares and its rows; it brings its rows back,
    written. -/
def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP d (m (pLoc d)) (Fin.cast nCore_zero c) (Fin.cast nSub_zero i)
  td := fun q d c i => match q with | 0 => tdP d (m (pLoc d)) (Fin.cast nCore_zero c) (Fin.cast nSub_zero i)
  x := fun _ _ => iprop(emp)

instance goP_storable (d : Dev nD) (c : Fin 2) (s : Fin 16) : BI.Storable (upEmb : UEmb _ 𝕄) (goP d (m (pLoc d)) c s) := by unfold goP; infer_instance
instance tdP_storable (d : Dev nD) (c : Fin 2) (s : Fin 16) : BI.Storable (upEmb : UEmb _ 𝕄) (tdP d (m (pLoc d)) c s) := by unfold tdP; infer_instance

instance P_storable : (P (F := F) m).IsStorable where
  st q d c := match q with | 0 => (inferInstance : BI.Storable (upEmb : UEmb _ 𝕄) (stP m d (Fin.cast nCore_zero c)))
  dn q d c := match q with | 0 => (inferInstance : BI.Storable (upEmb : UEmb _ 𝕄) (dnP m d (Fin.cast nCore_zero c)))
  go q d c i := match q with | 0 => goP_storable m d (Fin.cast nCore_zero c) (Fin.cast nSub_zero i)
  td q d c i := match q with | 0 => tdP_storable m d (Fin.cast nCore_zero c) (Fin.cast nSub_zero i)

theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) : (bigSep Finset.univ fun i : Fin ((K (F := F)).nCore 0) => Φ (Fin.cast nCore_zero i)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => bigSep Finset.univ fun s : Fin 16 => goP d (m (pLoc d)) c s :=
  bigSep_cores (fun c => stP m d c)
theorem dn0_eq (d : Dev nD) : (bigSep Finset.univ fun c : Fin ((K (F := F)).nCore 0) => (P m).dn 0 d c) = bigSep Finset.univ fun c : Fin 2 => bigSep Finset.univ fun s : Fin 16 => tdP d (m (pLoc d)) c s :=
  bigSep_cores (fun c => dnP m d c)

theorem vecSplit : (K (F := F)).VecSplit' (P m) 0 := by
  intro d c
  show stP m d (Fin.cast nCore_zero c) ⊢ |={Set.univ}=> iprop(
      (bigSep Finset.univ fun i : Fin ((K (F := F)).nSub 0) => goP d (m (pLoc d)) (Fin.cast nCore_zero c) (Fin.cast nSub_zero i))
      ∗ ((bigSep Finset.univ fun i : Fin ((K (F := F)).nSub 0) => tdP d (m (pLoc d)) (Fin.cast nCore_zero c) (Fin.cast nSub_zero i))
          -∗ dnP m d (Fin.cast nCore_zero c)))
  rw [bigSep_tasks (F := F) (fun i => goP d (m (pLoc d)) (Fin.cast nCore_zero c) i), bigSep_tasks (F := F) (fun i => tdP d (m (pLoc d)) (Fin.cast nCore_zero c) i)]
  iintro H; imodintro
  isplitl [H]; · iexact H
  iintro H; iexact H

/-! ## The task -/

theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ goP d (m (pLoc d)) c s
        ∗ scopedBufs (VT d (crd c s)) ∗ scopedSems0 (VT d (crd c s)) ∗ owes (VT d (crd c s)) O W)
      ⊢ wp frame (wpE (defs₀ (F := F)) 𝒱₀ (VT d (crd c s)) none) Set.univ
          (cc0__phase1 (crd c s) pV (Memref.isWhole_whole _) aV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scratch15)
          fun _ => iprop(tdP d (m (pLoc d)) c s
            ∗ scopedBufs (VT d (crd c s)) ∗ scopedSems0 (VT d (crd c s))
            ∗ ∃ W', ⌜∀ p ∈ W', p ∈ W ∨ p.2 = none ∨ p.2 = some (0 : Fin 1)⌝ ∗ owes (VT d (crd c s)) O W') := by
  rw [(K (F := F)).scopedBufs_V facts d (cV (crd c s)) (jV (crd c s)), SparseCore.Cfg.scopedSems0_V (Val := Elt F) d (cV (crd c s)) (jV (crd c s))]
  have hpre : iprop(levAts (K (F := F)).L (K (F := F)).lev ∗ emp ∗ goP d (m (pLoc d)) c s
        ∗ SparseCore.Cfg.ownBufs (VT d (crd c s)) ∗ SparseCore.Cfg.ownSems0 (VT d (crd c s)) ∗ owes (VT d (crd c s)) O W)
      ⊢ (iprop(goP d (m (pLoc d)) c s ∗ SparseCore.Cfg.ownBufs (VT d (crd c s)) ∗ SparseCore.Cfg.ownSems0 (VT d (crd c s)) ∗ OW d (crd c s) O) : sProp 𝕄) := by
    unfold OW
    iintro ⟨#Hlv, -, Hg, Hb, Hs, HO⟩
    ihave Hmw := (show levAts (K (F := F)).L (K (F := F)).lev ⊢ Transfers.MayWaits (VT d (crd c s)) (default : HIx 1) O from
      (K (F := F)).mayWaits_none (thr := VT d (crd c s)) hO) $$ Hlv
    isplitl [Hg]; · iexact Hg
    isplitl [Hb]; · iexact Hb
    isplitl [Hs]; · iexact Hs
    isplitr; · iexact Hmw
    iexists W; iexact HO
  have hpost := (tile_close d c s (m (pLoc d)) (OW d (crd c s) O)).trans (show
      iprop(tdP d (m (pLoc d)) c s ∗ SparseCore.Cfg.ownBufs (VT d (crd c s)) ∗ SparseCore.Cfg.ownSems0 (VT d (crd c s)) ∗ OW d (crd c s) O)
        ⊢ (iprop(tdP d (m (pLoc d)) c s ∗ SparseCore.Cfg.ownBufs (VT d (crd c s)) ∗ SparseCore.Cfg.ownSems0 (VT d (crd c s))
          ∗ ∃ W', ⌜∀ p ∈ W', p ∈ W ∨ p.2 = none ∨ p.2 = some (0 : Fin 1)⌝ ∗ owes (VT d (crd c s)) O W') : sProp 𝕄) by
    unfold OW
    iintro ⟨Ht, Hb, Hs, -, %W', HO⟩
    isplitl [Ht]; · iexact Ht
    isplitl [Hb]; · iexact Hb
    isplitl [Hs]; · iexact Hs
    iexists W'; isplitr
    · ipureintro; intro p _
      rcases p.2 with _ | q
      · exact .inr (.inl rfl)
      · exact .inr (.inr (congrArg some (Subsingleton.elim q 0)))
    · iexact HO)
  refine hpre.trans ((tile_open d c s (m (pLoc d)) _).trans ?_)
  refine BI.Entails.trans ?_ (wp_mono _ _ _ fun _ => hpost)
  exact tileRun (defs₀ (F := F)) d (crd c s) pV (Memref.isWhole_whole _) aV (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15
    (qT c s) (m (pLoc d)) O iprop(restSems d (crd c s) ∗ restBufs d (crd c s))

/-- A task's coordinates, of the grid's own bounds. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__phase1 (coordsV c s) pV (Memref.isWhole_whole _) aV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scratch14 cc0_scratch15) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body m d ⟨_, hci.1⟩ ⟨_, hci.2⟩ O W hO

end Cert.KernelIdeal.Packed
-- ==== Proof.Seg.lean ====
module
public import proofs.«01_k».proof.Proof.Region
public import proofs.«01_k».proof.Proof.Tile

/-!
# The TensorCore call as a step of the host's run

The call takes the buffers that the host holds at some contents and gives them back with the call's result written.
-/

@[expose] public section

noncomputable section

namespace Cert.KernelIdeal.Packed

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- The pipeline's rounds, in the second half of the algebra. -/
abbrev EP : Emb UP 𝕄 := (Emb.inl : Emb UP (UP × Counters)).trans embR

/-- The tables' contents in a valuation. -/
def TblAt (W : Valuation τ sig (Elt F)) : Prop :=
  ∀ k, tbl (F := F) k = W (Proc.devRef .tc (pre1.ref k))

set_option backward.isDefEq.respectTransparency.types false in
/-- The call, entered with the host's buffers at `W`. -/
def seg (W : Valuation τ sig (Elt F)) (hT : TblAt W) :
    Pipeline.RegionSeg (pcfgs (F := F)) adm (pdats W) none defs₀ 𝒱₀ (K (F := F)).L (K (F := F)).lev 0 :=
  Pipeline.RegionSeg.ofHeldInT (pcfgs (F := F)) adm (pdats W) none defs₀ 𝒱₀ (K (F := F)).L (K (F := F)).lev 0 (fun _ => 0)
    UC (fun _ => BI.emp) (fun _ => BI.emp) launch1
    (fun c => (body_obligation W c).loose) (fun _ _ => rfl) (fun _ => rfl) (fun c w => by first | rfl | exact ite_self _)
    (fun _ => .rfl) (fun _ => .rfl) (fun _ => 0)
    ⟨fun _ _ _ => Finset.mem_univ _, fun _ _ _ => le_refl 0, fun _ _ _ h => absurd h (lt_irrefl 0)⟩
    (fun _ => BI.emp) (fun _ => W) (fun _ _ => rfl) (fun _ k => hT k)

set_option backward.isDefEq.respectTransparency.types false in
theorem seg_pre (W : Valuation τ sig (Elt F)) (hT : TblAt W) (d : Dev nD) :
    iprop(StableHlo.held (T d : Thread nD τ) UC W ∗ ((∃ Wd : Waits sig (HIx 1), owes (T d : Thread nD τ) (0 : CellTallies nD τ sig (HIx 1)) Wd) ∗ BI.emp ∗ BI.emp)) ⊢ ((seg W hT).pre d : sProp 𝕄) :=
  Pipeline.RegionSeg.ofHeldInT_pre (pcs := pcfgs (F := F)) (a := adm) (pdats := pdats W) (ι := none) (defs₀ := defs₀) (𝒱₀ := 𝒱₀)
    (L := (K (F := F)).L) (lv := (K (F := F)).lev) (p := 0) (D := fun _ => 0) (S := UC) (show Pipeline.arrRefs (pcfgs (F := F) 0).spec ⊆ UC from arrs_sub)
    (show Pipeline.tblRefs (pcfgs (F := F) 0).pre ⊆ UC from tbls_sub) (X := fun _ => BI.emp) (Y := fun _ => BI.emp) (R := fun _ => BI.emp) (W := fun _ => W) d

set_option backward.isDefEq.respectTransparency.types false in
theorem seg_post (W : Valuation τ sig (Elt F)) (hT : TblAt W) (d : Dev nD) :
    ((seg W hT).post d : sProp 𝕄) ⊢ iprop(StableHlo.held (T d : Thread nD τ) UC (Pipeline.afterRegion (dat W d) W)
      ∗ ((∃ Wd : Waits sig (HIx 1), owes (T d : Thread nD τ) (0 : CellTallies nD τ sig (HIx 1)) Wd) ∗ BI.emp ∗ BI.emp)) :=
  Pipeline.RegionSeg.ofHeldInT_post (pcs := pcfgs (F := F)) (a := adm) (pdats := pdats W) (ι := none) (defs₀ := defs₀) (𝒱₀ := 𝒱₀)
    (L := (K (F := F)).L) (lv := (K (F := F)).lev) (p := 0) (D := fun _ => 0) (S := UC) (show Pipeline.arrRefs (pcfgs (F := F) 0).spec ⊆ UC from arrs_sub)
    (show Pipeline.tblRefs (pcfgs (F := F) 0).pre ⊆ UC from tbls_sub) (X := fun _ => BI.emp) (Y := fun _ => BI.emp) (R := fun _ => BI.emp) (W := fun _ => W) d

/-- What the pipeline's rounds start from, on a device. -/
abbrev pipeGhost (d : Dev nD) : sProp 𝕄 :=
  iprop(Pipeline.cellsGhost (Pipeline.pin (pcfgs (F := F)) adm) EP 0 d ∗ Pipeline.toksInit (Pipeline.pin (pcfgs (F := F)) adm) EP 0 d)

/-- The host's buffers after the call. -/
abbrev afterSeg (d : Dev nD) (W : Valuation τ sig (Elt F)) : Valuation τ sig (Elt F) := Pipeline.afterRegion (dat W d) W

theorem seg_pack (d : Dev nD) (W : Valuation τ sig (Elt F)) (hT : TblAt W) (Φ : PUnit → sProp 𝕄) :
    iprop(levAts (K (F := F)).L (K (F := F)).lev ∗ boundary (T d : Thread nD τ) ∗ StableHlo.held (T d : Thread nD τ) UC W ∗ (∃ Wd : Waits sig (HIx 1), owes (T d : Thread nD τ) (0 : CellTallies nD τ sig (HIx 1)) Wd)
        ∗ pipeGhost d
        ∗ (iprop(boundary (T d : Thread nD τ) ∗ StableHlo.held (T d : Thread nD τ) UC (afterSeg d W) ∗ (∃ Wd : Waits sig (HIx 1), owes (T d : Thread nD τ) (0 : CellTallies nD τ sig (HIx 1)) Wd)) -∗ Φ ⟨⟩))
      ⊢ (iprop((iprop(boundary (T d : Thread nD τ) ∗ (seg W hT).post d)
            -∗ wp frame (wpE (Pipeline.defs (pcfgs (F := F)) defs₀) 𝒱 (T d : Thread nD τ) none) Set.univ (.ret PUnit.unit) Φ)
          ∗ boundary (T d : Thread nD τ) ∗ (seg W hT).pre d ∗ levAts (K (F := F)).L (K (F := F)).lev ∗ pipeGhost d) : sProp 𝕄) := by
  iintro ⟨Hlv, Hb, Hh, HO, ⟨Hg, Ht⟩, Hk⟩
  isplitl [Hk]
  · iintro ⟨Hb, Hp⟩
    ihave Hp := (seg_post W hT d) $$ Hp
    icases Hp with ⟨Hh, HO, -, -⟩
    rw [wp_ret]
    imodintro
    iapply Hk
    isplitl [Hb]; · iexact Hb
    isplitl [Hh]; · iexact Hh
    iexact HO
  isplitl [Hb]; · iexact Hb
  isplitl [Hh HO]
  · iapply (seg_pre W hT d)
    isplitl [Hh]; · iexact Hh
    isplitl [HO]; · iexact HO
    isplitr; · iempintro
    iempintro
  isplitl [Hlv]; · iexact Hlv
  isplitl [Hg]; · iexact Hg
  iexact Ht

/-- The call alone. -/
def callP : Prog (TpuEff nD τ sig (Elt F) (ΛP (F := F)) .tc) PUnit := .op (.customCall (Pipeline.entry 0) ()) fun _ => .ret ⟨⟩

theorem callP_lift : SparseCore.liftProg (Q := 1) (callP (F := F)) = Prog.lift (.customCall (SparseCore.inner (Pipeline.entry 0)) ()) := by
  unfold callP
  rw [SparseCore.liftProg_op]
  rfl

theorem seg_wp [∀ e, Nonempty (Elt F e)] (d : Dev nD) (W : Valuation τ sig (Elt F)) (hT : TblAt W) (Φ : PUnit → sProp 𝕄) :
    iprop(levAts (K (F := F)).L (K (F := F)).lev ∗ boundary (T d : Thread nD τ) ∗ StableHlo.held (T d : Thread nD τ) UC W ∗ (∃ Wd : Waits sig (HIx 1), owes (T d : Thread nD τ) (0 : CellTallies nD τ sig (HIx 1)) Wd)
        ∗ pipeGhost d
        ∗ (iprop(boundary (T d : Thread nD τ) ∗ StableHlo.held (T d : Thread nD τ) UC (afterSeg d W) ∗ (∃ Wd : Waits sig (HIx 1), owes (T d : Thread nD τ) (0 : CellTallies nD τ sig (HIx 1)) Wd)) -∗ Φ ⟨⟩))
      ⊢ wp frame (wpE ((K (F := F)).defs D) 𝒱 (T d) none) Set.univ
        (Prog.lift (.customCall (SparseCore.inner (Pipeline.entry 0)) ())) Φ := by
  have key := Pipeline.RegionSeg.wp (pcfgs (F := F)) adm (pdats W) none (cellOf_inj adm) EP defs₀ 𝒱₀ (K (F := F)).L (K (F := F)).lev (seg W hT) d
    none (fun u hu => nomatch hu) (fun _ => Prog.ret PUnit.unit) Φ
  have hl := (K (F := F)).wp_liftProg D 𝒱 (T d : Thread nD τ) Set.univ none (callP (F := F)) Φ
  rw [callP_lift] at hl
  refine BI.Entails.trans ?_ hl
  unfold callP
  exact (seg_pack d W hT Φ).trans key

end Cert.KernelIdeal.Packed
-- ==== Proof.Main.lean ====
module
public import proofs.«01_k».proof.Proof.Seg
public import Idealize.ShloMosaic.Lib.SparseCore.Quiescent

/-!
# The whole run

@main on the TensorCore: the SparseCore call, the host's block mask, the TensorCore call, and the choice between the two
matrices; then the launch, and what the result holds when the run is over.
-/

@[expose] public section

noncomputable section

namespace Cert.KernelIdeal.Packed

open Cert.KernelIdeal
open Idealize.ShloMosaic Idealize.ShloMosaic.TcCoe
open Idealize.ShloMosaic.SparseCore (S V T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MM F

/-! ## What the result is -/

/-- The matrix that the parameters pack: the packed entries right of the diagonal, zero less the packed entry of the mirrored
    place left of it, zero on it. -/
def Good (prm : S2096128.Idx → Elt F .f32) (o : S2048x2048.Idx → Elt F .f32) : Prop :=
  ∀ z : S2048x2048.Idx,
    ((z 0 : ℕ) < (z 1 : ℕ) → ∀ y : S2096128.Idx, (y 0).val + 8 = sb (z 0).val + (z 1).val → o z = prm y)
    ∧ ((z 1 : ℕ) < (z 0 : ℕ) → ∀ y : S2096128.Idx, (y 0).val + 8 = sb (z 1).val + (z 0).val → o z = FloatOps.subf (FloatOps.ofBits .f32 0#32) (prm y))
    ∧ ((z 0 : ℕ) = (z 1 : ℕ) → o z = FloatOps.ofBits .f32 0#32)

/-- The block mask at one place. -/
theorem mask_word {a b : ℕ} (ha : a < 2048) (hb : b < 2048) :
    IntOp.cmpi .slt (IntOp.shrui .host (BitVec.ofNat 32 a) 9#32) (IntOp.shrui .host (BitVec.ofNat 32 b) 9#32)
      = BitVec.ofBool (decide (a / 512 < b / 512)) := by
  have e : ∀ {n : ℕ}, n < 2048 → IntOp.shrui .host (BitVec.ofNat 32 n) 9#32 = BitVec.ofNat 32 (n / 512) := by
    intro n hn
    simp only [IntOp.shrui, IntOp.cornerWord]
    apply BitVec.eq_of_toNat_eq
    simp [BitVec.toNat_ofNat, Nat.shiftRight_eq_div_pow]
    omega
  rw [e ha, e hb, IntOp.cmpi, slt_ofNat (by omega) (by omega)]

theorem good_of (prm : S2096128.Idx → Elt F .f32) (g v8 : S2048x2048.Idx → Elt F .f32) (hg : ∀ ρ, ρ < 2048 → RowOK (α := Elt F .f32) prm ρ g)
    (h8 : ∀ z : S2048x2048.Idx, (z 1 : ℕ) / 512 ≤ (z 0 : ℕ) / 512 → v8 z = outAt g z) (o : S2048x2048.Idx → Elt F .f32)
    (ho : ∀ z : S2048x2048.Idx, o z = if (z 0 : ℕ) / 512 < (z 1 : ℕ) / 512 then g z else v8 z) : Good prm o := by
  intro z
  have h0 : (z 0 : ℕ) < 2048 := (z 0).isLt
  have h1 : (z 1 : ℕ) < 2048 := (z 1).isLt
  have hz := ho z
  refine ⟨fun hlt y hy => ?_, fun hlt y hy => ?_, fun he => ?_⟩
  · have e : g z = prm y := hg _ h0 z rfl hlt y hy
    by_cases hb : (z 0 : ℕ) / 512 < (z 1 : ℕ) / 512
    · rw [hz, if_pos hb, e]
    · rw [hz, if_neg hb, h8 z (by omega)]
      unfold outAt
      rw [if_neg (by omega), if_pos hlt, e]
  · rw [hz, if_neg (by omega), h8 z (by omega)]
    unfold outAt
    rw [if_pos hlt, hg _ h1 (flipM z) rfl hlt y hy]
  · rw [hz, if_neg (by omega), h8 z (by omega)]
    unfold outAt
    rw [if_neg (by omega), if_neg (by omega)]

/-! ## The host's lines -/

/-- A host line among the buffers held. -/
theorem hlo_step (d : Dev nD) {hp : (T d : Thread nD τ).2.kind.runsHlo = true} {op : HloOp τ sig (Elt F)} (hS : op.bufs ⊆ UC) (V : Valuation τ sig (Elt F))
    (hf : op.fresh = ∅) (Φ : PUnit → sProp 𝕄) :
    iprop((boundary (T d : Thread nD τ) ∗ held (T d : Thread nD τ) UC V)
        ∗ (iprop(boundary (T d : Thread nD τ) ∗ held (T d : Thread nD τ) UC (op.result V)) -∗ Φ ⟨⟩))
      ⊢ wp frame (wpE ((K (F := F)).defs D) 𝒱 (T d) none) Set.univ (hlo hp op (fun _ => .ret ⟨⟩)) Φ := by
  iintro ⟨H, Hk⟩
  iapply (StableHlo.wp_hlo_within (defs := (K (F := F)).defs D) 𝒱 (T d : Thread nD τ) none Set.univ (hp := hp) (op := op)
    (k := fun _ => .ret PUnit.unit) (S := UC) hS (V := V) (Q := Φ) hf) $$ H
  iintro H
  rw [wp_ret]
  imodintro
  iapply Hk
  iexact H

/-- The lines between the two calls. -/
abbrev l1 : HloOp τ sig (Elt F) := StableHlo.nullary main_v1 (iotaInDim S2048x2048 32 0)
abbrev l2 : HloOp τ sig (Elt F) := StableHlo.nullary main_c_1 (constantI S_ 32 9#32)
abbrev l3 : HloOp τ sig (Elt F) := StableHlo.unary main_c_1 main_v2 (broadcastInDim S2048x2048 ![] bcast_S_S2048x2048 : (⟨S_, .i32⟩ : BufTy).Contents (Elt F) → (⟨S2048x2048, .i32⟩ : BufTy).Contents (Elt F))
abbrev l4 : HloOp τ sig (Elt F) := StableHlo.binary main_v1 main_v2 main_v3 (Host.shrui : (⟨S2048x2048, .i32⟩ : BufTy).Contents (Elt F) → (⟨S2048x2048, .i32⟩ : BufTy).Contents (Elt F) → (⟨S2048x2048, .i32⟩ : BufTy).Contents (Elt F))
abbrev l5 : HloOp τ sig (Elt F) := StableHlo.nullary main_v4 (iotaInDim S2048x2048 32 1)
abbrev l6 : HloOp τ sig (Elt F) := StableHlo.nullary main_c_2 (constantI S_ 32 9#32)
abbrev l7 : HloOp τ sig (Elt F) := StableHlo.unary main_c_2 main_v5 (broadcastInDim S2048x2048 ![] bcast_S_S2048x2048 : (⟨S_, .i32⟩ : BufTy).Contents (Elt F) → (⟨S2048x2048, .i32⟩ : BufTy).Contents (Elt F))
abbrev l8 : HloOp τ sig (Elt F) := StableHlo.binary main_v4 main_v5 main_v6 (Host.shrui : (⟨S2048x2048, .i32⟩ : BufTy).Contents (Elt F) → (⟨S2048x2048, .i32⟩ : BufTy).Contents (Elt F) → (⟨S2048x2048, .i32⟩ : BufTy).Contents (Elt F))
abbrev l9 : HloOp τ sig (Elt F) := StableHlo.binary main_v3 main_v6 main_v7 (cmpi .slt : (⟨S2048x2048, .i32⟩ : BufTy).Contents (Elt F) → (⟨S2048x2048, .i32⟩ : BufTy).Contents (Elt F) → (⟨S2048x2048, .i1⟩ : BufTy).Contents (Elt F))
abbrev lc0 : HloOp τ sig (Elt F) := StableHlo.nullary main_c (fun i => lit0 (S10.rowMajor i))
abbrev lc1 : HloOp τ sig (Elt F) := StableHlo.nullary main_c_0 (fun i => lit1 (S10.rowMajor i))
abbrev lsel : HloOp τ sig (Elt F) := StableHlo.ternary main_v7 main_v0 main_v8 main_v9 (select : (⟨S2048x2048, .i1⟩ : BufTy).Contents (Elt F) → (⟨S2048x2048, .f32⟩ : BufTy).Contents (Elt F) → (⟨S2048x2048, .f32⟩ : BufTy).Contents (Elt F) → (⟨S2048x2048, .f32⟩ : BufTy).Contents (Elt F))

/-- The buffers before the SparseCore call. -/
def Va (V : Valuation τ sig (Elt F)) : Valuation τ sig (Elt F) := StableHlo.after [lc0, lc1] V
/-- The buffers after it, the matrix at `g`. -/
def Vb (V : Valuation τ sig (Elt F)) (g : S2048x2048.Idx → Elt F .f32) : Valuation τ sig (Elt F) :=
  Function.update (Va V) (Proc.devRef .tc main_v0) g
/-- The buffers as the TensorCore call takes them. -/
def Vc (V : Valuation τ sig (Elt F)) (g : S2048x2048.Idx → Elt F .f32) : Valuation τ sig (Elt F) :=
  StableHlo.after [l1, l2, l3, l4, l5, l6, l7, l8, l9] (Vb V g)
/-- The buffers at the end. -/
def Ve (d : Dev nD) (V : Valuation τ sig (Elt F)) (g : S2048x2048.Idx → Elt F .f32) : Valuation τ sig (Elt F) :=
  (lsel (F := F)).result (afterSeg d (Vc V g))

theorem Vb_v0 (V : Valuation τ sig (Elt F)) (g : S2048x2048.Idx → Elt F .f32) : Vb V g (Proc.devRef .tc main_v0) = g :=
  Function.update_self ..
theorem Vb_ne (V : Valuation τ sig (Elt F)) (g : S2048x2048.Idx → Elt F .f32) {b : DevRef τ sig} (h : b ≠ Proc.devRef .tc main_v0) :
    Vb V g b = Va V b := Function.update_of_ne h ..

theorem Vc_v0 (V : Valuation τ sig (Elt F)) (g : S2048x2048.Idx → Elt F .f32) : Vc V g (Proc.devRef .tc main_v0) = g := by
  unfold Vc
  refine Eq.trans ?_ (Vb_v0 V g)
  generalize Vb V g = W
  after_results
theorem Vc_c (V : Valuation τ sig (Elt F)) (g : S2048x2048.Idx → Elt F .f32) : Vc V g (Proc.devRef .tc main_c) = fun i => lit0 (S10.rowMajor i) := by
  unfold Vc
  refine Eq.trans (b := Vb V g (Proc.devRef .tc main_c)) ?_ ((Vb_ne V g (by decide)).trans ?_)
  · generalize Vb V g = W
    after_results
  · unfold Va
    after_results
    rfl
theorem Vc_c0 (V : Valuation τ sig (Elt F)) (g : S2048x2048.Idx → Elt F .f32) : Vc V g (Proc.devRef .tc main_c_0) = fun i => lit1 (S10.rowMajor i) := by
  unfold Vc
  refine Eq.trans (b := Vb V g (Proc.devRef .tc main_c_0)) ?_ ((Vb_ne V g (by decide)).trans ?_)
  · generalize Vb V g = W
    after_results
  · unfold Va
    after_results
    rfl
theorem Vc_arg1 (V : Valuation τ sig (Elt F)) (g : S2048x2048.Idx → Elt F .f32) : Vc V g (Proc.devRef .tc main_arg1) = V (Proc.devRef .tc main_arg1) := by
  unfold Vc
  refine Eq.trans (b := Vb V g (Proc.devRef .tc main_arg1)) ?_ ((Vb_ne V g (by decide)).trans ?_)
  · generalize Vb V g = W
    after_results
  · unfold Va
    after_results
theorem Vc_v7 (V : Valuation τ sig (Elt F)) (g : S2048x2048.Idx → Elt F .f32) (z : S2048x2048.Idx) :
    (Vc V g (Proc.devRef .tc main_v7) : S2048x2048.Idx → BitVec 1) z = BitVec.ofBool (decide ((z 0 : ℕ) / 512 < (z 1 : ℕ) / 512)) := by
  refine Eq.trans ?_ (mask_word (z 0).isLt (z 1).isLt)
  unfold Vc
  generalize Vb V g = W
  have e : (StableHlo.after [l1, l2, l3, l4, l5, l6, l7, l8, l9] W (Proc.devRef .tc main_v7) : S2048x2048.Idx → BitVec 1)
      = cmpi .slt (Host.shrui (iotaInDim S2048x2048 32 0) (broadcastInDim S2048x2048 ![] bcast_S_S2048x2048 (constantI S_ 32 9#32)))
        (Host.shrui (iotaInDim S2048x2048 32 1) (broadcastInDim S2048x2048 ![] bcast_S_S2048x2048 (constantI S_ 32 9#32))) := by
    after_results
  rw [e]
  rfl

theorem tblAt (V : Valuation τ sig (Elt F)) (g : S2048x2048.Idx → Elt F .f32) : TblAt (Vc V g) := by
  intro k
  match k with
  | 0 => exact (Vc_c V g).symm
  | 1 => exact (Vc_c0 V g).symm

theorem arr_inj : Function.Injective (Pipeline.arrRef spec1) := by decide
theorem not_arr_arg1 : ∀ w : Fin 2, main_arg1 ≠ Pipeline.arrRef spec1 w := by decide
theorem not_arr_v7 : ∀ w : Fin 2, main_v7 ≠ Pipeline.arrRef spec1 w := by decide

theorem after_v8 (d : Dev nD) (W : Valuation τ sig (Elt F)) : afterSeg d W (Proc.devRef .tc main_v8)
    = fun z : S2048x2048.Idx => if (z 1 : ℕ) / 512 ≤ (z 0 : ℕ) / 512 then outAt (W (Proc.devRef .tc main_v0)) z else W (Proc.devRef .tc main_v8) z :=
  (Pipeline.afterRegion_arr (dat W d) W arr_inj 1).trans (arr_out W d)
theorem after_v0 (d : Dev nD) (W : Valuation τ sig (Elt F)) : afterSeg d W (Proc.devRef .tc main_v0) = W (Proc.devRef .tc main_v0) :=
  (Pipeline.afterRegion_arr (dat W d) W arr_inj 0).trans ((dat W d).arrAt_in 0 rfl _)
theorem after_v7 (d : Dev nD) (W : Valuation τ sig (Elt F)) : afterSeg d W (Proc.devRef .tc main_v7) = W (Proc.devRef .tc main_v7) :=
  Pipeline.afterRegion_of_not_arr (dat W d) W not_arr_v7

theorem Ve_arg1 (d : Dev nD) (V : Valuation τ sig (Elt F)) (g : S2048x2048.Idx → Elt F .f32) :
    Ve d V g (Proc.devRef .tc main_arg1) = V (Proc.devRef .tc main_arg1) := by
  refine Eq.trans ?_ (Vc_arg1 V g)
  unfold Ve
  rw [StableHlo.ternary_result_ne]; rotate_left; decide
  exact Pipeline.afterRegion_of_not_arr _ _ not_arr_arg1

theorem Ve_v9 (d : Dev nD) (V : Valuation τ sig (Elt F)) (g : S2048x2048.Idx → Elt F .f32) (prm : S2096128.Idx → Elt F .f32)
    (hg : ∀ ρ, ρ < 2048 → RowOK (α := Elt F .f32) prm ρ g) :
    Good prm (Ve d V g (Proc.devRef .tc main_v9)) := by
  refine good_of prm g (afterSeg d (Vc V g) (Proc.devRef .tc main_v8)) hg (fun z hz => ?_) _ (fun z => ?_)
  · rw [after_v8, Vc_v0]
    exact if_pos hz
  · have e : Ve d V g (Proc.devRef .tc main_v9)
        = select (afterSeg d (Vc V g) (Proc.devRef .tc main_v7)) (afterSeg d (Vc V g) (Proc.devRef .tc main_v0)) (afterSeg d (Vc V g) (Proc.devRef .tc main_v8)) :=
      StableHlo.ternary_result ..
    rw [e, after_v0, after_v7, Vc_v0]
    generalize afterSeg d (Vc V g) (Proc.devRef .tc main_v8) = v8
    show Scalar.select ((Vc V g (Proc.devRef .tc main_v7) : S2048x2048.Idx → BitVec 1) z) (g z) (v8 z) = _
    rw [Vc_v7, select_ofBool]
    simp only [decide_eq_true_eq]

/-! Every line works on buffers held. -/

theorem sub_lc0 : (lc0 (F := F)).bufs ⊆ UC := show (lc0 (F := Bits)).bufs ⊆ UC by decide +kernel
theorem sub_lc1 : (lc1 (F := F)).bufs ⊆ UC := show (lc1 (F := Bits)).bufs ⊆ UC by decide +kernel
theorem sub_l1 : (l1 (F := F)).bufs ⊆ UC := show (l1 (F := Bits)).bufs ⊆ UC by decide +kernel
theorem sub_l2 : (l2 (F := F)).bufs ⊆ UC := show (l2 (F := Bits)).bufs ⊆ UC by decide +kernel
theorem sub_l3 : (l3 (F := F)).bufs ⊆ UC := show (l3 (F := Bits)).bufs ⊆ UC by decide +kernel
theorem sub_l4 : (l4 (F := F)).bufs ⊆ UC := show (l4 (F := Bits)).bufs ⊆ UC by decide +kernel
theorem sub_l5 : (l5 (F := F)).bufs ⊆ UC := show (l5 (F := Bits)).bufs ⊆ UC by decide +kernel
theorem sub_l6 : (l6 (F := F)).bufs ⊆ UC := show (l6 (F := Bits)).bufs ⊆ UC by decide +kernel
theorem sub_l7 : (l7 (F := F)).bufs ⊆ UC := show (l7 (F := Bits)).bufs ⊆ UC by decide +kernel
theorem sub_l8 : (l8 (F := F)).bufs ⊆ UC := show (l8 (F := Bits)).bufs ⊆ UC by decide +kernel
theorem sub_l9 : (l9 (F := F)).bufs ⊆ UC := show (l9 (F := Bits)).bufs ⊆ UC by decide +kernel
theorem sub_lsel : (lsel (F := F)).bufs ⊆ UC := show (lsel (F := Bits)).bufs ⊆ UC by decide +kernel

theorem held_Va (d : Dev nD) (V : Valuation τ sig (Elt F)) :
    (held (T d : Thread nD τ) UC ((lc1 (F := F)).result ((lc0 (F := F)).result V)) : sProp 𝕄) = held (T d : Thread nD τ) UC (Va V) := rfl
theorem held_Vc (d : Dev nD) (V : Valuation τ sig (Elt F)) (g : S2048x2048.Idx → Elt F .f32) :
    (held (T d : Thread nD τ) UC ((l9 (F := F)).result ((l8 (F := F)).result ((l7 (F := F)).result ((l6 (F := F)).result ((l5 (F := F)).result
      ((l4 (F := F)).result ((l3 (F := F)).result ((l2 (F := F)).result ((l1 (F := F)).result (Vb V g)))))))))) : sProp 𝕄) = held (T d : Thread nD τ) UC (Vc V g) := rfl
theorem held_Ve (d : Dev nD) (V : Valuation τ sig (Elt F)) (g : S2048x2048.Idx → Elt F .f32) :
    (held (T d : Thread nD τ) UC ((lsel (F := F)).result (afterSeg d (Vc V g))) : sProp 𝕄) = held (T d : Thread nD τ) UC (Ve d V g) := rfl

/-! ## @main on the TensorCore -/

variable (m : (ℓ : Loc nD τ sig) → Buf (Elt F) ℓ) (ρ : Dev nD → PrngReg)

theorem lev_le (g : GSem nD τ sig) : ∀ ι : HIx 1, (K (F := F)).lev g ι ≤ 8 := fun
  | none => Nat.zero_le _
  | some q => ((K (F := F)).lev_some_le g q).trans (by have := q.isLt; omega)

theorem tcSt_run (d : Dev nD) : ((K (F := F)).tcSt EH d ((0 : Fin 1).val + 1) : sProp 𝕄) ⊢ (K (F := F)).tcSt EH d 1 := .rfl

/-- After its one call the TensorCore owes nothing. -/
theorem tcSt_open (d : Dev nD) : ((K (F := F)).tcSt EH d 1 : sProp 𝕄)
    ⊢ iprop((∃ Wd : Waits sig (HIx 1), owes (T d : Thread nD τ) (0 : CellTallies nD τ sig (HIx 1)) Wd)
        ∗ ((∃ Wd : Waits sig (HIx 1), owes (T d : Thread nD τ) (0 : CellTallies nD τ sig (HIx 1)) Wd) -∗ (K (F := F)).tcSt EH d 1)) := by
  unfold SparseCore.Cfg.tcSt
  rw [(K (F := F)).Otc_end d (le_refl 1)]
  iintro ⟨⟨%W, -, HO⟩, Hr⟩
  isplitl [HO]; · iexists W; iexact HO
  iintro ⟨%W', HO⟩
  isplitl [HO]
  · iexists W'
    isplitr
    · ipureintro
      exact fun p _ => lev_le _ _
    · iexact HO
  · iexact Hr

abbrev V0 (d : Dev nD) : Valuation τ sig (Elt F) := StableHlo.launchContents m d

theorem held_ins (d : Dev nD) (S : Finset (DevRef τ sig)) (b : DevRef τ sig) (hb : b ∈ S) (V : Valuation τ sig (Elt F)) :
    (held (T d : Thread nD τ) S V : sProp 𝕄) = iprop(((d, b) ↦{fullShare} V b) ∗ held (T d : Thread nD τ) (S.erase b) V) := by
  unfold StableHlo.held
  conv_lhs => rw [← Finset.insert_erase hb]
  rw [SparseCore.bigSep_insert' (Finset.notMem_erase b S)]

theorem bufs_open (d : Dev nD) : (unscopedBufs d (fun b => m ((T d : Thread nD τ).loc b)) : sProp 𝕄)
    = iprop((pLoc d ↦{fullShare} m (pLoc d)) ∗ held (T d : Thread nD τ) UC (V0 m d)) :=
  (Pipeline.unscopedBufs_held d (V0 m d)).trans
    (held_ins d _ (Proc.devRef .tc main_arg0) (by decide +kernel) (V0 m d))

theorem mat_open (d : Dev nD) (V : Valuation τ sig (Elt F)) : (held (T d : Thread nD τ) UC V : sProp 𝕄)
    = iprop((aLoc d ↦{fullShare} V (Proc.devRef .tc main_v0)) ∗ held (T d : Thread nD τ) (UC.erase (Proc.devRef .tc main_v0)) V) :=
  held_ins d UC (Proc.devRef .tc main_v0) (by decide +kernel) V

/-- The matrix back among the buffers, at what the call left in it. -/
theorem mat_close (d : Dev nD) (V : Valuation τ sig (Elt F)) (g : S2048x2048.Idx → Elt F .f32) :
    (iprop((aLoc d ↦{fullShare} g) ∗ held (T d : Thread nD τ) (UC.erase (Proc.devRef .tc main_v0)) (Va V)) : sProp 𝕄)
      = held (T d : Thread nD τ) UC (Vb V g) := by
  rw [mat_open d (Vb V g), Vb_v0]
  rw [StableHlo.held_congr (T d : Thread nD τ) (V := Va V) (V' := Vb V g) fun b hb => (Vb_ne V g (Finset.ne_of_mem_erase hb)).symm]

theorem end_open (d : Dev nD) (V : Valuation τ sig (Elt F)) : (held (T d : Thread nD τ) UC V : sProp 𝕄)
    ⊢ iprop((tLoc d ↦{fullShare} V (Proc.devRef .tc main_arg1)) ∗ (T d : Thread nD τ).loc main_v9 ↦{fullShare} V (Proc.devRef .tc main_v9)) := by
  rw [held_ins d UC (Proc.devRef .tc main_arg1) (by decide +kernel) V,
    held_ins d (UC.erase (Proc.devRef .tc main_arg1)) (Proc.devRef .tc main_v9) (by decide +kernel) V]
  iintro ⟨H1, H9, -⟩
  isplitl [H1]
  · iexact H1
  · iexact H9

/-- What is kept to the end: a share of the parameters, the indices, and the result. -/
abbrev FIN (d : Dev nD) : sProp 𝕄 :=
  iprop((pLoc d ↦{Transfers.shareDrop fullShare 2} m (pLoc d)) ∗ (tLoc d ↦{fullShare} m (tLoc d))
    ∗ ∃ o : Buf (Elt F) ((T d : Thread nD τ).loc main_v9), ⌜Good (F := F) (m (pLoc d)) o⌝ ∗ (T d : Thread nD τ).loc main_v9 ↦{fullShare} o)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ pipeGhost d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_open]
  simp only [main, wp_bind, wp_pure]
  iintro ⟨#Hctx, Hst, ⟨Hb, ⟨Hp, Hh⟩, Hts, -⟩, HG⟩
  ihave Hlev := ((K (F := F)).ctx_levAts κ) $$ Hctx
  -- the two tables
  iapply (hlo_step d (op := lc0) sub_lc0 (V0 m d) rfl)
  isplitl [Hb Hh]
  · isplitl [Hb] <;> iassumption
  iintro ⟨Hb, Hh⟩
  iapply (hlo_step d (op := lc1) sub_lc1 _ rfl)
  isplitl [Hb Hh]
  · isplitl [Hb] <;> iassumption
  iintro ⟨Hb, Hh⟩
  -- the SparseCore call
  ihave Hh := (Entails.of_eq (held_Va d (V0 m d))) $$ Hh
  ihave Hh := (Entails.of_eq (mat_open d (Va (V0 m d)))) $$ Hh
  icases Hh with ⟨Ha, Hh⟩
  ihave Hd := (go_deal d (m (pLoc d)) _) $$ [Hp Ha]
  · isplitl [Hp] <;> iassumption
  icases Hd with ⟨Hp, Hgo⟩
  iapply ((K (F := F)).wp_run (D (F := F)) 𝒱 (EH := EH) (P := P m) κ d 0) $$ [Hst Hgo Hh Hp Hb Hts HG Hlev]
  isplitr; · iexact Hctx
  isplitl [Hst]; · iexact Hst
  isplitl [Hgo]
  · rw [st0_eq]
    iexact Hgo
  iintro ⟨Hst, Hdn⟩
  ihave Hdn' := (Entails.of_eq (dn0_eq m d)) $$ Hdn
  ihave Hdn := (td_join d (m (pLoc d))) $$ Hdn'
  icases Hdn with ⟨%g, %hg, Ha⟩
  ihave Hh := (Entails.of_eq (mat_close d (V0 m d) g)) $$ [Ha Hh]
  · isplitl [Ha] <;> iassumption
  -- the mask
  iapply (hlo_step d (op := l1) sub_l1 _ rfl)
  isplitl [Hb Hh]
  · isplitl [Hb] <;> iassumption
  iintro ⟨Hb, Hh⟩
  iapply (hlo_step d (op := l2) sub_l2 _ rfl)
  isplitl [Hb Hh]
  · isplitl [Hb] <;> iassumption
  iintro ⟨Hb, Hh⟩
  iapply (hlo_step d (op := l3) sub_l3 _ rfl)
  isplitl [Hb Hh]
  · isplitl [Hb] <;> iassumption
  iintro ⟨Hb, Hh⟩
  iapply (hlo_step d (op := l4) sub_l4 _ rfl)
  isplitl [Hb Hh]
  · isplitl [Hb] <;> iassumption
  iintro ⟨Hb, Hh⟩
  iapply (hlo_step d (op := l5) sub_l5 _ rfl)
  isplitl [Hb Hh]
  · isplitl [Hb] <;> iassumption
  iintro ⟨Hb, Hh⟩
  iapply (hlo_step d (op := l6) sub_l6 _ rfl)
  isplitl [Hb Hh]
  · isplitl [Hb] <;> iassumption
  iintro ⟨Hb, Hh⟩
  iapply (hlo_step d (op := l7) sub_l7 _ rfl)
  isplitl [Hb Hh]
  · isplitl [Hb] <;> iassumption
  iintro ⟨Hb, Hh⟩
  iapply (hlo_step d (op := l8) sub_l8 _ rfl)
  isplitl [Hb Hh]
  · isplitl [Hb] <;> iassumption
  iintro ⟨Hb, Hh⟩
  iapply (hlo_step d (op := l9) sub_l9 _ rfl)
  isplitl [Hb Hh]
  · isplitl [Hb] <;> iassumption
  iintro ⟨Hb, Hh⟩
  -- the TensorCore call
  ihave Hst := (tcSt_run d) $$ Hst
  ihave Hst := (tcSt_open d) $$ Hst
  icases Hst with ⟨HO, Hst⟩
  ihave Hh := (Entails.of_eq (held_Vc d (V0 m d) g)) $$ Hh
  iapply (seg_wp d (Vc (V0 m d) g) (tblAt _ _))
  isplitl [Hlev]; · iexact Hlev
  isplitl [Hb]; · iexact Hb
  isplitl [Hh]; · iexact Hh
  isplitl [HO]; · iexact HO
  isplitl [HG]; · iexact HG
  iintro ⟨Hb, Hh, HO⟩
  ihave Hst := Hst $$ HO
  -- the choice
  iapply (hlo_step d (op := lsel) sub_lsel _ rfl)
  isplitl [Hb Hh]
  · isplitl [Hb] <;> iassumption
  iintro ⟨Hb, Hh⟩
  ihave Hh := (Entails.of_eq (held_Ve d (V0 m d) g)) $$ Hh
  ihave Hh := (end_open d (Ve d (V0 m d) g)) $$ Hh
  icases Hh with ⟨Ht, H9⟩
  imodintro
  isplitl [Hst]; · iexact Hst
  isplitr [Hb Hts]
  · isplitl [Hp]; · iexact Hp
    isplitl [Ht]
    · rw [Ve_arg1]
      iexact Ht
    · iexists (Ve d (V0 m d) g (Proc.devRef .tc main_v9))
      isplitr
      · ipureintro
        exact Ve_v9 d (V0 m d) g (m (pLoc d)) hg
      · iexact H9
  isplitl [Hb] <;> iassumption

/-! ## The launch -/

/-- What the launch deals: the handshakes' cells and tokens, the pipeline's. -/
def u₀ : UU := (initOf (K (F := F)).hsCells (K (F := F)).hsToks,
  (initOf (Pipeline.cells (Pipeline.pin (pcfgs (F := F)) adm) (Gen.cellOf_inj adm)) (Pipeline.launchToks (Pipeline.pin (pcfgs (F := F)) adm) (Gen.cellOf_inj adm)), 1))

theorem ghost_deal : (BI.own (EP (initOf (Pipeline.cells (Pipeline.pin (pcfgs (F := F)) adm) (Gen.cellOf_inj adm)) (Pipeline.launchToks (Pipeline.pin (pcfgs (F := F)) adm) (Gen.cellOf_inj adm)))) : sProp 𝕄)
    ⊢ iprop(|==> bigSep Finset.univ fun d : Dev nD => pipeGhost d) := by
  refine (Pipeline.fund_ghost (Pipeline.pin (pcfgs (F := F)) adm) EP (Gen.cellOf_inj adm)).trans ?_
  rw [← bigSep_sep']
  refine BI.bupd_mono (bigSep_mono fun d _ => ?_)
  unfold pipeGhost
  rw [bigSep_univ_of_subsingleton (0 : Fin 1), bigSep_univ_of_subsingleton (0 : Fin 1)]
  exact BI.Entails.refl _

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) (Gen.cellOf_inj adm)) (Pipeline.launchToks (Pipeline.pin (pcfgs (F := F)) adm) (Gen.cellOf_inj adm)), 1) : UP × Counters)) $$ Hu
  icases H with ⟨HH, HR⟩
  ihave HR := (own_pair_emb (embR : Emb (UP × Counters) 𝕄)
    (initOf (Pipeline.cells (Pipeline.pin (pcfgs (F := F)) adm) (Gen.cellOf_inj adm)) (Pipeline.launchToks (Pipeline.pin (pcfgs (F := F)) adm) (Gen.cellOf_inj adm))) (1 : Counters)) $$ HR
  icases HR with ⟨HP, -⟩
  imod (ghost_deal) $$ HP with HP
  imodintro
  isplitl [HH]; · iexact HH
  isplitl [HP]; · iexact HP
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- What is read off the final memory. -/
def fq (d : Dev nD) (s' : Phys nD τ sig (Elt F)) : Prop :=
  Good (F := F) (m (pLoc d)) (s'.mem.mem ((T d : Thread nD τ).loc main_v9)) ∧ s'.mem.mem (pLoc d) = m (pLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hp, Ht, ⟨%o, %ho, H9⟩⟩, HSI⟩
  ihave H := (persistent_entails_right (SI_pointsTo_agree (st := s') (ℓ := pLoc d) (I := Finset.univ) (q := Transfers.shareDrop fullShare 2) (f := m (pLoc d)))) $$ [HSI Hp]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := (T d : Thread nD τ).loc main_v9) (I := Finset.univ) (q := fullShare) (f := o)) $$ [HSI H9]
  · isplitl [HSI] <;> iassumption
  icases H with %h3
  ipureintro
  have e1 : s'.mem.mem (pLoc d) = m (pLoc d) := funext fun (i : Idx (pLoc d)) => h1 i (by simp)
  have e2 : s'.mem.mem (tLoc d) = m (tLoc d) := funext fun (i : Idx (tLoc d)) => h2 i (by simp)
  have e3 : s'.mem.mem ((T d : Thread nD τ).loc main_v9) = o := funext fun (i : Idx ((T d : Thread nD τ).loc main_v9)) => h3 i (by simp)
  exact ⟨by rw [e3]; exact ho, e1, e2⟩

def QC : PUnit × MemSt nD τ sig (Elt F) → Prop := fun r =>
  (∀ c : Dev nD, Good (F := F) (m (pLoc c)) (r.2.mem ((T c : Thread nD τ).loc main_v9)) ∧ r.2.mem (pLoc c) = m (pLoc c) ∧ r.2.mem (tLoc c) = m (tLoc c))
    ∧ r.2.sem = fun _ => 0

/-- The program's run: the result is the matrix that the parameters pack, the arguments are as they were, and every counter is
    at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => pipeGhost d) (FIN m) (u₀ (F := F)) (sep_elim_left.trans (hu₀ m)) (hmain m ρ) (fq m) (hfin m) (QC m) (fun _ h hz => ⟨h, hz⟩)

end Cert.KernelIdeal.Packed
-- ==== Proof.Tri.lean ====
module
public import proofs.«01_k».proof.Proof.Gen.Pre_packed_triu
public import Idealize.ShloMosaic.Lib.ReduceAll
public import Idealize.ShloMosaic.Lib.WordArith
public import Idealize.ShloMosaic.Lib.ValueIdxCore
public import Idealize.ShloMosaic.Lib.StableHlo.Predicate
public import Idealize.ShloMosaic.Lib.Routing.Ops
public import Idealize.ShloMosaic.Lib.Routing.OpsSearch

/-!
# The index list

What the precondition says of the list of positions: its `k`-th column holds a pair `i < j < 2048`, and `k` is the place of that pair when the pairs are
listed row by row. Row `i` begins at place `i * (4095 - i) / 2`. A place names one pair and a pair one place.
-/

@[expose] public section

noncomputable section

namespace Cert.Tri

open Idealize.ShloMosaic Idealize.ShloMosaic.Routing Idealize.ShloMosaic.ValueIdx

/-! ## The places -/

/-- The place at which row `i` begins. -/
def first (i : ℕ) : ℕ := i * (4095 - i) / 2

theorem first_succ {i : ℕ} (h : i < 2048) : first (i + 1) = first i + (2047 - i) := by
  unfold first
  have e : (i + 1) * (4095 - (i + 1)) = i * (4095 - i) + 2 * (2047 - i) := by
    obtain ⟨d, hd⟩ : ∃ d, 2047 = d + i := ⟨2047 - i, by omega⟩
    have h1 : 4095 - (i + 1) = 2 * d + i := by omega
    have h2 : 4095 - i = 2 * d + i + 1 := by omega
    have h3 : 2047 - i = d := by omega
    rw [h1, h2, h3]
    ring
  rw [e, Nat.add_mul_div_left _ _ (by decide)]

theorem first_mono {i : ℕ} : ∀ {j : ℕ}, i ≤ j → j ≤ 2048 → first i ≤ first j := by
  intro j h
  induction h with
  | refl => exact fun _ => le_rfl
  | step _ ih =>
    intro hb
    have := first_succ (i := _) (Nat.lt_of_succ_le hb)
    have := ih (by omega)
    simp only [Nat.succ_eq_add_one] at *
    omega

/-- A pair's place lies below the number of pairs. -/
theorem place_lt {i j : ℕ} (h : i < j) (hj : j < 2048) : first i + (j - i - 1) < 2096128 := by
  have h1 := first_succ (i := i) (by omega)
  have h2 := first_mono (i := i + 1) (j := 2047) (by omega) (by omega)
  have h3 : first 2047 = 2096128 := by decide
  omega

/-- Two pairs at one place are one pair. -/
theorem place_inj {i j i' j' : ℕ} (h : i < j) (hj : j < 2048) (h' : i' < j') (hj' : j' < 2048)
    (e : first i + (j - i - 1) = first i' + (j' - i' - 1)) : i = i' ∧ j = j' := by
  have h1 := first_succ (i := i) (by omega)
  have h1' := first_succ (i := i') (by omega)
  rcases Nat.lt_trichotomy i i' with c | c | c
  · have := first_mono (i := i + 1) (j := i') (by omega) (by omega)
    omega
  · subst c
    omega
  · have := first_mono (i := i' + 1) (j := i) (by omega) (by omega)
    omega

/-! ## The words of the list -/

/-- What one column of the list holds. -/
def Column (i j : BitVec 32) (k : ℕ) : Prop := i.toNat < j.toNat ∧ j.toNat < 2048 ∧ first i.toNat + (j.toNat - i.toNat - 1) = k

/-- A word's sign. -/
def sgn (w : BitVec 32) : BitVec 32 := if w = 0 then 0 else if w.msb then -1 else 1

/-- Halving a word, as the precondition writes it: the quotient, less one where the signs differ and a remainder is left. -/
def halfW (w : BitVec 32) : BitVec 32 :=
  Scalar.select (IntOp.andi (IntOp.cmpi .ne (sgn w) (sgn 2#32)) (IntOp.cmpi .ne (IntOp.remsi .host w 2#32) 0#32))
    (IntOp.subi (IntOp.divsi .host w 2#32) 1#32) (IntOp.divsi .host w 2#32)

theorem halfW_word {a : ℕ} (ha : a < 2 ^ 31) : halfW (BitVec.ofNat 32 a) = BitVec.ofNat 32 (a / 2) :=
  pyDiv0_ap (fun _ => BitVec.ofNat 32 a) (fun _ => 2#32) rfl rfl ha (by decide) (by decide)

theorem sub_word {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

/-- The column's bits say what the column holds. -/
theorem column_of_bits (i j : BitVec 32) (k : ℕ) (hk : k < 2096128) (h0 : 0 ≤ i.toInt) (h1 : i.toInt < j.toInt) (h2 : j.toInt < 2048)
    (h3 : halfW (i * (4095#32 - i)) + (j - i - 1#32) = BitVec.ofNat 32 k) : Column i j k := by
  have ci := BitVec.toInt_eq_toNat_cond i
  have cj := BitVec.toInt_eq_toNat_cond j
  have li := i.isLt
  have lj := j.isLt
  have hij : i.toNat < j.toNat := by split at ci <;> split at cj <;> omega
  have hj : j.toNat < 2048 := by split at ci <;> split at cj <;> omega
  clear h0 h1 h2 ci cj li lj
  obtain ⟨a, ea⟩ : ∃ a, a = i.toNat := ⟨_, rfl⟩
  obtain ⟨b, eb⟩ : ∃ b, b = j.toNat := ⟨_, rfl⟩
  have wi : i = BitVec.ofNat 32 a := by rw [ea, BitVec.ofNat_toNat, BitVec.setWidth_eq]
  have wj : j = BitVec.ofNat 32 b := by rw [eb, BitVec.ofNat_toNat, BitVec.setWidth_eq]
  unfold Column
  rw [← ea, ← eb] at hij ⊢
  rw [← eb] at hj
  have hp : a * (4095 - a) < 2 ^ 31 := lt_of_le_of_lt (Nat.mul_le_mul (show a ≤ 2048 by omega) (Nat.sub_le 4095 a)) (by decide)
  have hpl := place_lt hij hj
  rw [wi, wj, sub_word (show a ≤ 4095 by omega) (by decide), sub_word (le_of_lt hij) (by omega), sub_word (show 1 ≤ b - a by omega) (by omega),
    ← BitVec.ofNat_mul, halfW_word hp, ← BitVec.ofNat_add] at h3
  refine ⟨hij, hj, ?_⟩
  have := congrArg BitVec.toNat h3
  simp only [BitVec.toNat_ofNat] at this
  change first a + (b - a - 1) = k
  unfold first at hpl ⊢
  rwa [Nat.mod_eq_of_lt (by omega), Nat.mod_eq_of_lt (by omega)] at this

/-! ## Reading the precondition -/

section Pre

open Cert.Pre_packed_triu

/-- One row of the list. -/
theorem row_read (q : Fin 2) (ti : IVec S2x2096128 32) (hs : S2x2096128.Slices ![q.val, 0] S1x2096128) (hc : S1x2096128.ShapeCasts S2096128) (k : Fin 2096128) :
    shapeCast S2096128 (extractStridedSlice S1x2096128 ![q.val, 0] ti hs) hc (ix1 k) = ti (ix2 q k) := by
  rw [cast21 (a := 1) (b := 2096128) (n := 2096128) _ hc (0 : Fin 1) k k (by simp)]
  unfold extractStridedSlice
  refine congrArg ti (funext fun a => Fin.ext ?_)
  match a with
  | ⟨0, _⟩ => rfl
  | ⟨1, _⟩ => exact Nat.zero_add _

/-- Every column of a list that meets the precondition. -/
theorem column_of_pre (prm : FVec Ideal S2096128 .f32) (ti : IVec S2x2096128 32) (h : Cert.Pre_packed_triu.fn (F := Ideal) prm ti = fun _ => 1#1)
    (k : Fin 2096128) : Column (ti (ix2 0 k)) (ti (ix2 1 k)) k.val := by
  have hb := Host.reduce_andi_all _ _ _ _ _ (congrFun h ix0) (ix1 k)
  have hb' : IntOp.andi (IntOp.andi (IntOp.andi
      (IntOp.cmpi .sge (shapeCast S2096128 (extractStridedSlice S1x2096128 ![0, 0] ti Facts.slices_S2x2096128_S1x2096128_0_0) Facts.shapeCasts_S1x2096128_S2096128 (ix1 k)) 0#32)
      (IntOp.cmpi .slt (shapeCast S2096128 (extractStridedSlice S1x2096128 ![0, 0] ti Facts.slices_S2x2096128_S1x2096128_0_0) Facts.shapeCasts_S1x2096128_S2096128 (ix1 k))
        (shapeCast S2096128 (extractStridedSlice S1x2096128 ![1, 0] ti Facts.slices_S2x2096128_S1x2096128_1_0) Facts.shapeCasts_S1x2096128_S2096128 (ix1 k))))
      (IntOp.cmpi .slt (shapeCast S2096128 (extractStridedSlice S1x2096128 ![1, 0] ti Facts.slices_S2x2096128_S1x2096128_1_0) Facts.shapeCasts_S1x2096128_S2096128 (ix1 k)) 2048#32))
      (IntOp.cmpi .eq (halfW (shapeCast S2096128 (extractStridedSlice S1x2096128 ![0, 0] ti Facts.slices_S2x2096128_S1x2096128_0_0) Facts.shapeCasts_S1x2096128_S2096128 (ix1 k)
          * (4095#32 - shapeCast S2096128 (extractStridedSlice S1x2096128 ![0, 0] ti Facts.slices_S2x2096128_S1x2096128_0_0) Facts.shapeCasts_S1x2096128_S2096128 (ix1 k)))
          + (shapeCast S2096128 (extractStridedSlice S1x2096128 ![1, 0] ti Facts.slices_S2x2096128_S1x2096128_1_0) Facts.shapeCasts_S1x2096128_S2096128 (ix1 k)
            - shapeCast S2096128 (extractStridedSlice S1x2096128 ![0, 0] ti Facts.slices_S2x2096128_S1x2096128_0_0) Facts.shapeCasts_S1x2096128_S2096128 (ix1 k) - 1#32))
        (BitVec.ofNat 32 k.val)) = 1#1 := hb
  have r0 := row_read 0 ti Facts.slices_S2x2096128_S1x2096128_0_0 Facts.shapeCasts_S1x2096128_S2096128 k
  have r1 := row_read 1 ti Facts.slices_S2x2096128_S1x2096128_1_0 Facts.shapeCasts_S1x2096128_S2096128 k
  simp only [Fin.val_zero, Fin.val_one] at r0 r1
  rw [r0, r1] at hb'
  simp only [WordCmp.cmpi_sge_eq, WordCmp.cmpi_slt_eq, WordCmp.cmpi_eq_eq, WordCmp.andi_ofBool, WordCmp.ofBool_eq_one_iff, Bool.and_eq_true,
    decide_eq_true_eq] at hb'
  obtain ⟨⟨⟨h0, h1⟩, h2⟩, h3⟩ := hb'
  exact column_of_bits _ _ _ k.isLt h0 h1 h2 h3

end Pre

end Cert.Tri
-- ==== Proof.Ref.lean ====
module
public import proofs.«01_k».proof.Proof.Main
public import proofs.«01_k».proof.Proof.Tri
public import proofs.«01_k».proof.Proof.Gen.ReferenceIdeal
public import Idealize.ShloMosaic.Lib.Routing.OpsSet
public import Idealize.ShloMosaic.Lib.Routing.OpsPair

/-!
# The reference's result

The reference writes each parameter at its pair of the list and, after that, its negation at the pair turned round. On a list that meets the precondition
each place off the diagonal is written once, so the result is what the kernel leaves.
-/

@[expose] public section

noncomputable section

namespace Cert.Tri

open Idealize.ShloMosaic hiding ix0 ix1 ix2 ix3 eq_ix1 eq_ix2
open Idealize.ShloMosaic.Routing Idealize.ShloMosaic.ValueIdx
open Cert.ReferenceIdeal Cert.ReferenceIdeal.Facts₀

/-! ## The terms -/

/-- The list's first row, as a vector. -/
def rowA (ti : IVec S2x2096128 32) : IVec S2096128 32 :=
  shapeCast _ (extractStridedSlice S1x2096128 ![0, 0] ti slices_S2x2096128_S1x2096128_0_0) shapeCasts_S1x2096128_S2096128
/-- The list's second row. -/
def rowB (ti : IVec S2x2096128 32) : IVec S2096128 32 :=
  shapeCast _ (extractStridedSlice S1x2096128 ![1, 0] ti slices_S2x2096128_S1x2096128_1_0) shapeCasts_S1x2096128_S2096128
/-- A vector of indices with the negative ones taken from the end, as one column. -/
def wrapped (w : IVec S2096128 32) : IVec S2096128x1 32 :=
  broadcastInDim S2096128x1 ![0] bcast_S2096128_S2096128x1_0
    (select (cmpi .slt w (broadcastInDim S2096128 ![] bcast_S_S2096128 (constantI S_ 32 0#32)))
      (addi w (broadcastInDim S2096128 ![] bcast_S_S2096128 (constantI S_ 32 2048#32))) w)
/-- Two columns side by side. -/
def pairs (a b : IVec S2096128x1 32) : IVec S2096128x2 32 :=
  concatenate S2096128x2 1 [⟨S2096128x1, a⟩, ⟨S2096128x1, b⟩] concatenates_S2096128x1_S2096128x1_S2096128x2_d1
/-- The matrix after the first write. -/
def upper (prm : FVec Ideal S2096128 .f32) (ti : IVec S2x2096128 32) : FVec Ideal S2048x2048 .f32 :=
  Host.scatter scatter_S2048x2048_S2096128x2_S2096128_n_01_01_1 (fun _ b => b)
    (broadcastInDim S2048x2048 ![] bcast_S_S2048x2048 (constant S_ .f32 0x00000000#32)) (pairs (wrapped (rowA ti)) (wrapped (rowB ti))) prm
/-- The reference's result. -/
def refVal (prm : FVec Ideal S2096128 .f32) (ti : IVec S2x2096128 32) : FVec Ideal S2048x2048 .f32 :=
  Host.scatter scatter_S2048x2048_S2096128x2_S2096128_n_01_01_1 (fun _ b => b) (upper prm ti) (pairs (wrapped (rowB ti)) (wrapped (rowA ti))) (Host.negf prm)

/-! ## The index words -/

theorem rowA_at (ti : IVec S2x2096128 32) (k : Fin 2096128) : rowA ti (ix1 k) = ti (ix2 0 k) := row_read 0 ti _ _ k
theorem rowB_at (ti : IVec S2x2096128 32) (k : Fin 2096128) : rowB ti (ix1 k) = ti (ix2 1 k) := row_read 1 ti _ _ k

/-- An index that is not negative stays. -/
theorem wrapped_at (w : IVec S2096128 32) (k : Fin 2096128) (h : (w (ix1 k)).toNat < 2048) : wrapped w (ix2 k (0 : Fin 1)) = w (ix1 k) := by
  unfold wrapped
  rw [bcCol (n := 2096128)]
  exact wrap_of_lt _ _ (lt_trans h (by decide))

theorem pairs_fst (a b : IVec S2096128x1 32) (k : Fin 2096128) : pairs a b (ix2 k (0 : Fin 2)) = a (ix2 k (0 : Fin 1)) := by
  unfold pairs
  refine concatenate_pair_apply_left (t := S2096128x2) (1 : Fin 2) a b _ _ rfl _ fun q => ?_
  match q with
  | ⟨0, _⟩ => rfl
  | ⟨1, _⟩ => rfl

theorem pairs_snd (a b : IVec S2096128x1 32) (k : Fin 2096128) : pairs a b (ix2 k (1 : Fin 2)) = b (ix2 k (0 : Fin 1)) := by
  unfold pairs
  refine concatenate_pair_apply_right (t := S2096128x2) (1 : Fin 2) a b _ _ rfl rfl _ (fun q hq => ?_) ?_
  · match q with
    | ⟨0, _⟩ => rfl
    | ⟨1, _⟩ => exact absurd rfl hq
  · rfl

/-- Update `k` lands at `(r, c)` exactly when its two index words, read signed, are `r` and `c`. -/
theorem lands {R C n w : ℕ} (d : ScatterDims (shape2 R C) (shape2 n 2) (shape1 n)) (hiw : d.insertedWindowDims = [0, 1])
    (hsd : d.scatterDimsToOperandDims = [0, 1]) (hivd : d.indexVectorDim = 1) (idx : IVec (shape2 n 2) w) (k : Fin n) (r : Fin R) (c : Fin C) :
    d.resultIdx? (ix1 k) idx = some (ix2 r c) ↔ (idx (ix2 k 0)).toInt = r.val ∧ (idx (ix2 k 1)).toInt = c.val := by
  have hm : ∀ q : Fin 2, q ∈ d.scatterDimsToOperandDims := fun q => by rw [hsd]; fin_cases q <;> simp
  have hwin : ∀ q : Fin 2, d.window (ix1 k) q = 0 := fun q => by
    unfold ScatterDims.window
    rw [dif_neg fun h => (of_decide_eq_true (List.mem_filter.1 h).2) (by rw [hiw]; fin_cases q <;> simp)]
  have hsi : ∀ q : Fin 2, d.siIdx (ix1 k) ⟨d.scatterDimsToOperandDims.idxOf q, List.idxOf_lt_length_iff.2 (hm q)⟩ = ix2 k q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      have one : ∀ x : Fin (shape1 n).rank, ((ix1 k : (shape1 n).Idx) x).val = k.val := fun x => by
        match x with
        | ⟨0, _⟩ => rfl
      exact one _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 k) idx q = (idx (ix2 k q)).toInt := fun q => by
    unfold ScatterDims.start
    rw [dif_pos (hm q), hsi]
  rw [resultIdx?_ix2, hstart, hstart, hwin, hwin]
  omega

section Good

variable {prm : FVec Ideal S2096128 .f32} {ti : IVec S2x2096128 32} (hp : ∀ k : Fin 2096128, Column (ti (ix2 0 k)) (ti (ix2 1 k)) k.val)
include hp

/-- Where the first write puts parameter `k`. -/
theorem lands_upper (k : Fin 2096128) (r c : Fin 2048) :
    scatter_S2048x2048_S2096128x2_S2096128_n_01_01_1.resultIdx? (ix1 k) (pairs (wrapped (rowA ti)) (wrapped (rowB ti))) = some (ix2 r c)
      ↔ (ti (ix2 0 k)).toNat = r.val ∧ (ti (ix2 1 k)).toNat = c.val := by
  obtain ⟨h1, h2, -⟩ := hp k
  rw [lands _ rfl rfl rfl, pairs_fst, pairs_snd, wrapped_at _ _ (by rw [rowA_at]; omega), wrapped_at _ _ (by rw [rowB_at]; omega), rowA_at, rowB_at,
    WordCmp.toInt_eq_toNat_of_lt_half (by omega), WordCmp.toInt_eq_toNat_of_lt_half (by omega)]
  omega

/-- Where the second write puts it: the pair turned round. -/
theorem lands_lower (k : Fin 2096128) (r c : Fin 2048) :
    scatter_S2048x2048_S2096128x2_S2096128_n_01_01_1.resultIdx? (ix1 k) (pairs (wrapped (rowB ti)) (wrapped (rowA ti))) = some (ix2 r c)
      ↔ (ti (ix2 1 k)).toNat = r.val ∧ (ti (ix2 0 k)).toNat = c.val := by
  obtain ⟨h1, h2, -⟩ := hp k
  rw [lands _ rfl rfl rfl, pairs_fst, pairs_snd, wrapped_at _ _ (by rw [rowB_at]; omega), wrapped_at _ _ (by rw [rowA_at]; omega), rowA_at, rowB_at,
    WordCmp.toInt_eq_toNat_of_lt_half (by omega), WordCmp.toInt_eq_toNat_of_lt_half (by omega)]
  omega

/-- The column that holds a pair is the pair's place. -/
theorem column_place {i j : ℕ} (h : i < j) (hj : j < 2048) :
    (ti (ix2 0 ⟨first i + (j - i - 1), place_lt h hj⟩)).toNat = i ∧ (ti (ix2 1 ⟨first i + (j - i - 1), place_lt h hj⟩)).toNat = j := by
  obtain ⟨h1, h2, h3⟩ := hp ⟨first i + (j - i - 1), place_lt h hj⟩
  exact place_inj h1 h2 h hj h3

/-- What the kernel leaves is the reference's result. -/
theorem eq_refVal (o : FVec Ideal S2048x2048 .f32) (hg : Cert.KernelIdeal.Packed.Good (F := Ideal) prm o) : o = refVal prm ti := by
  funext z
  obtain ⟨g1, g2, g3⟩ := hg z
  obtain ⟨r, c, rfl⟩ : ∃ r c : Fin 2048, z = ix2 r c := ⟨z 0, z 1, eq_ix2 z⟩
  have place8 : ∀ i j : ℕ, i < j → j < 2048 → first i + (j - i - 1) + 8 = Cert.KernelIdeal.Packed.sb i + j := fun i j h hj => by
    show i * (4095 - i) / 2 + (j - i - 1) + 8 = i * (4095 - i) / 2 + 7 - i + j
    have : i * 2 ≤ i * (4095 - i) := Nat.mul_le_mul_left i (by omega)
    omega
  rcases Nat.lt_trichotomy r.val c.val with h | h | h
  · -- above the diagonal: the first write alone
    rw [g1 h (ix1 ⟨first r.val + (c.val - r.val - 1), place_lt h c.isLt⟩) (place8 _ _ h c.isLt)]
    unfold refVal
    rw [scatter_set_miss _ _ _ _ _ fun k hk => ?_]
    · refine (scatter_set_hit _ _ _ _ _ _ (fun k hk => ?_) (ix1 ⟨first r.val + (c.val - r.val - 1), place_lt h c.isLt⟩) ?_).symm
      · obtain ⟨q, rfl⟩ : ∃ q : Fin 2096128, k = ix1 q := ⟨k 0, eq_ix1 k⟩
        obtain ⟨e1, e2⟩ := (lands_upper hp q r c).1 hk
        obtain ⟨-, -, e3⟩ := hp q
        rw [e1, e2] at e3
        exact congrArg (fun x => prm (ix1 x)) (Fin.ext e3.symm)
      · exact (lands_upper hp _ r c).2 (column_place hp h c.isLt)
    · obtain ⟨q, rfl⟩ : ∃ q : Fin 2096128, k = ix1 q := ⟨k 0, eq_ix1 k⟩
      obtain ⟨e1, e2⟩ := (lands_lower hp q r c).1 hk
      obtain ⟨e3, -, -⟩ := hp q
      omega
  · -- on the diagonal: neither
    rw [g3 h]
    unfold refVal
    rw [scatter_set_miss _ _ _ _ _ fun k hk => ?_]
    · unfold upper
      rw [scatter_set_miss _ _ _ _ _ fun k hk => ?_]
      · rfl
      · obtain ⟨q, rfl⟩ : ∃ q : Fin 2096128, k = ix1 q := ⟨k 0, eq_ix1 k⟩
        obtain ⟨e1, e2⟩ := (lands_upper hp q r c).1 hk
        obtain ⟨e3, -, -⟩ := hp q
        omega
    · obtain ⟨q, rfl⟩ : ∃ q : Fin 2096128, k = ix1 q := ⟨k 0, eq_ix1 k⟩
      obtain ⟨e1, e2⟩ := (lands_lower hp q r c).1 hk
      obtain ⟨e3, -, -⟩ := hp q
      omega
  · -- below the diagonal: the second write
    rw [g2 h (ix1 ⟨first c.val + (r.val - c.val - 1), place_lt h r.isLt⟩) (place8 _ _ h r.isLt)]
    unfold refVal
    have neg : ∀ x : EReal, FloatOps.subf (F := Ideal) (φ := .f32) (FloatOps.ofBits .f32 0#32) x = -x := fun x => by
      show Ideal.ofBits .f32 0#32 - x = -x
      rw [Ideal.ofBits_zero_f32, zero_sub]
    refine ((scatter_set_hit _ _ _ _ _ _ (fun k hk => ?_) (ix1 ⟨first c.val + (r.val - c.val - 1), place_lt h r.isLt⟩) ?_).trans (neg _).symm).symm
    · obtain ⟨q, rfl⟩ : ∃ q : Fin 2096128, k = ix1 q := ⟨k 0, eq_ix1 k⟩
      obtain ⟨e1, e2⟩ := (lands_lower hp q r c).1 hk
      obtain ⟨-, -, e3⟩ := hp q
      rw [e1, e2] at e3
      exact congrArg (fun x => - (prm (ix1 x) : EReal)) (Fin.ext e3.symm)
    · exact (lands_lower hp _ r c).2 (column_place hp h r.isLt).symm

end Good

end Cert.Tri
-- ==== Proof.Frames.lean ====
module
public import proofs.«01_k».proof.Defs
public import proofs.«01_k».proof.Proof.Main
public import proofs.«01_k».proof.Proof.Ref
public import proofs.«01_k».proof.Proof.Gen.Kernel
public import proofs.«01_k».proof.Proof.Gen.ReferenceIdeal
public import proofs.«01_k».proof.Proof.Gen.ReferenceIdeal.Run
public import proofs.«01_k».proof.Proof.Gen.Pre_packed_triu
public import Idealize.ShloMosaic.Lib.Quiescent

/-!
# The frames

Each program terminates, leaves its arguments as they were and every semaphore counter at zero.
-/

@[expose] public section

noncomputable section

namespace Cert.Proof

open Idealize.ShloMosaic Idealize.SL.Sem

theorem frame_ideal : Cert.quiescent_KernelIdeal (hKernelIdeal := Cert.KernelIdeal.Gen.facts) := fun m ρ _ =>
  (θ_run Cert.KernelIdeal.defs _ _).mono (fun _ h => ⟨fun c => ⟨(h.1 c).2.1, (h.1 c).2.2⟩, h.2⟩) (Cert.KernelIdeal.Packed.run_main (F := Ideal) m ρ)

theorem frame_ideal_pre : Cert.quiescent_KernelIdeal_pre_packed_triu (hKernelIdeal := Cert.KernelIdeal.Gen.facts) (hPre_packed_triu := Cert.Pre_packed_triu.Gen.facts) :=
  fun m ρ _ =>
  (θ_run Cert.KernelIdeal.defs _ _).mono (fun _ h => ⟨fun c => ⟨(h.1 c).2.1, (h.1 c).2.2⟩, h.2⟩) (Cert.KernelIdeal.Packed.run_main (F := Ideal) m ρ)

theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_ref_pre : Cert.quiescent_ReferenceIdeal_pre_packed_triu (hReferenceIdeal := Cert.ReferenceIdeal.Gen.facts) (hPre_packed_triu := Cert.Pre_packed_triu.Gen.facts) :=
  fun m ρ _ =>
  (θ_run Cert.ReferenceIdeal.defs _ _).mono (fun r h => ⟨fun c => (h c).2, sem_eq_zero_of_no_sems (by decide) r.2⟩) (Cert.ReferenceIdeal.Value.run (F := Ideal) m ρ)

/-- On a list that meets the precondition both programs leave the reference's matrix. -/
theorem same_value : Cert.algebraic_KernelIdeal_ReferenceIdeal_pre_packed_triu (hKernelIdeal := Cert.KernelIdeal.Gen.facts)
    (hReferenceIdeal := Cert.ReferenceIdeal.Gen.facts) (hPre_packed_triu := Cert.Pre_packed_triu.Gen.facts) := fun m g m' g' hpre hargs =>
  ⟨fun c => Cert.Tri.refVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c =>
      ⟨Cert.Tri.eq_refVal (fun k => Cert.Tri.column_of_pre _ _ (hpre c) k) _ (h.1 c).1, (h.1 c).2.1, (h.1 c).2.2⟩)
      (Cert.KernelIdeal.Packed.run_main (F := Ideal) m g),
    (θ_run Cert.ReferenceIdeal.defs _ _).mono (fun _ h c => ⟨(h c).1.trans (by rw [(hargs c).1, (hargs c).2]; rfl), (h c).2⟩)
      (Cert.ReferenceIdeal.Value.run (F := Ideal) m' g')⟩

end Cert.Proof
-- ==== Proof.FrameKernel.lean ====
module
public import proofs.«01_k».proof.Defs
public import proofs.«01_k».proof.Proof.Main
public import proofs.«01_k».proof.Proof.Gen.Kernel

/-!
# The frame of the kernel over the machine's floats

The kernel's text is the ideal program's, so its run is the run proved for every float structure.
-/

@[expose] public section

noncomputable section

namespace Cert.Proof

open Idealize.ShloMosaic Idealize.SL.Sem

/-- The ideal program's text over the machine's floats. -/
theorem frame_bits (m : (ℓ : Loc Cert.KernelIdeal.nD Cert.KernelIdeal.τ Cert.KernelIdeal.sig) → Buf (Elt Bits) ℓ)
    (g : Dev Cert.KernelIdeal.nD → PrngReg) (_ : True) :
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, (h.1 c).2.2⟩, h.2⟩) (Cert.KernelIdeal.Packed.run_main (F := Bits) m g)

set_option maxHeartbeats 0

theorem defs0_same : Cert.Kernel.defs₀ (F := Bits) = Cert.KernelIdeal.defs₀ (F := Bits) := by
  funext p ℓ a
  rcases ℓ with ⟨_ | _ | n, h⟩
  · cases p <;> rfl
  · cases p <;> rfl
  · exact absurd h (by omega)

/-- The two body tables are one. -/
theorem defs_same : Cert.Kernel.defs (F := Bits) = Cert.KernelIdeal.defs (F := Bits) :=
  congrArg (fun D => (Cert.KernelIdeal.sc (F := Bits)).defs (Pipeline.defs (Cert.KernelIdeal.pcfgs (F := Bits)) D)) defs0_same

/-- The two mains are one. -/
theorem main_same : Cert.Kernel.main (F := Bits) = Cert.KernelIdeal.main (F := Bits) := rfl

/-- The two programs' threads are one. -/
theorem threads_same : Cert.Kernel.threads (F := Bits) = Cert.KernelIdeal.threads (F := Bits) :=
  congrArg (fun M => (Cert.KernelIdeal.sc (F := Bits)).threads M) main_same

/-- The kernel's own text. -/
theorem frame_kernel : Cert.quiescent_Kernel (hKernel := Cert.Kernel.Gen.facts) := fun m g _ =>
  Eq.mpr (congrArg₂ (fun D T => θ_run D T ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) defs_same threads_same) (frame_bits m g trivial)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_packed_triu
public import proofs.«01_k».proof.Proof.Frames
public import proofs.«01_k».proof.Proof.FrameKernel
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_packed_triu.Gen.facts,
  frame_kernel, frame_ideal, frame_ideal_pre, frame_ref, frame_ref_pre, trivial, same_value⟩

end Cert.Proof

end
